-- ==== Defs.lean ====
def Pre_Kernel (m : (ℓ : Loc Cert.Kernel.nD Cert.Kernel.τ Cert.Kernel.sig) → Buf (Elt Bits) ℓ) : Prop :=
  True

def Pre_Codebook (m : (ℓ : Loc Cert.Codebook.nD Cert.Codebook.τ Cert.Codebook.sig) → Buf (Elt Bits) ℓ) : Prop :=
  True

def Pre_Decode0 (m : (ℓ : Loc Cert.Decode0.nD Cert.Decode0.τ Cert.Decode0.sig) → Buf (Elt Bits) ℓ) : Prop :=
  True

def Pre_Decode (m : (ℓ : Loc Cert.Decode.nD Cert.Decode.τ Cert.Decode.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_CodebookReference (m : (ℓ : Loc Cert.CodebookReference.nD Cert.CodebookReference.τ Cert.CodebookReference.sig) → Buf (Elt Bits) ℓ) : Prop :=
  True

def Pre_Decode0Reference (m : (ℓ : Loc Cert.Decode0Reference.nD Cert.Decode0Reference.τ Cert.Decode0Reference.sig) → Buf (Elt Bits) ℓ) : Prop :=
  True

def Pre_DecodeReference (m : (ℓ : Loc Cert.DecodeReference.nD Cert.DecodeReference.τ Cert.DecodeReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Codebook [hCodebook : Cert.Codebook.Facts] : Prop :=
  ∀ (m : (ℓ : Loc Cert.Codebook.nD Cert.Codebook.τ Cert.Codebook.sig) → Buf (Elt Bits) ℓ) (g : Dev Cert.Codebook.nD → PrngReg), Pre_Codebook m →
    θ_run (Cert.Codebook.defs (F := Bits)) (onTc (τ := Cert.Codebook.τ) (Cert.Codebook.main (F := Bits))) ⟨m, fun _ => 0, g⟩ (fun r => (∀ c : Dev Cert.Codebook.nD,
      r.2.mem ((c.tc : Thread Cert.Codebook.nD Cert.Codebook.τ).loc Cert.Codebook.main_arg0) = m ((c.tc : Thread Cert.Codebook.nD Cert.Codebook.τ).loc Cert.Codebook.main_arg0))
      ∧ r.2.sem = fun _ => 0)

def quiescent_Decode0 [hDecode0 : Cert.Decode0.Facts] : Prop :=
  ∀ (m : (ℓ : Loc Cert.Decode0.nD Cert.Decode0.τ Cert.Decode0.sig) → Buf (Elt Bits) ℓ) (g : Dev Cert.Decode0.nD → PrngReg), Pre_Decode0 m →
    θ_run (Cert.Decode0.defs (F := Bits)) (Cert.Decode0.threads (F := Bits)) ⟨m, fun _ => 0, g⟩ (fun r => (∀ c : Dev Cert.Decode0.nD,
      r.2.mem ((c.tc : Thread Cert.Decode0.nD Cert.Decode0.τ).loc Cert.Decode0.main_arg0) = m ((c.tc : Thread Cert.Decode0.nD Cert.Decode0.τ).loc Cert.Decode0.main_arg0)
      ∧ r.2.mem ((c.tc : Thread Cert.Decode0.nD Cert.Decode0.τ).loc Cert.Decode0.main_arg1) = m ((c.tc : Thread Cert.Decode0.nD Cert.Decode0.τ).loc Cert.Decode0.main_arg1))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (Cert.Decode.threads (F := Bits)) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_CodebookReference [hCodebookReference : Cert.CodebookReference.Facts] : Prop :=
  ∀ (m : (ℓ : Loc Cert.CodebookReference.nD Cert.CodebookReference.τ Cert.CodebookReference.sig) → Buf (Elt Bits) ℓ) (g : Dev Cert.CodebookReference.nD → PrngReg), Pre_CodebookReference m →
    θ_run (Cert.CodebookReference.defs (F := Bits)) (onTc (τ := Cert.CodebookReference.τ) (Cert.CodebookReference.main (F := Bits))) ⟨m, fun _ => 0, g⟩ (fun r => (∀ c : Dev Cert.CodebookReference.nD,
      r.2.mem ((c.tc : Thread Cert.CodebookReference.nD Cert.CodebookReference.τ).loc Cert.CodebookReference.main_arg0) = m ((c.tc : Thread Cert.CodebookReference.nD Cert.CodebookReference.τ).loc Cert.CodebookReference.main_arg0))
      ∧ r.2.sem = fun _ => 0)

def quiescent_Decode0Reference [hDecode0Reference : Cert.Decode0Reference.Facts] : Prop :=
  ∀ (m : (ℓ : Loc Cert.Decode0Reference.nD Cert.Decode0Reference.τ Cert.Decode0Reference.sig) → Buf (Elt Bits) ℓ) (g : Dev Cert.Decode0Reference.nD → PrngReg), Pre_Decode0Reference m →
    θ_run (Cert.Decode0Reference.defs (F := Bits)) (onTc (τ := Cert.Decode0Reference.τ) (Cert.Decode0Reference.main (F := Bits))) ⟨m, fun _ => 0, g⟩ (fun r => (∀ c : Dev Cert.Decode0Reference.nD,
      r.2.mem ((c.tc : Thread Cert.Decode0Reference.nD Cert.Decode0Reference.τ).loc Cert.Decode0Reference.main_arg0) = m ((c.tc : Thread Cert.Decode0Reference.nD Cert.Decode0Reference.τ).loc Cert.Decode0Reference.main_arg0)
      ∧ r.2.mem ((c.tc : Thread Cert.Decode0Reference.nD Cert.Decode0Reference.τ).loc Cert.Decode0Reference.main_arg1) = m ((c.tc : Thread Cert.Decode0Reference.nD Cert.Decode0Reference.τ).loc Cert.Decode0Reference.main_arg1))
      ∧ r.2.sem = fun _ => 0)

def quiescent_DecodeReference [hDecodeReference : Cert.DecodeReference.Facts] : Prop :=
  ∀ (m : (ℓ : Loc Cert.DecodeReference.nD Cert.DecodeReference.τ Cert.DecodeReference.sig) → Buf (Elt Bits) ℓ) (g : Dev Cert.DecodeReference.nD → PrngReg), Pre_DecodeReference m →
    θ_run (Cert.DecodeReference.defs (F := Bits)) (onTc (τ := Cert.DecodeReference.τ) (Cert.DecodeReference.main (F := Bits))) ⟨m, fun _ => 0, g⟩ (fun r => (∀ c : Dev Cert.DecodeReference.nD,
      r.2.mem ((c.tc : Thread Cert.DecodeReference.nD Cert.DecodeReference.τ).loc Cert.DecodeReference.main_arg0) = m ((c.tc : Thread Cert.DecodeReference.nD Cert.DecodeReference.τ).loc Cert.DecodeReference.main_arg0)
      ∧ r.2.mem ((c.tc : Thread Cert.DecodeReference.nD Cert.DecodeReference.τ).loc Cert.DecodeReference.main_arg1) = m ((c.tc : Thread Cert.DecodeReference.nD Cert.DecodeReference.τ).loc Cert.DecodeReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Codebook_CodebookReference [hCodebook : Cert.Codebook.Facts] [hCodebookReference : Cert.CodebookReference.Facts] : Prop :=
  ∀ (m : (ℓ : Loc Cert.Codebook.nD Cert.Codebook.τ Cert.Codebook.sig) → Buf (Elt Bits) ℓ) (g : Dev Cert.Codebook.nD → PrngReg)
    (m' : (ℓ : Loc Cert.CodebookReference.nD Cert.CodebookReference.τ Cert.CodebookReference.sig) → Buf (Elt Bits) ℓ) (g' : Dev Cert.CodebookReference.nD → PrngReg), Pre_Codebook m →
    (∀ c : Dev Cert.Codebook.nD,
      m' ((c.tc : Thread Cert.CodebookReference.nD Cert.CodebookReference.τ).loc Cert.CodebookReference.main_arg0) = m ((c.tc : Thread Cert.Codebook.nD Cert.Codebook.τ).loc Cert.Codebook.main_arg0)) →
    ∃ (v0 : (c : Dev Cert.Codebook.nD) → Buf (Elt Bits) ((c.tc : Thread Cert.Codebook.nD Cert.Codebook.τ).loc Cert.Codebook.main_v1)),
      θ_run (Cert.Codebook.defs (F := Bits)) (onTc (τ := Cert.Codebook.τ) (Cert.Codebook.main (F := Bits))) ⟨m, fun _ => 0, g⟩ (fun r => ∀ c : Dev Cert.Codebook.nD,
          r.2.mem ((c.tc : Thread Cert.Codebook.nD Cert.Codebook.τ).loc Cert.Codebook.main_v1) = v0 c
          ∧ r.2.mem ((c.tc : Thread Cert.Codebook.nD Cert.Codebook.τ).loc Cert.Codebook.main_arg0) = m ((c.tc : Thread Cert.Codebook.nD Cert.Codebook.τ).loc Cert.Codebook.main_arg0))
      ∧ θ_run (Cert.CodebookReference.defs (F := Bits)) (onTc (τ := Cert.CodebookReference.τ) (Cert.CodebookReference.main (F := Bits))) ⟨m', fun _ => 0, g'⟩ (fun r => ∀ c : Dev Cert.CodebookReference.nD,
          r.2.mem ((c.tc : Thread Cert.CodebookReference.nD Cert.CodebookReference.τ).loc Cert.CodebookReference.main_v22) = v0 c
          ∧ r.2.mem ((c.tc : Thread Cert.CodebookReference.nD Cert.CodebookReference.τ).loc Cert.CodebookReference.main_arg0) = m' ((c.tc : Thread Cert.CodebookReference.nD Cert.CodebookReference.τ).loc Cert.CodebookReference.main_arg0))

def bitexact_Decode0_Decode0Reference [hDecode0 : Cert.Decode0.Facts] [hDecode0Reference : Cert.Decode0Reference.Facts] : Prop :=
  ∀ (m : (ℓ : Loc Cert.Decode0.nD Cert.Decode0.τ Cert.Decode0.sig) → Buf (Elt Bits) ℓ) (g : Dev Cert.Decode0.nD → PrngReg)
    (m' : (ℓ : Loc Cert.Decode0Reference.nD Cert.Decode0Reference.τ Cert.Decode0Reference.sig) → Buf (Elt Bits) ℓ) (g' : Dev Cert.Decode0Reference.nD → PrngReg), Pre_Decode0 m →
    (∀ c : Dev Cert.Decode0.nD,
      m' ((c.tc : Thread Cert.Decode0Reference.nD Cert.Decode0Reference.τ).loc Cert.Decode0Reference.main_arg0) = m ((c.tc : Thread Cert.Decode0.nD Cert.Decode0.τ).loc Cert.Decode0.main_arg0)
      ∧ m' ((c.tc : Thread Cert.Decode0Reference.nD Cert.Decode0Reference.τ).loc Cert.Decode0Reference.main_arg1) = m ((c.tc : Thread Cert.Decode0.nD Cert.Decode0.τ).loc Cert.Decode0.main_arg1)) →
    ∃ (v0 : (c : Dev Cert.Decode0.nD) → Buf (Elt Bits) ((c.tc : Thread Cert.Decode0.nD Cert.Decode0.τ).loc Cert.Decode0.main_v5)),
      θ_run (Cert.Decode0.defs (F := Bits)) (Cert.Decode0.threads (F := Bits)) ⟨m, fun _ => 0, g⟩ (fun r => ∀ c : Dev Cert.Decode0.nD,
          r.2.mem ((c.tc : Thread Cert.Decode0.nD Cert.Decode0.τ).loc Cert.Decode0.main_v5) = v0 c
          ∧ r.2.mem ((c.tc : Thread Cert.Decode0.nD Cert.Decode0.τ).loc Cert.Decode0.main_arg0) = m ((c.tc : Thread Cert.Decode0.nD Cert.Decode0.τ).loc Cert.Decode0.main_arg0)
          ∧ r.2.mem ((c.tc : Thread Cert.Decode0.nD Cert.Decode0.τ).loc Cert.Decode0.main_arg1) = m ((c.tc : Thread Cert.Decode0.nD Cert.Decode0.τ).loc Cert.Decode0.main_arg1))
      ∧ θ_run (Cert.Decode0Reference.defs (F := Bits)) (onTc (τ := Cert.Decode0Reference.τ) (Cert.Decode0Reference.main (F := Bits))) ⟨m', fun _ => 0, g'⟩ (fun r => ∀ c : Dev Cert.Decode0Reference.nD,
          r.2.mem ((c.tc : Thread Cert.Decode0Reference.nD Cert.Decode0Reference.τ).loc Cert.Decode0Reference.main_v21) = v0 c
          ∧ r.2.mem ((c.tc : Thread Cert.Decode0Reference.nD Cert.Decode0Reference.τ).loc Cert.Decode0Reference.main_arg0) = m' ((c.tc : Thread Cert.Decode0Reference.nD Cert.Decode0Reference.τ).loc Cert.Decode0Reference.main_arg0)
          ∧ r.2.mem ((c.tc : Thread Cert.Decode0Reference.nD Cert.Decode0Reference.τ).loc Cert.Decode0Reference.main_arg1) = m' ((c.tc : Thread Cert.Decode0Reference.nD Cert.Decode0Reference.τ).loc Cert.Decode0Reference.main_arg1))

def bitexact_Decode_DecodeReference [hDecode : Cert.Decode.Facts] [hDecodeReference : Cert.DecodeReference.Facts] : Prop :=
  ∀ (m : (ℓ : Loc Cert.Decode.nD Cert.Decode.τ Cert.Decode.sig) → Buf (Elt Bits) ℓ) (g : Dev Cert.Decode.nD → PrngReg)
    (m' : (ℓ : Loc Cert.DecodeReference.nD Cert.DecodeReference.τ Cert.DecodeReference.sig) → Buf (Elt Bits) ℓ) (g' : Dev Cert.DecodeReference.nD → PrngReg), Pre_Decode m →
    (∀ c : Dev Cert.Decode.nD,
      m' ((c.tc : Thread Cert.DecodeReference.nD Cert.DecodeReference.τ).loc Cert.DecodeReference.main_arg0) = m ((c.tc : Thread Cert.Decode.nD Cert.Decode.τ).loc Cert.Decode.main_arg0)
      ∧ m' ((c.tc : Thread Cert.DecodeReference.nD Cert.DecodeReference.τ).loc Cert.DecodeReference.main_arg1) = m ((c.tc : Thread Cert.Decode.nD Cert.Decode.τ).loc Cert.Decode.main_arg1)) →
    ∃ (v0 : (c : Dev Cert.Decode.nD) → Buf (Elt Bits) ((c.tc : Thread Cert.Decode.nD Cert.Decode.τ).loc Cert.Decode.main_v5)),
      θ_run (Cert.Decode.defs (F := Bits)) (Cert.Decode.threads (F := Bits)) ⟨m, fun _ => 0, g⟩ (fun r => ∀ c : Dev Cert.Decode.nD,
          r.2.mem ((c.tc : Thread Cert.Decode.nD Cert.Decode.τ).loc Cert.Decode.main_v5) = v0 c
          ∧ r.2.mem ((c.tc : Thread Cert.Decode.nD Cert.Decode.τ).loc Cert.Decode.main_arg0) = m ((c.tc : Thread Cert.Decode.nD Cert.Decode.τ).loc Cert.Decode.main_arg0)
          ∧ r.2.mem ((c.tc : Thread Cert.Decode.nD Cert.Decode.τ).loc Cert.Decode.main_arg1) = m ((c.tc : Thread Cert.Decode.nD Cert.Decode.τ).loc Cert.Decode.main_arg1))
      ∧ θ_run (Cert.DecodeReference.defs (F := Bits)) (onTc (τ := Cert.DecodeReference.τ) (Cert.DecodeReference.main (F := Bits))) ⟨m', fun _ => 0, g'⟩ (fun r => ∀ c : Dev Cert.DecodeReference.nD,
          r.2.mem ((c.tc : Thread Cert.DecodeReference.nD Cert.DecodeReference.τ).loc Cert.DecodeReference.main_v21) = v0 c
          ∧ r.2.mem ((c.tc : Thread Cert.DecodeReference.nD Cert.DecodeReference.τ).loc Cert.DecodeReference.main_arg0) = m' ((c.tc : Thread Cert.DecodeReference.nD Cert.DecodeReference.τ).loc Cert.DecodeReference.main_arg0)
          ∧ r.2.mem ((c.tc : Thread Cert.DecodeReference.nD Cert.DecodeReference.τ).loc Cert.DecodeReference.main_arg1) = m' ((c.tc : Thread Cert.DecodeReference.nD Cert.DecodeReference.τ).loc Cert.DecodeReference.main_arg1))

def Claim : Prop :=
  ∃ (hKernel : Cert.Kernel.Facts) (hCodebook : Cert.Codebook.Facts) (hDecode0 : Cert.Decode0.Facts) (hDecode : Cert.Decode.Facts) (hKernelIdeal : Cert.KernelIdeal.Facts) (hReferenceIdeal : Cert.ReferenceIdeal.Facts) (hCodebookReference : Cert.CodebookReference.Facts) (hDecode0Reference : Cert.Decode0Reference.Facts) (hDecodeReference : Cert.DecodeReference.Facts),
    quiescent_Kernel (hKernel := hKernel)
    ∧ quiescent_Codebook (hCodebook := hCodebook)
    ∧ quiescent_Decode0 (hDecode0 := hDecode0)
    ∧ quiescent_Decode (hDecode := hDecode)
    ∧ quiescent_KernelIdeal (hKernelIdeal := hKernelIdeal)
    ∧ quiescent_ReferenceIdeal (hReferenceIdeal := hReferenceIdeal)
    ∧ quiescent_CodebookReference (hCodebookReference := hCodebookReference)
    ∧ quiescent_Decode0Reference (hDecode0Reference := hDecode0Reference)
    ∧ quiescent_DecodeReference (hDecodeReference := hDecodeReference)
    ∧ preserves_Kernel_KernelIdeal
    ∧ algebraic_KernelIdeal_ReferenceIdeal (hKernelIdeal := hKernelIdeal) (hReferenceIdeal := hReferenceIdeal)
    ∧ bitexact_Codebook_CodebookReference (hCodebook := hCodebook) (hCodebookReference := hCodebookReference)
    ∧ bitexact_Decode0_Decode0Reference (hDecode0 := hDecode0) (hDecode0Reference := hDecode0Reference)
    ∧ bitexact_Decode_DecodeReference (hDecode := hDecode) (hDecodeReference := hDecodeReference)
-- ==== Kernel.lean ====
abbrev S9x768x14336 : Shape := ⟨3, ![9, 768, 14336]⟩
abbrev S448x4x8x128 : Shape := ⟨4, ![448, 4, 8, 128]⟩
abbrev S448x28x8x128 : Shape := ⟨4, ![448, 28, 8, 128]⟩
abbrev S4096 : Shape := ⟨1, ![4096]⟩
abbrev S6912x14336 : Shape := ⟨2, ![6912, 14336]⟩
abbrev S1x4096 : Shape := ⟨2, ![1, 4096]⟩
abbrev S6912x4096 : Shape := ⟨2, ![6912, 4096]⟩
abbrev S256x14336 : Shape := ⟨2, ![256, 14336]⟩
abbrev S1x512 : Shape := ⟨2, ![1, 512]⟩
abbrev S256x512 : Shape := ⟨2, ![256, 512]⟩
abbrev S448x1x8x128 : Shape := ⟨4, ![448, 1, 8, 128]⟩
abbrev S448x8x128 : Shape := ⟨3, ![448, 8, 128]⟩
abbrev S3584x128 : Shape := ⟨2, ![3584, 128]⟩
abbrev S14336x128 : Shape := ⟨2, ![14336, 128]⟩
abbrev S14336x256 : Shape := ⟨2, ![14336, 256]⟩
abbrev S256x256 : Shape := ⟨2, ![256, 256]⟩
abbrev S1x256 : Shape := ⟨2, ![1, 256]⟩

abbrev nBuf : Space → Nat
  | .hbm => 8
  | .vmem => 14
  | .smem => 0
  | _ => 0

abbrev bufTy : (tb : Table) → Fin (tcTables nBuf tb) → BufTy
  | .hbm, ⟨0, _⟩ => ⟨S9x768x14336, .bf16⟩
  | .hbm, ⟨1, _⟩ => ⟨S448x4x8x128, .i32⟩
  | .hbm, ⟨2, _⟩ => ⟨S448x28x8x128, .i32⟩
  | .hbm, ⟨3, _⟩ => ⟨S4096, .f32⟩
  | .hbm, ⟨4, _⟩ => ⟨S6912x14336, .bf16⟩
  | .hbm, ⟨5, _⟩ => ⟨S1x4096, .f32⟩
  | .hbm, ⟨6, _⟩ => ⟨S6912x4096, .bf16⟩
  | .hbm, ⟨7, _⟩ => ⟨S6912x4096, .bf16⟩
  | .local _ .vmem, ⟨0, _⟩ => ⟨S256x14336, .bf16⟩
  | .local _ .vmem, ⟨1, _⟩ => ⟨S256x14336, .bf16⟩
  | .local _ .vmem, ⟨2, _⟩ => ⟨S448x4x8x128, .i32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | .local _ .vmem, ⟨6, _⟩ => ⟨S256x14336, .bf16⟩
  | .local _ .vmem, ⟨7, _⟩ => ⟨S256x14336, .bf16⟩
  | .local _ .vmem, ⟨8, _⟩ => ⟨S448x4x8x128, .i32⟩
  | .local _ .vmem, ⟨9, _⟩ => ⟨S448x4x8x128, .i32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | _, _ => ⟨S9x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![1, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S448x4x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![7, 27], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

abbrev stage1_0 : Fin 2 → Memref sig .tc .vmem S256x14336 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S448x4x8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Codebook.lean ====
abbrev S65536x8 : Shape := ⟨2, ![65536, 8]⟩
abbrev S8x65536 : Shape := ⟨2, ![8, 65536]⟩
abbrev S2x65536 : Shape := ⟨2, ![2, 65536]⟩

abbrev nBuf : Space → Nat
  | .hbm => 3
  | .vmem => 2
  | .smem => 0
  | _ => 0

abbrev bufTy : (tb : Table) → Fin (tcTables nBuf tb) → BufTy
  | .hbm, ⟨0, _⟩ => ⟨S65536x8, .fp8e4m3⟩
  | .hbm, ⟨1, _⟩ => ⟨S8x65536, .fp8e4m3⟩
  | .hbm, ⟨2, _⟩ => ⟨S2x65536, .i32⟩
  | .local _ .vmem, ⟨0, _⟩ => ⟨S8x65536, .fp8e4m3⟩
  | .local _ .vmem, ⟨1, _⟩ => ⟨S2x65536, .i32⟩
  | _, _ => ⟨S65536x8, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S8x65536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x65536 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Decode0.lean ====
abbrev S2x65536 : Shape := ⟨2, ![2, 65536]⟩
abbrev S4096x896 : Shape := ⟨2, ![4096, 896]⟩
abbrev S2x512x128 : Shape := ⟨3, ![2, 512, 128]⟩
abbrev S512x2x128 : Shape := ⟨3, ![512, 2, 128]⟩
abbrev S512x8x7x128 : Shape := ⟨4, ![512, 8, 7, 128]⟩
abbrev S512x7x8x128 : Shape := ⟨4, ![512, 7, 8, 128]⟩
abbrev S448x4x4x2x128 : Shape := ⟨5, ![448, 4, 4, 2, 128]⟩
abbrev S512x128 : Shape := ⟨2, ![512, 128]⟩
abbrev S2x16x8x32 : Shape := ⟨4, ![2, 16, 8, 32]⟩
abbrev S2x16x4x128 : Shape := ⟨4, ![2, 16, 4, 128]⟩
abbrev S_ : Shape := ⟨0, ![]⟩
abbrev S2 : Shape := ⟨1, ![2]⟩
abbrev S1x16x8x32 : Shape := ⟨4, ![1, 16, 8, 32]⟩
abbrev S16x8x32 : Shape := ⟨3, ![16, 8, 32]⟩
abbrev S16x1x8x32 : Shape := ⟨4, ![16, 1, 8, 32]⟩
abbrev S1 : Shape := ⟨1, ![1]⟩
abbrev S512x1x128 : Shape := ⟨3, ![512, 1, 128]⟩
abbrev S16 : Shape := ⟨1, ![16]⟩
abbrev S1x16x4x128 : Shape := ⟨4, ![1, 16, 4, 128]⟩
abbrev S16x4x128 : Shape := ⟨3, ![16, 4, 128]⟩
abbrev S16x1x4x1x128 : Shape := ⟨5, ![16, 1, 4, 1, 128]⟩
abbrev S1x2x8x16 : Shape := ⟨4, ![1, 2, 8, 16]⟩
abbrev S2x8x16 : Shape := ⟨3, ![2, 8, 16]⟩
abbrev S1x8x4x16 : Shape := ⟨4, ![1, 8, 4, 16]⟩
abbrev S8x4x16 : Shape := ⟨3, ![8, 4, 16]⟩
abbrev S448x4x8x128 : Shape := ⟨4, ![448, 4, 8, 128]⟩

abbrev nBuf : Table → Nat
  | .hbm => 8
  | .local .scVector .vmem => 3
  | _ => 0

abbrev bufTy : (tb : Table) → Fin (nBuf tb) → BufTy
  | .hbm, ⟨0, _⟩ => ⟨S2x65536, .i32⟩
  | .hbm, ⟨1, _⟩ => ⟨S4096x896, .i32⟩
  | .hbm, ⟨2, _⟩ => ⟨S2x512x128, .i32⟩
  | .hbm, ⟨3, _⟩ => ⟨S512x2x128, .i32⟩
  | .hbm, ⟨4, _⟩ => ⟨S512x8x7x128, .i32⟩
  | .hbm, ⟨5, _⟩ => ⟨S512x7x8x128, .i32⟩
  | .hbm, ⟨6, _⟩ => ⟨S448x4x4x2x128, .i32⟩
  | .hbm, ⟨7, _⟩ => ⟨S448x4x8x128, .i32⟩
  | .local .scVector .vmem, ⟨0, _⟩ => ⟨S512x128, .i32⟩
  | .local .scVector .vmem, ⟨1, _⟩ => ⟨S2x16x8x32, .i32⟩
  | .local .scVector .vmem, ⟨2, _⟩ => ⟨S2x16x4x128, .i32⟩
  | _, _ => ⟨S2x65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32_4 : BitVec 32 := 0#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32 : BitVec 32 := 0#32
  let v8 : BitVec 32 := Scalar.addi v3 c0_i32
  let c28_i32 : BitVec 32 := 28#32
  let v9 : BitVec 32 := Scalar.divsi v8 c28_i32
  let c16_i32_3 : BitVec 32 := 16#32
  let v11 : BitVec 32 := Scalar.muli v9 c16_i32_3
  let v12 : BitVec 32 := Scalar.addi c0_i32_4 v11
  let c28_i32_2 : BitVec 32 := 28#32
  let v10 : BitVec 32 := Scalar.remsi v8 c28_i32_2
  let c4_i32 : BitVec 32 := 4#32
  let v13 : BitVec 32 := Scalar.divsi v10 c4_i32
  let c0_i32_11 : BitVec 32 := 0#32
  let c4_i32_5 : BitVec 32 := 4#32
  let v14 : BitVec 32 := Scalar.remsi v10 c4_i32_5
  let c32_i32 : BitVec 32 := 32#32
  let v15 : BitVec 32 := Scalar.muli v14 c32_i32
  ![v12.toNat, v13.toNat, 0, v15.toNat]
def k0_off2 (i : grid0.Coords) : Fin 3 → Nat :=
  let c0_i32_16 : BitVec 32 := 0#32
  let arg1 : BitVec 32 := BitVec.ofNat 32 (i 1).val
  let c2_i32 : BitVec 32 := 2#32
  let v0 : BitVec 32 := Scalar.remsi arg1 c2_i32
  let c0_i32_17 : BitVec 32 := 0#32
  ![0, v0.toNat, 0]
@[reducible] def k0_t1_loop (i : grid0.Coords) : Scf.Loop 32 :=
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_53 : BitVec 32 := 1#32
  ⟨c0_i32_51, v107, c1_i32_53⟩
def k0_cond1 (i : grid0.Coords) (k0_t1 : Fin (k0_t1_loop i).trips) : BitVec 1 :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c1_i32_60 : BitVec 32 := 1#32
  let v117 : BitVec 32 := Scalar.addi v115 c1_i32_60
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let v118 : BitVec 1 := Scalar.cmpi .slt v117 v7
  let v119 : BitVec 32 := Scalar.extui v118
  let c0_i32_61 : BitVec 32 := 0#32
  let v120 : BitVec 1 := Scalar.cmpi .ne v119 c0_i32_61
  v120

def k0_off3 (i : grid0.Coords) (k0_t1 : Fin (k0_t1_loop i).trips) : Fin 4 → Nat :=
  let c1_i32_99 : BitVec 32 := 1#32
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let v160 : BitVec 32 := Scalar.subi c1_i32_99 v116
  let c0_i32_108 : BitVec 32 := 0#32
  let c0_i32_109 : BitVec 32 := 0#32
  let c0_i32_110 : BitVec 32 := 0#32
  ![v160.toNat, 0, 0, 0]
def k0_off4 (i : grid0.Coords) (k0_t1 : Fin (k0_t1_loop i).trips) : Fin 4 → Nat :=
  let c0_i32_104 : BitVec 32 := 0#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c1_i32_98 : BitVec 32 := 1#32
  let v159 : BitVec 32 := Scalar.addi v115 c1_i32_98
  let c16_i32_100 : BitVec 32 := 16#32
  let v161 : BitVec 32 := Scalar.muli v159 c16_i32_100
  let v162 : BitVec 32 := Scalar.addi v3 v161
  let c28_i32_101 : BitVec 32 := 28#32
  let v163 : BitVec 32 := Scalar.divsi v162 c28_i32_101
  let c16_i32_103 : BitVec 32 := 16#32
  let v165 : BitVec 32 := Scalar.muli v163 c16_i32_103
  let v166 : BitVec 32 := Scalar.addi c0_i32_104 v165
  let c28_i32_102 : BitVec 32 := 28#32
  let v164 : BitVec 32 := Scalar.remsi v162 c28_i32_102
  let c4_i32_105 : BitVec 32 := 4#32
  let v167 : BitVec 32 := Scalar.divsi v164 c4_i32_105
  let c0_i32_111 : BitVec 32 := 0#32
  let c4_i32_106 : BitVec 32 := 4#32
  let v168 : BitVec 32 := Scalar.remsi v164 c4_i32_106
  let c32_i32_107 : BitVec 32 := 32#32
  let v169 : BitVec 32 := Scalar.muli v168 c32_i32_107
  ![v166.toNat, v167.toNat, 0, v169.toNat]
def k0_off5 (i : grid0.Coords) (k0_t1 : Fin (k0_t1_loop i).trips) : Fin 1 → Nat :=
  let c1_i32_99 : BitVec 32 := 1#32
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let v160 : BitVec 32 := Scalar.subi c1_i32_99 v116
  ![v160.toNat]
def k0_off6 (i : grid0.Coords) (k0_t1 : Fin (k0_t1_loop i).trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_70 : BitVec 32 := 0#32
  let c0_i32_71 : BitVec 32 := 0#32
  let c0_i32_72 : BitVec 32 := 0#32
  ![v116.toNat, 0, 0, 0]
def k0_off7 (i : grid0.Coords) (k0_t1 : Fin (k0_t1_loop i).trips) : Fin 4 → Nat :=
  let c0_i32_66 : BitVec 32 := 0#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c16_i32_62 : BitVec 32 := 16#32
  let v121 : BitVec 32 := Scalar.muli v115 c16_i32_62
  let v122 : BitVec 32 := Scalar.addi v3 v121
  let c28_i32_63 : BitVec 32 := 28#32
  let v123 : BitVec 32 := Scalar.divsi v122 c28_i32_63
  let c16_i32_65 : BitVec 32 := 16#32
  let v125 : BitVec 32 := Scalar.muli v123 c16_i32_65
  let v126 : BitVec 32 := Scalar.addi c0_i32_66 v125
  let c28_i32_64 : BitVec 32 := 28#32
  let v124 : BitVec 32 := Scalar.remsi v122 c28_i32_64
  let c4_i32_67 : BitVec 32 := 4#32
  let v127 : BitVec 32 := Scalar.divsi v124 c4_i32_67
  let c0_i32_73 : BitVec 32 := 0#32
  let c4_i32_68 : BitVec 32 := 4#32
  let v128 : BitVec 32 := Scalar.remsi v124 c4_i32_68
  let c32_i32_69 : BitVec 32 := 32#32
  let v129 : BitVec 32 := Scalar.muli v128 c32_i32_69
  ![v126.toNat, v127.toNat, 0, v129.toNat]
def k0_off8 (i : grid0.Coords) (k0_t1 : Fin (k0_t1_loop i).trips) : Fin 1 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  ![v116.toNat]
def k0_cond2 (i : grid0.Coords) (k0_t1 : Fin (k0_t1_loop i).trips) : BitVec 1 :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c1_i32_78 : BitVec 32 := 1#32
  let v140 : BitVec 1 := Scalar.cmpi .sgt v115 c1_i32_78
  let v141 : BitVec 32 := Scalar.extui v140
  let c0_i32_79 : BitVec 32 := 0#32
  let v142 : BitVec 1 := Scalar.cmpi .ne v141 c0_i32_79
  v142

def k0_off9 (i : grid0.Coords) (k0_t1 : Fin (k0_t1_loop i).trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_103 : BitVec 32 := 0#32
  let c0_i32_104 : BitVec 32 := 0#32
  let c0_i32_105 : BitVec 32 := 0#32
  ![v116.toNat, 0, 0, 0]
def k0_off10 (i : grid0.Coords) (k0_t1 : Fin (k0_t1_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_98 : BitVec 32 := 2#32
  let v159 : BitVec 32 := Scalar.subi v115 c2_i32_98
  let c16_i32_99 : BitVec 32 := 16#32
  let v160 : BitVec 32 := Scalar.muli v159 c16_i32_99
  let v161 : BitVec 32 := Scalar.addi v3 v160
  let c28_i32_101 : BitVec 32 := 28#32
  let v163 : BitVec 32 := Scalar.remsi v161 c28_i32_101
  let c16_i32_102 : BitVec 32 := 16#32
  let v164 : BitVec 32 := Scalar.muli v163 c16_i32_102
  let c28_i32_100 : BitVec 32 := 28#32
  let v162 : BitVec 32 := Scalar.divsi v161 c28_i32_100
  let c0_i32_106 : BitVec 32 := 0#32
  let c2_i32 : BitVec 32 := 2#32
  let v0 : BitVec 32 := Scalar.remsi arg1 c2_i32
  let c0_i32_107 : BitVec 32 := 0#32
  ![v164.toNat, v162.toNat, 0, v0.toNat, 0]
def k0_off11 (i : grid0.Coords) (k0_t1 : Fin (k0_t1_loop i).trips) : Fin 1 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  ![v116.toNat]
@[reducible] def k0_t2_loop : Scf.Loop 32 :=
  let c0_i32_80 : BitVec 32 := 0#32
  let c16_i32_81 : BitVec 32 := 16#32
  let v143 : BitVec 32 := Scalar.addi c0_i32_80 c16_i32_81
  let c1_i32_82 : BitVec 32 := 1#32
  ⟨c0_i32_80, v143, c1_i32_82⟩
def k0_off12 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_108 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk1 (v38 : IVec S16 32) (v168 : IVec S16 32) (v170 : IVec S16 32) : Prop :=
  (∀ a x, ((![v168, v170, v38] : Fin 3 → IVec S16 32) a x).toNat < S2x8x16.size a)
theorem k0_idx1_inb : ∀ (v38 : IVec S16 32) (v168 : IVec S16 32) (v170 : IVec S16 32) (k0_hw1 : k0_chk1 v38 v168 v170), ∀ a x, ((![v168, v170, v38] : Fin 3 → IVec S16 32) a x).toNat < S2x8x16.size a := fun v38 v168 v170 k0_hw1 => k0_hw1
def k0_off13 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_111 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk2 (v42 : IVec S16 32) (v175 : IVec S16 32) (v177 : IVec S16 32) : Prop :=
  (∀ a x, ((![v175, v177, v42] : Fin 3 → IVec S16 32) a x).toNat < S2x8x16.size a)
theorem k0_idx2_inb : ∀ (v42 : IVec S16 32) (v175 : IVec S16 32) (v177 : IVec S16 32) (k0_hw2 : k0_chk2 v42 v175 v177), ∀ a x, ((![v175, v177, v42] : Fin 3 → IVec S16 32) a x).toNat < S2x8x16.size a := fun v42 v175 v177 k0_hw2 => k0_hw2
def k0_off14 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_114 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk3 (v46 : IVec S16 32) (v182 : IVec S16 32) (v184 : IVec S16 32) : Prop :=
  (∀ a x, ((![v182, v184, v46] : Fin 3 → IVec S16 32) a x).toNat < S2x8x16.size a)
theorem k0_idx3_inb : ∀ (v46 : IVec S16 32) (v182 : IVec S16 32) (v184 : IVec S16 32) (k0_hw3 : k0_chk3 v46 v182 v184), ∀ a x, ((![v182, v184, v46] : Fin 3 → IVec S16 32) a x).toNat < S2x8x16.size a := fun v46 v182 v184 k0_hw3 => k0_hw3
def k0_off15 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_117 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk4 (v50 : IVec S16 32) (v189 : IVec S16 32) (v191 : IVec S16 32) : Prop :=
  (∀ a x, ((![v189, v191, v50] : Fin 3 → IVec S16 32) a x).toNat < S2x8x16.size a)
theorem k0_idx4_inb : ∀ (v50 : IVec S16 32) (v189 : IVec S16 32) (v191 : IVec S16 32) (k0_hw4 : k0_chk4 v50 v189 v191), ∀ a x, ((![v189, v191, v50] : Fin 3 → IVec S16 32) a x).toNat < S2x8x16.size a := fun v50 v189 v191 k0_hw4 => k0_hw4
def k0_off16 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_120 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk5 (v54 : IVec S16 32) (v196 : IVec S16 32) (v198 : IVec S16 32) : Prop :=
  (∀ a x, ((![v196, v198, v54] : Fin 3 → IVec S16 32) a x).toNat < S2x8x16.size a)
theorem k0_idx5_inb : ∀ (v54 : IVec S16 32) (v196 : IVec S16 32) (v198 : IVec S16 32) (k0_hw5 : k0_chk5 v54 v196 v198), ∀ a x, ((![v196, v198, v54] : Fin 3 → IVec S16 32) a x).toNat < S2x8x16.size a := fun v54 v196 v198 k0_hw5 => k0_hw5
def k0_off17 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_123 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk6 (v58 : IVec S16 32) (v203 : IVec S16 32) (v205 : IVec S16 32) : Prop :=
  (∀ a x, ((![v203, v205, v58] : Fin 3 → IVec S16 32) a x).toNat < S2x8x16.size a)
theorem k0_idx6_inb : ∀ (v58 : IVec S16 32) (v203 : IVec S16 32) (v205 : IVec S16 32) (k0_hw6 : k0_chk6 v58 v203 v205), ∀ a x, ((![v203, v205, v58] : Fin 3 → IVec S16 32) a x).toNat < S2x8x16.size a := fun v58 v203 v205 k0_hw6 => k0_hw6
def k0_off18 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_126 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk7 (v62 : IVec S16 32) (v210 : IVec S16 32) (v212 : IVec S16 32) : Prop :=
  (∀ a x, ((![v210, v212, v62] : Fin 3 → IVec S16 32) a x).toNat < S2x8x16.size a)
theorem k0_idx7_inb : ∀ (v62 : IVec S16 32) (v210 : IVec S16 32) (v212 : IVec S16 32) (k0_hw7 : k0_chk7 v62 v210 v212), ∀ a x, ((![v210, v212, v62] : Fin 3 → IVec S16 32) a x).toNat < S2x8x16.size a := fun v62 v210 v212 k0_hw7 => k0_hw7
def k0_off19 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_129 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk8 (v66 : IVec S16 32) (v217 : IVec S16 32) (v219 : IVec S16 32) : Prop :=
  (∀ a x, ((![v217, v219, v66] : Fin 3 → IVec S16 32) a x).toNat < S2x8x16.size a)
theorem k0_idx8_inb : ∀ (v66 : IVec S16 32) (v217 : IVec S16 32) (v219 : IVec S16 32) (k0_hw8 : k0_chk8 v66 v217 v219), ∀ a x, ((![v217, v219, v66] : Fin 3 → IVec S16 32) a x).toNat < S2x8x16.size a := fun v66 v217 v219 k0_hw8 => k0_hw8

def k0_chk9 (v226 : IVec S16 32) (v228 : IVec S16 32) : Prop :=
  (∀ a x, ((![v226, v228] : Fin 2 → IVec S16 32) a x).toNat < S512x128.size a)
theorem k0_idx9_inb : ∀ (v226 : IVec S16 32) (v228 : IVec S16 32) (k0_hw9 : k0_chk9 v226 v228), ∀ a x, ((![v226, v228] : Fin 2 → IVec S16 32) a x).toNat < S512x128.size a := fun v226 v228 k0_hw9 => k0_hw9

def k0_chk10 (v233 : IVec S16 32) (v235 : IVec S16 32) : Prop :=
  (∀ a x, ((![v233, v235] : Fin 2 → IVec S16 32) a x).toNat < S512x128.size a)
theorem k0_idx10_inb : ∀ (v233 : IVec S16 32) (v235 : IVec S16 32) (k0_hw10 : k0_chk10 v233 v235), ∀ a x, ((![v233, v235] : Fin 2 → IVec S16 32) a x).toNat < S512x128.size a := fun v233 v235 k0_hw10 => k0_hw10

def k0_chk11 (v240 : IVec S16 32) (v242 : IVec S16 32) : Prop :=
  (∀ a x, ((![v240, v242] : Fin 2 → IVec S16 32) a x).toNat < S512x128.size a)
theorem k0_idx11_inb : ∀ (v240 : IVec S16 32) (v242 : IVec S16 32) (k0_hw11 : k0_chk11 v240 v242), ∀ a x, ((![v240, v242] : Fin 2 → IVec S16 32) a x).toNat < S512x128.size a := fun v240 v242 k0_hw11 => k0_hw11

def k0_chk12 (v247 : IVec S16 32) (v249 : IVec S16 32) : Prop :=
  (∀ a x, ((![v247, v249] : Fin 2 → IVec S16 32) a x).toNat < S512x128.size a)
theorem k0_idx12_inb : ∀ (v247 : IVec S16 32) (v249 : IVec S16 32) (k0_hw12 : k0_chk12 v247 v249), ∀ a x, ((![v247, v249] : Fin 2 → IVec S16 32) a x).toNat < S512x128.size a := fun v247 v249 k0_hw12 => k0_hw12

def k0_chk13 (v254 : IVec S16 32) (v256 : IVec S16 32) : Prop :=
  (∀ a x, ((![v254, v256] : Fin 2 → IVec S16 32) a x).toNat < S512x128.size a)
theorem k0_idx13_inb : ∀ (v254 : IVec S16 32) (v256 : IVec S16 32) (k0_hw13 : k0_chk13 v254 v256), ∀ a x, ((![v254, v256] : Fin 2 → IVec S16 32) a x).toNat < S512x128.size a := fun v254 v256 k0_hw13 => k0_hw13

def k0_chk14 (v261 : IVec S16 32) (v263 : IVec S16 32) : Prop :=
  (∀ a x, ((![v261, v263] : Fin 2 → IVec S16 32) a x).toNat < S512x128.size a)
theorem k0_idx14_inb : ∀ (v261 : IVec S16 32) (v263 : IVec S16 32) (k0_hw14 : k0_chk14 v261 v263), ∀ a x, ((![v261, v263] : Fin 2 → IVec S16 32) a x).toNat < S512x128.size a := fun v261 v263 k0_hw14 => k0_hw14

def k0_chk15 (v268 : IVec S16 32) (v270 : IVec S16 32) : Prop :=
  (∀ a x, ((![v268, v270] : Fin 2 → IVec S16 32) a x).toNat < S512x128.size a)
theorem k0_idx15_inb : ∀ (v268 : IVec S16 32) (v270 : IVec S16 32) (k0_hw15 : k0_chk15 v268 v270), ∀ a x, ((![v268, v270] : Fin 2 → IVec S16 32) a x).toNat < S512x128.size a := fun v268 v270 k0_hw15 => k0_hw15

def k0_chk16 (v275 : IVec S16 32) (v277 : IVec S16 32) : Prop :=
  (∀ a x, ((![v275, v277] : Fin 2 → IVec S16 32) a x).toNat < S512x128.size a)
theorem k0_idx16_inb : ∀ (v275 : IVec S16 32) (v277 : IVec S16 32) (k0_hw16 : k0_chk16 v275 v277), ∀ a x, ((![v275, v277] : Fin 2 → IVec S16 32) a x).toNat < S512x128.size a := fun v275 v277 k0_hw16 => k0_hw16

def k0_chk17 (v280 : IVec S16 32) (v284 : IVec S16 32) : Prop :=
  (∀ a x, ((![v280, v284] : Fin 2 → IVec S16 32) a x).toNat < S512x128.size a)
theorem k0_idx17_inb : ∀ (v280 : IVec S16 32) (v284 : IVec S16 32) (k0_hw17 : k0_chk17 v280 v284), ∀ a x, ((![v280, v284] : Fin 2 → IVec S16 32) a x).toNat < S512x128.size a := fun v280 v284 k0_hw17 => k0_hw17

def k0_chk18 (v287 : IVec S16 32) (v291 : IVec S16 32) : Prop :=
  (∀ a x, ((![v287, v291] : Fin 2 → IVec S16 32) a x).toNat < S512x128.size a)
theorem k0_idx18_inb : ∀ (v287 : IVec S16 32) (v291 : IVec S16 32) (k0_hw18 : k0_chk18 v287 v291), ∀ a x, ((![v287, v291] : Fin 2 → IVec S16 32) a x).toNat < S512x128.size a := fun v287 v291 k0_hw18 => k0_hw18

def k0_chk19 (v294 : IVec S16 32) (v298 : IVec S16 32) : Prop :=
  (∀ a x, ((![v294, v298] : Fin 2 → IVec S16 32) a x).toNat < S512x128.size a)
theorem k0_idx19_inb : ∀ (v294 : IVec S16 32) (v298 : IVec S16 32) (k0_hw19 : k0_chk19 v294 v298), ∀ a x, ((![v294, v298] : Fin 2 → IVec S16 32) a x).toNat < S512x128.size a := fun v294 v298 k0_hw19 => k0_hw19

def k0_chk20 (v301 : IVec S16 32) (v305 : IVec S16 32) : Prop :=
  (∀ a x, ((![v301, v305] : Fin 2 → IVec S16 32) a x).toNat < S512x128.size a)
theorem k0_idx20_inb : ∀ (v301 : IVec S16 32) (v305 : IVec S16 32) (k0_hw20 : k0_chk20 v301 v305), ∀ a x, ((![v301, v305] : Fin 2 → IVec S16 32) a x).toNat < S512x128.size a := fun v301 v305 k0_hw20 => k0_hw20

def k0_chk21 (v308 : IVec S16 32) (v312 : IVec S16 32) : Prop :=
  (∀ a x, ((![v308, v312] : Fin 2 → IVec S16 32) a x).toNat < S512x128.size a)
theorem k0_idx21_inb : ∀ (v308 : IVec S16 32) (v312 : IVec S16 32) (k0_hw21 : k0_chk21 v308 v312), ∀ a x, ((![v308, v312] : Fin 2 → IVec S16 32) a x).toNat < S512x128.size a := fun v308 v312 k0_hw21 => k0_hw21

def k0_chk22 (v315 : IVec S16 32) (v319 : IVec S16 32) : Prop :=
  (∀ a x, ((![v315, v319] : Fin 2 → IVec S16 32) a x).toNat < S512x128.size a)
theorem k0_idx22_inb : ∀ (v315 : IVec S16 32) (v319 : IVec S16 32) (k0_hw22 : k0_chk22 v315 v319), ∀ a x, ((![v315, v319] : Fin 2 → IVec S16 32) a x).toNat < S512x128.size a := fun v315 v319 k0_hw22 => k0_hw22

def k0_chk23 (v322 : IVec S16 32) (v326 : IVec S16 32) : Prop :=
  (∀ a x, ((![v322, v326] : Fin 2 → IVec S16 32) a x).toNat < S512x128.size a)
theorem k0_idx23_inb : ∀ (v322 : IVec S16 32) (v326 : IVec S16 32) (k0_hw23 : k0_chk23 v322 v326), ∀ a x, ((![v322, v326] : Fin 2 → IVec S16 32) a x).toNat < S512x128.size a := fun v322 v326 k0_hw23 => k0_hw23

def k0_chk24 (v329 : IVec S16 32) (v333 : IVec S16 32) : Prop :=
  (∀ a x, ((![v329, v333] : Fin 2 → IVec S16 32) a x).toNat < S512x128.size a)
theorem k0_idx24_inb : ∀ (v329 : IVec S16 32) (v333 : IVec S16 32) (k0_hw24 : k0_chk24 v329 v333), ∀ a x, ((![v329, v333] : Fin 2 → IVec S16 32) a x).toNat < S512x128.size a := fun v329 v333 k0_hw24 => k0_hw24
def k0_off20 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_178 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk25 (v34 : IVec S16 32) (v336 : IVec S16 32) (v340 : IVec S16 32) : Prop :=
  (∀ a x, ((![v336, v340, v34] : Fin 3 → IVec S16 32) a x).toNat < S8x4x16.size a)
theorem k0_idx25_inb : ∀ (v34 : IVec S16 32) (v336 : IVec S16 32) (v340 : IVec S16 32) (k0_hw25 : k0_chk25 v34 v336 v340), ∀ a x, ((![v336, v340, v34] : Fin 3 → IVec S16 32) a x).toNat < S8x4x16.size a := fun v34 v336 v340 k0_hw25 => k0_hw25
def k0_off21 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_183 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk26 (v34 : IVec S16 32) (v344 : IVec S16 32) (v350 : IVec S16 32) : Prop :=
  (∀ a x, ((![v344, v350, v34] : Fin 3 → IVec S16 32) a x).toNat < S8x4x16.size a)
theorem k0_idx26_inb : ∀ (v34 : IVec S16 32) (v344 : IVec S16 32) (v350 : IVec S16 32) (k0_hw26 : k0_chk26 v34 v344 v350), ∀ a x, ((![v344, v350, v34] : Fin 3 → IVec S16 32) a x).toNat < S8x4x16.size a := fun v34 v344 v350 k0_hw26 => k0_hw26
def k0_off22 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_187 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk27 (v34 : IVec S16 32) (v354 : IVec S16 32) (v358 : IVec S16 32) : Prop :=
  (∀ a x, ((![v354, v358, v34] : Fin 3 → IVec S16 32) a x).toNat < S8x4x16.size a)
theorem k0_idx27_inb : ∀ (v34 : IVec S16 32) (v354 : IVec S16 32) (v358 : IVec S16 32) (k0_hw27 : k0_chk27 v34 v354 v358), ∀ a x, ((![v354, v358, v34] : Fin 3 → IVec S16 32) a x).toNat < S8x4x16.size a := fun v34 v354 v358 k0_hw27 => k0_hw27
def k0_off23 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_192 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk28 (v34 : IVec S16 32) (v362 : IVec S16 32) (v368 : IVec S16 32) : Prop :=
  (∀ a x, ((![v362, v368, v34] : Fin 3 → IVec S16 32) a x).toNat < S8x4x16.size a)
theorem k0_idx28_inb : ∀ (v34 : IVec S16 32) (v362 : IVec S16 32) (v368 : IVec S16 32) (k0_hw28 : k0_chk28 v34 v362 v368), ∀ a x, ((![v362, v368, v34] : Fin 3 → IVec S16 32) a x).toNat < S8x4x16.size a := fun v34 v362 v368 k0_hw28 => k0_hw28
def k0_off24 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_196 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk29 (v34 : IVec S16 32) (v372 : IVec S16 32) (v376 : IVec S16 32) : Prop :=
  (∀ a x, ((![v372, v376, v34] : Fin 3 → IVec S16 32) a x).toNat < S8x4x16.size a)
theorem k0_idx29_inb : ∀ (v34 : IVec S16 32) (v372 : IVec S16 32) (v376 : IVec S16 32) (k0_hw29 : k0_chk29 v34 v372 v376), ∀ a x, ((![v372, v376, v34] : Fin 3 → IVec S16 32) a x).toNat < S8x4x16.size a := fun v34 v372 v376 k0_hw29 => k0_hw29
def k0_off25 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_201 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk30 (v34 : IVec S16 32) (v380 : IVec S16 32) (v386 : IVec S16 32) : Prop :=
  (∀ a x, ((![v380, v386, v34] : Fin 3 → IVec S16 32) a x).toNat < S8x4x16.size a)
theorem k0_idx30_inb : ∀ (v34 : IVec S16 32) (v380 : IVec S16 32) (v386 : IVec S16 32) (k0_hw30 : k0_chk30 v34 v380 v386), ∀ a x, ((![v380, v386, v34] : Fin 3 → IVec S16 32) a x).toNat < S8x4x16.size a := fun v34 v380 v386 k0_hw30 => k0_hw30
def k0_off26 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_205 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk31 (v34 : IVec S16 32) (v390 : IVec S16 32) (v394 : IVec S16 32) : Prop :=
  (∀ a x, ((![v390, v394, v34] : Fin 3 → IVec S16 32) a x).toNat < S8x4x16.size a)
theorem k0_idx31_inb : ∀ (v34 : IVec S16 32) (v390 : IVec S16 32) (v394 : IVec S16 32) (k0_hw31 : k0_chk31 v34 v390 v394), ∀ a x, ((![v390, v394, v34] : Fin 3 → IVec S16 32) a x).toNat < S8x4x16.size a := fun v34 v390 v394 k0_hw31 => k0_hw31
def k0_off27 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_210 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk32 (v34 : IVec S16 32) (v398 : IVec S16 32) (v404 : IVec S16 32) : Prop :=
  (∀ a x, ((![v398, v404, v34] : Fin 3 → IVec S16 32) a x).toNat < S8x4x16.size a)
theorem k0_idx32_inb : ∀ (v34 : IVec S16 32) (v398 : IVec S16 32) (v404 : IVec S16 32) (k0_hw32 : k0_chk32 v34 v398 v404), ∀ a x, ((![v398, v404, v34] : Fin 3 → IVec S16 32) a x).toNat < S8x4x16.size a := fun v34 v398 v404 k0_hw32 => k0_hw32
def k0_off28 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_214 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk33 (v34 : IVec S16 32) (v408 : IVec S16 32) (v412 : IVec S16 32) : Prop :=
  (∀ a x, ((![v408, v412, v34] : Fin 3 → IVec S16 32) a x).toNat < S8x4x16.size a)
theorem k0_idx33_inb : ∀ (v34 : IVec S16 32) (v408 : IVec S16 32) (v412 : IVec S16 32) (k0_hw33 : k0_chk33 v34 v408 v412), ∀ a x, ((![v408, v412, v34] : Fin 3 → IVec S16 32) a x).toNat < S8x4x16.size a := fun v34 v408 v412 k0_hw33 => k0_hw33
def k0_off29 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_219 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk34 (v34 : IVec S16 32) (v416 : IVec S16 32) (v422 : IVec S16 32) : Prop :=
  (∀ a x, ((![v416, v422, v34] : Fin 3 → IVec S16 32) a x).toNat < S8x4x16.size a)
theorem k0_idx34_inb : ∀ (v34 : IVec S16 32) (v416 : IVec S16 32) (v422 : IVec S16 32) (k0_hw34 : k0_chk34 v34 v416 v422), ∀ a x, ((![v416, v422, v34] : Fin 3 → IVec S16 32) a x).toNat < S8x4x16.size a := fun v34 v416 v422 k0_hw34 => k0_hw34
def k0_off30 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_223 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk35 (v34 : IVec S16 32) (v426 : IVec S16 32) (v430 : IVec S16 32) : Prop :=
  (∀ a x, ((![v426, v430, v34] : Fin 3 → IVec S16 32) a x).toNat < S8x4x16.size a)
theorem k0_idx35_inb : ∀ (v34 : IVec S16 32) (v426 : IVec S16 32) (v430 : IVec S16 32) (k0_hw35 : k0_chk35 v34 v426 v430), ∀ a x, ((![v426, v430, v34] : Fin 3 → IVec S16 32) a x).toNat < S8x4x16.size a := fun v34 v426 v430 k0_hw35 => k0_hw35
def k0_off31 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_228 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk36 (v34 : IVec S16 32) (v434 : IVec S16 32) (v440 : IVec S16 32) : Prop :=
  (∀ a x, ((![v434, v440, v34] : Fin 3 → IVec S16 32) a x).toNat < S8x4x16.size a)
theorem k0_idx36_inb : ∀ (v34 : IVec S16 32) (v434 : IVec S16 32) (v440 : IVec S16 32) (k0_hw36 : k0_chk36 v34 v434 v440), ∀ a x, ((![v434, v440, v34] : Fin 3 → IVec S16 32) a x).toNat < S8x4x16.size a := fun v34 v434 v440 k0_hw36 => k0_hw36
def k0_off32 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_232 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk37 (v34 : IVec S16 32) (v444 : IVec S16 32) (v448 : IVec S16 32) : Prop :=
  (∀ a x, ((![v444, v448, v34] : Fin 3 → IVec S16 32) a x).toNat < S8x4x16.size a)
theorem k0_idx37_inb : ∀ (v34 : IVec S16 32) (v444 : IVec S16 32) (v448 : IVec S16 32) (k0_hw37 : k0_chk37 v34 v444 v448), ∀ a x, ((![v444, v448, v34] : Fin 3 → IVec S16 32) a x).toNat < S8x4x16.size a := fun v34 v444 v448 k0_hw37 => k0_hw37
def k0_off33 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_237 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk38 (v34 : IVec S16 32) (v452 : IVec S16 32) (v458 : IVec S16 32) : Prop :=
  (∀ a x, ((![v452, v458, v34] : Fin 3 → IVec S16 32) a x).toNat < S8x4x16.size a)
theorem k0_idx38_inb : ∀ (v34 : IVec S16 32) (v452 : IVec S16 32) (v458 : IVec S16 32) (k0_hw38 : k0_chk38 v34 v452 v458), ∀ a x, ((![v452, v458, v34] : Fin 3 → IVec S16 32) a x).toNat < S8x4x16.size a := fun v34 v452 v458 k0_hw38 => k0_hw38
def k0_off34 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_241 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk39 (v34 : IVec S16 32) (v462 : IVec S16 32) (v466 : IVec S16 32) : Prop :=
  (∀ a x, ((![v462, v466, v34] : Fin 3 → IVec S16 32) a x).toNat < S8x4x16.size a)
theorem k0_idx39_inb : ∀ (v34 : IVec S16 32) (v462 : IVec S16 32) (v466 : IVec S16 32) (k0_hw39 : k0_chk39 v34 v462 v466), ∀ a x, ((![v462, v466, v34] : Fin 3 → IVec S16 32) a x).toNat < S8x4x16.size a := fun v34 v462 v466 k0_hw39 => k0_hw39
def k0_off35 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_246 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk40 (v34 : IVec S16 32) (v470 : IVec S16 32) (v476 : IVec S16 32) : Prop :=
  (∀ a x, ((![v470, v476, v34] : Fin 3 → IVec S16 32) a x).toNat < S8x4x16.size a)
theorem k0_idx40_inb : ∀ (v34 : IVec S16 32) (v470 : IVec S16 32) (v476 : IVec S16 32) (k0_hw40 : k0_chk40 v34 v470 v476), ∀ a x, ((![v470, v476, v34] : Fin 3 → IVec S16 32) a x).toNat < S8x4x16.size a := fun v34 v470 v476 k0_hw40 => k0_hw40
def k0_off36 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_249 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk41 (v70 : IVec S16 32) (v480 : IVec S16 32) (v482 : IVec S16 32) : Prop :=
  (∀ a x, ((![v480, v482, v70] : Fin 3 → IVec S16 32) a x).toNat < S2x8x16.size a)
theorem k0_idx41_inb : ∀ (v70 : IVec S16 32) (v480 : IVec S16 32) (v482 : IVec S16 32) (k0_hw41 : k0_chk41 v70 v480 v482), ∀ a x, ((![v480, v482, v70] : Fin 3 → IVec S16 32) a x).toNat < S2x8x16.size a := fun v70 v480 v482 k0_hw41 => k0_hw41
def k0_off37 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_252 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk42 (v74 : IVec S16 32) (v487 : IVec S16 32) (v489 : IVec S16 32) : Prop :=
  (∀ a x, ((![v487, v489, v74] : Fin 3 → IVec S16 32) a x).toNat < S2x8x16.size a)
theorem k0_idx42_inb : ∀ (v74 : IVec S16 32) (v487 : IVec S16 32) (v489 : IVec S16 32) (k0_hw42 : k0_chk42 v74 v487 v489), ∀ a x, ((![v487, v489, v74] : Fin 3 → IVec S16 32) a x).toNat < S2x8x16.size a := fun v74 v487 v489 k0_hw42 => k0_hw42
def k0_off38 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_255 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk43 (v78 : IVec S16 32) (v494 : IVec S16 32) (v496 : IVec S16 32) : Prop :=
  (∀ a x, ((![v494, v496, v78] : Fin 3 → IVec S16 32) a x).toNat < S2x8x16.size a)
theorem k0_idx43_inb : ∀ (v78 : IVec S16 32) (v494 : IVec S16 32) (v496 : IVec S16 32) (k0_hw43 : k0_chk43 v78 v494 v496), ∀ a x, ((![v494, v496, v78] : Fin 3 → IVec S16 32) a x).toNat < S2x8x16.size a := fun v78 v494 v496 k0_hw43 => k0_hw43
def k0_off39 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_258 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk44 (v82 : IVec S16 32) (v501 : IVec S16 32) (v503 : IVec S16 32) : Prop :=
  (∀ a x, ((![v501, v503, v82] : Fin 3 → IVec S16 32) a x).toNat < S2x8x16.size a)
theorem k0_idx44_inb : ∀ (v82 : IVec S16 32) (v501 : IVec S16 32) (v503 : IVec S16 32) (k0_hw44 : k0_chk44 v82 v501 v503), ∀ a x, ((![v501, v503, v82] : Fin 3 → IVec S16 32) a x).toNat < S2x8x16.size a := fun v82 v501 v503 k0_hw44 => k0_hw44
def k0_off40 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_261 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk45 (v86 : IVec S16 32) (v508 : IVec S16 32) (v510 : IVec S16 32) : Prop :=
  (∀ a x, ((![v508, v510, v86] : Fin 3 → IVec S16 32) a x).toNat < S2x8x16.size a)
theorem k0_idx45_inb : ∀ (v86 : IVec S16 32) (v508 : IVec S16 32) (v510 : IVec S16 32) (k0_hw45 : k0_chk45 v86 v508 v510), ∀ a x, ((![v508, v510, v86] : Fin 3 → IVec S16 32) a x).toNat < S2x8x16.size a := fun v86 v508 v510 k0_hw45 => k0_hw45
def k0_off41 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_264 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk46 (v90 : IVec S16 32) (v515 : IVec S16 32) (v517 : IVec S16 32) : Prop :=
  (∀ a x, ((![v515, v517, v90] : Fin 3 → IVec S16 32) a x).toNat < S2x8x16.size a)
theorem k0_idx46_inb : ∀ (v90 : IVec S16 32) (v515 : IVec S16 32) (v517 : IVec S16 32) (k0_hw46 : k0_chk46 v90 v515 v517), ∀ a x, ((![v515, v517, v90] : Fin 3 → IVec S16 32) a x).toNat < S2x8x16.size a := fun v90 v515 v517 k0_hw46 => k0_hw46
def k0_off42 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_267 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk47 (v94 : IVec S16 32) (v522 : IVec S16 32) (v524 : IVec S16 32) : Prop :=
  (∀ a x, ((![v522, v524, v94] : Fin 3 → IVec S16 32) a x).toNat < S2x8x16.size a)
theorem k0_idx47_inb : ∀ (v94 : IVec S16 32) (v522 : IVec S16 32) (v524 : IVec S16 32) (k0_hw47 : k0_chk47 v94 v522 v524), ∀ a x, ((![v522, v524, v94] : Fin 3 → IVec S16 32) a x).toNat < S2x8x16.size a := fun v94 v522 v524 k0_hw47 => k0_hw47
def k0_off43 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_270 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk48 (v98 : IVec S16 32) (v529 : IVec S16 32) (v531 : IVec S16 32) : Prop :=
  (∀ a x, ((![v529, v531, v98] : Fin 3 → IVec S16 32) a x).toNat < S2x8x16.size a)
theorem k0_idx48_inb : ∀ (v98 : IVec S16 32) (v529 : IVec S16 32) (v531 : IVec S16 32) (k0_hw48 : k0_chk48 v98 v529 v531), ∀ a x, ((![v529, v531, v98] : Fin 3 → IVec S16 32) a x).toNat < S2x8x16.size a := fun v98 v529 v531 k0_hw48 => k0_hw48

def k0_chk49 (v538 : IVec S16 32) (v540 : IVec S16 32) : Prop :=
  (∀ a x, ((![v538, v540] : Fin 2 → IVec S16 32) a x).toNat < S512x128.size a)
theorem k0_idx49_inb : ∀ (v538 : IVec S16 32) (v540 : IVec S16 32) (k0_hw49 : k0_chk49 v538 v540), ∀ a x, ((![v538, v540] : Fin 2 → IVec S16 32) a x).toNat < S512x128.size a := fun v538 v540 k0_hw49 => k0_hw49

def k0_chk50 (v545 : IVec S16 32) (v547 : IVec S16 32) : Prop :=
  (∀ a x, ((![v545, v547] : Fin 2 → IVec S16 32) a x).toNat < S512x128.size a)
theorem k0_idx50_inb : ∀ (v545 : IVec S16 32) (v547 : IVec S16 32) (k0_hw50 : k0_chk50 v545 v547), ∀ a x, ((![v545, v547] : Fin 2 → IVec S16 32) a x).toNat < S512x128.size a := fun v545 v547 k0_hw50 => k0_hw50

def k0_chk51 (v552 : IVec S16 32) (v554 : IVec S16 32) : Prop :=
  (∀ a x, ((![v552, v554] : Fin 2 → IVec S16 32) a x).toNat < S512x128.size a)
theorem k0_idx51_inb : ∀ (v552 : IVec S16 32) (v554 : IVec S16 32) (k0_hw51 : k0_chk51 v552 v554), ∀ a x, ((![v552, v554] : Fin 2 → IVec S16 32) a x).toNat < S512x128.size a := fun v552 v554 k0_hw51 => k0_hw51

def k0_chk52 (v559 : IVec S16 32) (v561 : IVec S16 32) : Prop :=
  (∀ a x, ((![v559, v561] : Fin 2 → IVec S16 32) a x).toNat < S512x128.size a)
theorem k0_idx52_inb : ∀ (v559 : IVec S16 32) (v561 : IVec S16 32) (k0_hw52 : k0_chk52 v559 v561), ∀ a x, ((![v559, v561] : Fin 2 → IVec S16 32) a x).toNat < S512x128.size a := fun v559 v561 k0_hw52 => k0_hw52

def k0_chk53 (v566 : IVec S16 32) (v568 : IVec S16 32) : Prop :=
  (∀ a x, ((![v566, v568] : Fin 2 → IVec S16 32) a x).toNat < S512x128.size a)
theorem k0_idx53_inb : ∀ (v566 : IVec S16 32) (v568 : IVec S16 32) (k0_hw53 : k0_chk53 v566 v568), ∀ a x, ((![v566, v568] : Fin 2 → IVec S16 32) a x).toNat < S512x128.size a := fun v566 v568 k0_hw53 => k0_hw53

def k0_chk54 (v573 : IVec S16 32) (v575 : IVec S16 32) : Prop :=
  (∀ a x, ((![v573, v575] : Fin 2 → IVec S16 32) a x).toNat < S512x128.size a)
theorem k0_idx54_inb : ∀ (v573 : IVec S16 32) (v575 : IVec S16 32) (k0_hw54 : k0_chk54 v573 v575), ∀ a x, ((![v573, v575] : Fin 2 → IVec S16 32) a x).toNat < S512x128.size a := fun v573 v575 k0_hw54 => k0_hw54

def k0_chk55 (v580 : IVec S16 32) (v582 : IVec S16 32) : Prop :=
  (∀ a x, ((![v580, v582] : Fin 2 → IVec S16 32) a x).toNat < S512x128.size a)
theorem k0_idx55_inb : ∀ (v580 : IVec S16 32) (v582 : IVec S16 32) (k0_hw55 : k0_chk55 v580 v582), ∀ a x, ((![v580, v582] : Fin 2 → IVec S16 32) a x).toNat < S512x128.size a := fun v580 v582 k0_hw55 => k0_hw55

def k0_chk56 (v587 : IVec S16 32) (v589 : IVec S16 32) : Prop :=
  (∀ a x, ((![v587, v589] : Fin 2 → IVec S16 32) a x).toNat < S512x128.size a)
theorem k0_idx56_inb : ∀ (v587 : IVec S16 32) (v589 : IVec S16 32) (k0_hw56 : k0_chk56 v587 v589), ∀ a x, ((![v587, v589] : Fin 2 → IVec S16 32) a x).toNat < S512x128.size a := fun v587 v589 k0_hw56 => k0_hw56

def k0_chk57 (v592 : IVec S16 32) (v596 : IVec S16 32) : Prop :=
  (∀ a x, ((![v592, v596] : Fin 2 → IVec S16 32) a x).toNat < S512x128.size a)
theorem k0_idx57_inb : ∀ (v592 : IVec S16 32) (v596 : IVec S16 32) (k0_hw57 : k0_chk57 v592 v596), ∀ a x, ((![v592, v596] : Fin 2 → IVec S16 32) a x).toNat < S512x128.size a := fun v592 v596 k0_hw57 => k0_hw57

def k0_chk58 (v599 : IVec S16 32) (v603 : IVec S16 32) : Prop :=
  (∀ a x, ((![v599, v603] : Fin 2 → IVec S16 32) a x).toNat < S512x128.size a)
theorem k0_idx58_inb : ∀ (v599 : IVec S16 32) (v603 : IVec S16 32) (k0_hw58 : k0_chk58 v599 v603), ∀ a x, ((![v599, v603] : Fin 2 → IVec S16 32) a x).toNat < S512x128.size a := fun v599 v603 k0_hw58 => k0_hw58

def k0_chk59 (v606 : IVec S16 32) (v610 : IVec S16 32) : Prop :=
  (∀ a x, ((![v606, v610] : Fin 2 → IVec S16 32) a x).toNat < S512x128.size a)
theorem k0_idx59_inb : ∀ (v606 : IVec S16 32) (v610 : IVec S16 32) (k0_hw59 : k0_chk59 v606 v610), ∀ a x, ((![v606, v610] : Fin 2 → IVec S16 32) a x).toNat < S512x128.size a := fun v606 v610 k0_hw59 => k0_hw59

def k0_chk60 (v613 : IVec S16 32) (v617 : IVec S16 32) : Prop :=
  (∀ a x, ((![v613, v617] : Fin 2 → IVec S16 32) a x).toNat < S512x128.size a)
theorem k0_idx60_inb : ∀ (v613 : IVec S16 32) (v617 : IVec S16 32) (k0_hw60 : k0_chk60 v613 v617), ∀ a x, ((![v613, v617] : Fin 2 → IVec S16 32) a x).toNat < S512x128.size a := fun v613 v617 k0_hw60 => k0_hw60

def k0_chk61 (v620 : IVec S16 32) (v624 : IVec S16 32) : Prop :=
  (∀ a x, ((![v620, v624] : Fin 2 → IVec S16 32) a x).toNat < S512x128.size a)
theorem k0_idx61_inb : ∀ (v620 : IVec S16 32) (v624 : IVec S16 32) (k0_hw61 : k0_chk61 v620 v624), ∀ a x, ((![v620, v624] : Fin 2 → IVec S16 32) a x).toNat < S512x128.size a := fun v620 v624 k0_hw61 => k0_hw61

def k0_chk62 (v627 : IVec S16 32) (v631 : IVec S16 32) : Prop :=
  (∀ a x, ((![v627, v631] : Fin 2 → IVec S16 32) a x).toNat < S512x128.size a)
theorem k0_idx62_inb : ∀ (v627 : IVec S16 32) (v631 : IVec S16 32) (k0_hw62 : k0_chk62 v627 v631), ∀ a x, ((![v627, v631] : Fin 2 → IVec S16 32) a x).toNat < S512x128.size a := fun v627 v631 k0_hw62 => k0_hw62

def k0_chk63 (v634 : IVec S16 32) (v638 : IVec S16 32) : Prop :=
  (∀ a x, ((![v634, v638] : Fin 2 → IVec S16 32) a x).toNat < S512x128.size a)
theorem k0_idx63_inb : ∀ (v634 : IVec S16 32) (v638 : IVec S16 32) (k0_hw63 : k0_chk63 v634 v638), ∀ a x, ((![v634, v638] : Fin 2 → IVec S16 32) a x).toNat < S512x128.size a := fun v634 v638 k0_hw63 => k0_hw63

def k0_chk64 (v641 : IVec S16 32) (v645 : IVec S16 32) : Prop :=
  (∀ a x, ((![v641, v645] : Fin 2 → IVec S16 32) a x).toNat < S512x128.size a)
theorem k0_idx64_inb : ∀ (v641 : IVec S16 32) (v645 : IVec S16 32) (k0_hw64 : k0_chk64 v641 v645), ∀ a x, ((![v641, v645] : Fin 2 → IVec S16 32) a x).toNat < S512x128.size a := fun v641 v645 k0_hw64 => k0_hw64
def k0_off44 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_322 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk65 (v34 : IVec S16 32) (v648 : IVec S16 32) (v652 : IVec S16 32) : Prop :=
  (∀ a x, ((![v648, v652, v34] : Fin 3 → IVec S16 32) a x).toNat < S8x4x16.size a)
theorem k0_idx65_inb : ∀ (v34 : IVec S16 32) (v648 : IVec S16 32) (v652 : IVec S16 32) (k0_hw65 : k0_chk65 v34 v648 v652), ∀ a x, ((![v648, v652, v34] : Fin 3 → IVec S16 32) a x).toNat < S8x4x16.size a := fun v34 v648 v652 k0_hw65 => k0_hw65
def k0_off45 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_327 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk66 (v34 : IVec S16 32) (v656 : IVec S16 32) (v662 : IVec S16 32) : Prop :=
  (∀ a x, ((![v656, v662, v34] : Fin 3 → IVec S16 32) a x).toNat < S8x4x16.size a)
theorem k0_idx66_inb : ∀ (v34 : IVec S16 32) (v656 : IVec S16 32) (v662 : IVec S16 32) (k0_hw66 : k0_chk66 v34 v656 v662), ∀ a x, ((![v656, v662, v34] : Fin 3 → IVec S16 32) a x).toNat < S8x4x16.size a := fun v34 v656 v662 k0_hw66 => k0_hw66
def k0_off46 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_331 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk67 (v34 : IVec S16 32) (v666 : IVec S16 32) (v670 : IVec S16 32) : Prop :=
  (∀ a x, ((![v666, v670, v34] : Fin 3 → IVec S16 32) a x).toNat < S8x4x16.size a)
theorem k0_idx67_inb : ∀ (v34 : IVec S16 32) (v666 : IVec S16 32) (v670 : IVec S16 32) (k0_hw67 : k0_chk67 v34 v666 v670), ∀ a x, ((![v666, v670, v34] : Fin 3 → IVec S16 32) a x).toNat < S8x4x16.size a := fun v34 v666 v670 k0_hw67 => k0_hw67
def k0_off47 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_336 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk68 (v34 : IVec S16 32) (v674 : IVec S16 32) (v680 : IVec S16 32) : Prop :=
  (∀ a x, ((![v674, v680, v34] : Fin 3 → IVec S16 32) a x).toNat < S8x4x16.size a)
theorem k0_idx68_inb : ∀ (v34 : IVec S16 32) (v674 : IVec S16 32) (v680 : IVec S16 32) (k0_hw68 : k0_chk68 v34 v674 v680), ∀ a x, ((![v674, v680, v34] : Fin 3 → IVec S16 32) a x).toNat < S8x4x16.size a := fun v34 v674 v680 k0_hw68 => k0_hw68
def k0_off48 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_340 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk69 (v34 : IVec S16 32) (v684 : IVec S16 32) (v688 : IVec S16 32) : Prop :=
  (∀ a x, ((![v684, v688, v34] : Fin 3 → IVec S16 32) a x).toNat < S8x4x16.size a)
theorem k0_idx69_inb : ∀ (v34 : IVec S16 32) (v684 : IVec S16 32) (v688 : IVec S16 32) (k0_hw69 : k0_chk69 v34 v684 v688), ∀ a x, ((![v684, v688, v34] : Fin 3 → IVec S16 32) a x).toNat < S8x4x16.size a := fun v34 v684 v688 k0_hw69 => k0_hw69
def k0_off49 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_345 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk70 (v34 : IVec S16 32) (v692 : IVec S16 32) (v698 : IVec S16 32) : Prop :=
  (∀ a x, ((![v692, v698, v34] : Fin 3 → IVec S16 32) a x).toNat < S8x4x16.size a)
theorem k0_idx70_inb : ∀ (v34 : IVec S16 32) (v692 : IVec S16 32) (v698 : IVec S16 32) (k0_hw70 : k0_chk70 v34 v692 v698), ∀ a x, ((![v692, v698, v34] : Fin 3 → IVec S16 32) a x).toNat < S8x4x16.size a := fun v34 v692 v698 k0_hw70 => k0_hw70
def k0_off50 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_349 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk71 (v34 : IVec S16 32) (v702 : IVec S16 32) (v706 : IVec S16 32) : Prop :=
  (∀ a x, ((![v702, v706, v34] : Fin 3 → IVec S16 32) a x).toNat < S8x4x16.size a)
theorem k0_idx71_inb : ∀ (v34 : IVec S16 32) (v702 : IVec S16 32) (v706 : IVec S16 32) (k0_hw71 : k0_chk71 v34 v702 v706), ∀ a x, ((![v702, v706, v34] : Fin 3 → IVec S16 32) a x).toNat < S8x4x16.size a := fun v34 v702 v706 k0_hw71 => k0_hw71
def k0_off51 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_354 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk72 (v34 : IVec S16 32) (v710 : IVec S16 32) (v716 : IVec S16 32) : Prop :=
  (∀ a x, ((![v710, v716, v34] : Fin 3 → IVec S16 32) a x).toNat < S8x4x16.size a)
theorem k0_idx72_inb : ∀ (v34 : IVec S16 32) (v710 : IVec S16 32) (v716 : IVec S16 32) (k0_hw72 : k0_chk72 v34 v710 v716), ∀ a x, ((![v710, v716, v34] : Fin 3 → IVec S16 32) a x).toNat < S8x4x16.size a := fun v34 v710 v716 k0_hw72 => k0_hw72
def k0_off52 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_358 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk73 (v34 : IVec S16 32) (v720 : IVec S16 32) (v724 : IVec S16 32) : Prop :=
  (∀ a x, ((![v720, v724, v34] : Fin 3 → IVec S16 32) a x).toNat < S8x4x16.size a)
theorem k0_idx73_inb : ∀ (v34 : IVec S16 32) (v720 : IVec S16 32) (v724 : IVec S16 32) (k0_hw73 : k0_chk73 v34 v720 v724), ∀ a x, ((![v720, v724, v34] : Fin 3 → IVec S16 32) a x).toNat < S8x4x16.size a := fun v34 v720 v724 k0_hw73 => k0_hw73
def k0_off53 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_363 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk74 (v34 : IVec S16 32) (v728 : IVec S16 32) (v734 : IVec S16 32) : Prop :=
  (∀ a x, ((![v728, v734, v34] : Fin 3 → IVec S16 32) a x).toNat < S8x4x16.size a)
theorem k0_idx74_inb : ∀ (v34 : IVec S16 32) (v728 : IVec S16 32) (v734 : IVec S16 32) (k0_hw74 : k0_chk74 v34 v728 v734), ∀ a x, ((![v728, v734, v34] : Fin 3 → IVec S16 32) a x).toNat < S8x4x16.size a := fun v34 v728 v734 k0_hw74 => k0_hw74
def k0_off54 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_367 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk75 (v34 : IVec S16 32) (v738 : IVec S16 32) (v742 : IVec S16 32) : Prop :=
  (∀ a x, ((![v738, v742, v34] : Fin 3 → IVec S16 32) a x).toNat < S8x4x16.size a)
theorem k0_idx75_inb : ∀ (v34 : IVec S16 32) (v738 : IVec S16 32) (v742 : IVec S16 32) (k0_hw75 : k0_chk75 v34 v738 v742), ∀ a x, ((![v738, v742, v34] : Fin 3 → IVec S16 32) a x).toNat < S8x4x16.size a := fun v34 v738 v742 k0_hw75 => k0_hw75
def k0_off55 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_372 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk76 (v34 : IVec S16 32) (v746 : IVec S16 32) (v752 : IVec S16 32) : Prop :=
  (∀ a x, ((![v746, v752, v34] : Fin 3 → IVec S16 32) a x).toNat < S8x4x16.size a)
theorem k0_idx76_inb : ∀ (v34 : IVec S16 32) (v746 : IVec S16 32) (v752 : IVec S16 32) (k0_hw76 : k0_chk76 v34 v746 v752), ∀ a x, ((![v746, v752, v34] : Fin 3 → IVec S16 32) a x).toNat < S8x4x16.size a := fun v34 v746 v752 k0_hw76 => k0_hw76
def k0_off56 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_376 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk77 (v34 : IVec S16 32) (v756 : IVec S16 32) (v760 : IVec S16 32) : Prop :=
  (∀ a x, ((![v756, v760, v34] : Fin 3 → IVec S16 32) a x).toNat < S8x4x16.size a)
theorem k0_idx77_inb : ∀ (v34 : IVec S16 32) (v756 : IVec S16 32) (v760 : IVec S16 32) (k0_hw77 : k0_chk77 v34 v756 v760), ∀ a x, ((![v756, v760, v34] : Fin 3 → IVec S16 32) a x).toNat < S8x4x16.size a := fun v34 v756 v760 k0_hw77 => k0_hw77
def k0_off57 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_381 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk78 (v34 : IVec S16 32) (v764 : IVec S16 32) (v770 : IVec S16 32) : Prop :=
  (∀ a x, ((![v764, v770, v34] : Fin 3 → IVec S16 32) a x).toNat < S8x4x16.size a)
theorem k0_idx78_inb : ∀ (v34 : IVec S16 32) (v764 : IVec S16 32) (v770 : IVec S16 32) (k0_hw78 : k0_chk78 v34 v764 v770), ∀ a x, ((![v764, v770, v34] : Fin 3 → IVec S16 32) a x).toNat < S8x4x16.size a := fun v34 v764 v770 k0_hw78 => k0_hw78
def k0_off58 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_385 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk79 (v34 : IVec S16 32) (v774 : IVec S16 32) (v778 : IVec S16 32) : Prop :=
  (∀ a x, ((![v774, v778, v34] : Fin 3 → IVec S16 32) a x).toNat < S8x4x16.size a)
theorem k0_idx79_inb : ∀ (v34 : IVec S16 32) (v774 : IVec S16 32) (v778 : IVec S16 32) (k0_hw79 : k0_chk79 v34 v774 v778), ∀ a x, ((![v774, v778, v34] : Fin 3 → IVec S16 32) a x).toNat < S8x4x16.size a := fun v34 v774 v778 k0_hw79 => k0_hw79
def k0_off59 (i : grid0.Coords) (k0_t1 : Fin (k0_t1_loop i).trips) (k0_t2 : Fin k0_t2_loop.trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t2
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_390 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk80 (v34 : IVec S16 32) (v782 : IVec S16 32) (v788 : IVec S16 32) : Prop :=
  (∀ a x, ((![v782, v788, v34] : Fin 3 → IVec S16 32) a x).toNat < S8x4x16.size a)
theorem k0_idx80_inb : ∀ (v34 : IVec S16 32) (v782 : IVec S16 32) (v788 : IVec S16 32) (k0_hw80 : k0_chk80 v34 v782 v788), ∀ a x, ((![v782, v788, v34] : Fin 3 → IVec S16 32) a x).toNat < S8x4x16.size a := fun v34 v782 v788 k0_hw80 => k0_hw80
def k0_off60 (i : grid0.Coords) (k0_t1 : Fin (k0_t1_loop i).trips) : Fin 4 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_88 : BitVec 32 := 0#32
  let c0_i32_89 : BitVec 32 := 0#32
  let c0_i32_90 : BitVec 32 := 0#32
  ![v116.toNat, 0, 0, 0]
def k0_off61 (i : grid0.Coords) (k0_t1 : Fin (k0_t1_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c16_i32_84 : BitVec 32 := 16#32
  let v144 : BitVec 32 := Scalar.muli v115 c16_i32_84
  let v145 : BitVec 32 := Scalar.addi v3 v144
  let c28_i32_86 : BitVec 32 := 28#32
  let v147 : BitVec 32 := Scalar.remsi v145 c28_i32_86
  let c16_i32_87 : BitVec 32 := 16#32
  let v148 : BitVec 32 := Scalar.muli v147 c16_i32_87
  let c28_i32_85 : BitVec 32 := 28#32
  let v146 : BitVec 32 := Scalar.divsi v145 c28_i32_85
  let c0_i32_91 : BitVec 32 := 0#32
  let c2_i32 : BitVec 32 := 2#32
  let v0 : BitVec 32 := Scalar.remsi arg1 c2_i32
  let c0_i32_92 : BitVec 32 := 0#32
  ![v148.toNat, v146.toNat, 0, v0.toNat, 0]
def k0_off62 (i : grid0.Coords) (k0_t1 : Fin (k0_t1_loop i).trips) : Fin 1 → Nat :=
  let c0_i32_50 : BitVec 32 := 0#32
  let c0_i32_51 : BitVec 32 := 0#32
  let c1_i32_53 : BitVec 32 := 1#32
  let arg11 : BitVec 32 := Scf.iv c0_i32_51 c1_i32_53 k0_t1
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  ![v116.toNat]
@[reducible] def k0_t3_loop (i : grid0.Coords) : Scf.Loop 32 :=
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let v104 : BitVec 32 := Scalar.addi c0_i32_51 v103
  let c1_i32_54 : BitVec 32 := 1#32
  ⟨v107, v104, c1_i32_54⟩
def k0_cond3 (i : grid0.Coords) (k0_t3 : Fin (k0_t3_loop i).trips) : BitVec 1 :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c1_i32_60 : BitVec 32 := 1#32
  let v117 : BitVec 32 := Scalar.addi v115 c1_i32_60
  let v118 : BitVec 1 := Scalar.cmpi .slt v117 v7
  let v119 : BitVec 32 := Scalar.extui v118
  let c0_i32_61 : BitVec 32 := 0#32
  let v120 : BitVec 1 := Scalar.cmpi .ne v119 c0_i32_61
  v120

def k0_off63 (i : grid0.Coords) (k0_t3 : Fin (k0_t3_loop i).trips) : Fin 4 → Nat :=
  let c1_i32_99 : BitVec 32 := 1#32
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let v160 : BitVec 32 := Scalar.subi c1_i32_99 v116
  let c0_i32_108 : BitVec 32 := 0#32
  let c0_i32_109 : BitVec 32 := 0#32
  let c0_i32_110 : BitVec 32 := 0#32
  ![v160.toNat, 0, 0, 0]
def k0_off64 (i : grid0.Coords) (k0_t3 : Fin (k0_t3_loop i).trips) : Fin 4 → Nat :=
  let c0_i32_104 : BitVec 32 := 0#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c112_i32 : BitVec 32 := 112#32
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c1_i32_98 : BitVec 32 := 1#32
  let v159 : BitVec 32 := Scalar.addi v115 c1_i32_98
  let c16_i32_100 : BitVec 32 := 16#32
  let v161 : BitVec 32 := Scalar.muli v159 c16_i32_100
  let v162 : BitVec 32 := Scalar.addi v3 v161
  let c28_i32_101 : BitVec 32 := 28#32
  let v163 : BitVec 32 := Scalar.divsi v162 c28_i32_101
  let c16_i32_103 : BitVec 32 := 16#32
  let v165 : BitVec 32 := Scalar.muli v163 c16_i32_103
  let v166 : BitVec 32 := Scalar.addi c0_i32_104 v165
  let c28_i32_102 : BitVec 32 := 28#32
  let v164 : BitVec 32 := Scalar.remsi v162 c28_i32_102
  let c4_i32_105 : BitVec 32 := 4#32
  let v167 : BitVec 32 := Scalar.divsi v164 c4_i32_105
  let c0_i32_111 : BitVec 32 := 0#32
  let c4_i32_106 : BitVec 32 := 4#32
  let v168 : BitVec 32 := Scalar.remsi v164 c4_i32_106
  let c32_i32_107 : BitVec 32 := 32#32
  let v169 : BitVec 32 := Scalar.muli v168 c32_i32_107
  ![v166.toNat, v167.toNat, 0, v169.toNat]
def k0_off65 (i : grid0.Coords) (k0_t3 : Fin (k0_t3_loop i).trips) : Fin 1 → Nat :=
  let c1_i32_99 : BitVec 32 := 1#32
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let v160 : BitVec 32 := Scalar.subi c1_i32_99 v116
  ![v160.toNat]
def k0_off66 (i : grid0.Coords) (k0_t3 : Fin (k0_t3_loop i).trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_70 : BitVec 32 := 0#32
  let c0_i32_71 : BitVec 32 := 0#32
  let c0_i32_72 : BitVec 32 := 0#32
  ![v116.toNat, 0, 0, 0]
def k0_off67 (i : grid0.Coords) (k0_t3 : Fin (k0_t3_loop i).trips) : Fin 4 → Nat :=
  let c0_i32_66 : BitVec 32 := 0#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c112_i32 : BitVec 32 := 112#32
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c16_i32_62 : BitVec 32 := 16#32
  let v121 : BitVec 32 := Scalar.muli v115 c16_i32_62
  let v122 : BitVec 32 := Scalar.addi v3 v121
  let c28_i32_63 : BitVec 32 := 28#32
  let v123 : BitVec 32 := Scalar.divsi v122 c28_i32_63
  let c16_i32_65 : BitVec 32 := 16#32
  let v125 : BitVec 32 := Scalar.muli v123 c16_i32_65
  let v126 : BitVec 32 := Scalar.addi c0_i32_66 v125
  let c28_i32_64 : BitVec 32 := 28#32
  let v124 : BitVec 32 := Scalar.remsi v122 c28_i32_64
  let c4_i32_67 : BitVec 32 := 4#32
  let v127 : BitVec 32 := Scalar.divsi v124 c4_i32_67
  let c0_i32_73 : BitVec 32 := 0#32
  let c4_i32_68 : BitVec 32 := 4#32
  let v128 : BitVec 32 := Scalar.remsi v124 c4_i32_68
  let c32_i32_69 : BitVec 32 := 32#32
  let v129 : BitVec 32 := Scalar.muli v128 c32_i32_69
  ![v126.toNat, v127.toNat, 0, v129.toNat]
def k0_off68 (i : grid0.Coords) (k0_t3 : Fin (k0_t3_loop i).trips) : Fin 1 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  ![v116.toNat]
def k0_cond4 (i : grid0.Coords) (k0_t3 : Fin (k0_t3_loop i).trips) : BitVec 1 :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c1_i32_78 : BitVec 32 := 1#32
  let v140 : BitVec 1 := Scalar.cmpi .sgt v115 c1_i32_78
  let v141 : BitVec 32 := Scalar.extui v140
  let c0_i32_79 : BitVec 32 := 0#32
  let v142 : BitVec 1 := Scalar.cmpi .ne v141 c0_i32_79
  v142

def k0_off69 (i : grid0.Coords) (k0_t3 : Fin (k0_t3_loop i).trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_103 : BitVec 32 := 0#32
  let c0_i32_104 : BitVec 32 := 0#32
  let c0_i32_105 : BitVec 32 := 0#32
  ![v116.toNat, 0, 0, 0]
def k0_off70 (i : grid0.Coords) (k0_t3 : Fin (k0_t3_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c112_i32 : BitVec 32 := 112#32
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_98 : BitVec 32 := 2#32
  let v159 : BitVec 32 := Scalar.subi v115 c2_i32_98
  let c16_i32_99 : BitVec 32 := 16#32
  let v160 : BitVec 32 := Scalar.muli v159 c16_i32_99
  let v161 : BitVec 32 := Scalar.addi v3 v160
  let c28_i32_101 : BitVec 32 := 28#32
  let v163 : BitVec 32 := Scalar.remsi v161 c28_i32_101
  let c16_i32_102 : BitVec 32 := 16#32
  let v164 : BitVec 32 := Scalar.muli v163 c16_i32_102
  let c28_i32_100 : BitVec 32 := 28#32
  let v162 : BitVec 32 := Scalar.divsi v161 c28_i32_100
  let c0_i32_106 : BitVec 32 := 0#32
  let c2_i32 : BitVec 32 := 2#32
  let v0 : BitVec 32 := Scalar.remsi arg1 c2_i32
  let c0_i32_107 : BitVec 32 := 0#32
  ![v164.toNat, v162.toNat, 0, v0.toNat, 0]
def k0_off71 (i : grid0.Coords) (k0_t3 : Fin (k0_t3_loop i).trips) : Fin 1 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  ![v116.toNat]
@[reducible] def k0_t4_loop : Scf.Loop 32 :=
  let c0_i32_80 : BitVec 32 := 0#32
  let c16_i32_81 : BitVec 32 := 16#32
  let v143 : BitVec 32 := Scalar.addi c0_i32_80 c16_i32_81
  let c1_i32_82 : BitVec 32 := 1#32
  ⟨c0_i32_80, v143, c1_i32_82⟩
def k0_off72 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_108 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk81 (i : grid0.Coords) (v38 : IVec S16 32) (k0_t3 : Fin (k0_t3_loop i).trips) (v168 : IVec S16 32) (v170 : IVec S16 32) : Prop :=
  (∀ a x, ((![v168, v170, v38] : Fin 3 → IVec S16 32) a x).toNat < S2x8x16.size a)
theorem k0_idx81_inb : ∀ (i : grid0.Coords) (v38 : IVec S16 32) (k0_t3 : Fin (k0_t3_loop i).trips) (v168 : IVec S16 32) (v170 : IVec S16 32) (k0_hw81 : k0_chk81 i v38 k0_t3 v168 v170), ∀ a x, ((![v168, v170, v38] : Fin 3 → IVec S16 32) a x).toNat < S2x8x16.size a := fun i v38 k0_t3 v168 v170 k0_hw81 => k0_hw81
def k0_off73 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_111 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk82 (i : grid0.Coords) (v42 : IVec S16 32) (k0_t3 : Fin (k0_t3_loop i).trips) (v175 : IVec S16 32) (v177 : IVec S16 32) : Prop :=
  (∀ a x, ((![v175, v177, v42] : Fin 3 → IVec S16 32) a x).toNat < S2x8x16.size a)
theorem k0_idx82_inb : ∀ (i : grid0.Coords) (v42 : IVec S16 32) (k0_t3 : Fin (k0_t3_loop i).trips) (v175 : IVec S16 32) (v177 : IVec S16 32) (k0_hw82 : k0_chk82 i v42 k0_t3 v175 v177), ∀ a x, ((![v175, v177, v42] : Fin 3 → IVec S16 32) a x).toNat < S2x8x16.size a := fun i v42 k0_t3 v175 v177 k0_hw82 => k0_hw82
def k0_off74 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_114 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk83 (i : grid0.Coords) (v46 : IVec S16 32) (k0_t3 : Fin (k0_t3_loop i).trips) (v182 : IVec S16 32) (v184 : IVec S16 32) : Prop :=
  (∀ a x, ((![v182, v184, v46] : Fin 3 → IVec S16 32) a x).toNat < S2x8x16.size a)
theorem k0_idx83_inb : ∀ (i : grid0.Coords) (v46 : IVec S16 32) (k0_t3 : Fin (k0_t3_loop i).trips) (v182 : IVec S16 32) (v184 : IVec S16 32) (k0_hw83 : k0_chk83 i v46 k0_t3 v182 v184), ∀ a x, ((![v182, v184, v46] : Fin 3 → IVec S16 32) a x).toNat < S2x8x16.size a := fun i v46 k0_t3 v182 v184 k0_hw83 => k0_hw83
def k0_off75 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_117 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk84 (i : grid0.Coords) (v50 : IVec S16 32) (k0_t3 : Fin (k0_t3_loop i).trips) (v189 : IVec S16 32) (v191 : IVec S16 32) : Prop :=
  (∀ a x, ((![v189, v191, v50] : Fin 3 → IVec S16 32) a x).toNat < S2x8x16.size a)
theorem k0_idx84_inb : ∀ (i : grid0.Coords) (v50 : IVec S16 32) (k0_t3 : Fin (k0_t3_loop i).trips) (v189 : IVec S16 32) (v191 : IVec S16 32) (k0_hw84 : k0_chk84 i v50 k0_t3 v189 v191), ∀ a x, ((![v189, v191, v50] : Fin 3 → IVec S16 32) a x).toNat < S2x8x16.size a := fun i v50 k0_t3 v189 v191 k0_hw84 => k0_hw84
def k0_off76 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_120 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk85 (i : grid0.Coords) (v54 : IVec S16 32) (k0_t3 : Fin (k0_t3_loop i).trips) (v196 : IVec S16 32) (v198 : IVec S16 32) : Prop :=
  (∀ a x, ((![v196, v198, v54] : Fin 3 → IVec S16 32) a x).toNat < S2x8x16.size a)
theorem k0_idx85_inb : ∀ (i : grid0.Coords) (v54 : IVec S16 32) (k0_t3 : Fin (k0_t3_loop i).trips) (v196 : IVec S16 32) (v198 : IVec S16 32) (k0_hw85 : k0_chk85 i v54 k0_t3 v196 v198), ∀ a x, ((![v196, v198, v54] : Fin 3 → IVec S16 32) a x).toNat < S2x8x16.size a := fun i v54 k0_t3 v196 v198 k0_hw85 => k0_hw85
def k0_off77 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_123 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk86 (i : grid0.Coords) (v58 : IVec S16 32) (k0_t3 : Fin (k0_t3_loop i).trips) (v203 : IVec S16 32) (v205 : IVec S16 32) : Prop :=
  (∀ a x, ((![v203, v205, v58] : Fin 3 → IVec S16 32) a x).toNat < S2x8x16.size a)
theorem k0_idx86_inb : ∀ (i : grid0.Coords) (v58 : IVec S16 32) (k0_t3 : Fin (k0_t3_loop i).trips) (v203 : IVec S16 32) (v205 : IVec S16 32) (k0_hw86 : k0_chk86 i v58 k0_t3 v203 v205), ∀ a x, ((![v203, v205, v58] : Fin 3 → IVec S16 32) a x).toNat < S2x8x16.size a := fun i v58 k0_t3 v203 v205 k0_hw86 => k0_hw86
def k0_off78 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_126 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk87 (i : grid0.Coords) (v62 : IVec S16 32) (k0_t3 : Fin (k0_t3_loop i).trips) (v210 : IVec S16 32) (v212 : IVec S16 32) : Prop :=
  (∀ a x, ((![v210, v212, v62] : Fin 3 → IVec S16 32) a x).toNat < S2x8x16.size a)
theorem k0_idx87_inb : ∀ (i : grid0.Coords) (v62 : IVec S16 32) (k0_t3 : Fin (k0_t3_loop i).trips) (v210 : IVec S16 32) (v212 : IVec S16 32) (k0_hw87 : k0_chk87 i v62 k0_t3 v210 v212), ∀ a x, ((![v210, v212, v62] : Fin 3 → IVec S16 32) a x).toNat < S2x8x16.size a := fun i v62 k0_t3 v210 v212 k0_hw87 => k0_hw87
def k0_off79 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_129 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk88 (i : grid0.Coords) (v66 : IVec S16 32) (k0_t3 : Fin (k0_t3_loop i).trips) (v217 : IVec S16 32) (v219 : IVec S16 32) : Prop :=
  (∀ a x, ((![v217, v219, v66] : Fin 3 → IVec S16 32) a x).toNat < S2x8x16.size a)
theorem k0_idx88_inb : ∀ (i : grid0.Coords) (v66 : IVec S16 32) (k0_t3 : Fin (k0_t3_loop i).trips) (v217 : IVec S16 32) (v219 : IVec S16 32) (k0_hw88 : k0_chk88 i v66 k0_t3 v217 v219), ∀ a x, ((![v217, v219, v66] : Fin 3 → IVec S16 32) a x).toNat < S2x8x16.size a := fun i v66 k0_t3 v217 v219 k0_hw88 => k0_hw88

def k0_chk89 (i : grid0.Coords) (k0_t3 : Fin (k0_t3_loop i).trips) (v226 : IVec S16 32) (v228 : IVec S16 32) : Prop :=
  (∀ a x, ((![v226, v228] : Fin 2 → IVec S16 32) a x).toNat < S512x128.size a)
theorem k0_idx89_inb : ∀ (i : grid0.Coords) (k0_t3 : Fin (k0_t3_loop i).trips) (v226 : IVec S16 32) (v228 : IVec S16 32) (k0_hw89 : k0_chk89 i k0_t3 v226 v228), ∀ a x, ((![v226, v228] : Fin 2 → IVec S16 32) a x).toNat < S512x128.size a := fun i k0_t3 v226 v228 k0_hw89 => k0_hw89

def k0_chk90 (i : grid0.Coords) (k0_t3 : Fin (k0_t3_loop i).trips) (v233 : IVec S16 32) (v235 : IVec S16 32) : Prop :=
  (∀ a x, ((![v233, v235] : Fin 2 → IVec S16 32) a x).toNat < S512x128.size a)
theorem k0_idx90_inb : ∀ (i : grid0.Coords) (k0_t3 : Fin (k0_t3_loop i).trips) (v233 : IVec S16 32) (v235 : IVec S16 32) (k0_hw90 : k0_chk90 i k0_t3 v233 v235), ∀ a x, ((![v233, v235] : Fin 2 → IVec S16 32) a x).toNat < S512x128.size a := fun i k0_t3 v233 v235 k0_hw90 => k0_hw90

def k0_chk91 (i : grid0.Coords) (k0_t3 : Fin (k0_t3_loop i).trips) (v240 : IVec S16 32) (v242 : IVec S16 32) : Prop :=
  (∀ a x, ((![v240, v242] : Fin 2 → IVec S16 32) a x).toNat < S512x128.size a)
theorem k0_idx91_inb : ∀ (i : grid0.Coords) (k0_t3 : Fin (k0_t3_loop i).trips) (v240 : IVec S16 32) (v242 : IVec S16 32) (k0_hw91 : k0_chk91 i k0_t3 v240 v242), ∀ a x, ((![v240, v242] : Fin 2 → IVec S16 32) a x).toNat < S512x128.size a := fun i k0_t3 v240 v242 k0_hw91 => k0_hw91

def k0_chk92 (i : grid0.Coords) (k0_t3 : Fin (k0_t3_loop i).trips) (v247 : IVec S16 32) (v249 : IVec S16 32) : Prop :=
  (∀ a x, ((![v247, v249] : Fin 2 → IVec S16 32) a x).toNat < S512x128.size a)
theorem k0_idx92_inb : ∀ (i : grid0.Coords) (k0_t3 : Fin (k0_t3_loop i).trips) (v247 : IVec S16 32) (v249 : IVec S16 32) (k0_hw92 : k0_chk92 i k0_t3 v247 v249), ∀ a x, ((![v247, v249] : Fin 2 → IVec S16 32) a x).toNat < S512x128.size a := fun i k0_t3 v247 v249 k0_hw92 => k0_hw92

def k0_chk93 (i : grid0.Coords) (k0_t3 : Fin (k0_t3_loop i).trips) (v254 : IVec S16 32) (v256 : IVec S16 32) : Prop :=
  (∀ a x, ((![v254, v256] : Fin 2 → IVec S16 32) a x).toNat < S512x128.size a)
theorem k0_idx93_inb : ∀ (i : grid0.Coords) (k0_t3 : Fin (k0_t3_loop i).trips) (v254 : IVec S16 32) (v256 : IVec S16 32) (k0_hw93 : k0_chk93 i k0_t3 v254 v256), ∀ a x, ((![v254, v256] : Fin 2 → IVec S16 32) a x).toNat < S512x128.size a := fun i k0_t3 v254 v256 k0_hw93 => k0_hw93

def k0_chk94 (i : grid0.Coords) (k0_t3 : Fin (k0_t3_loop i).trips) (v261 : IVec S16 32) (v263 : IVec S16 32) : Prop :=
  (∀ a x, ((![v261, v263] : Fin 2 → IVec S16 32) a x).toNat < S512x128.size a)
theorem k0_idx94_inb : ∀ (i : grid0.Coords) (k0_t3 : Fin (k0_t3_loop i).trips) (v261 : IVec S16 32) (v263 : IVec S16 32) (k0_hw94 : k0_chk94 i k0_t3 v261 v263), ∀ a x, ((![v261, v263] : Fin 2 → IVec S16 32) a x).toNat < S512x128.size a := fun i k0_t3 v261 v263 k0_hw94 => k0_hw94

def k0_chk95 (i : grid0.Coords) (k0_t3 : Fin (k0_t3_loop i).trips) (v268 : IVec S16 32) (v270 : IVec S16 32) : Prop :=
  (∀ a x, ((![v268, v270] : Fin 2 → IVec S16 32) a x).toNat < S512x128.size a)
theorem k0_idx95_inb : ∀ (i : grid0.Coords) (k0_t3 : Fin (k0_t3_loop i).trips) (v268 : IVec S16 32) (v270 : IVec S16 32) (k0_hw95 : k0_chk95 i k0_t3 v268 v270), ∀ a x, ((![v268, v270] : Fin 2 → IVec S16 32) a x).toNat < S512x128.size a := fun i k0_t3 v268 v270 k0_hw95 => k0_hw95

def k0_chk96 (i : grid0.Coords) (k0_t3 : Fin (k0_t3_loop i).trips) (v275 : IVec S16 32) (v277 : IVec S16 32) : Prop :=
  (∀ a x, ((![v275, v277] : Fin 2 → IVec S16 32) a x).toNat < S512x128.size a)
theorem k0_idx96_inb : ∀ (i : grid0.Coords) (k0_t3 : Fin (k0_t3_loop i).trips) (v275 : IVec S16 32) (v277 : IVec S16 32) (k0_hw96 : k0_chk96 i k0_t3 v275 v277), ∀ a x, ((![v275, v277] : Fin 2 → IVec S16 32) a x).toNat < S512x128.size a := fun i k0_t3 v275 v277 k0_hw96 => k0_hw96

def k0_chk97 (i : grid0.Coords) (k0_t3 : Fin (k0_t3_loop i).trips) (v280 : IVec S16 32) (v284 : IVec S16 32) : Prop :=
  (∀ a x, ((![v280, v284] : Fin 2 → IVec S16 32) a x).toNat < S512x128.size a)
theorem k0_idx97_inb : ∀ (i : grid0.Coords) (k0_t3 : Fin (k0_t3_loop i).trips) (v280 : IVec S16 32) (v284 : IVec S16 32) (k0_hw97 : k0_chk97 i k0_t3 v280 v284), ∀ a x, ((![v280, v284] : Fin 2 → IVec S16 32) a x).toNat < S512x128.size a := fun i k0_t3 v280 v284 k0_hw97 => k0_hw97

def k0_chk98 (i : grid0.Coords) (k0_t3 : Fin (k0_t3_loop i).trips) (v287 : IVec S16 32) (v291 : IVec S16 32) : Prop :=
  (∀ a x, ((![v287, v291] : Fin 2 → IVec S16 32) a x).toNat < S512x128.size a)
theorem k0_idx98_inb : ∀ (i : grid0.Coords) (k0_t3 : Fin (k0_t3_loop i).trips) (v287 : IVec S16 32) (v291 : IVec S16 32) (k0_hw98 : k0_chk98 i k0_t3 v287 v291), ∀ a x, ((![v287, v291] : Fin 2 → IVec S16 32) a x).toNat < S512x128.size a := fun i k0_t3 v287 v291 k0_hw98 => k0_hw98

def k0_chk99 (i : grid0.Coords) (k0_t3 : Fin (k0_t3_loop i).trips) (v294 : IVec S16 32) (v298 : IVec S16 32) : Prop :=
  (∀ a x, ((![v294, v298] : Fin 2 → IVec S16 32) a x).toNat < S512x128.size a)
theorem k0_idx99_inb : ∀ (i : grid0.Coords) (k0_t3 : Fin (k0_t3_loop i).trips) (v294 : IVec S16 32) (v298 : IVec S16 32) (k0_hw99 : k0_chk99 i k0_t3 v294 v298), ∀ a x, ((![v294, v298] : Fin 2 → IVec S16 32) a x).toNat < S512x128.size a := fun i k0_t3 v294 v298 k0_hw99 => k0_hw99

def k0_chk100 (i : grid0.Coords) (k0_t3 : Fin (k0_t3_loop i).trips) (v301 : IVec S16 32) (v305 : IVec S16 32) : Prop :=
  (∀ a x, ((![v301, v305] : Fin 2 → IVec S16 32) a x).toNat < S512x128.size a)
theorem k0_idx100_inb : ∀ (i : grid0.Coords) (k0_t3 : Fin (k0_t3_loop i).trips) (v301 : IVec S16 32) (v305 : IVec S16 32) (k0_hw100 : k0_chk100 i k0_t3 v301 v305), ∀ a x, ((![v301, v305] : Fin 2 → IVec S16 32) a x).toNat < S512x128.size a := fun i k0_t3 v301 v305 k0_hw100 => k0_hw100

def k0_chk101 (i : grid0.Coords) (k0_t3 : Fin (k0_t3_loop i).trips) (v308 : IVec S16 32) (v312 : IVec S16 32) : Prop :=
  (∀ a x, ((![v308, v312] : Fin 2 → IVec S16 32) a x).toNat < S512x128.size a)
theorem k0_idx101_inb : ∀ (i : grid0.Coords) (k0_t3 : Fin (k0_t3_loop i).trips) (v308 : IVec S16 32) (v312 : IVec S16 32) (k0_hw101 : k0_chk101 i k0_t3 v308 v312), ∀ a x, ((![v308, v312] : Fin 2 → IVec S16 32) a x).toNat < S512x128.size a := fun i k0_t3 v308 v312 k0_hw101 => k0_hw101

def k0_chk102 (i : grid0.Coords) (k0_t3 : Fin (k0_t3_loop i).trips) (v315 : IVec S16 32) (v319 : IVec S16 32) : Prop :=
  (∀ a x, ((![v315, v319] : Fin 2 → IVec S16 32) a x).toNat < S512x128.size a)
theorem k0_idx102_inb : ∀ (i : grid0.Coords) (k0_t3 : Fin (k0_t3_loop i).trips) (v315 : IVec S16 32) (v319 : IVec S16 32) (k0_hw102 : k0_chk102 i k0_t3 v315 v319), ∀ a x, ((![v315, v319] : Fin 2 → IVec S16 32) a x).toNat < S512x128.size a := fun i k0_t3 v315 v319 k0_hw102 => k0_hw102

def k0_chk103 (i : grid0.Coords) (k0_t3 : Fin (k0_t3_loop i).trips) (v322 : IVec S16 32) (v326 : IVec S16 32) : Prop :=
  (∀ a x, ((![v322, v326] : Fin 2 → IVec S16 32) a x).toNat < S512x128.size a)
theorem k0_idx103_inb : ∀ (i : grid0.Coords) (k0_t3 : Fin (k0_t3_loop i).trips) (v322 : IVec S16 32) (v326 : IVec S16 32) (k0_hw103 : k0_chk103 i k0_t3 v322 v326), ∀ a x, ((![v322, v326] : Fin 2 → IVec S16 32) a x).toNat < S512x128.size a := fun i k0_t3 v322 v326 k0_hw103 => k0_hw103

def k0_chk104 (i : grid0.Coords) (k0_t3 : Fin (k0_t3_loop i).trips) (v329 : IVec S16 32) (v333 : IVec S16 32) : Prop :=
  (∀ a x, ((![v329, v333] : Fin 2 → IVec S16 32) a x).toNat < S512x128.size a)
theorem k0_idx104_inb : ∀ (i : grid0.Coords) (k0_t3 : Fin (k0_t3_loop i).trips) (v329 : IVec S16 32) (v333 : IVec S16 32) (k0_hw104 : k0_chk104 i k0_t3 v329 v333), ∀ a x, ((![v329, v333] : Fin 2 → IVec S16 32) a x).toNat < S512x128.size a := fun i k0_t3 v329 v333 k0_hw104 => k0_hw104
def k0_off80 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_178 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk105 (i : grid0.Coords) (v34 : IVec S16 32) (k0_t3 : Fin (k0_t3_loop i).trips) (v336 : IVec S16 32) (v340 : IVec S16 32) : Prop :=
  (∀ a x, ((![v336, v340, v34] : Fin 3 → IVec S16 32) a x).toNat < S8x4x16.size a)
theorem k0_idx105_inb : ∀ (i : grid0.Coords) (v34 : IVec S16 32) (k0_t3 : Fin (k0_t3_loop i).trips) (v336 : IVec S16 32) (v340 : IVec S16 32) (k0_hw105 : k0_chk105 i v34 k0_t3 v336 v340), ∀ a x, ((![v336, v340, v34] : Fin 3 → IVec S16 32) a x).toNat < S8x4x16.size a := fun i v34 k0_t3 v336 v340 k0_hw105 => k0_hw105
def k0_off81 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_183 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk106 (i : grid0.Coords) (v34 : IVec S16 32) (k0_t3 : Fin (k0_t3_loop i).trips) (v344 : IVec S16 32) (v350 : IVec S16 32) : Prop :=
  (∀ a x, ((![v344, v350, v34] : Fin 3 → IVec S16 32) a x).toNat < S8x4x16.size a)
theorem k0_idx106_inb : ∀ (i : grid0.Coords) (v34 : IVec S16 32) (k0_t3 : Fin (k0_t3_loop i).trips) (v344 : IVec S16 32) (v350 : IVec S16 32) (k0_hw106 : k0_chk106 i v34 k0_t3 v344 v350), ∀ a x, ((![v344, v350, v34] : Fin 3 → IVec S16 32) a x).toNat < S8x4x16.size a := fun i v34 k0_t3 v344 v350 k0_hw106 => k0_hw106
def k0_off82 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_187 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk107 (i : grid0.Coords) (v34 : IVec S16 32) (k0_t3 : Fin (k0_t3_loop i).trips) (v354 : IVec S16 32) (v358 : IVec S16 32) : Prop :=
  (∀ a x, ((![v354, v358, v34] : Fin 3 → IVec S16 32) a x).toNat < S8x4x16.size a)
theorem k0_idx107_inb : ∀ (i : grid0.Coords) (v34 : IVec S16 32) (k0_t3 : Fin (k0_t3_loop i).trips) (v354 : IVec S16 32) (v358 : IVec S16 32) (k0_hw107 : k0_chk107 i v34 k0_t3 v354 v358), ∀ a x, ((![v354, v358, v34] : Fin 3 → IVec S16 32) a x).toNat < S8x4x16.size a := fun i v34 k0_t3 v354 v358 k0_hw107 => k0_hw107
def k0_off83 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_192 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk108 (i : grid0.Coords) (v34 : IVec S16 32) (k0_t3 : Fin (k0_t3_loop i).trips) (v362 : IVec S16 32) (v368 : IVec S16 32) : Prop :=
  (∀ a x, ((![v362, v368, v34] : Fin 3 → IVec S16 32) a x).toNat < S8x4x16.size a)
theorem k0_idx108_inb : ∀ (i : grid0.Coords) (v34 : IVec S16 32) (k0_t3 : Fin (k0_t3_loop i).trips) (v362 : IVec S16 32) (v368 : IVec S16 32) (k0_hw108 : k0_chk108 i v34 k0_t3 v362 v368), ∀ a x, ((![v362, v368, v34] : Fin 3 → IVec S16 32) a x).toNat < S8x4x16.size a := fun i v34 k0_t3 v362 v368 k0_hw108 => k0_hw108
def k0_off84 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_196 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk109 (i : grid0.Coords) (v34 : IVec S16 32) (k0_t3 : Fin (k0_t3_loop i).trips) (v372 : IVec S16 32) (v376 : IVec S16 32) : Prop :=
  (∀ a x, ((![v372, v376, v34] : Fin 3 → IVec S16 32) a x).toNat < S8x4x16.size a)
theorem k0_idx109_inb : ∀ (i : grid0.Coords) (v34 : IVec S16 32) (k0_t3 : Fin (k0_t3_loop i).trips) (v372 : IVec S16 32) (v376 : IVec S16 32) (k0_hw109 : k0_chk109 i v34 k0_t3 v372 v376), ∀ a x, ((![v372, v376, v34] : Fin 3 → IVec S16 32) a x).toNat < S8x4x16.size a := fun i v34 k0_t3 v372 v376 k0_hw109 => k0_hw109
def k0_off85 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_201 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk110 (i : grid0.Coords) (v34 : IVec S16 32) (k0_t3 : Fin (k0_t3_loop i).trips) (v380 : IVec S16 32) (v386 : IVec S16 32) : Prop :=
  (∀ a x, ((![v380, v386, v34] : Fin 3 → IVec S16 32) a x).toNat < S8x4x16.size a)
theorem k0_idx110_inb : ∀ (i : grid0.Coords) (v34 : IVec S16 32) (k0_t3 : Fin (k0_t3_loop i).trips) (v380 : IVec S16 32) (v386 : IVec S16 32) (k0_hw110 : k0_chk110 i v34 k0_t3 v380 v386), ∀ a x, ((![v380, v386, v34] : Fin 3 → IVec S16 32) a x).toNat < S8x4x16.size a := fun i v34 k0_t3 v380 v386 k0_hw110 => k0_hw110
def k0_off86 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_205 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk111 (i : grid0.Coords) (v34 : IVec S16 32) (k0_t3 : Fin (k0_t3_loop i).trips) (v390 : IVec S16 32) (v394 : IVec S16 32) : Prop :=
  (∀ a x, ((![v390, v394, v34] : Fin 3 → IVec S16 32) a x).toNat < S8x4x16.size a)
theorem k0_idx111_inb : ∀ (i : grid0.Coords) (v34 : IVec S16 32) (k0_t3 : Fin (k0_t3_loop i).trips) (v390 : IVec S16 32) (v394 : IVec S16 32) (k0_hw111 : k0_chk111 i v34 k0_t3 v390 v394), ∀ a x, ((![v390, v394, v34] : Fin 3 → IVec S16 32) a x).toNat < S8x4x16.size a := fun i v34 k0_t3 v390 v394 k0_hw111 => k0_hw111
def k0_off87 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_210 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk112 (i : grid0.Coords) (v34 : IVec S16 32) (k0_t3 : Fin (k0_t3_loop i).trips) (v398 : IVec S16 32) (v404 : IVec S16 32) : Prop :=
  (∀ a x, ((![v398, v404, v34] : Fin 3 → IVec S16 32) a x).toNat < S8x4x16.size a)
theorem k0_idx112_inb : ∀ (i : grid0.Coords) (v34 : IVec S16 32) (k0_t3 : Fin (k0_t3_loop i).trips) (v398 : IVec S16 32) (v404 : IVec S16 32) (k0_hw112 : k0_chk112 i v34 k0_t3 v398 v404), ∀ a x, ((![v398, v404, v34] : Fin 3 → IVec S16 32) a x).toNat < S8x4x16.size a := fun i v34 k0_t3 v398 v404 k0_hw112 => k0_hw112
def k0_off88 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_214 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk113 (i : grid0.Coords) (v34 : IVec S16 32) (k0_t3 : Fin (k0_t3_loop i).trips) (v408 : IVec S16 32) (v412 : IVec S16 32) : Prop :=
  (∀ a x, ((![v408, v412, v34] : Fin 3 → IVec S16 32) a x).toNat < S8x4x16.size a)
theorem k0_idx113_inb : ∀ (i : grid0.Coords) (v34 : IVec S16 32) (k0_t3 : Fin (k0_t3_loop i).trips) (v408 : IVec S16 32) (v412 : IVec S16 32) (k0_hw113 : k0_chk113 i v34 k0_t3 v408 v412), ∀ a x, ((![v408, v412, v34] : Fin 3 → IVec S16 32) a x).toNat < S8x4x16.size a := fun i v34 k0_t3 v408 v412 k0_hw113 => k0_hw113
def k0_off89 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_219 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk114 (i : grid0.Coords) (v34 : IVec S16 32) (k0_t3 : Fin (k0_t3_loop i).trips) (v416 : IVec S16 32) (v422 : IVec S16 32) : Prop :=
  (∀ a x, ((![v416, v422, v34] : Fin 3 → IVec S16 32) a x).toNat < S8x4x16.size a)
theorem k0_idx114_inb : ∀ (i : grid0.Coords) (v34 : IVec S16 32) (k0_t3 : Fin (k0_t3_loop i).trips) (v416 : IVec S16 32) (v422 : IVec S16 32) (k0_hw114 : k0_chk114 i v34 k0_t3 v416 v422), ∀ a x, ((![v416, v422, v34] : Fin 3 → IVec S16 32) a x).toNat < S8x4x16.size a := fun i v34 k0_t3 v416 v422 k0_hw114 => k0_hw114
def k0_off90 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_223 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk115 (i : grid0.Coords) (v34 : IVec S16 32) (k0_t3 : Fin (k0_t3_loop i).trips) (v426 : IVec S16 32) (v430 : IVec S16 32) : Prop :=
  (∀ a x, ((![v426, v430, v34] : Fin 3 → IVec S16 32) a x).toNat < S8x4x16.size a)
theorem k0_idx115_inb : ∀ (i : grid0.Coords) (v34 : IVec S16 32) (k0_t3 : Fin (k0_t3_loop i).trips) (v426 : IVec S16 32) (v430 : IVec S16 32) (k0_hw115 : k0_chk115 i v34 k0_t3 v426 v430), ∀ a x, ((![v426, v430, v34] : Fin 3 → IVec S16 32) a x).toNat < S8x4x16.size a := fun i v34 k0_t3 v426 v430 k0_hw115 => k0_hw115
def k0_off91 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_228 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk116 (i : grid0.Coords) (v34 : IVec S16 32) (k0_t3 : Fin (k0_t3_loop i).trips) (v434 : IVec S16 32) (v440 : IVec S16 32) : Prop :=
  (∀ a x, ((![v434, v440, v34] : Fin 3 → IVec S16 32) a x).toNat < S8x4x16.size a)
theorem k0_idx116_inb : ∀ (i : grid0.Coords) (v34 : IVec S16 32) (k0_t3 : Fin (k0_t3_loop i).trips) (v434 : IVec S16 32) (v440 : IVec S16 32) (k0_hw116 : k0_chk116 i v34 k0_t3 v434 v440), ∀ a x, ((![v434, v440, v34] : Fin 3 → IVec S16 32) a x).toNat < S8x4x16.size a := fun i v34 k0_t3 v434 v440 k0_hw116 => k0_hw116
def k0_off92 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_232 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk117 (i : grid0.Coords) (v34 : IVec S16 32) (k0_t3 : Fin (k0_t3_loop i).trips) (v444 : IVec S16 32) (v448 : IVec S16 32) : Prop :=
  (∀ a x, ((![v444, v448, v34] : Fin 3 → IVec S16 32) a x).toNat < S8x4x16.size a)
theorem k0_idx117_inb : ∀ (i : grid0.Coords) (v34 : IVec S16 32) (k0_t3 : Fin (k0_t3_loop i).trips) (v444 : IVec S16 32) (v448 : IVec S16 32) (k0_hw117 : k0_chk117 i v34 k0_t3 v444 v448), ∀ a x, ((![v444, v448, v34] : Fin 3 → IVec S16 32) a x).toNat < S8x4x16.size a := fun i v34 k0_t3 v444 v448 k0_hw117 => k0_hw117
def k0_off93 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_237 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk118 (i : grid0.Coords) (v34 : IVec S16 32) (k0_t3 : Fin (k0_t3_loop i).trips) (v452 : IVec S16 32) (v458 : IVec S16 32) : Prop :=
  (∀ a x, ((![v452, v458, v34] : Fin 3 → IVec S16 32) a x).toNat < S8x4x16.size a)
theorem k0_idx118_inb : ∀ (i : grid0.Coords) (v34 : IVec S16 32) (k0_t3 : Fin (k0_t3_loop i).trips) (v452 : IVec S16 32) (v458 : IVec S16 32) (k0_hw118 : k0_chk118 i v34 k0_t3 v452 v458), ∀ a x, ((![v452, v458, v34] : Fin 3 → IVec S16 32) a x).toNat < S8x4x16.size a := fun i v34 k0_t3 v452 v458 k0_hw118 => k0_hw118
def k0_off94 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_241 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk119 (i : grid0.Coords) (v34 : IVec S16 32) (k0_t3 : Fin (k0_t3_loop i).trips) (v462 : IVec S16 32) (v466 : IVec S16 32) : Prop :=
  (∀ a x, ((![v462, v466, v34] : Fin 3 → IVec S16 32) a x).toNat < S8x4x16.size a)
theorem k0_idx119_inb : ∀ (i : grid0.Coords) (v34 : IVec S16 32) (k0_t3 : Fin (k0_t3_loop i).trips) (v462 : IVec S16 32) (v466 : IVec S16 32) (k0_hw119 : k0_chk119 i v34 k0_t3 v462 v466), ∀ a x, ((![v462, v466, v34] : Fin 3 → IVec S16 32) a x).toNat < S8x4x16.size a := fun i v34 k0_t3 v462 v466 k0_hw119 => k0_hw119
def k0_off95 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_246 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk120 (i : grid0.Coords) (v34 : IVec S16 32) (k0_t3 : Fin (k0_t3_loop i).trips) (v470 : IVec S16 32) (v476 : IVec S16 32) : Prop :=
  (∀ a x, ((![v470, v476, v34] : Fin 3 → IVec S16 32) a x).toNat < S8x4x16.size a)
theorem k0_idx120_inb : ∀ (i : grid0.Coords) (v34 : IVec S16 32) (k0_t3 : Fin (k0_t3_loop i).trips) (v470 : IVec S16 32) (v476 : IVec S16 32) (k0_hw120 : k0_chk120 i v34 k0_t3 v470 v476), ∀ a x, ((![v470, v476, v34] : Fin 3 → IVec S16 32) a x).toNat < S8x4x16.size a := fun i v34 k0_t3 v470 v476 k0_hw120 => k0_hw120
def k0_off96 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_249 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk121 (i : grid0.Coords) (v70 : IVec S16 32) (k0_t3 : Fin (k0_t3_loop i).trips) (v480 : IVec S16 32) (v482 : IVec S16 32) : Prop :=
  (∀ a x, ((![v480, v482, v70] : Fin 3 → IVec S16 32) a x).toNat < S2x8x16.size a)
theorem k0_idx121_inb : ∀ (i : grid0.Coords) (v70 : IVec S16 32) (k0_t3 : Fin (k0_t3_loop i).trips) (v480 : IVec S16 32) (v482 : IVec S16 32) (k0_hw121 : k0_chk121 i v70 k0_t3 v480 v482), ∀ a x, ((![v480, v482, v70] : Fin 3 → IVec S16 32) a x).toNat < S2x8x16.size a := fun i v70 k0_t3 v480 v482 k0_hw121 => k0_hw121
def k0_off97 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_252 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk122 (i : grid0.Coords) (v74 : IVec S16 32) (k0_t3 : Fin (k0_t3_loop i).trips) (v487 : IVec S16 32) (v489 : IVec S16 32) : Prop :=
  (∀ a x, ((![v487, v489, v74] : Fin 3 → IVec S16 32) a x).toNat < S2x8x16.size a)
theorem k0_idx122_inb : ∀ (i : grid0.Coords) (v74 : IVec S16 32) (k0_t3 : Fin (k0_t3_loop i).trips) (v487 : IVec S16 32) (v489 : IVec S16 32) (k0_hw122 : k0_chk122 i v74 k0_t3 v487 v489), ∀ a x, ((![v487, v489, v74] : Fin 3 → IVec S16 32) a x).toNat < S2x8x16.size a := fun i v74 k0_t3 v487 v489 k0_hw122 => k0_hw122
def k0_off98 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_255 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk123 (i : grid0.Coords) (v78 : IVec S16 32) (k0_t3 : Fin (k0_t3_loop i).trips) (v494 : IVec S16 32) (v496 : IVec S16 32) : Prop :=
  (∀ a x, ((![v494, v496, v78] : Fin 3 → IVec S16 32) a x).toNat < S2x8x16.size a)
theorem k0_idx123_inb : ∀ (i : grid0.Coords) (v78 : IVec S16 32) (k0_t3 : Fin (k0_t3_loop i).trips) (v494 : IVec S16 32) (v496 : IVec S16 32) (k0_hw123 : k0_chk123 i v78 k0_t3 v494 v496), ∀ a x, ((![v494, v496, v78] : Fin 3 → IVec S16 32) a x).toNat < S2x8x16.size a := fun i v78 k0_t3 v494 v496 k0_hw123 => k0_hw123
def k0_off99 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_258 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk124 (i : grid0.Coords) (v82 : IVec S16 32) (k0_t3 : Fin (k0_t3_loop i).trips) (v501 : IVec S16 32) (v503 : IVec S16 32) : Prop :=
  (∀ a x, ((![v501, v503, v82] : Fin 3 → IVec S16 32) a x).toNat < S2x8x16.size a)
theorem k0_idx124_inb : ∀ (i : grid0.Coords) (v82 : IVec S16 32) (k0_t3 : Fin (k0_t3_loop i).trips) (v501 : IVec S16 32) (v503 : IVec S16 32) (k0_hw124 : k0_chk124 i v82 k0_t3 v501 v503), ∀ a x, ((![v501, v503, v82] : Fin 3 → IVec S16 32) a x).toNat < S2x8x16.size a := fun i v82 k0_t3 v501 v503 k0_hw124 => k0_hw124
def k0_off100 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_261 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk125 (i : grid0.Coords) (v86 : IVec S16 32) (k0_t3 : Fin (k0_t3_loop i).trips) (v508 : IVec S16 32) (v510 : IVec S16 32) : Prop :=
  (∀ a x, ((![v508, v510, v86] : Fin 3 → IVec S16 32) a x).toNat < S2x8x16.size a)
theorem k0_idx125_inb : ∀ (i : grid0.Coords) (v86 : IVec S16 32) (k0_t3 : Fin (k0_t3_loop i).trips) (v508 : IVec S16 32) (v510 : IVec S16 32) (k0_hw125 : k0_chk125 i v86 k0_t3 v508 v510), ∀ a x, ((![v508, v510, v86] : Fin 3 → IVec S16 32) a x).toNat < S2x8x16.size a := fun i v86 k0_t3 v508 v510 k0_hw125 => k0_hw125
def k0_off101 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_264 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk126 (i : grid0.Coords) (v90 : IVec S16 32) (k0_t3 : Fin (k0_t3_loop i).trips) (v515 : IVec S16 32) (v517 : IVec S16 32) : Prop :=
  (∀ a x, ((![v515, v517, v90] : Fin 3 → IVec S16 32) a x).toNat < S2x8x16.size a)
theorem k0_idx126_inb : ∀ (i : grid0.Coords) (v90 : IVec S16 32) (k0_t3 : Fin (k0_t3_loop i).trips) (v515 : IVec S16 32) (v517 : IVec S16 32) (k0_hw126 : k0_chk126 i v90 k0_t3 v515 v517), ∀ a x, ((![v515, v517, v90] : Fin 3 → IVec S16 32) a x).toNat < S2x8x16.size a := fun i v90 k0_t3 v515 v517 k0_hw126 => k0_hw126
def k0_off102 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_267 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk127 (i : grid0.Coords) (v94 : IVec S16 32) (k0_t3 : Fin (k0_t3_loop i).trips) (v522 : IVec S16 32) (v524 : IVec S16 32) : Prop :=
  (∀ a x, ((![v522, v524, v94] : Fin 3 → IVec S16 32) a x).toNat < S2x8x16.size a)
theorem k0_idx127_inb : ∀ (i : grid0.Coords) (v94 : IVec S16 32) (k0_t3 : Fin (k0_t3_loop i).trips) (v522 : IVec S16 32) (v524 : IVec S16 32) (k0_hw127 : k0_chk127 i v94 k0_t3 v522 v524), ∀ a x, ((![v522, v524, v94] : Fin 3 → IVec S16 32) a x).toNat < S2x8x16.size a := fun i v94 k0_t3 v522 v524 k0_hw127 => k0_hw127
def k0_off103 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_101 : BitVec 32 := 8#32
  let v162 : BitVec 32 := Scalar.remsi v160 c8_i32_101
  let c2_i32_102 : BitVec 32 := 2#32
  let v163 : BitVec 32 := Scalar.muli v162 c2_i32_102
  let c0_i32_270 : BitVec 32 := 0#32
  let c8_i32_100 : BitVec 32 := 8#32
  let v161 : BitVec 32 := Scalar.divsi v160 c8_i32_100
  let c16_i32_103 : BitVec 32 := 16#32
  let v164 : BitVec 32 := Scalar.muli v161 c16_i32_103
  ![v116.toNat, v163.toNat, 0, v164.toNat]

def k0_chk128 (i : grid0.Coords) (v98 : IVec S16 32) (k0_t3 : Fin (k0_t3_loop i).trips) (v529 : IVec S16 32) (v531 : IVec S16 32) : Prop :=
  (∀ a x, ((![v529, v531, v98] : Fin 3 → IVec S16 32) a x).toNat < S2x8x16.size a)
theorem k0_idx128_inb : ∀ (i : grid0.Coords) (v98 : IVec S16 32) (k0_t3 : Fin (k0_t3_loop i).trips) (v529 : IVec S16 32) (v531 : IVec S16 32) (k0_hw128 : k0_chk128 i v98 k0_t3 v529 v531), ∀ a x, ((![v529, v531, v98] : Fin 3 → IVec S16 32) a x).toNat < S2x8x16.size a := fun i v98 k0_t3 v529 v531 k0_hw128 => k0_hw128

def k0_chk129 (i : grid0.Coords) (k0_t3 : Fin (k0_t3_loop i).trips) (v538 : IVec S16 32) (v540 : IVec S16 32) : Prop :=
  (∀ a x, ((![v538, v540] : Fin 2 → IVec S16 32) a x).toNat < S512x128.size a)
theorem k0_idx129_inb : ∀ (i : grid0.Coords) (k0_t3 : Fin (k0_t3_loop i).trips) (v538 : IVec S16 32) (v540 : IVec S16 32) (k0_hw129 : k0_chk129 i k0_t3 v538 v540), ∀ a x, ((![v538, v540] : Fin 2 → IVec S16 32) a x).toNat < S512x128.size a := fun i k0_t3 v538 v540 k0_hw129 => k0_hw129

def k0_chk130 (i : grid0.Coords) (k0_t3 : Fin (k0_t3_loop i).trips) (v545 : IVec S16 32) (v547 : IVec S16 32) : Prop :=
  (∀ a x, ((![v545, v547] : Fin 2 → IVec S16 32) a x).toNat < S512x128.size a)
theorem k0_idx130_inb : ∀ (i : grid0.Coords) (k0_t3 : Fin (k0_t3_loop i).trips) (v545 : IVec S16 32) (v547 : IVec S16 32) (k0_hw130 : k0_chk130 i k0_t3 v545 v547), ∀ a x, ((![v545, v547] : Fin 2 → IVec S16 32) a x).toNat < S512x128.size a := fun i k0_t3 v545 v547 k0_hw130 => k0_hw130

def k0_chk131 (i : grid0.Coords) (k0_t3 : Fin (k0_t3_loop i).trips) (v552 : IVec S16 32) (v554 : IVec S16 32) : Prop :=
  (∀ a x, ((![v552, v554] : Fin 2 → IVec S16 32) a x).toNat < S512x128.size a)
theorem k0_idx131_inb : ∀ (i : grid0.Coords) (k0_t3 : Fin (k0_t3_loop i).trips) (v552 : IVec S16 32) (v554 : IVec S16 32) (k0_hw131 : k0_chk131 i k0_t3 v552 v554), ∀ a x, ((![v552, v554] : Fin 2 → IVec S16 32) a x).toNat < S512x128.size a := fun i k0_t3 v552 v554 k0_hw131 => k0_hw131

def k0_chk132 (i : grid0.Coords) (k0_t3 : Fin (k0_t3_loop i).trips) (v559 : IVec S16 32) (v561 : IVec S16 32) : Prop :=
  (∀ a x, ((![v559, v561] : Fin 2 → IVec S16 32) a x).toNat < S512x128.size a)
theorem k0_idx132_inb : ∀ (i : grid0.Coords) (k0_t3 : Fin (k0_t3_loop i).trips) (v559 : IVec S16 32) (v561 : IVec S16 32) (k0_hw132 : k0_chk132 i k0_t3 v559 v561), ∀ a x, ((![v559, v561] : Fin 2 → IVec S16 32) a x).toNat < S512x128.size a := fun i k0_t3 v559 v561 k0_hw132 => k0_hw132

def k0_chk133 (i : grid0.Coords) (k0_t3 : Fin (k0_t3_loop i).trips) (v566 : IVec S16 32) (v568 : IVec S16 32) : Prop :=
  (∀ a x, ((![v566, v568] : Fin 2 → IVec S16 32) a x).toNat < S512x128.size a)
theorem k0_idx133_inb : ∀ (i : grid0.Coords) (k0_t3 : Fin (k0_t3_loop i).trips) (v566 : IVec S16 32) (v568 : IVec S16 32) (k0_hw133 : k0_chk133 i k0_t3 v566 v568), ∀ a x, ((![v566, v568] : Fin 2 → IVec S16 32) a x).toNat < S512x128.size a := fun i k0_t3 v566 v568 k0_hw133 => k0_hw133

def k0_chk134 (i : grid0.Coords) (k0_t3 : Fin (k0_t3_loop i).trips) (v573 : IVec S16 32) (v575 : IVec S16 32) : Prop :=
  (∀ a x, ((![v573, v575] : Fin 2 → IVec S16 32) a x).toNat < S512x128.size a)
theorem k0_idx134_inb : ∀ (i : grid0.Coords) (k0_t3 : Fin (k0_t3_loop i).trips) (v573 : IVec S16 32) (v575 : IVec S16 32) (k0_hw134 : k0_chk134 i k0_t3 v573 v575), ∀ a x, ((![v573, v575] : Fin 2 → IVec S16 32) a x).toNat < S512x128.size a := fun i k0_t3 v573 v575 k0_hw134 => k0_hw134

def k0_chk135 (i : grid0.Coords) (k0_t3 : Fin (k0_t3_loop i).trips) (v580 : IVec S16 32) (v582 : IVec S16 32) : Prop :=
  (∀ a x, ((![v580, v582] : Fin 2 → IVec S16 32) a x).toNat < S512x128.size a)
theorem k0_idx135_inb : ∀ (i : grid0.Coords) (k0_t3 : Fin (k0_t3_loop i).trips) (v580 : IVec S16 32) (v582 : IVec S16 32) (k0_hw135 : k0_chk135 i k0_t3 v580 v582), ∀ a x, ((![v580, v582] : Fin 2 → IVec S16 32) a x).toNat < S512x128.size a := fun i k0_t3 v580 v582 k0_hw135 => k0_hw135

def k0_chk136 (i : grid0.Coords) (k0_t3 : Fin (k0_t3_loop i).trips) (v587 : IVec S16 32) (v589 : IVec S16 32) : Prop :=
  (∀ a x, ((![v587, v589] : Fin 2 → IVec S16 32) a x).toNat < S512x128.size a)
theorem k0_idx136_inb : ∀ (i : grid0.Coords) (k0_t3 : Fin (k0_t3_loop i).trips) (v587 : IVec S16 32) (v589 : IVec S16 32) (k0_hw136 : k0_chk136 i k0_t3 v587 v589), ∀ a x, ((![v587, v589] : Fin 2 → IVec S16 32) a x).toNat < S512x128.size a := fun i k0_t3 v587 v589 k0_hw136 => k0_hw136

def k0_chk137 (i : grid0.Coords) (k0_t3 : Fin (k0_t3_loop i).trips) (v592 : IVec S16 32) (v596 : IVec S16 32) : Prop :=
  (∀ a x, ((![v592, v596] : Fin 2 → IVec S16 32) a x).toNat < S512x128.size a)
theorem k0_idx137_inb : ∀ (i : grid0.Coords) (k0_t3 : Fin (k0_t3_loop i).trips) (v592 : IVec S16 32) (v596 : IVec S16 32) (k0_hw137 : k0_chk137 i k0_t3 v592 v596), ∀ a x, ((![v592, v596] : Fin 2 → IVec S16 32) a x).toNat < S512x128.size a := fun i k0_t3 v592 v596 k0_hw137 => k0_hw137

def k0_chk138 (i : grid0.Coords) (k0_t3 : Fin (k0_t3_loop i).trips) (v599 : IVec S16 32) (v603 : IVec S16 32) : Prop :=
  (∀ a x, ((![v599, v603] : Fin 2 → IVec S16 32) a x).toNat < S512x128.size a)
theorem k0_idx138_inb : ∀ (i : grid0.Coords) (k0_t3 : Fin (k0_t3_loop i).trips) (v599 : IVec S16 32) (v603 : IVec S16 32) (k0_hw138 : k0_chk138 i k0_t3 v599 v603), ∀ a x, ((![v599, v603] : Fin 2 → IVec S16 32) a x).toNat < S512x128.size a := fun i k0_t3 v599 v603 k0_hw138 => k0_hw138

def k0_chk139 (i : grid0.Coords) (k0_t3 : Fin (k0_t3_loop i).trips) (v606 : IVec S16 32) (v610 : IVec S16 32) : Prop :=
  (∀ a x, ((![v606, v610] : Fin 2 → IVec S16 32) a x).toNat < S512x128.size a)
theorem k0_idx139_inb : ∀ (i : grid0.Coords) (k0_t3 : Fin (k0_t3_loop i).trips) (v606 : IVec S16 32) (v610 : IVec S16 32) (k0_hw139 : k0_chk139 i k0_t3 v606 v610), ∀ a x, ((![v606, v610] : Fin 2 → IVec S16 32) a x).toNat < S512x128.size a := fun i k0_t3 v606 v610 k0_hw139 => k0_hw139

def k0_chk140 (i : grid0.Coords) (k0_t3 : Fin (k0_t3_loop i).trips) (v613 : IVec S16 32) (v617 : IVec S16 32) : Prop :=
  (∀ a x, ((![v613, v617] : Fin 2 → IVec S16 32) a x).toNat < S512x128.size a)
theorem k0_idx140_inb : ∀ (i : grid0.Coords) (k0_t3 : Fin (k0_t3_loop i).trips) (v613 : IVec S16 32) (v617 : IVec S16 32) (k0_hw140 : k0_chk140 i k0_t3 v613 v617), ∀ a x, ((![v613, v617] : Fin 2 → IVec S16 32) a x).toNat < S512x128.size a := fun i k0_t3 v613 v617 k0_hw140 => k0_hw140

def k0_chk141 (i : grid0.Coords) (k0_t3 : Fin (k0_t3_loop i).trips) (v620 : IVec S16 32) (v624 : IVec S16 32) : Prop :=
  (∀ a x, ((![v620, v624] : Fin 2 → IVec S16 32) a x).toNat < S512x128.size a)
theorem k0_idx141_inb : ∀ (i : grid0.Coords) (k0_t3 : Fin (k0_t3_loop i).trips) (v620 : IVec S16 32) (v624 : IVec S16 32) (k0_hw141 : k0_chk141 i k0_t3 v620 v624), ∀ a x, ((![v620, v624] : Fin 2 → IVec S16 32) a x).toNat < S512x128.size a := fun i k0_t3 v620 v624 k0_hw141 => k0_hw141

def k0_chk142 (i : grid0.Coords) (k0_t3 : Fin (k0_t3_loop i).trips) (v627 : IVec S16 32) (v631 : IVec S16 32) : Prop :=
  (∀ a x, ((![v627, v631] : Fin 2 → IVec S16 32) a x).toNat < S512x128.size a)
theorem k0_idx142_inb : ∀ (i : grid0.Coords) (k0_t3 : Fin (k0_t3_loop i).trips) (v627 : IVec S16 32) (v631 : IVec S16 32) (k0_hw142 : k0_chk142 i k0_t3 v627 v631), ∀ a x, ((![v627, v631] : Fin 2 → IVec S16 32) a x).toNat < S512x128.size a := fun i k0_t3 v627 v631 k0_hw142 => k0_hw142

def k0_chk143 (i : grid0.Coords) (k0_t3 : Fin (k0_t3_loop i).trips) (v634 : IVec S16 32) (v638 : IVec S16 32) : Prop :=
  (∀ a x, ((![v634, v638] : Fin 2 → IVec S16 32) a x).toNat < S512x128.size a)
theorem k0_idx143_inb : ∀ (i : grid0.Coords) (k0_t3 : Fin (k0_t3_loop i).trips) (v634 : IVec S16 32) (v638 : IVec S16 32) (k0_hw143 : k0_chk143 i k0_t3 v634 v638), ∀ a x, ((![v634, v638] : Fin 2 → IVec S16 32) a x).toNat < S512x128.size a := fun i k0_t3 v634 v638 k0_hw143 => k0_hw143

def k0_chk144 (i : grid0.Coords) (k0_t3 : Fin (k0_t3_loop i).trips) (v641 : IVec S16 32) (v645 : IVec S16 32) : Prop :=
  (∀ a x, ((![v641, v645] : Fin 2 → IVec S16 32) a x).toNat < S512x128.size a)
theorem k0_idx144_inb : ∀ (i : grid0.Coords) (k0_t3 : Fin (k0_t3_loop i).trips) (v641 : IVec S16 32) (v645 : IVec S16 32) (k0_hw144 : k0_chk144 i k0_t3 v641 v645), ∀ a x, ((![v641, v645] : Fin 2 → IVec S16 32) a x).toNat < S512x128.size a := fun i k0_t3 v641 v645 k0_hw144 => k0_hw144
def k0_off104 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_322 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk145 (i : grid0.Coords) (v34 : IVec S16 32) (k0_t3 : Fin (k0_t3_loop i).trips) (v648 : IVec S16 32) (v652 : IVec S16 32) : Prop :=
  (∀ a x, ((![v648, v652, v34] : Fin 3 → IVec S16 32) a x).toNat < S8x4x16.size a)
theorem k0_idx145_inb : ∀ (i : grid0.Coords) (v34 : IVec S16 32) (k0_t3 : Fin (k0_t3_loop i).trips) (v648 : IVec S16 32) (v652 : IVec S16 32) (k0_hw145 : k0_chk145 i v34 k0_t3 v648 v652), ∀ a x, ((![v648, v652, v34] : Fin 3 → IVec S16 32) a x).toNat < S8x4x16.size a := fun i v34 k0_t3 v648 v652 k0_hw145 => k0_hw145
def k0_off105 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_327 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk146 (i : grid0.Coords) (v34 : IVec S16 32) (k0_t3 : Fin (k0_t3_loop i).trips) (v656 : IVec S16 32) (v662 : IVec S16 32) : Prop :=
  (∀ a x, ((![v656, v662, v34] : Fin 3 → IVec S16 32) a x).toNat < S8x4x16.size a)
theorem k0_idx146_inb : ∀ (i : grid0.Coords) (v34 : IVec S16 32) (k0_t3 : Fin (k0_t3_loop i).trips) (v656 : IVec S16 32) (v662 : IVec S16 32) (k0_hw146 : k0_chk146 i v34 k0_t3 v656 v662), ∀ a x, ((![v656, v662, v34] : Fin 3 → IVec S16 32) a x).toNat < S8x4x16.size a := fun i v34 k0_t3 v656 v662 k0_hw146 => k0_hw146
def k0_off106 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_331 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk147 (i : grid0.Coords) (v34 : IVec S16 32) (k0_t3 : Fin (k0_t3_loop i).trips) (v666 : IVec S16 32) (v670 : IVec S16 32) : Prop :=
  (∀ a x, ((![v666, v670, v34] : Fin 3 → IVec S16 32) a x).toNat < S8x4x16.size a)
theorem k0_idx147_inb : ∀ (i : grid0.Coords) (v34 : IVec S16 32) (k0_t3 : Fin (k0_t3_loop i).trips) (v666 : IVec S16 32) (v670 : IVec S16 32) (k0_hw147 : k0_chk147 i v34 k0_t3 v666 v670), ∀ a x, ((![v666, v670, v34] : Fin 3 → IVec S16 32) a x).toNat < S8x4x16.size a := fun i v34 k0_t3 v666 v670 k0_hw147 => k0_hw147
def k0_off107 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_336 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk148 (i : grid0.Coords) (v34 : IVec S16 32) (k0_t3 : Fin (k0_t3_loop i).trips) (v674 : IVec S16 32) (v680 : IVec S16 32) : Prop :=
  (∀ a x, ((![v674, v680, v34] : Fin 3 → IVec S16 32) a x).toNat < S8x4x16.size a)
theorem k0_idx148_inb : ∀ (i : grid0.Coords) (v34 : IVec S16 32) (k0_t3 : Fin (k0_t3_loop i).trips) (v674 : IVec S16 32) (v680 : IVec S16 32) (k0_hw148 : k0_chk148 i v34 k0_t3 v674 v680), ∀ a x, ((![v674, v680, v34] : Fin 3 → IVec S16 32) a x).toNat < S8x4x16.size a := fun i v34 k0_t3 v674 v680 k0_hw148 => k0_hw148
def k0_off108 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_340 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk149 (i : grid0.Coords) (v34 : IVec S16 32) (k0_t3 : Fin (k0_t3_loop i).trips) (v684 : IVec S16 32) (v688 : IVec S16 32) : Prop :=
  (∀ a x, ((![v684, v688, v34] : Fin 3 → IVec S16 32) a x).toNat < S8x4x16.size a)
theorem k0_idx149_inb : ∀ (i : grid0.Coords) (v34 : IVec S16 32) (k0_t3 : Fin (k0_t3_loop i).trips) (v684 : IVec S16 32) (v688 : IVec S16 32) (k0_hw149 : k0_chk149 i v34 k0_t3 v684 v688), ∀ a x, ((![v684, v688, v34] : Fin 3 → IVec S16 32) a x).toNat < S8x4x16.size a := fun i v34 k0_t3 v684 v688 k0_hw149 => k0_hw149
def k0_off109 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_345 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk150 (i : grid0.Coords) (v34 : IVec S16 32) (k0_t3 : Fin (k0_t3_loop i).trips) (v692 : IVec S16 32) (v698 : IVec S16 32) : Prop :=
  (∀ a x, ((![v692, v698, v34] : Fin 3 → IVec S16 32) a x).toNat < S8x4x16.size a)
theorem k0_idx150_inb : ∀ (i : grid0.Coords) (v34 : IVec S16 32) (k0_t3 : Fin (k0_t3_loop i).trips) (v692 : IVec S16 32) (v698 : IVec S16 32) (k0_hw150 : k0_chk150 i v34 k0_t3 v692 v698), ∀ a x, ((![v692, v698, v34] : Fin 3 → IVec S16 32) a x).toNat < S8x4x16.size a := fun i v34 k0_t3 v692 v698 k0_hw150 => k0_hw150
def k0_off110 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_349 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk151 (i : grid0.Coords) (v34 : IVec S16 32) (k0_t3 : Fin (k0_t3_loop i).trips) (v702 : IVec S16 32) (v706 : IVec S16 32) : Prop :=
  (∀ a x, ((![v702, v706, v34] : Fin 3 → IVec S16 32) a x).toNat < S8x4x16.size a)
theorem k0_idx151_inb : ∀ (i : grid0.Coords) (v34 : IVec S16 32) (k0_t3 : Fin (k0_t3_loop i).trips) (v702 : IVec S16 32) (v706 : IVec S16 32) (k0_hw151 : k0_chk151 i v34 k0_t3 v702 v706), ∀ a x, ((![v702, v706, v34] : Fin 3 → IVec S16 32) a x).toNat < S8x4x16.size a := fun i v34 k0_t3 v702 v706 k0_hw151 => k0_hw151
def k0_off111 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_354 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk152 (i : grid0.Coords) (v34 : IVec S16 32) (k0_t3 : Fin (k0_t3_loop i).trips) (v710 : IVec S16 32) (v716 : IVec S16 32) : Prop :=
  (∀ a x, ((![v710, v716, v34] : Fin 3 → IVec S16 32) a x).toNat < S8x4x16.size a)
theorem k0_idx152_inb : ∀ (i : grid0.Coords) (v34 : IVec S16 32) (k0_t3 : Fin (k0_t3_loop i).trips) (v710 : IVec S16 32) (v716 : IVec S16 32) (k0_hw152 : k0_chk152 i v34 k0_t3 v710 v716), ∀ a x, ((![v710, v716, v34] : Fin 3 → IVec S16 32) a x).toNat < S8x4x16.size a := fun i v34 k0_t3 v710 v716 k0_hw152 => k0_hw152
def k0_off112 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_358 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk153 (i : grid0.Coords) (v34 : IVec S16 32) (k0_t3 : Fin (k0_t3_loop i).trips) (v720 : IVec S16 32) (v724 : IVec S16 32) : Prop :=
  (∀ a x, ((![v720, v724, v34] : Fin 3 → IVec S16 32) a x).toNat < S8x4x16.size a)
theorem k0_idx153_inb : ∀ (i : grid0.Coords) (v34 : IVec S16 32) (k0_t3 : Fin (k0_t3_loop i).trips) (v720 : IVec S16 32) (v724 : IVec S16 32) (k0_hw153 : k0_chk153 i v34 k0_t3 v720 v724), ∀ a x, ((![v720, v724, v34] : Fin 3 → IVec S16 32) a x).toNat < S8x4x16.size a := fun i v34 k0_t3 v720 v724 k0_hw153 => k0_hw153
def k0_off113 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_363 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk154 (i : grid0.Coords) (v34 : IVec S16 32) (k0_t3 : Fin (k0_t3_loop i).trips) (v728 : IVec S16 32) (v734 : IVec S16 32) : Prop :=
  (∀ a x, ((![v728, v734, v34] : Fin 3 → IVec S16 32) a x).toNat < S8x4x16.size a)
theorem k0_idx154_inb : ∀ (i : grid0.Coords) (v34 : IVec S16 32) (k0_t3 : Fin (k0_t3_loop i).trips) (v728 : IVec S16 32) (v734 : IVec S16 32) (k0_hw154 : k0_chk154 i v34 k0_t3 v728 v734), ∀ a x, ((![v728, v734, v34] : Fin 3 → IVec S16 32) a x).toNat < S8x4x16.size a := fun i v34 k0_t3 v728 v734 k0_hw154 => k0_hw154
def k0_off114 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_367 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk155 (i : grid0.Coords) (v34 : IVec S16 32) (k0_t3 : Fin (k0_t3_loop i).trips) (v738 : IVec S16 32) (v742 : IVec S16 32) : Prop :=
  (∀ a x, ((![v738, v742, v34] : Fin 3 → IVec S16 32) a x).toNat < S8x4x16.size a)
theorem k0_idx155_inb : ∀ (i : grid0.Coords) (v34 : IVec S16 32) (k0_t3 : Fin (k0_t3_loop i).trips) (v738 : IVec S16 32) (v742 : IVec S16 32) (k0_hw155 : k0_chk155 i v34 k0_t3 v738 v742), ∀ a x, ((![v738, v742, v34] : Fin 3 → IVec S16 32) a x).toNat < S8x4x16.size a := fun i v34 k0_t3 v738 v742 k0_hw155 => k0_hw155
def k0_off115 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_372 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk156 (i : grid0.Coords) (v34 : IVec S16 32) (k0_t3 : Fin (k0_t3_loop i).trips) (v746 : IVec S16 32) (v752 : IVec S16 32) : Prop :=
  (∀ a x, ((![v746, v752, v34] : Fin 3 → IVec S16 32) a x).toNat < S8x4x16.size a)
theorem k0_idx156_inb : ∀ (i : grid0.Coords) (v34 : IVec S16 32) (k0_t3 : Fin (k0_t3_loop i).trips) (v746 : IVec S16 32) (v752 : IVec S16 32) (k0_hw156 : k0_chk156 i v34 k0_t3 v746 v752), ∀ a x, ((![v746, v752, v34] : Fin 3 → IVec S16 32) a x).toNat < S8x4x16.size a := fun i v34 k0_t3 v746 v752 k0_hw156 => k0_hw156
def k0_off116 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_376 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk157 (i : grid0.Coords) (v34 : IVec S16 32) (k0_t3 : Fin (k0_t3_loop i).trips) (v756 : IVec S16 32) (v760 : IVec S16 32) : Prop :=
  (∀ a x, ((![v756, v760, v34] : Fin 3 → IVec S16 32) a x).toNat < S8x4x16.size a)
theorem k0_idx157_inb : ∀ (i : grid0.Coords) (v34 : IVec S16 32) (k0_t3 : Fin (k0_t3_loop i).trips) (v756 : IVec S16 32) (v760 : IVec S16 32) (k0_hw157 : k0_chk157 i v34 k0_t3 v756 v760), ∀ a x, ((![v756, v760, v34] : Fin 3 → IVec S16 32) a x).toNat < S8x4x16.size a := fun i v34 k0_t3 v756 v760 k0_hw157 => k0_hw157
def k0_off117 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_381 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk158 (i : grid0.Coords) (v34 : IVec S16 32) (k0_t3 : Fin (k0_t3_loop i).trips) (v764 : IVec S16 32) (v770 : IVec S16 32) : Prop :=
  (∀ a x, ((![v764, v770, v34] : Fin 3 → IVec S16 32) a x).toNat < S8x4x16.size a)
theorem k0_idx158_inb : ∀ (i : grid0.Coords) (v34 : IVec S16 32) (k0_t3 : Fin (k0_t3_loop i).trips) (v764 : IVec S16 32) (v770 : IVec S16 32) (k0_hw158 : k0_chk158 i v34 k0_t3 v764 v770), ∀ a x, ((![v764, v770, v34] : Fin 3 → IVec S16 32) a x).toNat < S8x4x16.size a := fun i v34 k0_t3 v764 v770 k0_hw158 => k0_hw158
def k0_off118 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_385 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk159 (i : grid0.Coords) (v34 : IVec S16 32) (k0_t3 : Fin (k0_t3_loop i).trips) (v774 : IVec S16 32) (v778 : IVec S16 32) : Prop :=
  (∀ a x, ((![v774, v778, v34] : Fin 3 → IVec S16 32) a x).toNat < S8x4x16.size a)
theorem k0_idx159_inb : ∀ (i : grid0.Coords) (v34 : IVec S16 32) (k0_t3 : Fin (k0_t3_loop i).trips) (v774 : IVec S16 32) (v778 : IVec S16 32) (k0_hw159 : k0_chk159 i v34 k0_t3 v774 v778), ∀ a x, ((![v774, v778, v34] : Fin 3 → IVec S16 32) a x).toNat < S8x4x16.size a := fun i v34 k0_t3 v774 v778 k0_hw159 => k0_hw159
def k0_off119 (i : grid0.Coords) (k0_t3 : Fin (k0_t3_loop i).trips) (k0_t4 : Fin k0_t4_loop.trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_99 : BitVec 32 := 0#32
  let c0_i32_80 : BitVec 32 := 0#32
  let c1_i32_82 : BitVec 32 := 1#32
  let arg12 : BitVec 32 := Scf.iv c0_i32_80 c1_i32_82 k0_t4
  let c1_i32_98 : BitVec 32 := 1#32
  let v159 : BitVec 32 := Scalar.muli arg12 c1_i32_98
  let v160 : BitVec 32 := Scalar.addi c0_i32_99 v159
  let c8_i32_100 : BitVec 32 := 8#32
  let v161 : BitVec 32 := Scalar.divsi v160 c8_i32_100
  let c8_i32_104 : BitVec 32 := 8#32
  let v165 : BitVec 32 := Scalar.muli v161 c8_i32_104
  let c0_i32_390 : BitVec 32 := 0#32
  let c8_i32_101 : BitVec 32 := 8#32
  let v162 : BitVec 32 := Scalar.remsi v160 c8_i32_101
  let c16_i32_105 : BitVec 32 := 16#32
  let v166 : BitVec 32 := Scalar.muli v162 c16_i32_105
  ![v116.toNat, v165.toNat, 0, v166.toNat]

def k0_chk160 (i : grid0.Coords) (v34 : IVec S16 32) (k0_t3 : Fin (k0_t3_loop i).trips) (v782 : IVec S16 32) (v788 : IVec S16 32) : Prop :=
  (∀ a x, ((![v782, v788, v34] : Fin 3 → IVec S16 32) a x).toNat < S8x4x16.size a)
theorem k0_idx160_inb : ∀ (i : grid0.Coords) (v34 : IVec S16 32) (k0_t3 : Fin (k0_t3_loop i).trips) (v782 : IVec S16 32) (v788 : IVec S16 32) (k0_hw160 : k0_chk160 i v34 k0_t3 v782 v788), ∀ a x, ((![v782, v788, v34] : Fin 3 → IVec S16 32) a x).toNat < S8x4x16.size a := fun i v34 k0_t3 v782 v788 k0_hw160 => k0_hw160
def k0_off120 (i : grid0.Coords) (k0_t3 : Fin (k0_t3_loop i).trips) : Fin 4 → Nat :=
  let c0_i32_50 : BitVec 32 := 0#32
  let c0_i32_51 : BitVec 32 := 0#32
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c2_i32_59 : BitVec 32 := 2#32
  let v116 : BitVec 32 := Scalar.remsi v115 c2_i32_59
  let c0_i32_88 : BitVec 32 := 0#32
  let c0_i32_89 : BitVec 32 := 0#32
  let c0_i32_90 : BitVec 32 := 0#32
  ![v116.toNat, 0, 0, 0]
def k0_off121 (i : grid0.Coords) (k0_t3 : Fin (k0_t3_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_50 : BitVec 32 := 0#32
  let c0_i32_51 : BitVec 32 := 0#32
  let c112_i32 : BitVec 32 := 112#32
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_45 : BitVec 32 := 0#32
  let v99 : BitVec 32 := Scalar.subi v7 c0_i32_45
  let c1_i32_46 : BitVec 32 := 1#32
  let c1_i32_47 : BitVec 32 := 1#32
  let v100 : BitVec 32 := Scalar.subi c1_i32_46 c1_i32_47
  let v101 : BitVec 32 := Scalar.addi v99 v100
  let c1_i32_48 : BitVec 32 := 1#32
  let v102 : BitVec 32 := Scalar.divsi v101 c1_i32_48
  let v103 : BitVec 32 := Scalar.subi v102 c0_i32_51
  let c1_i32_52 : BitVec 32 := 1#32
  let v105 : BitVec 32 := Scalar.divsi v103 c1_i32_52
  let v106 : BitVec 32 := Scalar.muli v105 c1_i32_52
  let v107 : BitVec 32 := Scalar.addi c0_i32_51 v106
  let c1_i32_54 : BitVec 32 := 1#32
  let arg11 : BitVec 32 := Scf.iv v107 c1_i32_54 k0_t3
  let c1_i32_49 : BitVec 32 := 1#32
  let v114 : BitVec 32 := Scalar.muli arg11 c1_i32_49
  let v115 : BitVec 32 := Scalar.addi c0_i32_50 v114
  let c16_i32_84 : BitVec 32 := 16#32
  let v144 : BitVec 32 := Scalar.muli v115 c16_i32_84
  let v145 : BitVec 32 := Scalar.addi v3 v144
  let c28_i32_86 : BitVec 32 := 28#32
  let v147 : BitVec 32 := Scalar.remsi v145 c28_i32_86
  let c16_i32_87 : BitVec 32 := 16#32
  let v148 : BitVec 32 := Scalar.muli v147 c16_i32_87
  let c28_i32_85 : BitVec 32 := 28#32
  let v146 : BitVec 32 := Scalar.divsi v145 c28_i32_85
  let c0_i32_91 : BitVec 32 := 0#32
  let c2_i32 : BitVec 32 := 2#32
  let v0 : BitVec 32 := Scalar.remsi arg1 c2_i32
  let c0_i32_92 : BitVec 32 := 0#32
  ![v148.toNat, v146.toNat, 0, v0.toNat, 0]
def k0_cond5 (i : grid0.Coords) : BitVec 1 :=
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_55 : BitVec 32 := 1#32
  let v108 : BitVec 1 := Scalar.cmpi .sgt v7 c1_i32_55
  let v109 : BitVec 32 := Scalar.extui v108
  let c0_i32_56 : BitVec 32 := 0#32
  let v110 : BitVec 1 := Scalar.cmpi .ne v109 c0_i32_56
  v110

def k0_off122 (i : grid0.Coords) : Fin 4 → Nat :=
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c2_i32_60 : BitVec 32 := 2#32
  let v115 : BitVec 32 := Scalar.remsi v7 c2_i32_60
  let c0_i32_65 : BitVec 32 := 0#32
  let c0_i32_66 : BitVec 32 := 0#32
  let c0_i32_67 : BitVec 32 := 0#32
  ![v115.toNat, 0, 0, 0]
def k0_off123 (i : grid0.Coords) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c112_i32 : BitVec 32 := 112#32
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c2_i32_59 : BitVec 32 := 2#32
  let v114 : BitVec 32 := Scalar.subi v7 c2_i32_59
  let c16_i32_61 : BitVec 32 := 16#32
  let v116 : BitVec 32 := Scalar.muli v114 c16_i32_61
  let v117 : BitVec 32 := Scalar.addi v3 v116
  let c28_i32_63 : BitVec 32 := 28#32
  let v119 : BitVec 32 := Scalar.remsi v117 c28_i32_63
  let c16_i32_64 : BitVec 32 := 16#32
  let v120 : BitVec 32 := Scalar.muli v119 c16_i32_64
  let c28_i32_62 : BitVec 32 := 28#32
  let v118 : BitVec 32 := Scalar.divsi v117 c28_i32_62
  let c0_i32_68 : BitVec 32 := 0#32
  let c2_i32 : BitVec 32 := 2#32
  let v0 : BitVec 32 := Scalar.remsi arg1 c2_i32
  let c0_i32_69 : BitVec 32 := 0#32
  ![v120.toNat, v118.toNat, 0, v0.toNat, 0]
def k0_off124 (i : grid0.Coords) : Fin 1 → Nat :=
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c2_i32_60 : BitVec 32 := 2#32
  let v115 : BitVec 32 := Scalar.remsi v7 c2_i32_60
  ![v115.toNat]
def k0_cond6 (i : grid0.Coords) : BitVec 1 :=
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_57 : BitVec 32 := 0#32
  let v111 : BitVec 1 := Scalar.cmpi .sgt v7 c0_i32_57
  let v112 : BitVec 32 := Scalar.extui v111
  let c0_i32_58 : BitVec 32 := 0#32
  let v113 : BitVec 1 := Scalar.cmpi .ne v112 c0_i32_58
  v113

def k0_off125 (i : grid0.Coords) : Fin 4 → Nat :=
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_60 : BitVec 32 := 1#32
  let v115 : BitVec 32 := Scalar.subi v7 c1_i32_60
  let c2_i32_61 : BitVec 32 := 2#32
  let v116 : BitVec 32 := Scalar.remsi v115 c2_i32_61
  let c0_i32_66 : BitVec 32 := 0#32
  let c0_i32_67 : BitVec 32 := 0#32
  let c0_i32_68 : BitVec 32 := 0#32
  ![v116.toNat, 0, 0, 0]
def k0_off126 (i : grid0.Coords) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c112_i32 : BitVec 32 := 112#32
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_59 : BitVec 32 := 1#32
  let v114 : BitVec 32 := Scalar.subi v7 c1_i32_59
  let c16_i32_62 : BitVec 32 := 16#32
  let v117 : BitVec 32 := Scalar.muli v114 c16_i32_62
  let v118 : BitVec 32 := Scalar.addi v3 v117
  let c28_i32_64 : BitVec 32 := 28#32
  let v120 : BitVec 32 := Scalar.remsi v118 c28_i32_64
  let c16_i32_65 : BitVec 32 := 16#32
  let v121 : BitVec 32 := Scalar.muli v120 c16_i32_65
  let c28_i32_63 : BitVec 32 := 28#32
  let v119 : BitVec 32 := Scalar.divsi v118 c28_i32_63
  let c0_i32_69 : BitVec 32 := 0#32
  let c2_i32 : BitVec 32 := 2#32
  let v0 : BitVec 32 := Scalar.remsi arg1 c2_i32
  let c0_i32_70 : BitVec 32 := 0#32
  ![v121.toNat, v119.toNat, 0, v0.toNat, 0]
def k0_off127 (i : grid0.Coords) : Fin 1 → Nat :=
  let c112_i32 : BitVec 32 := 112#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c112_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_60 : BitVec 32 := 1#32
  let v115 : BitVec 32 := Scalar.subi v7 c1_i32_60
  let c2_i32_61 : BitVec 32 := 2#32
  let v116 : BitVec 32 := Scalar.remsi v115 c2_i32_61
  ![v116.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Decode.lean ====
abbrev S2x65536 : Shape := ⟨2, ![2, 65536]⟩
abbrev S4096x896 : Shape := ⟨2, ![4096, 896]⟩
abbrev S2x512x128 : Shape := ⟨3, ![2, 512, 128]⟩
abbrev S512x2x128 : Shape := ⟨3, ![512, 2, 128]⟩
abbrev S512x8x7x128 : Shape := ⟨4, ![512, 8, 7, 128]⟩
abbrev S512x7x8x128 : Shape := ⟨4, ![512, 7, 8, 128]⟩
abbrev S448x28x4x2x128 : Shape := ⟨5, ![448, 28, 4, 2, 128]⟩
abbrev S512x128 : Shape := ⟨2, ![512, 128]⟩
abbrev S2x16x8x32 : Shape := ⟨4, ![2, 16, 8, 32]⟩
abbrev S2x16x4x128 : Shape := ⟨4, ![2, 16, 4, 128]⟩
abbrev S_ : Shape := ⟨0, ![]⟩
abbrev S2 : Shape := ⟨1, ![2]⟩
abbrev S1x16x8x32 : Shape := ⟨4, ![1, 16, 8, 32]⟩
abbrev S16x8x32 : Shape := ⟨3, ![16, 8, 32]⟩
abbrev S16x1x8x32 : Shape := ⟨4, ![16, 1, 8, 32]⟩
abbrev S1 : Shape := ⟨1, ![1]⟩
abbrev S512x1x128 : Shape := ⟨3, ![512, 1, 128]⟩
abbrev S16 : Shape := ⟨1, ![16]⟩
abbrev S1x16x4x128 : Shape := ⟨4, ![1, 16, 4, 128]⟩
abbrev S16x4x128 : Shape := ⟨3, ![16, 4, 128]⟩
abbrev S16x1x4x1x128 : Shape := ⟨5, ![16, 1, 4, 1, 128]⟩
abbrev S1x2x8x16 : Shape := ⟨4, ![1, 2, 8, 16]⟩
abbrev S2x8x16 : Shape := ⟨3, ![2, 8, 16]⟩
abbrev S1x8x4x16 : Shape := ⟨4, ![1, 8, 4, 16]⟩
abbrev S8x4x16 : Shape := ⟨3, ![8, 4, 16]⟩
abbrev S448x28x8x128 : Shape := ⟨4, ![448, 28, 8, 128]⟩

abbrev nBuf : Table → Nat
  | .hbm => 8
  | .local .scVector .vmem => 3
  | _ => 0

abbrev bufTy : (tb : Table) → Fin (nBuf tb) → BufTy
  | .hbm, ⟨0, _⟩ => ⟨S2x65536, .i32⟩
  | .hbm, ⟨1, _⟩ => ⟨S4096x896, .i32⟩
  | .hbm, ⟨2, _⟩ => ⟨S2x512x128, .i32⟩
  | .hbm, ⟨3, _⟩ => ⟨S512x2x128, .i32⟩
  | .hbm, ⟨4, _⟩ => ⟨S512x8x7x128, .i32⟩
  | .hbm, ⟨5, _⟩ => ⟨S512x7x8x128, .i32⟩
  | .hbm, ⟨6, _⟩ => ⟨S448x28x4x2x128, .i32⟩
  | .hbm, ⟨7, _⟩ => ⟨S448x28x8x128, .i32⟩
  | .local .scVector .vmem, ⟨0, _⟩ => ⟨S512x128, .i32⟩
  | .local .scVector .vmem, ⟨1, _⟩ => ⟨S2x16x8x32, .i32⟩
  | .local .scVector .vmem, ⟨2, _⟩ => ⟨S2x16x4x128, .i32⟩
  | _, _ => ⟨S2x65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c64_i32 : BitVec 32 := 64#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32 : BitVec 32 := 0#32
  let v8 : BitVec 32 := Scalar.addi v3 c0_i32
  let c28_i32 : BitVec 32 := 28#32
  let v9 : BitVec 32 := Scalar.divsi v8 c28_i32
  let c16_i32_3 : BitVec 32 := 16#32
  let v11 : BitVec 32 := Scalar.muli v9 c16_i32_3
  let v12 : BitVec 32 := Scalar.addi c64_i32 v11
  let c28_i32_2 : BitVec 32 := 28#32
  let v10 : BitVec 32 := Scalar.remsi v8 c28_i32_2
  let c4_i32 : BitVec 32 := 4#32
  let v13 : BitVec 32 := Scalar.divsi v10 c4_i32
  let c0_i32_10 : BitVec 32 := 0#32
  let c4_i32_4 : BitVec 32 := 4#32
  let v14 : BitVec 32 := Scalar.remsi v10 c4_i32_4
  let c32_i32 : BitVec 32 := 32#32
  let v15 : BitVec 32 := Scalar.muli v14 c32_i32
  ![v12.toNat, v13.toNat, 0, v15.toNat]
def k0_off2 (i : grid0.Coords) : Fin 3 → Nat :=
  let c0_i32_15 : BitVec 32 := 0#32
  let arg1 : BitVec 32 := BitVec.ofNat 32 (i 1).val
  let c2_i32 : BitVec 32 := 2#32
  let v0 : BitVec 32 := Scalar.remsi arg1 c2_i32
  let c0_i32_16 : BitVec 32 := 0#32
  ![0, v0.toNat, 0]
@[reducible] def k0_t1_loop (i : grid0.Coords) : Scf.Loop 32 :=
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_52 : BitVec 32 := 1#32
  ⟨c0_i32_50, v107, c1_i32_52⟩
def k0_cond1 (i : grid0.Coords) (k0_t1 : Fin (k0_t1_loop i).trips) : BitVec 1 :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c1_i32_59 : BitVec 32 := 1#32
  let v117 : BitVec 32 := Scalar.addi v115 c1_i32_59
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let v118 : BitVec 1 := Scalar.cmpi .slt v117 v7
  let v119 : BitVec 32 := Scalar.extui v118
  let c0_i32_60 : BitVec 32 := 0#32
  let v120 : BitVec 1 := Scalar.cmpi .ne v119 c0_i32_60
  v120

def k0_off3 (i : grid0.Coords) (k0_t1 : Fin (k0_t1_loop i).trips) : Fin 4 → Nat :=
  let c1_i32_98 : BitVec 32 := 1#32
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let v160 : BitVec 32 := Scalar.subi c1_i32_98 v116
  let c0_i32_107 : BitVec 32 := 0#32
  let c0_i32_108 : BitVec 32 := 0#32
  let c0_i32_109 : BitVec 32 := 0#32
  ![v160.toNat, 0, 0, 0]
def k0_off4 (i : grid0.Coords) (k0_t1 : Fin (k0_t1_loop i).trips) : Fin 4 → Nat :=
  let c64_i32_103 : BitVec 32 := 64#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c1_i32_97 : BitVec 32 := 1#32
  let v159 : BitVec 32 := Scalar.addi v115 c1_i32_97
  let c16_i32_99 : BitVec 32 := 16#32
  let v161 : BitVec 32 := Scalar.muli v159 c16_i32_99
  let v162 : BitVec 32 := Scalar.addi v3 v161
  let c28_i32_100 : BitVec 32 := 28#32
  let v163 : BitVec 32 := Scalar.divsi v162 c28_i32_100
  let c16_i32_102 : BitVec 32 := 16#32
  let v165 : BitVec 32 := Scalar.muli v163 c16_i32_102
  let v166 : BitVec 32 := Scalar.addi c64_i32_103 v165
  let c28_i32_101 : BitVec 32 := 28#32
  let v164 : BitVec 32 := Scalar.remsi v162 c28_i32_101
  let c4_i32_104 : BitVec 32 := 4#32
  let v167 : BitVec 32 := Scalar.divsi v164 c4_i32_104
  let c0_i32_110 : BitVec 32 := 0#32
  let c4_i32_105 : BitVec 32 := 4#32
  let v168 : BitVec 32 := Scalar.remsi v164 c4_i32_105
  let c32_i32_106 : BitVec 32 := 32#32
  let v169 : BitVec 32 := Scalar.muli v168 c32_i32_106
  ![v166.toNat, v167.toNat, 0, v169.toNat]
def k0_off5 (i : grid0.Coords) (k0_t1 : Fin (k0_t1_loop i).trips) : Fin 1 → Nat :=
  let c1_i32_98 : BitVec 32 := 1#32
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let v160 : BitVec 32 := Scalar.subi c1_i32_98 v116
  ![v160.toNat]
def k0_off6 (i : grid0.Coords) (k0_t1 : Fin (k0_t1_loop i).trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_69 : BitVec 32 := 0#32
  let c0_i32_70 : BitVec 32 := 0#32
  let c0_i32_71 : BitVec 32 := 0#32
  ![v116.toNat, 0, 0, 0]
def k0_off7 (i : grid0.Coords) (k0_t1 : Fin (k0_t1_loop i).trips) : Fin 4 → Nat :=
  let c64_i32_65 : BitVec 32 := 64#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c16_i32_61 : BitVec 32 := 16#32
  let v121 : BitVec 32 := Scalar.muli v115 c16_i32_61
  let v122 : BitVec 32 := Scalar.addi v3 v121
  let c28_i32_62 : BitVec 32 := 28#32
  let v123 : BitVec 32 := Scalar.divsi v122 c28_i32_62
  let c16_i32_64 : BitVec 32 := 16#32
  let v125 : BitVec 32 := Scalar.muli v123 c16_i32_64
  let v126 : BitVec 32 := Scalar.addi c64_i32_65 v125
  let c28_i32_63 : BitVec 32 := 28#32
  let v124 : BitVec 32 := Scalar.remsi v122 c28_i32_63
  let c4_i32_66 : BitVec 32 := 4#32
  let v127 : BitVec 32 := Scalar.divsi v124 c4_i32_66
  let c0_i32_72 : BitVec 32 := 0#32
  let c4_i32_67 : BitVec 32 := 4#32
  let v128 : BitVec 32 := Scalar.remsi v124 c4_i32_67
  let c32_i32_68 : BitVec 32 := 32#32
  let v129 : BitVec 32 := Scalar.muli v128 c32_i32_68
  ![v126.toNat, v127.toNat, 0, v129.toNat]
def k0_off8 (i : grid0.Coords) (k0_t1 : Fin (k0_t1_loop i).trips) : Fin 1 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  ![v116.toNat]
def k0_cond2 (i : grid0.Coords) (k0_t1 : Fin (k0_t1_loop i).trips) : BitVec 1 :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c1_i32_77 : BitVec 32 := 1#32
  let v140 : BitVec 1 := Scalar.cmpi .sgt v115 c1_i32_77
  let v141 : BitVec 32 := Scalar.extui v140
  let c0_i32_78 : BitVec 32 := 0#32
  let v142 : BitVec 1 := Scalar.cmpi .ne v141 c0_i32_78
  v142

def k0_off9 (i : grid0.Coords) (k0_t1 : Fin (k0_t1_loop i).trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_102 : BitVec 32 := 0#32
  let c0_i32_103 : BitVec 32 := 0#32
  let c0_i32_104 : BitVec 32 := 0#32
  ![v116.toNat, 0, 0, 0]
def k0_off10 (i : grid0.Coords) (k0_t1 : Fin (k0_t1_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_97 : BitVec 32 := 2#32
  let v159 : BitVec 32 := Scalar.subi v115 c2_i32_97
  let c16_i32_98 : BitVec 32 := 16#32
  let v160 : BitVec 32 := Scalar.muli v159 c16_i32_98
  let v161 : BitVec 32 := Scalar.addi v3 v160
  let c28_i32_100 : BitVec 32 := 28#32
  let v163 : BitVec 32 := Scalar.remsi v161 c28_i32_100
  let c16_i32_101 : BitVec 32 := 16#32
  let v164 : BitVec 32 := Scalar.muli v163 c16_i32_101
  let c28_i32_99 : BitVec 32 := 28#32
  let v162 : BitVec 32 := Scalar.divsi v161 c28_i32_99
  let c0_i32_105 : BitVec 32 := 0#32
  let c2_i32 : BitVec 32 := 2#32
  let v0 : BitVec 32 := Scalar.remsi arg1 c2_i32
  let c0_i32_106 : BitVec 32 := 0#32
  ![v164.toNat, v162.toNat, 0, v0.toNat, 0]
def k0_off11 (i : grid0.Coords) (k0_t1 : Fin (k0_t1_loop i).trips) : Fin 1 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  ![v116.toNat]
@[reducible] def k0_t2_loop : Scf.Loop 32 :=
  let c0_i32_79 : BitVec 32 := 0#32
  let c16_i32_80 : BitVec 32 := 16#32
  let v143 : BitVec 32 := Scalar.addi c0_i32_79 c16_i32_80
  let c1_i32_81 : BitVec 32 := 1#32
  ⟨c0_i32_79, v143, c1_i32_81⟩
def k0_off12 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_107 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk1 (v38 : IVec S16 32) (v168 : IVec S16 32) (v170 : IVec S16 32) : Prop :=
  (∀ a x, ((![v168, v170, v38] : Fin 3 → IVec S16 32) a x).toNat < S2x8x16.size a)
theorem k0_idx1_inb : ∀ (v38 : IVec S16 32) (v168 : IVec S16 32) (v170 : IVec S16 32) (k0_hw1 : k0_chk1 v38 v168 v170), ∀ a x, ((![v168, v170, v38] : Fin 3 → IVec S16 32) a x).toNat < S2x8x16.size a := fun v38 v168 v170 k0_hw1 => k0_hw1
def k0_off13 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_110 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk2 (v42 : IVec S16 32) (v175 : IVec S16 32) (v177 : IVec S16 32) : Prop :=
  (∀ a x, ((![v175, v177, v42] : Fin 3 → IVec S16 32) a x).toNat < S2x8x16.size a)
theorem k0_idx2_inb : ∀ (v42 : IVec S16 32) (v175 : IVec S16 32) (v177 : IVec S16 32) (k0_hw2 : k0_chk2 v42 v175 v177), ∀ a x, ((![v175, v177, v42] : Fin 3 → IVec S16 32) a x).toNat < S2x8x16.size a := fun v42 v175 v177 k0_hw2 => k0_hw2
def k0_off14 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_113 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk3 (v46 : IVec S16 32) (v182 : IVec S16 32) (v184 : IVec S16 32) : Prop :=
  (∀ a x, ((![v182, v184, v46] : Fin 3 → IVec S16 32) a x).toNat < S2x8x16.size a)
theorem k0_idx3_inb : ∀ (v46 : IVec S16 32) (v182 : IVec S16 32) (v184 : IVec S16 32) (k0_hw3 : k0_chk3 v46 v182 v184), ∀ a x, ((![v182, v184, v46] : Fin 3 → IVec S16 32) a x).toNat < S2x8x16.size a := fun v46 v182 v184 k0_hw3 => k0_hw3
def k0_off15 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_116 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk4 (v50 : IVec S16 32) (v189 : IVec S16 32) (v191 : IVec S16 32) : Prop :=
  (∀ a x, ((![v189, v191, v50] : Fin 3 → IVec S16 32) a x).toNat < S2x8x16.size a)
theorem k0_idx4_inb : ∀ (v50 : IVec S16 32) (v189 : IVec S16 32) (v191 : IVec S16 32) (k0_hw4 : k0_chk4 v50 v189 v191), ∀ a x, ((![v189, v191, v50] : Fin 3 → IVec S16 32) a x).toNat < S2x8x16.size a := fun v50 v189 v191 k0_hw4 => k0_hw4
def k0_off16 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_119 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk5 (v54 : IVec S16 32) (v196 : IVec S16 32) (v198 : IVec S16 32) : Prop :=
  (∀ a x, ((![v196, v198, v54] : Fin 3 → IVec S16 32) a x).toNat < S2x8x16.size a)
theorem k0_idx5_inb : ∀ (v54 : IVec S16 32) (v196 : IVec S16 32) (v198 : IVec S16 32) (k0_hw5 : k0_chk5 v54 v196 v198), ∀ a x, ((![v196, v198, v54] : Fin 3 → IVec S16 32) a x).toNat < S2x8x16.size a := fun v54 v196 v198 k0_hw5 => k0_hw5
def k0_off17 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_122 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk6 (v58 : IVec S16 32) (v203 : IVec S16 32) (v205 : IVec S16 32) : Prop :=
  (∀ a x, ((![v203, v205, v58] : Fin 3 → IVec S16 32) a x).toNat < S2x8x16.size a)
theorem k0_idx6_inb : ∀ (v58 : IVec S16 32) (v203 : IVec S16 32) (v205 : IVec S16 32) (k0_hw6 : k0_chk6 v58 v203 v205), ∀ a x, ((![v203, v205, v58] : Fin 3 → IVec S16 32) a x).toNat < S2x8x16.size a := fun v58 v203 v205 k0_hw6 => k0_hw6
def k0_off18 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_125 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk7 (v62 : IVec S16 32) (v210 : IVec S16 32) (v212 : IVec S16 32) : Prop :=
  (∀ a x, ((![v210, v212, v62] : Fin 3 → IVec S16 32) a x).toNat < S2x8x16.size a)
theorem k0_idx7_inb : ∀ (v62 : IVec S16 32) (v210 : IVec S16 32) (v212 : IVec S16 32) (k0_hw7 : k0_chk7 v62 v210 v212), ∀ a x, ((![v210, v212, v62] : Fin 3 → IVec S16 32) a x).toNat < S2x8x16.size a := fun v62 v210 v212 k0_hw7 => k0_hw7
def k0_off19 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_128 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk8 (v66 : IVec S16 32) (v217 : IVec S16 32) (v219 : IVec S16 32) : Prop :=
  (∀ a x, ((![v217, v219, v66] : Fin 3 → IVec S16 32) a x).toNat < S2x8x16.size a)
theorem k0_idx8_inb : ∀ (v66 : IVec S16 32) (v217 : IVec S16 32) (v219 : IVec S16 32) (k0_hw8 : k0_chk8 v66 v217 v219), ∀ a x, ((![v217, v219, v66] : Fin 3 → IVec S16 32) a x).toNat < S2x8x16.size a := fun v66 v217 v219 k0_hw8 => k0_hw8

def k0_chk9 (v226 : IVec S16 32) (v228 : IVec S16 32) : Prop :=
  (∀ a x, ((![v226, v228] : Fin 2 → IVec S16 32) a x).toNat < S512x128.size a)
theorem k0_idx9_inb : ∀ (v226 : IVec S16 32) (v228 : IVec S16 32) (k0_hw9 : k0_chk9 v226 v228), ∀ a x, ((![v226, v228] : Fin 2 → IVec S16 32) a x).toNat < S512x128.size a := fun v226 v228 k0_hw9 => k0_hw9

def k0_chk10 (v233 : IVec S16 32) (v235 : IVec S16 32) : Prop :=
  (∀ a x, ((![v233, v235] : Fin 2 → IVec S16 32) a x).toNat < S512x128.size a)
theorem k0_idx10_inb : ∀ (v233 : IVec S16 32) (v235 : IVec S16 32) (k0_hw10 : k0_chk10 v233 v235), ∀ a x, ((![v233, v235] : Fin 2 → IVec S16 32) a x).toNat < S512x128.size a := fun v233 v235 k0_hw10 => k0_hw10

def k0_chk11 (v240 : IVec S16 32) (v242 : IVec S16 32) : Prop :=
  (∀ a x, ((![v240, v242] : Fin 2 → IVec S16 32) a x).toNat < S512x128.size a)
theorem k0_idx11_inb : ∀ (v240 : IVec S16 32) (v242 : IVec S16 32) (k0_hw11 : k0_chk11 v240 v242), ∀ a x, ((![v240, v242] : Fin 2 → IVec S16 32) a x).toNat < S512x128.size a := fun v240 v242 k0_hw11 => k0_hw11

def k0_chk12 (v247 : IVec S16 32) (v249 : IVec S16 32) : Prop :=
  (∀ a x, ((![v247, v249] : Fin 2 → IVec S16 32) a x).toNat < S512x128.size a)
theorem k0_idx12_inb : ∀ (v247 : IVec S16 32) (v249 : IVec S16 32) (k0_hw12 : k0_chk12 v247 v249), ∀ a x, ((![v247, v249] : Fin 2 → IVec S16 32) a x).toNat < S512x128.size a := fun v247 v249 k0_hw12 => k0_hw12

def k0_chk13 (v254 : IVec S16 32) (v256 : IVec S16 32) : Prop :=
  (∀ a x, ((![v254, v256] : Fin 2 → IVec S16 32) a x).toNat < S512x128.size a)
theorem k0_idx13_inb : ∀ (v254 : IVec S16 32) (v256 : IVec S16 32) (k0_hw13 : k0_chk13 v254 v256), ∀ a x, ((![v254, v256] : Fin 2 → IVec S16 32) a x).toNat < S512x128.size a := fun v254 v256 k0_hw13 => k0_hw13

def k0_chk14 (v261 : IVec S16 32) (v263 : IVec S16 32) : Prop :=
  (∀ a x, ((![v261, v263] : Fin 2 → IVec S16 32) a x).toNat < S512x128.size a)
theorem k0_idx14_inb : ∀ (v261 : IVec S16 32) (v263 : IVec S16 32) (k0_hw14 : k0_chk14 v261 v263), ∀ a x, ((![v261, v263] : Fin 2 → IVec S16 32) a x).toNat < S512x128.size a := fun v261 v263 k0_hw14 => k0_hw14

def k0_chk15 (v268 : IVec S16 32) (v270 : IVec S16 32) : Prop :=
  (∀ a x, ((![v268, v270] : Fin 2 → IVec S16 32) a x).toNat < S512x128.size a)
theorem k0_idx15_inb : ∀ (v268 : IVec S16 32) (v270 : IVec S16 32) (k0_hw15 : k0_chk15 v268 v270), ∀ a x, ((![v268, v270] : Fin 2 → IVec S16 32) a x).toNat < S512x128.size a := fun v268 v270 k0_hw15 => k0_hw15

def k0_chk16 (v275 : IVec S16 32) (v277 : IVec S16 32) : Prop :=
  (∀ a x, ((![v275, v277] : Fin 2 → IVec S16 32) a x).toNat < S512x128.size a)
theorem k0_idx16_inb : ∀ (v275 : IVec S16 32) (v277 : IVec S16 32) (k0_hw16 : k0_chk16 v275 v277), ∀ a x, ((![v275, v277] : Fin 2 → IVec S16 32) a x).toNat < S512x128.size a := fun v275 v277 k0_hw16 => k0_hw16

def k0_chk17 (v280 : IVec S16 32) (v284 : IVec S16 32) : Prop :=
  (∀ a x, ((![v280, v284] : Fin 2 → IVec S16 32) a x).toNat < S512x128.size a)
theorem k0_idx17_inb : ∀ (v280 : IVec S16 32) (v284 : IVec S16 32) (k0_hw17 : k0_chk17 v280 v284), ∀ a x, ((![v280, v284] : Fin 2 → IVec S16 32) a x).toNat < S512x128.size a := fun v280 v284 k0_hw17 => k0_hw17

def k0_chk18 (v287 : IVec S16 32) (v291 : IVec S16 32) : Prop :=
  (∀ a x, ((![v287, v291] : Fin 2 → IVec S16 32) a x).toNat < S512x128.size a)
theorem k0_idx18_inb : ∀ (v287 : IVec S16 32) (v291 : IVec S16 32) (k0_hw18 : k0_chk18 v287 v291), ∀ a x, ((![v287, v291] : Fin 2 → IVec S16 32) a x).toNat < S512x128.size a := fun v287 v291 k0_hw18 => k0_hw18

def k0_chk19 (v294 : IVec S16 32) (v298 : IVec S16 32) : Prop :=
  (∀ a x, ((![v294, v298] : Fin 2 → IVec S16 32) a x).toNat < S512x128.size a)
theorem k0_idx19_inb : ∀ (v294 : IVec S16 32) (v298 : IVec S16 32) (k0_hw19 : k0_chk19 v294 v298), ∀ a x, ((![v294, v298] : Fin 2 → IVec S16 32) a x).toNat < S512x128.size a := fun v294 v298 k0_hw19 => k0_hw19

def k0_chk20 (v301 : IVec S16 32) (v305 : IVec S16 32) : Prop :=
  (∀ a x, ((![v301, v305] : Fin 2 → IVec S16 32) a x).toNat < S512x128.size a)
theorem k0_idx20_inb : ∀ (v301 : IVec S16 32) (v305 : IVec S16 32) (k0_hw20 : k0_chk20 v301 v305), ∀ a x, ((![v301, v305] : Fin 2 → IVec S16 32) a x).toNat < S512x128.size a := fun v301 v305 k0_hw20 => k0_hw20

def k0_chk21 (v308 : IVec S16 32) (v312 : IVec S16 32) : Prop :=
  (∀ a x, ((![v308, v312] : Fin 2 → IVec S16 32) a x).toNat < S512x128.size a)
theorem k0_idx21_inb : ∀ (v308 : IVec S16 32) (v312 : IVec S16 32) (k0_hw21 : k0_chk21 v308 v312), ∀ a x, ((![v308, v312] : Fin 2 → IVec S16 32) a x).toNat < S512x128.size a := fun v308 v312 k0_hw21 => k0_hw21

def k0_chk22 (v315 : IVec S16 32) (v319 : IVec S16 32) : Prop :=
  (∀ a x, ((![v315, v319] : Fin 2 → IVec S16 32) a x).toNat < S512x128.size a)
theorem k0_idx22_inb : ∀ (v315 : IVec S16 32) (v319 : IVec S16 32) (k0_hw22 : k0_chk22 v315 v319), ∀ a x, ((![v315, v319] : Fin 2 → IVec S16 32) a x).toNat < S512x128.size a := fun v315 v319 k0_hw22 => k0_hw22

def k0_chk23 (v322 : IVec S16 32) (v326 : IVec S16 32) : Prop :=
  (∀ a x, ((![v322, v326] : Fin 2 → IVec S16 32) a x).toNat < S512x128.size a)
theorem k0_idx23_inb : ∀ (v322 : IVec S16 32) (v326 : IVec S16 32) (k0_hw23 : k0_chk23 v322 v326), ∀ a x, ((![v322, v326] : Fin 2 → IVec S16 32) a x).toNat < S512x128.size a := fun v322 v326 k0_hw23 => k0_hw23

def k0_chk24 (v329 : IVec S16 32) (v333 : IVec S16 32) : Prop :=
  (∀ a x, ((![v329, v333] : Fin 2 → IVec S16 32) a x).toNat < S512x128.size a)
theorem k0_idx24_inb : ∀ (v329 : IVec S16 32) (v333 : IVec S16 32) (k0_hw24 : k0_chk24 v329 v333), ∀ a x, ((![v329, v333] : Fin 2 → IVec S16 32) a x).toNat < S512x128.size a := fun v329 v333 k0_hw24 => k0_hw24
def k0_off20 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_177 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk25 (v34 : IVec S16 32) (v336 : IVec S16 32) (v340 : IVec S16 32) : Prop :=
  (∀ a x, ((![v336, v340, v34] : Fin 3 → IVec S16 32) a x).toNat < S8x4x16.size a)
theorem k0_idx25_inb : ∀ (v34 : IVec S16 32) (v336 : IVec S16 32) (v340 : IVec S16 32) (k0_hw25 : k0_chk25 v34 v336 v340), ∀ a x, ((![v336, v340, v34] : Fin 3 → IVec S16 32) a x).toNat < S8x4x16.size a := fun v34 v336 v340 k0_hw25 => k0_hw25
def k0_off21 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_182 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk26 (v34 : IVec S16 32) (v344 : IVec S16 32) (v350 : IVec S16 32) : Prop :=
  (∀ a x, ((![v344, v350, v34] : Fin 3 → IVec S16 32) a x).toNat < S8x4x16.size a)
theorem k0_idx26_inb : ∀ (v34 : IVec S16 32) (v344 : IVec S16 32) (v350 : IVec S16 32) (k0_hw26 : k0_chk26 v34 v344 v350), ∀ a x, ((![v344, v350, v34] : Fin 3 → IVec S16 32) a x).toNat < S8x4x16.size a := fun v34 v344 v350 k0_hw26 => k0_hw26
def k0_off22 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_186 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk27 (v34 : IVec S16 32) (v354 : IVec S16 32) (v358 : IVec S16 32) : Prop :=
  (∀ a x, ((![v354, v358, v34] : Fin 3 → IVec S16 32) a x).toNat < S8x4x16.size a)
theorem k0_idx27_inb : ∀ (v34 : IVec S16 32) (v354 : IVec S16 32) (v358 : IVec S16 32) (k0_hw27 : k0_chk27 v34 v354 v358), ∀ a x, ((![v354, v358, v34] : Fin 3 → IVec S16 32) a x).toNat < S8x4x16.size a := fun v34 v354 v358 k0_hw27 => k0_hw27
def k0_off23 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_191 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk28 (v34 : IVec S16 32) (v362 : IVec S16 32) (v368 : IVec S16 32) : Prop :=
  (∀ a x, ((![v362, v368, v34] : Fin 3 → IVec S16 32) a x).toNat < S8x4x16.size a)
theorem k0_idx28_inb : ∀ (v34 : IVec S16 32) (v362 : IVec S16 32) (v368 : IVec S16 32) (k0_hw28 : k0_chk28 v34 v362 v368), ∀ a x, ((![v362, v368, v34] : Fin 3 → IVec S16 32) a x).toNat < S8x4x16.size a := fun v34 v362 v368 k0_hw28 => k0_hw28
def k0_off24 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_195 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk29 (v34 : IVec S16 32) (v372 : IVec S16 32) (v376 : IVec S16 32) : Prop :=
  (∀ a x, ((![v372, v376, v34] : Fin 3 → IVec S16 32) a x).toNat < S8x4x16.size a)
theorem k0_idx29_inb : ∀ (v34 : IVec S16 32) (v372 : IVec S16 32) (v376 : IVec S16 32) (k0_hw29 : k0_chk29 v34 v372 v376), ∀ a x, ((![v372, v376, v34] : Fin 3 → IVec S16 32) a x).toNat < S8x4x16.size a := fun v34 v372 v376 k0_hw29 => k0_hw29
def k0_off25 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_200 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk30 (v34 : IVec S16 32) (v380 : IVec S16 32) (v386 : IVec S16 32) : Prop :=
  (∀ a x, ((![v380, v386, v34] : Fin 3 → IVec S16 32) a x).toNat < S8x4x16.size a)
theorem k0_idx30_inb : ∀ (v34 : IVec S16 32) (v380 : IVec S16 32) (v386 : IVec S16 32) (k0_hw30 : k0_chk30 v34 v380 v386), ∀ a x, ((![v380, v386, v34] : Fin 3 → IVec S16 32) a x).toNat < S8x4x16.size a := fun v34 v380 v386 k0_hw30 => k0_hw30
def k0_off26 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_204 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk31 (v34 : IVec S16 32) (v390 : IVec S16 32) (v394 : IVec S16 32) : Prop :=
  (∀ a x, ((![v390, v394, v34] : Fin 3 → IVec S16 32) a x).toNat < S8x4x16.size a)
theorem k0_idx31_inb : ∀ (v34 : IVec S16 32) (v390 : IVec S16 32) (v394 : IVec S16 32) (k0_hw31 : k0_chk31 v34 v390 v394), ∀ a x, ((![v390, v394, v34] : Fin 3 → IVec S16 32) a x).toNat < S8x4x16.size a := fun v34 v390 v394 k0_hw31 => k0_hw31
def k0_off27 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_209 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk32 (v34 : IVec S16 32) (v398 : IVec S16 32) (v404 : IVec S16 32) : Prop :=
  (∀ a x, ((![v398, v404, v34] : Fin 3 → IVec S16 32) a x).toNat < S8x4x16.size a)
theorem k0_idx32_inb : ∀ (v34 : IVec S16 32) (v398 : IVec S16 32) (v404 : IVec S16 32) (k0_hw32 : k0_chk32 v34 v398 v404), ∀ a x, ((![v398, v404, v34] : Fin 3 → IVec S16 32) a x).toNat < S8x4x16.size a := fun v34 v398 v404 k0_hw32 => k0_hw32
def k0_off28 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_213 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk33 (v34 : IVec S16 32) (v408 : IVec S16 32) (v412 : IVec S16 32) : Prop :=
  (∀ a x, ((![v408, v412, v34] : Fin 3 → IVec S16 32) a x).toNat < S8x4x16.size a)
theorem k0_idx33_inb : ∀ (v34 : IVec S16 32) (v408 : IVec S16 32) (v412 : IVec S16 32) (k0_hw33 : k0_chk33 v34 v408 v412), ∀ a x, ((![v408, v412, v34] : Fin 3 → IVec S16 32) a x).toNat < S8x4x16.size a := fun v34 v408 v412 k0_hw33 => k0_hw33
def k0_off29 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_218 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk34 (v34 : IVec S16 32) (v416 : IVec S16 32) (v422 : IVec S16 32) : Prop :=
  (∀ a x, ((![v416, v422, v34] : Fin 3 → IVec S16 32) a x).toNat < S8x4x16.size a)
theorem k0_idx34_inb : ∀ (v34 : IVec S16 32) (v416 : IVec S16 32) (v422 : IVec S16 32) (k0_hw34 : k0_chk34 v34 v416 v422), ∀ a x, ((![v416, v422, v34] : Fin 3 → IVec S16 32) a x).toNat < S8x4x16.size a := fun v34 v416 v422 k0_hw34 => k0_hw34
def k0_off30 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_222 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk35 (v34 : IVec S16 32) (v426 : IVec S16 32) (v430 : IVec S16 32) : Prop :=
  (∀ a x, ((![v426, v430, v34] : Fin 3 → IVec S16 32) a x).toNat < S8x4x16.size a)
theorem k0_idx35_inb : ∀ (v34 : IVec S16 32) (v426 : IVec S16 32) (v430 : IVec S16 32) (k0_hw35 : k0_chk35 v34 v426 v430), ∀ a x, ((![v426, v430, v34] : Fin 3 → IVec S16 32) a x).toNat < S8x4x16.size a := fun v34 v426 v430 k0_hw35 => k0_hw35
def k0_off31 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_227 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk36 (v34 : IVec S16 32) (v434 : IVec S16 32) (v440 : IVec S16 32) : Prop :=
  (∀ a x, ((![v434, v440, v34] : Fin 3 → IVec S16 32) a x).toNat < S8x4x16.size a)
theorem k0_idx36_inb : ∀ (v34 : IVec S16 32) (v434 : IVec S16 32) (v440 : IVec S16 32) (k0_hw36 : k0_chk36 v34 v434 v440), ∀ a x, ((![v434, v440, v34] : Fin 3 → IVec S16 32) a x).toNat < S8x4x16.size a := fun v34 v434 v440 k0_hw36 => k0_hw36
def k0_off32 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_231 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk37 (v34 : IVec S16 32) (v444 : IVec S16 32) (v448 : IVec S16 32) : Prop :=
  (∀ a x, ((![v444, v448, v34] : Fin 3 → IVec S16 32) a x).toNat < S8x4x16.size a)
theorem k0_idx37_inb : ∀ (v34 : IVec S16 32) (v444 : IVec S16 32) (v448 : IVec S16 32) (k0_hw37 : k0_chk37 v34 v444 v448), ∀ a x, ((![v444, v448, v34] : Fin 3 → IVec S16 32) a x).toNat < S8x4x16.size a := fun v34 v444 v448 k0_hw37 => k0_hw37
def k0_off33 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_236 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk38 (v34 : IVec S16 32) (v452 : IVec S16 32) (v458 : IVec S16 32) : Prop :=
  (∀ a x, ((![v452, v458, v34] : Fin 3 → IVec S16 32) a x).toNat < S8x4x16.size a)
theorem k0_idx38_inb : ∀ (v34 : IVec S16 32) (v452 : IVec S16 32) (v458 : IVec S16 32) (k0_hw38 : k0_chk38 v34 v452 v458), ∀ a x, ((![v452, v458, v34] : Fin 3 → IVec S16 32) a x).toNat < S8x4x16.size a := fun v34 v452 v458 k0_hw38 => k0_hw38
def k0_off34 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_240 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk39 (v34 : IVec S16 32) (v462 : IVec S16 32) (v466 : IVec S16 32) : Prop :=
  (∀ a x, ((![v462, v466, v34] : Fin 3 → IVec S16 32) a x).toNat < S8x4x16.size a)
theorem k0_idx39_inb : ∀ (v34 : IVec S16 32) (v462 : IVec S16 32) (v466 : IVec S16 32) (k0_hw39 : k0_chk39 v34 v462 v466), ∀ a x, ((![v462, v466, v34] : Fin 3 → IVec S16 32) a x).toNat < S8x4x16.size a := fun v34 v462 v466 k0_hw39 => k0_hw39
def k0_off35 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_245 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk40 (v34 : IVec S16 32) (v470 : IVec S16 32) (v476 : IVec S16 32) : Prop :=
  (∀ a x, ((![v470, v476, v34] : Fin 3 → IVec S16 32) a x).toNat < S8x4x16.size a)
theorem k0_idx40_inb : ∀ (v34 : IVec S16 32) (v470 : IVec S16 32) (v476 : IVec S16 32) (k0_hw40 : k0_chk40 v34 v470 v476), ∀ a x, ((![v470, v476, v34] : Fin 3 → IVec S16 32) a x).toNat < S8x4x16.size a := fun v34 v470 v476 k0_hw40 => k0_hw40
def k0_off36 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_248 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk41 (v70 : IVec S16 32) (v480 : IVec S16 32) (v482 : IVec S16 32) : Prop :=
  (∀ a x, ((![v480, v482, v70] : Fin 3 → IVec S16 32) a x).toNat < S2x8x16.size a)
theorem k0_idx41_inb : ∀ (v70 : IVec S16 32) (v480 : IVec S16 32) (v482 : IVec S16 32) (k0_hw41 : k0_chk41 v70 v480 v482), ∀ a x, ((![v480, v482, v70] : Fin 3 → IVec S16 32) a x).toNat < S2x8x16.size a := fun v70 v480 v482 k0_hw41 => k0_hw41
def k0_off37 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_251 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk42 (v74 : IVec S16 32) (v487 : IVec S16 32) (v489 : IVec S16 32) : Prop :=
  (∀ a x, ((![v487, v489, v74] : Fin 3 → IVec S16 32) a x).toNat < S2x8x16.size a)
theorem k0_idx42_inb : ∀ (v74 : IVec S16 32) (v487 : IVec S16 32) (v489 : IVec S16 32) (k0_hw42 : k0_chk42 v74 v487 v489), ∀ a x, ((![v487, v489, v74] : Fin 3 → IVec S16 32) a x).toNat < S2x8x16.size a := fun v74 v487 v489 k0_hw42 => k0_hw42
def k0_off38 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_254 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk43 (v78 : IVec S16 32) (v494 : IVec S16 32) (v496 : IVec S16 32) : Prop :=
  (∀ a x, ((![v494, v496, v78] : Fin 3 → IVec S16 32) a x).toNat < S2x8x16.size a)
theorem k0_idx43_inb : ∀ (v78 : IVec S16 32) (v494 : IVec S16 32) (v496 : IVec S16 32) (k0_hw43 : k0_chk43 v78 v494 v496), ∀ a x, ((![v494, v496, v78] : Fin 3 → IVec S16 32) a x).toNat < S2x8x16.size a := fun v78 v494 v496 k0_hw43 => k0_hw43
def k0_off39 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_257 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk44 (v82 : IVec S16 32) (v501 : IVec S16 32) (v503 : IVec S16 32) : Prop :=
  (∀ a x, ((![v501, v503, v82] : Fin 3 → IVec S16 32) a x).toNat < S2x8x16.size a)
theorem k0_idx44_inb : ∀ (v82 : IVec S16 32) (v501 : IVec S16 32) (v503 : IVec S16 32) (k0_hw44 : k0_chk44 v82 v501 v503), ∀ a x, ((![v501, v503, v82] : Fin 3 → IVec S16 32) a x).toNat < S2x8x16.size a := fun v82 v501 v503 k0_hw44 => k0_hw44
def k0_off40 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_260 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk45 (v86 : IVec S16 32) (v508 : IVec S16 32) (v510 : IVec S16 32) : Prop :=
  (∀ a x, ((![v508, v510, v86] : Fin 3 → IVec S16 32) a x).toNat < S2x8x16.size a)
theorem k0_idx45_inb : ∀ (v86 : IVec S16 32) (v508 : IVec S16 32) (v510 : IVec S16 32) (k0_hw45 : k0_chk45 v86 v508 v510), ∀ a x, ((![v508, v510, v86] : Fin 3 → IVec S16 32) a x).toNat < S2x8x16.size a := fun v86 v508 v510 k0_hw45 => k0_hw45
def k0_off41 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_263 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk46 (v90 : IVec S16 32) (v515 : IVec S16 32) (v517 : IVec S16 32) : Prop :=
  (∀ a x, ((![v515, v517, v90] : Fin 3 → IVec S16 32) a x).toNat < S2x8x16.size a)
theorem k0_idx46_inb : ∀ (v90 : IVec S16 32) (v515 : IVec S16 32) (v517 : IVec S16 32) (k0_hw46 : k0_chk46 v90 v515 v517), ∀ a x, ((![v515, v517, v90] : Fin 3 → IVec S16 32) a x).toNat < S2x8x16.size a := fun v90 v515 v517 k0_hw46 => k0_hw46
def k0_off42 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_266 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk47 (v94 : IVec S16 32) (v522 : IVec S16 32) (v524 : IVec S16 32) : Prop :=
  (∀ a x, ((![v522, v524, v94] : Fin 3 → IVec S16 32) a x).toNat < S2x8x16.size a)
theorem k0_idx47_inb : ∀ (v94 : IVec S16 32) (v522 : IVec S16 32) (v524 : IVec S16 32) (k0_hw47 : k0_chk47 v94 v522 v524), ∀ a x, ((![v522, v524, v94] : Fin 3 → IVec S16 32) a x).toNat < S2x8x16.size a := fun v94 v522 v524 k0_hw47 => k0_hw47
def k0_off43 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_269 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk48 (v98 : IVec S16 32) (v529 : IVec S16 32) (v531 : IVec S16 32) : Prop :=
  (∀ a x, ((![v529, v531, v98] : Fin 3 → IVec S16 32) a x).toNat < S2x8x16.size a)
theorem k0_idx48_inb : ∀ (v98 : IVec S16 32) (v529 : IVec S16 32) (v531 : IVec S16 32) (k0_hw48 : k0_chk48 v98 v529 v531), ∀ a x, ((![v529, v531, v98] : Fin 3 → IVec S16 32) a x).toNat < S2x8x16.size a := fun v98 v529 v531 k0_hw48 => k0_hw48

def k0_chk49 (v538 : IVec S16 32) (v540 : IVec S16 32) : Prop :=
  (∀ a x, ((![v538, v540] : Fin 2 → IVec S16 32) a x).toNat < S512x128.size a)
theorem k0_idx49_inb : ∀ (v538 : IVec S16 32) (v540 : IVec S16 32) (k0_hw49 : k0_chk49 v538 v540), ∀ a x, ((![v538, v540] : Fin 2 → IVec S16 32) a x).toNat < S512x128.size a := fun v538 v540 k0_hw49 => k0_hw49

def k0_chk50 (v545 : IVec S16 32) (v547 : IVec S16 32) : Prop :=
  (∀ a x, ((![v545, v547] : Fin 2 → IVec S16 32) a x).toNat < S512x128.size a)
theorem k0_idx50_inb : ∀ (v545 : IVec S16 32) (v547 : IVec S16 32) (k0_hw50 : k0_chk50 v545 v547), ∀ a x, ((![v545, v547] : Fin 2 → IVec S16 32) a x).toNat < S512x128.size a := fun v545 v547 k0_hw50 => k0_hw50

def k0_chk51 (v552 : IVec S16 32) (v554 : IVec S16 32) : Prop :=
  (∀ a x, ((![v552, v554] : Fin 2 → IVec S16 32) a x).toNat < S512x128.size a)
theorem k0_idx51_inb : ∀ (v552 : IVec S16 32) (v554 : IVec S16 32) (k0_hw51 : k0_chk51 v552 v554), ∀ a x, ((![v552, v554] : Fin 2 → IVec S16 32) a x).toNat < S512x128.size a := fun v552 v554 k0_hw51 => k0_hw51

def k0_chk52 (v559 : IVec S16 32) (v561 : IVec S16 32) : Prop :=
  (∀ a x, ((![v559, v561] : Fin 2 → IVec S16 32) a x).toNat < S512x128.size a)
theorem k0_idx52_inb : ∀ (v559 : IVec S16 32) (v561 : IVec S16 32) (k0_hw52 : k0_chk52 v559 v561), ∀ a x, ((![v559, v561] : Fin 2 → IVec S16 32) a x).toNat < S512x128.size a := fun v559 v561 k0_hw52 => k0_hw52

def k0_chk53 (v566 : IVec S16 32) (v568 : IVec S16 32) : Prop :=
  (∀ a x, ((![v566, v568] : Fin 2 → IVec S16 32) a x).toNat < S512x128.size a)
theorem k0_idx53_inb : ∀ (v566 : IVec S16 32) (v568 : IVec S16 32) (k0_hw53 : k0_chk53 v566 v568), ∀ a x, ((![v566, v568] : Fin 2 → IVec S16 32) a x).toNat < S512x128.size a := fun v566 v568 k0_hw53 => k0_hw53

def k0_chk54 (v573 : IVec S16 32) (v575 : IVec S16 32) : Prop :=
  (∀ a x, ((![v573, v575] : Fin 2 → IVec S16 32) a x).toNat < S512x128.size a)
theorem k0_idx54_inb : ∀ (v573 : IVec S16 32) (v575 : IVec S16 32) (k0_hw54 : k0_chk54 v573 v575), ∀ a x, ((![v573, v575] : Fin 2 → IVec S16 32) a x).toNat < S512x128.size a := fun v573 v575 k0_hw54 => k0_hw54

def k0_chk55 (v580 : IVec S16 32) (v582 : IVec S16 32) : Prop :=
  (∀ a x, ((![v580, v582] : Fin 2 → IVec S16 32) a x).toNat < S512x128.size a)
theorem k0_idx55_inb : ∀ (v580 : IVec S16 32) (v582 : IVec S16 32) (k0_hw55 : k0_chk55 v580 v582), ∀ a x, ((![v580, v582] : Fin 2 → IVec S16 32) a x).toNat < S512x128.size a := fun v580 v582 k0_hw55 => k0_hw55

def k0_chk56 (v587 : IVec S16 32) (v589 : IVec S16 32) : Prop :=
  (∀ a x, ((![v587, v589] : Fin 2 → IVec S16 32) a x).toNat < S512x128.size a)
theorem k0_idx56_inb : ∀ (v587 : IVec S16 32) (v589 : IVec S16 32) (k0_hw56 : k0_chk56 v587 v589), ∀ a x, ((![v587, v589] : Fin 2 → IVec S16 32) a x).toNat < S512x128.size a := fun v587 v589 k0_hw56 => k0_hw56

def k0_chk57 (v592 : IVec S16 32) (v596 : IVec S16 32) : Prop :=
  (∀ a x, ((![v592, v596] : Fin 2 → IVec S16 32) a x).toNat < S512x128.size a)
theorem k0_idx57_inb : ∀ (v592 : IVec S16 32) (v596 : IVec S16 32) (k0_hw57 : k0_chk57 v592 v596), ∀ a x, ((![v592, v596] : Fin 2 → IVec S16 32) a x).toNat < S512x128.size a := fun v592 v596 k0_hw57 => k0_hw57

def k0_chk58 (v599 : IVec S16 32) (v603 : IVec S16 32) : Prop :=
  (∀ a x, ((![v599, v603] : Fin 2 → IVec S16 32) a x).toNat < S512x128.size a)
theorem k0_idx58_inb : ∀ (v599 : IVec S16 32) (v603 : IVec S16 32) (k0_hw58 : k0_chk58 v599 v603), ∀ a x, ((![v599, v603] : Fin 2 → IVec S16 32) a x).toNat < S512x128.size a := fun v599 v603 k0_hw58 => k0_hw58

def k0_chk59 (v606 : IVec S16 32) (v610 : IVec S16 32) : Prop :=
  (∀ a x, ((![v606, v610] : Fin 2 → IVec S16 32) a x).toNat < S512x128.size a)
theorem k0_idx59_inb : ∀ (v606 : IVec S16 32) (v610 : IVec S16 32) (k0_hw59 : k0_chk59 v606 v610), ∀ a x, ((![v606, v610] : Fin 2 → IVec S16 32) a x).toNat < S512x128.size a := fun v606 v610 k0_hw59 => k0_hw59

def k0_chk60 (v613 : IVec S16 32) (v617 : IVec S16 32) : Prop :=
  (∀ a x, ((![v613, v617] : Fin 2 → IVec S16 32) a x).toNat < S512x128.size a)
theorem k0_idx60_inb : ∀ (v613 : IVec S16 32) (v617 : IVec S16 32) (k0_hw60 : k0_chk60 v613 v617), ∀ a x, ((![v613, v617] : Fin 2 → IVec S16 32) a x).toNat < S512x128.size a := fun v613 v617 k0_hw60 => k0_hw60

def k0_chk61 (v620 : IVec S16 32) (v624 : IVec S16 32) : Prop :=
  (∀ a x, ((![v620, v624] : Fin 2 → IVec S16 32) a x).toNat < S512x128.size a)
theorem k0_idx61_inb : ∀ (v620 : IVec S16 32) (v624 : IVec S16 32) (k0_hw61 : k0_chk61 v620 v624), ∀ a x, ((![v620, v624] : Fin 2 → IVec S16 32) a x).toNat < S512x128.size a := fun v620 v624 k0_hw61 => k0_hw61

def k0_chk62 (v627 : IVec S16 32) (v631 : IVec S16 32) : Prop :=
  (∀ a x, ((![v627, v631] : Fin 2 → IVec S16 32) a x).toNat < S512x128.size a)
theorem k0_idx62_inb : ∀ (v627 : IVec S16 32) (v631 : IVec S16 32) (k0_hw62 : k0_chk62 v627 v631), ∀ a x, ((![v627, v631] : Fin 2 → IVec S16 32) a x).toNat < S512x128.size a := fun v627 v631 k0_hw62 => k0_hw62

def k0_chk63 (v634 : IVec S16 32) (v638 : IVec S16 32) : Prop :=
  (∀ a x, ((![v634, v638] : Fin 2 → IVec S16 32) a x).toNat < S512x128.size a)
theorem k0_idx63_inb : ∀ (v634 : IVec S16 32) (v638 : IVec S16 32) (k0_hw63 : k0_chk63 v634 v638), ∀ a x, ((![v634, v638] : Fin 2 → IVec S16 32) a x).toNat < S512x128.size a := fun v634 v638 k0_hw63 => k0_hw63

def k0_chk64 (v641 : IVec S16 32) (v645 : IVec S16 32) : Prop :=
  (∀ a x, ((![v641, v645] : Fin 2 → IVec S16 32) a x).toNat < S512x128.size a)
theorem k0_idx64_inb : ∀ (v641 : IVec S16 32) (v645 : IVec S16 32) (k0_hw64 : k0_chk64 v641 v645), ∀ a x, ((![v641, v645] : Fin 2 → IVec S16 32) a x).toNat < S512x128.size a := fun v641 v645 k0_hw64 => k0_hw64
def k0_off44 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_321 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk65 (v34 : IVec S16 32) (v648 : IVec S16 32) (v652 : IVec S16 32) : Prop :=
  (∀ a x, ((![v648, v652, v34] : Fin 3 → IVec S16 32) a x).toNat < S8x4x16.size a)
theorem k0_idx65_inb : ∀ (v34 : IVec S16 32) (v648 : IVec S16 32) (v652 : IVec S16 32) (k0_hw65 : k0_chk65 v34 v648 v652), ∀ a x, ((![v648, v652, v34] : Fin 3 → IVec S16 32) a x).toNat < S8x4x16.size a := fun v34 v648 v652 k0_hw65 => k0_hw65
def k0_off45 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_326 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk66 (v34 : IVec S16 32) (v656 : IVec S16 32) (v662 : IVec S16 32) : Prop :=
  (∀ a x, ((![v656, v662, v34] : Fin 3 → IVec S16 32) a x).toNat < S8x4x16.size a)
theorem k0_idx66_inb : ∀ (v34 : IVec S16 32) (v656 : IVec S16 32) (v662 : IVec S16 32) (k0_hw66 : k0_chk66 v34 v656 v662), ∀ a x, ((![v656, v662, v34] : Fin 3 → IVec S16 32) a x).toNat < S8x4x16.size a := fun v34 v656 v662 k0_hw66 => k0_hw66
def k0_off46 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_330 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk67 (v34 : IVec S16 32) (v666 : IVec S16 32) (v670 : IVec S16 32) : Prop :=
  (∀ a x, ((![v666, v670, v34] : Fin 3 → IVec S16 32) a x).toNat < S8x4x16.size a)
theorem k0_idx67_inb : ∀ (v34 : IVec S16 32) (v666 : IVec S16 32) (v670 : IVec S16 32) (k0_hw67 : k0_chk67 v34 v666 v670), ∀ a x, ((![v666, v670, v34] : Fin 3 → IVec S16 32) a x).toNat < S8x4x16.size a := fun v34 v666 v670 k0_hw67 => k0_hw67
def k0_off47 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_335 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk68 (v34 : IVec S16 32) (v674 : IVec S16 32) (v680 : IVec S16 32) : Prop :=
  (∀ a x, ((![v674, v680, v34] : Fin 3 → IVec S16 32) a x).toNat < S8x4x16.size a)
theorem k0_idx68_inb : ∀ (v34 : IVec S16 32) (v674 : IVec S16 32) (v680 : IVec S16 32) (k0_hw68 : k0_chk68 v34 v674 v680), ∀ a x, ((![v674, v680, v34] : Fin 3 → IVec S16 32) a x).toNat < S8x4x16.size a := fun v34 v674 v680 k0_hw68 => k0_hw68
def k0_off48 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_339 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk69 (v34 : IVec S16 32) (v684 : IVec S16 32) (v688 : IVec S16 32) : Prop :=
  (∀ a x, ((![v684, v688, v34] : Fin 3 → IVec S16 32) a x).toNat < S8x4x16.size a)
theorem k0_idx69_inb : ∀ (v34 : IVec S16 32) (v684 : IVec S16 32) (v688 : IVec S16 32) (k0_hw69 : k0_chk69 v34 v684 v688), ∀ a x, ((![v684, v688, v34] : Fin 3 → IVec S16 32) a x).toNat < S8x4x16.size a := fun v34 v684 v688 k0_hw69 => k0_hw69
def k0_off49 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_344 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk70 (v34 : IVec S16 32) (v692 : IVec S16 32) (v698 : IVec S16 32) : Prop :=
  (∀ a x, ((![v692, v698, v34] : Fin 3 → IVec S16 32) a x).toNat < S8x4x16.size a)
theorem k0_idx70_inb : ∀ (v34 : IVec S16 32) (v692 : IVec S16 32) (v698 : IVec S16 32) (k0_hw70 : k0_chk70 v34 v692 v698), ∀ a x, ((![v692, v698, v34] : Fin 3 → IVec S16 32) a x).toNat < S8x4x16.size a := fun v34 v692 v698 k0_hw70 => k0_hw70
def k0_off50 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_348 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk71 (v34 : IVec S16 32) (v702 : IVec S16 32) (v706 : IVec S16 32) : Prop :=
  (∀ a x, ((![v702, v706, v34] : Fin 3 → IVec S16 32) a x).toNat < S8x4x16.size a)
theorem k0_idx71_inb : ∀ (v34 : IVec S16 32) (v702 : IVec S16 32) (v706 : IVec S16 32) (k0_hw71 : k0_chk71 v34 v702 v706), ∀ a x, ((![v702, v706, v34] : Fin 3 → IVec S16 32) a x).toNat < S8x4x16.size a := fun v34 v702 v706 k0_hw71 => k0_hw71
def k0_off51 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_353 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk72 (v34 : IVec S16 32) (v710 : IVec S16 32) (v716 : IVec S16 32) : Prop :=
  (∀ a x, ((![v710, v716, v34] : Fin 3 → IVec S16 32) a x).toNat < S8x4x16.size a)
theorem k0_idx72_inb : ∀ (v34 : IVec S16 32) (v710 : IVec S16 32) (v716 : IVec S16 32) (k0_hw72 : k0_chk72 v34 v710 v716), ∀ a x, ((![v710, v716, v34] : Fin 3 → IVec S16 32) a x).toNat < S8x4x16.size a := fun v34 v710 v716 k0_hw72 => k0_hw72
def k0_off52 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_357 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk73 (v34 : IVec S16 32) (v720 : IVec S16 32) (v724 : IVec S16 32) : Prop :=
  (∀ a x, ((![v720, v724, v34] : Fin 3 → IVec S16 32) a x).toNat < S8x4x16.size a)
theorem k0_idx73_inb : ∀ (v34 : IVec S16 32) (v720 : IVec S16 32) (v724 : IVec S16 32) (k0_hw73 : k0_chk73 v34 v720 v724), ∀ a x, ((![v720, v724, v34] : Fin 3 → IVec S16 32) a x).toNat < S8x4x16.size a := fun v34 v720 v724 k0_hw73 => k0_hw73
def k0_off53 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_362 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk74 (v34 : IVec S16 32) (v728 : IVec S16 32) (v734 : IVec S16 32) : Prop :=
  (∀ a x, ((![v728, v734, v34] : Fin 3 → IVec S16 32) a x).toNat < S8x4x16.size a)
theorem k0_idx74_inb : ∀ (v34 : IVec S16 32) (v728 : IVec S16 32) (v734 : IVec S16 32) (k0_hw74 : k0_chk74 v34 v728 v734), ∀ a x, ((![v728, v734, v34] : Fin 3 → IVec S16 32) a x).toNat < S8x4x16.size a := fun v34 v728 v734 k0_hw74 => k0_hw74
def k0_off54 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_366 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk75 (v34 : IVec S16 32) (v738 : IVec S16 32) (v742 : IVec S16 32) : Prop :=
  (∀ a x, ((![v738, v742, v34] : Fin 3 → IVec S16 32) a x).toNat < S8x4x16.size a)
theorem k0_idx75_inb : ∀ (v34 : IVec S16 32) (v738 : IVec S16 32) (v742 : IVec S16 32) (k0_hw75 : k0_chk75 v34 v738 v742), ∀ a x, ((![v738, v742, v34] : Fin 3 → IVec S16 32) a x).toNat < S8x4x16.size a := fun v34 v738 v742 k0_hw75 => k0_hw75
def k0_off55 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_371 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk76 (v34 : IVec S16 32) (v746 : IVec S16 32) (v752 : IVec S16 32) : Prop :=
  (∀ a x, ((![v746, v752, v34] : Fin 3 → IVec S16 32) a x).toNat < S8x4x16.size a)
theorem k0_idx76_inb : ∀ (v34 : IVec S16 32) (v746 : IVec S16 32) (v752 : IVec S16 32) (k0_hw76 : k0_chk76 v34 v746 v752), ∀ a x, ((![v746, v752, v34] : Fin 3 → IVec S16 32) a x).toNat < S8x4x16.size a := fun v34 v746 v752 k0_hw76 => k0_hw76
def k0_off56 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_375 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk77 (v34 : IVec S16 32) (v756 : IVec S16 32) (v760 : IVec S16 32) : Prop :=
  (∀ a x, ((![v756, v760, v34] : Fin 3 → IVec S16 32) a x).toNat < S8x4x16.size a)
theorem k0_idx77_inb : ∀ (v34 : IVec S16 32) (v756 : IVec S16 32) (v760 : IVec S16 32) (k0_hw77 : k0_chk77 v34 v756 v760), ∀ a x, ((![v756, v760, v34] : Fin 3 → IVec S16 32) a x).toNat < S8x4x16.size a := fun v34 v756 v760 k0_hw77 => k0_hw77
def k0_off57 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_380 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk78 (v34 : IVec S16 32) (v764 : IVec S16 32) (v770 : IVec S16 32) : Prop :=
  (∀ a x, ((![v764, v770, v34] : Fin 3 → IVec S16 32) a x).toNat < S8x4x16.size a)
theorem k0_idx78_inb : ∀ (v34 : IVec S16 32) (v764 : IVec S16 32) (v770 : IVec S16 32) (k0_hw78 : k0_chk78 v34 v764 v770), ∀ a x, ((![v764, v770, v34] : Fin 3 → IVec S16 32) a x).toNat < S8x4x16.size a := fun v34 v764 v770 k0_hw78 => k0_hw78
def k0_off58 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_384 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk79 (v34 : IVec S16 32) (v774 : IVec S16 32) (v778 : IVec S16 32) : Prop :=
  (∀ a x, ((![v774, v778, v34] : Fin 3 → IVec S16 32) a x).toNat < S8x4x16.size a)
theorem k0_idx79_inb : ∀ (v34 : IVec S16 32) (v774 : IVec S16 32) (v778 : IVec S16 32) (k0_hw79 : k0_chk79 v34 v774 v778), ∀ a x, ((![v774, v778, v34] : Fin 3 → IVec S16 32) a x).toNat < S8x4x16.size a := fun v34 v774 v778 k0_hw79 => k0_hw79
def k0_off59 (i : grid0.Coords) (k0_t1 : Fin (k0_t1_loop i).trips) (k0_t2 : Fin k0_t2_loop.trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t2
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_389 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk80 (v34 : IVec S16 32) (v782 : IVec S16 32) (v788 : IVec S16 32) : Prop :=
  (∀ a x, ((![v782, v788, v34] : Fin 3 → IVec S16 32) a x).toNat < S8x4x16.size a)
theorem k0_idx80_inb : ∀ (v34 : IVec S16 32) (v782 : IVec S16 32) (v788 : IVec S16 32) (k0_hw80 : k0_chk80 v34 v782 v788), ∀ a x, ((![v782, v788, v34] : Fin 3 → IVec S16 32) a x).toNat < S8x4x16.size a := fun v34 v782 v788 k0_hw80 => k0_hw80
def k0_off60 (i : grid0.Coords) (k0_t1 : Fin (k0_t1_loop i).trips) : Fin 4 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_87 : BitVec 32 := 0#32
  let c0_i32_88 : BitVec 32 := 0#32
  let c0_i32_89 : BitVec 32 := 0#32
  ![v116.toNat, 0, 0, 0]
def k0_off61 (i : grid0.Coords) (k0_t1 : Fin (k0_t1_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c16_i32_83 : BitVec 32 := 16#32
  let v144 : BitVec 32 := Scalar.muli v115 c16_i32_83
  let v145 : BitVec 32 := Scalar.addi v3 v144
  let c28_i32_85 : BitVec 32 := 28#32
  let v147 : BitVec 32 := Scalar.remsi v145 c28_i32_85
  let c16_i32_86 : BitVec 32 := 16#32
  let v148 : BitVec 32 := Scalar.muli v147 c16_i32_86
  let c28_i32_84 : BitVec 32 := 28#32
  let v146 : BitVec 32 := Scalar.divsi v145 c28_i32_84
  let c0_i32_90 : BitVec 32 := 0#32
  let c2_i32 : BitVec 32 := 2#32
  let v0 : BitVec 32 := Scalar.remsi arg1 c2_i32
  let c0_i32_91 : BitVec 32 := 0#32
  ![v148.toNat, v146.toNat, 0, v0.toNat, 0]
def k0_off62 (i : grid0.Coords) (k0_t1 : Fin (k0_t1_loop i).trips) : Fin 1 → Nat :=
  let c0_i32_49 : BitVec 32 := 0#32
  let c0_i32_50 : BitVec 32 := 0#32
  let c1_i32_52 : BitVec 32 := 1#32
  let arg11 : BitVec 32 := Scf.iv c0_i32_50 c1_i32_52 k0_t1
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  ![v116.toNat]
@[reducible] def k0_t3_loop (i : grid0.Coords) : Scf.Loop 32 :=
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let v104 : BitVec 32 := Scalar.addi c0_i32_50 v103
  let c1_i32_53 : BitVec 32 := 1#32
  ⟨v107, v104, c1_i32_53⟩
def k0_cond3 (i : grid0.Coords) (k0_t3 : Fin (k0_t3_loop i).trips) : BitVec 1 :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c1_i32_59 : BitVec 32 := 1#32
  let v117 : BitVec 32 := Scalar.addi v115 c1_i32_59
  let v118 : BitVec 1 := Scalar.cmpi .slt v117 v7
  let v119 : BitVec 32 := Scalar.extui v118
  let c0_i32_60 : BitVec 32 := 0#32
  let v120 : BitVec 1 := Scalar.cmpi .ne v119 c0_i32_60
  v120

def k0_off63 (i : grid0.Coords) (k0_t3 : Fin (k0_t3_loop i).trips) : Fin 4 → Nat :=
  let c1_i32_98 : BitVec 32 := 1#32
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let v160 : BitVec 32 := Scalar.subi c1_i32_98 v116
  let c0_i32_107 : BitVec 32 := 0#32
  let c0_i32_108 : BitVec 32 := 0#32
  let c0_i32_109 : BitVec 32 := 0#32
  ![v160.toNat, 0, 0, 0]
def k0_off64 (i : grid0.Coords) (k0_t3 : Fin (k0_t3_loop i).trips) : Fin 4 → Nat :=
  let c64_i32_103 : BitVec 32 := 64#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c784_i32 : BitVec 32 := 784#32
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c1_i32_97 : BitVec 32 := 1#32
  let v159 : BitVec 32 := Scalar.addi v115 c1_i32_97
  let c16_i32_99 : BitVec 32 := 16#32
  let v161 : BitVec 32 := Scalar.muli v159 c16_i32_99
  let v162 : BitVec 32 := Scalar.addi v3 v161
  let c28_i32_100 : BitVec 32 := 28#32
  let v163 : BitVec 32 := Scalar.divsi v162 c28_i32_100
  let c16_i32_102 : BitVec 32 := 16#32
  let v165 : BitVec 32 := Scalar.muli v163 c16_i32_102
  let v166 : BitVec 32 := Scalar.addi c64_i32_103 v165
  let c28_i32_101 : BitVec 32 := 28#32
  let v164 : BitVec 32 := Scalar.remsi v162 c28_i32_101
  let c4_i32_104 : BitVec 32 := 4#32
  let v167 : BitVec 32 := Scalar.divsi v164 c4_i32_104
  let c0_i32_110 : BitVec 32 := 0#32
  let c4_i32_105 : BitVec 32 := 4#32
  let v168 : BitVec 32 := Scalar.remsi v164 c4_i32_105
  let c32_i32_106 : BitVec 32 := 32#32
  let v169 : BitVec 32 := Scalar.muli v168 c32_i32_106
  ![v166.toNat, v167.toNat, 0, v169.toNat]
def k0_off65 (i : grid0.Coords) (k0_t3 : Fin (k0_t3_loop i).trips) : Fin 1 → Nat :=
  let c1_i32_98 : BitVec 32 := 1#32
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let v160 : BitVec 32 := Scalar.subi c1_i32_98 v116
  ![v160.toNat]
def k0_off66 (i : grid0.Coords) (k0_t3 : Fin (k0_t3_loop i).trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_69 : BitVec 32 := 0#32
  let c0_i32_70 : BitVec 32 := 0#32
  let c0_i32_71 : BitVec 32 := 0#32
  ![v116.toNat, 0, 0, 0]
def k0_off67 (i : grid0.Coords) (k0_t3 : Fin (k0_t3_loop i).trips) : Fin 4 → Nat :=
  let c64_i32_65 : BitVec 32 := 64#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c784_i32 : BitVec 32 := 784#32
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c16_i32_61 : BitVec 32 := 16#32
  let v121 : BitVec 32 := Scalar.muli v115 c16_i32_61
  let v122 : BitVec 32 := Scalar.addi v3 v121
  let c28_i32_62 : BitVec 32 := 28#32
  let v123 : BitVec 32 := Scalar.divsi v122 c28_i32_62
  let c16_i32_64 : BitVec 32 := 16#32
  let v125 : BitVec 32 := Scalar.muli v123 c16_i32_64
  let v126 : BitVec 32 := Scalar.addi c64_i32_65 v125
  let c28_i32_63 : BitVec 32 := 28#32
  let v124 : BitVec 32 := Scalar.remsi v122 c28_i32_63
  let c4_i32_66 : BitVec 32 := 4#32
  let v127 : BitVec 32 := Scalar.divsi v124 c4_i32_66
  let c0_i32_72 : BitVec 32 := 0#32
  let c4_i32_67 : BitVec 32 := 4#32
  let v128 : BitVec 32 := Scalar.remsi v124 c4_i32_67
  let c32_i32_68 : BitVec 32 := 32#32
  let v129 : BitVec 32 := Scalar.muli v128 c32_i32_68
  ![v126.toNat, v127.toNat, 0, v129.toNat]
def k0_off68 (i : grid0.Coords) (k0_t3 : Fin (k0_t3_loop i).trips) : Fin 1 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  ![v116.toNat]
def k0_cond4 (i : grid0.Coords) (k0_t3 : Fin (k0_t3_loop i).trips) : BitVec 1 :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c1_i32_77 : BitVec 32 := 1#32
  let v140 : BitVec 1 := Scalar.cmpi .sgt v115 c1_i32_77
  let v141 : BitVec 32 := Scalar.extui v140
  let c0_i32_78 : BitVec 32 := 0#32
  let v142 : BitVec 1 := Scalar.cmpi .ne v141 c0_i32_78
  v142

def k0_off69 (i : grid0.Coords) (k0_t3 : Fin (k0_t3_loop i).trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_102 : BitVec 32 := 0#32
  let c0_i32_103 : BitVec 32 := 0#32
  let c0_i32_104 : BitVec 32 := 0#32
  ![v116.toNat, 0, 0, 0]
def k0_off70 (i : grid0.Coords) (k0_t3 : Fin (k0_t3_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c784_i32 : BitVec 32 := 784#32
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_97 : BitVec 32 := 2#32
  let v159 : BitVec 32 := Scalar.subi v115 c2_i32_97
  let c16_i32_98 : BitVec 32 := 16#32
  let v160 : BitVec 32 := Scalar.muli v159 c16_i32_98
  let v161 : BitVec 32 := Scalar.addi v3 v160
  let c28_i32_100 : BitVec 32 := 28#32
  let v163 : BitVec 32 := Scalar.remsi v161 c28_i32_100
  let c16_i32_101 : BitVec 32 := 16#32
  let v164 : BitVec 32 := Scalar.muli v163 c16_i32_101
  let c28_i32_99 : BitVec 32 := 28#32
  let v162 : BitVec 32 := Scalar.divsi v161 c28_i32_99
  let c0_i32_105 : BitVec 32 := 0#32
  let c2_i32 : BitVec 32 := 2#32
  let v0 : BitVec 32 := Scalar.remsi arg1 c2_i32
  let c0_i32_106 : BitVec 32 := 0#32
  ![v164.toNat, v162.toNat, 0, v0.toNat, 0]
def k0_off71 (i : grid0.Coords) (k0_t3 : Fin (k0_t3_loop i).trips) : Fin 1 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  ![v116.toNat]
@[reducible] def k0_t4_loop : Scf.Loop 32 :=
  let c0_i32_79 : BitVec 32 := 0#32
  let c16_i32_80 : BitVec 32 := 16#32
  let v143 : BitVec 32 := Scalar.addi c0_i32_79 c16_i32_80
  let c1_i32_81 : BitVec 32 := 1#32
  ⟨c0_i32_79, v143, c1_i32_81⟩
def k0_off72 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_107 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk81 (i : grid0.Coords) (v38 : IVec S16 32) (k0_t3 : Fin (k0_t3_loop i).trips) (v168 : IVec S16 32) (v170 : IVec S16 32) : Prop :=
  (∀ a x, ((![v168, v170, v38] : Fin 3 → IVec S16 32) a x).toNat < S2x8x16.size a)
theorem k0_idx81_inb : ∀ (i : grid0.Coords) (v38 : IVec S16 32) (k0_t3 : Fin (k0_t3_loop i).trips) (v168 : IVec S16 32) (v170 : IVec S16 32) (k0_hw81 : k0_chk81 i v38 k0_t3 v168 v170), ∀ a x, ((![v168, v170, v38] : Fin 3 → IVec S16 32) a x).toNat < S2x8x16.size a := fun i v38 k0_t3 v168 v170 k0_hw81 => k0_hw81
def k0_off73 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_110 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk82 (i : grid0.Coords) (v42 : IVec S16 32) (k0_t3 : Fin (k0_t3_loop i).trips) (v175 : IVec S16 32) (v177 : IVec S16 32) : Prop :=
  (∀ a x, ((![v175, v177, v42] : Fin 3 → IVec S16 32) a x).toNat < S2x8x16.size a)
theorem k0_idx82_inb : ∀ (i : grid0.Coords) (v42 : IVec S16 32) (k0_t3 : Fin (k0_t3_loop i).trips) (v175 : IVec S16 32) (v177 : IVec S16 32) (k0_hw82 : k0_chk82 i v42 k0_t3 v175 v177), ∀ a x, ((![v175, v177, v42] : Fin 3 → IVec S16 32) a x).toNat < S2x8x16.size a := fun i v42 k0_t3 v175 v177 k0_hw82 => k0_hw82
def k0_off74 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_113 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk83 (i : grid0.Coords) (v46 : IVec S16 32) (k0_t3 : Fin (k0_t3_loop i).trips) (v182 : IVec S16 32) (v184 : IVec S16 32) : Prop :=
  (∀ a x, ((![v182, v184, v46] : Fin 3 → IVec S16 32) a x).toNat < S2x8x16.size a)
theorem k0_idx83_inb : ∀ (i : grid0.Coords) (v46 : IVec S16 32) (k0_t3 : Fin (k0_t3_loop i).trips) (v182 : IVec S16 32) (v184 : IVec S16 32) (k0_hw83 : k0_chk83 i v46 k0_t3 v182 v184), ∀ a x, ((![v182, v184, v46] : Fin 3 → IVec S16 32) a x).toNat < S2x8x16.size a := fun i v46 k0_t3 v182 v184 k0_hw83 => k0_hw83
def k0_off75 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_116 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk84 (i : grid0.Coords) (v50 : IVec S16 32) (k0_t3 : Fin (k0_t3_loop i).trips) (v189 : IVec S16 32) (v191 : IVec S16 32) : Prop :=
  (∀ a x, ((![v189, v191, v50] : Fin 3 → IVec S16 32) a x).toNat < S2x8x16.size a)
theorem k0_idx84_inb : ∀ (i : grid0.Coords) (v50 : IVec S16 32) (k0_t3 : Fin (k0_t3_loop i).trips) (v189 : IVec S16 32) (v191 : IVec S16 32) (k0_hw84 : k0_chk84 i v50 k0_t3 v189 v191), ∀ a x, ((![v189, v191, v50] : Fin 3 → IVec S16 32) a x).toNat < S2x8x16.size a := fun i v50 k0_t3 v189 v191 k0_hw84 => k0_hw84
def k0_off76 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_119 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk85 (i : grid0.Coords) (v54 : IVec S16 32) (k0_t3 : Fin (k0_t3_loop i).trips) (v196 : IVec S16 32) (v198 : IVec S16 32) : Prop :=
  (∀ a x, ((![v196, v198, v54] : Fin 3 → IVec S16 32) a x).toNat < S2x8x16.size a)
theorem k0_idx85_inb : ∀ (i : grid0.Coords) (v54 : IVec S16 32) (k0_t3 : Fin (k0_t3_loop i).trips) (v196 : IVec S16 32) (v198 : IVec S16 32) (k0_hw85 : k0_chk85 i v54 k0_t3 v196 v198), ∀ a x, ((![v196, v198, v54] : Fin 3 → IVec S16 32) a x).toNat < S2x8x16.size a := fun i v54 k0_t3 v196 v198 k0_hw85 => k0_hw85
def k0_off77 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_122 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk86 (i : grid0.Coords) (v58 : IVec S16 32) (k0_t3 : Fin (k0_t3_loop i).trips) (v203 : IVec S16 32) (v205 : IVec S16 32) : Prop :=
  (∀ a x, ((![v203, v205, v58] : Fin 3 → IVec S16 32) a x).toNat < S2x8x16.size a)
theorem k0_idx86_inb : ∀ (i : grid0.Coords) (v58 : IVec S16 32) (k0_t3 : Fin (k0_t3_loop i).trips) (v203 : IVec S16 32) (v205 : IVec S16 32) (k0_hw86 : k0_chk86 i v58 k0_t3 v203 v205), ∀ a x, ((![v203, v205, v58] : Fin 3 → IVec S16 32) a x).toNat < S2x8x16.size a := fun i v58 k0_t3 v203 v205 k0_hw86 => k0_hw86
def k0_off78 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_125 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk87 (i : grid0.Coords) (v62 : IVec S16 32) (k0_t3 : Fin (k0_t3_loop i).trips) (v210 : IVec S16 32) (v212 : IVec S16 32) : Prop :=
  (∀ a x, ((![v210, v212, v62] : Fin 3 → IVec S16 32) a x).toNat < S2x8x16.size a)
theorem k0_idx87_inb : ∀ (i : grid0.Coords) (v62 : IVec S16 32) (k0_t3 : Fin (k0_t3_loop i).trips) (v210 : IVec S16 32) (v212 : IVec S16 32) (k0_hw87 : k0_chk87 i v62 k0_t3 v210 v212), ∀ a x, ((![v210, v212, v62] : Fin 3 → IVec S16 32) a x).toNat < S2x8x16.size a := fun i v62 k0_t3 v210 v212 k0_hw87 => k0_hw87
def k0_off79 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_128 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk88 (i : grid0.Coords) (v66 : IVec S16 32) (k0_t3 : Fin (k0_t3_loop i).trips) (v217 : IVec S16 32) (v219 : IVec S16 32) : Prop :=
  (∀ a x, ((![v217, v219, v66] : Fin 3 → IVec S16 32) a x).toNat < S2x8x16.size a)
theorem k0_idx88_inb : ∀ (i : grid0.Coords) (v66 : IVec S16 32) (k0_t3 : Fin (k0_t3_loop i).trips) (v217 : IVec S16 32) (v219 : IVec S16 32) (k0_hw88 : k0_chk88 i v66 k0_t3 v217 v219), ∀ a x, ((![v217, v219, v66] : Fin 3 → IVec S16 32) a x).toNat < S2x8x16.size a := fun i v66 k0_t3 v217 v219 k0_hw88 => k0_hw88

def k0_chk89 (i : grid0.Coords) (k0_t3 : Fin (k0_t3_loop i).trips) (v226 : IVec S16 32) (v228 : IVec S16 32) : Prop :=
  (∀ a x, ((![v226, v228] : Fin 2 → IVec S16 32) a x).toNat < S512x128.size a)
theorem k0_idx89_inb : ∀ (i : grid0.Coords) (k0_t3 : Fin (k0_t3_loop i).trips) (v226 : IVec S16 32) (v228 : IVec S16 32) (k0_hw89 : k0_chk89 i k0_t3 v226 v228), ∀ a x, ((![v226, v228] : Fin 2 → IVec S16 32) a x).toNat < S512x128.size a := fun i k0_t3 v226 v228 k0_hw89 => k0_hw89

def k0_chk90 (i : grid0.Coords) (k0_t3 : Fin (k0_t3_loop i).trips) (v233 : IVec S16 32) (v235 : IVec S16 32) : Prop :=
  (∀ a x, ((![v233, v235] : Fin 2 → IVec S16 32) a x).toNat < S512x128.size a)
theorem k0_idx90_inb : ∀ (i : grid0.Coords) (k0_t3 : Fin (k0_t3_loop i).trips) (v233 : IVec S16 32) (v235 : IVec S16 32) (k0_hw90 : k0_chk90 i k0_t3 v233 v235), ∀ a x, ((![v233, v235] : Fin 2 → IVec S16 32) a x).toNat < S512x128.size a := fun i k0_t3 v233 v235 k0_hw90 => k0_hw90

def k0_chk91 (i : grid0.Coords) (k0_t3 : Fin (k0_t3_loop i).trips) (v240 : IVec S16 32) (v242 : IVec S16 32) : Prop :=
  (∀ a x, ((![v240, v242] : Fin 2 → IVec S16 32) a x).toNat < S512x128.size a)
theorem k0_idx91_inb : ∀ (i : grid0.Coords) (k0_t3 : Fin (k0_t3_loop i).trips) (v240 : IVec S16 32) (v242 : IVec S16 32) (k0_hw91 : k0_chk91 i k0_t3 v240 v242), ∀ a x, ((![v240, v242] : Fin 2 → IVec S16 32) a x).toNat < S512x128.size a := fun i k0_t3 v240 v242 k0_hw91 => k0_hw91

def k0_chk92 (i : grid0.Coords) (k0_t3 : Fin (k0_t3_loop i).trips) (v247 : IVec S16 32) (v249 : IVec S16 32) : Prop :=
  (∀ a x, ((![v247, v249] : Fin 2 → IVec S16 32) a x).toNat < S512x128.size a)
theorem k0_idx92_inb : ∀ (i : grid0.Coords) (k0_t3 : Fin (k0_t3_loop i).trips) (v247 : IVec S16 32) (v249 : IVec S16 32) (k0_hw92 : k0_chk92 i k0_t3 v247 v249), ∀ a x, ((![v247, v249] : Fin 2 → IVec S16 32) a x).toNat < S512x128.size a := fun i k0_t3 v247 v249 k0_hw92 => k0_hw92

def k0_chk93 (i : grid0.Coords) (k0_t3 : Fin (k0_t3_loop i).trips) (v254 : IVec S16 32) (v256 : IVec S16 32) : Prop :=
  (∀ a x, ((![v254, v256] : Fin 2 → IVec S16 32) a x).toNat < S512x128.size a)
theorem k0_idx93_inb : ∀ (i : grid0.Coords) (k0_t3 : Fin (k0_t3_loop i).trips) (v254 : IVec S16 32) (v256 : IVec S16 32) (k0_hw93 : k0_chk93 i k0_t3 v254 v256), ∀ a x, ((![v254, v256] : Fin 2 → IVec S16 32) a x).toNat < S512x128.size a := fun i k0_t3 v254 v256 k0_hw93 => k0_hw93

def k0_chk94 (i : grid0.Coords) (k0_t3 : Fin (k0_t3_loop i).trips) (v261 : IVec S16 32) (v263 : IVec S16 32) : Prop :=
  (∀ a x, ((![v261, v263] : Fin 2 → IVec S16 32) a x).toNat < S512x128.size a)
theorem k0_idx94_inb : ∀ (i : grid0.Coords) (k0_t3 : Fin (k0_t3_loop i).trips) (v261 : IVec S16 32) (v263 : IVec S16 32) (k0_hw94 : k0_chk94 i k0_t3 v261 v263), ∀ a x, ((![v261, v263] : Fin 2 → IVec S16 32) a x).toNat < S512x128.size a := fun i k0_t3 v261 v263 k0_hw94 => k0_hw94

def k0_chk95 (i : grid0.Coords) (k0_t3 : Fin (k0_t3_loop i).trips) (v268 : IVec S16 32) (v270 : IVec S16 32) : Prop :=
  (∀ a x, ((![v268, v270] : Fin 2 → IVec S16 32) a x).toNat < S512x128.size a)
theorem k0_idx95_inb : ∀ (i : grid0.Coords) (k0_t3 : Fin (k0_t3_loop i).trips) (v268 : IVec S16 32) (v270 : IVec S16 32) (k0_hw95 : k0_chk95 i k0_t3 v268 v270), ∀ a x, ((![v268, v270] : Fin 2 → IVec S16 32) a x).toNat < S512x128.size a := fun i k0_t3 v268 v270 k0_hw95 => k0_hw95

def k0_chk96 (i : grid0.Coords) (k0_t3 : Fin (k0_t3_loop i).trips) (v275 : IVec S16 32) (v277 : IVec S16 32) : Prop :=
  (∀ a x, ((![v275, v277] : Fin 2 → IVec S16 32) a x).toNat < S512x128.size a)
theorem k0_idx96_inb : ∀ (i : grid0.Coords) (k0_t3 : Fin (k0_t3_loop i).trips) (v275 : IVec S16 32) (v277 : IVec S16 32) (k0_hw96 : k0_chk96 i k0_t3 v275 v277), ∀ a x, ((![v275, v277] : Fin 2 → IVec S16 32) a x).toNat < S512x128.size a := fun i k0_t3 v275 v277 k0_hw96 => k0_hw96

def k0_chk97 (i : grid0.Coords) (k0_t3 : Fin (k0_t3_loop i).trips) (v280 : IVec S16 32) (v284 : IVec S16 32) : Prop :=
  (∀ a x, ((![v280, v284] : Fin 2 → IVec S16 32) a x).toNat < S512x128.size a)
theorem k0_idx97_inb : ∀ (i : grid0.Coords) (k0_t3 : Fin (k0_t3_loop i).trips) (v280 : IVec S16 32) (v284 : IVec S16 32) (k0_hw97 : k0_chk97 i k0_t3 v280 v284), ∀ a x, ((![v280, v284] : Fin 2 → IVec S16 32) a x).toNat < S512x128.size a := fun i k0_t3 v280 v284 k0_hw97 => k0_hw97

def k0_chk98 (i : grid0.Coords) (k0_t3 : Fin (k0_t3_loop i).trips) (v287 : IVec S16 32) (v291 : IVec S16 32) : Prop :=
  (∀ a x, ((![v287, v291] : Fin 2 → IVec S16 32) a x).toNat < S512x128.size a)
theorem k0_idx98_inb : ∀ (i : grid0.Coords) (k0_t3 : Fin (k0_t3_loop i).trips) (v287 : IVec S16 32) (v291 : IVec S16 32) (k0_hw98 : k0_chk98 i k0_t3 v287 v291), ∀ a x, ((![v287, v291] : Fin 2 → IVec S16 32) a x).toNat < S512x128.size a := fun i k0_t3 v287 v291 k0_hw98 => k0_hw98

def k0_chk99 (i : grid0.Coords) (k0_t3 : Fin (k0_t3_loop i).trips) (v294 : IVec S16 32) (v298 : IVec S16 32) : Prop :=
  (∀ a x, ((![v294, v298] : Fin 2 → IVec S16 32) a x).toNat < S512x128.size a)
theorem k0_idx99_inb : ∀ (i : grid0.Coords) (k0_t3 : Fin (k0_t3_loop i).trips) (v294 : IVec S16 32) (v298 : IVec S16 32) (k0_hw99 : k0_chk99 i k0_t3 v294 v298), ∀ a x, ((![v294, v298] : Fin 2 → IVec S16 32) a x).toNat < S512x128.size a := fun i k0_t3 v294 v298 k0_hw99 => k0_hw99

def k0_chk100 (i : grid0.Coords) (k0_t3 : Fin (k0_t3_loop i).trips) (v301 : IVec S16 32) (v305 : IVec S16 32) : Prop :=
  (∀ a x, ((![v301, v305] : Fin 2 → IVec S16 32) a x).toNat < S512x128.size a)
theorem k0_idx100_inb : ∀ (i : grid0.Coords) (k0_t3 : Fin (k0_t3_loop i).trips) (v301 : IVec S16 32) (v305 : IVec S16 32) (k0_hw100 : k0_chk100 i k0_t3 v301 v305), ∀ a x, ((![v301, v305] : Fin 2 → IVec S16 32) a x).toNat < S512x128.size a := fun i k0_t3 v301 v305 k0_hw100 => k0_hw100

def k0_chk101 (i : grid0.Coords) (k0_t3 : Fin (k0_t3_loop i).trips) (v308 : IVec S16 32) (v312 : IVec S16 32) : Prop :=
  (∀ a x, ((![v308, v312] : Fin 2 → IVec S16 32) a x).toNat < S512x128.size a)
theorem k0_idx101_inb : ∀ (i : grid0.Coords) (k0_t3 : Fin (k0_t3_loop i).trips) (v308 : IVec S16 32) (v312 : IVec S16 32) (k0_hw101 : k0_chk101 i k0_t3 v308 v312), ∀ a x, ((![v308, v312] : Fin 2 → IVec S16 32) a x).toNat < S512x128.size a := fun i k0_t3 v308 v312 k0_hw101 => k0_hw101

def k0_chk102 (i : grid0.Coords) (k0_t3 : Fin (k0_t3_loop i).trips) (v315 : IVec S16 32) (v319 : IVec S16 32) : Prop :=
  (∀ a x, ((![v315, v319] : Fin 2 → IVec S16 32) a x).toNat < S512x128.size a)
theorem k0_idx102_inb : ∀ (i : grid0.Coords) (k0_t3 : Fin (k0_t3_loop i).trips) (v315 : IVec S16 32) (v319 : IVec S16 32) (k0_hw102 : k0_chk102 i k0_t3 v315 v319), ∀ a x, ((![v315, v319] : Fin 2 → IVec S16 32) a x).toNat < S512x128.size a := fun i k0_t3 v315 v319 k0_hw102 => k0_hw102

def k0_chk103 (i : grid0.Coords) (k0_t3 : Fin (k0_t3_loop i).trips) (v322 : IVec S16 32) (v326 : IVec S16 32) : Prop :=
  (∀ a x, ((![v322, v326] : Fin 2 → IVec S16 32) a x).toNat < S512x128.size a)
theorem k0_idx103_inb : ∀ (i : grid0.Coords) (k0_t3 : Fin (k0_t3_loop i).trips) (v322 : IVec S16 32) (v326 : IVec S16 32) (k0_hw103 : k0_chk103 i k0_t3 v322 v326), ∀ a x, ((![v322, v326] : Fin 2 → IVec S16 32) a x).toNat < S512x128.size a := fun i k0_t3 v322 v326 k0_hw103 => k0_hw103

def k0_chk104 (i : grid0.Coords) (k0_t3 : Fin (k0_t3_loop i).trips) (v329 : IVec S16 32) (v333 : IVec S16 32) : Prop :=
  (∀ a x, ((![v329, v333] : Fin 2 → IVec S16 32) a x).toNat < S512x128.size a)
theorem k0_idx104_inb : ∀ (i : grid0.Coords) (k0_t3 : Fin (k0_t3_loop i).trips) (v329 : IVec S16 32) (v333 : IVec S16 32) (k0_hw104 : k0_chk104 i k0_t3 v329 v333), ∀ a x, ((![v329, v333] : Fin 2 → IVec S16 32) a x).toNat < S512x128.size a := fun i k0_t3 v329 v333 k0_hw104 => k0_hw104
def k0_off80 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_177 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk105 (i : grid0.Coords) (v34 : IVec S16 32) (k0_t3 : Fin (k0_t3_loop i).trips) (v336 : IVec S16 32) (v340 : IVec S16 32) : Prop :=
  (∀ a x, ((![v336, v340, v34] : Fin 3 → IVec S16 32) a x).toNat < S8x4x16.size a)
theorem k0_idx105_inb : ∀ (i : grid0.Coords) (v34 : IVec S16 32) (k0_t3 : Fin (k0_t3_loop i).trips) (v336 : IVec S16 32) (v340 : IVec S16 32) (k0_hw105 : k0_chk105 i v34 k0_t3 v336 v340), ∀ a x, ((![v336, v340, v34] : Fin 3 → IVec S16 32) a x).toNat < S8x4x16.size a := fun i v34 k0_t3 v336 v340 k0_hw105 => k0_hw105
def k0_off81 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_182 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk106 (i : grid0.Coords) (v34 : IVec S16 32) (k0_t3 : Fin (k0_t3_loop i).trips) (v344 : IVec S16 32) (v350 : IVec S16 32) : Prop :=
  (∀ a x, ((![v344, v350, v34] : Fin 3 → IVec S16 32) a x).toNat < S8x4x16.size a)
theorem k0_idx106_inb : ∀ (i : grid0.Coords) (v34 : IVec S16 32) (k0_t3 : Fin (k0_t3_loop i).trips) (v344 : IVec S16 32) (v350 : IVec S16 32) (k0_hw106 : k0_chk106 i v34 k0_t3 v344 v350), ∀ a x, ((![v344, v350, v34] : Fin 3 → IVec S16 32) a x).toNat < S8x4x16.size a := fun i v34 k0_t3 v344 v350 k0_hw106 => k0_hw106
def k0_off82 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_186 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk107 (i : grid0.Coords) (v34 : IVec S16 32) (k0_t3 : Fin (k0_t3_loop i).trips) (v354 : IVec S16 32) (v358 : IVec S16 32) : Prop :=
  (∀ a x, ((![v354, v358, v34] : Fin 3 → IVec S16 32) a x).toNat < S8x4x16.size a)
theorem k0_idx107_inb : ∀ (i : grid0.Coords) (v34 : IVec S16 32) (k0_t3 : Fin (k0_t3_loop i).trips) (v354 : IVec S16 32) (v358 : IVec S16 32) (k0_hw107 : k0_chk107 i v34 k0_t3 v354 v358), ∀ a x, ((![v354, v358, v34] : Fin 3 → IVec S16 32) a x).toNat < S8x4x16.size a := fun i v34 k0_t3 v354 v358 k0_hw107 => k0_hw107
def k0_off83 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_191 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk108 (i : grid0.Coords) (v34 : IVec S16 32) (k0_t3 : Fin (k0_t3_loop i).trips) (v362 : IVec S16 32) (v368 : IVec S16 32) : Prop :=
  (∀ a x, ((![v362, v368, v34] : Fin 3 → IVec S16 32) a x).toNat < S8x4x16.size a)
theorem k0_idx108_inb : ∀ (i : grid0.Coords) (v34 : IVec S16 32) (k0_t3 : Fin (k0_t3_loop i).trips) (v362 : IVec S16 32) (v368 : IVec S16 32) (k0_hw108 : k0_chk108 i v34 k0_t3 v362 v368), ∀ a x, ((![v362, v368, v34] : Fin 3 → IVec S16 32) a x).toNat < S8x4x16.size a := fun i v34 k0_t3 v362 v368 k0_hw108 => k0_hw108
def k0_off84 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_195 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk109 (i : grid0.Coords) (v34 : IVec S16 32) (k0_t3 : Fin (k0_t3_loop i).trips) (v372 : IVec S16 32) (v376 : IVec S16 32) : Prop :=
  (∀ a x, ((![v372, v376, v34] : Fin 3 → IVec S16 32) a x).toNat < S8x4x16.size a)
theorem k0_idx109_inb : ∀ (i : grid0.Coords) (v34 : IVec S16 32) (k0_t3 : Fin (k0_t3_loop i).trips) (v372 : IVec S16 32) (v376 : IVec S16 32) (k0_hw109 : k0_chk109 i v34 k0_t3 v372 v376), ∀ a x, ((![v372, v376, v34] : Fin 3 → IVec S16 32) a x).toNat < S8x4x16.size a := fun i v34 k0_t3 v372 v376 k0_hw109 => k0_hw109
def k0_off85 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_200 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk110 (i : grid0.Coords) (v34 : IVec S16 32) (k0_t3 : Fin (k0_t3_loop i).trips) (v380 : IVec S16 32) (v386 : IVec S16 32) : Prop :=
  (∀ a x, ((![v380, v386, v34] : Fin 3 → IVec S16 32) a x).toNat < S8x4x16.size a)
theorem k0_idx110_inb : ∀ (i : grid0.Coords) (v34 : IVec S16 32) (k0_t3 : Fin (k0_t3_loop i).trips) (v380 : IVec S16 32) (v386 : IVec S16 32) (k0_hw110 : k0_chk110 i v34 k0_t3 v380 v386), ∀ a x, ((![v380, v386, v34] : Fin 3 → IVec S16 32) a x).toNat < S8x4x16.size a := fun i v34 k0_t3 v380 v386 k0_hw110 => k0_hw110
def k0_off86 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_204 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk111 (i : grid0.Coords) (v34 : IVec S16 32) (k0_t3 : Fin (k0_t3_loop i).trips) (v390 : IVec S16 32) (v394 : IVec S16 32) : Prop :=
  (∀ a x, ((![v390, v394, v34] : Fin 3 → IVec S16 32) a x).toNat < S8x4x16.size a)
theorem k0_idx111_inb : ∀ (i : grid0.Coords) (v34 : IVec S16 32) (k0_t3 : Fin (k0_t3_loop i).trips) (v390 : IVec S16 32) (v394 : IVec S16 32) (k0_hw111 : k0_chk111 i v34 k0_t3 v390 v394), ∀ a x, ((![v390, v394, v34] : Fin 3 → IVec S16 32) a x).toNat < S8x4x16.size a := fun i v34 k0_t3 v390 v394 k0_hw111 => k0_hw111
def k0_off87 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_209 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk112 (i : grid0.Coords) (v34 : IVec S16 32) (k0_t3 : Fin (k0_t3_loop i).trips) (v398 : IVec S16 32) (v404 : IVec S16 32) : Prop :=
  (∀ a x, ((![v398, v404, v34] : Fin 3 → IVec S16 32) a x).toNat < S8x4x16.size a)
theorem k0_idx112_inb : ∀ (i : grid0.Coords) (v34 : IVec S16 32) (k0_t3 : Fin (k0_t3_loop i).trips) (v398 : IVec S16 32) (v404 : IVec S16 32) (k0_hw112 : k0_chk112 i v34 k0_t3 v398 v404), ∀ a x, ((![v398, v404, v34] : Fin 3 → IVec S16 32) a x).toNat < S8x4x16.size a := fun i v34 k0_t3 v398 v404 k0_hw112 => k0_hw112
def k0_off88 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_213 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk113 (i : grid0.Coords) (v34 : IVec S16 32) (k0_t3 : Fin (k0_t3_loop i).trips) (v408 : IVec S16 32) (v412 : IVec S16 32) : Prop :=
  (∀ a x, ((![v408, v412, v34] : Fin 3 → IVec S16 32) a x).toNat < S8x4x16.size a)
theorem k0_idx113_inb : ∀ (i : grid0.Coords) (v34 : IVec S16 32) (k0_t3 : Fin (k0_t3_loop i).trips) (v408 : IVec S16 32) (v412 : IVec S16 32) (k0_hw113 : k0_chk113 i v34 k0_t3 v408 v412), ∀ a x, ((![v408, v412, v34] : Fin 3 → IVec S16 32) a x).toNat < S8x4x16.size a := fun i v34 k0_t3 v408 v412 k0_hw113 => k0_hw113
def k0_off89 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_218 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk114 (i : grid0.Coords) (v34 : IVec S16 32) (k0_t3 : Fin (k0_t3_loop i).trips) (v416 : IVec S16 32) (v422 : IVec S16 32) : Prop :=
  (∀ a x, ((![v416, v422, v34] : Fin 3 → IVec S16 32) a x).toNat < S8x4x16.size a)
theorem k0_idx114_inb : ∀ (i : grid0.Coords) (v34 : IVec S16 32) (k0_t3 : Fin (k0_t3_loop i).trips) (v416 : IVec S16 32) (v422 : IVec S16 32) (k0_hw114 : k0_chk114 i v34 k0_t3 v416 v422), ∀ a x, ((![v416, v422, v34] : Fin 3 → IVec S16 32) a x).toNat < S8x4x16.size a := fun i v34 k0_t3 v416 v422 k0_hw114 => k0_hw114
def k0_off90 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_222 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk115 (i : grid0.Coords) (v34 : IVec S16 32) (k0_t3 : Fin (k0_t3_loop i).trips) (v426 : IVec S16 32) (v430 : IVec S16 32) : Prop :=
  (∀ a x, ((![v426, v430, v34] : Fin 3 → IVec S16 32) a x).toNat < S8x4x16.size a)
theorem k0_idx115_inb : ∀ (i : grid0.Coords) (v34 : IVec S16 32) (k0_t3 : Fin (k0_t3_loop i).trips) (v426 : IVec S16 32) (v430 : IVec S16 32) (k0_hw115 : k0_chk115 i v34 k0_t3 v426 v430), ∀ a x, ((![v426, v430, v34] : Fin 3 → IVec S16 32) a x).toNat < S8x4x16.size a := fun i v34 k0_t3 v426 v430 k0_hw115 => k0_hw115
def k0_off91 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_227 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk116 (i : grid0.Coords) (v34 : IVec S16 32) (k0_t3 : Fin (k0_t3_loop i).trips) (v434 : IVec S16 32) (v440 : IVec S16 32) : Prop :=
  (∀ a x, ((![v434, v440, v34] : Fin 3 → IVec S16 32) a x).toNat < S8x4x16.size a)
theorem k0_idx116_inb : ∀ (i : grid0.Coords) (v34 : IVec S16 32) (k0_t3 : Fin (k0_t3_loop i).trips) (v434 : IVec S16 32) (v440 : IVec S16 32) (k0_hw116 : k0_chk116 i v34 k0_t3 v434 v440), ∀ a x, ((![v434, v440, v34] : Fin 3 → IVec S16 32) a x).toNat < S8x4x16.size a := fun i v34 k0_t3 v434 v440 k0_hw116 => k0_hw116
def k0_off92 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_231 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk117 (i : grid0.Coords) (v34 : IVec S16 32) (k0_t3 : Fin (k0_t3_loop i).trips) (v444 : IVec S16 32) (v448 : IVec S16 32) : Prop :=
  (∀ a x, ((![v444, v448, v34] : Fin 3 → IVec S16 32) a x).toNat < S8x4x16.size a)
theorem k0_idx117_inb : ∀ (i : grid0.Coords) (v34 : IVec S16 32) (k0_t3 : Fin (k0_t3_loop i).trips) (v444 : IVec S16 32) (v448 : IVec S16 32) (k0_hw117 : k0_chk117 i v34 k0_t3 v444 v448), ∀ a x, ((![v444, v448, v34] : Fin 3 → IVec S16 32) a x).toNat < S8x4x16.size a := fun i v34 k0_t3 v444 v448 k0_hw117 => k0_hw117
def k0_off93 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_236 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk118 (i : grid0.Coords) (v34 : IVec S16 32) (k0_t3 : Fin (k0_t3_loop i).trips) (v452 : IVec S16 32) (v458 : IVec S16 32) : Prop :=
  (∀ a x, ((![v452, v458, v34] : Fin 3 → IVec S16 32) a x).toNat < S8x4x16.size a)
theorem k0_idx118_inb : ∀ (i : grid0.Coords) (v34 : IVec S16 32) (k0_t3 : Fin (k0_t3_loop i).trips) (v452 : IVec S16 32) (v458 : IVec S16 32) (k0_hw118 : k0_chk118 i v34 k0_t3 v452 v458), ∀ a x, ((![v452, v458, v34] : Fin 3 → IVec S16 32) a x).toNat < S8x4x16.size a := fun i v34 k0_t3 v452 v458 k0_hw118 => k0_hw118
def k0_off94 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_240 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk119 (i : grid0.Coords) (v34 : IVec S16 32) (k0_t3 : Fin (k0_t3_loop i).trips) (v462 : IVec S16 32) (v466 : IVec S16 32) : Prop :=
  (∀ a x, ((![v462, v466, v34] : Fin 3 → IVec S16 32) a x).toNat < S8x4x16.size a)
theorem k0_idx119_inb : ∀ (i : grid0.Coords) (v34 : IVec S16 32) (k0_t3 : Fin (k0_t3_loop i).trips) (v462 : IVec S16 32) (v466 : IVec S16 32) (k0_hw119 : k0_chk119 i v34 k0_t3 v462 v466), ∀ a x, ((![v462, v466, v34] : Fin 3 → IVec S16 32) a x).toNat < S8x4x16.size a := fun i v34 k0_t3 v462 v466 k0_hw119 => k0_hw119
def k0_off95 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_245 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk120 (i : grid0.Coords) (v34 : IVec S16 32) (k0_t3 : Fin (k0_t3_loop i).trips) (v470 : IVec S16 32) (v476 : IVec S16 32) : Prop :=
  (∀ a x, ((![v470, v476, v34] : Fin 3 → IVec S16 32) a x).toNat < S8x4x16.size a)
theorem k0_idx120_inb : ∀ (i : grid0.Coords) (v34 : IVec S16 32) (k0_t3 : Fin (k0_t3_loop i).trips) (v470 : IVec S16 32) (v476 : IVec S16 32) (k0_hw120 : k0_chk120 i v34 k0_t3 v470 v476), ∀ a x, ((![v470, v476, v34] : Fin 3 → IVec S16 32) a x).toNat < S8x4x16.size a := fun i v34 k0_t3 v470 v476 k0_hw120 => k0_hw120
def k0_off96 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_248 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk121 (i : grid0.Coords) (v70 : IVec S16 32) (k0_t3 : Fin (k0_t3_loop i).trips) (v480 : IVec S16 32) (v482 : IVec S16 32) : Prop :=
  (∀ a x, ((![v480, v482, v70] : Fin 3 → IVec S16 32) a x).toNat < S2x8x16.size a)
theorem k0_idx121_inb : ∀ (i : grid0.Coords) (v70 : IVec S16 32) (k0_t3 : Fin (k0_t3_loop i).trips) (v480 : IVec S16 32) (v482 : IVec S16 32) (k0_hw121 : k0_chk121 i v70 k0_t3 v480 v482), ∀ a x, ((![v480, v482, v70] : Fin 3 → IVec S16 32) a x).toNat < S2x8x16.size a := fun i v70 k0_t3 v480 v482 k0_hw121 => k0_hw121
def k0_off97 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_251 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk122 (i : grid0.Coords) (v74 : IVec S16 32) (k0_t3 : Fin (k0_t3_loop i).trips) (v487 : IVec S16 32) (v489 : IVec S16 32) : Prop :=
  (∀ a x, ((![v487, v489, v74] : Fin 3 → IVec S16 32) a x).toNat < S2x8x16.size a)
theorem k0_idx122_inb : ∀ (i : grid0.Coords) (v74 : IVec S16 32) (k0_t3 : Fin (k0_t3_loop i).trips) (v487 : IVec S16 32) (v489 : IVec S16 32) (k0_hw122 : k0_chk122 i v74 k0_t3 v487 v489), ∀ a x, ((![v487, v489, v74] : Fin 3 → IVec S16 32) a x).toNat < S2x8x16.size a := fun i v74 k0_t3 v487 v489 k0_hw122 => k0_hw122
def k0_off98 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_254 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk123 (i : grid0.Coords) (v78 : IVec S16 32) (k0_t3 : Fin (k0_t3_loop i).trips) (v494 : IVec S16 32) (v496 : IVec S16 32) : Prop :=
  (∀ a x, ((![v494, v496, v78] : Fin 3 → IVec S16 32) a x).toNat < S2x8x16.size a)
theorem k0_idx123_inb : ∀ (i : grid0.Coords) (v78 : IVec S16 32) (k0_t3 : Fin (k0_t3_loop i).trips) (v494 : IVec S16 32) (v496 : IVec S16 32) (k0_hw123 : k0_chk123 i v78 k0_t3 v494 v496), ∀ a x, ((![v494, v496, v78] : Fin 3 → IVec S16 32) a x).toNat < S2x8x16.size a := fun i v78 k0_t3 v494 v496 k0_hw123 => k0_hw123
def k0_off99 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_257 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk124 (i : grid0.Coords) (v82 : IVec S16 32) (k0_t3 : Fin (k0_t3_loop i).trips) (v501 : IVec S16 32) (v503 : IVec S16 32) : Prop :=
  (∀ a x, ((![v501, v503, v82] : Fin 3 → IVec S16 32) a x).toNat < S2x8x16.size a)
theorem k0_idx124_inb : ∀ (i : grid0.Coords) (v82 : IVec S16 32) (k0_t3 : Fin (k0_t3_loop i).trips) (v501 : IVec S16 32) (v503 : IVec S16 32) (k0_hw124 : k0_chk124 i v82 k0_t3 v501 v503), ∀ a x, ((![v501, v503, v82] : Fin 3 → IVec S16 32) a x).toNat < S2x8x16.size a := fun i v82 k0_t3 v501 v503 k0_hw124 => k0_hw124
def k0_off100 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_260 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk125 (i : grid0.Coords) (v86 : IVec S16 32) (k0_t3 : Fin (k0_t3_loop i).trips) (v508 : IVec S16 32) (v510 : IVec S16 32) : Prop :=
  (∀ a x, ((![v508, v510, v86] : Fin 3 → IVec S16 32) a x).toNat < S2x8x16.size a)
theorem k0_idx125_inb : ∀ (i : grid0.Coords) (v86 : IVec S16 32) (k0_t3 : Fin (k0_t3_loop i).trips) (v508 : IVec S16 32) (v510 : IVec S16 32) (k0_hw125 : k0_chk125 i v86 k0_t3 v508 v510), ∀ a x, ((![v508, v510, v86] : Fin 3 → IVec S16 32) a x).toNat < S2x8x16.size a := fun i v86 k0_t3 v508 v510 k0_hw125 => k0_hw125
def k0_off101 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_263 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk126 (i : grid0.Coords) (v90 : IVec S16 32) (k0_t3 : Fin (k0_t3_loop i).trips) (v515 : IVec S16 32) (v517 : IVec S16 32) : Prop :=
  (∀ a x, ((![v515, v517, v90] : Fin 3 → IVec S16 32) a x).toNat < S2x8x16.size a)
theorem k0_idx126_inb : ∀ (i : grid0.Coords) (v90 : IVec S16 32) (k0_t3 : Fin (k0_t3_loop i).trips) (v515 : IVec S16 32) (v517 : IVec S16 32) (k0_hw126 : k0_chk126 i v90 k0_t3 v515 v517), ∀ a x, ((![v515, v517, v90] : Fin 3 → IVec S16 32) a x).toNat < S2x8x16.size a := fun i v90 k0_t3 v515 v517 k0_hw126 => k0_hw126
def k0_off102 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_266 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk127 (i : grid0.Coords) (v94 : IVec S16 32) (k0_t3 : Fin (k0_t3_loop i).trips) (v522 : IVec S16 32) (v524 : IVec S16 32) : Prop :=
  (∀ a x, ((![v522, v524, v94] : Fin 3 → IVec S16 32) a x).toNat < S2x8x16.size a)
theorem k0_idx127_inb : ∀ (i : grid0.Coords) (v94 : IVec S16 32) (k0_t3 : Fin (k0_t3_loop i).trips) (v522 : IVec S16 32) (v524 : IVec S16 32) (k0_hw127 : k0_chk127 i v94 k0_t3 v522 v524), ∀ a x, ((![v522, v524, v94] : Fin 3 → IVec S16 32) a x).toNat < S2x8x16.size a := fun i v94 k0_t3 v522 v524 k0_hw127 => k0_hw127
def k0_off103 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_100 : BitVec 32 := 8#32
  let v162 : BitVec 32 := Scalar.remsi v160 c8_i32_100
  let c2_i32_101 : BitVec 32 := 2#32
  let v163 : BitVec 32 := Scalar.muli v162 c2_i32_101
  let c0_i32_269 : BitVec 32 := 0#32
  let c8_i32_99 : BitVec 32 := 8#32
  let v161 : BitVec 32 := Scalar.divsi v160 c8_i32_99
  let c16_i32_102 : BitVec 32 := 16#32
  let v164 : BitVec 32 := Scalar.muli v161 c16_i32_102
  ![v116.toNat, v163.toNat, 0, v164.toNat]

def k0_chk128 (i : grid0.Coords) (v98 : IVec S16 32) (k0_t3 : Fin (k0_t3_loop i).trips) (v529 : IVec S16 32) (v531 : IVec S16 32) : Prop :=
  (∀ a x, ((![v529, v531, v98] : Fin 3 → IVec S16 32) a x).toNat < S2x8x16.size a)
theorem k0_idx128_inb : ∀ (i : grid0.Coords) (v98 : IVec S16 32) (k0_t3 : Fin (k0_t3_loop i).trips) (v529 : IVec S16 32) (v531 : IVec S16 32) (k0_hw128 : k0_chk128 i v98 k0_t3 v529 v531), ∀ a x, ((![v529, v531, v98] : Fin 3 → IVec S16 32) a x).toNat < S2x8x16.size a := fun i v98 k0_t3 v529 v531 k0_hw128 => k0_hw128

def k0_chk129 (i : grid0.Coords) (k0_t3 : Fin (k0_t3_loop i).trips) (v538 : IVec S16 32) (v540 : IVec S16 32) : Prop :=
  (∀ a x, ((![v538, v540] : Fin 2 → IVec S16 32) a x).toNat < S512x128.size a)
theorem k0_idx129_inb : ∀ (i : grid0.Coords) (k0_t3 : Fin (k0_t3_loop i).trips) (v538 : IVec S16 32) (v540 : IVec S16 32) (k0_hw129 : k0_chk129 i k0_t3 v538 v540), ∀ a x, ((![v538, v540] : Fin 2 → IVec S16 32) a x).toNat < S512x128.size a := fun i k0_t3 v538 v540 k0_hw129 => k0_hw129

def k0_chk130 (i : grid0.Coords) (k0_t3 : Fin (k0_t3_loop i).trips) (v545 : IVec S16 32) (v547 : IVec S16 32) : Prop :=
  (∀ a x, ((![v545, v547] : Fin 2 → IVec S16 32) a x).toNat < S512x128.size a)
theorem k0_idx130_inb : ∀ (i : grid0.Coords) (k0_t3 : Fin (k0_t3_loop i).trips) (v545 : IVec S16 32) (v547 : IVec S16 32) (k0_hw130 : k0_chk130 i k0_t3 v545 v547), ∀ a x, ((![v545, v547] : Fin 2 → IVec S16 32) a x).toNat < S512x128.size a := fun i k0_t3 v545 v547 k0_hw130 => k0_hw130

def k0_chk131 (i : grid0.Coords) (k0_t3 : Fin (k0_t3_loop i).trips) (v552 : IVec S16 32) (v554 : IVec S16 32) : Prop :=
  (∀ a x, ((![v552, v554] : Fin 2 → IVec S16 32) a x).toNat < S512x128.size a)
theorem k0_idx131_inb : ∀ (i : grid0.Coords) (k0_t3 : Fin (k0_t3_loop i).trips) (v552 : IVec S16 32) (v554 : IVec S16 32) (k0_hw131 : k0_chk131 i k0_t3 v552 v554), ∀ a x, ((![v552, v554] : Fin 2 → IVec S16 32) a x).toNat < S512x128.size a := fun i k0_t3 v552 v554 k0_hw131 => k0_hw131

def k0_chk132 (i : grid0.Coords) (k0_t3 : Fin (k0_t3_loop i).trips) (v559 : IVec S16 32) (v561 : IVec S16 32) : Prop :=
  (∀ a x, ((![v559, v561] : Fin 2 → IVec S16 32) a x).toNat < S512x128.size a)
theorem k0_idx132_inb : ∀ (i : grid0.Coords) (k0_t3 : Fin (k0_t3_loop i).trips) (v559 : IVec S16 32) (v561 : IVec S16 32) (k0_hw132 : k0_chk132 i k0_t3 v559 v561), ∀ a x, ((![v559, v561] : Fin 2 → IVec S16 32) a x).toNat < S512x128.size a := fun i k0_t3 v559 v561 k0_hw132 => k0_hw132

def k0_chk133 (i : grid0.Coords) (k0_t3 : Fin (k0_t3_loop i).trips) (v566 : IVec S16 32) (v568 : IVec S16 32) : Prop :=
  (∀ a x, ((![v566, v568] : Fin 2 → IVec S16 32) a x).toNat < S512x128.size a)
theorem k0_idx133_inb : ∀ (i : grid0.Coords) (k0_t3 : Fin (k0_t3_loop i).trips) (v566 : IVec S16 32) (v568 : IVec S16 32) (k0_hw133 : k0_chk133 i k0_t3 v566 v568), ∀ a x, ((![v566, v568] : Fin 2 → IVec S16 32) a x).toNat < S512x128.size a := fun i k0_t3 v566 v568 k0_hw133 => k0_hw133

def k0_chk134 (i : grid0.Coords) (k0_t3 : Fin (k0_t3_loop i).trips) (v573 : IVec S16 32) (v575 : IVec S16 32) : Prop :=
  (∀ a x, ((![v573, v575] : Fin 2 → IVec S16 32) a x).toNat < S512x128.size a)
theorem k0_idx134_inb : ∀ (i : grid0.Coords) (k0_t3 : Fin (k0_t3_loop i).trips) (v573 : IVec S16 32) (v575 : IVec S16 32) (k0_hw134 : k0_chk134 i k0_t3 v573 v575), ∀ a x, ((![v573, v575] : Fin 2 → IVec S16 32) a x).toNat < S512x128.size a := fun i k0_t3 v573 v575 k0_hw134 => k0_hw134

def k0_chk135 (i : grid0.Coords) (k0_t3 : Fin (k0_t3_loop i).trips) (v580 : IVec S16 32) (v582 : IVec S16 32) : Prop :=
  (∀ a x, ((![v580, v582] : Fin 2 → IVec S16 32) a x).toNat < S512x128.size a)
theorem k0_idx135_inb : ∀ (i : grid0.Coords) (k0_t3 : Fin (k0_t3_loop i).trips) (v580 : IVec S16 32) (v582 : IVec S16 32) (k0_hw135 : k0_chk135 i k0_t3 v580 v582), ∀ a x, ((![v580, v582] : Fin 2 → IVec S16 32) a x).toNat < S512x128.size a := fun i k0_t3 v580 v582 k0_hw135 => k0_hw135

def k0_chk136 (i : grid0.Coords) (k0_t3 : Fin (k0_t3_loop i).trips) (v587 : IVec S16 32) (v589 : IVec S16 32) : Prop :=
  (∀ a x, ((![v587, v589] : Fin 2 → IVec S16 32) a x).toNat < S512x128.size a)
theorem k0_idx136_inb : ∀ (i : grid0.Coords) (k0_t3 : Fin (k0_t3_loop i).trips) (v587 : IVec S16 32) (v589 : IVec S16 32) (k0_hw136 : k0_chk136 i k0_t3 v587 v589), ∀ a x, ((![v587, v589] : Fin 2 → IVec S16 32) a x).toNat < S512x128.size a := fun i k0_t3 v587 v589 k0_hw136 => k0_hw136

def k0_chk137 (i : grid0.Coords) (k0_t3 : Fin (k0_t3_loop i).trips) (v592 : IVec S16 32) (v596 : IVec S16 32) : Prop :=
  (∀ a x, ((![v592, v596] : Fin 2 → IVec S16 32) a x).toNat < S512x128.size a)
theorem k0_idx137_inb : ∀ (i : grid0.Coords) (k0_t3 : Fin (k0_t3_loop i).trips) (v592 : IVec S16 32) (v596 : IVec S16 32) (k0_hw137 : k0_chk137 i k0_t3 v592 v596), ∀ a x, ((![v592, v596] : Fin 2 → IVec S16 32) a x).toNat < S512x128.size a := fun i k0_t3 v592 v596 k0_hw137 => k0_hw137

def k0_chk138 (i : grid0.Coords) (k0_t3 : Fin (k0_t3_loop i).trips) (v599 : IVec S16 32) (v603 : IVec S16 32) : Prop :=
  (∀ a x, ((![v599, v603] : Fin 2 → IVec S16 32) a x).toNat < S512x128.size a)
theorem k0_idx138_inb : ∀ (i : grid0.Coords) (k0_t3 : Fin (k0_t3_loop i).trips) (v599 : IVec S16 32) (v603 : IVec S16 32) (k0_hw138 : k0_chk138 i k0_t3 v599 v603), ∀ a x, ((![v599, v603] : Fin 2 → IVec S16 32) a x).toNat < S512x128.size a := fun i k0_t3 v599 v603 k0_hw138 => k0_hw138

def k0_chk139 (i : grid0.Coords) (k0_t3 : Fin (k0_t3_loop i).trips) (v606 : IVec S16 32) (v610 : IVec S16 32) : Prop :=
  (∀ a x, ((![v606, v610] : Fin 2 → IVec S16 32) a x).toNat < S512x128.size a)
theorem k0_idx139_inb : ∀ (i : grid0.Coords) (k0_t3 : Fin (k0_t3_loop i).trips) (v606 : IVec S16 32) (v610 : IVec S16 32) (k0_hw139 : k0_chk139 i k0_t3 v606 v610), ∀ a x, ((![v606, v610] : Fin 2 → IVec S16 32) a x).toNat < S512x128.size a := fun i k0_t3 v606 v610 k0_hw139 => k0_hw139

def k0_chk140 (i : grid0.Coords) (k0_t3 : Fin (k0_t3_loop i).trips) (v613 : IVec S16 32) (v617 : IVec S16 32) : Prop :=
  (∀ a x, ((![v613, v617] : Fin 2 → IVec S16 32) a x).toNat < S512x128.size a)
theorem k0_idx140_inb : ∀ (i : grid0.Coords) (k0_t3 : Fin (k0_t3_loop i).trips) (v613 : IVec S16 32) (v617 : IVec S16 32) (k0_hw140 : k0_chk140 i k0_t3 v613 v617), ∀ a x, ((![v613, v617] : Fin 2 → IVec S16 32) a x).toNat < S512x128.size a := fun i k0_t3 v613 v617 k0_hw140 => k0_hw140

def k0_chk141 (i : grid0.Coords) (k0_t3 : Fin (k0_t3_loop i).trips) (v620 : IVec S16 32) (v624 : IVec S16 32) : Prop :=
  (∀ a x, ((![v620, v624] : Fin 2 → IVec S16 32) a x).toNat < S512x128.size a)
theorem k0_idx141_inb : ∀ (i : grid0.Coords) (k0_t3 : Fin (k0_t3_loop i).trips) (v620 : IVec S16 32) (v624 : IVec S16 32) (k0_hw141 : k0_chk141 i k0_t3 v620 v624), ∀ a x, ((![v620, v624] : Fin 2 → IVec S16 32) a x).toNat < S512x128.size a := fun i k0_t3 v620 v624 k0_hw141 => k0_hw141

def k0_chk142 (i : grid0.Coords) (k0_t3 : Fin (k0_t3_loop i).trips) (v627 : IVec S16 32) (v631 : IVec S16 32) : Prop :=
  (∀ a x, ((![v627, v631] : Fin 2 → IVec S16 32) a x).toNat < S512x128.size a)
theorem k0_idx142_inb : ∀ (i : grid0.Coords) (k0_t3 : Fin (k0_t3_loop i).trips) (v627 : IVec S16 32) (v631 : IVec S16 32) (k0_hw142 : k0_chk142 i k0_t3 v627 v631), ∀ a x, ((![v627, v631] : Fin 2 → IVec S16 32) a x).toNat < S512x128.size a := fun i k0_t3 v627 v631 k0_hw142 => k0_hw142

def k0_chk143 (i : grid0.Coords) (k0_t3 : Fin (k0_t3_loop i).trips) (v634 : IVec S16 32) (v638 : IVec S16 32) : Prop :=
  (∀ a x, ((![v634, v638] : Fin 2 → IVec S16 32) a x).toNat < S512x128.size a)
theorem k0_idx143_inb : ∀ (i : grid0.Coords) (k0_t3 : Fin (k0_t3_loop i).trips) (v634 : IVec S16 32) (v638 : IVec S16 32) (k0_hw143 : k0_chk143 i k0_t3 v634 v638), ∀ a x, ((![v634, v638] : Fin 2 → IVec S16 32) a x).toNat < S512x128.size a := fun i k0_t3 v634 v638 k0_hw143 => k0_hw143

def k0_chk144 (i : grid0.Coords) (k0_t3 : Fin (k0_t3_loop i).trips) (v641 : IVec S16 32) (v645 : IVec S16 32) : Prop :=
  (∀ a x, ((![v641, v645] : Fin 2 → IVec S16 32) a x).toNat < S512x128.size a)
theorem k0_idx144_inb : ∀ (i : grid0.Coords) (k0_t3 : Fin (k0_t3_loop i).trips) (v641 : IVec S16 32) (v645 : IVec S16 32) (k0_hw144 : k0_chk144 i k0_t3 v641 v645), ∀ a x, ((![v641, v645] : Fin 2 → IVec S16 32) a x).toNat < S512x128.size a := fun i k0_t3 v641 v645 k0_hw144 => k0_hw144
def k0_off104 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_321 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk145 (i : grid0.Coords) (v34 : IVec S16 32) (k0_t3 : Fin (k0_t3_loop i).trips) (v648 : IVec S16 32) (v652 : IVec S16 32) : Prop :=
  (∀ a x, ((![v648, v652, v34] : Fin 3 → IVec S16 32) a x).toNat < S8x4x16.size a)
theorem k0_idx145_inb : ∀ (i : grid0.Coords) (v34 : IVec S16 32) (k0_t3 : Fin (k0_t3_loop i).trips) (v648 : IVec S16 32) (v652 : IVec S16 32) (k0_hw145 : k0_chk145 i v34 k0_t3 v648 v652), ∀ a x, ((![v648, v652, v34] : Fin 3 → IVec S16 32) a x).toNat < S8x4x16.size a := fun i v34 k0_t3 v648 v652 k0_hw145 => k0_hw145
def k0_off105 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_326 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk146 (i : grid0.Coords) (v34 : IVec S16 32) (k0_t3 : Fin (k0_t3_loop i).trips) (v656 : IVec S16 32) (v662 : IVec S16 32) : Prop :=
  (∀ a x, ((![v656, v662, v34] : Fin 3 → IVec S16 32) a x).toNat < S8x4x16.size a)
theorem k0_idx146_inb : ∀ (i : grid0.Coords) (v34 : IVec S16 32) (k0_t3 : Fin (k0_t3_loop i).trips) (v656 : IVec S16 32) (v662 : IVec S16 32) (k0_hw146 : k0_chk146 i v34 k0_t3 v656 v662), ∀ a x, ((![v656, v662, v34] : Fin 3 → IVec S16 32) a x).toNat < S8x4x16.size a := fun i v34 k0_t3 v656 v662 k0_hw146 => k0_hw146
def k0_off106 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_330 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk147 (i : grid0.Coords) (v34 : IVec S16 32) (k0_t3 : Fin (k0_t3_loop i).trips) (v666 : IVec S16 32) (v670 : IVec S16 32) : Prop :=
  (∀ a x, ((![v666, v670, v34] : Fin 3 → IVec S16 32) a x).toNat < S8x4x16.size a)
theorem k0_idx147_inb : ∀ (i : grid0.Coords) (v34 : IVec S16 32) (k0_t3 : Fin (k0_t3_loop i).trips) (v666 : IVec S16 32) (v670 : IVec S16 32) (k0_hw147 : k0_chk147 i v34 k0_t3 v666 v670), ∀ a x, ((![v666, v670, v34] : Fin 3 → IVec S16 32) a x).toNat < S8x4x16.size a := fun i v34 k0_t3 v666 v670 k0_hw147 => k0_hw147
def k0_off107 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_335 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk148 (i : grid0.Coords) (v34 : IVec S16 32) (k0_t3 : Fin (k0_t3_loop i).trips) (v674 : IVec S16 32) (v680 : IVec S16 32) : Prop :=
  (∀ a x, ((![v674, v680, v34] : Fin 3 → IVec S16 32) a x).toNat < S8x4x16.size a)
theorem k0_idx148_inb : ∀ (i : grid0.Coords) (v34 : IVec S16 32) (k0_t3 : Fin (k0_t3_loop i).trips) (v674 : IVec S16 32) (v680 : IVec S16 32) (k0_hw148 : k0_chk148 i v34 k0_t3 v674 v680), ∀ a x, ((![v674, v680, v34] : Fin 3 → IVec S16 32) a x).toNat < S8x4x16.size a := fun i v34 k0_t3 v674 v680 k0_hw148 => k0_hw148
def k0_off108 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_339 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk149 (i : grid0.Coords) (v34 : IVec S16 32) (k0_t3 : Fin (k0_t3_loop i).trips) (v684 : IVec S16 32) (v688 : IVec S16 32) : Prop :=
  (∀ a x, ((![v684, v688, v34] : Fin 3 → IVec S16 32) a x).toNat < S8x4x16.size a)
theorem k0_idx149_inb : ∀ (i : grid0.Coords) (v34 : IVec S16 32) (k0_t3 : Fin (k0_t3_loop i).trips) (v684 : IVec S16 32) (v688 : IVec S16 32) (k0_hw149 : k0_chk149 i v34 k0_t3 v684 v688), ∀ a x, ((![v684, v688, v34] : Fin 3 → IVec S16 32) a x).toNat < S8x4x16.size a := fun i v34 k0_t3 v684 v688 k0_hw149 => k0_hw149
def k0_off109 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_344 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk150 (i : grid0.Coords) (v34 : IVec S16 32) (k0_t3 : Fin (k0_t3_loop i).trips) (v692 : IVec S16 32) (v698 : IVec S16 32) : Prop :=
  (∀ a x, ((![v692, v698, v34] : Fin 3 → IVec S16 32) a x).toNat < S8x4x16.size a)
theorem k0_idx150_inb : ∀ (i : grid0.Coords) (v34 : IVec S16 32) (k0_t3 : Fin (k0_t3_loop i).trips) (v692 : IVec S16 32) (v698 : IVec S16 32) (k0_hw150 : k0_chk150 i v34 k0_t3 v692 v698), ∀ a x, ((![v692, v698, v34] : Fin 3 → IVec S16 32) a x).toNat < S8x4x16.size a := fun i v34 k0_t3 v692 v698 k0_hw150 => k0_hw150
def k0_off110 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_348 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk151 (i : grid0.Coords) (v34 : IVec S16 32) (k0_t3 : Fin (k0_t3_loop i).trips) (v702 : IVec S16 32) (v706 : IVec S16 32) : Prop :=
  (∀ a x, ((![v702, v706, v34] : Fin 3 → IVec S16 32) a x).toNat < S8x4x16.size a)
theorem k0_idx151_inb : ∀ (i : grid0.Coords) (v34 : IVec S16 32) (k0_t3 : Fin (k0_t3_loop i).trips) (v702 : IVec S16 32) (v706 : IVec S16 32) (k0_hw151 : k0_chk151 i v34 k0_t3 v702 v706), ∀ a x, ((![v702, v706, v34] : Fin 3 → IVec S16 32) a x).toNat < S8x4x16.size a := fun i v34 k0_t3 v702 v706 k0_hw151 => k0_hw151
def k0_off111 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_353 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk152 (i : grid0.Coords) (v34 : IVec S16 32) (k0_t3 : Fin (k0_t3_loop i).trips) (v710 : IVec S16 32) (v716 : IVec S16 32) : Prop :=
  (∀ a x, ((![v710, v716, v34] : Fin 3 → IVec S16 32) a x).toNat < S8x4x16.size a)
theorem k0_idx152_inb : ∀ (i : grid0.Coords) (v34 : IVec S16 32) (k0_t3 : Fin (k0_t3_loop i).trips) (v710 : IVec S16 32) (v716 : IVec S16 32) (k0_hw152 : k0_chk152 i v34 k0_t3 v710 v716), ∀ a x, ((![v710, v716, v34] : Fin 3 → IVec S16 32) a x).toNat < S8x4x16.size a := fun i v34 k0_t3 v710 v716 k0_hw152 => k0_hw152
def k0_off112 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_357 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk153 (i : grid0.Coords) (v34 : IVec S16 32) (k0_t3 : Fin (k0_t3_loop i).trips) (v720 : IVec S16 32) (v724 : IVec S16 32) : Prop :=
  (∀ a x, ((![v720, v724, v34] : Fin 3 → IVec S16 32) a x).toNat < S8x4x16.size a)
theorem k0_idx153_inb : ∀ (i : grid0.Coords) (v34 : IVec S16 32) (k0_t3 : Fin (k0_t3_loop i).trips) (v720 : IVec S16 32) (v724 : IVec S16 32) (k0_hw153 : k0_chk153 i v34 k0_t3 v720 v724), ∀ a x, ((![v720, v724, v34] : Fin 3 → IVec S16 32) a x).toNat < S8x4x16.size a := fun i v34 k0_t3 v720 v724 k0_hw153 => k0_hw153
def k0_off113 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_362 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk154 (i : grid0.Coords) (v34 : IVec S16 32) (k0_t3 : Fin (k0_t3_loop i).trips) (v728 : IVec S16 32) (v734 : IVec S16 32) : Prop :=
  (∀ a x, ((![v728, v734, v34] : Fin 3 → IVec S16 32) a x).toNat < S8x4x16.size a)
theorem k0_idx154_inb : ∀ (i : grid0.Coords) (v34 : IVec S16 32) (k0_t3 : Fin (k0_t3_loop i).trips) (v728 : IVec S16 32) (v734 : IVec S16 32) (k0_hw154 : k0_chk154 i v34 k0_t3 v728 v734), ∀ a x, ((![v728, v734, v34] : Fin 3 → IVec S16 32) a x).toNat < S8x4x16.size a := fun i v34 k0_t3 v728 v734 k0_hw154 => k0_hw154
def k0_off114 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_366 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk155 (i : grid0.Coords) (v34 : IVec S16 32) (k0_t3 : Fin (k0_t3_loop i).trips) (v738 : IVec S16 32) (v742 : IVec S16 32) : Prop :=
  (∀ a x, ((![v738, v742, v34] : Fin 3 → IVec S16 32) a x).toNat < S8x4x16.size a)
theorem k0_idx155_inb : ∀ (i : grid0.Coords) (v34 : IVec S16 32) (k0_t3 : Fin (k0_t3_loop i).trips) (v738 : IVec S16 32) (v742 : IVec S16 32) (k0_hw155 : k0_chk155 i v34 k0_t3 v738 v742), ∀ a x, ((![v738, v742, v34] : Fin 3 → IVec S16 32) a x).toNat < S8x4x16.size a := fun i v34 k0_t3 v738 v742 k0_hw155 => k0_hw155
def k0_off115 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_371 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk156 (i : grid0.Coords) (v34 : IVec S16 32) (k0_t3 : Fin (k0_t3_loop i).trips) (v746 : IVec S16 32) (v752 : IVec S16 32) : Prop :=
  (∀ a x, ((![v746, v752, v34] : Fin 3 → IVec S16 32) a x).toNat < S8x4x16.size a)
theorem k0_idx156_inb : ∀ (i : grid0.Coords) (v34 : IVec S16 32) (k0_t3 : Fin (k0_t3_loop i).trips) (v746 : IVec S16 32) (v752 : IVec S16 32) (k0_hw156 : k0_chk156 i v34 k0_t3 v746 v752), ∀ a x, ((![v746, v752, v34] : Fin 3 → IVec S16 32) a x).toNat < S8x4x16.size a := fun i v34 k0_t3 v746 v752 k0_hw156 => k0_hw156
def k0_off116 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_375 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk157 (i : grid0.Coords) (v34 : IVec S16 32) (k0_t3 : Fin (k0_t3_loop i).trips) (v756 : IVec S16 32) (v760 : IVec S16 32) : Prop :=
  (∀ a x, ((![v756, v760, v34] : Fin 3 → IVec S16 32) a x).toNat < S8x4x16.size a)
theorem k0_idx157_inb : ∀ (i : grid0.Coords) (v34 : IVec S16 32) (k0_t3 : Fin (k0_t3_loop i).trips) (v756 : IVec S16 32) (v760 : IVec S16 32) (k0_hw157 : k0_chk157 i v34 k0_t3 v756 v760), ∀ a x, ((![v756, v760, v34] : Fin 3 → IVec S16 32) a x).toNat < S8x4x16.size a := fun i v34 k0_t3 v756 v760 k0_hw157 => k0_hw157
def k0_off117 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_380 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk158 (i : grid0.Coords) (v34 : IVec S16 32) (k0_t3 : Fin (k0_t3_loop i).trips) (v764 : IVec S16 32) (v770 : IVec S16 32) : Prop :=
  (∀ a x, ((![v764, v770, v34] : Fin 3 → IVec S16 32) a x).toNat < S8x4x16.size a)
theorem k0_idx158_inb : ∀ (i : grid0.Coords) (v34 : IVec S16 32) (k0_t3 : Fin (k0_t3_loop i).trips) (v764 : IVec S16 32) (v770 : IVec S16 32) (k0_hw158 : k0_chk158 i v34 k0_t3 v764 v770), ∀ a x, ((![v764, v770, v34] : Fin 3 → IVec S16 32) a x).toNat < S8x4x16.size a := fun i v34 k0_t3 v764 v770 k0_hw158 => k0_hw158
def k0_off118 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_384 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk159 (i : grid0.Coords) (v34 : IVec S16 32) (k0_t3 : Fin (k0_t3_loop i).trips) (v774 : IVec S16 32) (v778 : IVec S16 32) : Prop :=
  (∀ a x, ((![v774, v778, v34] : Fin 3 → IVec S16 32) a x).toNat < S8x4x16.size a)
theorem k0_idx159_inb : ∀ (i : grid0.Coords) (v34 : IVec S16 32) (k0_t3 : Fin (k0_t3_loop i).trips) (v774 : IVec S16 32) (v778 : IVec S16 32) (k0_hw159 : k0_chk159 i v34 k0_t3 v774 v778), ∀ a x, ((![v774, v778, v34] : Fin 3 → IVec S16 32) a x).toNat < S8x4x16.size a := fun i v34 k0_t3 v774 v778 k0_hw159 => k0_hw159
def k0_off119 (i : grid0.Coords) (k0_t3 : Fin (k0_t3_loop i).trips) (k0_t4 : Fin k0_t4_loop.trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_98 : BitVec 32 := 0#32
  let c0_i32_79 : BitVec 32 := 0#32
  let c1_i32_81 : BitVec 32 := 1#32
  let arg12 : BitVec 32 := Scf.iv c0_i32_79 c1_i32_81 k0_t4
  let c1_i32_97 : BitVec 32 := 1#32
  let v159 : BitVec 32 := Scalar.muli arg12 c1_i32_97
  let v160 : BitVec 32 := Scalar.addi c0_i32_98 v159
  let c8_i32_99 : BitVec 32 := 8#32
  let v161 : BitVec 32 := Scalar.divsi v160 c8_i32_99
  let c8_i32_103 : BitVec 32 := 8#32
  let v165 : BitVec 32 := Scalar.muli v161 c8_i32_103
  let c0_i32_389 : BitVec 32 := 0#32
  let c8_i32_100 : BitVec 32 := 8#32
  let v162 : BitVec 32 := Scalar.remsi v160 c8_i32_100
  let c16_i32_104 : BitVec 32 := 16#32
  let v166 : BitVec 32 := Scalar.muli v162 c16_i32_104
  ![v116.toNat, v165.toNat, 0, v166.toNat]

def k0_chk160 (i : grid0.Coords) (v34 : IVec S16 32) (k0_t3 : Fin (k0_t3_loop i).trips) (v782 : IVec S16 32) (v788 : IVec S16 32) : Prop :=
  (∀ a x, ((![v782, v788, v34] : Fin 3 → IVec S16 32) a x).toNat < S8x4x16.size a)
theorem k0_idx160_inb : ∀ (i : grid0.Coords) (v34 : IVec S16 32) (k0_t3 : Fin (k0_t3_loop i).trips) (v782 : IVec S16 32) (v788 : IVec S16 32) (k0_hw160 : k0_chk160 i v34 k0_t3 v782 v788), ∀ a x, ((![v782, v788, v34] : Fin 3 → IVec S16 32) a x).toNat < S8x4x16.size a := fun i v34 k0_t3 v782 v788 k0_hw160 => k0_hw160
def k0_off120 (i : grid0.Coords) (k0_t3 : Fin (k0_t3_loop i).trips) : Fin 4 → Nat :=
  let c0_i32_49 : BitVec 32 := 0#32
  let c0_i32_50 : BitVec 32 := 0#32
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c2_i32_58 : BitVec 32 := 2#32
  let v116 : BitVec 32 := Scalar.remsi v115 c2_i32_58
  let c0_i32_87 : BitVec 32 := 0#32
  let c0_i32_88 : BitVec 32 := 0#32
  let c0_i32_89 : BitVec 32 := 0#32
  ![v116.toNat, 0, 0, 0]
def k0_off121 (i : grid0.Coords) (k0_t3 : Fin (k0_t3_loop i).trips) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c0_i32_49 : BitVec 32 := 0#32
  let c0_i32_50 : BitVec 32 := 0#32
  let c784_i32 : BitVec 32 := 784#32
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_44 : BitVec 32 := 0#32
  let v99 : BitVec 32 := Scalar.subi v7 c0_i32_44
  let c1_i32_45 : BitVec 32 := 1#32
  let c1_i32_46 : BitVec 32 := 1#32
  let v100 : BitVec 32 := Scalar.subi c1_i32_45 c1_i32_46
  let v101 : BitVec 32 := Scalar.addi v99 v100
  let c1_i32_47 : BitVec 32 := 1#32
  let v102 : BitVec 32 := Scalar.divsi v101 c1_i32_47
  let v103 : BitVec 32 := Scalar.subi v102 c0_i32_50
  let c1_i32_51 : BitVec 32 := 1#32
  let v105 : BitVec 32 := Scalar.divsi v103 c1_i32_51
  let v106 : BitVec 32 := Scalar.muli v105 c1_i32_51
  let v107 : BitVec 32 := Scalar.addi c0_i32_50 v106
  let c1_i32_53 : BitVec 32 := 1#32
  let arg11 : BitVec 32 := Scf.iv v107 c1_i32_53 k0_t3
  let c1_i32_48 : BitVec 32 := 1#32
  let v114 : BitVec 32 := Scalar.muli arg11 c1_i32_48
  let v115 : BitVec 32 := Scalar.addi c0_i32_49 v114
  let c16_i32_83 : BitVec 32 := 16#32
  let v144 : BitVec 32 := Scalar.muli v115 c16_i32_83
  let v145 : BitVec 32 := Scalar.addi v3 v144
  let c28_i32_85 : BitVec 32 := 28#32
  let v147 : BitVec 32 := Scalar.remsi v145 c28_i32_85
  let c16_i32_86 : BitVec 32 := 16#32
  let v148 : BitVec 32 := Scalar.muli v147 c16_i32_86
  let c28_i32_84 : BitVec 32 := 28#32
  let v146 : BitVec 32 := Scalar.divsi v145 c28_i32_84
  let c0_i32_90 : BitVec 32 := 0#32
  let c2_i32 : BitVec 32 := 2#32
  let v0 : BitVec 32 := Scalar.remsi arg1 c2_i32
  let c0_i32_91 : BitVec 32 := 0#32
  ![v148.toNat, v146.toNat, 0, v0.toNat, 0]
def k0_cond5 (i : grid0.Coords) : BitVec 1 :=
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_54 : BitVec 32 := 1#32
  let v108 : BitVec 1 := Scalar.cmpi .sgt v7 c1_i32_54
  let v109 : BitVec 32 := Scalar.extui v108
  let c0_i32_55 : BitVec 32 := 0#32
  let v110 : BitVec 1 := Scalar.cmpi .ne v109 c0_i32_55
  v110

def k0_off122 (i : grid0.Coords) : Fin 4 → Nat :=
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c2_i32_59 : BitVec 32 := 2#32
  let v115 : BitVec 32 := Scalar.remsi v7 c2_i32_59
  let c0_i32_64 : BitVec 32 := 0#32
  let c0_i32_65 : BitVec 32 := 0#32
  let c0_i32_66 : BitVec 32 := 0#32
  ![v115.toNat, 0, 0, 0]
def k0_off123 (i : grid0.Coords) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c784_i32 : BitVec 32 := 784#32
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c2_i32_58 : BitVec 32 := 2#32
  let v114 : BitVec 32 := Scalar.subi v7 c2_i32_58
  let c16_i32_60 : BitVec 32 := 16#32
  let v116 : BitVec 32 := Scalar.muli v114 c16_i32_60
  let v117 : BitVec 32 := Scalar.addi v3 v116
  let c28_i32_62 : BitVec 32 := 28#32
  let v119 : BitVec 32 := Scalar.remsi v117 c28_i32_62
  let c16_i32_63 : BitVec 32 := 16#32
  let v120 : BitVec 32 := Scalar.muli v119 c16_i32_63
  let c28_i32_61 : BitVec 32 := 28#32
  let v118 : BitVec 32 := Scalar.divsi v117 c28_i32_61
  let c0_i32_67 : BitVec 32 := 0#32
  let c2_i32 : BitVec 32 := 2#32
  let v0 : BitVec 32 := Scalar.remsi arg1 c2_i32
  let c0_i32_68 : BitVec 32 := 0#32
  ![v120.toNat, v118.toNat, 0, v0.toNat, 0]
def k0_off124 (i : grid0.Coords) : Fin 1 → Nat :=
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c2_i32_59 : BitVec 32 := 2#32
  let v115 : BitVec 32 := Scalar.remsi v7 c2_i32_59
  ![v115.toNat]
def k0_cond6 (i : grid0.Coords) : BitVec 1 :=
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c0_i32_56 : BitVec 32 := 0#32
  let v111 : BitVec 1 := Scalar.cmpi .sgt v7 c0_i32_56
  let v112 : BitVec 32 := Scalar.extui v111
  let c0_i32_57 : BitVec 32 := 0#32
  let v113 : BitVec 1 := Scalar.cmpi .ne v112 c0_i32_57
  v113

def k0_off125 (i : grid0.Coords) : Fin 4 → Nat :=
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_59 : BitVec 32 := 1#32
  let v115 : BitVec 32 := Scalar.subi v7 c1_i32_59
  let c2_i32_60 : BitVec 32 := 2#32
  let v116 : BitVec 32 := Scalar.remsi v115 c2_i32_60
  let c0_i32_65 : BitVec 32 := 0#32
  let c0_i32_66 : BitVec 32 := 0#32
  let c0_i32_67 : BitVec 32 := 0#32
  ![v116.toNat, 0, 0, 0]
def k0_off126 (i : grid0.Coords) : Fin 5 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let c784_i32 : BitVec 32 := 784#32
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_58 : BitVec 32 := 1#32
  let v114 : BitVec 32 := Scalar.subi v7 c1_i32_58
  let c16_i32_61 : BitVec 32 := 16#32
  let v117 : BitVec 32 := Scalar.muli v114 c16_i32_61
  let v118 : BitVec 32 := Scalar.addi v3 v117
  let c28_i32_63 : BitVec 32 := 28#32
  let v120 : BitVec 32 := Scalar.remsi v118 c28_i32_63
  let c16_i32_64 : BitVec 32 := 16#32
  let v121 : BitVec 32 := Scalar.muli v120 c16_i32_64
  let c28_i32_62 : BitVec 32 := 28#32
  let v119 : BitVec 32 := Scalar.divsi v118 c28_i32_62
  let c0_i32_68 : BitVec 32 := 0#32
  let c2_i32 : BitVec 32 := 2#32
  let v0 : BitVec 32 := Scalar.remsi arg1 c2_i32
  let c0_i32_69 : BitVec 32 := 0#32
  ![v121.toNat, v119.toNat, 0, v0.toNat, 0]
def k0_off127 (i : grid0.Coords) : Fin 1 → Nat :=
  let c784_i32 : BitVec 32 := 784#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let c2_i32_0 : BitVec 32 := 2#32
  let v2 : BitVec 32 := Scalar.divsi arg1 c2_i32_0
  let v3 : BitVec 32 := Scalar.addi v1 v2
  let v4 : BitVec 32 := Scalar.subi c784_i32 v3
  let c16_i32 : BitVec 32 := 16#32
  let v5 : BitVec 32 := Scalar.addi v4 c16_i32
  let c1_i32 : BitVec 32 := 1#32
  let v6 : BitVec 32 := Scalar.subi v5 c1_i32
  let c16_i32_1 : BitVec 32 := 16#32
  let v7 : BitVec 32 := Scalar.divsi v6 c16_i32_1
  let c1_i32_59 : BitVec 32 := 1#32
  let v115 : BitVec 32 := Scalar.subi v7 c1_i32_59
  let c2_i32_60 : BitVec 32 := 2#32
  let v116 : BitVec 32 := Scalar.remsi v115 c2_i32_60
  ![v116.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S9x768x14336 : Shape := ⟨3, ![9, 768, 14336]⟩
abbrev S448x4x8x128 : Shape := ⟨4, ![448, 4, 8, 128]⟩
abbrev S448x28x8x128 : Shape := ⟨4, ![448, 28, 8, 128]⟩
abbrev S4096 : Shape := ⟨1, ![4096]⟩
abbrev S448x32x8x128 : Shape := ⟨4, ![448, 32, 8, 128]⟩
abbrev S448x8x32x128 : Shape := ⟨4, ![448, 8, 32, 128]⟩
abbrev S3584x4096 : Shape := ⟨2, ![3584, 4096]⟩
abbrev S6912x14336 : Shape := ⟨2, ![6912, 14336]⟩
abbrev S1x4096 : Shape := ⟨2, ![1, 4096]⟩
abbrev S6912x4096 : Shape := ⟨2, ![6912, 4096]⟩
abbrev S14336x4096 : Shape := ⟨2, ![14336, 4096]⟩

abbrev nBuf : Space → Nat
  | .hbm => 10
  | .vmem => 4
  | .smem => 0
  | _ => 0

abbrev bufTy : (tb : Table) → Fin (tcTables nBuf tb) → BufTy
  | .hbm, ⟨0, _⟩ => ⟨S9x768x14336, .bf16⟩
  | .hbm, ⟨1, _⟩ => ⟨S448x4x8x128, .i32⟩
  | .hbm, ⟨2, _⟩ => ⟨S448x28x8x128, .i32⟩
  | .hbm, ⟨3, _⟩ => ⟨S4096, .f32⟩
  | .hbm, ⟨4, _⟩ => ⟨S448x32x8x128, .i32⟩
  | .hbm, ⟨5, _⟩ => ⟨S448x8x32x128, .i32⟩
  | .hbm, ⟨6, _⟩ => ⟨S3584x4096, .i32⟩
  | .hbm, ⟨7, _⟩ => ⟨S6912x14336, .bf16⟩
  | .hbm, ⟨8, _⟩ => ⟨S1x4096, .f32⟩
  | .hbm, ⟨9, _⟩ => ⟨S6912x4096, .bf16⟩
  | .local _ .vmem, ⟨0, _⟩ => ⟨S6912x14336, .bf16⟩
  | .local _ .vmem, ⟨1, _⟩ => ⟨S3584x4096, .i32⟩
  | .local _ .vmem, ⟨2, _⟩ => ⟨S1x4096, .f32⟩
  | .local _ .vmem, ⟨3, _⟩ => ⟨S6912x4096, .bf16⟩
  | _, _ => ⟨S9x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6912x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== CodebookReference.lean ====
abbrev S65536x8 : Shape := ⟨2, ![65536, 8]⟩
abbrev S_ : Shape := ⟨0, ![]⟩
abbrev S65536x2x4 : Shape := ⟨3, ![65536, 2, 4]⟩
abbrev S65536x2x1 : Shape := ⟨3, ![65536, 2, 1]⟩
abbrev S65536x2 : Shape := ⟨2, ![65536, 2]⟩
abbrev S2x65536 : Shape := ⟨2, ![2, 65536]⟩

abbrev nBuf : Space → Nat
  | .hbm => 28
  | .vmem => 0
  | .smem => 0
  | _ => 0

abbrev bufTy : (tb : Table) → Fin (tcTables nBuf tb) → BufTy
  | .hbm, ⟨0, _⟩ => ⟨S65536x8, .fp8e4m3⟩
  | .hbm, ⟨1, _⟩ => ⟨S65536x8, .i8⟩
  | .hbm, ⟨2, _⟩ => ⟨S65536x8, .i32⟩
  | .hbm, ⟨3, _⟩ => ⟨S_, .i32⟩
  | .hbm, ⟨4, _⟩ => ⟨S65536x8, .i32⟩
  | .hbm, ⟨5, _⟩ => ⟨S65536x8, .i32⟩
  | .hbm, ⟨6, _⟩ => ⟨S65536x2x4, .i32⟩
  | .hbm, ⟨7, _⟩ => ⟨S65536x2x1, .i32⟩
  | .hbm, ⟨8, _⟩ => ⟨S65536x2, .i32⟩
  | .hbm, ⟨9, _⟩ => ⟨S65536x2x1, .i32⟩
  | .hbm, ⟨10, _⟩ => ⟨S65536x2, .i32⟩
  | .hbm, ⟨11, _⟩ => ⟨S_, .i32⟩
  | .hbm, ⟨12, _⟩ => ⟨S65536x2, .i32⟩
  | .hbm, ⟨13, _⟩ => ⟨S65536x2, .i32⟩
  | .hbm, ⟨14, _⟩ => ⟨S65536x2, .i32⟩
  | .hbm, ⟨15, _⟩ => ⟨S65536x2x1, .i32⟩
  | .hbm, ⟨16, _⟩ => ⟨S65536x2, .i32⟩
  | .hbm, ⟨17, _⟩ => ⟨S_, .i32⟩
  | .hbm, ⟨18, _⟩ => ⟨S65536x2, .i32⟩
  | .hbm, ⟨19, _⟩ => ⟨S65536x2, .i32⟩
  | .hbm, ⟨20, _⟩ => ⟨S65536x2, .i32⟩
  | .hbm, ⟨21, _⟩ => ⟨S65536x2x1, .i32⟩
  | .hbm, ⟨22, _⟩ => ⟨S65536x2, .i32⟩
  | .hbm, ⟨23, _⟩ => ⟨S_, .i32⟩
  | .hbm, ⟨24, _⟩ => ⟨S65536x2, .i32⟩
  | .hbm, ⟨25, _⟩ => ⟨S65536x2, .i32⟩
  | .hbm, ⟨26, _⟩ => ⟨S65536x2, .i32⟩
  | .hbm, ⟨27, _⟩ => ⟨S2x65536, .i32⟩
  | _, _ => ⟨S65536x8, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [BitOps F]
-- ==== Decode0Reference.lean ====
abbrev S2x65536 : Shape := ⟨2, ![2, 65536]⟩
abbrev S4096x896 : Shape := ⟨2, ![4096, 896]⟩
abbrev S512x896 : Shape := ⟨2, ![512, 896]⟩
abbrev S_ : Shape := ⟨0, ![]⟩
abbrev S512x896x1 : Shape := ⟨3, ![512, 896, 1]⟩
abbrev S512x896x2 : Shape := ⟨3, ![512, 896, 2]⟩
abbrev S65536x2 : Shape := ⟨2, ![65536, 2]⟩
abbrev S512x896x2x1 : Shape := ⟨4, ![512, 896, 2, 1]⟩
abbrev S512x896x2x2 : Shape := ⟨4, ![512, 896, 2, 2]⟩
abbrev S512x3584 : Shape := ⟨2, ![512, 3584]⟩
abbrev S3584x512 : Shape := ⟨2, ![3584, 512]⟩
abbrev S448x8x4x128 : Shape := ⟨4, ![448, 8, 4, 128]⟩
abbrev S448x4x8x128 : Shape := ⟨4, ![448, 4, 8, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x65536, .i32⟩
  | .hbm, ⟨1, _⟩ => ⟨S4096x896, .i32⟩
  | .hbm, ⟨2, _⟩ => ⟨S512x896, .i32⟩
  | .hbm, ⟨3, _⟩ => ⟨S_, .i32⟩
  | .hbm, ⟨4, _⟩ => ⟨S512x896, .i32⟩
  | .hbm, ⟨5, _⟩ => ⟨S512x896, .i32⟩
  | .hbm, ⟨6, _⟩ => ⟨S_, .i32⟩
  | .hbm, ⟨7, _⟩ => ⟨S512x896, .i32⟩
  | .hbm, ⟨8, _⟩ => ⟨S512x896, .i32⟩
  | .hbm, ⟨9, _⟩ => ⟨S_, .i32⟩
  | .hbm, ⟨10, _⟩ => ⟨S512x896, .i32⟩
  | .hbm, ⟨11, _⟩ => ⟨S512x896, .i32⟩
  | .hbm, ⟨12, _⟩ => ⟨S512x896x1, .i32⟩
  | .hbm, ⟨13, _⟩ => ⟨S512x896x1, .i32⟩
  | .hbm, ⟨14, _⟩ => ⟨S512x896x2, .i32⟩
  | .hbm, ⟨15, _⟩ => ⟨S65536x2, .i32⟩
  | .hbm, ⟨16, _⟩ => ⟨S_, .i32⟩
  | .hbm, ⟨17, _⟩ => ⟨S512x896x2, .i32⟩
  | .hbm, ⟨18, _⟩ => ⟨S512x896x2, .i1⟩
  | .hbm, ⟨19, _⟩ => ⟨S_, .i32⟩
  | .hbm, ⟨20, _⟩ => ⟨S512x896x2, .i32⟩
  | .hbm, ⟨21, _⟩ => ⟨S512x896x2, .i32⟩
  | .hbm, ⟨22, _⟩ => ⟨S512x896x2, .i32⟩
  | .hbm, ⟨23, _⟩ => ⟨S512x896x2x1, .i32⟩
  | .hbm, ⟨24, _⟩ => ⟨S512x896x2x2, .i32⟩
  | .hbm, ⟨25, _⟩ => ⟨S512x3584, .i32⟩
  | .hbm, ⟨26, _⟩ => ⟨S3584x512, .i32⟩
  | .hbm, ⟨27, _⟩ => ⟨S448x8x4x128, .i32⟩
  | .hbm, ⟨28, _⟩ => ⟨S448x4x8x128, .i32⟩
  | _, _ => ⟨S2x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== DecodeReference.lean ====
abbrev S2x65536 : Shape := ⟨2, ![2, 65536]⟩
abbrev S4096x896 : Shape := ⟨2, ![4096, 896]⟩
abbrev S3584x896 : Shape := ⟨2, ![3584, 896]⟩
abbrev S_ : Shape := ⟨0, ![]⟩
abbrev S3584x896x1 : Shape := ⟨3, ![3584, 896, 1]⟩
abbrev S3584x896x2 : Shape := ⟨3, ![3584, 896, 2]⟩
abbrev S65536x2 : Shape := ⟨2, ![65536, 2]⟩
abbrev S3584x896x2x1 : Shape := ⟨4, ![3584, 896, 2, 1]⟩
abbrev S3584x896x2x2 : Shape := ⟨4, ![3584, 896, 2, 2]⟩
abbrev S3584x3584 : Shape := ⟨2, ![3584, 3584]⟩
abbrev S448x8x28x128 : Shape := ⟨4, ![448, 8, 28, 128]⟩
abbrev S448x28x8x128 : Shape := ⟨4, ![448, 28, 8, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x65536, .i32⟩
  | .hbm, ⟨1, _⟩ => ⟨S4096x896, .i32⟩
  | .hbm, ⟨2, _⟩ => ⟨S3584x896, .i32⟩
  | .hbm, ⟨3, _⟩ => ⟨S_, .i32⟩
  | .hbm, ⟨4, _⟩ => ⟨S3584x896, .i32⟩
  | .hbm, ⟨5, _⟩ => ⟨S3584x896, .i32⟩
  | .hbm, ⟨6, _⟩ => ⟨S_, .i32⟩
  | .hbm, ⟨7, _⟩ => ⟨S3584x896, .i32⟩
  | .hbm, ⟨8, _⟩ => ⟨S3584x896, .i32⟩
  | .hbm, ⟨9, _⟩ => ⟨S_, .i32⟩
  | .hbm, ⟨10, _⟩ => ⟨S3584x896, .i32⟩
  | .hbm, ⟨11, _⟩ => ⟨S3584x896, .i32⟩
  | .hbm, ⟨12, _⟩ => ⟨S3584x896x1, .i32⟩
  | .hbm, ⟨13, _⟩ => ⟨S3584x896x1, .i32⟩
  | .hbm, ⟨14, _⟩ => ⟨S3584x896x2, .i32⟩
  | .hbm, ⟨15, _⟩ => ⟨S65536x2, .i32⟩
  | .hbm, ⟨16, _⟩ => ⟨S_, .i32⟩
  | .hbm, ⟨17, _⟩ => ⟨S3584x896x2, .i32⟩
  | .hbm, ⟨18, _⟩ => ⟨S3584x896x2, .i1⟩
  | .hbm, ⟨19, _⟩ => ⟨S_, .i32⟩
  | .hbm, ⟨20, _⟩ => ⟨S3584x896x2, .i32⟩
  | .hbm, ⟨21, _⟩ => ⟨S3584x896x2, .i32⟩
  | .hbm, ⟨22, _⟩ => ⟨S3584x896x2, .i32⟩
  | .hbm, ⟨23, _⟩ => ⟨S3584x896x2x1, .i32⟩
  | .hbm, ⟨24, _⟩ => ⟨S3584x896x2x2, .i32⟩
  | .hbm, ⟨25, _⟩ => ⟨S3584x3584, .i32⟩
  | .hbm, ⟨26, _⟩ => ⟨S3584x3584, .i32⟩
  | .hbm, ⟨27, _⟩ => ⟨S448x8x28x128, .i32⟩
  | .hbm, ⟨28, _⟩ => ⟨S448x28x8x128, .i32⟩
  | _, _ => ⟨S2x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Words.lean ====
/-
  Hand-written, untrusted. A matrix of 32-bit words read at eight bits: rows `4r`, `4r + 1`, `4r + 2`, `4r + 3` of the
  result are the bytes of word row `r`, lowest byte first.
-/
module

public import Idealize.ShloMosaic.Lib.BitcastFour
public import Idealize.ShloMosaic.Lib.Pointwise

@[expose] public section

noncomputable section

namespace Cert.Proof.Words

open Idealize.ShloMosaic

variable {s t : Shape}

/-- Thirty-two-bit words read at eight bits: result row `r` of a column is byte `r % 4` of word row `r / 4`. -/
theorem bitcast_32_8 (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- The same at rank 2. -/
theorem bitcast_32_8_ix2 {R r n : Nat} (x : (⟨2, ![r, n]⟩ : Shape).Idx → BitVec 32)
    (h : (⟨2, ![r, n]⟩ : Shape).Bitcasts 32 ⟨2, ![R, n]⟩ 8) (hR : R = 4 * r) (a : Fin R) (l : Fin n) :
    bitcast ⟨2, ![R, n]⟩ 8 x h (ix2 a l)
      = (x (ix2 ⟨a.val / 4, by omega⟩ l)).extractLsb' (8 * (a.val % 4)) 8 := by
  rw [bitcast_32_8 x h]
  have hrow : Shape.row (⟨2, ![R, n]⟩ : Shape) (ix2 a l) = a.val := rfl
  congr 1
  congr 1
  funext c
  match c with
  | ⟨0, _⟩ => exact Fin.ext ((h.srcIdx_row _ _ _ ⟨0, Nat.zero_lt_two⟩ rfl).trans (by rw [hrow]; rfl))
  | ⟨1, _⟩ => exact Fin.ext (h.srcIdx_other _ _ _ ⟨1, Nat.one_lt_two⟩ (by show ¬ 1 + 2 = 2; omega))

/-- The fp8 weight that row `k` of an fp8 matrix takes from word `w`: byte `k % 4`, read as a float. -/
def weight (w : BitVec 32) (k : ℕ) : EReal :=
  FloatOps.ofBits (F := Ideal) .fp8e4m3 (w.extractLsb' (8 * (k % 4)) 8)

/-- Row `i` of `x` against the weights that one column takes from its words (`w b r`: sublane `r` of word block `b`),
    times that column's scale. -/
def cell (x : Fin 14336 → EReal) (w : Fin 448 → Fin 8 → BitVec 32) (s : EReal) : EReal :=
  (∑ k : Fin 14336, x k * weight (w ⟨k.val / 32, by omega⟩ ⟨k.val / 4 % 8, by omega⟩) k.val) * s

/-- The words of output column `j`: the first 512 columns' in `w0`, 128 columns to a lane group, the others' in `w1`. -/
def column (w0 : (⟨4, ![448, 4, 8, 128]⟩ : Shape).Idx → BitVec 32) (w1 : (⟨4, ![448, 28, 8, 128]⟩ : Shape).Idx → BitVec 32)
    (j : Fin 4096) (b : Fin 448) (r : Fin 8) : BitVec 32 :=
  if h : j.val / 128 < 4 then w0 (ix4 b ⟨j.val / 128, by omega⟩ r ⟨j.val % 128, by omega⟩)
  else w1 (ix4 b ⟨j.val / 128 - 4, by omega⟩ r ⟨j.val % 128, by omega⟩)

/-- A column of the first lane groups. -/
theorem column_of_lt (w0 : (⟨4, ![448, 4, 8, 128]⟩ : Shape).Idx → BitVec 32) (w1 : (⟨4, ![448, 28, 8, 128]⟩ : Shape).Idx → BitVec 32)
    (j : Fin 4096) (b : Fin 448) (r : Fin 8) (h : j.val / 128 < 4) :
    column w0 w1 j b r = w0 (ix4 b ⟨j.val / 128, h⟩ r ⟨j.val % 128, by omega⟩) := dif_pos h

/-- A column of the others. -/
theorem column_of_not_lt (w0 : (⟨4, ![448, 4, 8, 128]⟩ : Shape).Idx → BitVec 32) (w1 : (⟨4, ![448, 28, 8, 128]⟩ : Shape).Idx → BitVec 32)
    (j : Fin 4096) (b : Fin 448) (r : Fin 8) (h : ¬ j.val / 128 < 4) :
    column w0 w1 j b r = w1 (ix4 b ⟨j.val / 128 - 4, by omega⟩ r ⟨j.val % 128, by omega⟩) := dif_neg h

/-- The whole output array: row `i` is row `i % 768` of batch `i / 768`. -/
def result (x : (⟨3, ![9, 768, 14336]⟩ : Shape).Idx → EReal) (w0 : (⟨4, ![448, 4, 8, 128]⟩ : Shape).Idx → BitVec 32)
    (w1 : (⟨4, ![448, 28, 8, 128]⟩ : Shape).Idx → BitVec 32) (s : (⟨1, ![4096]⟩ : Shape).Idx → EReal) :
    (⟨2, ![6912, 4096]⟩ : Shape).Idx → EReal := fun i =>
  cell (fun k => x (ix3 ⟨(i 0).val / 768, by have : (i 0).val < 6912 := (i 0).isLt; omega⟩ ⟨(i 0).val % 768, by omega⟩ k))
    (column w0 w1 (i 1)) (s (ix1 (i 1)))

/-- Equal arguments give equal output arrays. -/
theorem result_congr {x x' : (⟨3, ![9, 768, 14336]⟩ : Shape).Idx → EReal} {w0 w0' : (⟨4, ![448, 4, 8, 128]⟩ : Shape).Idx → BitVec 32}
    {w1 w1' : (⟨4, ![448, 28, 8, 128]⟩ : Shape).Idx → BitVec 32} {s s' : (⟨1, ![4096]⟩ : Shape).Idx → EReal}
    (h0 : x = x') (h1 : w0 = w0') (h2 : w1 = w1') (h3 : s = s') : result x w0 w1 s = result x' w0' w1' s' := by
  subst h0 h1 h2 h3; rfl

end Cert.Proof.Words

end
-- ==== Proof.KernelValue.lean ====
/-
  Hand-written, untrusted. The two tiled calls' output array as one function of the program's arguments.
-/
module

public import proofs.«01_k».proof.Proof.Gen.KernelIdeal.Frame
public import proofs.«01_k».proof.Proof.Words
public import Idealize.ShloMosaic.Lib.Pipeline.ValueKit

@[expose] public section

set_option maxRecDepth 16384

noncomputable section

namespace Cert.KernelIdeal.Value

open Cert.KernelIdeal Cert.KernelIdeal.Gen Cert.Proof.Words Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A lane group's words laid out as rows: row `r` is sublane `r % 8` of word block `r / 8`. -/
theorem rows_apply (x : S448x1x8x128.Idx → BitVec 32) (h : S448x1x8x128.ShapeCasts S3584x128) (r : Fin 3584) (l : Fin 128) :
    shapeCast S3584x128 x h (ix2 r l) = x (ix4 ⟨r.val / 8, by omega⟩ 0 ⟨r.val % 8, by omega⟩ l) := by
  pointwise

/-- What one store writes at row `a`, column `b`: row `a` of `x` against the bytes of column `b`'s words, which lie in
    the first or the second lane group, times the column's scale. -/
theorem pay3_apply (v0 : Vec Ideal S256x14336 .bf16) (v1 v5 : Vec Ideal S448x1x8x128 .i32) (v11 : Vec Ideal S1x256 .f32)
    (a b : Fin 256) :
    k0_pay3 v0 v1 v5 v11 (ix2 a b)
      = cell (fun k => v0 (ix2 a k)) (fun p r =>
            if h : b.val < 128 then v1 (ix4 p 0 r ⟨b.val, h⟩) else v5 (ix4 p 0 r ⟨b.val - 128, by omega⟩)) (v11 (ix2 0 b)) := by
  unfold cell
  pointwise [k0_pay3, k0_pay2]
  congr 1
  refine Finset.sum_congr rfl fun k _ => ?_
  split
  all_goals
    rw [bitcast_32_8_ix2 _ _ (by rfl), rows_apply]
    simp only [weight, Nat.div_div_eq_div_mul]
    rfl

/-- The other three stores' values are the first's, of their own operands. -/
theorem pay1_eq (v0 : Vec Ideal S256x14336 .bf16) (v1 v5 : Vec Ideal S448x1x8x128 .i32) (v11 : Vec Ideal S1x256 .f32) :
    k0_pay1 (k0_pay4 v0 v1 v5) (k0_pay5 v11) = k0_pay3 v0 v1 v5 v11 := rfl
theorem pay1_eq' (v0 : Vec Ideal S256x14336 .bf16) (v1 v5 : Vec Ideal S448x1x8x128 .i32) (v11 : Vec Ideal S1x256 .f32) :
    k1_pay1 (k1_pay4 v0 v1 v5) (k1_pay5 v11) = k0_pay3 v0 v1 v5 v11 := rfl
theorem pay3_eq' (v0 : Vec Ideal S256x14336 .bf16) (v1 v5 : Vec Ideal S448x1x8x128 .i32) (v11 : Vec Ideal S1x256 .f32) :
    k1_pay3 v0 v1 v5 v11 = k0_pay3 v0 v1 v5 v11 := rfl

/-- One entry of the block that a body leaves: row `a` of `x` against the bytes of column `b`'s words, times the
    column's scale. -/
def entry (x0 : Vec Ideal S256x14336 .bf16) (x1 : Vec Ideal S448x4x8x128 .i32) (x2 : Vec Ideal S1x512 .f32)
    (a : Fin 256) (b : Fin 512) : EReal :=
  cell (fun k => x0 (ix2 a k)) (fun p r => x1 (ix4 p ⟨b.val / 128, by omega⟩ r ⟨b.val % 128, by omega⟩)) (x2 (ix2 0 b))

/-- The block the second call's body leaves, at an index. -/
theorem out1_apply (c : Dev nD) (i : grid1.Coords) (arg2 : Memref sig .tc .vmem S256x14336 .bf16) (harg2 : arg2.IsWhole) (arg3 : Memref sig .tc .vmem S448x4x8x128 .i32) (harg3 : arg3.IsWhole) (arg4 : Memref sig .tc .vmem S1x512 .f32) (harg4 : arg4.IsWhole) (arg6 : Memref sig .tc .vmem S256x512 .bf16) (harg6 : arg6.IsWhole)
    (x0 : Vec Ideal S256x14336 .bf16) (x1 : Vec Ideal S448x4x8x128 .i32) (x2 : Vec Ideal S1x512 .f32) (y : S256x512.Idx) :
    out1_A_3 c i arg2 harg2 arg3 harg3 arg4 harg4 arg6 harg6 x0 x1 x2 y = entry x0 x1 x2 (y 0) (y 1) := by
  frame_out
  canon_tiles x h
  all_goals
    obtain ⟨a, b, rfl⟩ : ∃ (a : Fin 256) (b : Fin 256), x = ix2 a b := ⟨x 0, x 1, eq_ix2 x⟩
    obtain ⟨p, q, rfl⟩ : ∃ (p : Fin 256) (q : Fin 512), y = ix2 p q := ⟨y 0, y 1, eq_ix2 y⟩
    first | rw [pay3_eq'] | rw [pay1_eq']
    rw [pay3_apply]
    simp only [ix2_0, ix2_1] at h0 h1
    obtain rfl : p = a := Fin.ext h0
    have hb : b.val < 256 := b.isLt
    have hq : q.val < 512 := q.isLt
    unfold entry cell
    congr 1
    · refine Finset.sum_congr rfl fun k _ => ?_
      congr 2
      split
      all_goals
        beta_reduce
        rw [View.ld_apply]
        refine congrArg x1 ?_
        funext d
        fin_cases d <;> refine Fin.ext ?_ <;> simp <;> omega
    · rw [View.ld_apply]
      refine congrArg x2 ?_
      funext d
      fin_cases d <;> refine Fin.ext ?_ <;> simp <;> omega

/-- The block the first call's body leaves, at an index. -/
theorem out0_apply (x0 : Vec Ideal S256x14336 .bf16) (x1 : Vec Ideal S448x4x8x128 .i32) (x2 : Vec Ideal S1x512 .f32) (y : S256x512.Idx) :
    out0_3 x0 x1 x2 y = entry x0 x1 x2 (y 0) (y 1) := by
  frame_out
  canon_tiles x h
  all_goals
    obtain ⟨a, b, rfl⟩ : ∃ (a : Fin 256) (b : Fin 256), x = ix2 a b := ⟨x 0, x 1, eq_ix2 x⟩
    obtain ⟨p, q, rfl⟩ : ∃ (p : Fin 256) (q : Fin 512), y = ix2 p q := ⟨y 0, y 1, eq_ix2 y⟩
    try rw [pay1_eq]
    rw [pay3_apply]
    simp only [ix2_0, ix2_1] at h0 h1
    obtain rfl : p = a := Fin.ext h0
    have hb : b.val < 256 := b.isLt
    have hq : q.val < 512 := q.isLt
    unfold entry cell
    congr 1
    · refine Finset.sum_congr rfl fun k _ => ?_
      congr 2
      split
      all_goals
        beta_reduce
        rw [View.ld_apply]
        refine congrArg x1 ?_
        funext d
        fin_cases d <;> refine Fin.ext ?_ <;> simp <;> omega
    · rw [View.ld_apply]
      refine congrArg x2 ?_
      funext d
      fin_cases d <;> refine Fin.ext ?_ <;> simp <;> omega

/-- The first call's grid point `t` is row block `t`, column block 0: what each window reads and writes there. -/
theorem idx0 (t : Fin cfg0.N) : win0_0.index t = ![win0_3.index t 0, 0] ∧ win0_1.index t = ![0, 0, 0, 0]
    ∧ win0_2.index t = ![0, 0] ∧ win0_3.index t 0 < 27 ∧ win0_3.index t 1 = 0 := by
  revert t; decide +kernel

/-- The second call's grid point `t` is row block `t % 27` and column block `1 + t / 27`: what each window reads and
    writes there. -/
theorem idx1 (t : Fin cfg1.N) : win1_0.index t = ![win1_3.index t 0, 0] ∧ win1_1.index t = ![0, win1_3.index t 1 - 1, 0, 0]
    ∧ win1_2.index t = ![0, win1_3.index t 1] ∧ 1 ≤ win1_3.index t 1 ∧ win1_3.index t 0 < 27 ∧ win1_3.index t 1 < 8 := by
  revert t; decide +kernel

section
variable (V : (c : Dev nD) → (b : Ref sig .tc) → Buf (Elt Ideal) ((c : Thread nD τ).loc b)) (c : Dev nD)

/-- The first call's output array, below column 512, from the arrays it is entered with. -/
theorem arr0 (i : Fin 6912) (j : Fin 4096) (hj : j.val < 512) :
    (dat0 V c).arrAt 3 cfg0.N (ix2 i j) = cell (fun k => V c main_v0 (ix2 i k))
      (fun p r => V c main_arg1 (ix4 p ⟨j.val / 128, by omega⟩ r ⟨j.val % 128, by omega⟩)) (V c main_v1 (ix2 0 j)) := by
  have key : (dat0 V c).arrAt 3 cfg0.N = fun y : S6912x4096.Idx =>
      if h : (y 1).val < 512 then cell (fun k => V c main_v0 (ix2 (y 0) k))
        (fun p r => V c main_arg1 (ix4 p ⟨(y 1).val / 128, by omega⟩ r ⟨(y 1).val % 128, by omega⟩)) (V c main_v1 (ix2 0 (y 1)))
      else V c main_v2 y := by
    refine (dat0 V c).arrAt_eq_of_coversWhere_of_agree 3 _ (fun β => β 1 < 1) (by decide +kernel) (fun t hf y => ?_) (fun j hj => ?_)
    · blk_simp
      rw [after0_3, out0_apply]
      obtain ⟨a, b, rfl⟩ : ∃ (a : Fin 256) (b : Fin 512), y = ix2 a b := ⟨y 0, y 1, eq_ix2 y⟩
      obtain ⟨e0, e1, e2, h1, h2⟩ := idx0 t
      unfold entry cell
      rw [dif_pos (by blk_simp; omega)]
      congr 1
      · refine Finset.sum_congr rfl fun k _ => ?_
        congr 1
        · blk_ext [iblk0, e0]
        · congr 1
          blk_ext [iblk0, e1]
      · blk_ext [iblk0, e2]
    · blk_simp [Pipeline.Window.cell_apply] at hj
      rw [dif_neg (by blk_simp; omega)]
      rw [A_eq0]
  rw [key]
  exact dif_pos hj

/-- The second call's output array from the arrays it is entered with: below column 512 what it held. -/
theorem arr1 (i : Fin 6912) (j : Fin 4096) :
    (dat1 V c).arrAt 3 cfg1.N (ix2 i j) = if h : 512 ≤ j.val then cell (fun k => V c main_v0 (ix2 i k))
      (fun p r => V c main_arg2 (ix4 p ⟨j.val / 128 - 4, by omega⟩ r ⟨j.val % 128, by omega⟩)) (V c main_v1 (ix2 0 j))
      else V c main_v3 (ix2 i j) := by
  have key : (dat1 V c).arrAt 3 cfg1.N = fun y : S6912x4096.Idx =>
      if h : 512 ≤ (y 1).val then cell (fun k => V c main_v0 (ix2 (y 0) k))
        (fun p r => V c main_arg2 (ix4 p ⟨(y 1).val / 128 - 4, by have : (y 1).val < 4096 := (y 1).isLt; omega⟩ r
          ⟨(y 1).val % 128, by omega⟩)) (V c main_v1 (ix2 0 (y 1)))
      else V c main_v3 y := by
    refine (dat1 V c).arrAt_eq_of_coversWhere_of_agree 3 _ (fun β => 1 ≤ β 1) (by decide +kernel) (fun t hf y => ?_) (fun j hj => ?_)
    · blk_simp
      rw [after1_3, outsAt1, out1_apply]
      obtain ⟨a, b, rfl⟩ : ∃ (a : Fin 256) (b : Fin 512), y = ix2 a b := ⟨y 0, y 1, eq_ix2 y⟩
      obtain ⟨e0, e1, e2, h1, h2, h3⟩ := idx1 t
      unfold entry cell
      rw [dif_pos (by blk_simp; omega)]
      congr 1
      · refine Finset.sum_congr rfl fun k _ => ?_
        congr 1
        · blk_ext [iblk1, e0]
        · congr 1
          blk_ext [iblk1, e1]
      · blk_ext [iblk1, e2]
    · blk_simp [Pipeline.Window.cell_apply] at hj
      rw [dif_neg (by blk_simp; omega)]
      rw [A_eq1]
  rw [key]
  rfl

end

section
variable (m : (ℓ : Loc nD τ sig) → Buf (Elt Ideal) ℓ) (ρ : Dev nD → PrngReg)

/-- Both calls read the activations as one matrix: row `i` is row `i % 768` of batch `i / 768`. -/
theorem read_x (c : Dev nD) (i : Fin 6912) (k : Fin 14336) :
    V1 m ρ c main_v0 (ix2 i k) = m ((c : Thread nD τ).loc main_arg0) (ix3 ⟨i.val / 768, by omega⟩ ⟨i.val % 768, by omega⟩ k) := by
  show StableHlo.after hostOps0 (W0 m ρ c) (Proc.devRef .tc main_v0) _ = _
  entry_read
  pointwise

/-- And the scales as one row. -/
theorem read_s (c : Dev nD) (j : Fin 4096) :
    V1 m ρ c main_v1 (ix2 0 j) = m ((c : Thread nD τ).loc main_arg3) (ix1 j) := by
  show StableHlo.after hostOps0 (W0 m ρ c) (Proc.devRef .tc main_v1) _ = _
  entry_read
  pointwise

/-- What neither the first call nor the copy of its result writes, the second call finds as the first did. -/
theorem V3_of (c : Dev nD) (r : Ref sig .tc) (h : r ∉ hostOps1_W)
    (h' : ∀ w : Fin cfg0.W, Pipeline.arrRef spec0 w = r → (cfg0.win w).isOut = false) : V3 m ρ c r = V1 m ρ c r :=
  (W3_of m ρ c r h).trans (W2_of m ρ c r h')

/-- The second call's result starts as the first call's. -/
theorem read_y (c : Dev nD) : V3 m ρ c main_v3 = (dat0 (V1 m ρ) c).arrAt 3 cfg0.N := by
  refine Eq.trans ?_ (W2_arr m ρ c 3)
  show StableHlo.after hostOps1 (W2 m ρ c) (Proc.devRef .tc main_v3) = _
  entry_read
  rfl

/-- The kernel's output array after the run is `result` of its arguments. -/
theorem final (c : Dev nD) : W4 m ρ c (Proc.devRef .tc main_v3) = result (m ((c : Thread nD τ).loc main_arg0))
    (m ((c : Thread nD τ).loc main_arg1)) (m ((c : Thread nD τ).loc main_arg2)) (m ((c : Thread nD τ).loc main_arg3)) := by
  refine (W4_arr m ρ c 3).trans (funext fun y => ?_)
  obtain ⟨i, j, rfl⟩ : ∃ (i : Fin 6912) (j : Fin 4096), y = ix2 i j := ⟨y 0, y 1, eq_ix2 y⟩
  have e0 : V3 m ρ c main_v0 = V1 m ρ c main_v0 := V3_of m ρ c main_v0 (by decide) (by decide)
  have e1 : V3 m ρ c main_v1 = V1 m ρ c main_v1 := V3_of m ρ c main_v1 (by decide) (by decide)
  have a1 : V1 m ρ c main_arg1 = m ((c : Thread nD τ).loc main_arg1) := W1_args m ρ c main_arg1 (by decide)
  have a2 : V3 m ρ c main_arg2 = m ((c : Thread nD τ).loc main_arg2) := W3_args m ρ c main_arg2 (by decide)
  refine (arr1 (V3 m ρ) c i j).trans ?_
  rw [read_y, e0, e1, a2]
  unfold result
  split
  · rename_i h
    exact congr (congr (congrArg cell (funext fun k => read_x m ρ c i k))
      (funext fun p => funext fun r => (column_of_not_lt _ _ j p r (by omega)).symm)) (read_s m ρ c j)
  · rename_i h
    rw [arr0 _ _ i j (by omega), a1]
    exact congr (congr (congrArg cell (funext fun k => read_x m ρ c i k))
      (funext fun p => funext fun r => (column_of_lt _ _ j p r (by omega)).symm)) (read_s m ρ c j)

set_option backward.isDefEq.respectTransparency.types false in
/-- From any memory with zero counters every run of the two calls ends with `result` of the arguments in the output
    array and the arguments unchanged. -/
theorem run : θ_run defs (onTc (τ := τ) (main (F := Ideal))) ⟨m, fun _ => 0, ρ⟩ (fun r => ∀ c : Dev nD,
      r.2.mem ((c.tc : Thread nD τ).loc main_v3) = result (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3 (by decide))).trans (final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end

end Cert.KernelIdeal.Value

end
-- ==== Proof.ReferenceValue.lean ====
/-
  Hand-written, untrusted. The reference's output array as one function of its arguments.
-/
module

public import proofs.«01_k».proof.Proof.Gen.ReferenceIdeal.Value
public import proofs.«01_k».proof.Proof.Words
public import Idealize.ShloMosaic.Lib.Pipeline.ValueKit

@[expose] public section

set_option maxRecDepth 16384

noncomputable section

namespace Cert.ReferenceIdeal.Value

open Cert.ReferenceIdeal Cert.ReferenceIdeal.Gen Cert.Proof.Words Idealize.ShloMosaic Idealize.ShloMosaic.TcCoe Idealize.SL.Sem

/-- The one grid point's block of every window is the whole array. -/
theorem idx (t : Fin cfg0.N) : win0_0.index t = ![0, 0] ∧ win0_1.index t = ![0, 0] ∧ win0_2.index t = ![0, 0]
    ∧ win0_3.index t = ![0, 0] := by
  revert t; decide +kernel

/-- Window 0's block at an index is the array at that index. -/
theorem iblk0 (m : (ℓ : Loc nD τ sig) → Buf (Elt Ideal) ℓ) (c : Dev nD) (t : Fin cfg0.N) (p : Fin 6912) (q : Fin 14336) :
    iblk m c 0 t (ix2 p q) = V m c main_v3 (ix2 p q) := by
  obtain ⟨e0, e1, e2, e3⟩ := idx t
  exact congrArg (V m c main_v3) (show ((View.whole main_v3).slice (win0_0.rect t)).emb (ix2 p q) = ix2 p q by blk_ext [e0])

/-- Window 1's block at an index is the array at that index. -/
theorem iblk1 (m : (ℓ : Loc nD τ sig) → Buf (Elt Ideal) ℓ) (c : Dev nD) (t : Fin cfg0.N) (p : Fin 3584) (q : Fin 4096) :
    iblk m c 1 t (ix2 p q) = V m c main_v2 (ix2 p q) := by
  obtain ⟨e0, e1, e2, e3⟩ := idx t
  exact congrArg (V m c main_v2) (show ((View.whole main_v2).slice (win0_1.rect t)).emb (ix2 p q) = ix2 p q by blk_ext [e1])

/-- Window 2's block at an index is the array at that index. -/
theorem iblk2 (m : (ℓ : Loc nD τ sig) → Buf (Elt Ideal) ℓ) (c : Dev nD) (t : Fin cfg0.N) (p : Fin 1) (q : Fin 4096) :
    iblk m c 2 t (ix2 p q) = V m c main_v4 (ix2 p q) := by
  obtain ⟨e0, e1, e2, e3⟩ := idx t
  exact congrArg (V m c main_v4) (show ((View.whole main_v4).slice (win0_2.rect t)).emb (ix2 p q) = ix2 p q by blk_ext [e2])

/-- The reference's output array after the run is `result` of its arguments. -/
theorem arr3 (m : (ℓ : Loc nD τ sig) → Buf (Elt Ideal) ℓ) (c : Dev nD) :
    (dats m 0 c).arrAt 3 cfg0.N = result (m (c, main_arg0)) (m (c, main_arg1)) (m (c, main_arg2)) (m (c, main_arg3)) := by
  refine (dats m 0 c).arrAt_eq_of_covers 3 _ (by decide +kernel) fun t hf y => ?_
  blk_simp
  rw [after0_3]
  frame_out
  obtain ⟨i, j, rfl⟩ : ∃ (i : Fin 6912) (j : Fin 4096), y = ix2 i j := ⟨y 0, y 1, eq_ix2 y⟩
  pointwise [k0_pay1]
  have e : ((View.whole main_v5).slice (win0_3.rect t)).emb (ix2 i j) = ix2 i j := by blk_ext [(idx t).2.2.2]
  rw [e]
  unfold result cell column
  congr 1
  · refine Finset.sum_congr rfl fun k _ => ?_
    rw [bitcast_32_8_ix2 _ _ (by rfl)]
    congr 1
    · rw [iblk0]
      entry_read
      pointwise
    · unfold weight
      congr 2
      rw [iblk1]
      entry_read
      pointwise
      simp only [Nat.div_div_eq_div_mul]
  · rw [iblk2]
    entry_read
    pointwise

end Cert.ReferenceIdeal.Value

end
-- ==== Proof.CodebookEqual.lean ====
/-
  The call that reads the fp8 codebook as int32 words leaves, bit for bit, its reference's words. The call's array is
  `words` of the codebook, word `p` of a row being its entries `4p .. 4p + 3`, the first lowest; the reference is a straight
  line of array operations (`ops`) that joins the same four bytes by shifts.
-/
module

public import proofs.«01_k».proof.Defs
public import proofs.«01_k».proof.Proof.Gen.Codebook
public import proofs.«01_k».proof.Proof.Gen.Codebook.Frame
public import proofs.«01_k».proof.Proof.Gen.CodebookReference
public import Idealize.ShloMosaic.Lib.BitcastFour
public import Idealize.ShloMosaic.Lib.Pipeline.ValueKit

@[expose] public section

set_option maxRecDepth 16384

noncomputable section

namespace Cert.Proof.CodebookEqual

open Idealize.ShloMosaic Idealize.ShloMosaic.TcCoe Idealize.SL.Sem

instance : Cert.Codebook.Facts := Cert.Codebook.Gen.facts
instance : Cert.CodebookReference.Facts := Cert.CodebookReference.Gen.facts

/-- Word `p` of row `c` of a codebook of 65536 rows of eight bytes: bytes `4p .. 4p + 3` of the row, the first lowest. -/
def word (b : (⟨2, ![65536, 8]⟩ : Shape).Idx → BitVec 8) (p : Fin 2) (c : Fin 65536) : BitVec 32 :=
  (b (ix2 c ⟨4 * p.val, by omega⟩)).setWidth 32 ||| ((b (ix2 c ⟨4 * p.val + 1, by omega⟩)).setWidth 32 <<< 8)
    ||| ((b (ix2 c ⟨4 * p.val + 2, by omega⟩)).setWidth 32 <<< 16) ||| ((b (ix2 c ⟨4 * p.val + 3, by omega⟩)).setWidth 32 <<< 24)

/-- All the words, word 0 of every row, then word 1 of every row. -/
def words (b : (⟨2, ![65536, 8]⟩ : Shape).Idx → BitVec 8) : (⟨2, ![2, 65536]⟩ : Shape).Idx → BitVec 32 := fun y => word b (y 0) (y 1)

/-- Four rows of bytes read as one row of words, of the codebook's transpose. -/
theorem bitcast_eq_word (b : (⟨2, ![65536, 8]⟩ : Shape).Idx → BitVec 8) (x : (⟨2, ![8, 65536]⟩ : Shape).Idx → BitVec 8)
    (hx : ∀ (r : Fin 8) (c : Fin 65536), x (ix2 r c) = b (ix2 c r))
    (h : (⟨2, ![8, 65536]⟩ : Shape).Bitcasts 8 ⟨2, ![2, 65536]⟩ 32) (p : Fin 2) (c : Fin 65536) :
    bitcast ⟨2, ![2, 65536]⟩ 32 x h (ix2 p c) = word b p c := by
  refine BitVec.eq_of_getLsbD_eq fun q hq => ?_
  refine (bitcast_8_32_getLsbD_ix2 x h p c q hq ⟨4 * p.val + q / 8, by omega⟩ rfl).trans ?_
  refine (congrArg (fun w : BitVec 8 => w.getLsbD (q % 8)) (hx _ c)).trans ?_
  exact (four_bytes_getLsbD (fun k => b (ix2 c ⟨4 * p.val + k.val, by omega⟩)) q hq).symm

section Call

open Cert.Codebook Cert.Codebook.Gen

variable (m : (ℓ : Loc nD τ sig) → Buf (Elt Bits) ℓ) (ρ : Dev nD → PrngReg)

/-- The one grid point's block of either window is the whole array. -/
theorem idx (t : Fin cfg0.N) : win0_0.index t = ![0, 0] ∧ win0_1.index t = ![0, 0] := by
  revert t; decide +kernel

/-- The operand's block at an index is the operand at that index. -/
theorem iblk0 (c : Dev nD) (t : Fin cfg0.N) (p : Fin 8) (q : Fin 65536) :
    iblk m c 0 t (ix2 p q) = V m c main_v0 (ix2 p q) :=
  congrArg (V m c main_v0) (show ((View.whole main_v0).slice (win0_0.rect t)).emb (ix2 p q) = ix2 p q by blk_ext [(idx t).1])

/-- The operand is the codebook transposed. -/
theorem read_cb (c : Dev nD) (p : Fin 8) (q : Fin 65536) :
    V m c main_v0 (ix2 p q) = m ((c : Thread nD τ).loc main_arg0) (ix2 q p) := by
  entry_read
  pointwise

/-- What the body stores: the bitcast of what it loads. -/
theorem pay_apply (b : (⟨2, ![65536, 8]⟩ : Shape).Idx → BitVec 8) (x : Vec Bits S8x65536 .fp8e4m3)
    (hx : ∀ (r : Fin 8) (c : Fin 65536), x (ix2 r c) = b (ix2 c r)) (p : Fin 2) (c : Fin 65536) :
    k0_pay1 x (ix2 p c) = word b p c := by
  unfold k0_pay1
  refine bitcast_eq_word b _ (fun r c => ?_) _ p c
  refine Eq.trans ?_ (hx r c)
  rw [shapeCast_self]
  rfl

/-- The call's output array after the run is `words` of the codebook. -/
theorem arr1 (c : Dev nD) : (dats m 0 c).arrAt 1 cfg0.N = words (m ((c : Thread nD τ).loc main_arg0)) := by
  refine (dats m 0 c).arrAt_eq_of_covers 1 _ (by decide +kernel) fun t hf y => ?_
  blk_simp
  rw [after0_1]
  frame_out
  obtain ⟨i, j, rfl⟩ : ∃ (i : Fin 2) (j : Fin 65536), y = ix2 i j := ⟨y 0, y 1, eq_ix2 y⟩
  have e : ((View.whole main_v1).slice (win0_1.rect t)).emb (ix2 i j) = ix2 i j := by blk_ext [(idx t).2]
  rw [e]
  refine pay_apply _ _ (fun r k => ?_) i j
  exact (iblk0 m c t r k).trans (read_cb m c r k)

/-- The call's run: it ends with `words` of the codebook, which it keeps. -/
theorem run_call : θ_run (defs (F := Bits)) (onTc (τ := τ) (main (F := Bits))) ⟨m, fun _ => 0, ρ⟩ (fun r => ∀ c : Dev nD,
      r.2.mem ((c.tc : Thread nD τ).loc main_v1) = words (m ((c : Thread nD τ).loc main_arg0))
      ∧ r.2.mem ((c.tc : Thread nD τ).loc main_arg0) = m ((c.tc : Thread nD τ).loc main_arg0)) :=
  (θ_run defs _ _).mono (fun r h c => ⟨((h c).1 1).trans (arr1 m c),
      ((h c).2 main_arg0 (Pipeline.mem_restRefs_of main_arg0 (by decide) (by decide))).trans (V_main_arg0 m c)⟩)
    (run_main m ρ)

end Call

section Reference

open Cert.CodebookReference Cert.CodebookReference.Facts₀

variable (m : (ℓ : Loc nD τ sig) → Buf (Elt Bits) ℓ) (ρ : Dev nD → PrngReg)

/-- The reference's operations, in order. -/
def ops : List (HloOp τ sig (Elt Bits)) :=
  [StableHlo.unary main_arg0 main_v0 (bitcastToInt (F := Bits) (s := S65536x8) (φ := .fp8e4m3) : (⟨S65536x8, .fp8e4m3⟩ : BufTy).Contents (Elt Bits) → (⟨S65536x8, .i8⟩ : BufTy).Contents (Elt Bits)),
   StableHlo.unary main_v0 main_v1 ((extsi 32 · natLt_8_32) : (⟨S65536x8, .i8⟩ : BufTy).Contents (Elt Bits) → (⟨S65536x8, .i32⟩ : BufTy).Contents (Elt Bits)),
   StableHlo.nullary main_c (constantI S_ 32 255#32),
   StableHlo.unary main_c main_v2 (broadcastInDim S65536x8 ![] bcast_S_S65536x8 : (⟨S_, .i32⟩ : BufTy).Contents (Elt Bits) → (⟨S65536x8, .i32⟩ : BufTy).Contents (Elt Bits)),
   StableHlo.binary main_v1 main_v2 main_v3 (andi : (⟨S65536x8, .i32⟩ : BufTy).Contents (Elt Bits) → (⟨S65536x8, .i32⟩ : BufTy).Contents (Elt Bits) → (⟨S65536x8, .i32⟩ : BufTy).Contents (Elt Bits)),
   StableHlo.reshape main_v3 main_v4 (rfl : (.i32 : EltTy) = .i32) shapeCasts_S65536x8_S65536x2x4,
   StableHlo.unary main_v4 main_v5 ((extractStridedSlice S65536x2x1 ![0, 0, 0] · slices_S65536x2x4_S65536x2x1_0_0_0) : (⟨S65536x2x4, .i32⟩ : BufTy).Contents (Elt Bits) → (⟨S65536x2x1, .i32⟩ : BufTy).Contents (Elt Bits)),
   StableHlo.reshape main_v5 main_v6 (rfl : (.i32 : EltTy) = .i32) shapeCasts_S65536x2x1_S65536x2,
   StableHlo.unary main_v4 main_v7 ((extractStridedSlice S65536x2x1 ![0, 0, 1] · slices_S65536x2x4_S65536x2x1_0_0_1) : (⟨S65536x2x4, .i32⟩ : BufTy).Contents (Elt Bits) → (⟨S65536x2x1, .i32⟩ : BufTy).Contents (Elt Bits)),
   StableHlo.reshape main_v7 main_v8 (rfl : (.i32 : EltTy) = .i32) shapeCasts_S65536x2x1_S65536x2,
   StableHlo.nullary main_c_0 (constantI S_ 32 8#32),
   StableHlo.unary main_c_0 main_v9 (broadcastInDim S65536x2 ![] bcast_S_S65536x2 : (⟨S_, .i32⟩ : BufTy).Contents (Elt Bits) → (⟨S65536x2, .i32⟩ : BufTy).Contents (Elt Bits)),
   StableHlo.binary main_v8 main_v9 main_v10 (Host.shli : (⟨S65536x2, .i32⟩ : BufTy).Contents (Elt Bits) → (⟨S65536x2, .i32⟩ : BufTy).Contents (Elt Bits) → (⟨S65536x2, .i32⟩ : BufTy).Contents (Elt Bits)),
   StableHlo.binary main_v6 main_v10 main_v11 (ori : (⟨S65536x2, .i32⟩ : BufTy).Contents (Elt Bits) → (⟨S65536x2, .i32⟩ : BufTy).Contents (Elt Bits) → (⟨S65536x2, .i32⟩ : BufTy).Contents (Elt Bits)),
   StableHlo.unary main_v4 main_v12 ((extractStridedSlice S65536x2x1 ![0, 0, 2] · slices_S65536x2x4_S65536x2x1_0_0_2) : (⟨S65536x2x4, .i32⟩ : BufTy).Contents (Elt Bits) → (⟨S65536x2x1, .i32⟩ : BufTy).Contents (Elt Bits)),
   StableHlo.reshape main_v12 main_v13 (rfl : (.i32 : EltTy) = .i32) shapeCasts_S65536x2x1_S65536x2,
   StableHlo.nullary main_c_1 (constantI S_ 32 16#32),
   StableHlo.unary main_c_1 main_v14 (broadcastInDim S65536x2 ![] bcast_S_S65536x2 : (⟨S_, .i32⟩ : BufTy).Contents (Elt Bits) → (⟨S65536x2, .i32⟩ : BufTy).Contents (Elt Bits)),
   StableHlo.binary main_v13 main_v14 main_v15 (Host.shli : (⟨S65536x2, .i32⟩ : BufTy).Contents (Elt Bits) → (⟨S65536x2, .i32⟩ : BufTy).Contents (Elt Bits) → (⟨S65536x2, .i32⟩ : BufTy).Contents (Elt Bits)),
   StableHlo.binary main_v11 main_v15 main_v16 (ori : (⟨S65536x2, .i32⟩ : BufTy).Contents (Elt Bits) → (⟨S65536x2, .i32⟩ : BufTy).Contents (Elt Bits) → (⟨S65536x2, .i32⟩ : BufTy).Contents (Elt Bits)),
   StableHlo.unary main_v4 main_v17 ((extractStridedSlice S65536x2x1 ![0, 0, 3] · slices_S65536x2x4_S65536x2x1_0_0_3) : (⟨S65536x2x4, .i32⟩ : BufTy).Contents (Elt Bits) → (⟨S65536x2x1, .i32⟩ : BufTy).Contents (Elt Bits)),
   StableHlo.reshape main_v17 main_v18 (rfl : (.i32 : EltTy) = .i32) shapeCasts_S65536x2x1_S65536x2,
   StableHlo.nullary main_c_2 (constantI S_ 32 24#32),
   StableHlo.unary main_c_2 main_v19 (broadcastInDim S65536x2 ![] bcast_S_S65536x2 : (⟨S_, .i32⟩ : BufTy).Contents (Elt Bits) → (⟨S65536x2, .i32⟩ : BufTy).Contents (Elt Bits)),
   StableHlo.binary main_v18 main_v19 main_v20 (Host.shli : (⟨S65536x2, .i32⟩ : BufTy).Contents (Elt Bits) → (⟨S65536x2, .i32⟩ : BufTy).Contents (Elt Bits) → (⟨S65536x2, .i32⟩ : BufTy).Contents (Elt Bits)),
   StableHlo.binary main_v16 main_v20 main_v21 (ori : (⟨S65536x2, .i32⟩ : BufTy).Contents (Elt Bits) → (⟨S65536x2, .i32⟩ : BufTy).Contents (Elt Bits) → (⟨S65536x2, .i32⟩ : BufTy).Contents (Elt Bits)),
   StableHlo.unary main_v21 main_v22 ((transpose S2x65536 [1, 0] · transposes_S65536x2_S2x65536_1_0) : (⟨S65536x2, .i32⟩ : BufTy).Contents (Elt Bits) → (⟨S2x65536, .i32⟩ : BufTy).Contents (Elt Bits))]

/-- The reference is these operations, scopes nothing and has no semaphore. -/
theorem main_seq (d : Dev nD) : StableHlo.IsSeq (main (F := Bits) d) ops := by
  unfold ops
  hlo_seq
theorem no_scoped : (Finset.univ.filter fun b : Ref sig .tc => b.isScoped) = ∅ := by decide
theorem no_sems : (Finset.univ.filter fun sm : SemLoc sig => sm.isScoped .tc) = ∅ := by decide
theorem no_sem : sig.nSem + sig.nDmaSem = 0 := rfl
theorem ops_bufs : ops.Forall fun op => op.bufs ⊆ StableHlo.tcRefs τ sig := by
  unfold ops
  simp
theorem ops_fresh : ∀ op ∈ ops, op.fresh = ∅ := by
  intro _ h
  unfold ops at h
  (repeat (cases h with | head => rfl | tail _ h => ?_)); exact nomatch h

/-- The operations keep the argument. -/
theorem kept (V : Valuation τ sig (Elt Bits)) : StableHlo.after ops V (Proc.devRef .tc main_arg0) = V (Proc.devRef .tc main_arg0) := by
  unfold ops
  after_results

/-- The codebook's bytes widened with zeros, by words. -/
def bytes (b : IVec S65536x8 8) : IVec S65536x2x4 32 :=
  shapeCast S65536x2x4 (andi (extsi 32 b natLt_8_32) (broadcastInDim S65536x8 ![] bcast_S_S65536x8 (constantI S_ 32 255#32))) shapeCasts_S65536x8_S65536x2x4

/-- What the operations compute of the codebook's bytes. -/
def ref (b : IVec S65536x8 8) : IVec S2x65536 32 :=
  transpose S2x65536 [1, 0] (ori (ori (ori
    (shapeCast S65536x2 (extractStridedSlice S65536x2x1 ![0, 0, 0] (bytes b) slices_S65536x2x4_S65536x2x1_0_0_0) shapeCasts_S65536x2x1_S65536x2)
    (Host.shli (shapeCast S65536x2 (extractStridedSlice S65536x2x1 ![0, 0, 1] (bytes b) slices_S65536x2x4_S65536x2x1_0_0_1) shapeCasts_S65536x2x1_S65536x2)
      (broadcastInDim S65536x2 ![] bcast_S_S65536x2 (constantI S_ 32 8#32))))
    (Host.shli (shapeCast S65536x2 (extractStridedSlice S65536x2x1 ![0, 0, 2] (bytes b) slices_S65536x2x4_S65536x2x1_0_0_2) shapeCasts_S65536x2x1_S65536x2)
      (broadcastInDim S65536x2 ![] bcast_S_S65536x2 (constantI S_ 32 16#32))))
    (Host.shli (shapeCast S65536x2 (extractStridedSlice S65536x2x1 ![0, 0, 3] (bytes b) slices_S65536x2x4_S65536x2x1_0_0_3) shapeCasts_S65536x2x1_S65536x2)
      (broadcastInDim S65536x2 ![] bcast_S_S65536x2 (constantI S_ 32 24#32)))) transposes_S65536x2_S2x65536_1_0

/-- A byte of a word is the codebook's byte widened with zeros. -/
theorem bytes_apply (b : IVec S65536x8 8) (c : Fin 65536) (p : Fin 2) (k : Fin 4) :
    bytes b (ix3 c p k) = (b (ix2 c ⟨4 * p.val + k.val, by omega⟩)).setWidth 32 := by
  unfold bytes
  pointwise
  refine (andi_signExtend_255 _).trans ?_
  congr 3
  exact Fin.ext (by dsimp only; omega)

/-- The operations' result, over any bytes by words. -/
theorem joined_apply (f : IVec S65536x2x4 32) (p : Fin 2) (c : Fin 65536) :
    transpose S2x65536 [1, 0] (ori (ori (ori
    (shapeCast S65536x2 (extractStridedSlice S65536x2x1 ![0, 0, 0] f slices_S65536x2x4_S65536x2x1_0_0_0) shapeCasts_S65536x2x1_S65536x2)
    (Host.shli (shapeCast S65536x2 (extractStridedSlice S65536x2x1 ![0, 0, 1] f slices_S65536x2x4_S65536x2x1_0_0_1) shapeCasts_S65536x2x1_S65536x2)
      (broadcastInDim S65536x2 ![] bcast_S_S65536x2 (constantI S_ 32 8#32))))
    (Host.shli (shapeCast S65536x2 (extractStridedSlice S65536x2x1 ![0, 0, 2] f slices_S65536x2x4_S65536x2x1_0_0_2) shapeCasts_S65536x2x1_S65536x2)
      (broadcastInDim S65536x2 ![] bcast_S_S65536x2 (constantI S_ 32 16#32))))
    (Host.shli (shapeCast S65536x2 (extractStridedSlice S65536x2x1 ![0, 0, 3] f slices_S65536x2x4_S65536x2x1_0_0_3) shapeCasts_S65536x2x1_S65536x2)
      (broadcastInDim S65536x2 ![] bcast_S_S65536x2 (constantI S_ 32 24#32)))) transposes_S65536x2_S2x65536_1_0 (ix2 p c)
    = f (ix3 c p 0) ||| (f (ix3 c p 1) <<< 8) ||| (f (ix3 c p 2) <<< 16) ||| (f (ix3 c p 3) <<< 24) := by
  pointwise
  rfl

/-- The reference's result is `words` of the codebook's bytes. -/
theorem ref_eq (b : IVec S65536x8 8) : ref b = words b := by
  funext y
  obtain ⟨p, c, rfl⟩ : ∃ (p : Fin 2) (c : Fin 65536), y = ix2 p c := ⟨y 0, y 1, eq_ix2 y⟩
  refine (joined_apply (bytes b) p c).trans ?_
  simp only [bytes_apply]
  rfl

/-- What the operations leave in the result. -/
theorem result (V : Valuation τ sig (Elt Bits)) : StableHlo.after ops V (Proc.devRef .tc main_v22)
    = ref (bitcastToInt (F := Bits) (s := S65536x8) (φ := .fp8e4m3) (V (Proc.devRef .tc main_arg0))) := by
  unfold ops
  after_results
  rfl

/-- The reference's run. -/
theorem run : θ_run (defs (F := Bits)) (onTc (τ := τ) (main (F := Bits))) ⟨m, fun _ => 0, ρ⟩ fun r =>
    ∀ (d : Dev nD) (b : Ref sig .tc), r.2.mem ((d.tc : Thread nD τ).loc b)
      = StableHlo.after ops (StableHlo.launchContents m d) (Proc.devRef .tc b) :=
  StableHlo.run_hlo _ _ main_seq no_scoped no_sems ops_bufs ops_fresh m ρ

/-- The reference ends with its argument kept. -/
theorem frame_reference : Cert.quiescent_CodebookReference := fun m g _ =>
  θ_run_mono (run m g) fun r hr => ⟨fun c => (hr c main_arg0).trans (kept _), sem_eq_zero_of_no_sems no_sem r.2⟩

/-- From memories agreeing on the codebook, the call and the reference leave the same words. -/
theorem bitexact : Cert.bitexact_Codebook_CodebookReference := by
  intro m g m' g' _ hargs
  refine ⟨fun c => words (m ((c.tc : Thread Cert.Codebook.nD Cert.Codebook.τ).loc Cert.Codebook.main_arg0)), run_call m g, ?_⟩
  refine θ_run_mono (run m' g') fun r hr c =>
    ⟨((hr c main_v22).trans ((result _).trans (ref_eq _))).trans ?_, (hr c main_arg0).trans (kept _)⟩
  exact congrArg words (hargs c)

end Reference

end Cert.Proof.CodebookEqual

end
-- ==== Proof.DecodeBlock.lean ====
/-
  One block of the decode call's inner loop, apart from where its three memrefs lie: sixteen words of codes are
  gathered sixteen times (each time one word per lane, along a diagonal, so that no two lanes read the same column),
  the two codes of each word are looked up in the table, and the two words found are scattered into the output
  block. The block is written here once as a program over arbitrary memrefs (`block`), and `wp_block` says what it
  leaves in the output block: at every position the table's word at the code the position stands for (`want`).
-/
module

public import Idealize.ShloMosaic.Lib.SparseCore.Ops
public import Idealize.ShloMosaic.Lib.SparseCore.Quiescent
public import Idealize.ShloMosaic.Lib.Tactic

@[expose] public section

noncomputable section

namespace Cert.Proof.DecodeBlock

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Idealize.ShloMosaic.SparseCore

/-- The lanes of a vector register. -/
abbrev L16 : Shape := ⟨1, ![16]⟩
/-- A block of codes, the table of words, a block of the output. -/
abbrev SC : Shape := ⟨3, ![2, 8, 16]⟩
abbrev ST : Shape := ⟨2, ![512, 128]⟩
abbrev SO : Shape := ⟨3, ![8, 4, 16]⟩

/-! ## The index vectors, as the program computes them -/

/-- Lane `l` at `l`. -/
def lanes : IVec L16 32 := fun x => BitVec.ofNat 32 (x 0).val
/-- Diagonal `d`: lane `l` at column `(l + d) mod 16`. -/
def dg (d : Nat) : IVec L16 32 := fun x => BitVec.ofNat 32 (((x 0).val + d) % 16)
/-- Where the word of diagonal `d` is gathered. -/
def cIdx (d : Nat) : Fin 3 → IVec L16 32 :=
  ![shrsi lanes (broadcast L16 3#32), andi lanes (broadcast L16 7#32), dg d]
/-- Where the low code of each word is looked up, and the high one. -/
def loIdx (w : IVec L16 32) : Fin 2 → IVec L16 32 :=
  ![shrsi (andi w (broadcast L16 65535#32)) (broadcast L16 7#32), andi w (broadcast L16 127#32)]
def hiIdx (w : IVec L16 32) : Fin 2 → IVec L16 32 :=
  ![shrui w (broadcast L16 23#32), andi (shrui w (broadcast L16 16#32)) (broadcast L16 127#32)]
/-- Where diagonal `d`'s low words are scattered, and its high ones. -/
def oIdx (d : Nat) : Bool → Fin 3 → IVec L16 32
  | false => ![shrsi (dg d) (broadcast L16 1#32), muli (andi (dg d) (broadcast L16 1#32)) (broadcast L16 2#32), lanes]
  | true => ![shrsi (dg d) (broadcast L16 1#32),
      addi (muli (andi (dg d) (broadcast L16 1#32)) (broadcast L16 2#32)) (broadcast L16 1#32), lanes]

/-- Every index in range. -/
abbrev InR {s t : Shape} (idxs : Fin s.rank → IVec t 32) : Prop := ∀ a x, (idxs a x).toNat < s.size a

section Facts

theorem lane_of (x : L16.Idx) : x = Shape.ofLane (d := ![16]) (x 0) := by
  funext a; obtain rfl := Fin.eq_zero a; rfl

theorem lanes_spec (k : Fin 16) : (lanes (Shape.ofLane (d := ![16]) k)).toNat = k.val := by
  revert k; decide +kernel

theorem c0_spec (k : Fin 16) : (shrsi lanes (broadcast L16 3#32) (Shape.ofLane (d := ![16]) k)).toNat = k.val / 8 := by
  revert k; decide +kernel
theorem c1_spec (k : Fin 16) : (andi lanes (broadcast L16 7#32) (Shape.ofLane (d := ![16]) k)).toNat = k.val % 8 := by
  revert k; decide +kernel
theorem dg_spec (d : Fin 16) (k : Fin 16) : (dg d.val (Shape.ofLane (d := ![16]) k)).toNat = (k.val + d.val) % 16 := by
  revert d k; decide +kernel
theorem o0_spec (d : Fin 16) (k : Fin 16) :
    (shrsi (dg d.val) (broadcast L16 1#32) (Shape.ofLane (d := ![16]) k)).toNat = (k.val + d.val) % 16 / 2 := by
  revert d k; decide +kernel
theorem o1_spec (d : Fin 16) (k : Fin 16) :
    (muli (andi (dg d.val) (broadcast L16 1#32)) (broadcast L16 2#32) (Shape.ofLane (d := ![16]) k)).toNat = (k.val + d.val) % 2 * 2 := by
  revert d k; decide +kernel
theorem o1_spec' (d : Fin 16) (k : Fin 16) :
    (addi (muli (andi (dg d.val) (broadcast L16 1#32)) (broadcast L16 2#32)) (broadcast L16 1#32) (Shape.ofLane (d := ![16]) k)).toNat
      = (k.val + d.val) % 2 * 2 + 1 := by
  revert d k; decide +kernel

theorem cIdx_inR (d : Fin 16) : InR (s := SC) (cIdx d.val) := by
  intro a x; rw [lane_of x]; generalize x 0 = k
  match a with
  | 0 => exact (c0_spec k).trans_lt (by have : k.val < 16 := k.isLt; show _ < 2; omega)
  | 1 => exact (c1_spec k).trans_lt (by show _ < 8; omega)
  | 2 => exact (dg_spec d k).trans_lt (by show _ < 16; omega)

theorem oIdx_inR (d : Fin 16) (b : Bool) : InR (s := SO) (oIdx d.val b) := by
  intro a x; rw [lane_of x]; generalize x 0 = k
  match b, a with
  | false, 0 => exact (o0_spec d k).trans_lt (by show _ < 8; omega)
  | false, 1 => exact (o1_spec d k).trans_lt (by show _ < 4; omega)
  | false, 2 => exact (lanes_spec k).trans_lt k.isLt
  | true, 0 => exact (o0_spec d k).trans_lt (by show _ < 8; omega)
  | true, 1 => exact (o1_spec' d k).trans_lt (by show _ < 4; omega)
  | true, 2 => exact (lanes_spec k).trans_lt k.isLt

/-- The code of a word: its low sixteen bits, or its high sixteen. -/
def code (b : Bool) (w : BitVec 32) : Nat := if b then w.toNat / 65536 else w.toNat % 65536
theorem code_lt (b : Bool) (w : BitVec 32) : code b w < 65536 := by
  unfold code; have := w.isLt; split <;> omega

theorem lo0_spec (w : BitVec 32) : (IntOp.shrsi .vector (IntOp.andi w 65535#32) 7#32).toNat = w.toNat % 65536 / 128 := by
  show (if (7#32).toNat < 32 then (w &&& 65535#32).sshiftRight' 7#32 else _).toNat = _
  rw [if_pos (by decide)]
  have h : (w &&& 65535#32).toNat = w.toNat % 65536 := by
    rw [BitVec.toNat_and]; exact Nat.and_two_pow_sub_one_eq_mod w.toNat 16
  have hm : (w &&& 65535#32).msb = false := by
    rw [BitVec.msb_eq_false_iff_two_mul_lt, h]; omega
  rw [BitVec.sshiftRight_eq', BitVec.sshiftRight_eq_of_msb_false hm, BitVec.toNat_ushiftRight, h]
  show _ >>> 7 = _
  rw [Nat.shiftRight_eq_div_pow]
theorem lo1_spec (w : BitVec 32) : (IntOp.andi w 127#32).toNat = w.toNat % 65536 % 128 := by
  show (w &&& 127#32).toNat = _
  rw [BitVec.toNat_and]; refine (Nat.and_two_pow_sub_one_eq_mod w.toNat 7).trans ?_
  omega
theorem hi0_spec (w : BitVec 32) : (IntOp.shrui .vector w 23#32).toNat = w.toNat / 65536 / 128 := by
  show (if (23#32).toNat < 32 then w >>> 23#32 else _).toNat = _
  rw [if_pos (by decide)]
  show (w >>> (23#32).toNat).toNat = _
  rw [BitVec.toNat_ushiftRight]
  show _ >>> 23 = _
  rw [Nat.shiftRight_eq_div_pow, Nat.div_div_eq_div_mul]
theorem hi1_spec (w : BitVec 32) : (IntOp.andi (IntOp.shrui .vector w 16#32) 127#32).toNat = w.toNat / 65536 % 128 := by
  show ((if (16#32).toNat < 32 then w >>> 16#32 else _) &&& 127#32).toNat = _
  rw [if_pos (by decide)]
  show (w >>> (16#32).toNat &&& 127#32).toNat = _
  rw [BitVec.toNat_and]; refine (Nat.and_two_pow_sub_one_eq_mod _ 7).trans ?_
  rw [BitVec.toNat_ushiftRight]
  show _ >>> 16 % _ = _
  rw [Nat.shiftRight_eq_div_pow]

/-- The place of code `n` in the table. -/
def tix (n : Nat) (h : n < 65536) : ST.Idx :=
  fun | 0 => ⟨n / 128, by show _ < 512; omega⟩ | 1 => ⟨n % 128, by show _ < 128; omega⟩ | ⟨_ + 2, h⟩ => absurd h (Nat.not_lt.2 (Nat.le_add_left _ _))

/-- Where the low or the high code of each word is looked up. -/
def tIdx : Bool → IVec L16 32 → Fin 2 → IVec L16 32
  | false, w => loIdx w
  | true, w => hiIdx w

theorem tIdx_spec (b : Bool) (w : IVec L16 32) (x : L16.Idx) :
    (tIdx b w 0 x).toNat = code b (w x) / 128 ∧ (tIdx b w 1 x).toNat = code b (w x) % 128 := by
  cases b
  · exact ⟨lo0_spec (w x), lo1_spec (w x)⟩
  · exact ⟨hi0_spec (w x), hi1_spec (w x)⟩
theorem tIdx_inR (b : Bool) (w : IVec L16 32) : InR (s := ST) (tIdx b w) := by
  intro a x
  have hc := code_lt b (w x)
  match a with
  | 0 => exact (tIdx_spec b w x).1.trans_lt (by show _ < 512; omega)
  | 1 => exact (tIdx_spec b w x).2.trans_lt (by show _ < 128; omega)
theorem idxAt_tIdx (b : Bool) (w : IVec L16 32) (h : InR (s := ST) (tIdx b w)) (x : L16.Idx) :
    idxAt (s := ST) (tIdx b w) h x = tix (code b (w x)) (code_lt b (w x)) := by
  funext a
  match a with
  | 0 => exact Fin.ext (tIdx_spec b w x).1
  | 1 => exact Fin.ext (tIdx_spec b w x).2

end Facts

/-! ## What a block of the output must hold -/

variable {F : FTy → Type} [FloatOps F]

/-- The column of the codes that output position `x` is decoded from: rows of four are two columns of two words. -/
theorem col_lt (x : SO.Idx) : 2 * (x 0).val + (x 1).val / 2 < 16 := by
  have h0 : (x 0).val < 8 := (x 0).isLt
  have h1 : (x 1).val < 4 := (x 1).isLt
  omega
/-- The place in the block of codes of the word output position `x` is decoded from. -/
def cix (x : SO.Idx) : SC.Idx :=
  fun | 0 => ⟨(x 2).val / 8, by have h2 : (x 2).val < 16 := (x 2).isLt; show _ < 2; omega⟩
      | 1 => ⟨(x 2).val % 8, by show _ < 8; omega⟩
      | 2 => ⟨2 * (x 0).val + (x 1).val / 2, col_lt x⟩
      | ⟨_ + 3, h⟩ => absurd h (Nat.not_lt.2 (Nat.le_add_left _ _))
/-- Whether output position `x` is decoded from a word's high code. -/
def hix (x : SO.Idx) : Bool := (x 1).val % 2 == 1
/-- The decoded block: at each position the table's word at the position's code. -/
def want (C : Vec F SC .i32) (T : Vec F ST .i32) : Vec F SO .i32 :=
  fun x => T (tix (code (hix x) (C (cix x))) (code_lt _ _))

/-- The diagonal that reaches output position `x`. -/
def dgx (x : SO.Idx) : Fin 16 := ⟨(2 * (x 0).val + (x 1).val / 2 + 16 - (x 2).val) % 16, by omega⟩

/-- The words gathered along diagonal `d`, and the table's words at their low or high codes. -/
def word (C : Vec F SC .i32) (d : Fin 16) : Vec F L16 .i32 := loadIdx C (cIdx d.val) (cIdx_inR d)
def look (T : Vec F ST .i32) (b : Bool) (w : Vec F L16 .i32) : Vec F L16 .i32 := loadIdx T (tIdx b w) (tIdx_inR b w)

theorem idxAt_o (d : Fin 16) (b : Bool) (k : Fin 16) (h : InR (s := SO) (oIdx d.val b)) :
    ((idxAt (s := SO) (oIdx d.val b) h (Shape.ofLane (d := ![16]) k)) 0).val = (k.val + d.val) % 16 / 2
    ∧ ((idxAt (s := SO) (oIdx d.val b) h (Shape.ofLane (d := ![16]) k)) 1).val = (k.val + d.val) % 2 * 2 + (if b then 1 else 0)
    ∧ ((idxAt (s := SO) (oIdx d.val b) h (Shape.ofLane (d := ![16]) k)) 2).val = k.val := by
  cases b
  · exact ⟨o0_spec d k, o1_spec d k, lanes_spec k⟩
  · exact ⟨o0_spec d k, o1_spec' d k, lanes_spec k⟩

/-- The lane's word, looked up, is what the position it is scattered to must hold. -/
theorem good (C : Vec F SC .i32) (T : Vec F ST .i32) (d : Fin 16) (b : Bool) (h : InR (s := SO) (oIdx d.val b)) (k : Fin 16) :
    look T b (word C d) (Shape.ofLane (d := ![16]) k) = want C T (idxAt (s := SO) (oIdx d.val b) h (Shape.ofLane (d := ![16]) k)) := by
  obtain ⟨h0, h1, h2⟩ := idxAt_o d b k h
  generalize idxAt (s := SO) (oIdx d.val b) h (Shape.ofLane (d := ![16]) k) = x at h0 h1 h2
  have hk := k.isLt
  have hb : hix x = b := by
    unfold hix; rw [h1]; cases b <;> simp <;> omega
  have hc : idxAt (s := SC) (cIdx d.val) (cIdx_inR d) (Shape.ofLane (d := ![16]) k) = cix x := by
    funext a
    match a with
    | 0 => exact Fin.ext ((c0_spec k).trans (by show _ = (x 2).val / 8; rw [h2]))
    | 1 => exact Fin.ext ((c1_spec k).trans (by show _ = (x 2).val % 8; rw [h2]))
    | 2 => exact Fin.ext ((dg_spec d k).trans (by show _ = 2 * (x 0).val + (x 1).val / 2; rw [h0, h1]; cases b <;> simp <;> omega))
  unfold look want loadIdx
  rw [idxAt_tIdx]
  have hw : word C d (Shape.ofLane (d := ![16]) k) = C (cix x) := by unfold word loadIdx; rw [hc]
  subst hb
  congr 1
  congr 1
  rw [hw]

/-- Writing right values one after another leaves right every position already right or written. -/
theorem foldl_right {s : Shape} {β K : Type} (W : s.Idx → β) (i : K → s.Idx) (y : K → β) (hg : ∀ k, y k = W (i k)) (j : s.Idx) :
    ∀ (l : List K) (g : s.Idx → β), (g j = W j ∨ ∃ k ∈ l, j = i k) →
      (l.foldl (fun g k => fun j => if (∀ a, (j a).val = (i k a).val) then y k else g j) g) j = W j := by
  intro l
  induction l with
  | nil =>
    intro g hg'
    rcases hg' with h | ⟨k, hk, -⟩
    · exact h
    · exact absurd hk List.not_mem_nil
  | cons k l ih =>
    intro g hg'
    rw [List.foldl_cons]
    refine ih _ ?_
    by_cases hk : j = i k
    · left
      beta_reduce
      rw [if_pos (fun a => congrArg (fun i : s.Idx => (i a).val) hk), hg k, hk]
    · have hne : ¬ ∀ a, (j a).val = (i k a).val := fun hh => hk (funext fun a => Fin.ext (hh a))
      rcases hg' with hg' | ⟨k', hk', he⟩
      · left
        beta_reduce
        rw [if_neg hne]; exact hg'
      · rcases List.mem_cons.1 hk' with rfl | hk'
        · exact absurd he hk
        · exact .inr ⟨k', hk', he⟩

theorem storeIdx_eq {s : Shape} {e : EltTy} (f : Vec F s e) (idxs : Fin s.rank → IVec L16 32) (u : Vec F L16 e) (h : InR (s := s) idxs) :
    storeIdx (d := ![16]) f idxs u (fun _ => 1#1) false h
      = (List.finRange 16).foldl (fun g (k : Fin 16) => fun j => if (∀ a, (j a).val = (idxAt idxs h (Shape.ofLane (d := ![16]) k) a).val)
          then u (Shape.ofLane (d := ![16]) k) else g j) f := by
  unfold storeIdx
  refine congrArg (fun st => List.foldl st f (List.finRange 16)) ?_
  funext g k
  dsimp only
  rw [if_pos (show (1#1 : BitVec 1) = 1 by decide)]
  simp only [Bool.false_eq_true, if_false]

/-- The scatter leaves right every position already right or reached. -/
theorem storeIdx_spec {s : Shape} {e : EltTy} (f W : Vec F s e) (idxs : Fin s.rank → IVec L16 32) (u : Vec F L16 e)
    (h : InR (s := s) idxs) (hg : ∀ k : Fin 16, u (Shape.ofLane (d := ![16]) k) = W (idxAt idxs h (Shape.ofLane (d := ![16]) k)))
    (j : s.Idx) (hj : f j = W j ∨ ∃ k : Fin 16, j = idxAt idxs h (Shape.ofLane (d := ![16]) k)) :
    storeIdx (d := ![16]) f idxs u (fun _ => 1#1) false h j = W j := by
  rw [storeIdx_eq]
  refine foldl_right W (fun k : Fin 16 => idxAt idxs h (Shape.ofLane (d := ![16]) k)) (fun k => u (Shape.ofLane (d := ![16]) k)) hg j _ f ?_
  rcases hj with hj | ⟨k, hk⟩
  · exact .inl hj
  · exact .inr ⟨k, List.mem_finRange k, hk⟩

/-- Position `x` is reached by diagonal `dgx x`'s scatter of its half. -/
theorem reached (x : SO.Idx) (h : InR (s := SO) (oIdx (dgx x).val (hix x))) :
    ∃ k : Fin 16, x = idxAt (s := SO) (oIdx (dgx x).val (hix x)) h (Shape.ofLane (d := ![16]) k) := by
  have h0' : (x 0).val < 8 := (x 0).isLt
  have h1' : (x 1).val < 4 := (x 1).isLt
  have h2' : (x 2).val < 16 := (x 2).isLt
  refine ⟨⟨(x 2).val, h2'⟩, ?_⟩
  obtain ⟨h0, h1, h2⟩ := idxAt_o (dgx x) (hix x) ⟨(x 2).val, h2'⟩ h
  have hd : (dgx x).val = (2 * (x 0).val + (x 1).val / 2 + 16 - (x 2).val) % 16 := rfl
  funext a
  match a with
  | 0 => exact Fin.ext (by rw [h0, hd]; simp only; omega)
  | 1 => exact Fin.ext (by
      rw [h1, hd]; simp only [hix, beq_iff_eq]
      split <;> omega)
  | 2 => exact Fin.ext (by rw [h2])

/-- The positions of the diagonals and halves listed are right. -/
def Right (C : Vec F SC .i32) (T : Vec F ST .i32) (done : List (Fin 16 × Bool)) (V : Vec F SO .i32) : Prop :=
  ∀ x, (dgx x, hix x) ∈ done → V x = want C T x

theorem Right.step {C : Vec F SC .i32} {T : Vec F ST .i32} {done : List (Fin 16 × Bool)} {V : Vec F SO .i32} (hV : Right C T done V)
    (d : Fin 16) (b : Bool) (h : InR (s := SO) (oIdx d.val b)) :
    Right C T ((d, b) :: done) (storeIdx (d := ![16]) V (oIdx d.val b) (look T b (word C d)) (fun _ => 1#1) false h) := by
  intro x hx
  refine storeIdx_spec V (want C T) _ _ h (good C T d b h) x ?_
  rcases List.mem_cons.1 hx with hx | hx
  · right
    obtain ⟨rfl, rfl⟩ := Prod.mk.inj hx
    exact reached x h
  · exact .inl (hV x hx)

/-! ## The block as a program -/

section Program

variable {nD : Nat} {τ : Topo} {sig : RefSig} {Λ : Labels} {c : Thread nD τ}

/-- The check of the indices, as the program states it. -/
abbrev chk {s : Shape} (idxs : Fin s.rank → IVec L16 32) : Decidable (∀ a x, (idxs a x).toNat < s.size a) :=
  decidable_of_iff' (∀ a x, (idxs a x).toNat < s.size a) Iff.rfl

/-- A checked gather ahead of a continuation. -/
def gatherK {s : Shape} {α : Type} (base : Memref sig c.2.kind .vmem s .i32) (idxs : Fin s.rank → IVec L16 32) (hl : base.view.Loads)
    (k : Vec F L16 .i32 → Prog (TpuEff nD τ sig (Elt F) Λ c.2) α) : Prog (TpuEff nD τ sig (Elt F) Λ c.2) α :=
  .op (.assume (∀ a x, (idxs a x).toNat < s.size a) (chk idxs)) fun h =>
    .op (.load base (.whole s) (View.loadsAt_whole hl)) fun f => k (loadIdx f idxs h.down)

/-- A checked scatter ahead of a continuation. -/
def scatterK {s : Shape} {α : Type} (base : Memref sig c.2.kind .vmem s .i32) (idxs : Fin s.rank → IVec L16 32) (v : Vec F L16 .i32)
    (hs : (base.access (.whole s)).Stores Finset.univ)
    (k : Prog (TpuEff nD τ sig (Elt F) Λ c.2) α) : Prog (TpuEff nD τ sig (Elt F) Λ c.2) α :=
  .op (.assume (∀ a x, (idxs a x).toNat < s.size a) (chk idxs)) fun h =>
    .op (.load base (.whole s) (View.loadsAt_rect hs.loads)) fun f =>
    .op (.store base (.whole s) (storeIdx (d := ![16]) f idxs v (fun _ => 1#1) false h.down) Finset.univ hs (.inl rfl)) fun _ => k

variable {α : Type}
  (cv : Memref sig c.2.kind .vmem SC .i32) (hcv : cv.view.Loads)
  (tv : Memref sig c.2.kind .vmem ST .i32) (htv : tv.view.Loads)
  (ov : Memref sig c.2.kind .vmem SO .i32) (hov : (ov.access (.whole SO)).Stores Finset.univ)

/-- The gathers of the words along the diagonals listed. -/
def words : List Nat → (List (Vec F L16 .i32) → Prog (TpuEff nD τ sig (Elt F) Λ c.2) α) → Prog (TpuEff nD τ sig (Elt F) Λ c.2) α
  | [], k => k []
  | d :: ds, k => gatherK (c := c) cv (cIdx d) hcv fun w => words ds fun ws => k (w :: ws)
/-- The look-ups of the words listed, of their low codes or their high ones. -/
def looks (b : Bool) : List (Vec F L16 .i32) → (List (Vec F L16 .i32) → Prog (TpuEff nD τ sig (Elt F) Λ c.2) α) → Prog (TpuEff nD τ sig (Elt F) Λ c.2) α
  | [], k => k []
  | w :: ws, k => gatherK (c := c) tv (tIdx b w) htv fun v => looks b ws fun vs => k (v :: vs)
/-- The scatters of the words found, diagonal after diagonal, the low codes' and the high ones'. -/
def stores : List Nat → List (Vec F L16 .i32) → List (Vec F L16 .i32) → Prog (TpuEff nD τ sig (Elt F) Λ c.2) α → Prog (TpuEff nD τ sig (Elt F) Λ c.2) α
  | d :: ds, l :: ls, h :: hs, k =>
      scatterK (c := c) ov (oIdx d false) l hov (scatterK (c := c) ov (oIdx d true) h hov (stores ds ls hs k))
  | _, _, _, k => k

def batch (ds : List Nat) (k : Prog (TpuEff nD τ sig (Elt F) Λ c.2) α) : Prog (TpuEff nD τ sig (Elt F) Λ c.2) α :=
  words (c := c) cv hcv ds fun ws => looks (c := c) tv htv false ws fun ls => looks (c := c) tv htv true ws fun hs =>
    stores (c := c) ov hov ds ls hs k

/-- The block: two batches of eight diagonals. -/
def block (k : Prog (TpuEff nD τ sig (Elt F) Λ c.2) α) : Prog (TpuEff nD τ sig (Elt F) Λ c.2) α :=
  batch (c := c) cv hcv tv htv ov hov [0, 1, 2, 3, 4, 5, 6, 7] (batch (c := c) cv hcv tv htv ov hov [8, 9, 10, 11, 12, 13, 14, 15] k)

variable {Ix : Type} [DecidableEq Ix] {Name : Type} [DecidableEq Name]
variable {U : Type} [URA U] {Lvl : Type} [Preorder Lvl]
variable {defs : Defs nD τ sig (Elt F) Λ} (𝒱 : Variants) (bd : Option 𝒱.V) (E : Set Name)
variable {Q : α → sProp (MT nD τ sig Ix (Elt F) Name U Lvl)}

local notation "𝕄" => MT nD τ sig Ix (Elt F) Name U Lvl

theorem wp_gatherK {s : Shape} {base : Memref sig c.2.kind .vmem s .i32} {idxs : Fin s.rank → IVec L16 32} {hl : base.view.Loads}
    {k : Vec F L16 .i32 → Prog (TpuEff nD τ sig (Elt F) Λ c.2) α} (h : ∀ a x, (idxs a x).toNat < s.size a)
    {S : Finset (Idx ((base.access (.whole s)).loc c))} {q : PosShare TreeShare} {f : Buf (Elt F) ((base.access (.whole s)).loc c)}
    (hS : (base.access (.whole s)).set ⊆ S) :
    ((base.access (.whole s)).loc c ↦[S]{q} f)
      ⊢ iprop((((base.access (.whole s)).loc c ↦[S]{q} f)
          -∗ wp frame (wpE defs 𝒱 c bd) E (k (loadIdx ((base.access (.whole s)).read (Elt F) f) idxs h)) Q)
        -∗ wp (M := 𝕄) frame (wpE defs 𝒱 c bd) E (gatherK (c := c) base idxs hl k) Q) := by
  unfold gatherK
  rw [wp_assume_of _ _ _ _ h]
  exact wp_load_rect 𝒱 c bd E (r := Rect.whole s) (k := fun f => k (loadIdx f idxs h)) hS

/-- What the block holds of its three memrefs: the codes and the table at shares of them, reading `C` and `T`; the output block, reading `V`. -/
def Cv (q : PosShare TreeShare) (C : Vec F SC .i32) : sProp 𝕄 :=
  iprop(∃ f : Buf (Elt F) ((cv.access (.whole SC)).loc c), ⌜(cv.access (.whole SC)).read (Elt F) f = C⌝
    ∗ ((cv.access (.whole SC)).loc c ↦[(cv.access (.whole SC)).set]{q} f))
def Tv (q : PosShare TreeShare) (T : Vec F ST .i32) : sProp 𝕄 :=
  iprop(∃ f : Buf (Elt F) ((tv.access (.whole ST)).loc c), ⌜(tv.access (.whole ST)).read (Elt F) f = T⌝
    ∗ ((tv.access (.whole ST)).loc c ↦[(tv.access (.whole ST)).set]{q} f))
def Ov (V : Vec F SO .i32) : sProp 𝕄 :=
  iprop(∃ f : Buf (Elt F) ((ov.access (.whole SO)).loc c), ⌜(ov.access (.whole SO)).read (Elt F) f = V⌝
    ∗ ((ov.access (.whole SO)).loc c ↦[(ov.access (.whole SO)).set]{fullShare} f))

theorem Cv_eq (q : PosShare TreeShare) (C : Vec F SC .i32) : (Cv (c := c) cv q C : sProp 𝕄)
    = iprop(∃ f : Buf (Elt F) ((cv.access (.whole SC)).loc c), ⌜(cv.access (.whole SC)).read (Elt F) f = C⌝
      ∗ ((cv.access (.whole SC)).loc c ↦[(cv.access (.whole SC)).set]{q} f)) := rfl
theorem Tv_eq (q : PosShare TreeShare) (T : Vec F ST .i32) : (Tv (c := c) tv q T : sProp 𝕄)
    = iprop(∃ f : Buf (Elt F) ((tv.access (.whole ST)).loc c), ⌜(tv.access (.whole ST)).read (Elt F) f = T⌝
      ∗ ((tv.access (.whole ST)).loc c ↦[(tv.access (.whole ST)).set]{q} f)) := rfl

theorem wp_scatterK {idxs : Fin 3 → IVec L16 32} {v : Vec F L16 .i32} {k : Prog (TpuEff nD τ sig (Elt F) Λ c.2) α}
    (h : ∀ a x, (idxs a x).toNat < SO.size a) {V : Vec F SO .i32} :
    (Ov (c := c) ov V : sProp 𝕄)
      ⊢ iprop((Ov (c := c) ov (storeIdx (d := ![16]) V idxs v (fun _ => 1#1) false h) -∗ wp frame (wpE defs 𝒱 c bd) E k Q)
        -∗ wp (M := 𝕄) frame (wpE defs 𝒱 c bd) E (scatterK (c := c) ov idxs v hov k) Q) := by
  unfold scatterK Ov
  rw [wp_assume_of _ _ _ _ h]
  iintro ⟨%f, %hf, H⟩ Hk
  iapply (wp_load_rect (defs := defs) 𝒱 c bd E (Q := Q) (r := Rect.whole SO) (hl := View.loadsAt_rect hov.loads)
    (k := fun f' => .op (.store ov (.whole SO) (storeIdx (d := ![16]) f' idxs v (fun _ => 1#1) false h) Finset.univ hov (.inl rfl)) fun _ => k)
    (q := fullShare) (f := f) subset_rfl) $$ H
  iintro H
  iapply (wp_store (defs := defs) 𝒱 c bd E (Q := Q) (m := ov) (r := .whole SO) (Mk := Finset.univ)
    (hx := hov) (hm := .inl rfl) (k := fun _ => k) (f := f) (S := (ov.access (.whole SO)).set) fun _ hx => hx) $$ H
  iintro H
  iapply Hk
  iexists _
  isplitr
  swap; · iexact H
  ipureintro
  rw [View.read_write_univ, hf]

theorem wp_words {q : PosShare TreeShare} {C : Vec F SC .i32} (ds : List (Fin 16))
    {k : List (Vec F L16 .i32) → Prog (TpuEff nD τ sig (Elt F) Λ c.2) α} :
    (Cv (c := c) cv q C : sProp 𝕄)
      ⊢ iprop((Cv (c := c) cv q C -∗ wp frame (wpE defs 𝒱 c bd) E (k (ds.map (word C))) Q)
        -∗ wp (M := 𝕄) frame (wpE defs 𝒱 c bd) E (words (c := c) cv hcv (ds.map Fin.val) k) Q) := by
  induction ds generalizing k with
  | nil => iintro H Hk; iapply Hk; iexact H
  | cons d ds ih =>
    show _ ⊢ iprop(_ -∗ wp frame _ E (gatherK (c := c) cv (cIdx d.val) hcv fun w => words (c := c) cv hcv (ds.map Fin.val) fun ws => k (w :: ws)) Q)
    iintro H Hk
    ihave H := (Entails.of_eq (Cv_eq (c := c) cv q C)) $$ H
    icases H with ⟨%f, %hf, H⟩
    iapply (wp_gatherK (c := c) (defs := defs) 𝒱 bd E (cIdx_inR d) subset_rfl) $$ H
    iintro H
    iapply (ih (k := fun ws => k (loadIdx ((cv.access (.whole SC)).read (Elt F) f) (cIdx d.val) (cIdx_inR d) :: ws))) $$ [H]
    · iapply (Entails.of_eq (Cv_eq (c := c) cv q C).symm); iexists f; isplitr; · ipureintro; exact hf
      iexact H
    iintro H
    rw [hf]
    iapply Hk
    iexact H

theorem wp_looks (b : Bool) {q : PosShare TreeShare} {T : Vec F ST .i32} (ws : List (Vec F L16 .i32))
    {k : List (Vec F L16 .i32) → Prog (TpuEff nD τ sig (Elt F) Λ c.2) α} :
    (Tv (c := c) tv q T : sProp 𝕄)
      ⊢ iprop((Tv (c := c) tv q T -∗ wp frame (wpE defs 𝒱 c bd) E (k (ws.map (look T b))) Q)
        -∗ wp (M := 𝕄) frame (wpE defs 𝒱 c bd) E (looks (c := c) tv htv b ws k) Q) := by
  induction ws generalizing k with
  | nil => iintro H Hk; iapply Hk; iexact H
  | cons w ws ih =>
    show _ ⊢ iprop(_ -∗ wp frame _ E (gatherK (c := c) tv (tIdx b w) htv
      fun v => looks (c := c) tv htv b ws fun vs => k (v :: vs)) Q)
    iintro H Hk
    ihave H := (Entails.of_eq (Tv_eq (c := c) tv q T)) $$ H
    icases H with ⟨%f, %hf, H⟩
    iapply (wp_gatherK (c := c) (defs := defs) 𝒱 bd E (tIdx_inR b w) subset_rfl) $$ H
    iintro H
    iapply (ih (k := fun vs => k (loadIdx ((tv.access (.whole ST)).read (Elt F) f) (tIdx b w) (tIdx_inR b w) :: vs))) $$ [H]
    · iapply (Entails.of_eq (Tv_eq (c := c) tv q T).symm); iexists f; isplitr; · ipureintro; exact hf
      iexact H
    iintro H
    rw [hf]
    iapply Hk
    iexact H

/-- The diagonals and halves a batch makes right. -/
def both (ds : List (Fin 16)) (done : List (Fin 16 × Bool)) : List (Fin 16 × Bool) :=
  ds.foldl (fun done d => (d, true) :: (d, false) :: done) done

theorem wp_stores {C : Vec F SC .i32} {T : Vec F ST .i32} (ds : List (Fin 16))
    {k : Prog (TpuEff nD τ sig (Elt F) Λ c.2) α} (done : List (Fin 16 × Bool)) :
    (iprop(∃ V, ⌜Right C T done V⌝ ∗ Ov (c := c) ov V) : sProp 𝕄)
      ⊢ iprop((iprop(∃ V, ⌜Right C T (both ds done) V⌝ ∗ Ov (c := c) ov V) -∗ wp frame (wpE defs 𝒱 c bd) E k Q)
        -∗ wp (M := 𝕄) frame (wpE defs 𝒱 c bd) E
          (stores (c := c) ov hov (ds.map Fin.val) ((ds.map (word C)).map (look T false)) ((ds.map (word C)).map (look T true)) k) Q) := by
  induction ds generalizing done with
  | nil => iintro H Hk; iapply Hk; iexact H
  | cons d ds ih =>
    show _ ⊢ iprop(_ -∗ wp frame _ E (scatterK (c := c) ov (oIdx d.val false) (look T false (word C d)) hov
      (scatterK (c := c) ov (oIdx d.val true) (look T true (word C d)) hov
        (stores (c := c) ov hov (ds.map Fin.val) ((ds.map (word C)).map (look T false)) ((ds.map (word C)).map (look T true)) k))) Q)
    iintro ⟨%V, %hV, H⟩ Hk
    iapply (wp_scatterK (c := c) (defs := defs) ov hov 𝒱 bd E (oIdx_inR d false)) $$ H
    iintro H
    iapply (wp_scatterK (c := c) (defs := defs) ov hov 𝒱 bd E (oIdx_inR d true)) $$ H
    iintro H
    iapply (ih ((d, true) :: (d, false) :: done)) $$ [H]
    · iexists _; isplitr
      swap; · iexact H
      ipureintro
      exact (hV.step d false (oIdx_inR d false)).step d true (oIdx_inR d true)
    iexact Hk

theorem wp_batch {q q' : PosShare TreeShare} {C : Vec F SC .i32} {T : Vec F ST .i32} (ds : List (Fin 16))
    {k : Prog (TpuEff nD τ sig (Elt F) Λ c.2) α} (done : List (Fin 16 × Bool)) :
    (iprop(Cv (c := c) cv q C ∗ Tv (c := c) tv q' T ∗ ∃ V, ⌜Right C T done V⌝ ∗ Ov (c := c) ov V) : sProp 𝕄)
      ⊢ iprop((iprop(Cv (c := c) cv q C ∗ Tv (c := c) tv q' T ∗ ∃ V, ⌜Right C T (both ds done) V⌝ ∗ Ov (c := c) ov V) -∗ wp frame (wpE defs 𝒱 c bd) E k Q)
        -∗ wp (M := 𝕄) frame (wpE defs 𝒱 c bd) E (batch (c := c) cv hcv tv htv ov hov (ds.map Fin.val) k) Q) := by
  unfold batch
  iintro ⟨HC, HT, HO⟩ Hk
  iapply (wp_words (c := c) (defs := defs) cv hcv 𝒱 bd E ds) $$ HC
  iintro HC
  iapply (wp_looks (c := c) (defs := defs) tv htv 𝒱 bd E false _) $$ HT
  iintro HT
  iapply (wp_looks (c := c) (defs := defs) tv htv 𝒱 bd E true _) $$ HT
  iintro HT
  iapply (wp_stores (c := c) (defs := defs) ov hov 𝒱 bd E ds done) $$ HO
  iintro HO
  iapply Hk
  isplitl [HC]; · iexact HC
  isplitl [HT]; · iexact HT
  iexact HO

theorem both_all : ∀ (d : Fin 16) (b : Bool), (d, b) ∈ both [8, 9, 10, 11, 12, 13, 14, 15] (both [0, 1, 2, 3, 4, 5, 6, 7] []) := by decide

/-- The block leaves in the output block what it must hold. -/
theorem wp_block {q q' : PosShare TreeShare} {C : Vec F SC .i32} {T : Vec F ST .i32} {V : Vec F SO .i32}
    {k : Prog (TpuEff nD τ sig (Elt F) Λ c.2) α} :
    (iprop(Cv (c := c) cv q C ∗ Tv (c := c) tv q' T ∗ Ov (c := c) ov V) : sProp 𝕄)
      ⊢ iprop((iprop(Cv (c := c) cv q C ∗ Tv (c := c) tv q' T ∗ Ov (c := c) ov (want C T)) -∗ wp frame (wpE defs 𝒱 c bd) E k Q)
        -∗ wp (M := 𝕄) frame (wpE defs 𝒱 c bd) E (block (c := c) cv hcv tv htv ov hov k) Q) := by
  unfold block
  iintro ⟨HC, HT, HO⟩ Hk
  iapply (wp_batch (c := c) (defs := defs) cv hcv tv htv ov hov 𝒱 bd E (C := C) (T := T) [0, 1, 2, 3, 4, 5, 6, 7] []) $$ [HC HT HO]
  · isplitl [HC]; · iexact HC
    isplitl [HT]; · iexact HT
    iexists V; isplitr; · ipureintro; exact fun x hx => absurd hx List.not_mem_nil
    iexact HO
  iintro H
  iapply (wp_batch (c := c) (defs := defs) cv hcv tv htv ov hov 𝒱 bd E (C := C) (T := T) [8, 9, 10, 11, 12, 13, 14, 15] (both [0, 1, 2, 3, 4, 5, 6, 7] [])) $$ H
  iintro ⟨HC, HT, ⟨%V', %hV, HO⟩⟩
  iapply Hk
  isplitl [HC]; · iexact HC
  isplitl [HT]; · iexact HT
  rw [show V' = want C T from funext fun x => hV x (both_all _ _)]
  iexact HO

end Program

end Cert.Proof.DecodeBlock
end
-- ==== Proof.Decode0Body.lean ====
/-
  The decode call's inner trip is the block of `DecodeBlock`, on the block of codes and the block of output the trip
  addresses; and the vectors the program carries into its loops are the lanes and the sixteen diagonals.
-/
module

public import proofs.«01_k».proof.Decode0
public import proofs.«01_k».proof.Proof.Gen.Decode0
public import proofs.«01_k».proof.Proof.Gen.Decode0.Skeleton
public import proofs.«01_k».proof.Proof.DecodeBlock

@[expose] public section

noncomputable section

namespace Cert.Proof.Decode0Body

open Cert.Decode0 Cert.Decode0.Gen
open Cert.Proof.DecodeBlock
open Idealize.ShloMosaic
open Idealize.ShloMosaic.SparseCore (S V T)
open Idealize.SL
open Idealize.ShloMosaic.Tactic

variable {F : FTy → Type} [FloatOps F]

theorem iota_eq : iota .scVector S16 32 [0] iota_S16_d0_w32_scVector = lanes := by
  funext x; rw [lane_of x]; generalize x 0 = k; revert k; decide +kernel

theorem diag_eq (v : IVec L16 32) (d : Nat)
    (h : ∀ k : Fin 16, v (Shape.ofLane (d := ![16]) k) = BitVec.ofNat 32 ((k.val + d) % 16)) : v = dg d := by
  funext x; rw [lane_of x]; generalize x 0 = k; exact h k

theorem v38_eq : k0_pay325 = dg 0 := diag_eq _ _ (by decide +kernel)
theorem v42_eq : k0_pay326 = dg 1 := diag_eq _ _ (by decide +kernel)
theorem v46_eq : k0_pay327 = dg 2 := diag_eq _ _ (by decide +kernel)
theorem v50_eq : k0_pay328 = dg 3 := diag_eq _ _ (by decide +kernel)
theorem v54_eq : k0_pay329 = dg 4 := diag_eq _ _ (by decide +kernel)
theorem v58_eq : k0_pay330 = dg 5 := diag_eq _ _ (by decide +kernel)
theorem v62_eq : k0_pay331 = dg 6 := diag_eq _ _ (by decide +kernel)
theorem v66_eq : k0_pay334 k0_pay332 k0_pay333 = dg 7 := diag_eq _ _ (by decide +kernel)
theorem v70_eq : k0_pay335 lanes = dg 8 := diag_eq _ _ (by decide +kernel)
theorem v74_eq : k0_pay336 lanes = dg 9 := diag_eq _ _ (by decide +kernel)
theorem v78_eq : k0_pay337 lanes = dg 10 := diag_eq _ _ (by decide +kernel)
theorem v82_eq : k0_pay338 lanes = dg 11 := diag_eq _ _ (by decide +kernel)
theorem v86_eq : k0_pay339 lanes = dg 12 := diag_eq _ _ (by decide +kernel)
theorem v90_eq : k0_pay340 lanes = dg 13 := diag_eq _ _ (by decide +kernel)
theorem v94_eq : k0_pay341 lanes = dg 14 := diag_eq _ _ (by decide +kernel)
theorem v98_eq : k0_pay342 lanes = dg 15 := diag_eq _ _ (by decide +kernel)

/-! ## The inner trip -/

section Trip

variable (i : grid0.Coords)
  (arg2 : Memref sig .scVector .hbm S512x2x128 .i32) (harg2 : arg2.IsWhole)
  (arg3 : Memref sig .scVector .hbm S512x7x8x128 .i32) (harg3 : arg3.IsWhole)
  (arg4 : Memref sig .scVector .hbm S448x4x4x2x128 .i32) (harg4 : arg4.IsWhole)
  (arg5 : Memref sig .scVector .vmem S512x128 .i32) (harg5 : arg5.IsWhole)
  (arg6 : Memref sig .scVector .vmem S2x16x8x32 .i32) (harg6 : arg6.IsWhole)
  (arg7 : Memref sig .scVector .vmem S2x16x4x128 .i32) (harg7 : arg7.IsWhole)
  (arg8 : DmaSems sig S_) (arg9 : DmaSems sig S2) (arg10 : DmaSems sig S2)
  (v3 v7 c48 c49 c50 c52 : BitVec 32)
  (t1 : Fin (k0_t1_loop i).trips) (t2 : Fin k0_t2_loop.trips)

/-- The block of codes and the block of the output an inner trip works on. -/
abbrev cBlk : Memref sig .scVector .vmem SC .i32 :=
  (arg6.slice (Rect.unit (s := S2x16x8x32) (k0_off12 i t1 t2) S1x2x8x16.size (k0_off12_inb i t1 t2)) (fun _ => rfl)).squeeze
    S2x8x16 squeezes_S1x2x8x16_S2x8x16
abbrev oBlk : Memref sig .scVector .vmem SO .i32 :=
  (arg7.slice (Rect.unit (s := S2x16x4x128) (k0_off20 i t1 t2) S1x8x4x16.size (k0_off20_inb i t1 t2)) (fun _ => rfl)).squeeze
    S8x4x16 squeezes_S1x8x4x16_S8x4x16

/-- The inner trip is the block. -/
theorem t2_body_eq (d : Dev nD) :
    k0_t2_body (F := F) i arg2 harg2 arg3 harg3 arg4 harg4 arg5 harg5 arg6 harg6 arg7 harg7 arg8 arg9 arg10 v3 v7 lanes
        (dg 0) (dg 1) (dg 2) (dg 3) (dg 4) (dg 5) (dg 6) (dg 7) (dg 8) (dg 9) (dg 10) (dg 11) (dg 12) (dg 13) (dg 14) (dg 15)
        c48 c49 c50 c52 t1 t2 ⟨⟩
      = block (c := V d ((i 0).castLE hcore0) ((i 1).castLE hsub0)) (cBlk i arg6 t1 t2) (View.loads_vmem h_S2x8x16)
          arg5 (View.loads_vmem h_S512x128) (oBlk i arg7 t1 t2) (View.stores_vmem_bits_univ h_S8x4x16 rfl) (.ret ⟨⟩) := by
  sl_kernel_rfl

end Trip

end Cert.Proof.Decode0Body
end
-- ==== Proof.Decode0Copy.lean ====
/-
  Copies by what their ends read. `Hd c m q V` holds a memref's own elements at share `q` of contents that read `V`.
  A copy started and a copy waited for are stated over such assertions, and over memrefs and semaphores known to be
  equal to the ones the program spells (`wp_start`, `wp_wait`).
-/
module

public import Idealize.ShloMosaic.Lib.SparseCore.Scatter
public import Idealize.ShloMosaic.Lib.SparseCore.Quiescent
public import Idealize.ShloMosaic.Lib.Tactic

@[expose] public section

noncomputable section

namespace Cert.Proof.Decode0Copy

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (c : Thread nD τ) {sp sp' : Space} {s : Shape} {e : EltTy}

/-- A memref's own elements at share `q`, of contents that read `V` through it. -/
def Hd (m : Memref sig c.2.kind sp s e) (q : PosShare TreeShare) (V : s.Idx → Val e) : sProp 𝕄 :=
  iprop(∃ f : Buf Val (m.view.loc c), ⌜m.view.read Val f = V⌝ ∗ (m.view.loc c ↦[m.view.set]{q} f))

theorem Hd_eq (m : Memref sig c.2.kind sp s e) (q : PosShare TreeShare) (V : s.Idx → Val e) :
    (Hd c m q V : sProp 𝕄) = iprop(∃ f : Buf Val (m.view.loc c), ⌜m.view.read Val f = V⌝ ∗ (m.view.loc c ↦[m.view.set]{q} f)) := rfl

variable (EC : UEmb Counters (MT nD τ sig Ix Val Name U Lvl)) {Λ : Labels} {defs : Defs nD τ sig Val Λ} (𝒱 : Variants) (bd : Option 𝒱.V)

/-- A copy started: what it delivers at its wait is the destination reading what the source read, and the source as held. -/
theorem wp_start [Infinite Name] [EC.LandsIn (upEmb : UEmb _ 𝕄)] {src src' : Memref sig c.2.kind sp s e} {dst dst' : Memref sig c.2.kind sp' s e}
    {sm sm' : DmaSem sig} (hs : src = src') (hd : dst = dst') (hm : sm = sm')
    {hsrc : src.view.WordExact} {hdst : dst.view.WordExact} {hsem : DmaTarget.Typed (nD := nD) sp (.dma sm) (.here dst)}
    {q : PosShare TreeShare} {Ss : Finset (Idx (src'.view.loc c))} {fs : Buf Val (src'.view.loc c)} (hSs : src'.view.set ⊆ Ss)
    (ι : Ix) (hN0 : 0 < s.numel) {V0 : s.Idx → Val e} {Q : PUnit → sProp 𝕄} :
    iprop((src'.view.loc c ↦[Ss]{q} fs) ∗ Hd c dst' fullShare V0 ∗ semVal (c, .dma sm') 0
      ∗ (Transfers.Flight EC c (.dma sm') ι dst'.view.dmaCredit iprop(Hd c dst' fullShare (src'.view.read Val fs) ∗ (src'.view.loc c ↦[Ss]{q} fs)) -∗ Q ⟨⟩))
      ⊢ wp frame (wpE defs 𝒱 c bd) Set.univ (Prog.lift (.enqueueDma src (.here dst) (.dma sm) hsrc hdst hsem)) Q := by
  subst hs hd hm
  iintro ⟨Hs, Hd, Hv, HQ⟩
  ihave Hs := (pointsTo_split_subset hSs).1 $$ Hs
  icases Hs with ⟨Hs, Hr⟩
  ihave Hd := (Entails.of_eq (Hd_eq c dst fullShare V0)) $$ Hd
  icases Hd with ⟨%fd, %hfd, Hd⟩
  iapply (Transfers.wp_dmaLocal EC 𝒱 c bd (defs := defs) (via := .same) (src := src) (dst := dst) (sm := .dma sm) (k := Prog.ret) (fs := fs) (q := q) (fd := fd)
    ι dst.view.dmaCredit rfl (dst.view.dmaCredit_pos hN0) subset_rfl) $$ [Hs Hd Hv]
  · isplitl [Hs]; · iexact Hs
    isplitl [Hd]; · iexact Hd
    iexact Hv
  iintro HF
  rw [wp_ret]
  imodintro
  iapply HQ
  ihave HF := (Transfers.Flight_frame EC c) $$ [Hr HF]
  · isplitl [Hr]; · iexact Hr
    iexact HF
  iapply (Transfers.Flight_mono EC c ?_) $$ HF
  iintro ⟨Hr, Hd, Hs⟩
  isplitl [Hd]
  · iapply (Entails.of_eq (Hd_eq c dst fullShare _).symm)
    iexists _; isplitr
    swap; · iexact Hd
    ipureintro
    exact View.read_write_univ _ _
  iapply (pointsTo_split_subset hSs).2
  isplitl [Hs]; · iexact Hs
  iexact Hr

/-- The same for a source held by what it reads. -/
theorem wp_start' [Infinite Name] [EC.LandsIn (upEmb : UEmb _ 𝕄)] {src src' : Memref sig c.2.kind sp s e} {dst dst' : Memref sig c.2.kind sp' s e}
    {sm sm' : DmaSem sig} (hs : src = src') (hd : dst = dst') (hm : sm = sm')
    {hsrc : src.view.WordExact} {hdst : dst.view.WordExact} {hsem : DmaTarget.Typed (nD := nD) sp (.dma sm) (.here dst)}
    {q : PosShare TreeShare} (ι : Ix) (hN0 : 0 < s.numel) {V V0 : s.Idx → Val e} {Q : PUnit → sProp 𝕄} :
    iprop(Hd c src' q V ∗ Hd c dst' fullShare V0 ∗ semVal (c, .dma sm') 0
      ∗ (Transfers.Flight EC c (.dma sm') ι dst'.view.dmaCredit iprop(Hd c dst' fullShare V ∗ Hd c src' q V) -∗ Q ⟨⟩))
      ⊢ wp frame (wpE defs 𝒱 c bd) Set.univ (Prog.lift (.enqueueDma src (.here dst) (.dma sm) hsrc hdst hsem)) Q := by
  iintro ⟨Hs, Hd, Hv, HQ⟩
  ihave Hs := (Entails.of_eq (Hd_eq c src' q V)) $$ Hs
  icases Hs with ⟨%fs, %hfs, Hs⟩
  iapply (wp_start c EC 𝒱 bd (defs := defs) hs hd hm subset_rfl ι hN0 (fs := fs) (q := q) (V0 := V0))
  isplitl [Hs]; · iexact Hs
  isplitl [Hd]; · iexact Hd
  isplitl [Hv]; · iexact Hv
  iintro HF
  iapply HQ
  iapply (Transfers.Flight_mono EC c ?_) $$ HF
  iintro ⟨Hd, Hs⟩
  isplitl [Hd]
  · rw [hfs]; iexact Hd
  iapply (Entails.of_eq (Hd_eq c src' q V).symm)
  iexists fs; isplitr; · ipureintro; exact hfs
  iexact Hs

/-- A copy waited for: what it delivers, its semaphore back at zero. -/
theorem wp_wait [EC.LandsIn (upEmb : UEmb _ 𝕄)] {src : Memref sig c.2.kind sp s e} {dst dst' : Memref sig c.2.kind sp' s e}
    {sm sm' : DmaSem sig} (hd : dst = dst') (hm : sm = sm') {hsrc : src.view.WordExact} {hdst : dst.view.WordExact}
    (ι : Ix) {D : sProp 𝕄} {O : CellTallies nD τ sig Ix} {Q : PUnit → sProp 𝕄} :
    iprop(Transfers.Flight EC c (.dma sm') ι dst'.view.dmaCredit D ∗ Transfers.MayWaits c ι O ∗ (∃ W, owes c O W)
      ∗ (iprop(D ∗ semVal (c, .dma sm') 0 ∗ ∃ W, owes c O W) -∗ Q ⟨⟩))
      ⊢ wp frame (wpE defs 𝒱 c bd) Set.univ (Prog.lift (.waitDma2 sm src dst hsrc hdst)) Q := by
  subst hd hm
  iintro ⟨HF, Hmw, ⟨%W, HO⟩, HQ⟩
  ihave Hmw := (Transfers.MayWaits.elim (.dma sm)) $$ Hmw
  iapply (Transfers.wp_waitLocalO EC 𝒱 c bd (defs := defs) (srcw := src) (dstw := dst) (k := Prog.ret) ι rfl) $$ [HF HO Hmw]
  · isplitl [HF]; · iexact HF
    isplitl [HO]; · iexact HO
    iexact Hmw
  iintro ⟨HD, Hv, HO⟩
  rw [wp_ret]
  imodintro
  iapply HQ
  isplitl [HD]; · iexact HD
  isplitl [Hv]; · iexact Hv
  iexists _; iexact HO

end Cert.Proof.Decode0Copy
end
-- ==== Proof.Decode0Inner.lean ====
/-
  The inner loop of the decode call: sixteen blocks of a slot of the output, each read off a slot of codes and the
  table. The slots are named once by their number (`cSl`, `oSl`); the block the program cuts out of a slot at an inner
  trip is placed in it (`emb_cBlk`, `emb_oBlk`); after the loop the slot of the output reads `wantS` (`wp_inner`).
-/
module

public import Idealize.ShloMosaic.Lib.Pointwise.Reshape
public import proofs.«01_k».proof.Proof.Decode0Body
public import proofs.«01_k».proof.Proof.Decode0Copy

@[expose] public section

noncomputable section

namespace Cert.Proof.Decode0Inner

open Cert.Decode0 Cert.Decode0.Gen
open Cert.Proof.DecodeBlock Cert.Proof.Decode0Body Cert.Proof.Decode0Copy
open Idealize.ShloMosaic
open Idealize.ShloMosaic.SparseCore (S V T)
open Idealize.SL Idealize.SL.RA
open Idealize.SL.BI (sProp)
open scoped Idealize.SL.BI
open Idealize.SL.BI.BIBase Idealize.SL.BI.Laws Idealize.SL.Sem Idealize.SL.ProofMode
open Idealize.ShloMosaic.Tactic

variable {F : FTy → Type} [FloatOps F]

local notation "tabM" => (Memref.whole Cert.Decode0.cc0_scratch0 : Memref Cert.Decode0.sig Kind.scVector Space.vmem Cert.Decode0.S512x128 EltTy.i32)
local notation "codM" => (Memref.whole Cert.Decode0.cc0_scratch1 : Memref Cert.Decode0.sig Kind.scVector Space.vmem Cert.Decode0.S2x16x8x32 EltTy.i32)
local notation "obM" => (Memref.whole Cert.Decode0.cc0_scratch2 : Memref Cert.Decode0.sig Kind.scVector Space.vmem Cert.Decode0.S2x16x4x128 EltTy.i32)

/-! ## The slots -/

/-- The slot a trip works on. -/
def sl (n : Nat) : Fin 2 := ⟨n % 2, Nat.mod_lt _ (by decide)⟩

theorem inb_c (k : Fin 2) : ∀ a, (![k.val, 0, 0, 0] : Fin 4 → Nat) a + S1x16x8x32.size a ≤ S2x16x8x32.size a := by
  revert k; decide
theorem inb_o (k : Fin 2) : ∀ a, (![k.val, 0, 0, 0] : Fin 4 → Nat) a + S1x16x4x128.size a ≤ S2x16x4x128.size a := by
  revert k; decide

/-- Slot `k` of the codes, and of the output. -/
def cSl (k : Fin 2) : Memref sig .scVector .vmem S16x8x32 .i32 :=
  ((codM).slice (Rect.unit (s := S2x16x8x32) ![k.val, 0, 0, 0] S1x16x8x32.size (inb_c k)) (fun _ => rfl)).squeeze S16x8x32 squeezes_S1x16x8x32_S16x8x32
def oSl (k : Fin 2) : Memref sig .scVector .vmem S16x4x128 .i32 :=
  ((obM).slice (Rect.unit (s := S2x16x4x128) ![k.val, 0, 0, 0] S1x16x4x128.size (inb_o k)) (fun _ => rfl)).squeeze S16x4x128 squeezes_S1x16x4x128_S16x4x128

/-! ## Where a slot and its blocks lie -/

theorem cSl_emb (k : Fin 2) (x : S16x8x32.Idx) (a : Fin 4) :
    ((show S2x16x8x32.Idx from (cSl k).view.emb x) a).val = (![k.val, (x 0).val, (x 1).val, (x 2).val] : Fin 4 → Nat) a := by
  show (((Rect.unit (s := S2x16x8x32) ![k.val, 0, 0, 0] S1x16x8x32.size (inb_c k)).emb
    (Shape.reshapeEquiv squeezes_S1x16x8x32_S16x8x32.numel_eq x)) a).val = _
  rw [show Shape.reshapeEquiv squeezes_S1x16x8x32_S16x8x32.numel_eq x = (Fin.cons ⟨0, Nat.one_pos⟩ x : S1x16x8x32.Idx) from
    Shape.reshapeEquiv_cons_one (d := ![16, 8, 32]) _ x, Rect.emb_apply]
  match a with
  | 0 => show k.val + 1 * 0 = k.val; omega
  | 1 => show 0 + 1 * (x 0).val = (x 0).val; omega
  | 2 => show 0 + 1 * (x 1).val = (x 1).val; omega
  | 3 => show 0 + 1 * (x 2).val = (x 2).val; omega
theorem oSl_emb (k : Fin 2) (x : S16x4x128.Idx) (a : Fin 4) :
    ((show S2x16x4x128.Idx from (oSl k).view.emb x) a).val = (![k.val, (x 0).val, (x 1).val, (x 2).val] : Fin 4 → Nat) a := by
  show (((Rect.unit (s := S2x16x4x128) ![k.val, 0, 0, 0] S1x16x4x128.size (inb_o k)).emb
    (Shape.reshapeEquiv squeezes_S1x16x4x128_S16x4x128.numel_eq x)) a).val = _
  rw [show Shape.reshapeEquiv squeezes_S1x16x4x128_S16x4x128.numel_eq x = (Fin.cons ⟨0, Nat.one_pos⟩ x : S1x16x4x128.Idx) from
    Shape.reshapeEquiv_cons_one (d := ![16, 4, 128]) _ x, Rect.emb_apply]
  match a with
  | 0 => show k.val + 1 * 0 = k.val; omega
  | 1 => show 0 + 1 * (x 0).val = (x 0).val; omega
  | 2 => show 0 + 1 * (x 1).val = (x 1).val; omega
  | 3 => show 0 + 1 * (x 2).val = (x 2).val; omega

section Blocks

variable (i : grid0.Coords) (t1 : Fin (k0_t1_loop i).trips) (t2 : Fin k0_t2_loop.trips)

theorem t2_lt : t2.val < 16 := Nat.lt_of_lt_of_le t2.isLt k0_t2_abs.2.1

/-- Where position `y` of inner trip `t2`'s block of codes lies in the slot, and position `x` of its output block. -/
def cin (y : SC.Idx) : S16x8x32.Idx :=
  fun | 0 => ⟨2 * (t2.val % 8) + (y 0).val, by have h : (y 0).val < 2 := (y 0).isLt; show _ < 16; omega⟩
      | 1 => ⟨(y 1).val, (y 1).isLt⟩
      | 2 => ⟨16 * (t2.val / 8) + (y 2).val, by have h : (y 2).val < 16 := (y 2).isLt; have := t2_lt t2; show _ < 32; omega⟩
      | ⟨_ + 3, h⟩ => absurd h (Nat.not_lt.2 (Nat.le_add_left _ _))
def oin (x : SO.Idx) : S16x4x128.Idx :=
  fun | 0 => ⟨8 * (t2.val / 8) + (x 0).val, by have h : (x 0).val < 8 := (x 0).isLt; have := t2_lt t2; show _ < 16; omega⟩
      | 1 => ⟨(x 1).val, (x 1).isLt⟩
      | 2 => ⟨16 * (t2.val % 8) + (x 2).val, by have h : (x 2).val < 16 := (x 2).isLt; show _ < 128; omega⟩
      | ⟨_ + 3, h⟩ => absurd h (Nat.not_lt.2 (Nat.le_add_left _ _))

theorem emb_cBlk (y : SC.Idx) :
    (show S2x16x8x32.Idx from ((cBlk i codM t1 t2).access (.whole SC)).emb y) = (cSl (sl t1.val)).view.emb (cin t2 y) := by
  funext a
  refine Fin.ext (Eq.trans ?_ (cSl_emb (sl t1.val) (cin t2 y) a).symm)
  show (((Rect.unit (s := S2x16x8x32) (k0_off12 i t1 t2) S1x2x8x16.size (k0_off12_inb i t1 t2)).emb
    (Shape.reshapeEquiv squeezes_S1x2x8x16_S2x8x16.numel_eq ((Rect.whole SC).emb y))) a).val = _
  rw [Rect.emb_whole_apply, show Shape.reshapeEquiv squeezes_S1x2x8x16_S2x8x16.numel_eq y = (Fin.cons ⟨0, Nat.one_pos⟩ y : S1x2x8x16.Idx) from
    Shape.reshapeEquiv_cons_one (d := ![2, 8, 16]) _ y, Rect.emb_apply]
  have ho := k0_off12_eq i t1 t2
  refine (congrArg (· + _) (congrFun ho a)).trans ?_
  match a with
  | 0 => show t1.val % 2 + 1 * 0 = t1.val % 2; omega
  | 1 => show 2 * (t2.val % 8) + 1 * (y 0).val = 2 * (t2.val % 8) + (y 0).val; omega
  | 2 => show 0 + 1 * (y 1).val = (y 1).val; omega
  | 3 => show 16 * (t2.val / 8) + 1 * (y 2).val = 16 * (t2.val / 8) + (y 2).val; omega
theorem emb_oBlk (y : SO.Idx) :
    (show S2x16x4x128.Idx from ((oBlk i obM t1 t2).access (.whole SO)).emb y) = (oSl (sl t1.val)).view.emb (oin t2 y) := by
  funext a
  refine Fin.ext (Eq.trans ?_ (oSl_emb (sl t1.val) (oin t2 y) a).symm)
  show (((Rect.unit (s := S2x16x4x128) (k0_off20 i t1 t2) S1x8x4x16.size (k0_off20_inb i t1 t2)).emb
    (Shape.reshapeEquiv squeezes_S1x8x4x16_S8x4x16.numel_eq ((Rect.whole SO).emb y))) a).val = _
  rw [Rect.emb_whole_apply, show Shape.reshapeEquiv squeezes_S1x8x4x16_S8x4x16.numel_eq y = (Fin.cons ⟨0, Nat.one_pos⟩ y : S1x8x4x16.Idx) from
    Shape.reshapeEquiv_cons_one (d := ![8, 4, 16]) _ y, Rect.emb_apply]
  have ho := k0_off20_eq i t1 t2
  refine (congrArg (· + _) (congrFun ho a)).trans ?_
  match a with
  | 0 => show t1.val % 2 + 1 * 0 = t1.val % 2; omega
  | 1 => show 8 * (t2.val / 8) + 1 * (y 0).val = 8 * (t2.val / 8) + (y 0).val; omega
  | 2 => show 0 + 1 * (y 1).val = (y 1).val; omega
  | 3 => show 16 * (t2.val % 8) + 1 * (y 2).val = 16 * (t2.val % 8) + (y 2).val; omega

theorem cBlk_sub : (show Finset S2x16x8x32.Idx from ((cBlk i codM t1 t2).access (.whole SC)).set) ⊆ (cSl (sl t1.val)).view.set := by
  intro z hz
  obtain ⟨y, -, rfl⟩ := Finset.mem_map.1 hz
  exact (congrArg (fun w : S2x16x8x32.Idx => w ∈ (cSl (sl t1.val)).view.set) (emb_cBlk i t1 t2 y)).mpr (View.emb_mem_set _ _)
theorem oBlk_sub : (show Finset S2x16x4x128.Idx from ((oBlk i obM t1 t2).access (.whole SO)).set) ⊆ (oSl (sl t1.val)).view.set := by
  intro z hz
  obtain ⟨y, -, rfl⟩ := Finset.mem_map.1 hz
  exact (congrArg (fun w : S2x16x4x128.Idx => w ∈ (oSl (sl t1.val)).view.set) (emb_oBlk i t1 t2 y)).mpr (View.emb_mem_set _ _)

end Blocks

/-! ## What a slot of the output must hold -/

/-- The place in the slot of codes of the word slot position `x` is decoded from. -/
def cixS (x : S16x4x128.Idx) : S16x8x32.Idx :=
  fun | 0 => ⟨(x 2).val / 8, by have h2 : (x 2).val < 128 := (x 2).isLt; show _ < 16; omega⟩
      | 1 => ⟨(x 2).val % 8, by show _ < 8; omega⟩
      | 2 => ⟨2 * (x 0).val + (x 1).val / 2, by
          have h0 : (x 0).val < 16 := (x 0).isLt; have h1 : (x 1).val < 4 := (x 1).isLt; show _ < 32; omega⟩
      | ⟨_ + 3, h⟩ => absurd h (Nat.not_lt.2 (Nat.le_add_left _ _))
/-- The decoded slot: at each position the table's word at the position's code. -/
def wantS (C : Vec F S16x8x32 .i32) (T : Vec F ST .i32) : Vec F S16x4x128 .i32 :=
  fun x => T (tix (code ((x 1).val % 2 == 1) (C (cixS x))) (code_lt _ _))

/-- The inner trip that decodes slot position `x`. -/
def blk (x : S16x4x128.Idx) : Nat := (x 0).val / 8 * 8 + (x 2).val / 16

section Blocks

variable (t2 : Fin k0_t2_loop.trips)

theorem blk_oin (x : SO.Idx) : blk (oin t2 x) = t2.val := by
  have h0 : (x 0).val < 8 := (x 0).isLt
  have h2 : (x 2).val < 16 := (x 2).isLt
  have := t2_lt t2
  show (8 * (t2.val / 8) + (x 0).val) / 8 * 8 + (16 * (t2.val % 8) + (x 2).val) / 16 = t2.val
  omega

theorem exists_oin (x : S16x4x128.Idx) (h : blk x = t2.val) : ∃ y, x = oin t2 y := by
  have h0 : (x 0).val < 16 := (x 0).isLt
  have h2 : (x 2).val < 128 := (x 2).isLt
  unfold blk at h
  refine ⟨fun | 0 => ⟨(x 0).val % 8, by show _ < 8; omega⟩ | 1 => ⟨(x 1).val, (x 1).isLt⟩ | 2 => ⟨(x 2).val % 16, by show _ < 16; omega⟩
              | ⟨_ + 3, h⟩ => absurd h (Nat.not_lt.2 (Nat.le_add_left _ _)), ?_⟩
  funext a
  match a with
  | 0 => exact Fin.ext (show (x 0).val = 8 * (t2.val / 8) + (x 0).val % 8 by omega)
  | 1 => rfl
  | 2 => exact Fin.ext (show (x 2).val = 16 * (t2.val % 8) + (x 2).val % 16 by omega)

/-- A block's wanted contents are the slot's, at the block's place. -/
theorem wantS_oin (C : Vec F S16x8x32 .i32) (T : Vec F ST .i32) (x : SO.Idx) :
    wantS C T (oin t2 x) = want (fun y => C (cin t2 y)) T x := by
  have h2 : (x 2).val < 16 := (x 2).isLt
  have h0 : (x 0).val < 8 := (x 0).isLt
  have hc : cixS (oin t2 x) = cin t2 (cix x) := by
    funext a
    match a with
    | 0 => exact Fin.ext (show (16 * (t2.val % 8) + (x 2).val) / 8 = 2 * (t2.val % 8) + (x 2).val / 8 by omega)
    | 1 => exact Fin.ext (show (16 * (t2.val % 8) + (x 2).val) % 8 = (x 2).val % 8 by omega)
    | 2 => exact Fin.ext (show 2 * (8 * (t2.val / 8) + (x 0).val) + (x 1).val / 2 = 16 * (t2.val / 8) + (2 * (x 0).val + (x 1).val / 2) by omega)
  show T (tix (code ((x 1).val % 2 == 1) (C (cixS (oin t2 x)))) (code_lt _ _)) = T (tix (code ((x 1).val % 2 == 1) (C (cin t2 (cix x)))) (code_lt _ _))
  congr 2
  rw [hc]

end Blocks

/-! ## The loop -/

section Loop

variable {Ix : Type} [DecidableEq Ix] {Name : Type} [DecidableEq Name] {U : Type} [URA U] {Lvl : Type} [Preorder Lvl]

local notation "𝕄" => MT nD τ sig Ix (Elt F) Name U Lvl

variable (d : Dev nD) (i : grid0.Coords)

/-- The tile's thread. -/
abbrev thr : Thread nD τ := V d ((i 0).castLE hcore0) ((i 1).castLE hsub0)

variable (𝒱 : Variants) (bd : Option 𝒱.V) {defs : Defs nD τ sig (Elt F) Λ₀}
variable (t1 : Fin (k0_t1_loop i).trips) (t2 : Fin k0_t2_loop.trips)

/-- The slot of codes reads as before when its block is put back. -/
theorem put_c (fc gc : S2x16x8x32.Idx → Elt F .i32) {C : Vec F S16x8x32 .i32} (hfc : (cSl (sl t1.val)).view.read (Elt F) fc = C)
    (hgc : ((cBlk i codM t1 t2).access (.whole SC)).read (Elt F) gc = fun y => C (cin t2 y)) :
    (cSl (sl t1.val)).view.read (Elt F)
      ((show Finset S2x16x8x32.Idx from ((cBlk i codM t1 t2).access (.whole SC)).set).piecewise gc fc) = C := by
  funext x
  show (show Finset S2x16x8x32.Idx from ((cBlk i codM t1 t2).access (.whole SC)).set).piecewise gc fc ((cSl (sl t1.val)).view.emb x) = C x
  by_cases h : (cSl (sl t1.val)).view.emb x ∈ (show Finset S2x16x8x32.Idx from ((cBlk i codM t1 t2).access (.whole SC)).set)
  · refine (Finset.piecewise_eq_of_mem (show Finset S2x16x8x32.Idx from ((cBlk i codM t1 t2).access (.whole SC)).set) gc fc h).trans ?_
    obtain ⟨y, -, hy⟩ := Finset.mem_map.1 h
    have hx : x = cin t2 y := (cSl (sl t1.val)).view.emb.injective (hy.symm.trans (emb_cBlk i t1 t2 y))
    rw [hx]
    exact (congrArg gc (emb_cBlk i t1 t2 y)).symm.trans (congrFun hgc y)
  · exact (Finset.piecewise_eq_of_notMem (show Finset S2x16x8x32.Idx from ((cBlk i codM t1 t2).access (.whole SC)).set) gc fc h).trans
      (congrFun hfc x)

/-- The slot of the output reads the block's new contents at the block's positions, the old ones elsewhere. -/
theorem put_o (fo go : S2x16x4x128.Idx → Elt F .i32) {C : Vec F S16x8x32 .i32} {T : Vec F S512x128 .i32} {W : Vec F S16x4x128 .i32}
    (hfo : (oSl (sl t1.val)).view.read (Elt F) fo = W)
    (hgo : ((oBlk i obM t1 t2).access (.whole SO)).read (Elt F) go = want (fun y => C (cin t2 y)) T) (x : S16x4x128.Idx) :
    (blk x = t2.val → (oSl (sl t1.val)).view.read (Elt F)
      ((show Finset S2x16x4x128.Idx from ((oBlk i obM t1 t2).access (.whole SO)).set).piecewise go fo) x = wantS C T x)
    ∧ (blk x ≠ t2.val → (oSl (sl t1.val)).view.read (Elt F)
      ((show Finset S2x16x4x128.Idx from ((oBlk i obM t1 t2).access (.whole SO)).set).piecewise go fo) x = W x) := by
  constructor
  · intro hx
    obtain ⟨y, rfl⟩ := exists_oin t2 x hx
    have he := emb_oBlk i t1 t2 y
    show (show Finset S2x16x4x128.Idx from ((oBlk i obM t1 t2).access (.whole SO)).set).piecewise go fo ((oSl (sl t1.val)).view.emb (oin t2 y)) = _
    have h : (oSl (sl t1.val)).view.emb (oin t2 y) ∈ (show Finset S2x16x4x128.Idx from ((oBlk i obM t1 t2).access (.whole SO)).set) :=
      Finset.mem_map.2 ⟨y, Finset.mem_univ _, he⟩
    rw [wantS_oin]
    refine (Finset.piecewise_eq_of_mem (show Finset S2x16x4x128.Idx from ((oBlk i obM t1 t2).access (.whole SO)).set) go fo h).trans ?_
    exact (congrArg go he).symm.trans (congrFun hgo y)
  · intro hx
    show (show Finset S2x16x4x128.Idx from ((oBlk i obM t1 t2).access (.whole SO)).set).piecewise go fo ((oSl (sl t1.val)).view.emb x) = _
    have h : (oSl (sl t1.val)).view.emb x ∉ (show Finset S2x16x4x128.Idx from ((oBlk i obM t1 t2).access (.whole SO)).set) := by
      intro h
      obtain ⟨y, -, hy⟩ := Finset.mem_map.1 h
      have : x = oin t2 y := (oSl (sl t1.val)).view.emb.injective (hy.symm.trans (emb_oBlk i t1 t2 y))
      rw [this, blk_oin] at hx
      exact hx rfl
    exact (Finset.piecewise_eq_of_notMem (show Finset S2x16x4x128.Idx from ((oBlk i obM t1 t2).access (.whole SO)).set) go fo h).trans
      (congrFun hfo x)

theorem Ov_eq {c : Thread nD τ} (ov : Memref sig c.2.kind .vmem SO .i32) (V : Vec F SO .i32) : (Ov (c := c) ov V : sProp 𝕄)
    = iprop(∃ f : Buf (Elt F) ((ov.access (.whole SO)).loc c), ⌜(ov.access (.whole SO)).read (Elt F) f = V⌝
      ∗ ((ov.access (.whole SO)).loc c ↦[(ov.access (.whole SO)).set]{fullShare} f)) := rfl

omit [FloatOps F] in
theorem tab_read (f : (tabM).view.ty.Contents (Elt F)) : ((tabM).access (.whole ST)).read (Elt F) f = (tabM).view.read (Elt F) f := by
  funext x; exact congrArg f (Rect.emb_whole_apply ST x)
theorem tab_set : ((tabM).access (.whole ST)).set = (tabM).view.set := by
  refine Finset.ext fun x => ⟨fun _ => ?_, fun _ => ?_⟩
  · exact View.emb_mem_set (tabM).view x
  · exact Finset.mem_map.2 ⟨x, Finset.mem_univ _, Rect.emb_whole_apply ST x⟩

/-- One block, over whole slots: the block's positions of the output slot become right, the others keep what they held. -/
theorem wp_slot_block {C : Vec F S16x8x32 .i32} {T : Vec F S512x128 .i32} {W : Vec F S16x4x128 .i32} {Q : PUnit → sProp 𝕄} :
    (iprop(Hd (thr d i) (cSl (sl t1.val)) fullShare C ∗ Hd (thr d i) tabM fullShare T ∗ Hd (thr d i) (oSl (sl t1.val)) fullShare W
      ∗ (iprop(Hd (thr d i) (cSl (sl t1.val)) fullShare C ∗ Hd (thr d i) tabM fullShare T
          ∗ ∃ W', ⌜∀ x, (blk x = t2.val → W' x = wantS C T x) ∧ (blk x ≠ t2.val → W' x = W x)⌝ ∗ Hd (thr d i) (oSl (sl t1.val)) fullShare W') -∗ Q ⟨⟩)) : sProp 𝕄)
      ⊢ wp frame (wpE defs 𝒱 (thr d i) bd) Set.univ
          (block (c := thr d i) (cBlk i codM t1 t2) (View.loads_vmem h_S2x8x16) tabM (View.loads_vmem h_S512x128)
            (oBlk i obM t1 t2) (View.stores_vmem_bits_univ h_S8x4x16 rfl) (.ret ⟨⟩)) Q := by
  iintro ⟨HC, HT, HO, HQ⟩
  ihave HC := (Entails.of_eq (Hd_eq (thr d i) (cSl (sl t1.val)) fullShare C)) $$ HC
  icases HC with ⟨%fc, %hfc, HC⟩
  ihave HT := (Entails.of_eq (Hd_eq (thr d i) tabM fullShare T)) $$ HT
  icases HT with ⟨%ft, %hft, HT⟩
  ihave HO := (Entails.of_eq (Hd_eq (thr d i) (oSl (sl t1.val)) fullShare W)) $$ HO
  icases HO with ⟨%fo, %hfo, HO⟩
  ihave HC := (pointsTo_split_subset (cBlk_sub i t1 t2)).1 $$ HC
  icases HC with ⟨HC, HCr⟩
  ihave HO := (pointsTo_split_subset (oBlk_sub i t1 t2)).1 $$ HO
  icases HO with ⟨HO, HOr⟩
  iapply (wp_block (c := thr d i) (defs := defs) (cBlk i codM t1 t2) (View.loads_vmem h_S2x8x16) tabM (View.loads_vmem h_S512x128)
            (oBlk i obM t1 t2) (View.stores_vmem_bits_univ h_S8x4x16 rfl) 𝒱 bd Set.univ (C := fun y => C (cin t2 y)) (T := T)
            (V := fun x => W (oin t2 x)) (q := fullShare) (q' := fullShare)) $$ [HC HT HO]
  · isplitl [HC]
    · iapply (Entails.of_eq (Cv_eq (c := thr d i) (cBlk i codM t1 t2) fullShare _).symm)
      iexists fc; isplitr
      · ipureintro; funext y; rw [← hfc]; exact congrArg fc (emb_cBlk i t1 t2 y)
      iexact HC
    isplitl [HT]
    · iapply (Entails.of_eq (Tv_eq (c := thr d i) tabM fullShare _).symm)
      iexists ft; isplitr
      · ipureintro; rw [← hft]; exact tab_read ft
      rw [tab_set]
      iexact HT
    iapply (Entails.of_eq (Ov_eq (c := thr d i) (oBlk i obM t1 t2) _).symm)
    iexists fo; isplitr
    · ipureintro; funext y; rw [← hfo]; exact congrArg fo (emb_oBlk i t1 t2 y)
    iexact HO
  iintro ⟨HC, HT, HO⟩
  rw [wp_ret]
  imodintro
  iapply HQ
  isplitl [HC HCr]
  · ihave HC := (Entails.of_eq (Cv_eq (c := thr d i) (cBlk i codM t1 t2) fullShare _)) $$ HC
    icases HC with ⟨%gc, %hgc, HC⟩
    ihave HC := (pointsTo_join_subset (ℓ := (cSl (sl t1.val)).view.loc (thr d i)) (cBlk_sub i t1 t2)) $$ [HC HCr]
    · isplitl [HC]; · iexact HC
      iexact HCr
    iapply (Entails.of_eq (Hd_eq (thr d i) (cSl (sl t1.val)) fullShare C).symm)
    iexists _; isplitr
    swap; · iexact HC
    ipureintro
    exact put_c i t1 t2 fc gc hfc hgc
  isplitl [HT]
  · ihave HT := (Entails.of_eq (Tv_eq (c := thr d i) tabM fullShare _)) $$ HT
    icases HT with ⟨%gt, %hgt, HT⟩
    iapply (Entails.of_eq (Hd_eq (thr d i) tabM fullShare T).symm)
    iexists gt; isplitr
    · ipureintro; rw [← hgt]; exact (tab_read gt).symm
    rw [tab_set]
    iexact HT
  ihave HO := (Entails.of_eq (Ov_eq (c := thr d i) (oBlk i obM t1 t2) _)) $$ HO
  icases HO with ⟨%go, %hgo, HO⟩
  ihave HO := (pointsTo_join_subset (ℓ := (oSl (sl t1.val)).view.loc (thr d i)) (oBlk_sub i t1 t2)) $$ [HO HOr]
  · isplitl [HO]; · iexact HO
    iexact HOr
  iexists (oSl (sl t1.val)).view.read (Elt F) _
  isplitr
  swap
  · iapply (Entails.of_eq (Hd_eq (thr d i) (oSl (sl t1.val)) fullShare _).symm)
    iexists _; isplitr
    swap; · iexact HO
    ipureintro; rfl
  ipureintro
  exact put_o i t1 t2 fo go hfo hgo

/-- What the inner loop holds before trip `b`: the slots and the table, the output slot right at the blocks already decoded. -/
def innerInv (C : Vec F S16x8x32 .i32) (T : Vec F S512x128 .i32) (b : Nat) : sProp 𝕄 :=
  iprop(Hd (thr d i) (cSl (sl t1.val)) fullShare C ∗ Hd (thr d i) tabM fullShare T
    ∗ ∃ W, ⌜∀ x, blk x < b → W x = wantS C T x⌝ ∗ Hd (thr d i) (oSl (sl t1.val)) fullShare W)

theorem innerInv_eq (C : Vec F S16x8x32 .i32) (T : Vec F S512x128 .i32) (b : Nat) : (innerInv d i t1 C T b : sProp 𝕄)
    = iprop(Hd (thr d i) (cSl (sl t1.val)) fullShare C ∗ Hd (thr d i) tabM fullShare T
      ∗ ∃ W, ⌜∀ x, blk x < b → W x = wantS C T x⌝ ∗ Hd (thr d i) (oSl (sl t1.val)) fullShare W) := rfl

theorem trips2 : k0_t2_loop.trips = 16 := by decide +kernel

/-- The inner loop leaves the output slot reading what it must hold. -/
theorem wp_inner {C : Vec F S16x8x32 .i32} {T : Vec F S512x128 .i32} {W : Vec F S16x4x128 .i32} {Q : PUnit → sProp 𝕄}
    (arg2 : Memref sig .scVector .hbm S512x2x128 .i32) (harg2 : arg2.IsWhole)
    (arg3 : Memref sig .scVector .hbm S512x7x8x128 .i32) (harg3 : arg3.IsWhole)
    (arg4 : Memref sig .scVector .hbm S448x4x4x2x128 .i32) (harg4 : arg4.IsWhole) (harg5 : (tabM).IsWhole) (harg6 : (codM).IsWhole) (harg7 : (obM).IsWhole)
    (arg8 : DmaSems sig S_) (arg9 : DmaSems sig S2) (arg10 : DmaSems sig S2) (v3 v7 c48 c49 c50 c52 : BitVec 32) :
    (iprop(Hd (thr d i) (cSl (sl t1.val)) fullShare C ∗ Hd (thr d i) tabM fullShare T ∗ Hd (thr d i) (oSl (sl t1.val)) fullShare W
      ∗ (iprop(Hd (thr d i) (cSl (sl t1.val)) fullShare C ∗ Hd (thr d i) tabM fullShare T
          ∗ Hd (thr d i) (oSl (sl t1.val)) fullShare (wantS C T)) -∗ Q ⟨⟩)) : sProp 𝕄)
      ⊢ wp frame (wpE defs 𝒱 (thr d i) bd) Set.univ
          (Scf.Loop.for k0_t2_loop k0_t2_ok ⟨⟩ (k0_t2_body (F := F) i arg2 harg2 arg3 harg3 arg4 harg4 tabM harg5 codM harg6 obM harg7 arg8 arg9 arg10 v3 v7 lanes
        (dg 0) (dg 1) (dg 2) (dg 3) (dg 4) (dg 5) (dg 6) (dg 7) (dg 8) (dg 9) (dg 10) (dg 11) (dg 12) (dg 13) (dg 14) (dg 15)
        c48 c49 c50 c52 t1)) Q := by
  refine Entails.trans ?_ (Scf.wp_for frame (wpE defs 𝒱 (thr d i) bd) Set.univ _ _ _ k0_t2_ok (PUnit.unit : PUnit.{1}) _ (fun b _ => innerInv d i t1 C T b) ?_)
  · iintro ⟨HC, HT, HO, HQ⟩
    isplitl [HC HT HO]
    · iapply (Entails.of_eq (innerInv_eq d i t1 C T 0).symm)
      isplitl [HC]; · iexact HC
      isplitl [HT]; · iexact HT
      iexists W; isplitr; · ipureintro; exact fun x hx => absurd hx (Nat.not_lt_zero _)
      iexact HO
    iintro %_ HI
    ihave HI := (Entails.of_eq (innerInv_eq d i t1 C T _)) $$ HI
    icases HI with ⟨HC, HT, ⟨%W', %hW, HO⟩⟩
    iapply HQ
    isplitl [HC]; · iexact HC
    isplitl [HT]; · iexact HT
    have hW' : W' = wantS C T := funext fun x => hW x (by
      have h0 : (x 0).val < 16 := (x 0).isLt
      have h2 : (x 2).val < 128 := (x 2).isLt
      show (x 0).val / 8 * 8 + (x 2).val / 16 < k0_t2_loop.trips
      rw [trips2]; omega)
    rw [← hW']
    iexact HO
  · intro t2 _
    rw [t2_body_eq]
    iintro HI
    ihave HI := (Entails.of_eq (innerInv_eq d i t1 C T _)) $$ HI
    icases HI with ⟨HC, HT, ⟨%W', %hW, HO⟩⟩
    iapply (wp_slot_block d i 𝒱 bd t1 t2 (W := W') (C := C) (T := T))
    isplitl [HC]; · iexact HC
    isplitl [HT]; · iexact HT
    isplitl [HO]; · iexact HO
    iintro ⟨HC, HT, ⟨%W'', %hW', HO⟩⟩
    iapply (Entails.of_eq (innerInv_eq d i t1 C T _).symm)
    isplitl [HC]; · iexact HC
    isplitl [HT]; · iexact HT
    iexists W''; isplitr
    · ipureintro
      intro x hx
      by_cases h : blk x = t2.val
      · exact (hW' x).1 h
      · exact ((hW' x).2 h).trans (hW x (by omega))
    iexact HO

end Loop

end Cert.Proof.Decode0Inner
end
-- ==== Proof.Decode0Offs.lean ====
/-
  Which elements a tile's copies address, at each trip of its loop. Tile `i` works through the units `un i t`, `t < 7`;
  a unit names a rectangle of the codes (`coff`) and one of the output (`ooff`). The offsets the program computes are
  these.
-/
module

public import proofs.«01_k».proof.Proof.Decode0Inner

@[expose] public section

noncomputable section

namespace Cert.Proof.Decode0Offs

open Cert.Decode0 Cert.Decode0.Gen
open Idealize.ShloMosaic

/-- The unit tile `i` decodes at trip `t`. -/
def un (i : grid0.Coords) (t : Nat) : Nat := 8 * (i 0).val + (i 1).val / 2 + 16 * min t 6

/-- Where the rectangle of codes of a trip begins, and the rectangle of the output. -/
def coff (i : grid0.Coords) (t : Nat) : Fin 4 → Nat := ![16 * (un i t / 28) + 0, un i t % 28 / 4, 0, 32 * (un i t % 28 % 4)]
def ooff (i : grid0.Coords) (t : Nat) : Fin 5 → Nat := ![16 * (un i t % 28), un i t / 28, 0, (i 1).val % 2, 0]

theorem i0_lt (i : grid0.Coords) : (i 0).val < 2 := (i 0).isLt
theorem i1_lt (i : grid0.Coords) : (i 1).val < 16 := (i 1).isLt

theorem un_lt (i : grid0.Coords) (t : Nat) : un i t < 112 := by
  have := i0_lt i; have := i1_lt i; unfold un; omega
theorem un_of_lt (i : grid0.Coords) {t : Nat} (h : t < 7) : un i t = 8 * (i 0).val + (i 1).val / 2 + 16 * t := by
  unfold un; rw [Nat.min_eq_left (by omega)]

theorem coff_inb (i : grid0.Coords) (t : Nat) : ∀ a, coff i t a + S16x1x8x32.size a ≤ S512x7x8x128.size a := by
  have h := un_lt i t
  intro a
  match a with
  | 0 => show 16 * (un i t / 28) + 0 + 16 ≤ 512; omega
  | 1 => show un i t % 28 / 4 + 1 ≤ 7; omega
  | 2 => show 0 + 8 ≤ 8; omega
  | 3 => show 32 * (un i t % 28 % 4) + 32 ≤ 128; omega
theorem ooff_inb (i : grid0.Coords) (t : Nat) : ∀ a, ooff i t a + S16x1x4x1x128.size a ≤ S448x4x4x2x128.size a := by
  have h := un_lt i t
  intro a
  match a with
  | 0 => show 16 * (un i t % 28) + 16 ≤ 448; omega
  | 1 => show un i t / 28 + 1 ≤ 4; omega
  | 2 => show 0 + 4 ≤ 4; omega
  | 3 => show (i 1).val % 2 + 1 ≤ 2; omega
  | 4 => show 0 + 128 ≤ 128; omega

/-! ## The trips and the conditions -/

theorem trips1 : ∀ i : grid0.Coords, (k0_t1_loop i).trips = 7 := by decide +kernel
theorem trips3 : ∀ i : grid0.Coords, (k0_t3_loop i).trips = 0 := by decide +kernel
theorem cond1_iff : ∀ (i : grid0.Coords) (t : Fin (k0_t1_loop i).trips), k0_cond1 i t = 1#1 ↔ t.val + 1 < 7 := by decide +kernel
theorem cond2_iff : ∀ (i : grid0.Coords) (t : Fin (k0_t1_loop i).trips), k0_cond2 i t = 1#1 ↔ 1 < t.val := by decide +kernel
theorem cond5 : ∀ i : grid0.Coords, k0_cond5 i = 1#1 := by decide +kernel
theorem cond6 : ∀ i : grid0.Coords, k0_cond6 i = 1#1 := by decide +kernel

/-! ## The offsets -/

theorem off1 (i : grid0.Coords) : k0_off1 i = coff i 0 := by
  have := i0_lt i; have := i1_lt i
  rw [k0_off1_eq]
  unfold coff
  rw [un_of_lt i (by omega), Nat.mod_eq_of_lt (a := 8 * (i 0).val + (i 1).val / 2 + 16 * 0) (by omega)]
  rfl
theorem off4 (i : grid0.Coords) (t : Fin (k0_t1_loop i).trips) (h : t.val + 1 < 7) : k0_off4 i t = coff i (t.val + 1) := by
  rw [k0_off4_eq]; unfold coff; rw [un_of_lt i h]; rfl
theorem t_lt (i : grid0.Coords) (t : Fin (k0_t1_loop i).trips) : t.val < 7 := trips1 i ▸ t.isLt
theorem off7 (i : grid0.Coords) (t : Fin (k0_t1_loop i).trips) : k0_off7 i t = coff i t.val := by
  rw [k0_off7_eq]; unfold coff; rw [un_of_lt i (t_lt i t)]; rfl
theorem off61 (i : grid0.Coords) (t : Fin (k0_t1_loop i).trips) : k0_off61 i t = ooff i t.val := by
  rw [k0_off61_eq]; unfold ooff; rw [un_of_lt i (t_lt i t)]
theorem off10 : ∀ (i : grid0.Coords) (t : Fin (k0_t1_loop i).trips), k0_cond2 i t = 1#1 → k0_off10 i t = ooff i (t.val - 2) := by decide +kernel
theorem off123 : ∀ i : grid0.Coords, k0_off123 i = ooff i 5 := by decide +kernel
theorem off126 : ∀ i : grid0.Coords, k0_off126 i = ooff i 6 := by decide +kernel
theorem off122 : ∀ i : grid0.Coords, k0_off122 i = ![1, 0, 0, 0] := by decide +kernel
theorem off124 : ∀ i : grid0.Coords, k0_off124 i = ![1] := by decide +kernel
theorem off125 : ∀ i : grid0.Coords, k0_off125 i = ![0, 0, 0, 0] := by decide +kernel
theorem off127 : ∀ i : grid0.Coords, k0_off127 i = ![0] := by decide +kernel
theorem off3 (i : grid0.Coords) (t : Fin (k0_t1_loop i).trips) : k0_off3 i t = ![(t.val + 1) % 2, 0, 0, 0] := by
  rw [k0_off3_eq, show 1 - t.val % 2 = (t.val + 1) % 2 by omega]
theorem off5 (i : grid0.Coords) (t : Fin (k0_t1_loop i).trips) : k0_off5 i t = ![(t.val + 1) % 2] := by
  rw [k0_off5_eq, show 1 - t.val % 2 = (t.val + 1) % 2 by omega]

end Cert.Proof.Decode0Offs
end
-- ==== Proof.Decode0Tile.lean ====
/-
  One trip of a tile's loop in the decode call. Before trip `u` the tile has the copy of that trip's codes under way,
  the copies of the last two units of the output under way, and the rest of its rectangles of the output in hand
  (`Inv`); a trip takes that to the next (`wp_trip`).
-/
module

public import Idealize.ShloMosaic.Lib.SparseCore.Quiescent
public import Idealize.ShloMosaic.Lib.Tactic
public import proofs.«01_k».proof.Proof.Decode0Offs

@[expose] public section

noncomputable section

namespace Cert.Proof.Decode0Tile

open Cert.Decode0 Cert.Decode0.Gen
open Cert.Proof.DecodeBlock Cert.Proof.Decode0Body Cert.Proof.Decode0Copy Cert.Proof.Decode0Inner Cert.Proof.Decode0Offs
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ
local notation "EC" => (Idealize.ShloMosaic.countersEmb : UEmb Counters (MT nD τ sig (HIx 1) (Elt F) ℕ UU ℕ))

local notation "wM" => (Memref.whole Cert.Decode0.main_v1_scv : Memref Cert.Decode0.sig Kind.scVector Space.hbm Cert.Decode0.S512x2x128 EltTy.i32)
local notation "cM" => (Memref.whole Cert.Decode0.main_v3_scv : Memref Cert.Decode0.sig Kind.scVector Space.hbm Cert.Decode0.S512x7x8x128 EltTy.i32)
local notation "yM" => (Memref.whole Cert.Decode0.main_v4_scv : Memref Cert.Decode0.sig Kind.scVector Space.hbm Cert.Decode0.S448x4x4x2x128 EltTy.i32)
local notation "tabM" => (Memref.whole Cert.Decode0.cc0_scratch0 : Memref Cert.Decode0.sig Kind.scVector Space.vmem Cert.Decode0.S512x128 EltTy.i32)
local notation "codM" => (Memref.whole Cert.Decode0.cc0_scratch1 : Memref Cert.Decode0.sig Kind.scVector Space.vmem Cert.Decode0.S2x16x8x32 EltTy.i32)
local notation "obM" => (Memref.whole Cert.Decode0.cc0_scratch2 : Memref Cert.Decode0.sig Kind.scVector Space.vmem Cert.Decode0.S2x16x4x128 EltTy.i32)

/-! ## The rectangles and the semaphores -/

/-- The rectangle of codes of trip `t`, the one of the output, and the plane of the words the tile's table is copied from. -/
def cR (i : grid0.Coords) (t : Nat) : Memref sig .scVector .hbm S16x8x32 .i32 :=
  ((cM).slice (Rect.unit (s := S512x7x8x128) (coff i t) S16x1x8x32.size (coff_inb i t)) (fun _ => rfl)).squeeze S16x8x32 squeezes_S16x1x8x32_S16x8x32
def oR (i : grid0.Coords) (t : Nat) : Memref sig .scVector .hbm S16x4x128 .i32 :=
  ((yM).slice (Rect.unit (s := S448x4x4x2x128) (ooff i t) S16x1x4x1x128.size (ooff_inb i t)) (fun _ => rfl)).squeeze S16x4x128 squeezes_S16x1x4x1x128_S16x4x128
def tR (i : grid0.Coords) : Memref sig .scVector .hbm S512x128 .i32 :=
  ((wM).slice (Rect.unit (s := S512x2x128) (k0_off2 i) S512x1x128.size (k0_off2_inb i)) (fun _ => rfl)).squeeze S512x128 squeezes_S512x1x128_S512x128

theorem inb_s (k : Fin 2) : ∀ a, (![k.val] : Fin 1 → Nat) a + S1.size a ≤ S2.size a := by revert k; decide

/-- The semaphores of slot `k`: of the copies of codes into it, and of the copies of the output out of it. -/
def cA (k : Fin 2) : DmaSem sig := ((cc0_scratch4.slice (Rect.unit (s := S2) ![k.val] S1.size (inb_s k))).squeeze S_ squeezes_S1_S_).sem
def oA (k : Fin 2) : DmaSem sig := ((cc0_scratch5.slice (Rect.unit (s := S2) ![k.val] S1.size (inb_s k))).squeeze S_ squeezes_S1_S_).sem

theorem cR_eq (i : grid0.Coords) (t : Nat) {off : Fin 4 → Nat} (h : off = coff i t) (p : ∀ a, off a + S16x1x8x32.size a ≤ S512x7x8x128.size a) :
    ((cM).slice (Rect.unit (s := S512x7x8x128) off S16x1x8x32.size p) (fun _ => rfl)).squeeze S16x8x32 squeezes_S16x1x8x32_S16x8x32 = cR i t := by
  subst h; rfl
theorem oR_eq (i : grid0.Coords) (t : Nat) {off : Fin 5 → Nat} (h : off = ooff i t) (p : ∀ a, off a + S16x1x4x1x128.size a ≤ S448x4x4x2x128.size a) :
    ((yM).slice (Rect.unit (s := S448x4x4x2x128) off S16x1x4x1x128.size p) (fun _ => rfl)).squeeze S16x4x128 squeezes_S16x1x4x1x128_S16x4x128 = oR i t := by
  subst h; rfl
theorem cSl_eq (k : Fin 2) {off : Fin 4 → Nat} (h : off = ![k.val, 0, 0, 0]) (p : ∀ a, off a + S1x16x8x32.size a ≤ S2x16x8x32.size a) :
    ((codM).slice (Rect.unit (s := S2x16x8x32) off S1x16x8x32.size p) (fun _ => rfl)).squeeze S16x8x32 squeezes_S1x16x8x32_S16x8x32 = cSl k := by
  subst h; rfl
theorem oSl_eq (k : Fin 2) {off : Fin 4 → Nat} (h : off = ![k.val, 0, 0, 0]) (p : ∀ a, off a + S1x16x4x128.size a ≤ S2x16x4x128.size a) :
    ((obM).slice (Rect.unit (s := S2x16x4x128) off S1x16x4x128.size p) (fun _ => rfl)).squeeze S16x4x128 squeezes_S1x16x4x128_S16x4x128 = oSl k := by
  subst h; rfl
theorem cA_eq (k : Fin 2) {off : Fin 1 → Nat} (h : off = ![k.val]) (p : ∀ a, off a + S1.size a ≤ S2.size a) :
    ((cc0_scratch4.slice (Rect.unit (s := S2) off S1.size p)).squeeze S_ squeezes_S1_S_).sem = cA k := by
  subst h; rfl
theorem oA_eq (k : Fin 2) {off : Fin 1 → Nat} (h : off = ![k.val]) (p : ∀ a, off a + S1.size a ≤ S2.size a) :
    ((cc0_scratch5.slice (Rect.unit (s := S2) off S1.size p)).squeeze S_ squeezes_S1_S_).sem = oA k := by
  subst h; rfl

/-! ## What a tile holds -/

section Tile

abbrev wLoc (d : Dev nD) : Loc nD τ sig := (SparseCore.T d).loc main_v1
abbrev cLoc (d : Dev nD) : Loc nD τ sig := (SparseCore.T d).loc main_v3
abbrev yLoc (d : Dev nD) : Loc nD τ sig := (SparseCore.T d).loc main_v4

variable (d : Dev nD) (i : grid0.Coords) (mw : Buf (Elt F) (wLoc d)) (mc : Buf (Elt F) (cLoc d)) (qs : Fin 2 → PosShare TreeShare)
variable (O : CellTallies nD τ sig (HIx 1))

/-- The codes of trip `t`, the tile's table, and what trip `t` puts in the output. -/
def Ct (t : Nat) : Vec F S16x8x32 .i32 := (cR i t).view.read (Elt F) mc
def Tt : Vec F S512x128 .i32 := (tR i).view.read (Elt F) mw
def Wt (t : Nat) : Vec F S16x4x128 .i32 := wantS (Ct d i mc t) (Tt d i mw)

/-- The slot of codes of trip `n` at rest, and filling. -/
def CI (n : Nat) : sProp 𝕄 :=
  iprop((∃ V, Hd (thr d i) (cSl (sl n)) fullShare V) ∗ (cLoc d ↦{qs (sl n)} mc) ∗ semVal (thr d i, .dma (cA (sl n))) 0)
def CG (n : Nat) : sProp 𝕄 :=
  Transfers.Flight EC (thr d i) (.dma (cA (sl n))) none (cSl (sl n)).view.dmaCredit
    iprop(Hd (thr d i) (cSl (sl n)) fullShare (Ct d i mc n) ∗ (cLoc d ↦{qs (sl n)} mc))
def CF (n : Nat) : sProp 𝕄 := if n < 7 then CG d i mc qs n else CI d i mc qs n

/-- The slot of the output of trip `n` at rest, and emptying the unit of two trips before. -/
def OI (n : Nat) : sProp 𝕄 :=
  iprop((∃ V, Hd (thr d i) (oSl (sl n)) fullShare V) ∗ semVal (thr d i, .dma (oA (sl n))) 0)
def OG (n : Nat) : sProp 𝕄 :=
  Transfers.Flight EC (thr d i) (.dma (oA (sl n))) none (oR i (n - 2)).view.dmaCredit
    iprop(Hd (thr d i) (oR i (n - 2)) fullShare (Wt d i mw mc (n - 2)) ∗ Hd (thr d i) (oSl (sl n)) fullShare (Wt d i mw mc (n - 2)))
def OF (n : Nat) : sProp 𝕄 := if n < 2 then OI d i n else OG d i mw mc n

/-- Before trip `u`. -/
def Inv (u : Nat) : sProp 𝕄 :=
  iprop(Hd (thr d i) tabM fullShare (Tt d i mw) ∗ CF d i mc qs u ∗ CI d i mc qs (u + 1) ∗ OF d i mw mc u ∗ OF d i mw mc (u + 1)
    ∗ (bigSep (Finset.Ico u 7) fun t => iprop(∃ V, Hd (thr d i) (oR i t) fullShare V))
    ∗ (bigSep (Finset.range (u - 2)) fun t => Hd (thr d i) (oR i t) fullShare (Wt d i mw mc t))
    ∗ ∃ W, owes (thr d i) O W)

theorem Inv_eq (u : Nat) : (Inv d i mw mc qs O u : sProp 𝕄) =
  iprop(Hd (thr d i) tabM fullShare (Tt d i mw) ∗ CF d i mc qs u ∗ CI d i mc qs (u + 1) ∗ OF d i mw mc u ∗ OF d i mw mc (u + 1)
    ∗ (bigSep (Finset.Ico u 7) fun t => iprop(∃ V, Hd (thr d i) (oR i t) fullShare V))
    ∗ (bigSep (Finset.range (u - 2)) fun t => Hd (thr d i) (oR i t) fullShare (Wt d i mw mc t))
    ∗ ∃ W, owes (thr d i) O W) := rfl
theorem CI_eq (n : Nat) : (CI d i mc qs n : sProp 𝕄) =
  iprop((∃ V, Hd (thr d i) (cSl (sl n)) fullShare V) ∗ (cLoc d ↦{qs (sl n)} mc) ∗ semVal (thr d i, .dma (cA (sl n))) 0) := rfl
theorem OI_eq (n : Nat) : (OI d i n : sProp 𝕄) =
  iprop((∃ V, Hd (thr d i) (oSl (sl n)) fullShare V) ∗ semVal (thr d i, .dma (oA (sl n))) 0) := rfl
theorem CF_lt {n : Nat} (h : n < 7) : (CF d i mc qs n : sProp 𝕄) = CG d i mc qs n := if_pos h
theorem CF_ge {n : Nat} (h : ¬ n < 7) : (CF d i mc qs n : sProp 𝕄) = CI d i mc qs n := if_neg h
theorem OF_lt {n : Nat} (h : n < 2) : (OF d i mw mc n : sProp 𝕄) = OI d i n := if_pos h
theorem OF_ge {n : Nat} (h : ¬ n < 2) : (OF d i mw mc n : sProp 𝕄) = OG d i mw mc n := if_neg h

theorem sl_add2 (n : Nat) : sl (n + 2) = sl n := Fin.ext (Nat.add_mod_right n 2)

theorem CI_add2 (n : Nat) : (CI d i mc qs (n + 2) : sProp 𝕄) = CI d i mc qs n := by unfold CI; rw [sl_add2]

omit [FloatOps F] in
theorem bigSep_Ico (Φ : Nat → sProp 𝕄) {u : Nat} (h : u < 7) :
    bigSep (Finset.Ico u 7) Φ = iprop(Φ u ∗ bigSep (Finset.Ico (u + 1) 7) Φ) := by
  rw [show Finset.Ico u 7 = insert u (Finset.Ico (u + 1) 7) from by ext x; simp only [Finset.mem_Ico, Finset.mem_insert]; omega,
    SparseCore.bigSep_insert' (by simp)]

variable (t1 : Fin (k0_t1_loop i).trips)

/-- The codes, named through a rectangle of them. -/
theorem pts_cR (t : Nat) (q : PosShare TreeShare) :
    ((cR i t).view.loc (thr d i) ↦[Finset.univ]{q} mc : sProp 𝕄) = (cLoc d ↦{q} mc) := rfl

/-- The start of the next trip's copy of codes, under its condition, before `k`. -/
def pNext {β : Type} (k : Prog (TpuEff nD τ sig (Elt F) Λ₀ (thr d i).2) β) : Prog (TpuEff nD τ sig (Elt F) Λ₀ (thr d i).2) β :=
        if k0_h1 : k0_cond1 i t1 = 1#1 then do
            Prog.lift (.enqueueDma
              (((cM).slice (Rect.unit (s := S512x7x8x128) (k0_off4 i t1) S16x1x8x32.size (k0_off4_inb i t1 k0_h1)) (fun _ => rfl)).squeeze S16x8x32 squeezes_S16x1x8x32_S16x8x32)
              (.here (((codM).slice (Rect.unit (s := S2x16x8x32) (k0_off3 i t1) S1x16x8x32.size (k0_off3_inb i t1 k0_h1)) (fun _ => rfl)).squeeze S16x8x32 squeezes_S1x16x8x32_S16x8x32))
              (.dma ((cc0_scratch4.slice (Rect.unit (s := S2) (k0_off5 i t1) S1.size (k0_off5_inb i t1 k0_h1))).squeeze S_ squeezes_S1_S_).sem)
              ((View.wordExact_bits rfl).reshape _ _) ((View.wordExact_bits rfl).reshape _ _) ⟨Or.inl rfl, trivial⟩)
            k
          else k
theorem pNext_eq {β : Type} (k : Prog (TpuEff nD τ sig (Elt F) Λ₀ (thr d i).2) β) :
        (if k0_h1 : k0_cond1 i t1 = 1#1 then do
            Prog.lift (.enqueueDma
              (((cM).slice (Rect.unit (s := S512x7x8x128) (k0_off4 i t1) S16x1x8x32.size (k0_off4_inb i t1 k0_h1)) (fun _ => rfl)).squeeze S16x8x32 squeezes_S16x1x8x32_S16x8x32)
              (.here (((codM).slice (Rect.unit (s := S2x16x8x32) (k0_off3 i t1) S1x16x8x32.size (k0_off3_inb i t1 k0_h1)) (fun _ => rfl)).squeeze S16x8x32 squeezes_S1x16x8x32_S16x8x32))
              (.dma ((cc0_scratch4.slice (Rect.unit (s := S2) (k0_off5 i t1) S1.size (k0_off5_inb i t1 k0_h1))).squeeze S_ squeezes_S1_S_).sem)
              ((View.wordExact_bits rfl).reshape _ _) ((View.wordExact_bits rfl).reshape _ _) ⟨Or.inl rfl, trivial⟩)
            k
          else k) = pNext d i t1 k := rfl
attribute [irreducible] pNext

/-- The copy of the next trip's codes, started unless this is the last trip. -/
theorem wp_next {β : Type} (k : Prog (TpuEff nD τ sig (Elt F) Λ₀ (thr d i).2) β) {Q : β → sProp 𝕄} :
    iprop(CI d i mc qs (t1.val + 1) ∗ (CF d i mc qs (t1.val + 1) -∗ wp frame (wpE (defs₀ (F := F)) Variants.none (thr d i) none) Set.univ k Q))
      ⊢ wp frame (wpE (defs₀ (F := F)) Variants.none (thr d i) none) Set.univ
        (pNext d i t1 k) Q := by
  rw [← pNext_eq]
  rcases Classical.em (k0_cond1 i t1 = 1#1) with h | h
  · have ht : t1.val + 1 < 7 := (cond1_iff i t1).1 h
    rw [dif_pos h, wp_bind, CF_lt d i mc qs ht]
    unfold CG
    iintro ⟨HC, HQ⟩
    ihave HC := (Entails.of_eq (CI_eq d i mc qs _)) $$ HC
    icases HC with ⟨⟨%V, HS⟩, Hm, Hv⟩
    iapply (wp_start (thr d i) EC Variants.none none (defs := defs₀) (cR_eq i (t1.val + 1) (off4 i t1 ht) (k0_off4_inb i t1 h))
      (cSl_eq (sl (t1.val + 1)) (off3 i t1) (k0_off3_inb i t1 h)) (cA_eq (sl (t1.val + 1)) (off5 i t1) (k0_off5_inb i t1 h))
      (Ss := Finset.univ) (Finset.subset_univ _) none (by decide) (fs := mc) (q := qs (sl (t1.val + 1))) (V0 := V))
    rw [pts_cR d i mc]
    isplitl [Hm]; · iexact Hm
    isplitl [HS]; · iexact HS
    isplitl [Hv]; · iexact Hv
    iintro HF
    iapply HQ
    iexact HF
  · have ht : ¬ t1.val + 1 < 7 := fun ht => h ((cond1_iff i t1).2 ht)
    rw [dif_neg h, CF_ge d i mc qs ht]
    iintro ⟨HC, HQ⟩
    iapply HQ
    iexact HC

/-- The copy of this trip's codes, waited for. -/
theorem wp_here {Q : PUnit → sProp 𝕄} :
    iprop(CF d i mc qs t1.val ∗ Transfers.MayWaits (thr d i) none O ∗ (∃ W, owes (thr d i) O W)
      ∗ (iprop(Hd (thr d i) (cSl (sl t1.val)) fullShare (Ct d i mc t1.val) ∗ (cLoc d ↦{qs (sl t1.val)} mc) ∗ semVal (thr d i, .dma (cA (sl t1.val))) 0
          ∗ (∃ W, owes (thr d i) O W)) -∗ Q ⟨⟩))
      ⊢ wp frame (wpE (defs₀ (F := F)) Variants.none (thr d i) none) Set.univ
        (Prog.lift (.waitDma2 ((cc0_scratch4.slice (Rect.unit (s := S2) (k0_off8 i t1) S1.size (k0_off8_inb i t1))).squeeze S_ squeezes_S1_S_).sem
          (((cM).slice (Rect.unit (s := S512x7x8x128) (k0_off7 i t1) S16x1x8x32.size (k0_off7_inb i t1)) (fun _ => rfl)).squeeze S16x8x32 squeezes_S16x1x8x32_S16x8x32)
          (((codM).slice (Rect.unit (s := S2x16x8x32) (k0_off6 i t1) S1x16x8x32.size (k0_off6_inb i t1)) (fun _ => rfl)).squeeze S16x8x32 squeezes_S1x16x8x32_S16x8x32)
          ((View.wordExact_bits rfl).reshape _ _) ((View.wordExact_bits rfl).reshape _ _))) Q := by
  rw [CF_lt d i mc qs (t_lt i t1)]
  unfold CG
  iintro ⟨HF, Hmw, HO, HQ⟩
  iapply (wp_wait (thr d i) EC Variants.none none (defs := defs₀) (cSl_eq (sl t1.val) (k0_off6_eq i t1) (k0_off6_inb i t1))
    (cA_eq (sl t1.val) (k0_off8_eq i t1) (k0_off8_inb i t1)) none (O := O))
  isplitl [HF]; · iexact HF
  isplitl [Hmw]; · iexact Hmw
  isplitl [HO]; · iexact HO
  iintro ⟨⟨HS, Hm⟩, Hv, HO⟩
  iapply HQ
  isplitl [HS]; · iexact HS
  isplitl [Hm]; · iexact Hm
  isplitl [Hv]; · iexact Hv
  iexact HO

/-- The copy of the output of two trips before, waited for unless there is none. -/
theorem wp_back {β : Type} (k : Prog (TpuEff nD τ sig (Elt F) Λ₀ (thr d i).2) β) {Q : β → sProp 𝕄} :
    iprop(OF d i mw mc t1.val ∗ (bigSep (Finset.range (t1.val - 2)) fun t => Hd (thr d i) (oR i t) fullShare (Wt d i mw mc t))
      ∗ Transfers.MayWaits (thr d i) none O ∗ (∃ W, owes (thr d i) O W)
      ∗ (iprop(OI d i t1.val ∗ (bigSep (Finset.range (t1.val + 1 - 2)) fun t => Hd (thr d i) (oR i t) fullShare (Wt d i mw mc t))
          ∗ (∃ W, owes (thr d i) O W)) -∗ wp frame (wpE (defs₀ (F := F)) Variants.none (thr d i) none) Set.univ k Q))
      ⊢ wp frame (wpE (defs₀ (F := F)) Variants.none (thr d i) none) Set.univ
        (if k0_h2 : k0_cond2 i t1 = 1#1 then do
            Prog.lift (.waitDma2 ((cc0_scratch5.slice (Rect.unit (s := S2) (k0_off11 i t1) S1.size (k0_off11_inb i t1 k0_h2))).squeeze S_ squeezes_S1_S_).sem
              (((obM).slice (Rect.unit (s := S2x16x4x128) (k0_off9 i t1) S1x16x4x128.size (k0_off9_inb i t1 k0_h2)) (fun _ => rfl)).squeeze S16x4x128 squeezes_S1x16x4x128_S16x4x128)
              (((yM).slice (Rect.unit (s := S448x4x4x2x128) (k0_off10 i t1) S16x1x4x1x128.size (k0_off10_inb i t1 k0_h2)) (fun _ => rfl)).squeeze S16x4x128 squeezes_S16x1x4x1x128_S16x4x128)
              ((View.wordExact_bits rfl).reshape _ _) ((View.wordExact_bits rfl).reshape _ _))
            k
          else k) Q := by
  rcases Classical.em (k0_cond2 i t1 = 1#1) with h | h
  · have ht : 1 < t1.val := (cond2_iff i t1).1 h
    rw [dif_pos h, wp_bind, OF_ge d i mw mc (by omega), show t1.val + 1 - 2 = t1.val - 2 + 1 by omega, Finset.range_add_one,
      SparseCore.bigSep_insert' Finset.notMem_range_self]
    unfold OG
    iintro ⟨HF, HR, Hmw, HO, HQ⟩
    iapply (wp_wait (thr d i) EC Variants.none none (defs := defs₀) (oR_eq i (t1.val - 2) (off10 i t1 h) (k0_off10_inb i t1 h))
      (oA_eq (sl t1.val) (k0_off11_eq i t1) (k0_off11_inb i t1 h)) none (O := O))
    isplitl [HF]; · iexact HF
    isplitl [Hmw]; · iexact Hmw
    isplitl [HO]; · iexact HO
    iintro ⟨⟨HY, HS⟩, Hv, HO⟩
    iapply HQ
    isplitl [HS Hv]
    · iapply (Entails.of_eq (OI_eq d i _).symm)
      isplitl [HS]; · iexists _; iexact HS
      iexact Hv
    isplitl [HY HR]
    · isplitl [HY]; · iexact HY
      iexact HR
    iexact HO
  · have ht : ¬ 1 < t1.val := fun ht => h ((cond2_iff i t1).2 ht)
    rw [dif_neg h, OF_lt d i mw mc (by omega), show t1.val + 1 - 2 = 0 by omega, show t1.val - 2 = 0 by omega]
    iintro ⟨HF, HR, Hmw, HO, HQ⟩
    iapply HQ
    isplitl [HF]; · iexact HF
    isplitl [HR]; · iexact HR
    iexact HO

/-- The copy of this trip's output, started. -/
theorem wp_out {Q : PUnit → sProp 𝕄} :
    iprop(Hd (thr d i) (oSl (sl t1.val)) fullShare (Wt d i mw mc t1.val) ∗ semVal (thr d i, .dma (oA (sl t1.val))) 0
      ∗ (∃ V, Hd (thr d i) (oR i t1.val) fullShare V) ∗ (OF d i mw mc (t1.val + 2) -∗ Q ⟨⟩))
      ⊢ wp frame (wpE (defs₀ (F := F)) Variants.none (thr d i) none) Set.univ
        (Prog.lift (.enqueueDma
          (((obM).slice (Rect.unit (s := S2x16x4x128) (k0_off60 i t1) S1x16x4x128.size (k0_off60_inb i t1)) (fun _ => rfl)).squeeze S16x4x128 squeezes_S1x16x4x128_S16x4x128)
          (.here (((yM).slice (Rect.unit (s := S448x4x4x2x128) (k0_off61 i t1) S16x1x4x1x128.size (k0_off61_inb i t1)) (fun _ => rfl)).squeeze S16x4x128 squeezes_S16x1x4x1x128_S16x4x128))
          (.dma ((cc0_scratch5.slice (Rect.unit (s := S2) (k0_off62 i t1) S1.size (k0_off62_inb i t1))).squeeze S_ squeezes_S1_S_).sem)
          ((View.wordExact_bits rfl).reshape _ _) ((View.wordExact_bits rfl).reshape _ _) ⟨Or.inl rfl, trivial⟩)) Q := by
  rw [OF_ge d i mw mc (show ¬ t1.val + 2 < 2 by omega)]
  unfold OG
  rw [sl_add2, Nat.add_sub_cancel]
  iintro ⟨HS, Hv, ⟨%V, HY⟩, HQ⟩
  iapply (wp_start' (thr d i) EC Variants.none none (defs := defs₀) (oSl_eq (sl t1.val) (k0_off60_eq i t1) (k0_off60_inb i t1))
    (oR_eq i t1.val (off61 i t1) (k0_off61_inb i t1)) (oA_eq (sl t1.val) (k0_off62_eq i t1) (k0_off62_inb i t1)) none (by decide)
    (q := fullShare) (V := Wt d i mw mc t1.val) (V0 := V))
  isplitl [HS]; · iexact HS
  isplitl [HY]; · iexact HY
  isplitl [Hv]; · iexact Hv
  iexact HQ

/-- The body of the outer loop, as the task passes it its arrays. -/
def pBody (v3 v7 : BitVec 32) : Fin (k0_t1_loop i).trips → PUnit.{1} → Prog (TpuEff nD τ sig (Elt F) Λ₀ (thr d i).2) PUnit.{1} :=
  (k0_t1_body (F := F) i wM (Memref.isWhole_whole _) cM (Memref.isWhole_whole _) yM (Memref.isWhole_whole _)
    tabM (Memref.isWhole_whole _) codM (Memref.isWhole_whole _) obM (Memref.isWhole_whole _) cc0_scratch3 cc0_scratch4 cc0_scratch5 v3 v7 lanes
    (dg 0) (dg 1) (dg 2) (dg 3) (dg 4) (dg 5) (dg 6) (dg 7) (dg 8) (dg 9) (dg 10) (dg 11) (dg 12) (dg 13) (dg 14) (dg 15)
    1#32 0#32 0#32)
theorem pBody_eq (v3 v7 : BitVec 32) :
  (k0_t1_body (F := F) i wM (Memref.isWhole_whole _) cM (Memref.isWhole_whole _) yM (Memref.isWhole_whole _)
    tabM (Memref.isWhole_whole _) codM (Memref.isWhole_whole _) obM (Memref.isWhole_whole _) cc0_scratch3 cc0_scratch4 cc0_scratch5 v3 v7 lanes
    (dg 0) (dg 1) (dg 2) (dg 3) (dg 4) (dg 5) (dg 6) (dg 7) (dg 8) (dg 9) (dg 10) (dg 11) (dg 12) (dg 13) (dg 14) (dg 15)
    1#32 0#32 0#32) = pBody d i v3 v7 := rfl
attribute [irreducible] pBody

/-- A trip. -/
theorem wp_trip (v3 v7 : BitVec 32) :
    iprop(Transfers.MayWaits (thr d i) none O ∗ Inv d i mw mc qs O t1.val)
      ⊢ wp frame (wpE (defs₀ (F := F)) Variants.none (thr d i) none) Set.univ (pBody d i v3 v7 t1 ⟨⟩)
        fun _ => Inv d i mw mc qs O (t1.val + 1) := by
  rw [← pBody_eq]
  unfold k0_t1_body
  rw [wp_bind, k0_part18_eq_skeleton]
  unfold k0_part18_skel
  iintro ⟨#Hmw, HI⟩
  ihave HI := (Entails.of_eq (Inv_eq d i mw mc qs O _)) $$ HI
  icases HI with ⟨HT, HCF, HCI, HOF, HOF', HY, HR, HO⟩
  dsimp only
  rw [pNext_eq d i t1]
  iapply (wp_next d i mc qs t1)
  isplitl [HCI]; · iexact HCI
  iintro HCF'
  rw [wp_bind]
  iapply (wp_here d i mc qs O t1)
  isplitl [HCF]; · iexact HCF
  isplitr; · iexact Hmw
  isplitl [HO]; · iexact HO
  iintro ⟨HS, Hm, Hv, HO⟩
  iapply (wp_back d i mw mc O t1)
  isplitl [HOF]; · iexact HOF
  isplitl [HR]; · iexact HR
  isplitr; · iexact Hmw
  isplitl [HO]; · iexact HO
  iintro ⟨HOI, HR, HO⟩
  ihave HOI := (Entails.of_eq (OI_eq d i _)) $$ HOI
  icases HOI with ⟨⟨%W, HB⟩, Hvo⟩
  rw [wp_bind]
  iapply (wp_inner d i Variants.none none t1 (C := Ct d i mc t1.val) (T := Tt d i mw) (W := W))
  isplitl [HS]; · iexact HS
  isplitl [HT]; · iexact HT
  isplitl [HB]; · iexact HB
  iintro ⟨HS, HT, HB⟩
  rw [wp_pure]
  imodintro
  rw [wp_bind]
  ihave HY := (Entails.of_eq (bigSep_Ico (fun t => iprop(∃ V, Hd (thr d i) (oR i t) fullShare V)) (t_lt i t1))) $$ HY
  icases HY with ⟨Hy, HY⟩
  iapply (wp_out d i mw mc t1)
  isplitl [HB]; · iexact HB
  isplitl [Hvo]; · iexact Hvo
  isplitl [Hy]; · iexact Hy
  iintro HOF
  rw [wp_pure]
  imodintro
  iapply (Entails.of_eq (Inv_eq d i mw mc qs O _).symm)
  isplitl [HT]; · iexact HT
  isplitl [HCF']; · iexact HCF'
  isplitl [HS Hm Hv]
  · iapply (Entails.of_eq (CI_add2 d i mc qs t1.val).symm)
    iapply (Entails.of_eq (CI_eq d i mc qs t1.val).symm)
    isplitl [HS]; · iexists _; iexact HS
    isplitl [Hm]; · iexact Hm
    iexact Hv
  isplitl [HOF']; · iexact HOF'
  isplitl [HOF]; · iexact HOF
  isplitl [HY]; · iexact HY
  isplitl [HR]; · iexact HR
  iexact HO

end Tile

end Cert.Proof.Decode0Tile
end
-- ==== Proof.Decode0Sets.lean ====
/-
  Where the rectangles of a tile's copies lie, and what the decode call computes: `Y` is the whole output, and every
  tile's rectangle of it reads what the tile puts there (`read_Y`). The two slots of a scratch array split it, and the
  rectangles of all tiles split the output.
-/
module

public import proofs.«01_k».proof.Proof.Decode0Tile

@[expose] public section

noncomputable section

namespace Cert.Proof.Decode0Sets

open Cert.Decode0 Cert.Decode0.Gen
open Cert.Proof.DecodeBlock Cert.Proof.Decode0Body Cert.Proof.Decode0Inner Cert.Proof.Decode0Offs Cert.Proof.Decode0Tile
open Idealize.ShloMosaic

variable {F : FTy → Type} [FloatOps F]

/-! ## Positions -/

theorem cR_emb (i : grid0.Coords) (t : Nat) (y : S16x8x32.Idx) (a : Fin 4) :
    ((show S512x7x8x128.Idx from (cR i t).view.emb y) a).val = coff i t a + (![(y 0).val, 0, (y 1).val, (y 2).val] : Fin 4 → Nat) a := by
  show (((Rect.unit (s := S512x7x8x128) (coff i t) S16x1x8x32.size (coff_inb i t)).emb
    (Shape.reshapeEquiv squeezes_S16x1x8x32_S16x8x32.numel_eq y)) a).val = _
  rw [show Shape.reshapeEquiv squeezes_S16x1x8x32_S16x8x32.numel_eq y
      = (fun | 0 => y 0 | 1 => ⟨0, Nat.one_pos⟩ | 2 => y 1 | 3 => y 2 | ⟨_ + 4, h⟩ => absurd h (Nat.not_lt.2 (Nat.le_add_left _ _)) : S16x1x8x32.Idx) from
    Shape.reshapeEquiv_eq_of_rowMajor _ (by
      rw [Shape.rowMajor_val_three, Shape.rowMajor_val_four]
      show (((y 0).val * 1 + 0) * 8 + (y 1).val) * 32 + (y 2).val = ((y 0).val * 8 + (y 1).val) * 32 + (y 2).val
      rw [Nat.mul_one, Nat.add_zero]), Rect.emb_apply]
  match a with
  | 0 => show coff i t 0 + 1 * (y 0).val = coff i t 0 + (y 0).val; omega
  | 1 => show coff i t 1 + 1 * 0 = coff i t 1 + 0; omega
  | 2 => show coff i t 2 + 1 * (y 1).val = coff i t 2 + (y 1).val; omega
  | 3 => show coff i t 3 + 1 * (y 2).val = coff i t 3 + (y 2).val; omega
theorem oR_emb (i : grid0.Coords) (t : Nat) (y : S16x4x128.Idx) (a : Fin 5) :
    ((show S448x4x4x2x128.Idx from (oR i t).view.emb y) a).val = ooff i t a + (![(y 0).val, 0, (y 1).val, 0, (y 2).val] : Fin 5 → Nat) a := by
  show (((Rect.unit (s := S448x4x4x2x128) (ooff i t) S16x1x4x1x128.size (ooff_inb i t)).emb
    (Shape.reshapeEquiv squeezes_S16x1x4x1x128_S16x4x128.numel_eq y)) a).val = _
  rw [show Shape.reshapeEquiv squeezes_S16x1x4x1x128_S16x4x128.numel_eq y
      = (fun | 0 => y 0 | 1 => ⟨0, Nat.one_pos⟩ | 2 => y 1 | 3 => ⟨0, Nat.one_pos⟩ | 4 => y 2
             | ⟨_ + 5, h⟩ => absurd h (Nat.not_lt.2 (Nat.le_add_left _ _)) : S16x1x4x1x128.Idx) from
    Shape.reshapeEquiv_eq_of_rowMajor _ (by
      rw [Shape.rowMajor_val_three, Shape.rowMajor_val_five]
      show ((((y 0).val * 1 + 0) * 4 + (y 1).val) * 1 + 0) * 128 + (y 2).val = ((y 0).val * 4 + (y 1).val) * 128 + (y 2).val
      simp only [Nat.mul_one, Nat.add_zero]), Rect.emb_apply]
  match a with
  | 0 => show ooff i t 0 + 1 * (y 0).val = ooff i t 0 + (y 0).val; omega
  | 1 => show ooff i t 1 + 1 * 0 = ooff i t 1 + 0; omega
  | 2 => show ooff i t 2 + 1 * (y 1).val = ooff i t 2 + (y 1).val; omega
  | 3 => show ooff i t 3 + 1 * 0 = ooff i t 3 + 0; omega
  | 4 => show ooff i t 4 + 1 * (y 2).val = ooff i t 4 + (y 2).val; omega
theorem tR_emb (i : grid0.Coords) (y : S512x128.Idx) (a : Fin 3) :
    ((show S512x2x128.Idx from (tR i).view.emb y) a).val = (![(y 0).val, (i 1).val % 2, (y 1).val] : Fin 3 → Nat) a := by
  show (((Rect.unit (s := S512x2x128) (k0_off2 i) S512x1x128.size (k0_off2_inb i)).emb
    (Shape.reshapeEquiv squeezes_S512x1x128_S512x128.numel_eq y)) a).val = _
  rw [show Shape.reshapeEquiv squeezes_S512x1x128_S512x128.numel_eq y
      = (fun | 0 => y 0 | 1 => ⟨0, Nat.one_pos⟩ | 2 => y 1 | ⟨_ + 3, h⟩ => absurd h (Nat.not_lt.2 (Nat.le_add_left _ _)) : S512x1x128.Idx) from
    Shape.reshapeEquiv_eq_of_rowMajor _ (by
      rw [Shape.rowMajor_val_two, Shape.rowMajor_val_three]
      show ((y 0).val * 1 + 0) * 128 + (y 1).val = (y 0).val * 128 + (y 1).val
      rw [Nat.mul_one, Nat.add_zero]), Rect.emb_apply]
  refine (congrArg (· + _) (congrFun (k0_off2_eq i) a)).trans ?_
  match a with
  | 0 => show 0 + 1 * (y 0).val = (y 0).val; omega
  | 1 => show (i 1).val % 2 + 1 * 0 = (i 1).val % 2; omega
  | 2 => show 0 + 1 * (y 1).val = (y 1).val; omega

/-! ## The whole output -/

/-- The code output position `x` is decoded from: word `(x₄, 2·x₀ + x₂/2)` of the codes, its low half at even `x₂`, its high half at odd. -/
def cpos (x : S448x4x4x2x128.Idx) : S512x7x8x128.Idx :=
  fun | 0 => ⟨0 + 16 * (x 1).val + (x 4).val / 8, by
          have h1 : (x 1).val < 4 := (x 1).isLt; have h4 : (x 4).val < 128 := (x 4).isLt; show _ < 512; omega⟩
      | 1 => ⟨(2 * (x 0).val + (x 2).val / 2) / 128, by
          have h0 : (x 0).val < 448 := (x 0).isLt; have h2 : (x 2).val < 4 := (x 2).isLt; show _ < 7; omega⟩
      | 2 => ⟨(x 4).val % 8, by show _ < 8; omega⟩
      | 3 => ⟨(2 * (x 0).val + (x 2).val / 2) % 128, by show _ < 128; omega⟩
      | ⟨_ + 4, h⟩ => absurd h (Nat.not_lt.2 (Nat.le_add_left _ _))
/-- Word `x₃` of code `c`. -/
def wpos (c : Nat) (hc : c < 65536) (x : S448x4x4x2x128.Idx) : S512x2x128.Idx :=
  fun | 0 => ⟨c / 128, by show _ < 512; omega⟩
      | 1 => ⟨(x 3).val, (x 3).isLt⟩
      | 2 => ⟨c % 128, by show _ < 128; omega⟩
      | ⟨_ + 3, h⟩ => absurd h (Nat.not_lt.2 (Nat.le_add_left _ _))
/-- What the call leaves in its output. -/
def Y (mw : Vec F S512x2x128 .i32) (mc : Vec F S512x7x8x128 .i32) : Vec F S448x4x4x2x128 .i32 :=
  fun x => mw (wpos (code ((x 2).val % 2 == 1) (mc (cpos x))) (code_lt _ _) x)

theorem read_Y (d : Dev nD) (i : grid0.Coords) (t : Nat) (mw : Vec F S512x2x128 .i32) (mc : Vec F S512x7x8x128 .i32) :
    (oR i t).view.read (Elt F) (Y mw mc) = Wt d i mw mc t := by
  funext y
  have h0 : (y 0).val < 16 := (y 0).isLt
  have h1 : (y 1).val < 4 := (y 1).isLt
  have h2 : (y 2).val < 128 := (y 2).isLt
  have hu := un_lt i t
  show Y mw mc ((oR i t).view.emb y) = wantS (Ct d i mc t) (Tt d i mw) y
  obtain ⟨x, hx⟩ : ∃ x : S448x4x4x2x128.Idx, x = (oR i t).view.emb y := ⟨_, rfl⟩
  refine (congrArg (Y mw mc) hx.symm).trans ?_
  have e0 : (x 0).val = 16 * (un i t % 28) + (y 0).val := by rw [hx]; exact oR_emb i t y 0
  have e1 : (x 1).val = un i t / 28 + 0 := by rw [hx]; exact oR_emb i t y 1
  have e2 : (x 2).val = 0 + (y 1).val := by rw [hx]; exact oR_emb i t y 2
  have e3 : (x 3).val = (i 1).val % 2 + 0 := by rw [hx]; exact oR_emb i t y 3
  have e4 : (x 4).val = 0 + (y 2).val := by rw [hx]; exact oR_emb i t y 4
  have hc : cpos x = (cR i t).view.emb (cixS y) := by
    funext a
    refine Fin.ext (Eq.trans ?_ (cR_emb i t (cixS y) a).symm)
    match a with
    | 0 => show 0 + 16 * (x 1).val + (x 4).val / 8 = (16 * (un i t / 28) + 0) + (y 2).val / 8; omega
    | 1 => show (2 * (x 0).val + (x 2).val / 2) / 128 = un i t % 28 / 4 + 0; omega
    | 2 => show (x 4).val % 8 = 0 + (y 2).val % 8; omega
    | 3 => show (2 * (x 0).val + (x 2).val / 2) % 128 = 32 * (un i t % 28 % 4) + (2 * (y 0).val + (y 1).val / 2); omega
  have hb : ((x 2).val % 2 == 1) = ((y 1).val % 2 == 1) := by rw [e2, Nat.zero_add]
  show mw (wpos (code ((x 2).val % 2 == 1) (mc (cpos x))) (code_lt _ _) x)
    = mw ((tR i).view.emb (tix (code ((y 1).val % 2 == 1) (mc ((cR i t).view.emb (cixS y)))) (code_lt _ _)))
  have hw : ∀ (c : Nat) (hc : c < 65536), wpos c hc x = (tR i).view.emb (tix c hc) := fun c hc => by
    funext a
    refine Fin.ext (Eq.trans ?_ (tR_emb i (tix c hc) a).symm)
    match a with
    | 0 => rfl
    | 1 => exact e3
    | 2 => rfl
  rw [hw]
  have ht : ∀ {b b' : Bool} {v v' : BitVec 32}, b = b' → v = v' → tix (code b v) (code_lt b v) = tix (code b' v') (code_lt b' v') := by
    rintro _ _ _ _ rfl rfl; rfl
  exact congrArg (fun p => mw ((tR i).view.emb p)) (ht hb (congrArg mc hc))

/-! ## The sets -/

theorem mem_cSl (k : Fin 2) (x : S2x16x8x32.Idx) : x ∈ (show Finset S2x16x8x32.Idx from (cSl k).view.set) ↔ (x 0).val = k.val := by
  constructor
  · intro h
    obtain ⟨y, -, hy⟩ := Finset.mem_map.1 h
    have e := cSl_emb k y 0
    rw [← hy]; exact e
  · intro h
    refine Finset.mem_map.2 ⟨(fun | 0 => x 1 | 1 => x 2 | 2 => x 3 | ⟨_ + 3, h⟩ => absurd h (Nat.not_lt.2 (Nat.le_add_left _ _)) : S16x8x32.Idx), Finset.mem_univ _, ?_⟩
    funext a
    refine Fin.ext ((cSl_emb k _ a).trans ?_)
    match a with
    | 0 => exact h.symm
    | 1 => rfl
    | 2 => rfl
    | 3 => rfl
theorem mem_oSl (k : Fin 2) (x : S2x16x4x128.Idx) : x ∈ (show Finset S2x16x4x128.Idx from (oSl k).view.set) ↔ (x 0).val = k.val := by
  constructor
  · intro h
    obtain ⟨y, -, hy⟩ := Finset.mem_map.1 h
    have e := oSl_emb k y 0
    rw [← hy]; exact e
  · intro h
    refine Finset.mem_map.2 ⟨(fun | 0 => x 1 | 1 => x 2 | 2 => x 3 | ⟨_ + 3, h⟩ => absurd h (Nat.not_lt.2 (Nat.le_add_left _ _)) : S16x4x128.Idx), Finset.mem_univ _, ?_⟩
    funext a
    refine Fin.ext ((oSl_emb k _ a).trans ?_)
    match a with
    | 0 => exact h.symm
    | 1 => rfl
    | 2 => rfl
    | 3 => rfl

theorem cSl_compl : (Finset.univ : Finset S2x16x8x32.Idx) \ (show Finset S2x16x8x32.Idx from (cSl 0).view.set) = (show Finset S2x16x8x32.Idx from (cSl 1).view.set) := by
  ext x
  have h : (x 0).val < 2 := (x 0).isLt
  rw [Finset.mem_sdiff, mem_cSl, mem_cSl]
  show (_ ∧ ¬ (x 0).val = 0) ↔ (x 0).val = 1
  simp only [Finset.mem_univ, true_and]; omega
theorem oSl_compl : (Finset.univ : Finset S2x16x4x128.Idx) \ (show Finset S2x16x4x128.Idx from (oSl 0).view.set) = (show Finset S2x16x4x128.Idx from (oSl 1).view.set) := by
  ext x
  have h : (x 0).val < 2 := (x 0).isLt
  rw [Finset.mem_sdiff, mem_oSl, mem_oSl]
  show (_ ∧ ¬ (x 0).val = 0) ↔ (x 0).val = 1
  simp only [Finset.mem_univ, true_and]; omega

theorem mem_oR (i : grid0.Coords) (t : Nat) (x : S448x4x4x2x128.Idx) :
    x ∈ (show Finset S448x4x4x2x128.Idx from (oR i t).view.set)
      ↔ 28 * (x 1).val + (x 0).val / 16 = un i t ∧ (x 3).val = (i 1).val % 2 := by
  have hu := un_lt i t
  have h0 : (x 0).val < 448 := (x 0).isLt
  constructor
  · intro h
    obtain ⟨y, -, hy⟩ := Finset.mem_map.1 h
    have hy0 : (y 0).val < 16 := (y 0).isLt
    have e0 : (x 0).val = 16 * (un i t % 28) + (y 0).val := by rw [← hy]; exact oR_emb i t y 0
    have e1 : (x 1).val = un i t / 28 + 0 := by rw [← hy]; exact oR_emb i t y 1
    have e3 : (x 3).val = (i 1).val % 2 + 0 := by rw [← hy]; exact oR_emb i t y 3
    omega
  · rintro ⟨h, h3⟩
    refine Finset.mem_map.2 ⟨(fun | 0 => ⟨(x 0).val % 16, Nat.mod_lt _ (by decide)⟩ | 1 => x 2 | 2 => x 4 | ⟨_ + 3, h⟩ => absurd h (Nat.not_lt.2 (Nat.le_add_left _ _)) : S16x4x128.Idx), Finset.mem_univ _, ?_⟩
    funext a
    refine Fin.ext ((oR_emb i t _ a).trans ?_)
    match a with
    | 0 => show 16 * (un i t % 28) + (x 0).val % 16 = (x 0).val; omega
    | 1 => show un i t / 28 + 0 = (x 1).val; omega
    | 2 => show 0 + (x 2).val = (x 2).val; omega
    | 3 => show (i 1).val % 2 + 0 = (x 3).val; omega
    | 4 => show 0 + (x 4).val = (x 4).val; omega

/-- What tile `i` writes of the output, and what core `c`'s tiles do. -/
def oSet (i : grid0.Coords) (t : Nat) : Finset S448x4x4x2x128.Idx := (oR i t).view.set
def tileSet (i : grid0.Coords) : Finset S448x4x4x2x128.Idx := (Finset.range 7).biUnion (oSet i)
/-- The coordinates of tile `s` of core `c`. -/
def cd (c : Fin 2) (s : Fin 16) : grid0.Coords :=
  fun | 0 => c | 1 => s | ⟨_ + 2, h⟩ => absurd h (Nat.not_lt.2 (Nat.le_add_left _ _))
def coreSet (c : Fin 2) : Finset S448x4x4x2x128.Idx := Finset.univ.biUnion fun s : Fin 16 => tileSet (cd c s)

theorem mem_tileSet (i : grid0.Coords) (x : S448x4x4x2x128.Idx) :
    x ∈ tileSet i ↔ (28 * (x 1).val + (x 0).val / 16) % 16 = 8 * (i 0).val + (i 1).val / 2 ∧ (x 3).val = (i 1).val % 2 := by
  have h0 : (x 0).val < 448 := (x 0).isLt
  have h1 : (x 1).val < 4 := (x 1).isLt
  have hi0 := i0_lt i; have hi1 := i1_lt i
  unfold tileSet
  rw [Finset.mem_biUnion]
  constructor
  · rintro ⟨t, ht, h⟩
    rw [Finset.mem_range] at ht
    have h := (mem_oR i t x).1 h
    rw [un_of_lt i ht] at h
    omega
  · rintro ⟨h, h3⟩
    refine ⟨(28 * (x 1).val + (x 0).val / 16) / 16, Finset.mem_range.2 (by omega), (mem_oR i _ x).2 ⟨?_, h3⟩⟩
    rw [un_of_lt i (by omega)]; omega

theorem oSet_disjoint (i : grid0.Coords) : ∀ t ∈ Finset.range 7, ∀ t' ∈ Finset.range 7, t ≠ t' → Disjoint (oSet i t) (oSet i t') := by
  intro t ht t' ht' hn
  rw [Finset.mem_range] at ht ht'
  refine Finset.disjoint_left.2 fun x h h' => hn ?_
  have h := (mem_oR i t x).1 h
  have h' := (mem_oR i t' x).1 h'
  rw [un_of_lt i ht] at h
  rw [un_of_lt i ht'] at h'
  omega
theorem tileSet_disjoint (c : Fin 2) : ∀ s ∈ (Finset.univ : Finset (Fin 16)), ∀ s' ∈ (Finset.univ : Finset (Fin 16)), s ≠ s' →
    Disjoint (tileSet (cd c s)) (tileSet (cd c s')) := by
  intro s _ s' _ hn
  refine Finset.disjoint_left.2 fun x h h' => hn (Fin.ext ?_)
  have h : _ = 8 * c.val + s.val / 2 ∧ _ = s.val % 2 := (mem_tileSet (cd c s) x).1 h
  have h' : _ = 8 * c.val + s'.val / 2 ∧ _ = s'.val % 2 := (mem_tileSet (cd c s') x).1 h'
  omega
theorem mem_coreSet (c : Fin 2) (x : S448x4x4x2x128.Idx) : x ∈ coreSet c ↔ (28 * (x 1).val + (x 0).val / 16) % 16 / 8 = c.val := by
  have h3 : (x 3).val < 2 := (x 3).isLt
  have hc := c.isLt
  unfold coreSet
  rw [Finset.mem_biUnion]
  constructor
  · rintro ⟨s, -, h⟩
    have h : _ = 8 * c.val + s.val / 2 ∧ _ = s.val % 2 := (mem_tileSet (cd c s) x).1 h
    have hs := s.isLt
    omega
  · intro h
    refine ⟨⟨2 * ((28 * (x 1).val + (x 0).val / 16) % 16 % 8) + (x 3).val, by omega⟩, Finset.mem_univ _, (mem_tileSet _ x).2 ⟨?_, ?_⟩⟩
    · show _ = 8 * c.val + (2 * ((28 * (x 1).val + (x 0).val / 16) % 16 % 8) + (x 3).val) / 2; omega
    · show (x 3).val = (2 * ((28 * (x 1).val + (x 0).val / 16) % 16 % 8) + (x 3).val) % 2; omega
theorem coreSet_disjoint : ∀ c ∈ (Finset.univ : Finset (Fin 2)), ∀ c' ∈ (Finset.univ : Finset (Fin 2)), c ≠ c' → Disjoint (coreSet c) (coreSet c') := by
  intro c _ c' _ hn
  refine Finset.disjoint_left.2 fun x h h' => hn (Fin.ext ?_)
  rw [← (mem_coreSet c x).1 h, ← (mem_coreSet c' x).1 h']
theorem coreSet_cover : (Finset.univ : Finset (Fin 2)).biUnion coreSet = Finset.univ := by
  refine Finset.eq_univ_iff_forall.2 fun x => Finset.mem_biUnion.2 ?_
  exact ⟨⟨(28 * (x 1).val + (x 0).val / 16) % 16 / 8, by omega⟩, Finset.mem_univ _, (mem_coreSet _ x).2 rfl⟩

end Cert.Proof.Decode0Sets
end
-- ==== Proof.Decode0Whole.lean ====
/-
  A tile of the decode call, start to end: its table copied in, the first copy of codes started, the trips, and the last
  two copies of the output waited for (`wp_tile`).
-/
module

public import proofs.«01_k».proof.Proof.Decode0Tile

@[expose] public section

noncomputable section

namespace Cert.Proof.Decode0Whole

open Cert.Decode0 Cert.Decode0.Gen
open Cert.Proof.DecodeBlock Cert.Proof.Decode0Body Cert.Proof.Decode0Copy Cert.Proof.Decode0Inner Cert.Proof.Decode0Offs Cert.Proof.Decode0Tile
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem Idealize.SL.ProofMode
open Idealize.ShloMosaic.Tactic

variable {F : FTy → Type} [FloatOps F]

local notation "𝕄" => MT nD τ sig (HIx 1) (Elt F) ℕ UU ℕ
local notation "EC" => (Idealize.ShloMosaic.countersEmb : UEmb Counters (MT nD τ sig (HIx 1) (Elt F) ℕ UU ℕ))

local notation "wM" => (Memref.whole Cert.Decode0.main_v1_scv : Memref Cert.Decode0.sig Kind.scVector Space.hbm Cert.Decode0.S512x2x128 EltTy.i32)
local notation "cM" => (Memref.whole Cert.Decode0.main_v3_scv : Memref Cert.Decode0.sig Kind.scVector Space.hbm Cert.Decode0.S512x7x8x128 EltTy.i32)
local notation "yM" => (Memref.whole Cert.Decode0.main_v4_scv : Memref Cert.Decode0.sig Kind.scVector Space.hbm Cert.Decode0.S448x4x4x2x128 EltTy.i32)
local notation "tabM" => (Memref.whole Cert.Decode0.cc0_scratch0 : Memref Cert.Decode0.sig Kind.scVector Space.vmem Cert.Decode0.S512x128 EltTy.i32)
local notation "codM" => (Memref.whole Cert.Decode0.cc0_scratch1 : Memref Cert.Decode0.sig Kind.scVector Space.vmem Cert.Decode0.S2x16x8x32 EltTy.i32)
local notation "obM" => (Memref.whole Cert.Decode0.cc0_scratch2 : Memref Cert.Decode0.sig Kind.scVector Space.vmem Cert.Decode0.S2x16x4x128 EltTy.i32)

variable (d : Dev nD) (i : grid0.Coords) (mw : Buf (Elt F) (wLoc d)) (mc : Buf (Elt F) (cLoc d)) (qw : PosShare TreeShare) (qs : Fin 2 → PosShare TreeShare)
variable (O : CellTallies nD τ sig (HIx 1))

theorem pts_tR : ((tR i).view.loc (thr d i) ↦[Finset.univ]{qw} mw : sProp 𝕄) = (wLoc d ↦{qw} mw) := rfl

/-- The scratch and the semaphores of a tile at rest, the table apart. -/
def Rest : sProp 𝕄 := iprop(CI d i mc qs 0 ∗ CI d i mc qs 1 ∗ OI d i 0 ∗ OI d i 1 ∗ semVal (thr d i, .dma (SemArray.sem cc0_scratch3)) 0)
theorem Rest_eq : (Rest d i mc qs : sProp 𝕄)
    = iprop(CI d i mc qs 0 ∗ CI d i mc qs 1 ∗ OI d i 0 ∗ OI d i 1 ∗ semVal (thr d i, .dma (SemArray.sem cc0_scratch3)) 0) := rfl

theorem sl_of {m n : Nat} (h : m % 2 = n % 2) : sl m = sl n := Fin.ext h
theorem CI_of {m n : Nat} (h : m % 2 = n % 2) : (CI d i mc qs m : sProp 𝕄) = CI d i mc qs n := by unfold CI; rw [sl_of h]
theorem OI_of {m n : Nat} (h : m % 2 = n % 2) : (OI d i m : sProp 𝕄) = OI d i n := by unfold OI; rw [sl_of h]

/-- The evidence for the waits is kept by whatever runs. -/
theorem keep {p : Prog (TpuEff nD τ sig (Elt F) Λ₀ (thr d i).2) PUnit.{1}} {I J : sProp 𝕄}
    (h : iprop(Transfers.MayWaits (thr d i) none O ∗ I) ⊢ wp frame (wpE (defs₀ (F := F)) Variants.none (thr d i) none) Set.univ p fun _ => J) :
    iprop(Transfers.MayWaits (thr d i) none O ∗ I) ⊢ wp frame (wpE (defs₀ (F := F)) Variants.none (thr d i) none) Set.univ p
      fun _ => iprop(Transfers.MayWaits (thr d i) none O ∗ J) := by
  refine BIBase.Entails.trans ?_ (wp_frame_l frame (wpE (defs₀ (F := F)) Variants.none (thr d i) none) Set.univ)
  iintro ⟨#H, HI⟩
  isplitr; · iexact H
  iapply h
  isplitr; · iexact H
  iexact HI

/-- All trips. -/
def pLoop (v3 v7 : BitVec 32) : Prog (TpuEff nD τ sig (Elt F) Λ₀ (thr d i).2) PUnit.{1} :=
  Scf.Loop.for (k0_t1_loop i) (k0_t1_ok i) (PUnit.unit : PUnit.{1}) (pBody d i v3 v7)
theorem pLoop_eq (v3 v7 : BitVec 32) :
    (Scf.Loop.for (k0_t1_loop i) (k0_t1_ok i) (PUnit.unit : PUnit.{1}) (pBody (F := F) d i v3 v7)) = pLoop d i v3 v7 := rfl
attribute [irreducible] pLoop

theorem wp_loop (v3 v7 : BitVec 32) {Q : PUnit → sProp 𝕄} :
    iprop(Transfers.MayWaits (thr d i) none O ∗ Inv d i mw mc qs O 0 ∗ (Inv d i mw mc qs O 7 -∗ Q ⟨⟩))
      ⊢ wp frame (wpE (defs₀ (F := F)) Variants.none (thr d i) none) Set.univ (pLoop d i v3 v7) Q := by
  rw [← pLoop_eq]
  refine BIBase.Entails.trans ?_ (Scf.wp_for frame (wpE (defs₀ (F := F)) Variants.none (thr d i) none) Set.univ _ _ _ (k0_t1_ok i) (PUnit.unit : PUnit.{1}) _
    (fun b _ => iprop(Transfers.MayWaits (thr d i) none O ∗ Inv d i mw mc qs O b)) ?_)
  · rw [show Scf.trips _ _ _ = 7 from trips1 i]
    iintro ⟨#H, HI, HQ⟩
    isplitl [HI]
    · isplitr; · iexact H
      iexact HI
    iintro %_ ⟨-, HI⟩
    iapply HQ
    iexact HI
  · exact fun t1 _ => keep d i O (wp_trip d i mw mc qs O t1 v3 v7)

theorem wp_tile :
    iprop(Transfers.MayWaits (thr d i) none O ∗ (wLoc d ↦{qw} mw) ∗ (∃ V, Hd (thr d i) tabM fullShare V) ∗ Rest d i mc qs
      ∗ (bigSep (Finset.Ico 0 7) fun t => iprop(∃ V, Hd (thr d i) (oR i t) fullShare V)) ∗ (∃ W, owes (thr d i) O W))
      ⊢ wp frame (wpE (defs₀ (F := F)) Variants.none (thr d i) none) Set.univ
        (cc0_decode_0 (F := F) i wM (Memref.isWhole_whole _) cM (Memref.isWhole_whole _) yM (Memref.isWhole_whole _)
          tabM (Memref.isWhole_whole _) codM (Memref.isWhole_whole _) obM (Memref.isWhole_whole _) cc0_scratch3 cc0_scratch4 cc0_scratch5)
        fun _ => iprop((wLoc d ↦{qw} mw) ∗ (∃ V, Hd (thr d i) tabM fullShare V) ∗ Rest d i mc qs
          ∗ (bigSep (Finset.range 7) fun t => Hd (thr d i) (oR i t) fullShare (Wt d i mw mc t)) ∗ (∃ W, owes (thr d i) O W)) := by
  rw [cc0_decode_0_eq_skeleton]
  unfold cc0_decode_0_skel
  iintro ⟨#Hmw, Hw, ⟨%VT, HT⟩, HR, HY, HO⟩
  ihave HR := (Entails.of_eq (Rest_eq d i mc qs)) $$ HR
  icases HR with ⟨HC0, HC1, HO0, HO1, HvT⟩
  ihave HC0 := (Entails.of_eq (CI_eq d i mc qs 0)) $$ HC0
  icases HC0 with ⟨⟨%V, HS⟩, Hm, Hv⟩
  rw [wp_bind, k0_part37_eq_skeleton]
  unfold k0_part37_skel
  dsimp only
  rw [wp_bind]
  iapply (wp_start (thr d i) EC Variants.none none (defs := defs₀) (cR_eq i 0 (off1 i) (k0_off1_inb i))
      (cSl_eq (sl 0) rfl inb_S2x16x8x32_S1x16x8x32_0_0_0_0) (cA_eq (sl 0) rfl inb_S2_S1_0)
      (Ss := Finset.univ) (Finset.subset_univ _) none (by decide) (fs := mc) (q := qs (sl 0)) (V0 := V))
  rw [pts_cR d i mc]
  isplitl [Hm]; · iexact Hm
  isplitl [HS]; · iexact HS
  isplitl [Hv]; · iexact Hv
  iintro HF
  rw [wp_pure]
  imodintro
  dsimp only
  rw [wp_bind, k0_part38_eq_skeleton]
  unfold k0_part38_skel
  dsimp only
  rw [wp_bind]
  iapply (wp_start (thr d i) EC Variants.none none (defs := defs₀) (src' := tR i) (dst' := tabM) (sm' := SemArray.sem cc0_scratch3) rfl rfl rfl
      (Ss := Finset.univ) (Finset.subset_univ _) none (by decide) (fs := mw) (q := qw) (V0 := VT))
  rw [pts_tR d i mw]
  isplitl [Hw]; · iexact Hw
  isplitl [HT]; · iexact HT
  isplitl [HvT]; · iexact HvT
  iintro HFT
  rw [wp_bind]
  iapply (wp_wait (thr d i) EC Variants.none none (defs := defs₀) (dst' := tabM) (sm' := SemArray.sem cc0_scratch3) rfl rfl none (O := O))
  isplitl [HFT]; · iexact HFT
  isplitr; · iexact Hmw
  isplitl [HO]; · iexact HO
  iintro ⟨⟨HT, Hw⟩, HvT, HO⟩
  rw [wp_pure]
  imodintro
  dsimp only
  rw [iota_eq, v38_eq, v42_eq, v46_eq, v50_eq, v54_eq, v58_eq, v62_eq]
  rw [wp_bind, k0_part39_eq_skeleton]
  unfold k0_part39_skel
  dsimp only
  rw [wp_pure]
  imodintro
  dsimp only
  rw [v66_eq, v70_eq, v74_eq, v78_eq, v82_eq, v86_eq, v90_eq, v94_eq, v98_eq]
  rw [wp_bind]
  rw [pBody_eq d i, pLoop_eq d i]
  iapply (wp_loop d i mw mc qs O _ _)
  isplitr; · iexact Hmw
  isplitl [HT HF HC1 HO0 HO1 HY HO]
  · iapply (Entails.of_eq (Inv_eq d i mw mc qs O 0).symm)
    rw [CF_lt d i mc qs (by omega : 0 < 7), OF_lt d i mw mc (by omega : 0 < 2), OF_lt d i mw mc (by omega : 0 + 1 < 2)]
    isplitl [HT]; · iexact HT
    isplitl [HF]; · unfold CG; iexact HF
    isplitl [HC1]; · iexact HC1
    isplitl [HO0]; · iexact HO0
    isplitl [HO1]; · iexact HO1
    isplitl [HY]; · iexact HY
    isplitr
    · rw [show Finset.range (0 - 2) = ∅ from rfl, bigSep_empty]; iempintro
    iexact HO
  iintro HI
  ihave HI := (Entails.of_eq (Inv_eq d i mw mc qs O 7)) $$ HI
  rw [CF_ge d i mc qs (by omega : ¬ 7 < 7), OF_ge d i mw mc (by omega : ¬ 7 < 2), OF_ge d i mw mc (by omega : ¬ 7 + 1 < 2)]
  icases HI with ⟨HT, HC1, HC0, HG0, HG1, -, HR, HO⟩
  iapply (Scf.wp_for0_bind frame (wpE (defs₀ (F := F)) Variants.none (thr d i) none) Set.univ _ _ _ _ _ (trips3 i) _ _ _ .rfl)
  rw [dif_pos (cond5 i)]
  rw [wp_bind]
  unfold OG
  iapply (wp_wait (thr d i) EC Variants.none none (defs := defs₀) (oR_eq i 5 (off123 i) _) (oA_eq (sl 7) (off124 i) _) none (O := O))
  isplitl [HG0]; · iexact HG0
  isplitr; · iexact Hmw
  isplitl [HO]; · iexact HO
  iintro ⟨⟨HY0, HB0⟩, Hv0, HO⟩
  dsimp only
  rw [dif_pos (cond6 i)]
  rw [wp_bind]
  iapply (wp_wait (thr d i) EC Variants.none none (defs := defs₀) (oR_eq i 6 (off126 i) _) (oA_eq (sl 8) (off127 i) _) none (O := O))
  isplitl [HG1]; · iexact HG1
  isplitr; · iexact Hmw
  isplitl [HO]; · iexact HO
  iintro ⟨⟨HY1, HB1⟩, Hv1, HO⟩
  rw [wp_pure]
  imodintro
  isplitl [Hw]; · iexact Hw
  isplitl [HT]; · iexists _; iexact HT
  isplitl [HC0 HC1 HB0 HB1 Hv0 Hv1 HvT]
  · iapply (Entails.of_eq (Rest_eq d i mc qs).symm)
    rw [CI_of d i mc qs (show 0 % 2 = (7 + 1) % 2 from rfl), CI_of d i mc qs (show 1 % 2 = 7 % 2 from rfl),
      OI_of d i (show 0 % 2 = 8 % 2 from rfl), OI_of d i (show 1 % 2 = 7 % 2 from rfl)]
    isplitl [HC0]; · iexact HC0
    isplitl [HC1]; · iexact HC1
    isplitl [HB1 Hv1]
    · iapply (Entails.of_eq (OI_eq d i 8).symm)
      isplitl [HB1]; · iexists _; iexact HB1
      iexact Hv1
    isplitl [HB0 Hv0]
    · iapply (Entails.of_eq (OI_eq d i 7).symm)
      isplitl [HB0]; · iexists _; iexact HB0
      iexact Hv0
    iexact HvT
  isplitl [HR HY0 HY1]
  · rw [show Finset.range 7 = insert 6 (insert 5 (Finset.range 5)) by decide,
      SparseCore.bigSep_insert' (by decide), SparseCore.bigSep_insert' (by decide)]
    isplitl [HY1]; · iexact HY1
    isplitl [HY0]; · iexact HY0
    iexact HR
  iexact HO

end Cert.Proof.Decode0Whole
end
-- ==== Proof.Decode0Task.lean ====
/-
  A tile's task as the launch hands it over: shares of the two arguments whole, the tile's part of the output, the
  tile's scratch arrays and its semaphores (`tile_body`). The part of the output comes back at `Y`.
-/
module

public import proofs.«01_k».proof.Proof.Decode0Sets
public import proofs.«01_k».proof.Proof.Decode0Whole
public import Idealize.ShloMosaic.Lib.SparseCore.Quiescent
public import Idealize.ShloMosaic.Lib.StableHlo.Run
public import Idealize.ShloMosaic.Lib.Pipeline.Kit

@[expose] public section

noncomputable section

namespace Cert.Proof.Decode0Task

open Cert.Decode0 Cert.Decode0.Gen
open Cert.Proof.DecodeBlock Cert.Proof.Decode0Body Cert.Proof.Decode0Copy Cert.Proof.Decode0Inner Cert.Proof.Decode0Offs Cert.Proof.Decode0Tile
open Cert.Proof.Decode0Sets Cert.Proof.Decode0Whole
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "wM" => (Memref.whole Cert.Decode0.main_v1_scv : Memref Cert.Decode0.sig Kind.scVector Space.hbm Cert.Decode0.S512x2x128 EltTy.i32)
local notation "cM" => (Memref.whole Cert.Decode0.main_v3_scv : Memref Cert.Decode0.sig Kind.scVector Space.hbm Cert.Decode0.S512x7x8x128 EltTy.i32)
local notation "yM" => (Memref.whole Cert.Decode0.main_v4_scv : Memref Cert.Decode0.sig Kind.scVector Space.hbm Cert.Decode0.S448x4x4x2x128 EltTy.i32)
local notation "tabM" => (Memref.whole Cert.Decode0.cc0_scratch0 : Memref Cert.Decode0.sig Kind.scVector Space.vmem Cert.Decode0.S512x128 EltTy.i32)
local notation "codM" => (Memref.whole Cert.Decode0.cc0_scratch1 : Memref Cert.Decode0.sig Kind.scVector Space.vmem Cert.Decode0.S2x16x8x32 EltTy.i32)
local notation "obM" => (Memref.whole Cert.Decode0.cc0_scratch2 : Memref Cert.Decode0.sig Kind.scVector Space.vmem Cert.Decode0.S2x16x4x128 EltTy.i32)

abbrev ΛP : Labels := Pipeline.Sig Λ₀ (Fin 0) fun p => (pcfgs (F := F) p).Adm
abbrev K : SparseCore.Cfg τ sig (ΛP (F := F)) 1 := sc (F := F)

variable (d : Dev nD) (i : grid0.Coords) (mw : Buf (Elt F) (wLoc d)) (mc : Buf (Elt F) (cLoc d)) (q : PosShare TreeShare)

/-! ## The scratch arrays -/

abbrev tabLoc : Loc nD τ sig := (thr d i).loc cc0_scratch0
abbrev codLoc : Loc nD τ sig := (thr d i).loc cc0_scratch1
abbrev obLoc : Loc nD τ sig := (thr d i).loc cc0_scratch2

theorem tab_in (f : Buf (Elt F) (tabLoc d i)) : (tabLoc d i ↦{fullShare} f : sProp 𝕄) ⊢ iprop(∃ V, Hd (thr d i) tabM fullShare V) := by
  iintro H
  iexists _
  iapply (Entails.of_eq (Hd_eq (thr d i) tabM fullShare _).symm)
  iexists f
  isplitr; · ipureintro; rfl
  rw [show (tabM).view.set = Finset.univ from View.set_whole _]
  iexact H
theorem tab_out : iprop(∃ V, Hd (thr d i) tabM fullShare V) ⊢ (iprop(∃ f, tabLoc d i ↦{fullShare} f) : sProp 𝕄) := by
  iintro ⟨%V, H⟩
  ihave H := (Entails.of_eq (Hd_eq (thr d i) tabM fullShare _)) $$ H
  icases H with ⟨%f, -, H⟩
  rw [show (tabM).view.set = Finset.univ from View.set_whole _]
  iexists f
  iexact H

/-- Slot `k` of the scratch array, as a set of its positions. -/
def codSet (k : Fin 2) : Finset (Idx (codLoc d i)) := (cSl k).view.set
theorem codSet_compl : Finset.univ \ codSet d i 0 = codSet d i 1 := cSl_compl
theorem cod_hd (k : Fin 2) (f : Buf (Elt F) (codLoc d i)) : (codLoc d i ↦[codSet d i k]{fullShare} f : sProp 𝕄) ⊢ iprop(∃ V, Hd (thr d i) (cSl k) fullShare V) := by
  iintro H
  iexists _
  iapply (Entails.of_eq (Hd_eq (thr d i) (cSl k) fullShare _).symm)
  iexists f
  isplitr; · ipureintro; rfl
  iexact H
theorem cod_dh (k : Fin 2) : iprop(∃ V, Hd (thr d i) (cSl k) fullShare V) ⊢ (iprop(∃ f : Buf (Elt F) (codLoc d i), codLoc d i ↦[codSet d i k]{fullShare} f) : sProp 𝕄) := by
  iintro ⟨%V, H⟩
  ihave H := (Entails.of_eq (Hd_eq (thr d i) (cSl k) fullShare _)) $$ H
  icases H with ⟨%f, -, H⟩
  iexists f
  iexact H
theorem cod_in (f : Buf (Elt F) (codLoc d i)) :
    (codLoc d i ↦{fullShare} f : sProp 𝕄) ⊢ iprop((∃ V, Hd (thr d i) (cSl 0) fullShare V) ∗ ∃ V, Hd (thr d i) (cSl 1) fullShare V) := by
  refine ((pointsTo_split_subset (ℓ := codLoc d i) (I := codSet d i 0) (Finset.subset_univ _)).1).trans ?_
  rw [codSet_compl d i]
  exact BI.sep_mono (cod_hd d i 0 f) (cod_hd d i 1 f)
theorem cod_out :
    iprop((∃ V, Hd (thr d i) (cSl 0) fullShare V) ∗ ∃ V, Hd (thr d i) (cSl 1) fullShare V) ⊢ (iprop(∃ f, codLoc d i ↦{fullShare} f) : sProp 𝕄) := by
  iintro ⟨H0, H1⟩
  ihave H0 := (cod_dh d i 0) $$ H0
  ihave H1 := (cod_dh d i 1) $$ H1
  icases H0 with ⟨%f0, H0⟩
  icases H1 with ⟨%f1, H1⟩
  rw [← codSet_compl d i]
  iexists _
  iapply (pointsTo_join_subset (ℓ := codLoc d i) (I := codSet d i 0) (S := Finset.univ) (f := f1) (g := f0) (Finset.subset_univ _))
  isplitl [H0]; · iexact H0
  iexact H1
/-- Slot `k` of the scratch array, as a set of its positions. -/
def obSet (k : Fin 2) : Finset (Idx (obLoc d i)) := (oSl k).view.set
theorem obSet_compl : Finset.univ \ obSet d i 0 = obSet d i 1 := oSl_compl
theorem ob_hd (k : Fin 2) (f : Buf (Elt F) (obLoc d i)) : (obLoc d i ↦[obSet d i k]{fullShare} f : sProp 𝕄) ⊢ iprop(∃ V, Hd (thr d i) (oSl k) fullShare V) := by
  iintro H
  iexists _
  iapply (Entails.of_eq (Hd_eq (thr d i) (oSl k) fullShare _).symm)
  iexists f
  isplitr; · ipureintro; rfl
  iexact H
theorem ob_dh (k : Fin 2) : iprop(∃ V, Hd (thr d i) (oSl k) fullShare V) ⊢ (iprop(∃ f : Buf (Elt F) (obLoc d i), obLoc d i ↦[obSet d i k]{fullShare} f) : sProp 𝕄) := by
  iintro ⟨%V, H⟩
  ihave H := (Entails.of_eq (Hd_eq (thr d i) (oSl k) fullShare _)) $$ H
  icases H with ⟨%f, -, H⟩
  iexists f
  iexact H
theorem ob_in (f : Buf (Elt F) (obLoc d i)) :
    (obLoc d i ↦{fullShare} f : sProp 𝕄) ⊢ iprop((∃ V, Hd (thr d i) (oSl 0) fullShare V) ∗ ∃ V, Hd (thr d i) (oSl 1) fullShare V) := by
  refine ((pointsTo_split_subset (ℓ := obLoc d i) (I := obSet d i 0) (Finset.subset_univ _)).1).trans ?_
  rw [obSet_compl d i]
  exact BI.sep_mono (ob_hd d i 0 f) (ob_hd d i 1 f)
theorem ob_out :
    iprop((∃ V, Hd (thr d i) (oSl 0) fullShare V) ∗ ∃ V, Hd (thr d i) (oSl 1) fullShare V) ⊢ (iprop(∃ f, obLoc d i ↦{fullShare} f) : sProp 𝕄) := by
  iintro ⟨H0, H1⟩
  ihave H0 := (ob_dh d i 0) $$ H0
  ihave H1 := (ob_dh d i 1) $$ H1
  icases H0 with ⟨%f0, H0⟩
  icases H1 with ⟨%f1, H1⟩
  rw [← obSet_compl d i]
  iexists _
  iapply (pointsTo_join_subset (ℓ := obLoc d i) (I := obSet d i 0) (S := Finset.univ) (f := f1) (g := f0) (Finset.subset_univ _))
  isplitl [H0]; · iexact H0
  iexact H1

/-! ## The tile's part of the output -/

theorem out_hd (t : Nat) (f : Buf (Elt F) (yLoc d)) : (yLoc d ↦[oSet i t]{fullShare} f : sProp 𝕄) ⊢ iprop(∃ V, Hd (thr d i) (oR i t) fullShare V) := by
  iintro H
  iexists _
  iapply (Entails.of_eq (Hd_eq (thr d i) (oR i t) fullShare _).symm)
  iexists f
  isplitr; · ipureintro; rfl
  iexact H
theorem out_dh (t : Nat) : (Hd (thr d i) (oR i t) fullShare (Wt d i mw mc t) : sProp 𝕄) ⊢ (yLoc d ↦[oSet i t]{fullShare} Y mw mc) := by
  iintro H
  ihave H := (Entails.of_eq (Hd_eq (thr d i) (oR i t) fullShare _)) $$ H
  icases H with ⟨%f, %hf, H⟩
  rw [← pointsTo_congr (ℓ := yLoc d) (I := oSet i t) (f := f) (g := Y mw mc) (fun x hx => by
    obtain ⟨y, -, rfl⟩ := Finset.mem_map.1 hx
    exact congrFun (hf.trans (read_Y d i t mw mc).symm) y)]
  iexact H
theorem out_in (f : Buf (Elt F) (yLoc d)) :
    (yLoc d ↦[tileSet i]{fullShare} f : sProp 𝕄) ⊢ bigSep (Finset.Ico 0 7) fun t => iprop(∃ V, Hd (thr d i) (oR i t) fullShare V) := by
  unfold tileSet
  rw [pointsTo_biUnion (ℓ := yLoc d) (Finset.range 7) (oSet i) (oSet_disjoint i), Finset.range_eq_Ico]
  exact bigSep_mono fun t _ => out_hd d i t f
theorem out_out :
    (bigSep (Finset.range 7) fun t => Hd (thr d i) (oR i t) fullShare (Wt d i mw mc t)) ⊢ (yLoc d ↦[tileSet i]{fullShare} Y mw mc : sProp 𝕄) := by
  unfold tileSet
  rw [pointsTo_biUnion (ℓ := yLoc d) (Finset.range 7) (oSet i) (oSet_disjoint i)]
  exact bigSep_mono fun t _ => out_dh d i mw mc t

omit [FloatOps F] in
theorem fin_two (Φ : Fin 2 → sProp 𝕄) : bigSep Finset.univ Φ = iprop(Φ 0 ∗ Φ 1) := BI.bigSep_fin_two Φ

/-! ## The semaphores -/

abbrev cell (s : DmaSem sig) : GSem nD τ sig := (thr d i, .dma s)
theorem cell_mem (s : DmaSem sig) (h : (SemLoc.dma s : SemLoc sig).isScoped .scVector = true) : cell d i s ∈ ownCells (thr d i) :=
  (mem_ownCells (g := cell d i s)).mpr ⟨rfl, h⟩
theorem cell_ne {s s' : DmaSem sig} (h : s ≠ s') : cell d i s ≠ cell d i s' := fun e => h (by
  have := congrArg Prod.snd e
  exact SemLoc.dma.inj this)

theorem ownSems0_V :
    (ownSems0 (thr d i) : sProp 𝕄)
      = iprop(semVal (cell d i (SemArray.sem cc0_scratch3)) 0 ∗ semVal (cell d i (cA 0)) 0 ∗ semVal (cell d i (cA 1)) 0 ∗ semVal (cell d i (oA 0)) 0
          ∗ semVal (cell d i (oA 1)) 0
          ∗ bigSep ((((((ownCells (thr d i)).erase (cell d i (SemArray.sem cc0_scratch3))).erase (cell d i (cA 0))).erase (cell d i (cA 1))).erase
              (cell d i (oA 0))).erase (cell d i (oA 1))) fun g => semVal g 0) := by
  unfold SparseCore.Cfg.ownSems0
  rw [SparseCore.bigSep_erase' (cell_mem d i (SemArray.sem cc0_scratch3) (by decide)),
    SparseCore.bigSep_erase' (Finset.mem_erase.mpr ⟨cell_ne d i (by decide), cell_mem d i (cA 0) (by decide)⟩),
    SparseCore.bigSep_erase' (Finset.mem_erase.mpr ⟨cell_ne d i (by decide), Finset.mem_erase.mpr ⟨cell_ne d i (by decide), cell_mem d i (cA 1) (by decide)⟩⟩),
    SparseCore.bigSep_erase' (Finset.mem_erase.mpr ⟨cell_ne d i (by decide), Finset.mem_erase.mpr ⟨cell_ne d i (by decide), Finset.mem_erase.mpr ⟨cell_ne d i (by decide),
      cell_mem d i (oA 0) (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), cell_mem d i (oA 1) (by decide)⟩⟩⟩⟩)]

theorem ownBufs_V :
    (ownBufs (thr d i) : sProp 𝕄)
      = iprop((∃ f, tabLoc d i ↦{fullShare} f) ∗ (∃ f, codLoc d i ↦{fullShare} f) ∗ (∃ f, obLoc d i ↦{fullShare} f)
          ∗ bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2)
    (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (thr d i).2) (b := (thr d i).2.devRef cc0_scratch2) rfl⟩⟩)]

/-! ## The task -/

/-- What a tile is handed, its part of the output at `f`. -/
def Go (f : Buf (Elt F) (yLoc d)) : sProp 𝕄 := iprop((wLoc d ↦{q} mw) ∗ (cLoc d ↦{q} mc) ∗ (yLoc d ↦[tileSet i]{fullShare} f))
theorem Go_eq (f : Buf (Elt F) (yLoc d)) :
    (Go d i mw mc q f : sProp 𝕄) = iprop((wLoc d ↦{q} mw) ∗ (cLoc d ↦{q} mc) ∗ (yLoc d ↦[tileSet i]{fullShare} f)) := rfl

theorem tile_body (hF : (K (F := F)).Facts) (f : Buf (Elt F) (yLoc d)) (O : CellTallies nD τ sig (HIx 1)) (W : Waits sig (HIx 1)) (hO : ∀ g, O g none = 0) :
    iprop(levAts (K (F := F)).L (K (F := F)).lev ∗ emp ∗ Go d i mw mc q f
        ∗ scopedBufs (thr d i) ∗ scopedSems0 (thr d i) ∗ owes (thr d i) O W)
      ⊢ wp frame (wpE (defs₀ (F := F)) Variants.none (thr d i) none) Set.univ
        (cc0_decode_0 (F := F) i wM (Memref.isWhole_whole _) cM (Memref.isWhole_whole _) yM (Memref.isWhole_whole _)
          tabM (Memref.isWhole_whole _) codM (Memref.isWhole_whole _) obM (Memref.isWhole_whole _) cc0_scratch3 cc0_scratch4 cc0_scratch5)
        fun _ => iprop(Go d i mw mc q (Y mw mc) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d _ _, SparseCore.Cfg.scopedSems0_V (Val := Elt F) d _ _, ownSems0_V d i, ownBufs_V d i]
  iintro ⟨#Hlv, -, HG, ⟨⟨%f0, Ht⟩, ⟨%f1, Hc⟩, ⟨%f2, Ho⟩, Hbufs⟩, ⟨Hs3, Hc0, Hc1, Ho0, Ho1, Hsems⟩, HO⟩
  ihave HG := (Entails.of_eq (Go_eq d i mw mc q f)) $$ HG
  icases HG with ⟨Hw, Hm, HY⟩
  ihave Hmw := ((K (F := F)).mayWaits_none (thr := thr d i) hO) $$ Hlv
  ihave Ht := (tab_in d i f0) $$ Ht
  ihave Hc := (cod_in d i f1) $$ Hc
  icases Hc with ⟨HC0, HC1⟩
  ihave Ho := (ob_in d i f2) $$ Ho
  icases Ho with ⟨HO0, HO1⟩
  ihave HY := (out_in d i f) $$ HY
  ihave Hm := (Transfers.pointsTo_toks_split q 2) $$ Hm
  icases Hm with ⟨Hmd, Hmt⟩
  ihave Hmt := (Entails.of_eq (fin_two (F := F) _)) $$ Hmt
  icases Hmt with ⟨Hm0, Hm1⟩
  iapply (wp_wand_r Idealize.ShloMosaic.frame (wpE (defs₀ (F := F)) Variants.none (thr d i) none) Set.univ)
  isplitl [Hw Ht HC0 HC1 HO0 HO1 Hs3 Hc0 Hc1 Ho0 Ho1 Hm0 Hm1 HY HO]
  · iapply (wp_tile d i mw mc q (Transfers.shareTok q 2) O)
    isplitr; · iexact Hmw
    isplitl [Hw]; · iexact Hw
    isplitl [Ht]; · iexact Ht
    isplitl [HC0 HC1 HO0 HO1 Hs3 Hc0 Hc1 Ho0 Ho1 Hm0 Hm1]
    · iapply (Entails.of_eq (Rest_eq d i mc (Transfers.shareTok q 2)).symm)
      isplitl [HC0 Hm0 Hc0]
      · iapply (Entails.of_eq (CI_eq d i mc (Transfers.shareTok q 2) 0).symm)
        isplitl [HC0]; · iexact HC0
        isplitl [Hm0]; · iexact Hm0
        iexact Hc0
      isplitl [HC1 Hm1 Hc1]
      · iapply (Entails.of_eq (CI_eq d i mc (Transfers.shareTok q 2) 1).symm)
        isplitl [HC1]; · iexact HC1
        isplitl [Hm1]; · iexact Hm1
        iexact Hc1
      isplitl [HO0 Ho0]
      · iapply (Entails.of_eq (OI_eq d i 0).symm)
        isplitl [HO0]; · iexact HO0
        iexact Ho0
      isplitl [HO1 Ho1]
      · iapply (Entails.of_eq (OI_eq d i 1).symm)
        isplitl [HO1]; · iexact HO1
        iexact Ho1
      iexact Hs3
    isplitl [HY]; · iexact HY
    iexists W; iexact HO
  iintro %_ ⟨Hw, Ht, HR, HY, ⟨%W', HO⟩⟩
  ihave HR := (Entails.of_eq (Rest_eq d i mc (Transfers.shareTok q 2))) $$ HR
  icases HR with ⟨HC0, HC1, HO0, HO1, Hs3⟩
  ihave HC0 := (Entails.of_eq (CI_eq d i mc (Transfers.shareTok q 2) 0)) $$ HC0
  icases HC0 with ⟨HC0, Hm0, Hc0⟩
  ihave HC1 := (Entails.of_eq (CI_eq d i mc (Transfers.shareTok q 2) 1)) $$ HC1
  icases HC1 with ⟨HC1, Hm1, Hc1⟩
  ihave HO0 := (Entails.of_eq (OI_eq d i 0)) $$ HO0
  icases HO0 with ⟨HO0, Ho0⟩
  ihave HO1 := (Entails.of_eq (OI_eq d i 1)) $$ HO1
  icases HO1 with ⟨HO1, Ho1⟩
  isplitl [Hw Hmd Hm0 Hm1 HY]
  · iapply (Entails.of_eq (Go_eq d i mw mc q (Y mw mc)).symm)
    isplitl [Hw]; · iexact Hw
    isplitl [Hmd Hm0 Hm1]
    · iapply (Transfers.pointsTo_toks_join q 2)
      isplitl [Hmd]; · iexact Hmd
      iapply (Entails.of_eq (fin_two (F := F) _).symm)
      isplitl [Hm0]; · iexact Hm0
      iexact Hm1
    iapply (out_out d i mw mc)
    iexact HY
  isplitl [Ht HC0 HC1 HO0 HO1 Hbufs]
  · isplitl [Ht]; · iapply (tab_out d i); iexact Ht
    isplitl [HC0 HC1]
    · iapply (cod_out d i)
      isplitl [HC0]; · iexact HC0
      iexact HC1
    isplitl [HO0 HO1]
    · iapply (ob_out d i)
      isplitl [HO0]; · iexact HO0
      iexact HO1
    iexact Hbufs
  isplitl [Hs3 Hc0 Hc1 Ho0 Ho1 Hsems]
  · isplitl [Hs3]; · iexact Hs3
    isplitl [Hc0]; · iexact Hc0
    isplitl [Hc1]; · iexact Hc1
    isplitl [Ho0]; · iexact Ho0
    isplitl [Ho1]; · iexact Ho1
    iexact Hsems
  iexists W'; isplitr
  swap; · iexact HO
  ipureintro; intro p _
  rcases p.2 with _ | n
  · exact .inr (.inl rfl)
  · exact .inr (.inr (congrArg some (Subsingleton.elim n 0)))

end Cert.Proof.Decode0Task
end
-- ==== Proof.Decode0Run.lean ====
/-
  The decode call launched: each of the thirty-two tiles takes a share of both arguments and its part of the output and
  brings them back, the part at what the tile decodes (`Y`); before it the host lays both arguments out, after it the host reshapes the output.
  `run_main` is the whole program's run: the result is `Y` of the laid-out arguments, reshaped, both arguments are as they
  were, and every semaphore is at zero.
-/
module

public import proofs.«01_k».proof.Defs
public import proofs.«01_k».proof.Proof.Decode0Task

@[expose] public section

noncomputable section

namespace Cert.Proof.Decode0Run

open Cert.Decode0 Cert.Decode0.Gen
open Cert.Proof.Decode0Inner Cert.Proof.Decode0Tile Cert.Proof.Decode0Sets Cert.Proof.Decode0Task
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- The share of the arguments tile `s` of core `c` holds. -/
def qT (c : Fin 2) (s : Fin 16) : PosShare TreeShare := Transfers.shareTok (Transfers.shareTok fullShare 2 c) 16 s

abbrev waLoc (d : Dev nD) : Loc nD τ sig := (SparseCore.T d).loc main_arg0
abbrev caLoc (d : Dev nD) : Loc nD τ sig := (SparseCore.T d).loc main_arg1

/-- The words as the host lays them out for the call: (row, word of the code, lane), 128 codes to a row. -/
def Wv (d : Dev nD) : Buf (Elt F) (wLoc d) :=
  transpose S512x2x128 [1, 0, 2] (shapeCast S2x512x128 (m (waLoc d)) shapeCasts_S2x65536_S2x512x128) transposes_S2x512x128_S512x2x128_1_0_2
/-- The codes as the host lays them out for the call. -/
def Cv (d : Dev nD) : Buf (Elt F) (cLoc d) :=
  transpose S512x7x8x128 [0, 2, 1, 3] (shapeCast S512x8x7x128 (m (caLoc d)) shapeCasts_S4096x896_S512x8x7x128) transposes_S512x8x7x128_S512x7x8x128_0_2_1_3
/-- The output as the call leaves it. -/
abbrev YV (d : Dev nD) : Buf (Elt F) (yLoc d) := Y (Wv m d) (Cv m d)
/-- What tile `s` of core `c` is handed, its part of the output at `f`. -/
abbrev GoT (d : Dev nD) (c : Fin 2) (s : Fin 16) (f : Buf (Elt F) (yLoc d)) : sProp 𝕄 := Go d (cd c s) (Wv m d) (Cv m d) (qT c s) f

/-! ## What the handshakes carry -/

def P : (K (F := F)).Pay (nD := nD) (Val := Elt F) (Name := ℕ) (U := UU) where
  st := fun q d c => match q with | 0 => bigSep Finset.univ fun s : Fin 16 => GoT m d (Fin.cast nCore_zero c) s (m (yLoc d))
  dn := fun q d c => match q with | 0 => bigSep Finset.univ fun s : Fin 16 => GoT m d (Fin.cast nCore_zero c) s (YV m d)
  go := fun q d c i => match q with | 0 => GoT m d (Fin.cast nCore_zero c) (Fin.cast nSub_zero i) (m (yLoc d))
  td := fun q d c i => match q with | 0 => GoT m d (Fin.cast nCore_zero c) (Fin.cast nSub_zero i) (YV m d)
  x := fun _ _ => iprop(emp)

instance Go_storable (d : Dev nD) (c : Fin 2) (s : Fin 16) (f : Buf (Elt F) (yLoc d)) : BI.Storable (upEmb : UEmb _ 𝕄) (GoT m d c s f) :=
  (inferInstance : BI.Storable (upEmb : UEmb _ 𝕄) iprop((wLoc d ↦{qT c s} Wv m d) ∗ (cLoc d ↦{qT c s} Cv m d) ∗ (yLoc d ↦[tileSet (cd c s)]{fullShare} f)))

instance P_storable : (P (F := F) m).IsStorable where
  st q d c := match q with
    | 0 => (inferInstance : BI.Storable (upEmb : UEmb _ 𝕄) (bigSep Finset.univ fun s : Fin 16 => GoT m d (Fin.cast nCore_zero c) s (m (yLoc d))))
  dn q d c := match q with
    | 0 => (inferInstance : BI.Storable (upEmb : UEmb _ 𝕄) (bigSep Finset.univ fun s : Fin 16 => GoT m d (Fin.cast nCore_zero c) s (YV m d)))
  go q d c i := match q with
    | 0 => (inferInstance : BI.Storable (upEmb : UEmb _ 𝕄) (GoT m d (Fin.cast nCore_zero c) (Fin.cast nSub_zero i) (m (yLoc d))))
  td q d c i := match q with
    | 0 => (inferInstance : BI.Storable (upEmb : UEmb _ 𝕄) (GoT m d (Fin.cast nCore_zero c) (Fin.cast nSub_zero i) (YV m d)))

/-! ## The obligation -/

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 () = SparseCore.onTile hcore0 hsub0 (fun c s => cc0_decode_0 (F := F) (cd c s)
      (Memref.whole main_v1_scv) (Memref.isWhole_whole _) (Memref.whole main_v3_scv) (Memref.isWhole_whole _) (Memref.whole main_v4_scv) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) ⟨⟩ ((K (F := F)).core 0 c) ((K (F := F)).sub 0 i) from rfl]
  simp only [SparseCore.onTile, hci, and_self, ↓reduceDIte]
  exact tile_body d (cd (Fin.cast nCore_zero c) (Fin.cast nSub_zero i)) (Wv m d) (Cv m d) (qT (Fin.cast nCore_zero c) (Fin.cast nSub_zero i)) hF (m (yLoc d)) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => GoT m d (Fin.cast nCore_zero c) s (m (yLoc d))) ⊢ |={Set.univ}=> iprop(
      (bigSep Finset.univ fun i : Fin ((K (F := F)).nSub 0) => GoT m d (Fin.cast nCore_zero c) (Fin.cast nSub_zero i) (m (yLoc d)))
      ∗ ((bigSep Finset.univ fun i : Fin ((K (F := F)).nSub 0) => GoT m d (Fin.cast nCore_zero c) (Fin.cast nSub_zero i) (YV m d))
          -∗ (bigSep Finset.univ fun s : Fin 16 => GoT m d (Fin.cast nCore_zero c) s (YV m d))))
  rw [bigSep_tasks (F := F) (fun i => GoT m d (Fin.cast nCore_zero c) i (m (yLoc d))),
    bigSep_tasks (F := F) (fun i => GoT m d (Fin.cast nCore_zero c) i (YV m d))]
  iintro H; imodintro
  isplitl [H]; · iexact H
  iintro H
  iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## Shares of an array, and the parts of the output -/

/-- An array whole is a share for every tile and what is left over. -/
def Drops (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)
theorem Drops_eq (ℓ : Loc nD τ sig) (f : Buf (Elt F) ℓ) : (Drops ℓ f : sProp 𝕄) =
  iprop((ℓ ↦{Transfers.shareDrop fullShare 2} f) ∗ bigSep Finset.univ fun c : Fin 2 => ℓ ↦{Transfers.shareDrop (Transfers.shareTok fullShare 2 c) 16} f) := rfl
abbrev Shares (ℓ : Loc nD τ sig) (f : Buf (Elt F) ℓ) : sProp 𝕄 :=
  bigSep Finset.univ fun c : Fin 2 => bigSep Finset.univ fun s : Fin 16 => ℓ ↦{qT c s} f
theorem sharesC (ℓ : Loc nD τ sig) (f : Buf (Elt F) ℓ) : (bigSep Finset.univ fun c : Fin 2 => ℓ ↦{Transfers.shareTok fullShare 2 c} f : sProp 𝕄)
    ⊢ iprop((bigSep Finset.univ fun c : Fin 2 => ℓ ↦{Transfers.shareDrop (Transfers.shareTok fullShare 2 c) 16} f) ∗ Shares ℓ f) := by
  unfold Shares
  rw [← bigSep_sep']
  exact bigSep_mono fun c _ => Transfers.pointsTo_toks_split _ 16
theorem joinC (ℓ : Loc nD τ sig) (f : Buf (Elt F) ℓ) :
    iprop((bigSep Finset.univ fun c : Fin 2 => ℓ ↦{Transfers.shareDrop (Transfers.shareTok fullShare 2 c) 16} f) ∗ Shares ℓ f)
      ⊢ (bigSep Finset.univ fun c : Fin 2 => ℓ ↦{Transfers.shareTok fullShare 2 c} f : sProp 𝕄) := by
  unfold Shares
  rw [← bigSep_sep']
  exact bigSep_mono fun c _ => Transfers.pointsTo_toks_join _ 16
theorem shares (ℓ : Loc nD τ sig) (f : Buf (Elt F) ℓ) : (ℓ ↦{fullShare} f : sProp 𝕄) ⊢ iprop(Drops ℓ f ∗ Shares ℓ f) := by
  iintro H
  ihave H := (Transfers.pointsTo_toks_split fullShare 2) $$ H
  icases H with ⟨Hd, Ht⟩
  ihave Ht := (sharesC ℓ f) $$ Ht
  icases Ht with ⟨Hc, Hs⟩
  isplitl [Hd Hc]
  · iapply (Entails.of_eq (Drops_eq ℓ f).symm)
    isplitl [Hd]; · iexact Hd
    iexact Hc
  iexact Hs
theorem joins (ℓ : Loc nD τ sig) (f : Buf (Elt F) ℓ) : iprop(Drops ℓ f ∗ Shares ℓ f) ⊢ (ℓ ↦{fullShare} f : sProp 𝕄) := by
  iintro ⟨HD, Hs⟩
  ihave HD := (Entails.of_eq (Drops_eq ℓ f)) $$ HD
  icases HD with ⟨Hd, Hc⟩
  iapply (Transfers.pointsTo_toks_join fullShare 2)
  isplitl [Hd]; · iexact Hd
  iapply (joinC ℓ f)
  isplitl [Hc]; · iexact Hc
  iexact Hs

theorem yParts (d : Dev nD) (f : Buf (Elt F) (yLoc d)) : (yLoc d ↦{fullShare} f : sProp 𝕄)
    = bigSep Finset.univ fun c : Fin 2 => bigSep Finset.univ fun s : Fin 16 => yLoc d ↦[tileSet (cd c s)]{fullShare} f := by
  rw [show (yLoc d ↦{fullShare} f : sProp 𝕄) = (yLoc d ↦[Finset.univ.biUnion coreSet]{fullShare} f) by rw [coreSet_cover],
    pointsTo_biUnion (ℓ := yLoc d) Finset.univ coreSet coreSet_disjoint]
  refine bigSep_congr fun c _ => ?_
  unfold coreSet
  rw [pointsTo_biUnion (ℓ := yLoc d) Finset.univ (fun s : Fin 16 => tileSet (cd c s)) (tileSet_disjoint c)]

theorem tiles_eq (d : Dev nD) (f : Buf (Elt F) (yLoc d)) :
    (bigSep Finset.univ fun c : Fin 2 => bigSep Finset.univ fun s : Fin 16 => GoT m d c s f)
      = iprop(Shares (wLoc d) (Wv m d) ∗ Shares (cLoc d) (Cv m d) ∗ (yLoc d ↦{fullShare} f)) := by
  rw [yParts, ← bigSep_sep', ← bigSep_sep']
  refine bigSep_congr fun c _ => ?_
  rw [← bigSep_sep', ← bigSep_sep']
  exact bigSep_congr fun s _ => Go_eq _ _ _ _ _ _

theorem st0_eq (d : Dev nD) : (bigSep Finset.univ fun c : Fin ((K (F := F)).nCore 0) => (P m).st 0 d c)
    = iprop(Shares (wLoc d) (Wv m d) ∗ Shares (cLoc d) (Cv m d) ∗ (yLoc d ↦{fullShare} m (yLoc d))) :=
  (bigSep_cores (F := F) fun c => bigSep Finset.univ fun s : Fin 16 => GoT m d c s (m (yLoc d))).trans (tiles_eq m d _)
theorem dn0_eq (d : Dev nD) : (bigSep Finset.univ fun c : Fin ((K (F := F)).nCore 0) => (P m).dn 0 d c)
    = iprop(Shares (wLoc d) (Wv m d) ∗ Shares (cLoc d) (Cv m d) ∗ (yLoc d ↦{fullShare} YV m d)) :=
  (bigSep_cores (F := F) fun c => bigSep Finset.univ fun s : Fin 16 => GoT m d c s (YV m d)).trans (tiles_eq m d _)

/-! ## @main on the TensorCore -/

abbrev rLoc (d : Dev nD) : Loc nD τ sig := (SparseCore.T d).loc main_v5
abbrev wa' : DevRef τ sig := Proc.devRef .tc (main_arg0 : Ref sig .tc)
abbrev ca' : DevRef τ sig := Proc.devRef .tc (main_arg1 : Ref sig .tc)
abbrev w0' : DevRef τ sig := Proc.devRef .tc (main_v0 : Ref sig .tc)
abbrev w' : DevRef τ sig := Proc.devRef .tc (main_v1 : Ref sig .tc)
abbrev c0' : DevRef τ sig := Proc.devRef .tc (main_v2 : Ref sig .tc)
abbrev c' : DevRef τ sig := Proc.devRef .tc (main_v3 : Ref sig .tc)
abbrev y' : DevRef τ sig := Proc.devRef .tc (main_v4 : Ref sig .tc)
abbrev r' : DevRef τ sig := Proc.devRef .tc (main_v5 : Ref sig .tc)
abbrev opA : HloOp τ sig (Elt F) := StableHlo.reshape main_arg0 main_v0 (rfl : (.i32 : EltTy) = .i32) shapeCasts_S2x65536_S2x512x128
abbrev opB : HloOp τ sig (Elt F) := StableHlo.unary main_v0 main_v1 (transpose S512x2x128 [1, 0, 2] · transposes_S2x512x128_S512x2x128_1_0_2)
abbrev opC : HloOp τ sig (Elt F) := StableHlo.reshape main_arg1 main_v2 (rfl : (.i32 : EltTy) = .i32) shapeCasts_S4096x896_S512x8x7x128
abbrev opE : HloOp τ sig (Elt F) := StableHlo.unary main_v2 main_v3 (transpose S512x7x8x128 [0, 2, 1, 3] · transposes_S512x8x7x128_S512x7x8x128_0_2_1_3)
abbrev opR : HloOp τ sig (Elt F) := StableHlo.reshape main_v4 main_v5 (rfl : (.i32 : EltTy) = .i32) shapeCasts_S448x4x4x2x128_S448x4x8x128
abbrev S8 : Finset (DevRef τ sig) := {wa', ca', w0', w', c0', c', y', r'}
theorem hA : (opA (F := F)).bufs ⊆ S8 := show ({wa', w0'} : Finset (DevRef τ sig)) ⊆ S8 by decide
theorem hB : (opB (F := F)).bufs ⊆ S8 := show ({w0', w'} : Finset (DevRef τ sig)) ⊆ S8 by decide
theorem hC : (opC (F := F)).bufs ⊆ S8 := show ({ca', c0'} : Finset (DevRef τ sig)) ⊆ S8 by decide
theorem hE : (opE (F := F)).bufs ⊆ S8 := show ({c0', c'} : Finset (DevRef τ sig)) ⊆ S8 by decide
theorem hR : (opR (F := F)).bufs ⊆ S8 := show ({y', r'} : Finset (DevRef τ sig)) ⊆ S8 by decide

/-- The program's result. -/
def Rv (d : Dev nD) : Buf (Elt F) (rLoc d) := shapeCast (main_v5 : Ref sig .tc).ty.shape (YV m d) shapeCasts_S448x4x4x2x128_S448x4x8x128

theorem held_S8 (d : Dev nD) (W : Valuation τ sig (Elt F)) :
    (held (T d) S8 W : sProp 𝕄)
      = iprop((waLoc d ↦{fullShare} W wa') ∗ (caLoc d ↦{fullShare} W ca') ∗ ((SparseCore.T d).loc main_v0 ↦{fullShare} W w0') ∗ (wLoc d ↦{fullShare} W w')
          ∗ ((SparseCore.T d).loc main_v2 ↦{fullShare} W c0') ∗ (cLoc d ↦{fullShare} W c') ∗ (yLoc d ↦{fullShare} W y') ∗ rLoc d ↦{fullShare} W r') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((waLoc d ↦{fullShare} W main_arg0) ∗ (caLoc d ↦{fullShare} W main_arg1) ∗ ((SparseCore.T d).loc main_v0 ↦{fullShare} W main_v0) ∗ (wLoc d ↦{fullShare} W main_v1)
          ∗ ((SparseCore.T d).loc main_v2 ↦{fullShare} W main_v2) ∗ (cLoc d ↦{fullShare} W main_v3) ∗ (yLoc d ↦{fullShare} W main_v4) ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, and the arrays after each of the four layout operations. -/
def V0 (d : Dev nD) : Valuation τ sig (Elt F) := fun b => m (d, b)
def VA (d : Dev nD) : Valuation τ sig (Elt F) := (opA (F := F)).result (V0 m d)
def VB (d : Dev nD) : Valuation τ sig (Elt F) := (opB (F := F)).result (VA m d)
def VC (d : Dev nD) : Valuation τ sig (Elt F) := (opC (F := F)).result (VB m d)
def VE (d : Dev nD) : Valuation τ sig (Elt F) := (opE (F := F)).result (VC m d)
/-- The arrays after the call. -/
def V1 (d : Dev nD) : Valuation τ sig (Elt F) := Function.update (VE m d) y' (YV m d)

theorem unscoped_held (d : Dev nD) : (unscopedBufs d (fun b => m ((SparseCore.T d).loc b)) : sProp 𝕄) = held (T d) S8 (V0 m d) := by
  rw [unscopedBufs_eq, held_S8]; rfl

theorem VA_of (d : Dev nD) {b : DevRef τ sig} (h : b ∉ ({w0'} : Finset (DevRef τ sig))) : VA m d b = m (d, b) := (opA (F := F)).result_of_not_mem _ h
theorem VB_of (d : Dev nD) {b : DevRef τ sig} (h : b ∉ ({w'} : Finset (DevRef τ sig))) : VB m d b = VA m d b := (opB (F := F)).result_of_not_mem _ h
theorem VC_of (d : Dev nD) {b : DevRef τ sig} (h : b ∉ ({c0'} : Finset (DevRef τ sig))) : VC m d b = VB m d b := (opC (F := F)).result_of_not_mem _ h
theorem VE_of (d : Dev nD) {b : DevRef τ sig} (h : b ∉ ({c'} : Finset (DevRef τ sig))) : VE m d b = VC m d b := (opE (F := F)).result_of_not_mem _ h
theorem VE_wa (d : Dev nD) : VE m d wa' = m (waLoc d) :=
  (VE_of m d (by decide)).trans ((VC_of m d (by decide)).trans ((VB_of m d (by decide)).trans (VA_of m d (by decide))))
theorem VE_ca (d : Dev nD) : VE m d ca' = m (caLoc d) :=
  (VE_of m d (by decide)).trans ((VC_of m d (by decide)).trans ((VB_of m d (by decide)).trans (VA_of m d (by decide))))
theorem VE_y (d : Dev nD) : VE m d y' = m (yLoc d) :=
  (VE_of m d (by decide)).trans ((VC_of m d (by decide)).trans ((VB_of m d (by decide)).trans (VA_of m d (by decide))))
theorem VA_w0 (d : Dev nD) : VA m d w0' = shapeCast S2x512x128 (m (waLoc d)) shapeCasts_S2x65536_S2x512x128 := StableHlo.reshape_result' _ _ _ _ _
theorem VE_w (d : Dev nD) : VE m d w' = Wv m d :=
  (VE_of m d (by decide)).trans ((VC_of m d (by decide)).trans ((StableHlo.unary_result' _ _ _ _).trans (by rw [VA_w0]; rfl)))
theorem VB_ca (d : Dev nD) : VB m d ca' = m (caLoc d) := (VB_of m d (by decide)).trans (VA_of m d (by decide))
theorem VC_c0 (d : Dev nD) : VC m d c0' = shapeCast S512x8x7x128 (m (caLoc d)) shapeCasts_S4096x896_S512x8x7x128 :=
  (StableHlo.reshape_result' _ _ _ _ _).trans (by rw [VB_ca]; rfl)
theorem VE_c (d : Dev nD) : VE m d c' = Cv m d := (StableHlo.unary_result' _ _ _ _).trans (by rw [VC_c0]; rfl)
theorem V1_y (d : Dev nD) : V1 m d y' = YV m d := Function.update_self _ _ _
theorem V1_of (d : Dev nD) {b : DevRef τ sig} (h : b ≠ y') : V1 m d b = VE m d b := Function.update_of_ne h _ _

/-- The arrays before the call, by name. -/
theorem held_VE (d : Dev nD) :
    (held (T d) S8 (VE m d) : sProp 𝕄)
      = iprop((waLoc d ↦{fullShare} m (waLoc d)) ∗ (caLoc d ↦{fullShare} m (caLoc d)) ∗ ((SparseCore.T d).loc main_v0 ↦{fullShare} VE m d w0') ∗ (wLoc d ↦{fullShare} Wv m d)
          ∗ ((SparseCore.T d).loc main_v2 ↦{fullShare} VE m d c0') ∗ (cLoc d ↦{fullShare} Cv m d) ∗ (yLoc d ↦{fullShare} m (yLoc d)) ∗ rLoc d ↦{fullShare} VE m d r') := by
  rw [held_S8, VE_wa, VE_ca, VE_w, VE_c, VE_y]
/-- The arrays after the call, by name. -/
theorem held_V1 (d : Dev nD) :
    (held (T d) S8 (V1 m d) : sProp 𝕄)
      = iprop((waLoc d ↦{fullShare} m (waLoc d)) ∗ (caLoc d ↦{fullShare} m (caLoc d)) ∗ ((SparseCore.T d).loc main_v0 ↦{fullShare} VE m d w0') ∗ (wLoc d ↦{fullShare} Wv m d)
          ∗ ((SparseCore.T d).loc main_v2 ↦{fullShare} VE m d c0') ∗ (cLoc d ↦{fullShare} Cv m d) ∗ (yLoc d ↦{fullShare} YV m d) ∗ rLoc d ↦{fullShare} VE m d r') := by
  rw [held_S8, V1_y, V1_of m d (show wa' ≠ y' by decide), V1_of m d (show ca' ≠ y' by decide), V1_of m d (show w0' ≠ y' by decide), V1_of m d (show w' ≠ y' by decide),
    V1_of m d (show c0' ≠ y' by decide), V1_of m d (show c' ≠ y' by decide), V1_of m d (show r' ≠ y' by decide), VE_wa, VE_ca, VE_w, VE_c]
theorem held_V2 (d : Dev nD) :
    (held (T d) S8 ((opR (F := F)).result (V1 m d)) : sProp 𝕄)
      = iprop((waLoc d ↦{fullShare} m (waLoc d)) ∗ (caLoc d ↦{fullShare} m (caLoc d)) ∗ ((SparseCore.T d).loc main_v0 ↦{fullShare} (opR (F := F)).result (V1 m d) w0')
          ∗ (wLoc d ↦{fullShare} (opR (F := F)).result (V1 m d) w') ∗ ((SparseCore.T d).loc main_v2 ↦{fullShare} (opR (F := F)).result (V1 m d) c0')
          ∗ (cLoc d ↦{fullShare} (opR (F := F)).result (V1 m d) c') ∗ (yLoc d ↦{fullShare} (opR (F := F)).result (V1 m d) y') ∗ rLoc d ↦{fullShare} Rv m d) := by
  rw [held_S8, (opR (F := F)).result_of_not_mem (V1 m d) (b := wa') (show wa' ∉ ({r'} : Finset (DevRef τ sig)) by decide), V1_of m d (show wa' ≠ y' by decide), VE_wa,
    (opR (F := F)).result_of_not_mem (V1 m d) (b := ca') (show ca' ∉ ({r'} : Finset (DevRef τ sig)) by decide), V1_of m d (show ca' ≠ y' by decide), VE_ca,
    show (opR (F := F)).result (V1 m d) r' = Rv m d from (StableHlo.reshape_result' _ _ _ _ _).trans (by rw [V1_y]; rfl)]

/-- What @main leaves the claims. -/
abbrev FIN (d : Dev nD) : sProp 𝕄 := iprop((waLoc d ↦{fullShare} m (waLoc d)) ∗ (caLoc d ↦{fullShare} m (caLoc d)) ∗ rLoc d ↦{fullShare} Rv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S8) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := S8) hB (V := (opA (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := S8) hC (V := (opB (F := F)).result ((opA (F := F)).result (V0 m d)))) $$ [Hb Hheld]
  · isplitl [Hb] <;> iassumption
  iintro ⟨Hb, Hheld⟩
  rw [wp_ret]; imodintro
  iapply (wp_hlo_within 𝒱 (SparseCore.T d) none Set.univ (op := opE) (S := S8) hE (V := (opC (F := F)).result ((opB (F := F)).result ((opA (F := F)).result (V0 m d))))) $$ [Hb Hheld]
  · isplitl [Hb] <;> iassumption
  iintro ⟨Hb, Hheld⟩
  rw [wp_ret]; imodintro
  ihave Hh := (Entails.of_eq (show held (T d) S8 ((opE (F := F)).result ((opC (F := F)).result ((opB (F := F)).result ((opA (F := F)).result (V0 m d))))) = _ from held_VE (F := F) m d)) $$ Hheld
  icases Hh with ⟨Hwa, Hca, Hw0, Hw, Hc0, Hc, Hy, Hr⟩
  ihave Hw := (shares (wLoc d) (Wv m d)) $$ Hw
  icases Hw with ⟨HwD, Hw⟩
  ihave Hc := (shares (cLoc d) (Cv m d)) $$ Hc
  icases Hc with ⟨HcD, Hc⟩
  iapply ((K (F := F)).wp_run (D (F := F)) 𝒱 (EH := EH) (P := P m) κ d 0) $$ [Hst Hw Hc Hy Hb HwD HcD Hr Hts Hwa Hca Hw0 Hc0]
  isplitr; · iexact Hctx
  isplitl [Hst]; · iexact Hst
  isplitl [Hw Hc Hy]
  · rw [st0_eq]
    isplitl [Hw]; · iexact Hw
    isplitl [Hc]; · iexact Hc
    iexact Hy
  iintro ⟨Hst, Hdn⟩
  ihave Hdn' := (Entails.of_eq (dn0_eq m d)) $$ Hdn
  icases Hdn' with ⟨Hw, Hc, Hy⟩
  ihave Hw := (joins (wLoc d) (Wv m d)) $$ [HwD Hw]
  · isplitl [HwD] <;> iassumption
  ihave Hc := (joins (cLoc d) (Cv m d)) $$ [HcD Hc]
  · isplitl [HcD] <;> iassumption
  iapply (wp_hlo_within 𝒱 (SparseCore.T d) none Set.univ (op := opR) (S := S8) hR (V := V1 m d)) $$ [Hb Hw Hc Hy Hr Hwa Hca Hw0 Hc0]
  · isplitl [Hb]; · iexact Hb
    iapply (Entails.of_eq (held_V1 (F := F) m d).symm)
    isplitl [Hwa]; · iexact Hwa
    isplitl [Hca]; · iexact Hca
    isplitl [Hw0]; · iexact Hw0
    isplitl [Hw]; · iexact Hw
    isplitl [Hc0]; · iexact Hc0
    isplitl [Hc]; · iexact Hc
    isplitl [Hy]; · iexact Hy
    iexact Hr
  iintro ⟨Hb, Hheld⟩
  ihave Hh := (Entails.of_eq (held_V2 (F := F) m d)) $$ Hheld
  icases Hh with ⟨Hwa, Hca, -, -, -, -, -, Hr⟩
  rw [wp_ret]; imodintro; imodintro
  isplitl [Hst]; · iexact Hst
  isplitr [Hb Hts]
  · isplitl [Hwa]; · iexact Hwa
    isplitl [Hca]; · iexact Hca
    iexact Hr
  isplitl [Hb] <;> iassumption

def fq (d : Dev nD) (s' : Phys nD τ sig (Elt F)) : Prop :=
  s'.mem.mem (rLoc d) = Rv m d ∧ s'.mem.mem (waLoc d) = m (waLoc d) ∧ s'.mem.mem (caLoc d) = m (caLoc d)

theorem hfin (d : Dev nD) (s' : Phys nD τ sig (Elt F)) : iprop(FIN m d ∗ SI s') ⊢ (⌜fq m d s'⌝ : sProp 𝕄) := by
  iintro ⟨⟨Hw, Hc, Hr⟩, HSI⟩
  ihave H := (persistent_entails_right (SI_pointsTo_agree (st := s') (ℓ := waLoc d) (I := Finset.univ) (q := fullShare) (f := m (waLoc d)))) $$ [HSI Hw]
  · isplitl [HSI] <;> iassumption
  icases H with ⟨%hw, HSI, -⟩
  ihave H := (persistent_entails_right (SI_pointsTo_agree (st := s') (ℓ := caLoc d) (I := Finset.univ) (q := fullShare) (f := m (caLoc d)))) $$ [HSI Hc]
  · isplitl [HSI] <;> iassumption
  icases H with ⟨%hc, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => hw i (Finset.mem_univ i), funext fun i => hc i (Finset.mem_univ i)⟩

/-! ## The program's run and the frame -/

def QC : PUnit × MemSt nD τ sig (Elt F) → Prop := fun r =>
  (∀ c : Dev nD, r.2.mem (rLoc c) = Rv m c ∧ r.2.mem (waLoc c) = m (waLoc c) ∧ r.2.mem (caLoc c) = m (caLoc c)) ∧ r.2.sem = fun _ => 0

theorem run_main [∀ e, Nonempty (Elt F e)] : θ_run (Cert.Decode0.defs (F := F)) (Cert.Decode0.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- `Cert.quiescent_Decode0` (Defs.lean). -/
theorem frame : Cert.quiescent_Decode0 := fun m ρ _ =>
  (θ_run Cert.Decode0.defs _ _).mono (fun _ h => ⟨fun c => (h.1 c).2, h.2⟩) (run_main (F := Bits) m ρ)

end Cert.Proof.Decode0Run

end
-- ==== Proof.Decode0Value.lean ====
/-
  What the decode call leaves, element by element: result element (word block `b`, lane group `g`, sublane `r`, lane `l`)
  is word `r % 2` of the code in half `r / 2 % 2` of codes word `2 b + r / 4` of output column `128 g + l`.
-/
module

public import proofs.«01_k».proof.Proof.Decode0Run
public import Idealize.ShloMosaic.Lib.Pointwise

@[expose] public section

set_option maxRecDepth 16384

noncomputable section

namespace Cert.Proof.Decode0Value

open Cert.Decode0 Cert.Decode0.Gen
open Cert.Proof.DecodeBlock (code code_lt)
open Cert.Proof.Decode0Sets Cert.Proof.Decode0Run
open Idealize.ShloMosaic Idealize.SL.Sem

/-- The decoded words of the call's columns, from the codebook's words and the codes. -/
def decoded (mw : (⟨2, ![2, 65536]⟩ : Shape).Idx → BitVec 32) (mc : (⟨2, ![4096, 896]⟩ : Shape).Idx → BitVec 32)
    (b : Fin 448) (g : Fin 4) (r : Fin 8) (l : Fin 128) : BitVec 32 :=
  mw (ix2 ⟨r.val % 2, by omega⟩
    ⟨code (r.val / 2 % 2 == 1) (mc (ix2 ⟨128 * g.val + l.val, by omega⟩ ⟨2 * b.val + r.val / 4, by omega⟩)), code_lt _ _⟩)

variable (m : (ℓ : Loc nD τ sig) → Buf (Elt Bits) ℓ)

/-- The table the program hands over, element by element. -/
theorem Wv_apply (d : Dev nD) (a : Fin 512) (p : Fin 2) (l : Fin 128) :
    Wv m d (ix3 a p l) = m (waLoc d) (ix2 p ⟨a.val * 128 + l.val, by omega⟩) := by
  pointwise [Wv]

/-- The layout of the codes, element by element. -/
theorem codes_apply {α : Type} (f : (⟨2, ![4096, 896]⟩ : Shape).Idx → α) (h : (⟨2, ![4096, 896]⟩ : Shape).ShapeCasts S512x8x7x128)
    (h' : S512x8x7x128.Transposes [0, 2, 1, 3] S512x7x8x128) (a : Fin 512) (k : Fin 7) (s : Fin 8) (l : Fin 128) :
    transpose S512x7x8x128 [0, 2, 1, 3] (shapeCast S512x8x7x128 f h) h' (ix4 a k s l)
      = f (ix2 ⟨a.val * 8 + s.val, by omega⟩ ⟨k.val * 128 + l.val, by omega⟩) := by
  pointwise []

/-- The codes the program hands over, element by element. -/
theorem Cv_apply (d : Dev nD) (a : Fin 512) (k : Fin 7) (s : Fin 8) (l : Fin 128) :
    Cv m d (ix4 a k s l) = m (caLoc d) (ix2 ⟨a.val * 8 + s.val, by omega⟩ ⟨k.val * 128 + l.val, by omega⟩) :=
  codes_apply (m (caLoc d)) _ _ a k s l

/-- The codes a word of the result is decoded from. -/
theorem cpos_ix (b : Fin 448) (g : Fin 4) (q : Fin 4) (p : Fin 2) (l : Fin 128) :
    cpos (ix5 b g q p l) = ix4 ⟨0 + 16 * g.val + l.val / 8, by omega⟩ ⟨(2 * b.val + q.val / 2) / 128, by omega⟩
      ⟨l.val % 8, by omega⟩ ⟨(2 * b.val + q.val / 2) % 128, by omega⟩ := by
  funext a
  match a with
  | ⟨0, _⟩ => rfl
  | ⟨1, _⟩ => rfl
  | ⟨2, _⟩ => rfl
  | ⟨3, _⟩ => rfl

/-- The word of the table a word of the result is. -/
theorem wpos_ix (c : Nat) (hc : c < 65536) (b : Fin 448) (g : Fin 4) (q : Fin 4) (p : Fin 2) (l : Fin 128) :
    wpos c hc (ix5 b g q p l) = ix3 ⟨c / 128, by omega⟩ p ⟨c % 128, by omega⟩ := by
  funext a
  match a with
  | ⟨0, _⟩ => rfl
  | ⟨1, _⟩ => rfl
  | ⟨2, _⟩ => rfl

/-- The last reshape puts the two words of a code on neighbouring sublanes. -/
theorem last_apply {α : Type} (f : S448x4x4x2x128.Idx → α) (h : S448x4x4x2x128.ShapeCasts S448x4x8x128)
    (b : Fin 448) (g : Fin 4) (r : Fin 8) (l : Fin 128) :
    shapeCast S448x4x8x128 f h (ix4 b g r l) = f (ix5 b g ⟨r.val / 2, by omega⟩ ⟨r.val % 2, by omega⟩ l) := by
  pointwise []

/-- The word of the codes, by the codes' own row and column. -/
theorem Cv_cpos (d : Dev nD) (b : Fin 448) (g : Fin 4) (q : Fin 4) (p : Fin 2) (l : Fin 128) :
    Cv m d (cpos (ix5 b g q p l))
      = m (caLoc d) (ix2 ⟨128 * g.val + l.val, by omega⟩ ⟨2 * b.val + q.val / 2, by omega⟩) := by
  rw [cpos_ix, Cv_apply]
  refine congrArg (m (caLoc d)) (congrArg₂ ix2 (Fin.ext ?_) (Fin.ext ?_))
  · show (0 + 16 * g.val + l.val / 8) * 8 + l.val % 8 = 128 * g.val + l.val; omega
  · show (2 * b.val + q.val / 2) / 128 * 128 + (2 * b.val + q.val / 2) % 128 = 2 * b.val + q.val / 2; omega

/-- The table at a code. -/
theorem Wv_wpos (d : Dev nD) (c : Nat) (hc : c < 65536) (b : Fin 448) (g : Fin 4) (q : Fin 4) (p : Fin 2) (l : Fin 128) :
    Wv m d (wpos c hc (ix5 b g q p l)) = m (waLoc d) (ix2 p ⟨c, hc⟩) := by
  rw [wpos_ix, Wv_apply]
  refine congrArg (m (waLoc d)) (congrArg₂ ix2 rfl (Fin.ext ?_))
  show c / 128 * 128 + c % 128 = c; omega

/-- The program's result, element by element. -/
theorem Rv_apply (d : Dev nD) (b : Fin 448) (g : Fin 4) (r : Fin 8) (l : Fin 128) :
    Rv m d (ix4 b g r l) = decoded (m (waLoc d)) (m (caLoc d)) b g r l := by
  refine (last_apply (YV m d) _ b g r l).trans ?_
  have hY : ∀ x, YV m d x
      = Wv m d (wpos (code ((x 2).val % 2 == 1) (Cv m d (cpos x))) (code_lt _ _) x) := fun _ => rfl
  rw [hY, Wv_wpos]
  unfold decoded
  refine congrArg (m (waLoc d)) (congrArg₂ ix2 rfl (Fin.ext ?_))
  show code (r.val / 2 % 2 == 1) (Cv m d (cpos _)) = _
  rw [Cv_cpos]
  refine congrArg (code _) (congrArg (m (caLoc d)) (congrArg₂ ix2 rfl (Fin.ext ?_)))
  show 2 * b.val + r.val / 2 / 2 = 2 * b.val + r.val / 4
  omega

end Cert.Proof.Decode0Value

end
-- ==== Proof.Decode0Ref.lean ====
/-
  The reference of the decode call, element by element: it looks the two codes of every word up in the codebook's
  rows and lays the words found out as the call does.
-/
module

public import proofs.«01_k».proof.Proof.Gen.Decode0Reference
public import proofs.«01_k».proof.Proof.Decode0Value
public import Idealize.ShloMosaic.Lib.Claim
public import Idealize.ShloMosaic.Lib.Pointwise
public import Idealize.ShloMosaic.Lib.ValueIdxCore

@[expose] public section

set_option maxRecDepth 16384

noncomputable section

namespace Cert.Proof.Decode0Ref

open Cert.Decode0Reference Cert.Decode0Reference.Facts₀
open Cert.Proof.DecodeBlock (code code_lt)
open Idealize.ShloMosaic Idealize.SL.Sem

variable [Cert.Decode0Reference.Facts]

/-- The codes' words of the call's columns. -/
def cw (mc : S4096x896.Idx → BitVec 32) : IVec S512x896 32 :=
  extractStridedSlice S512x896 ![0, 0] mc slices_S4096x896_S512x896_0_0
/-- The low code of every word, and the high one. -/
def lo (w : IVec S512x896 32) : IVec S512x896 32 :=
  andi w (broadcastInDim S512x896 ![] bcast_S_S512x896 (constantI S_ 32 65535#32))
def hi (w : IVec S512x896 32) : IVec S512x896 32 :=
  andi (Host.shrui w (broadcastInDim S512x896 ![] bcast_S_S512x896 (constantI S_ 32 16#32)))
    (broadcastInDim S512x896 ![] bcast_S_S512x896 (constantI S_ 32 65535#32))
/-- Both, along a third axis. -/
def both (w : IVec S512x896 32) : IVec S512x896x2 32 :=
  concatenate S512x896x2 2
    [⟨S512x896x1, broadcastInDim S512x896x1 ![0, 1] bcast_S512x896_S512x896x1_0_1 (lo w)⟩,
     ⟨S512x896x1, broadcastInDim S512x896x1 ![0, 1] bcast_S512x896_S512x896x1_0_1 (hi w)⟩]
    concatenates_S512x896x1_S512x896x1_S512x896x2_d2
/-- Indices as the lookup takes them: a negative one counts from the end. -/
def wrapped (x : IVec S512x896x2 32) : IVec S512x896x2x1 32 :=
  broadcastInDim S512x896x2x1 ![0, 1, 2] bcast_S512x896x2_S512x896x2x1_0_1_2
    (select (cmpi .slt x (broadcastInDim S512x896x2 ![] bcast_S_S512x896x2 (constantI S_ 32 0#32)))
      (addi x (broadcastInDim S512x896x2 ![] bcast_S_S512x896x2 (constantI S_ 32 65536#32))) x)
/-- The codebook's rows at the indices. -/
def rows (mw : S2x65536.Idx → BitVec 32) (x : IVec S512x896x2x1 32) : S512x896x2x2.Idx → BitVec 32 :=
  Host.gather gather_S65536x2_S512x896x2x1_S512x896x2x2_3_0_n_n_0_3_12
    (transpose S65536x2 [1, 0] mw transposes_S2x65536_S65536x2_1_0) x
/-- The rows found, laid out as the call lays them out. -/
def laid (y : S512x896x2x2.Idx → BitVec 32) : S448x4x8x128.Idx → BitVec 32 :=
  transpose S448x4x8x128 [0, 2, 1, 3]
    (shapeCast S448x8x4x128
      (transpose S3584x512 [1, 0] (shapeCast S512x3584 y shapeCasts_S512x896x2x2_S512x3584)
        transposes_S512x3584_S3584x512_1_0)
      shapeCasts_S3584x512_S448x8x4x128)
    transposes_S448x8x4x128_S448x4x8x128_0_2_1_3
/-- The reference's result. -/
def ref (mw : S2x65536.Idx → BitVec 32) (mc : S4096x896.Idx → BitVec 32) : S448x4x8x128.Idx → BitVec 32 :=
  laid (rows mw (wrapped (both (cw mc))))

theorem cw_apply (mc : S4096x896.Idx → BitVec 32) (n : Fin 512) (j : Fin 896) :
    cw mc (ix2 n j) = mc (ix2 ⟨n.val, by omega⟩ j) := by
  pointwise [cw]

theorem ofNat_toNat (c : Nat) (hc : c < 65536) : (BitVec.ofNat 32 c).toNat = c := by
  rw [BitVec.toNat_ofNat, Nat.mod_eq_of_lt (by omega)]

theorem lo_apply (w : IVec S512x896 32) (n : Fin 512) (j : Fin 896) :
    lo w (ix2 n j) = BitVec.ofNat 32 (code false (w (ix2 n j))) := by
  have h : lo w (ix2 n j) = w (ix2 n j) &&& 65535#32 := by
    pointwise [lo]
    rfl
  rw [h]
  apply BitVec.eq_of_toNat_eq
  rw [ofNat_toNat _ (code_lt _ _), BitVec.toNat_and]
  exact Nat.and_two_pow_sub_one_eq_mod _ 16

theorem hi_apply (w : IVec S512x896 32) (n : Fin 512) (j : Fin 896) :
    hi w (ix2 n j) = BitVec.ofNat 32 (code true (w (ix2 n j))) := by
  have h : hi w (ix2 n j) = (w (ix2 n j) >>> 16) &&& 65535#32 := by
    pointwise [hi]
    rfl
  rw [h]
  apply BitVec.eq_of_toNat_eq
  rw [ofNat_toNat _ (code_lt _ _), BitVec.toNat_and]
  refine (Nat.and_two_pow_sub_one_eq_mod _ 16).trans ?_
  rw [BitVec.toNat_ushiftRight, Nat.shiftRight_eq_div_pow]
  have := (w (ix2 n j)).isLt
  show (w (ix2 n j)).toNat / 65536 % 65536 = (w (ix2 n j)).toNat / 65536
  omega

theorem both_apply (w : IVec S512x896 32) (n : Fin 512) (j : Fin 896) (h : Fin 2) :
    both w (ix3 n j h) = BitVec.ofNat 32 (code (h.val == 1) (w (ix2 n j))) := by
  have e : both w (ix3 n j h) = if h.val < 1 then lo w (ix2 n j) else hi w (ix2 n j) := by
    pointwise [both]
    rfl
  rw [e, lo_apply, hi_apply]
  match h with
  | ⟨0, _⟩ => rfl
  | ⟨1, _⟩ => rfl

theorem wrapped_apply (x : IVec S512x896x2 32) (n : Fin 512) (j : Fin 896) (h : Fin 2) (c : Nat) (hc : c < 65536)
    (hx : x (ix3 n j h) = BitVec.ofNat 32 c) : wrapped x (ix4 n j h (0 : Fin 1)) = BitVec.ofNat 32 c := by
  have h : wrapped x (ix4 n j h (0 : Fin 1))
      = Scalar.select (IntOp.cmpi .slt (x (ix3 n j h)) 0#32) (IntOp.addi (x (ix3 n j h)) 65536#32) (x (ix3 n j h)) := by
    pointwise [wrapped]
  have hn : IntOp.cmpi .slt (BitVec.ofNat 32 c) 0#32 = 0#1 := by
    have : (BitVec.ofNat 32 c).slt 0#32 = false := by
      rw [BitVec.slt_eq_decide, BitVec.toInt_eq_toNat_of_lt (by rw [ofNat_toNat c hc]; omega), ofNat_toNat c hc]
      exact decide_eq_false (by show ¬ ((c : Int) < 0); omega)
    show BitVec.ofBool ((BitVec.ofNat 32 c).slt 0#32) = 0#1
    rw [this]; rfl
  rw [h, hx, hn]
  rfl

theorem rows_apply (mw : S2x65536.Idx → BitVec 32) (x : IVec S512x896x2x1 32) (n : Fin 512) (j : Fin 896) (h p : Fin 2)
    (c : Nat) (hc : c < 65536) (hx : x (ix4 n j h (0 : Fin 1)) = BitVec.ofNat 32 c) :
    rows mw x (ix4 n j h p) = mw (ix2 p ⟨c, hc⟩) := by
  have ht : transpose S65536x2 [1, 0] mw transposes_S2x65536_S65536x2_1_0 (ix2 (⟨c, hc⟩ : Fin 65536) p) = mw (ix2 p ⟨c, hc⟩) := by
    pointwise []
  rw [← ht]
  unfold rows Host.gather
  refine congrArg _ (funext fun a => Fin.ext ?_)
  let D : GatherDims S65536x2 S512x896x2x1 S512x896x2x2 := gather_S65536x2_S512x896x2x1_S512x896x2x2_3_0_n_n_0_3_12
  show D.start (ix4 n j h p) x a + D.batchCoord (ix4 n j h p) a + D.offCoord (ix4 n j h p) a = _
  rw [GatherDims.batchCoord_eq_zero _ _ _ (show a ∉ D.operandBatchingDims from List.not_mem_nil)]
  match a with
  | ⟨0, _⟩ =>
    have hk : (0 : Fin 2) ∉ D.sKept := fun e => ((D.mem_sKept _).mp e).1 (List.mem_singleton.mpr rfl)
    show D.start (ix4 n j h p) x 0 + 0 + D.offCoord (ix4 n j h p) 0 = c
    rw [D.offCoord_eq_zero _ _ hk]
    unfold GatherDims.start
    have hm : (0 : Fin 2) ∈ D.startIndexMap := List.mem_singleton.mpr rfl
    rw [dif_pos hm]
    have hsi : D.siIdx (ix4 n j h p) ⟨List.idxOf (0 : Fin 2) D.startIndexMap, List.idxOf_lt_length_iff.2 hm⟩
        = ix4 n j h (0 : Fin 1) := by
      funext b; refine Fin.ext ?_
      match b with
      | ⟨0, _⟩ => rfl
      | ⟨1, _⟩ => rfl
      | ⟨2, _⟩ => rfl
      | ⟨3, _⟩ => rfl
    rw [hsi, hx]
    have hi : (BitVec.ofNat 32 c).toInt = c := by
      rw [BitVec.toInt_eq_toNat_of_lt (by rw [BitVec.toNat_ofNat]; omega), BitVec.toNat_ofNat,
        Nat.mod_eq_of_lt (by omega)]
    rw [hi]
    show min ((c : Int)).toNat (65536 - 1) + 0 + 0 = c
    omega
  | ⟨1, _⟩ =>
    have hm : (1 : Fin 2) ∉ D.startIndexMap := fun e => absurd (List.mem_singleton.mp e) (by decide)
    have hk : (1 : Fin 2) ∈ D.sKept :=
      (D.mem_sKept _).mpr ⟨fun e => absurd (List.mem_singleton.mp e) (by decide), List.not_mem_nil⟩
    show D.start (ix4 n j h p) x 1 + 0 + D.offCoord (ix4 n j h p) 1 = p.val
    unfold GatherDims.start GatherDims.offCoord
    rw [dif_neg hm, dif_pos hk, Nat.zero_add]
    rfl

theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  rw [Fin.ext ha, Fin.ext hb, Fin.ext hc, Fin.ext hd]

theorem laid_apply (y : S512x896x2x2.Idx → BitVec 32) (b : Fin 448) (g : Fin 4) (r : Fin 8) (l : Fin 128) :
    laid y (ix4 b g r l) = y (ix4 ⟨128 * g.val + l.val, by omega⟩ ⟨2 * b.val + r.val / 4, by omega⟩
      ⟨r.val / 2 % 2, by omega⟩ ⟨r.val % 2, by omega⟩) := by
  pointwise [laid]
  refine congrArg y (ix4_congr ?_ ?_ ?_ ?_) <;> dsimp only <;> omega

/-- The reference's result, element by element. -/
theorem ref_apply (mw : S2x65536.Idx → BitVec 32) (mc : S4096x896.Idx → BitVec 32)
    (b : Fin 448) (g : Fin 4) (r : Fin 8) (l : Fin 128) :
    ref mw mc (ix4 b g r l) = Decode0Value.decoded mw mc b g r l := by
  unfold ref
  rw [laid_apply, rows_apply mw _ _ _ _ _ _ (code_lt _ _) (wrapped_apply _ _ _ _ _ (code_lt _ _) (both_apply _ _ _ _)), cw_apply]
  refine congrArg mw (congrArg₂ ix2 rfl (Fin.ext ?_))
  show code (r.val / 2 % 2 == 1) (mc (ix2 ⟨128 * g.val + l.val, _⟩ _)) = code _ (mc (ix2 ⟨128 * g.val + l.val, _⟩ _))
  refine congrArg (code _) (congrArg mc (congrArg₂ ix2 (Fin.ext ?_) rfl))
  rfl

/-- Every index of the result is four coordinates. -/
theorem ref_eq (mw : S2x65536.Idx → BitVec 32) (mc : S4096x896.Idx → BitVec 32) (x : S448x4x8x128.Idx → BitVec 32)
    (hx : ∀ b g r l, x (ix4 b g r l) = Decode0Value.decoded mw mc b g r l) : ref mw mc = x := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (ref_apply mw mc _ _ _ _).trans (hx _ _ _ _).symm

end Cert.Proof.Decode0Ref

end
-- ==== Proof.Decode0Equal.lean ====
/-
  The decode call and its reference leave the same words, bit for bit. The reference is a straight line of array
  operations (`ops`); its run ends with `Decode0Ref.ref` of its two arguments, which is, element by element, what the
  call ends with.
-/
module

public import proofs.«01_k».proof.Defs
public import proofs.«01_k».proof.Proof.Gen.Decode0
public import proofs.«01_k».proof.Proof.Decode0Ref

@[expose] public section

set_option maxRecDepth 16384

noncomputable section

namespace Cert.Proof.Decode0Equal

open Cert.Decode0Reference
open Idealize.ShloMosaic Idealize.SL.Sem

instance : Cert.Decode0.Facts := Cert.Decode0.Gen.facts
instance : Cert.Decode0Reference.Facts := Cert.Decode0Reference.Gen.facts
variable (m : (ℓ : Loc nD τ sig) → Buf (Elt Bits) ℓ) (ρ : Dev nD → PrngReg)
open Cert.Decode0Reference.Facts₀

/-- The reference's operations, in order. -/
def ops : List (HloOp τ sig (Elt Bits)) :=
  [StableHlo.unary main_arg1 main_v0 ((extractStridedSlice S512x896 ![0, 0] · slices_S4096x896_S512x896_0_0) : (⟨S4096x896, .i32⟩ : BufTy).Contents (Elt Bits) → (⟨S512x896, .i32⟩ : BufTy).Contents (Elt Bits)),
   StableHlo.nullary main_c (constantI S_ 32 65535#32),
   StableHlo.unary main_c main_v1 (broadcastInDim S512x896 ![] bcast_S_S512x896 : (⟨S_, .i32⟩ : BufTy).Contents (Elt Bits) → (⟨S512x896, .i32⟩ : BufTy).Contents (Elt Bits)),
   StableHlo.binary main_v0 main_v1 main_v2 (andi : (⟨S512x896, .i32⟩ : BufTy).Contents (Elt Bits) → (⟨S512x896, .i32⟩ : BufTy).Contents (Elt Bits) → (⟨S512x896, .i32⟩ : BufTy).Contents (Elt Bits)),
   StableHlo.nullary main_c_0 (constantI S_ 32 16#32),
   StableHlo.unary main_c_0 main_v3 (broadcastInDim S512x896 ![] bcast_S_S512x896 : (⟨S_, .i32⟩ : BufTy).Contents (Elt Bits) → (⟨S512x896, .i32⟩ : BufTy).Contents (Elt Bits)),
   StableHlo.binary main_v0 main_v3 main_v4 (Host.shrui : (⟨S512x896, .i32⟩ : BufTy).Contents (Elt Bits) → (⟨S512x896, .i32⟩ : BufTy).Contents (Elt Bits) → (⟨S512x896, .i32⟩ : BufTy).Contents (Elt Bits)),
   StableHlo.nullary main_c_1 (constantI S_ 32 65535#32),
   StableHlo.unary main_c_1 main_v5 (broadcastInDim S512x896 ![] bcast_S_S512x896 : (⟨S_, .i32⟩ : BufTy).Contents (Elt Bits) → (⟨S512x896, .i32⟩ : BufTy).Contents (Elt Bits)),
   StableHlo.binary main_v4 main_v5 main_v6 (andi : (⟨S512x896, .i32⟩ : BufTy).Contents (Elt Bits) → (⟨S512x896, .i32⟩ : BufTy).Contents (Elt Bits) → (⟨S512x896, .i32⟩ : BufTy).Contents (Elt Bits)),
   StableHlo.unary main_v2 main_v7 (broadcastInDim S512x896x1 ![0, 1] bcast_S512x896_S512x896x1_0_1 : (⟨S512x896, .i32⟩ : BufTy).Contents (Elt Bits) → (⟨S512x896x1, .i32⟩ : BufTy).Contents (Elt Bits)),
   StableHlo.unary main_v6 main_v8 (broadcastInDim S512x896x1 ![0, 1] bcast_S512x896_S512x896x1_0_1 : (⟨S512x896, .i32⟩ : BufTy).Contents (Elt Bits) → (⟨S512x896x1, .i32⟩ : BufTy).Contents (Elt Bits)),
   StableHlo.binary main_v7 main_v8 main_v9 ((fun a b => concatenate S512x896x2 2 [⟨S512x896x1, a⟩, ⟨S512x896x1, b⟩] concatenates_S512x896x1_S512x896x1_S512x896x2_d2) : (⟨S512x896x1, .i32⟩ : BufTy).Contents (Elt Bits) → (⟨S512x896x1, .i32⟩ : BufTy).Contents (Elt Bits) → (⟨S512x896x2, .i32⟩ : BufTy).Contents (Elt Bits)),
   StableHlo.unary main_arg0 main_v10 ((transpose S65536x2 [1, 0] · transposes_S2x65536_S65536x2_1_0) : (⟨S2x65536, .i32⟩ : BufTy).Contents (Elt Bits) → (⟨S65536x2, .i32⟩ : BufTy).Contents (Elt Bits)),
   StableHlo.nullary main_c_2 (constantI S_ 32 0#32),
   StableHlo.unary main_c_2 main_v11 (broadcastInDim S512x896x2 ![] bcast_S_S512x896x2 : (⟨S_, .i32⟩ : BufTy).Contents (Elt Bits) → (⟨S512x896x2, .i32⟩ : BufTy).Contents (Elt Bits)),
   StableHlo.binary main_v9 main_v11 main_v12 (cmpi .slt : (⟨S512x896x2, .i32⟩ : BufTy).Contents (Elt Bits) → (⟨S512x896x2, .i32⟩ : BufTy).Contents (Elt Bits) → (⟨S512x896x2, .i1⟩ : BufTy).Contents (Elt Bits)),
   StableHlo.nullary main_c_3 (constantI S_ 32 65536#32),
   StableHlo.unary main_c_3 main_v13 (broadcastInDim S512x896x2 ![] bcast_S_S512x896x2 : (⟨S_, .i32⟩ : BufTy).Contents (Elt Bits) → (⟨S512x896x2, .i32⟩ : BufTy).Contents (Elt Bits)),
   StableHlo.binary main_v9 main_v13 main_v14 (addi : (⟨S512x896x2, .i32⟩ : BufTy).Contents (Elt Bits) → (⟨S512x896x2, .i32⟩ : BufTy).Contents (Elt Bits) → (⟨S512x896x2, .i32⟩ : BufTy).Contents (Elt Bits)),
   StableHlo.ternary main_v12 main_v14 main_v9 main_v15 (select : (⟨S512x896x2, .i1⟩ : BufTy).Contents (Elt Bits) → (⟨S512x896x2, .i32⟩ : BufTy).Contents (Elt Bits) → (⟨S512x896x2, .i32⟩ : BufTy).Contents (Elt Bits) → (⟨S512x896x2, .i32⟩ : BufTy).Contents (Elt Bits)),
   StableHlo.unary main_v15 main_v16 (broadcastInDim S512x896x2x1 ![0, 1, 2] bcast_S512x896x2_S512x896x2x1_0_1_2 : (⟨S512x896x2, .i32⟩ : BufTy).Contents (Elt Bits) → (⟨S512x896x2x1, .i32⟩ : BufTy).Contents (Elt Bits)),
   StableHlo.binary main_v10 main_v16 main_v17 ((fun x i => Host.gather gather_S65536x2_S512x896x2x1_S512x896x2x2_3_0_n_n_0_3_12 x i) : (⟨S65536x2, .i32⟩ : BufTy).Contents (Elt Bits) → (⟨S512x896x2x1, .i32⟩ : BufTy).Contents (Elt Bits) → (⟨S512x896x2x2, .i32⟩ : BufTy).Contents (Elt Bits)),
   StableHlo.reshape main_v17 main_v18 (rfl : (.i32 : EltTy) = .i32) shapeCasts_S512x896x2x2_S512x3584,
   StableHlo.unary main_v18 main_v19 ((transpose S3584x512 [1, 0] · transposes_S512x3584_S3584x512_1_0) : (⟨S512x3584, .i32⟩ : BufTy).Contents (Elt Bits) → (⟨S3584x512, .i32⟩ : BufTy).Contents (Elt Bits)),
   StableHlo.reshape main_v19 main_v20 (rfl : (.i32 : EltTy) = .i32) shapeCasts_S3584x512_S448x8x4x128,
   StableHlo.unary main_v20 main_v21 ((transpose S448x4x8x128 [0, 2, 1, 3] · transposes_S448x8x4x128_S448x4x8x128_0_2_1_3) : (⟨S448x8x4x128, .i32⟩ : BufTy).Contents (Elt Bits) → (⟨S448x4x8x128, .i32⟩ : BufTy).Contents (Elt Bits))]

/-- The reference is these operations, scopes nothing and has no semaphore. -/
theorem main_seq (d : Dev nD) : StableHlo.IsSeq (main (F := Bits) d) ops := by
  unfold ops
  hlo_seq
theorem no_scoped : (Finset.univ.filter fun b : Ref sig .tc => b.isScoped) = ∅ := by decide
theorem no_sems : (Finset.univ.filter fun sm : SemLoc sig => sm.isScoped .tc) = ∅ := by decide
theorem no_sem : sig.nSem + sig.nDmaSem = 0 := rfl
theorem ops_bufs : ops.Forall fun op => op.bufs ⊆ StableHlo.tcRefs τ sig := by
  unfold ops
  simp
theorem ops_fresh : ∀ op ∈ ops, op.fresh = ∅ := by
  intro _ h
  unfold ops at h
  (repeat (cases h with | head => rfl | tail _ h => ?_)); exact nomatch h

/-- The operations keep the arguments. -/
theorem kept0 (V : Valuation τ sig (Elt Bits)) : StableHlo.after ops V (Proc.devRef .tc main_arg0) = V (Proc.devRef .tc main_arg0) := by
  unfold ops
  after_results
theorem kept1 (V : Valuation τ sig (Elt Bits)) : StableHlo.after ops V (Proc.devRef .tc main_arg1) = V (Proc.devRef .tc main_arg1) := by
  unfold ops
  after_results

/-- What the operations leave in the result. -/
theorem result (V : Valuation τ sig (Elt Bits)) : StableHlo.after ops V (Proc.devRef .tc main_v21)
    = Decode0Ref.ref (V (Proc.devRef .tc main_arg0)) (V (Proc.devRef .tc main_arg1)) := by
  unfold ops
  after_results
  rfl

/-- The reference's run. -/
theorem run : θ_run (defs (F := Bits)) (onTc (τ := τ) (main (F := Bits))) ⟨m, fun _ => 0, ρ⟩ fun r =>
    ∀ (d : Dev nD) (b : Ref sig .tc), r.2.mem ((d.tc : Thread nD τ).loc b)
      = StableHlo.after ops (StableHlo.launchContents m d) (Proc.devRef .tc b) :=
  StableHlo.run_hlo _ _ main_seq no_scoped no_sems ops_bufs ops_fresh m ρ

/-- The reference ends with its arguments kept. -/
theorem frame_reference : Cert.quiescent_Decode0Reference := fun m g _ =>
  θ_run_mono (run m g) fun r hr =>
    ⟨fun c => ⟨(hr c main_arg0).trans (kept0 _), (hr c main_arg1).trans (kept1 _)⟩, sem_eq_zero_of_no_sems no_sem r.2⟩

/-- From memories agreeing on the codebook and the codes, the call and the reference leave the same words. -/
theorem bitexact : Cert.bitexact_Decode0_Decode0Reference := by
  intro m g m' g' _ hargs
  refine ⟨fun c => Decode0Run.Rv m c, θ_run_mono (Decode0Run.run_main m g) fun r h => h.1, ?_⟩
  refine θ_run_mono (run m' g') fun r hr c =>
    ⟨((hr c main_v21).trans (result _)).trans ?_, (hr c main_arg0).trans (kept0 _), (hr c main_arg1).trans (kept1 _)⟩
  have e0 := (hargs c).1
  have e1 := (hargs c).2
  refine Decode0Ref.ref_eq _ _ _ fun b g r l => (Decode0Value.Rv_apply m c b g r l).trans ?_
  exact congrArg₂ (fun w k => Decode0Value.decoded w k b g r l) e0.symm e1.symm

end Cert.Proof.Decode0Equal

end
-- ==== Proof.DecodeBody.lean ====
/-
  The decode call's inner trip is the block of `DecodeBlock`, on the block of codes and the block of output the trip
  addresses; and the vectors the program carries into its loops are the lanes and the sixteen diagonals.
-/
module

public import proofs.«01_k».proof.Decode
public import proofs.«01_k».proof.Proof.Gen.Decode
public import proofs.«01_k».proof.Proof.Gen.Decode.Skeleton
public import proofs.«01_k».proof.Proof.DecodeBlock

@[expose] public section

noncomputable section

namespace Cert.Proof.DecodeBody

open Cert.Decode Cert.Decode.Gen
open Cert.Proof.DecodeBlock
open Idealize.ShloMosaic
open Idealize.ShloMosaic.SparseCore (S V T)
open Idealize.SL
open Idealize.ShloMosaic.Tactic

variable {F : FTy → Type} [FloatOps F]

theorem iota_eq : iota .scVector S16 32 [0] iota_S16_d0_w32_scVector = lanes := by
  funext x; rw [lane_of x]; generalize x 0 = k; revert k; decide +kernel

theorem diag_eq (v : IVec L16 32) (d : Nat)
    (h : ∀ k : Fin 16, v (Shape.ofLane (d := ![16]) k) = BitVec.ofNat 32 ((k.val + d) % 16)) : v = dg d := by
  funext x; rw [lane_of x]; generalize x 0 = k; exact h k

theorem v38_eq : k0_pay325 = dg 0 := diag_eq _ _ (by decide +kernel)
theorem v42_eq : k0_pay326 = dg 1 := diag_eq _ _ (by decide +kernel)
theorem v46_eq : k0_pay327 = dg 2 := diag_eq _ _ (by decide +kernel)
theorem v50_eq : k0_pay328 = dg 3 := diag_eq _ _ (by decide +kernel)
theorem v54_eq : k0_pay329 = dg 4 := diag_eq _ _ (by decide +kernel)
theorem v58_eq : k0_pay330 = dg 5 := diag_eq _ _ (by decide +kernel)
theorem v62_eq : k0_pay331 = dg 6 := diag_eq _ _ (by decide +kernel)
theorem v66_eq : k0_pay334 k0_pay332 k0_pay333 = dg 7 := diag_eq _ _ (by decide +kernel)
theorem v70_eq : k0_pay335 lanes = dg 8 := diag_eq _ _ (by decide +kernel)
theorem v74_eq : k0_pay336 lanes = dg 9 := diag_eq _ _ (by decide +kernel)
theorem v78_eq : k0_pay337 lanes = dg 10 := diag_eq _ _ (by decide +kernel)
theorem v82_eq : k0_pay338 lanes = dg 11 := diag_eq _ _ (by decide +kernel)
theorem v86_eq : k0_pay339 lanes = dg 12 := diag_eq _ _ (by decide +kernel)
theorem v90_eq : k0_pay340 lanes = dg 13 := diag_eq _ _ (by decide +kernel)
theorem v94_eq : k0_pay341 lanes = dg 14 := diag_eq _ _ (by decide +kernel)
theorem v98_eq : k0_pay342 lanes = dg 15 := diag_eq _ _ (by decide +kernel)

/-! ## The inner trip -/

section Trip

variable (i : grid0.Coords)
  (arg2 : Memref sig .scVector .hbm S512x2x128 .i32) (harg2 : arg2.IsWhole)
  (arg3 : Memref sig .scVector .hbm S512x7x8x128 .i32) (harg3 : arg3.IsWhole)
  (arg4 : Memref sig .scVector .hbm S448x28x4x2x128 .i32) (harg4 : arg4.IsWhole)
  (arg5 : Memref sig .scVector .vmem S512x128 .i32) (harg5 : arg5.IsWhole)
  (arg6 : Memref sig .scVector .vmem S2x16x8x32 .i32) (harg6 : arg6.IsWhole)
  (arg7 : Memref sig .scVector .vmem S2x16x4x128 .i32) (harg7 : arg7.IsWhole)
  (arg8 : DmaSems sig S_) (arg9 : DmaSems sig S2) (arg10 : DmaSems sig S2)
  (v3 v7 c48 c49 c50 c52 : BitVec 32)
  (t1 : Fin (k0_t1_loop i).trips) (t2 : Fin k0_t2_loop.trips)

/-- The block of codes and the block of the output an inner trip works on. -/
abbrev cBlk : Memref sig .scVector .vmem SC .i32 :=
  (arg6.slice (Rect.unit (s := S2x16x8x32) (k0_off12 i t1 t2) S1x2x8x16.size (k0_off12_inb i t1 t2)) (fun _ => rfl)).squeeze
    S2x8x16 squeezes_S1x2x8x16_S2x8x16
abbrev oBlk : Memref sig .scVector .vmem SO .i32 :=
  (arg7.slice (Rect.unit (s := S2x16x4x128) (k0_off20 i t1 t2) S1x8x4x16.size (k0_off20_inb i t1 t2)) (fun _ => rfl)).squeeze
    S8x4x16 squeezes_S1x8x4x16_S8x4x16

/-- The inner trip is the block. -/
theorem t2_body_eq (d : Dev nD) :
    k0_t2_body (F := F) i arg2 harg2 arg3 harg3 arg4 harg4 arg5 harg5 arg6 harg6 arg7 harg7 arg8 arg9 arg10 v3 v7 lanes
        (dg 0) (dg 1) (dg 2) (dg 3) (dg 4) (dg 5) (dg 6) (dg 7) (dg 8) (dg 9) (dg 10) (dg 11) (dg 12) (dg 13) (dg 14) (dg 15)
        c48 c49 c50 c52 t1 t2 ⟨⟩
      = block (c := V d ((i 0).castLE hcore0) ((i 1).castLE hsub0)) (cBlk i arg6 t1 t2) (View.loads_vmem h_S2x8x16)
          arg5 (View.loads_vmem h_S512x128) (oBlk i arg7 t1 t2) (View.stores_vmem_bits_univ h_S8x4x16 rfl) (.ret ⟨⟩) := by
  sl_kernel_rfl

end Trip

end Cert.Proof.DecodeBody
end
-- ==== Proof.DecodeCopy.lean ====
/-
  Copies by what their ends read. `Hd c m q V` holds a memref's own elements at share `q` of contents that read `V`.
  A copy started and a copy waited for are stated over such assertions, and over memrefs and semaphores known to be
  equal to the ones the program spells (`wp_start`, `wp_wait`).
-/
module

public import Idealize.ShloMosaic.Lib.SparseCore.Scatter
public import Idealize.ShloMosaic.Lib.SparseCore.Quiescent
public import Idealize.ShloMosaic.Lib.Tactic

@[expose] public section

noncomputable section

namespace Cert.Proof.DecodeCopy

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (c : Thread nD τ) {sp sp' : Space} {s : Shape} {e : EltTy}

/-- A memref's own elements at share `q`, of contents that read `V` through it. -/
def Hd (m : Memref sig c.2.kind sp s e) (q : PosShare TreeShare) (V : s.Idx → Val e) : sProp 𝕄 :=
  iprop(∃ f : Buf Val (m.view.loc c), ⌜m.view.read Val f = V⌝ ∗ (m.view.loc c ↦[m.view.set]{q} f))

theorem Hd_eq (m : Memref sig c.2.kind sp s e) (q : PosShare TreeShare) (V : s.Idx → Val e) :
    (Hd c m q V : sProp 𝕄) = iprop(∃ f : Buf Val (m.view.loc c), ⌜m.view.read Val f = V⌝ ∗ (m.view.loc c ↦[m.view.set]{q} f)) := rfl

variable (EC : UEmb Counters (MT nD τ sig Ix Val Name U Lvl)) {Λ : Labels} {defs : Defs nD τ sig Val Λ} (𝒱 : Variants) (bd : Option 𝒱.V)

/-- A copy started: what it delivers at its wait is the destination reading what the source read, and the source as held. -/
theorem wp_start [Infinite Name] [EC.LandsIn (upEmb : UEmb _ 𝕄)] {src src' : Memref sig c.2.kind sp s e} {dst dst' : Memref sig c.2.kind sp' s e}
    {sm sm' : DmaSem sig} (hs : src = src') (hd : dst = dst') (hm : sm = sm')
    {hsrc : src.view.WordExact} {hdst : dst.view.WordExact} {hsem : DmaTarget.Typed (nD := nD) sp (.dma sm) (.here dst)}
    {q : PosShare TreeShare} {Ss : Finset (Idx (src'.view.loc c))} {fs : Buf Val (src'.view.loc c)} (hSs : src'.view.set ⊆ Ss)
    (ι : Ix) (hN0 : 0 < s.numel) {V0 : s.Idx → Val e} {Q : PUnit → sProp 𝕄} :
    iprop((src'.view.loc c ↦[Ss]{q} fs) ∗ Hd c dst' fullShare V0 ∗ semVal (c, .dma sm') 0
      ∗ (Transfers.Flight EC c (.dma sm') ι dst'.view.dmaCredit iprop(Hd c dst' fullShare (src'.view.read Val fs) ∗ (src'.view.loc c ↦[Ss]{q} fs)) -∗ Q ⟨⟩))
      ⊢ wp frame (wpE defs 𝒱 c bd) Set.univ (Prog.lift (.enqueueDma src (.here dst) (.dma sm) hsrc hdst hsem)) Q := by
  subst hs hd hm
  iintro ⟨Hs, Hd, Hv, HQ⟩
  ihave Hs := (pointsTo_split_subset hSs).1 $$ Hs
  icases Hs with ⟨Hs, Hr⟩
  ihave Hd := (Entails.of_eq (Hd_eq c dst fullShare V0)) $$ Hd
  icases Hd with ⟨%fd, %hfd, Hd⟩
  iapply (Transfers.wp_dmaLocal EC 𝒱 c bd (defs := defs) (via := .same) (src := src) (dst := dst) (sm := .dma sm) (k := Prog.ret) (fs := fs) (q := q) (fd := fd)
    ι dst.view.dmaCredit rfl (dst.view.dmaCredit_pos hN0) subset_rfl) $$ [Hs Hd Hv]
  · isplitl [Hs]; · iexact Hs
    isplitl [Hd]; · iexact Hd
    iexact Hv
  iintro HF
  rw [wp_ret]
  imodintro
  iapply HQ
  ihave HF := (Transfers.Flight_frame EC c) $$ [Hr HF]
  · isplitl [Hr]; · iexact Hr
    iexact HF
  iapply (Transfers.Flight_mono EC c ?_) $$ HF
  iintro ⟨Hr, Hd, Hs⟩
  isplitl [Hd]
  · iapply (Entails.of_eq (Hd_eq c dst fullShare _).symm)
    iexists _; isplitr
    swap; · iexact Hd
    ipureintro
    exact View.read_write_univ _ _
  iapply (pointsTo_split_subset hSs).2
  isplitl [Hs]; · iexact Hs
  iexact Hr

/-- The same for a source held by what it reads. -/
theorem wp_start' [Infinite Name] [EC.LandsIn (upEmb : UEmb _ 𝕄)] {src src' : Memref sig c.2.kind sp s e} {dst dst' : Memref sig c.2.kind sp' s e}
    {sm sm' : DmaSem sig} (hs : src = src') (hd : dst = dst') (hm : sm = sm')
    {hsrc : src.view.WordExact} {hdst : dst.view.WordExact} {hsem : DmaTarget.Typed (nD := nD) sp (.dma sm) (.here dst)}
    {q : PosShare TreeShare} (ι : Ix) (hN0 : 0 < s.numel) {V V0 : s.Idx → Val e} {Q : PUnit → sProp 𝕄} :
    iprop(Hd c src' q V ∗ Hd c dst' fullShare V0 ∗ semVal (c, .dma sm') 0
      ∗ (Transfers.Flight EC c (.dma sm') ι dst'.view.dmaCredit iprop(Hd c dst' fullShare V ∗ Hd c src' q V) -∗ Q ⟨⟩))
      ⊢ wp frame (wpE defs 𝒱 c bd) Set.univ (Prog.lift (.enqueueDma src (.here dst) (.dma sm) hsrc hdst hsem)) Q := by
  iintro ⟨Hs, Hd, Hv, HQ⟩
  ihave Hs := (Entails.of_eq (Hd_eq c src' q V)) $$ Hs
  icases Hs with ⟨%fs, %hfs, Hs⟩
  iapply (wp_start c EC 𝒱 bd (defs := defs) hs hd hm subset_rfl ι hN0 (fs := fs) (q := q) (V0 := V0))
  isplitl [Hs]; · iexact Hs
  isplitl [Hd]; · iexact Hd
  isplitl [Hv]; · iexact Hv
  iintro HF
  iapply HQ
  iapply (Transfers.Flight_mono EC c ?_) $$ HF
  iintro ⟨Hd, Hs⟩
  isplitl [Hd]
  · rw [hfs]; iexact Hd
  iapply (Entails.of_eq (Hd_eq c src' q V).symm)
  iexists fs; isplitr; · ipureintro; exact hfs
  iexact Hs

/-- A copy waited for: what it delivers, its semaphore back at zero. -/
theorem wp_wait [EC.LandsIn (upEmb : UEmb _ 𝕄)] {src : Memref sig c.2.kind sp s e} {dst dst' : Memref sig c.2.kind sp' s e}
    {sm sm' : DmaSem sig} (hd : dst = dst') (hm : sm = sm') {hsrc : src.view.WordExact} {hdst : dst.view.WordExact}
    (ι : Ix) {D : sProp 𝕄} {O : CellTallies nD τ sig Ix} {Q : PUnit → sProp 𝕄} :
    iprop(Transfers.Flight EC c (.dma sm') ι dst'.view.dmaCredit D ∗ Transfers.MayWaits c ι O ∗ (∃ W, owes c O W)
      ∗ (iprop(D ∗ semVal (c, .dma sm') 0 ∗ ∃ W, owes c O W) -∗ Q ⟨⟩))
      ⊢ wp frame (wpE defs 𝒱 c bd) Set.univ (Prog.lift (.waitDma2 sm src dst hsrc hdst)) Q := by
  subst hd hm
  iintro ⟨HF, Hmw, ⟨%W, HO⟩, HQ⟩
  ihave Hmw := (Transfers.MayWaits.elim (.dma sm)) $$ Hmw
  iapply (Transfers.wp_waitLocalO EC 𝒱 c bd (defs := defs) (srcw := src) (dstw := dst) (k := Prog.ret) ι rfl) $$ [HF HO Hmw]
  · isplitl [HF]; · iexact HF
    isplitl [HO]; · iexact HO
    iexact Hmw
  iintro ⟨HD, Hv, HO⟩
  rw [wp_ret]
  imodintro
  iapply HQ
  isplitl [HD]; · iexact HD
  isplitl [Hv]; · iexact Hv
  iexists _; iexact HO

end Cert.Proof.DecodeCopy
end
-- ==== Proof.DecodeInner.lean ====
/-
  The inner loop of the decode call: sixteen blocks of a slot of the output, each read off a slot of codes and the
  table. The slots are named once by their number (`cSl`, `oSl`); the block the program cuts out of a slot at an inner
  trip is placed in it (`emb_cBlk`, `emb_oBlk`); after the loop the slot of the output reads `wantS` (`wp_inner`).
-/
module

public import Idealize.ShloMosaic.Lib.Pointwise.Reshape
public import proofs.«01_k».proof.Proof.DecodeBody
public import proofs.«01_k».proof.Proof.DecodeCopy

@[expose] public section

noncomputable section

namespace Cert.Proof.DecodeInner

open Cert.Decode Cert.Decode.Gen
open Cert.Proof.DecodeBlock Cert.Proof.DecodeBody Cert.Proof.DecodeCopy
open Idealize.ShloMosaic
open Idealize.ShloMosaic.SparseCore (S V T)
open Idealize.SL Idealize.SL.RA
open Idealize.SL.BI (sProp)
open scoped Idealize.SL.BI
open Idealize.SL.BI.BIBase Idealize.SL.BI.Laws Idealize.SL.Sem Idealize.SL.ProofMode
open Idealize.ShloMosaic.Tactic

variable {F : FTy → Type} [FloatOps F]

local notation "tabM" => (Memref.whole Cert.Decode.cc0_scratch0 : Memref Cert.Decode.sig Kind.scVector Space.vmem Cert.Decode.S512x128 EltTy.i32)
local notation "codM" => (Memref.whole Cert.Decode.cc0_scratch1 : Memref Cert.Decode.sig Kind.scVector Space.vmem Cert.Decode.S2x16x8x32 EltTy.i32)
local notation "obM" => (Memref.whole Cert.Decode.cc0_scratch2 : Memref Cert.Decode.sig Kind.scVector Space.vmem Cert.Decode.S2x16x4x128 EltTy.i32)

/-! ## The slots -/

/-- The slot a trip works on. -/
def sl (n : Nat) : Fin 2 := ⟨n % 2, Nat.mod_lt _ (by decide)⟩

theorem inb_c (k : Fin 2) : ∀ a, (![k.val, 0, 0, 0] : Fin 4 → Nat) a + S1x16x8x32.size a ≤ S2x16x8x32.size a := by
  revert k; decide
theorem inb_o (k : Fin 2) : ∀ a, (![k.val, 0, 0, 0] : Fin 4 → Nat) a + S1x16x4x128.size a ≤ S2x16x4x128.size a := by
  revert k; decide

/-- Slot `k` of the codes, and of the output. -/
def cSl (k : Fin 2) : Memref sig .scVector .vmem S16x8x32 .i32 :=
  ((codM).slice (Rect.unit (s := S2x16x8x32) ![k.val, 0, 0, 0] S1x16x8x32.size (inb_c k)) (fun _ => rfl)).squeeze S16x8x32 squeezes_S1x16x8x32_S16x8x32
def oSl (k : Fin 2) : Memref sig .scVector .vmem S16x4x128 .i32 :=
  ((obM).slice (Rect.unit (s := S2x16x4x128) ![k.val, 0, 0, 0] S1x16x4x128.size (inb_o k)) (fun _ => rfl)).squeeze S16x4x128 squeezes_S1x16x4x128_S16x4x128

/-! ## Where a slot and its blocks lie -/

theorem cSl_emb (k : Fin 2) (x : S16x8x32.Idx) (a : Fin 4) :
    ((show S2x16x8x32.Idx from (cSl k).view.emb x) a).val = (![k.val, (x 0).val, (x 1).val, (x 2).val] : Fin 4 → Nat) a := by
  show (((Rect.unit (s := S2x16x8x32) ![k.val, 0, 0, 0] S1x16x8x32.size (inb_c k)).emb
    (Shape.reshapeEquiv squeezes_S1x16x8x32_S16x8x32.numel_eq x)) a).val = _
  rw [show Shape.reshapeEquiv squeezes_S1x16x8x32_S16x8x32.numel_eq x = (Fin.cons ⟨0, Nat.one_pos⟩ x : S1x16x8x32.Idx) from
    Shape.reshapeEquiv_cons_one (d := ![16, 8, 32]) _ x, Rect.emb_apply]
  match a with
  | 0 => show k.val + 1 * 0 = k.val; omega
  | 1 => show 0 + 1 * (x 0).val = (x 0).val; omega
  | 2 => show 0 + 1 * (x 1).val = (x 1).val; omega
  | 3 => show 0 + 1 * (x 2).val = (x 2).val; omega
theorem oSl_emb (k : Fin 2) (x : S16x4x128.Idx) (a : Fin 4) :
    ((show S2x16x4x128.Idx from (oSl k).view.emb x) a).val = (![k.val, (x 0).val, (x 1).val, (x 2).val] : Fin 4 → Nat) a := by
  show (((Rect.unit (s := S2x16x4x128) ![k.val, 0, 0, 0] S1x16x4x128.size (inb_o k)).emb
    (Shape.reshapeEquiv squeezes_S1x16x4x128_S16x4x128.numel_eq x)) a).val = _
  rw [show Shape.reshapeEquiv squeezes_S1x16x4x128_S16x4x128.numel_eq x = (Fin.cons ⟨0, Nat.one_pos⟩ x : S1x16x4x128.Idx) from
    Shape.reshapeEquiv_cons_one (d := ![16, 4, 128]) _ x, Rect.emb_apply]
  match a with
  | 0 => show k.val + 1 * 0 = k.val; omega
  | 1 => show 0 + 1 * (x 0).val = (x 0).val; omega
  | 2 => show 0 + 1 * (x 1).val = (x 1).val; omega
  | 3 => show 0 + 1 * (x 2).val = (x 2).val; omega

section Blocks

variable (i : grid0.Coords) (t1 : Fin (k0_t1_loop i).trips) (t2 : Fin k0_t2_loop.trips)

theorem t2_lt : t2.val < 16 := Nat.lt_of_lt_of_le t2.isLt k0_t2_abs.2.1

/-- Where position `y` of inner trip `t2`'s block of codes lies in the slot, and position `x` of its output block. -/
def cin (y : SC.Idx) : S16x8x32.Idx :=
  fun | 0 => ⟨2 * (t2.val % 8) + (y 0).val, by have h : (y 0).val < 2 := (y 0).isLt; show _ < 16; omega⟩
      | 1 => ⟨(y 1).val, (y 1).isLt⟩
      | 2 => ⟨16 * (t2.val / 8) + (y 2).val, by have h : (y 2).val < 16 := (y 2).isLt; have := t2_lt t2; show _ < 32; omega⟩
      | ⟨_ + 3, h⟩ => absurd h (Nat.not_lt.2 (Nat.le_add_left _ _))
def oin (x : SO.Idx) : S16x4x128.Idx :=
  fun | 0 => ⟨8 * (t2.val / 8) + (x 0).val, by have h : (x 0).val < 8 := (x 0).isLt; have := t2_lt t2; show _ < 16; omega⟩
      | 1 => ⟨(x 1).val, (x 1).isLt⟩
      | 2 => ⟨16 * (t2.val % 8) + (x 2).val, by have h : (x 2).val < 16 := (x 2).isLt; show _ < 128; omega⟩
      | ⟨_ + 3, h⟩ => absurd h (Nat.not_lt.2 (Nat.le_add_left _ _))

theorem emb_cBlk (y : SC.Idx) :
    (show S2x16x8x32.Idx from ((cBlk i codM t1 t2).access (.whole SC)).emb y) = (cSl (sl t1.val)).view.emb (cin t2 y) := by
  funext a
  refine Fin.ext (Eq.trans ?_ (cSl_emb (sl t1.val) (cin t2 y) a).symm)
  show (((Rect.unit (s := S2x16x8x32) (k0_off12 i t1 t2) S1x2x8x16.size (k0_off12_inb i t1 t2)).emb
    (Shape.reshapeEquiv squeezes_S1x2x8x16_S2x8x16.numel_eq ((Rect.whole SC).emb y))) a).val = _
  rw [Rect.emb_whole_apply, show Shape.reshapeEquiv squeezes_S1x2x8x16_S2x8x16.numel_eq y = (Fin.cons ⟨0, Nat.one_pos⟩ y : S1x2x8x16.Idx) from
    Shape.reshapeEquiv_cons_one (d := ![2, 8, 16]) _ y, Rect.emb_apply]
  have ho := k0_off12_eq i t1 t2
  refine (congrArg (· + _) (congrFun ho a)).trans ?_
  match a with
  | 0 => show t1.val % 2 + 1 * 0 = t1.val % 2; omega
  | 1 => show 2 * (t2.val % 8) + 1 * (y 0).val = 2 * (t2.val % 8) + (y 0).val; omega
  | 2 => show 0 + 1 * (y 1).val = (y 1).val; omega
  | 3 => show 16 * (t2.val / 8) + 1 * (y 2).val = 16 * (t2.val / 8) + (y 2).val; omega
theorem emb_oBlk (y : SO.Idx) :
    (show S2x16x4x128.Idx from ((oBlk i obM t1 t2).access (.whole SO)).emb y) = (oSl (sl t1.val)).view.emb (oin t2 y) := by
  funext a
  refine Fin.ext (Eq.trans ?_ (oSl_emb (sl t1.val) (oin t2 y) a).symm)
  show (((Rect.unit (s := S2x16x4x128) (k0_off20 i t1 t2) S1x8x4x16.size (k0_off20_inb i t1 t2)).emb
    (Shape.reshapeEquiv squeezes_S1x8x4x16_S8x4x16.numel_eq ((Rect.whole SO).emb y))) a).val = _
  rw [Rect.emb_whole_apply, show Shape.reshapeEquiv squeezes_S1x8x4x16_S8x4x16.numel_eq y = (Fin.cons ⟨0, Nat.one_pos⟩ y : S1x8x4x16.Idx) from
    Shape.reshapeEquiv_cons_one (d := ![8, 4, 16]) _ y, Rect.emb_apply]
  have ho := k0_off20_eq i t1 t2
  refine (congrArg (· + _) (congrFun ho a)).trans ?_
  match a with
  | 0 => show t1.val % 2 + 1 * 0 = t1.val % 2; omega
  | 1 => show 8 * (t2.val / 8) + 1 * (y 0).val = 8 * (t2.val / 8) + (y 0).val; omega
  | 2 => show 0 + 1 * (y 1).val = (y 1).val; omega
  | 3 => show 16 * (t2.val % 8) + 1 * (y 2).val = 16 * (t2.val % 8) + (y 2).val; omega

theorem cBlk_sub : (show Finset S2x16x8x32.Idx from ((cBlk i codM t1 t2).access (.whole SC)).set) ⊆ (cSl (sl t1.val)).view.set := by
  intro z hz
  obtain ⟨y, -, rfl⟩ := Finset.mem_map.1 hz
  exact (congrArg (fun w : S2x16x8x32.Idx => w ∈ (cSl (sl t1.val)).view.set) (emb_cBlk i t1 t2 y)).mpr (View.emb_mem_set _ _)
theorem oBlk_sub : (show Finset S2x16x4x128.Idx from ((oBlk i obM t1 t2).access (.whole SO)).set) ⊆ (oSl (sl t1.val)).view.set := by
  intro z hz
  obtain ⟨y, -, rfl⟩ := Finset.mem_map.1 hz
  exact (congrArg (fun w : S2x16x4x128.Idx => w ∈ (oSl (sl t1.val)).view.set) (emb_oBlk i t1 t2 y)).mpr (View.emb_mem_set _ _)

end Blocks

/-! ## What a slot of the output must hold -/

/-- The place in the slot of codes of the word slot position `x` is decoded from. -/
def cixS (x : S16x4x128.Idx) : S16x8x32.Idx :=
  fun | 0 => ⟨(x 2).val / 8, by have h2 : (x 2).val < 128 := (x 2).isLt; show _ < 16; omega⟩
      | 1 => ⟨(x 2).val % 8, by show _ < 8; omega⟩
      | 2 => ⟨2 * (x 0).val + (x 1).val / 2, by
          have h0 : (x 0).val < 16 := (x 0).isLt; have h1 : (x 1).val < 4 := (x 1).isLt; show _ < 32; omega⟩
      | ⟨_ + 3, h⟩ => absurd h (Nat.not_lt.2 (Nat.le_add_left _ _))
/-- The decoded slot: at each position the table's word at the position's code. -/
def wantS (C : Vec F S16x8x32 .i32) (T : Vec F ST .i32) : Vec F S16x4x128 .i32 :=
  fun x => T (tix (code ((x 1).val % 2 == 1) (C (cixS x))) (code_lt _ _))

/-- The inner trip that decodes slot position `x`. -/
def blk (x : S16x4x128.Idx) : Nat := (x 0).val / 8 * 8 + (x 2).val / 16

section Blocks

variable (t2 : Fin k0_t2_loop.trips)

theorem blk_oin (x : SO.Idx) : blk (oin t2 x) = t2.val := by
  have h0 : (x 0).val < 8 := (x 0).isLt
  have h2 : (x 2).val < 16 := (x 2).isLt
  have := t2_lt t2
  show (8 * (t2.val / 8) + (x 0).val) / 8 * 8 + (16 * (t2.val % 8) + (x 2).val) / 16 = t2.val
  omega

theorem exists_oin (x : S16x4x128.Idx) (h : blk x = t2.val) : ∃ y, x = oin t2 y := by
  have h0 : (x 0).val < 16 := (x 0).isLt
  have h2 : (x 2).val < 128 := (x 2).isLt
  unfold blk at h
  refine ⟨fun | 0 => ⟨(x 0).val % 8, by show _ < 8; omega⟩ | 1 => ⟨(x 1).val, (x 1).isLt⟩ | 2 => ⟨(x 2).val % 16, by show _ < 16; omega⟩
              | ⟨_ + 3, h⟩ => absurd h (Nat.not_lt.2 (Nat.le_add_left _ _)), ?_⟩
  funext a
  match a with
  | 0 => exact Fin.ext (show (x 0).val = 8 * (t2.val / 8) + (x 0).val % 8 by omega)
  | 1 => rfl
  | 2 => exact Fin.ext (show (x 2).val = 16 * (t2.val % 8) + (x 2).val % 16 by omega)

/-- A block's wanted contents are the slot's, at the block's place. -/
theorem wantS_oin (C : Vec F S16x8x32 .i32) (T : Vec F ST .i32) (x : SO.Idx) :
    wantS C T (oin t2 x) = want (fun y => C (cin t2 y)) T x := by
  have h2 : (x 2).val < 16 := (x 2).isLt
  have h0 : (x 0).val < 8 := (x 0).isLt
  have hc : cixS (oin t2 x) = cin t2 (cix x) := by
    funext a
    match a with
    | 0 => exact Fin.ext (show (16 * (t2.val % 8) + (x 2).val) / 8 = 2 * (t2.val % 8) + (x 2).val / 8 by omega)
    | 1 => exact Fin.ext (show (16 * (t2.val % 8) + (x 2).val) % 8 = (x 2).val % 8 by omega)
    | 2 => exact Fin.ext (show 2 * (8 * (t2.val / 8) + (x 0).val) + (x 1).val / 2 = 16 * (t2.val / 8) + (2 * (x 0).val + (x 1).val / 2) by omega)
  show T (tix (code ((x 1).val % 2 == 1) (C (cixS (oin t2 x)))) (code_lt _ _)) = T (tix (code ((x 1).val % 2 == 1) (C (cin t2 (cix x)))) (code_lt _ _))
  congr 2
  rw [hc]

end Blocks

/-! ## The loop -/

section Loop

variable {Ix : Type} [DecidableEq Ix] {Name : Type} [DecidableEq Name] {U : Type} [URA U] {Lvl : Type} [Preorder Lvl]

local notation "𝕄" => MT nD τ sig Ix (Elt F) Name U Lvl

variable (d : Dev nD) (i : grid0.Coords)

/-- The tile's thread. -/
abbrev thr : Thread nD τ := V d ((i 0).castLE hcore0) ((i 1).castLE hsub0)

variable (𝒱 : Variants) (bd : Option 𝒱.V) {defs : Defs nD τ sig (Elt F) Λ₀}
variable (t1 : Fin (k0_t1_loop i).trips) (t2 : Fin k0_t2_loop.trips)

/-- The slot of codes reads as before when its block is put back. -/
theorem put_c (fc gc : S2x16x8x32.Idx → Elt F .i32) {C : Vec F S16x8x32 .i32} (hfc : (cSl (sl t1.val)).view.read (Elt F) fc = C)
    (hgc : ((cBlk i codM t1 t2).access (.whole SC)).read (Elt F) gc = fun y => C (cin t2 y)) :
    (cSl (sl t1.val)).view.read (Elt F)
      ((show Finset S2x16x8x32.Idx from ((cBlk i codM t1 t2).access (.whole SC)).set).piecewise gc fc) = C := by
  funext x
  show (show Finset S2x16x8x32.Idx from ((cBlk i codM t1 t2).access (.whole SC)).set).piecewise gc fc ((cSl (sl t1.val)).view.emb x) = C x
  by_cases h : (cSl (sl t1.val)).view.emb x ∈ (show Finset S2x16x8x32.Idx from ((cBlk i codM t1 t2).access (.whole SC)).set)
  · refine (Finset.piecewise_eq_of_mem (show Finset S2x16x8x32.Idx from ((cBlk i codM t1 t2).access (.whole SC)).set) gc fc h).trans ?_
    obtain ⟨y, -, hy⟩ := Finset.mem_map.1 h
    have hx : x = cin t2 y := (cSl (sl t1.val)).view.emb.injective (hy.symm.trans (emb_cBlk i t1 t2 y))
    rw [hx]
    exact (congrArg gc (emb_cBlk i t1 t2 y)).symm.trans (congrFun hgc y)
  · exact (Finset.piecewise_eq_of_notMem (show Finset S2x16x8x32.Idx from ((cBlk i codM t1 t2).access (.whole SC)).set) gc fc h).trans
      (congrFun hfc x)

/-- The slot of the output reads the block's new contents at the block's positions, the old ones elsewhere. -/
theorem put_o (fo go : S2x16x4x128.Idx → Elt F .i32) {C : Vec F S16x8x32 .i32} {T : Vec F S512x128 .i32} {W : Vec F S16x4x128 .i32}
    (hfo : (oSl (sl t1.val)).view.read (Elt F) fo = W)
    (hgo : ((oBlk i obM t1 t2).access (.whole SO)).read (Elt F) go = want (fun y => C (cin t2 y)) T) (x : S16x4x128.Idx) :
    (blk x = t2.val → (oSl (sl t1.val)).view.read (Elt F)
      ((show Finset S2x16x4x128.Idx from ((oBlk i obM t1 t2).access (.whole SO)).set).piecewise go fo) x = wantS C T x)
    ∧ (blk x ≠ t2.val → (oSl (sl t1.val)).view.read (Elt F)
      ((show Finset S2x16x4x128.Idx from ((oBlk i obM t1 t2).access (.whole SO)).set).piecewise go fo) x = W x) := by
  constructor
  · intro hx
    obtain ⟨y, rfl⟩ := exists_oin t2 x hx
    have he := emb_oBlk i t1 t2 y
    show (show Finset S2x16x4x128.Idx from ((oBlk i obM t1 t2).access (.whole SO)).set).piecewise go fo ((oSl (sl t1.val)).view.emb (oin t2 y)) = _
    have h : (oSl (sl t1.val)).view.emb (oin t2 y) ∈ (show Finset S2x16x4x128.Idx from ((oBlk i obM t1 t2).access (.whole SO)).set) :=
      Finset.mem_map.2 ⟨y, Finset.mem_univ _, he⟩
    rw [wantS_oin]
    refine (Finset.piecewise_eq_of_mem (show Finset S2x16x4x128.Idx from ((oBlk i obM t1 t2).access (.whole SO)).set) go fo h).trans ?_
    exact (congrArg go he).symm.trans (congrFun hgo y)
  · intro hx
    show (show Finset S2x16x4x128.Idx from ((oBlk i obM t1 t2).access (.whole SO)).set).piecewise go fo ((oSl (sl t1.val)).view.emb x) = _
    have h : (oSl (sl t1.val)).view.emb x ∉ (show Finset S2x16x4x128.Idx from ((oBlk i obM t1 t2).access (.whole SO)).set) := by
      intro h
      obtain ⟨y, -, hy⟩ := Finset.mem_map.1 h
      have : x = oin t2 y := (oSl (sl t1.val)).view.emb.injective (hy.symm.trans (emb_oBlk i t1 t2 y))
      rw [this, blk_oin] at hx
      exact hx rfl
    exact (Finset.piecewise_eq_of_notMem (show Finset S2x16x4x128.Idx from ((oBlk i obM t1 t2).access (.whole SO)).set) go fo h).trans
      (congrFun hfo x)

theorem Ov_eq {c : Thread nD τ} (ov : Memref sig c.2.kind .vmem SO .i32) (V : Vec F SO .i32) : (Ov (c := c) ov V : sProp 𝕄)
    = iprop(∃ f : Buf (Elt F) ((ov.access (.whole SO)).loc c), ⌜(ov.access (.whole SO)).read (Elt F) f = V⌝
      ∗ ((ov.access (.whole SO)).loc c ↦[(ov.access (.whole SO)).set]{fullShare} f)) := rfl

omit [FloatOps F] in
theorem tab_read (f : (tabM).view.ty.Contents (Elt F)) : ((tabM).access (.whole ST)).read (Elt F) f = (tabM).view.read (Elt F) f := by
  funext x; exact congrArg f (Rect.emb_whole_apply ST x)
theorem tab_set : ((tabM).access (.whole ST)).set = (tabM).view.set := by
  refine Finset.ext fun x => ⟨fun _ => ?_, fun _ => ?_⟩
  · exact View.emb_mem_set (tabM).view x
  · exact Finset.mem_map.2 ⟨x, Finset.mem_univ _, Rect.emb_whole_apply ST x⟩

/-- One block, over whole slots: the block's positions of the output slot become right, the others keep what they held. -/
theorem wp_slot_block {C : Vec F S16x8x32 .i32} {T : Vec F S512x128 .i32} {W : Vec F S16x4x128 .i32} {Q : PUnit → sProp 𝕄} :
    (iprop(Hd (thr d i) (cSl (sl t1.val)) fullShare C ∗ Hd (thr d i) tabM fullShare T ∗ Hd (thr d i) (oSl (sl t1.val)) fullShare W
      ∗ (iprop(Hd (thr d i) (cSl (sl t1.val)) fullShare C ∗ Hd (thr d i) tabM fullShare T
          ∗ ∃ W', ⌜∀ x, (blk x = t2.val → W' x = wantS C T x) ∧ (blk x ≠ t2.val → W' x = W x)⌝ ∗ Hd (thr d i) (oSl (sl t1.val)) fullShare W') -∗ Q ⟨⟩)) : sProp 𝕄)
      ⊢ wp frame (wpE defs 𝒱 (thr d i) bd) Set.univ
          (block (c := thr d i) (cBlk i codM t1 t2) (View.loads_vmem h_S2x8x16) tabM (View.loads_vmem h_S512x128)
            (oBlk i obM t1 t2) (View.stores_vmem_bits_univ h_S8x4x16 rfl) (.ret ⟨⟩)) Q := by
  iintro ⟨HC, HT, HO, HQ⟩
  ihave HC := (Entails.of_eq (Hd_eq (thr d i) (cSl (sl t1.val)) fullShare C)) $$ HC
  icases HC with ⟨%fc, %hfc, HC⟩
  ihave HT := (Entails.of_eq (Hd_eq (thr d i) tabM fullShare T)) $$ HT
  icases HT with ⟨%ft, %hft, HT⟩
  ihave HO := (Entails.of_eq (Hd_eq (thr d i) (oSl (sl t1.val)) fullShare W)) $$ HO
  icases HO with ⟨%fo, %hfo, HO⟩
  ihave HC := (pointsTo_split_subset (cBlk_sub i t1 t2)).1 $$ HC
  icases HC with ⟨HC, HCr⟩
  ihave HO := (pointsTo_split_subset (oBlk_sub i t1 t2)).1 $$ HO
  icases HO with ⟨HO, HOr⟩
  iapply (wp_block (c := thr d i) (defs := defs) (cBlk i codM t1 t2) (View.loads_vmem h_S2x8x16) tabM (View.loads_vmem h_S512x128)
            (oBlk i obM t1 t2) (View.stores_vmem_bits_univ h_S8x4x16 rfl) 𝒱 bd Set.univ (C := fun y => C (cin t2 y)) (T := T)
            (V := fun x => W (oin t2 x)) (q := fullShare) (q' := fullShare)) $$ [HC HT HO]
  · isplitl [HC]
    · iapply (Entails.of_eq (Cv_eq (c := thr d i) (cBlk i codM t1 t2) fullShare _).symm)
      iexists fc; isplitr
      · ipureintro; funext y; rw [← hfc]; exact congrArg fc (emb_cBlk i t1 t2 y)
      iexact HC
    isplitl [HT]
    · iapply (Entails.of_eq (Tv_eq (c := thr d i) tabM fullShare _).symm)
      iexists ft; isplitr
      · ipureintro; rw [← hft]; exact tab_read ft
      rw [tab_set]
      iexact HT
    iapply (Entails.of_eq (Ov_eq (c := thr d i) (oBlk i obM t1 t2) _).symm)
    iexists fo; isplitr
    · ipureintro; funext y; rw [← hfo]; exact congrArg fo (emb_oBlk i t1 t2 y)
    iexact HO
  iintro ⟨HC, HT, HO⟩
  rw [wp_ret]
  imodintro
  iapply HQ
  isplitl [HC HCr]
  · ihave HC := (Entails.of_eq (Cv_eq (c := thr d i) (cBlk i codM t1 t2) fullShare _)) $$ HC
    icases HC with ⟨%gc, %hgc, HC⟩
    ihave HC := (pointsTo_join_subset (ℓ := (cSl (sl t1.val)).view.loc (thr d i)) (cBlk_sub i t1 t2)) $$ [HC HCr]
    · isplitl [HC]; · iexact HC
      iexact HCr
    iapply (Entails.of_eq (Hd_eq (thr d i) (cSl (sl t1.val)) fullShare C).symm)
    iexists _; isplitr
    swap; · iexact HC
    ipureintro
    exact put_c i t1 t2 fc gc hfc hgc
  isplitl [HT]
  · ihave HT := (Entails.of_eq (Tv_eq (c := thr d i) tabM fullShare _)) $$ HT
    icases HT with ⟨%gt, %hgt, HT⟩
    iapply (Entails.of_eq (Hd_eq (thr d i) tabM fullShare T).symm)
    iexists gt; isplitr
    · ipureintro; rw [← hgt]; exact (tab_read gt).symm
    rw [tab_set]
    iexact HT
  ihave HO := (Entails.of_eq (Ov_eq (c := thr d i) (oBlk i obM t1 t2) _)) $$ HO
  icases HO with ⟨%go, %hgo, HO⟩
  ihave HO := (pointsTo_join_subset (ℓ := (oSl (sl t1.val)).view.loc (thr d i)) (oBlk_sub i t1 t2)) $$ [HO HOr]
  · isplitl [HO]; · iexact HO
    iexact HOr
  iexists (oSl (sl t1.val)).view.read (Elt F) _
  isplitr
  swap
  · iapply (Entails.of_eq (Hd_eq (thr d i) (oSl (sl t1.val)) fullShare _).symm)
    iexists _; isplitr
    swap; · iexact HO
    ipureintro; rfl
  ipureintro
  exact put_o i t1 t2 fo go hfo hgo

/-- What the inner loop holds before trip `b`: the slots and the table, the output slot right at the blocks already decoded. -/
def innerInv (C : Vec F S16x8x32 .i32) (T : Vec F S512x128 .i32) (b : Nat) : sProp 𝕄 :=
  iprop(Hd (thr d i) (cSl (sl t1.val)) fullShare C ∗ Hd (thr d i) tabM fullShare T
    ∗ ∃ W, ⌜∀ x, blk x < b → W x = wantS C T x⌝ ∗ Hd (thr d i) (oSl (sl t1.val)) fullShare W)

theorem innerInv_eq (C : Vec F S16x8x32 .i32) (T : Vec F S512x128 .i32) (b : Nat) : (innerInv d i t1 C T b : sProp 𝕄)
    = iprop(Hd (thr d i) (cSl (sl t1.val)) fullShare C ∗ Hd (thr d i) tabM fullShare T
      ∗ ∃ W, ⌜∀ x, blk x < b → W x = wantS C T x⌝ ∗ Hd (thr d i) (oSl (sl t1.val)) fullShare W) := rfl

theorem trips2 : k0_t2_loop.trips = 16 := by decide +kernel

/-- The inner loop leaves the output slot reading what it must hold. -/
theorem wp_inner {C : Vec F S16x8x32 .i32} {T : Vec F S512x128 .i32} {W : Vec F S16x4x128 .i32} {Q : PUnit → sProp 𝕄}
    (arg2 : Memref sig .scVector .hbm S512x2x128 .i32) (harg2 : arg2.IsWhole)
    (arg3 : Memref sig .scVector .hbm S512x7x8x128 .i32) (harg3 : arg3.IsWhole)
    (arg4 : Memref sig .scVector .hbm S448x28x4x2x128 .i32) (harg4 : arg4.IsWhole) (harg5 : (tabM).IsWhole) (harg6 : (codM).IsWhole) (harg7 : (obM).IsWhole)
    (arg8 : DmaSems sig S_) (arg9 : DmaSems sig S2) (arg10 : DmaSems sig S2) (v3 v7 c48 c49 c50 c52 : BitVec 32) :
    (iprop(Hd (thr d i) (cSl (sl t1.val)) fullShare C ∗ Hd (thr d i) tabM fullShare T ∗ Hd (thr d i) (oSl (sl t1.val)) fullShare W
      ∗ (iprop(Hd (thr d i) (cSl (sl t1.val)) fullShare C ∗ Hd (thr d i) tabM fullShare T
          ∗ Hd (thr d i) (oSl (sl t1.val)) fullShare (wantS C T)) -∗ Q ⟨⟩)) : sProp 𝕄)
      ⊢ wp frame (wpE defs 𝒱 (thr d i) bd) Set.univ
          (Scf.Loop.for k0_t2_loop k0_t2_ok ⟨⟩ (k0_t2_body (F := F) i arg2 harg2 arg3 harg3 arg4 harg4 tabM harg5 codM harg6 obM harg7 arg8 arg9 arg10 v3 v7 lanes
        (dg 0) (dg 1) (dg 2) (dg 3) (dg 4) (dg 5) (dg 6) (dg 7) (dg 8) (dg 9) (dg 10) (dg 11) (dg 12) (dg 13) (dg 14) (dg 15)
        c48 c49 c50 c52 t1)) Q := by
  refine Entails.trans ?_ (Scf.wp_for frame (wpE defs 𝒱 (thr d i) bd) Set.univ _ _ _ k0_t2_ok (PUnit.unit : PUnit.{1}) _ (fun b _ => innerInv d i t1 C T b) ?_)
  · iintro ⟨HC, HT, HO, HQ⟩
    isplitl [HC HT HO]
    · iapply (Entails.of_eq (innerInv_eq d i t1 C T 0).symm)
      isplitl [HC]; · iexact HC
      isplitl [HT]; · iexact HT
      iexists W; isplitr; · ipureintro; exact fun x hx => absurd hx (Nat.not_lt_zero _)
      iexact HO
    iintro %_ HI
    ihave HI := (Entails.of_eq (innerInv_eq d i t1 C T _)) $$ HI
    icases HI with ⟨HC, HT, ⟨%W', %hW, HO⟩⟩
    iapply HQ
    isplitl [HC]; · iexact HC
    isplitl [HT]; · iexact HT
    have hW' : W' = wantS C T := funext fun x => hW x (by
      have h0 : (x 0).val < 16 := (x 0).isLt
      have h2 : (x 2).val < 128 := (x 2).isLt
      show (x 0).val / 8 * 8 + (x 2).val / 16 < k0_t2_loop.trips
      rw [trips2]; omega)
    rw [← hW']
    iexact HO
  · intro t2 _
    rw [t2_body_eq]
    iintro HI
    ihave HI := (Entails.of_eq (innerInv_eq d i t1 C T _)) $$ HI
    icases HI with ⟨HC, HT, ⟨%W', %hW, HO⟩⟩
    iapply (wp_slot_block d i 𝒱 bd t1 t2 (W := W') (C := C) (T := T))
    isplitl [HC]; · iexact HC
    isplitl [HT]; · iexact HT
    isplitl [HO]; · iexact HO
    iintro ⟨HC, HT, ⟨%W'', %hW', HO⟩⟩
    iapply (Entails.of_eq (innerInv_eq d i t1 C T _).symm)
    isplitl [HC]; · iexact HC
    isplitl [HT]; · iexact HT
    iexists W''; isplitr
    · ipureintro
      intro x hx
      by_cases h : blk x = t2.val
      · exact (hW' x).1 h
      · exact ((hW' x).2 h).trans (hW x (by omega))
    iexact HO

end Loop

end Cert.Proof.DecodeInner
end
-- ==== Proof.DecodeOffs.lean ====
/-
  Which elements a tile's copies address, at each trip of its loop. Tile `i` works through the units `un i t`, `t < 49`;
  a unit names a rectangle of the codes (`coff`) and one of the output (`ooff`). The offsets the program computes are
  these.
-/
module

public import proofs.«01_k».proof.Proof.DecodeInner

@[expose] public section

noncomputable section

namespace Cert.Proof.DecodeOffs

open Cert.Decode Cert.Decode.Gen
open Idealize.ShloMosaic

/-- The unit tile `i` decodes at trip `t`. -/
def un (i : grid0.Coords) (t : Nat) : Nat := 8 * (i 0).val + (i 1).val / 2 + 16 * min t 48

/-- Where the rectangle of codes of a trip begins, and the rectangle of the output. -/
def coff (i : grid0.Coords) (t : Nat) : Fin 4 → Nat := ![16 * (un i t / 28) + 64, un i t % 28 / 4, 0, 32 * (un i t % 28 % 4)]
def ooff (i : grid0.Coords) (t : Nat) : Fin 5 → Nat := ![16 * (un i t % 28), un i t / 28, 0, (i 1).val % 2, 0]

theorem i0_lt (i : grid0.Coords) : (i 0).val < 2 := (i 0).isLt
theorem i1_lt (i : grid0.Coords) : (i 1).val < 16 := (i 1).isLt

theorem un_lt (i : grid0.Coords) (t : Nat) : un i t < 784 := by
  have := i0_lt i; have := i1_lt i; unfold un; omega
theorem un_of_lt (i : grid0.Coords) {t : Nat} (h : t < 49) : un i t = 8 * (i 0).val + (i 1).val / 2 + 16 * t := by
  unfold un; rw [Nat.min_eq_left (by omega)]

theorem coff_inb (i : grid0.Coords) (t : Nat) : ∀ a, coff i t a + S16x1x8x32.size a ≤ S512x7x8x128.size a := by
  have h := un_lt i t
  intro a
  match a with
  | 0 => show 16 * (un i t / 28) + 64 + 16 ≤ 512; omega
  | 1 => show un i t % 28 / 4 + 1 ≤ 7; omega
  | 2 => show 0 + 8 ≤ 8; omega
  | 3 => show 32 * (un i t % 28 % 4) + 32 ≤ 128; omega
theorem ooff_inb (i : grid0.Coords) (t : Nat) : ∀ a, ooff i t a + S16x1x4x1x128.size a ≤ S448x28x4x2x128.size a := by
  have h := un_lt i t
  intro a
  match a with
  | 0 => show 16 * (un i t % 28) + 16 ≤ 448; omega
  | 1 => show un i t / 28 + 1 ≤ 28; omega
  | 2 => show 0 + 4 ≤ 4; omega
  | 3 => show (i 1).val % 2 + 1 ≤ 2; omega
  | 4 => show 0 + 128 ≤ 128; omega

/-! ## The trips and the conditions -/

theorem trips1 : ∀ i : grid0.Coords, (k0_t1_loop i).trips = 49 := by decide +kernel
theorem trips3 : ∀ i : grid0.Coords, (k0_t3_loop i).trips = 0 := by decide +kernel
theorem cond1_iff : ∀ (i : grid0.Coords) (t : Fin (k0_t1_loop i).trips), k0_cond1 i t = 1#1 ↔ t.val + 1 < 49 := by decide +kernel
theorem cond2_iff : ∀ (i : grid0.Coords) (t : Fin (k0_t1_loop i).trips), k0_cond2 i t = 1#1 ↔ 1 < t.val := by decide +kernel
theorem cond5 : ∀ i : grid0.Coords, k0_cond5 i = 1#1 := by decide +kernel
theorem cond6 : ∀ i : grid0.Coords, k0_cond6 i = 1#1 := by decide +kernel

/-! ## The offsets -/

theorem off1 (i : grid0.Coords) : k0_off1 i = coff i 0 := by
  have := i0_lt i; have := i1_lt i
  rw [k0_off1_eq]
  unfold coff
  rw [un_of_lt i (by omega), Nat.mod_eq_of_lt (a := 8 * (i 0).val + (i 1).val / 2 + 16 * 0) (by omega)]
  rfl
theorem off4 (i : grid0.Coords) (t : Fin (k0_t1_loop i).trips) (h : t.val + 1 < 49) : k0_off4 i t = coff i (t.val + 1) := by
  rw [k0_off4_eq]; unfold coff; rw [un_of_lt i h]; rfl
theorem t_lt (i : grid0.Coords) (t : Fin (k0_t1_loop i).trips) : t.val < 49 := trips1 i ▸ t.isLt
theorem off7 (i : grid0.Coords) (t : Fin (k0_t1_loop i).trips) : k0_off7 i t = coff i t.val := by
  rw [k0_off7_eq]; unfold coff; rw [un_of_lt i (t_lt i t)]
theorem off61 (i : grid0.Coords) (t : Fin (k0_t1_loop i).trips) : k0_off61 i t = ooff i t.val := by
  rw [k0_off61_eq]; unfold ooff; rw [un_of_lt i (t_lt i t)]
theorem off10 : ∀ (i : grid0.Coords) (t : Fin (k0_t1_loop i).trips), k0_cond2 i t = 1#1 → k0_off10 i t = ooff i (t.val - 2) := by decide +kernel
theorem off123 : ∀ i : grid0.Coords, k0_off123 i = ooff i 47 := by decide +kernel
theorem off126 : ∀ i : grid0.Coords, k0_off126 i = ooff i 48 := by decide +kernel
theorem off122 : ∀ i : grid0.Coords, k0_off122 i = ![1, 0, 0, 0] := by decide +kernel
theorem off124 : ∀ i : grid0.Coords, k0_off124 i = ![1] := by decide +kernel
theorem off125 : ∀ i : grid0.Coords, k0_off125 i = ![0, 0, 0, 0] := by decide +kernel
theorem off127 : ∀ i : grid0.Coords, k0_off127 i = ![0] := by decide +kernel
theorem off3 (i : grid0.Coords) (t : Fin (k0_t1_loop i).trips) : k0_off3 i t = ![(t.val + 1) % 2, 0, 0, 0] := by
  rw [k0_off3_eq, show 1 - t.val % 2 = (t.val + 1) % 2 by omega]
theorem off5 (i : grid0.Coords) (t : Fin (k0_t1_loop i).trips) : k0_off5 i t = ![(t.val + 1) % 2] := by
  rw [k0_off5_eq, show 1 - t.val % 2 = (t.val + 1) % 2 by omega]

end Cert.Proof.DecodeOffs
end
-- ==== Proof.DecodeTile.lean ====
/-
  One trip of a tile's loop in the decode call. Before trip `u` the tile has the copy of that trip's codes under way,
  the copies of the last two units of the output under way, and the rest of its rectangles of the output in hand
  (`Inv`); a trip takes that to the next (`wp_trip`).
-/
module

public import Idealize.ShloMosaic.Lib.SparseCore.Quiescent
public import Idealize.ShloMosaic.Lib.Tactic
public import proofs.«01_k».proof.Proof.DecodeOffs

@[expose] public section

noncomputable section

namespace Cert.Proof.DecodeTile

open Cert.Decode Cert.Decode.Gen
open Cert.Proof.DecodeBlock Cert.Proof.DecodeBody Cert.Proof.DecodeCopy Cert.Proof.DecodeInner Cert.Proof.DecodeOffs
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ
local notation "EC" => (Idealize.ShloMosaic.countersEmb : UEmb Counters (MT nD τ sig (HIx 1) (Elt F) ℕ UU ℕ))

local notation "wM" => (Memref.whole Cert.Decode.main_v1_scv : Memref Cert.Decode.sig Kind.scVector Space.hbm Cert.Decode.S512x2x128 EltTy.i32)
local notation "cM" => (Memref.whole Cert.Decode.main_v3_scv : Memref Cert.Decode.sig Kind.scVector Space.hbm Cert.Decode.S512x7x8x128 EltTy.i32)
local notation "yM" => (Memref.whole Cert.Decode.main_v4_scv : Memref Cert.Decode.sig Kind.scVector Space.hbm Cert.Decode.S448x28x4x2x128 EltTy.i32)
local notation "tabM" => (Memref.whole Cert.Decode.cc0_scratch0 : Memref Cert.Decode.sig Kind.scVector Space.vmem Cert.Decode.S512x128 EltTy.i32)
local notation "codM" => (Memref.whole Cert.Decode.cc0_scratch1 : Memref Cert.Decode.sig Kind.scVector Space.vmem Cert.Decode.S2x16x8x32 EltTy.i32)
local notation "obM" => (Memref.whole Cert.Decode.cc0_scratch2 : Memref Cert.Decode.sig Kind.scVector Space.vmem Cert.Decode.S2x16x4x128 EltTy.i32)

/-! ## The rectangles and the semaphores -/

/-- The rectangle of codes of trip `t`, the one of the output, and the plane of the words the tile's table is copied from. -/
def cR (i : grid0.Coords) (t : Nat) : Memref sig .scVector .hbm S16x8x32 .i32 :=
  ((cM).slice (Rect.unit (s := S512x7x8x128) (coff i t) S16x1x8x32.size (coff_inb i t)) (fun _ => rfl)).squeeze S16x8x32 squeezes_S16x1x8x32_S16x8x32
def oR (i : grid0.Coords) (t : Nat) : Memref sig .scVector .hbm S16x4x128 .i32 :=
  ((yM).slice (Rect.unit (s := S448x28x4x2x128) (ooff i t) S16x1x4x1x128.size (ooff_inb i t)) (fun _ => rfl)).squeeze S16x4x128 squeezes_S16x1x4x1x128_S16x4x128
def tR (i : grid0.Coords) : Memref sig .scVector .hbm S512x128 .i32 :=
  ((wM).slice (Rect.unit (s := S512x2x128) (k0_off2 i) S512x1x128.size (k0_off2_inb i)) (fun _ => rfl)).squeeze S512x128 squeezes_S512x1x128_S512x128

theorem inb_s (k : Fin 2) : ∀ a, (![k.val] : Fin 1 → Nat) a + S1.size a ≤ S2.size a := by revert k; decide

/-- The semaphores of slot `k`: of the copies of codes into it, and of the copies of the output out of it. -/
def cA (k : Fin 2) : DmaSem sig := ((cc0_scratch4.slice (Rect.unit (s := S2) ![k.val] S1.size (inb_s k))).squeeze S_ squeezes_S1_S_).sem
def oA (k : Fin 2) : DmaSem sig := ((cc0_scratch5.slice (Rect.unit (s := S2) ![k.val] S1.size (inb_s k))).squeeze S_ squeezes_S1_S_).sem

theorem cR_eq (i : grid0.Coords) (t : Nat) {off : Fin 4 → Nat} (h : off = coff i t) (p : ∀ a, off a + S16x1x8x32.size a ≤ S512x7x8x128.size a) :
    ((cM).slice (Rect.unit (s := S512x7x8x128) off S16x1x8x32.size p) (fun _ => rfl)).squeeze S16x8x32 squeezes_S16x1x8x32_S16x8x32 = cR i t := by
  subst h; rfl
theorem oR_eq (i : grid0.Coords) (t : Nat) {off : Fin 5 → Nat} (h : off = ooff i t) (p : ∀ a, off a + S16x1x4x1x128.size a ≤ S448x28x4x2x128.size a) :
    ((yM).slice (Rect.unit (s := S448x28x4x2x128) off S16x1x4x1x128.size p) (fun _ => rfl)).squeeze S16x4x128 squeezes_S16x1x4x1x128_S16x4x128 = oR i t := by
  subst h; rfl
theorem cSl_eq (k : Fin 2) {off : Fin 4 → Nat} (h : off = ![k.val, 0, 0, 0]) (p : ∀ a, off a + S1x16x8x32.size a ≤ S2x16x8x32.size a) :
    ((codM).slice (Rect.unit (s := S2x16x8x32) off S1x16x8x32.size p) (fun _ => rfl)).squeeze S16x8x32 squeezes_S1x16x8x32_S16x8x32 = cSl k := by
  subst h; rfl
theorem oSl_eq (k : Fin 2) {off : Fin 4 → Nat} (h : off = ![k.val, 0, 0, 0]) (p : ∀ a, off a + S1x16x4x128.size a ≤ S2x16x4x128.size a) :
    ((obM).slice (Rect.unit (s := S2x16x4x128) off S1x16x4x128.size p) (fun _ => rfl)).squeeze S16x4x128 squeezes_S1x16x4x128_S16x4x128 = oSl k := by
  subst h; rfl
theorem cA_eq (k : Fin 2) {off : Fin 1 → Nat} (h : off = ![k.val]) (p : ∀ a, off a + S1.size a ≤ S2.size a) :
    ((cc0_scratch4.slice (Rect.unit (s := S2) off S1.size p)).squeeze S_ squeezes_S1_S_).sem = cA k := by
  subst h; rfl
theorem oA_eq (k : Fin 2) {off : Fin 1 → Nat} (h : off = ![k.val]) (p : ∀ a, off a + S1.size a ≤ S2.size a) :
    ((cc0_scratch5.slice (Rect.unit (s := S2) off S1.size p)).squeeze S_ squeezes_S1_S_).sem = oA k := by
  subst h; rfl

/-! ## What a tile holds -/

section Tile

abbrev wLoc (d : Dev nD) : Loc nD τ sig := (SparseCore.T d).loc main_v1
abbrev cLoc (d : Dev nD) : Loc nD τ sig := (SparseCore.T d).loc main_v3
abbrev yLoc (d : Dev nD) : Loc nD τ sig := (SparseCore.T d).loc main_v4

variable (d : Dev nD) (i : grid0.Coords) (mw : Buf (Elt F) (wLoc d)) (mc : Buf (Elt F) (cLoc d)) (qs : Fin 2 → PosShare TreeShare)
variable (O : CellTallies nD τ sig (HIx 1))

/-- The codes of trip `t`, the tile's table, and what trip `t` puts in the output. -/
def Ct (t : Nat) : Vec F S16x8x32 .i32 := (cR i t).view.read (Elt F) mc
def Tt : Vec F S512x128 .i32 := (tR i).view.read (Elt F) mw
def Wt (t : Nat) : Vec F S16x4x128 .i32 := wantS (Ct d i mc t) (Tt d i mw)

/-- The slot of codes of trip `n` at rest, and filling. -/
def CI (n : Nat) : sProp 𝕄 :=
  iprop((∃ V, Hd (thr d i) (cSl (sl n)) fullShare V) ∗ (cLoc d ↦{qs (sl n)} mc) ∗ semVal (thr d i, .dma (cA (sl n))) 0)
def CG (n : Nat) : sProp 𝕄 :=
  Transfers.Flight EC (thr d i) (.dma (cA (sl n))) none (cSl (sl n)).view.dmaCredit
    iprop(Hd (thr d i) (cSl (sl n)) fullShare (Ct d i mc n) ∗ (cLoc d ↦{qs (sl n)} mc))
def CF (n : Nat) : sProp 𝕄 := if n < 49 then CG d i mc qs n else CI d i mc qs n

/-- The slot of the output of trip `n` at rest, and emptying the unit of two trips before. -/
def OI (n : Nat) : sProp 𝕄 :=
  iprop((∃ V, Hd (thr d i) (oSl (sl n)) fullShare V) ∗ semVal (thr d i, .dma (oA (sl n))) 0)
def OG (n : Nat) : sProp 𝕄 :=
  Transfers.Flight EC (thr d i) (.dma (oA (sl n))) none (oR i (n - 2)).view.dmaCredit
    iprop(Hd (thr d i) (oR i (n - 2)) fullShare (Wt d i mw mc (n - 2)) ∗ Hd (thr d i) (oSl (sl n)) fullShare (Wt d i mw mc (n - 2)))
def OF (n : Nat) : sProp 𝕄 := if n < 2 then OI d i n else OG d i mw mc n

/-- Before trip `u`. -/
def Inv (u : Nat) : sProp 𝕄 :=
  iprop(Hd (thr d i) tabM fullShare (Tt d i mw) ∗ CF d i mc qs u ∗ CI d i mc qs (u + 1) ∗ OF d i mw mc u ∗ OF d i mw mc (u + 1)
    ∗ (bigSep (Finset.Ico u 49) fun t => iprop(∃ V, Hd (thr d i) (oR i t) fullShare V))
    ∗ (bigSep (Finset.range (u - 2)) fun t => Hd (thr d i) (oR i t) fullShare (Wt d i mw mc t))
    ∗ ∃ W, owes (thr d i) O W)

theorem Inv_eq (u : Nat) : (Inv d i mw mc qs O u : sProp 𝕄) =
  iprop(Hd (thr d i) tabM fullShare (Tt d i mw) ∗ CF d i mc qs u ∗ CI d i mc qs (u + 1) ∗ OF d i mw mc u ∗ OF d i mw mc (u + 1)
    ∗ (bigSep (Finset.Ico u 49) fun t => iprop(∃ V, Hd (thr d i) (oR i t) fullShare V))
    ∗ (bigSep (Finset.range (u - 2)) fun t => Hd (thr d i) (oR i t) fullShare (Wt d i mw mc t))
    ∗ ∃ W, owes (thr d i) O W) := rfl
theorem CI_eq (n : Nat) : (CI d i mc qs n : sProp 𝕄) =
  iprop((∃ V, Hd (thr d i) (cSl (sl n)) fullShare V) ∗ (cLoc d ↦{qs (sl n)} mc) ∗ semVal (thr d i, .dma (cA (sl n))) 0) := rfl
theorem OI_eq (n : Nat) : (OI d i n : sProp 𝕄) =
  iprop((∃ V, Hd (thr d i) (oSl (sl n)) fullShare V) ∗ semVal (thr d i, .dma (oA (sl n))) 0) := rfl
theorem CF_lt {n : Nat} (h : n < 49) : (CF d i mc qs n : sProp 𝕄) = CG d i mc qs n := if_pos h
theorem CF_ge {n : Nat} (h : ¬ n < 49) : (CF d i mc qs n : sProp 𝕄) = CI d i mc qs n := if_neg h
theorem OF_lt {n : Nat} (h : n < 2) : (OF d i mw mc n : sProp 𝕄) = OI d i n := if_pos h
theorem OF_ge {n : Nat} (h : ¬ n < 2) : (OF d i mw mc n : sProp 𝕄) = OG d i mw mc n := if_neg h

theorem sl_add2 (n : Nat) : sl (n + 2) = sl n := Fin.ext (Nat.add_mod_right n 2)

theorem CI_add2 (n : Nat) : (CI d i mc qs (n + 2) : sProp 𝕄) = CI d i mc qs n := by unfold CI; rw [sl_add2]

omit [FloatOps F] in
theorem bigSep_Ico (Φ : Nat → sProp 𝕄) {u : Nat} (h : u < 49) :
    bigSep (Finset.Ico u 49) Φ = iprop(Φ u ∗ bigSep (Finset.Ico (u + 1) 49) Φ) := by
  rw [show Finset.Ico u 49 = insert u (Finset.Ico (u + 1) 49) from by ext x; simp only [Finset.mem_Ico, Finset.mem_insert]; omega,
    SparseCore.bigSep_insert' (by simp)]

variable (t1 : Fin (k0_t1_loop i).trips)

/-- The codes, named through a rectangle of them. -/
theorem pts_cR (t : Nat) (q : PosShare TreeShare) :
    ((cR i t).view.loc (thr d i) ↦[Finset.univ]{q} mc : sProp 𝕄) = (cLoc d ↦{q} mc) := rfl

/-- The start of the next trip's copy of codes, under its condition, before `k`. -/
def pNext {β : Type} (k : Prog (TpuEff nD τ sig (Elt F) Λ₀ (thr d i).2) β) : Prog (TpuEff nD τ sig (Elt F) Λ₀ (thr d i).2) β :=
        if k0_h1 : k0_cond1 i t1 = 1#1 then do
            Prog.lift (.enqueueDma
              (((cM).slice (Rect.unit (s := S512x7x8x128) (k0_off4 i t1) S16x1x8x32.size (k0_off4_inb i t1 k0_h1)) (fun _ => rfl)).squeeze S16x8x32 squeezes_S16x1x8x32_S16x8x32)
              (.here (((codM).slice (Rect.unit (s := S2x16x8x32) (k0_off3 i t1) S1x16x8x32.size (k0_off3_inb i t1 k0_h1)) (fun _ => rfl)).squeeze S16x8x32 squeezes_S1x16x8x32_S16x8x32))
              (.dma ((cc0_scratch4.slice (Rect.unit (s := S2) (k0_off5 i t1) S1.size (k0_off5_inb i t1 k0_h1))).squeeze S_ squeezes_S1_S_).sem)
              ((View.wordExact_bits rfl).reshape _ _) ((View.wordExact_bits rfl).reshape _ _) ⟨Or.inl rfl, trivial⟩)
            k
          else k
theorem pNext_eq {β : Type} (k : Prog (TpuEff nD τ sig (Elt F) Λ₀ (thr d i).2) β) :
        (if k0_h1 : k0_cond1 i t1 = 1#1 then do
            Prog.lift (.enqueueDma
              (((cM).slice (Rect.unit (s := S512x7x8x128) (k0_off4 i t1) S16x1x8x32.size (k0_off4_inb i t1 k0_h1)) (fun _ => rfl)).squeeze S16x8x32 squeezes_S16x1x8x32_S16x8x32)
              (.here (((codM).slice (Rect.unit (s := S2x16x8x32) (k0_off3 i t1) S1x16x8x32.size (k0_off3_inb i t1 k0_h1)) (fun _ => rfl)).squeeze S16x8x32 squeezes_S1x16x8x32_S16x8x32))
              (.dma ((cc0_scratch4.slice (Rect.unit (s := S2) (k0_off5 i t1) S1.size (k0_off5_inb i t1 k0_h1))).squeeze S_ squeezes_S1_S_).sem)
              ((View.wordExact_bits rfl).reshape _ _) ((View.wordExact_bits rfl).reshape _ _) ⟨Or.inl rfl, trivial⟩)
            k
          else k) = pNext d i t1 k := rfl
attribute [irreducible] pNext

/-- The copy of the next trip's codes, started unless this is the last trip. -/
theorem wp_next {β : Type} (k : Prog (TpuEff nD τ sig (Elt F) Λ₀ (thr d i).2) β) {Q : β → sProp 𝕄} :
    iprop(CI d i mc qs (t1.val + 1) ∗ (CF d i mc qs (t1.val + 1) -∗ wp frame (wpE (defs₀ (F := F)) Variants.none (thr d i) none) Set.univ k Q))
      ⊢ wp frame (wpE (defs₀ (F := F)) Variants.none (thr d i) none) Set.univ
        (pNext d i t1 k) Q := by
  rw [← pNext_eq]
  rcases Classical.em (k0_cond1 i t1 = 1#1) with h | h
  · have ht : t1.val + 1 < 49 := (cond1_iff i t1).1 h
    rw [dif_pos h, wp_bind, CF_lt d i mc qs ht]
    unfold CG
    iintro ⟨HC, HQ⟩
    ihave HC := (Entails.of_eq (CI_eq d i mc qs _)) $$ HC
    icases HC with ⟨⟨%V, HS⟩, Hm, Hv⟩
    iapply (wp_start (thr d i) EC Variants.none none (defs := defs₀) (cR_eq i (t1.val + 1) (off4 i t1 ht) (k0_off4_inb i t1 h))
      (cSl_eq (sl (t1.val + 1)) (off3 i t1) (k0_off3_inb i t1 h)) (cA_eq (sl (t1.val + 1)) (off5 i t1) (k0_off5_inb i t1 h))
      (Ss := Finset.univ) (Finset.subset_univ _) none (by decide) (fs := mc) (q := qs (sl (t1.val + 1))) (V0 := V))
    rw [pts_cR d i mc]
    isplitl [Hm]; · iexact Hm
    isplitl [HS]; · iexact HS
    isplitl [Hv]; · iexact Hv
    iintro HF
    iapply HQ
    iexact HF
  · have ht : ¬ t1.val + 1 < 49 := fun ht => h ((cond1_iff i t1).2 ht)
    rw [dif_neg h, CF_ge d i mc qs ht]
    iintro ⟨HC, HQ⟩
    iapply HQ
    iexact HC

/-- The copy of this trip's codes, waited for. -/
theorem wp_here {Q : PUnit → sProp 𝕄} :
    iprop(CF d i mc qs t1.val ∗ Transfers.MayWaits (thr d i) none O ∗ (∃ W, owes (thr d i) O W)
      ∗ (iprop(Hd (thr d i) (cSl (sl t1.val)) fullShare (Ct d i mc t1.val) ∗ (cLoc d ↦{qs (sl t1.val)} mc) ∗ semVal (thr d i, .dma (cA (sl t1.val))) 0
          ∗ (∃ W, owes (thr d i) O W)) -∗ Q ⟨⟩))
      ⊢ wp frame (wpE (defs₀ (F := F)) Variants.none (thr d i) none) Set.univ
        (Prog.lift (.waitDma2 ((cc0_scratch4.slice (Rect.unit (s := S2) (k0_off8 i t1) S1.size (k0_off8_inb i t1))).squeeze S_ squeezes_S1_S_).sem
          (((cM).slice (Rect.unit (s := S512x7x8x128) (k0_off7 i t1) S16x1x8x32.size (k0_off7_inb i t1)) (fun _ => rfl)).squeeze S16x8x32 squeezes_S16x1x8x32_S16x8x32)
          (((codM).slice (Rect.unit (s := S2x16x8x32) (k0_off6 i t1) S1x16x8x32.size (k0_off6_inb i t1)) (fun _ => rfl)).squeeze S16x8x32 squeezes_S1x16x8x32_S16x8x32)
          ((View.wordExact_bits rfl).reshape _ _) ((View.wordExact_bits rfl).reshape _ _))) Q := by
  rw [CF_lt d i mc qs (t_lt i t1)]
  unfold CG
  iintro ⟨HF, Hmw, HO, HQ⟩
  iapply (wp_wait (thr d i) EC Variants.none none (defs := defs₀) (cSl_eq (sl t1.val) (k0_off6_eq i t1) (k0_off6_inb i t1))
    (cA_eq (sl t1.val) (k0_off8_eq i t1) (k0_off8_inb i t1)) none (O := O))
  isplitl [HF]; · iexact HF
  isplitl [Hmw]; · iexact Hmw
  isplitl [HO]; · iexact HO
  iintro ⟨⟨HS, Hm⟩, Hv, HO⟩
  iapply HQ
  isplitl [HS]; · iexact HS
  isplitl [Hm]; · iexact Hm
  isplitl [Hv]; · iexact Hv
  iexact HO

/-- The copy of the output of two trips before, waited for unless there is none. -/
theorem wp_back {β : Type} (k : Prog (TpuEff nD τ sig (Elt F) Λ₀ (thr d i).2) β) {Q : β → sProp 𝕄} :
    iprop(OF d i mw mc t1.val ∗ (bigSep (Finset.range (t1.val - 2)) fun t => Hd (thr d i) (oR i t) fullShare (Wt d i mw mc t))
      ∗ Transfers.MayWaits (thr d i) none O ∗ (∃ W, owes (thr d i) O W)
      ∗ (iprop(OI d i t1.val ∗ (bigSep (Finset.range (t1.val + 1 - 2)) fun t => Hd (thr d i) (oR i t) fullShare (Wt d i mw mc t))
          ∗ (∃ W, owes (thr d i) O W)) -∗ wp frame (wpE (defs₀ (F := F)) Variants.none (thr d i) none) Set.univ k Q))
      ⊢ wp frame (wpE (defs₀ (F := F)) Variants.none (thr d i) none) Set.univ
        (if k0_h2 : k0_cond2 i t1 = 1#1 then do
            Prog.lift (.waitDma2 ((cc0_scratch5.slice (Rect.unit (s := S2) (k0_off11 i t1) S1.size (k0_off11_inb i t1 k0_h2))).squeeze S_ squeezes_S1_S_).sem
              (((obM).slice (Rect.unit (s := S2x16x4x128) (k0_off9 i t1) S1x16x4x128.size (k0_off9_inb i t1 k0_h2)) (fun _ => rfl)).squeeze S16x4x128 squeezes_S1x16x4x128_S16x4x128)
              (((yM).slice (Rect.unit (s := S448x28x4x2x128) (k0_off10 i t1) S16x1x4x1x128.size (k0_off10_inb i t1 k0_h2)) (fun _ => rfl)).squeeze S16x4x128 squeezes_S16x1x4x1x128_S16x4x128)
              ((View.wordExact_bits rfl).reshape _ _) ((View.wordExact_bits rfl).reshape _ _))
            k
          else k) Q := by
  rcases Classical.em (k0_cond2 i t1 = 1#1) with h | h
  · have ht : 1 < t1.val := (cond2_iff i t1).1 h
    rw [dif_pos h, wp_bind, OF_ge d i mw mc (by omega), show t1.val + 1 - 2 = t1.val - 2 + 1 by omega, Finset.range_add_one,
      SparseCore.bigSep_insert' Finset.notMem_range_self]
    unfold OG
    iintro ⟨HF, HR, Hmw, HO, HQ⟩
    iapply (wp_wait (thr d i) EC Variants.none none (defs := defs₀) (oR_eq i (t1.val - 2) (off10 i t1 h) (k0_off10_inb i t1 h))
      (oA_eq (sl t1.val) (k0_off11_eq i t1) (k0_off11_inb i t1 h)) none (O := O))
    isplitl [HF]; · iexact HF
    isplitl [Hmw]; · iexact Hmw
    isplitl [HO]; · iexact HO
    iintro ⟨⟨HY, HS⟩, Hv, HO⟩
    iapply HQ
    isplitl [HS Hv]
    · iapply (Entails.of_eq (OI_eq d i _).symm)
      isplitl [HS]; · iexists _; iexact HS
      iexact Hv
    isplitl [HY HR]
    · isplitl [HY]; · iexact HY
      iexact HR
    iexact HO
  · have ht : ¬ 1 < t1.val := fun ht => h ((cond2_iff i t1).2 ht)
    rw [dif_neg h, OF_lt d i mw mc (by omega), show t1.val + 1 - 2 = 0 by omega, show t1.val - 2 = 0 by omega]
    iintro ⟨HF, HR, Hmw, HO, HQ⟩
    iapply HQ
    isplitl [HF]; · iexact HF
    isplitl [HR]; · iexact HR
    iexact HO

/-- The copy of this trip's output, started. -/
theorem wp_out {Q : PUnit → sProp 𝕄} :
    iprop(Hd (thr d i) (oSl (sl t1.val)) fullShare (Wt d i mw mc t1.val) ∗ semVal (thr d i, .dma (oA (sl t1.val))) 0
      ∗ (∃ V, Hd (thr d i) (oR i t1.val) fullShare V) ∗ (OF d i mw mc (t1.val + 2) -∗ Q ⟨⟩))
      ⊢ wp frame (wpE (defs₀ (F := F)) Variants.none (thr d i) none) Set.univ
        (Prog.lift (.enqueueDma
          (((obM).slice (Rect.unit (s := S2x16x4x128) (k0_off60 i t1) S1x16x4x128.size (k0_off60_inb i t1)) (fun _ => rfl)).squeeze S16x4x128 squeezes_S1x16x4x128_S16x4x128)
          (.here (((yM).slice (Rect.unit (s := S448x28x4x2x128) (k0_off61 i t1) S16x1x4x1x128.size (k0_off61_inb i t1)) (fun _ => rfl)).squeeze S16x4x128 squeezes_S16x1x4x1x128_S16x4x128))
          (.dma ((cc0_scratch5.slice (Rect.unit (s := S2) (k0_off62 i t1) S1.size (k0_off62_inb i t1))).squeeze S_ squeezes_S1_S_).sem)
          ((View.wordExact_bits rfl).reshape _ _) ((View.wordExact_bits rfl).reshape _ _) ⟨Or.inl rfl, trivial⟩)) Q := by
  rw [OF_ge d i mw mc (show ¬ t1.val + 2 < 2 by omega)]
  unfold OG
  rw [sl_add2, Nat.add_sub_cancel]
  iintro ⟨HS, Hv, ⟨%V, HY⟩, HQ⟩
  iapply (wp_start' (thr d i) EC Variants.none none (defs := defs₀) (oSl_eq (sl t1.val) (k0_off60_eq i t1) (k0_off60_inb i t1))
    (oR_eq i t1.val (off61 i t1) (k0_off61_inb i t1)) (oA_eq (sl t1.val) (k0_off62_eq i t1) (k0_off62_inb i t1)) none (by decide)
    (q := fullShare) (V := Wt d i mw mc t1.val) (V0 := V))
  isplitl [HS]; · iexact HS
  isplitl [HY]; · iexact HY
  isplitl [Hv]; · iexact Hv
  iexact HQ

/-- The body of the outer loop, as the task passes it its arrays. -/
def pBody (v3 v7 : BitVec 32) : Fin (k0_t1_loop i).trips → PUnit.{1} → Prog (TpuEff nD τ sig (Elt F) Λ₀ (thr d i).2) PUnit.{1} :=
  (k0_t1_body (F := F) i wM (Memref.isWhole_whole _) cM (Memref.isWhole_whole _) yM (Memref.isWhole_whole _)
    tabM (Memref.isWhole_whole _) codM (Memref.isWhole_whole _) obM (Memref.isWhole_whole _) cc0_scratch3 cc0_scratch4 cc0_scratch5 v3 v7 lanes
    (dg 0) (dg 1) (dg 2) (dg 3) (dg 4) (dg 5) (dg 6) (dg 7) (dg 8) (dg 9) (dg 10) (dg 11) (dg 12) (dg 13) (dg 14) (dg 15)
    1#32 0#32 0#32)
theorem pBody_eq (v3 v7 : BitVec 32) :
  (k0_t1_body (F := F) i wM (Memref.isWhole_whole _) cM (Memref.isWhole_whole _) yM (Memref.isWhole_whole _)
    tabM (Memref.isWhole_whole _) codM (Memref.isWhole_whole _) obM (Memref.isWhole_whole _) cc0_scratch3 cc0_scratch4 cc0_scratch5 v3 v7 lanes
    (dg 0) (dg 1) (dg 2) (dg 3) (dg 4) (dg 5) (dg 6) (dg 7) (dg 8) (dg 9) (dg 10) (dg 11) (dg 12) (dg 13) (dg 14) (dg 15)
    1#32 0#32 0#32) = pBody d i v3 v7 := rfl
attribute [irreducible] pBody

/-- A trip. -/
theorem wp_trip (v3 v7 : BitVec 32) :
    iprop(Transfers.MayWaits (thr d i) none O ∗ Inv d i mw mc qs O t1.val)
      ⊢ wp frame (wpE (defs₀ (F := F)) Variants.none (thr d i) none) Set.univ (pBody d i v3 v7 t1 ⟨⟩)
        fun _ => Inv d i mw mc qs O (t1.val + 1) := by
  rw [← pBody_eq]
  unfold k0_t1_body
  rw [wp_bind, k0_part18_eq_skeleton]
  unfold k0_part18_skel
  iintro ⟨#Hmw, HI⟩
  ihave HI := (Entails.of_eq (Inv_eq d i mw mc qs O _)) $$ HI
  icases HI with ⟨HT, HCF, HCI, HOF, HOF', HY, HR, HO⟩
  dsimp only
  rw [pNext_eq d i t1]
  iapply (wp_next d i mc qs t1)
  isplitl [HCI]; · iexact HCI
  iintro HCF'
  rw [wp_bind]
  iapply (wp_here d i mc qs O t1)
  isplitl [HCF]; · iexact HCF
  isplitr; · iexact Hmw
  isplitl [HO]; · iexact HO
  iintro ⟨HS, Hm, Hv, HO⟩
  iapply (wp_back d i mw mc O t1)
  isplitl [HOF]; · iexact HOF
  isplitl [HR]; · iexact HR
  isplitr; · iexact Hmw
  isplitl [HO]; · iexact HO
  iintro ⟨HOI, HR, HO⟩
  ihave HOI := (Entails.of_eq (OI_eq d i _)) $$ HOI
  icases HOI with ⟨⟨%W, HB⟩, Hvo⟩
  rw [wp_bind]
  iapply (wp_inner d i Variants.none none t1 (C := Ct d i mc t1.val) (T := Tt d i mw) (W := W))
  isplitl [HS]; · iexact HS
  isplitl [HT]; · iexact HT
  isplitl [HB]; · iexact HB
  iintro ⟨HS, HT, HB⟩
  rw [wp_pure]
  imodintro
  rw [wp_bind]
  ihave HY := (Entails.of_eq (bigSep_Ico (fun t => iprop(∃ V, Hd (thr d i) (oR i t) fullShare V)) (t_lt i t1))) $$ HY
  icases HY with ⟨Hy, HY⟩
  iapply (wp_out d i mw mc t1)
  isplitl [HB]; · iexact HB
  isplitl [Hvo]; · iexact Hvo
  isplitl [Hy]; · iexact Hy
  iintro HOF
  rw [wp_pure]
  imodintro
  iapply (Entails.of_eq (Inv_eq d i mw mc qs O _).symm)
  isplitl [HT]; · iexact HT
  isplitl [HCF']; · iexact HCF'
  isplitl [HS Hm Hv]
  · iapply (Entails.of_eq (CI_add2 d i mc qs t1.val).symm)
    iapply (Entails.of_eq (CI_eq d i mc qs t1.val).symm)
    isplitl [HS]; · iexists _; iexact HS
    isplitl [Hm]; · iexact Hm
    iexact Hv
  isplitl [HOF']; · iexact HOF'
  isplitl [HOF]; · iexact HOF
  isplitl [HY]; · iexact HY
  isplitl [HR]; · iexact HR
  iexact HO

end Tile

end Cert.Proof.DecodeTile
end
-- ==== Proof.DecodeSets.lean ====
/-
  Where the rectangles of a tile's copies lie, and what the decode call computes: `Y` is the whole output, and every
  tile's rectangle of it reads what the tile puts there (`read_Y`). The two slots of a scratch array split it, and the
  rectangles of all tiles split the output.
-/
module

public import proofs.«01_k».proof.Proof.DecodeTile

@[expose] public section

noncomputable section

namespace Cert.Proof.DecodeSets

open Cert.Decode Cert.Decode.Gen
open Cert.Proof.DecodeBlock Cert.Proof.DecodeBody Cert.Proof.DecodeInner Cert.Proof.DecodeOffs Cert.Proof.DecodeTile
open Idealize.ShloMosaic

variable {F : FTy → Type} [FloatOps F]

/-! ## Positions -/

theorem cR_emb (i : grid0.Coords) (t : Nat) (y : S16x8x32.Idx) (a : Fin 4) :
    ((show S512x7x8x128.Idx from (cR i t).view.emb y) a).val = coff i t a + (![(y 0).val, 0, (y 1).val, (y 2).val] : Fin 4 → Nat) a := by
  show (((Rect.unit (s := S512x7x8x128) (coff i t) S16x1x8x32.size (coff_inb i t)).emb
    (Shape.reshapeEquiv squeezes_S16x1x8x32_S16x8x32.numel_eq y)) a).val = _
  rw [show Shape.reshapeEquiv squeezes_S16x1x8x32_S16x8x32.numel_eq y
      = (fun | 0 => y 0 | 1 => ⟨0, Nat.one_pos⟩ | 2 => y 1 | 3 => y 2 | ⟨_ + 4, h⟩ => absurd h (Nat.not_lt.2 (Nat.le_add_left _ _)) : S16x1x8x32.Idx) from
    Shape.reshapeEquiv_eq_of_rowMajor _ (by
      rw [Shape.rowMajor_val_three, Shape.rowMajor_val_four]
      show (((y 0).val * 1 + 0) * 8 + (y 1).val) * 32 + (y 2).val = ((y 0).val * 8 + (y 1).val) * 32 + (y 2).val
      rw [Nat.mul_one, Nat.add_zero]), Rect.emb_apply]
  match a with
  | 0 => show coff i t 0 + 1 * (y 0).val = coff i t 0 + (y 0).val; omega
  | 1 => show coff i t 1 + 1 * 0 = coff i t 1 + 0; omega
  | 2 => show coff i t 2 + 1 * (y 1).val = coff i t 2 + (y 1).val; omega
  | 3 => show coff i t 3 + 1 * (y 2).val = coff i t 3 + (y 2).val; omega
theorem oR_emb (i : grid0.Coords) (t : Nat) (y : S16x4x128.Idx) (a : Fin 5) :
    ((show S448x28x4x2x128.Idx from (oR i t).view.emb y) a).val = ooff i t a + (![(y 0).val, 0, (y 1).val, 0, (y 2).val] : Fin 5 → Nat) a := by
  show (((Rect.unit (s := S448x28x4x2x128) (ooff i t) S16x1x4x1x128.size (ooff_inb i t)).emb
    (Shape.reshapeEquiv squeezes_S16x1x4x1x128_S16x4x128.numel_eq y)) a).val = _
  rw [show Shape.reshapeEquiv squeezes_S16x1x4x1x128_S16x4x128.numel_eq y
      = (fun | 0 => y 0 | 1 => ⟨0, Nat.one_pos⟩ | 2 => y 1 | 3 => ⟨0, Nat.one_pos⟩ | 4 => y 2
             | ⟨_ + 5, h⟩ => absurd h (Nat.not_lt.2 (Nat.le_add_left _ _)) : S16x1x4x1x128.Idx) from
    Shape.reshapeEquiv_eq_of_rowMajor _ (by
      rw [Shape.rowMajor_val_three, Shape.rowMajor_val_five]
      show ((((y 0).val * 1 + 0) * 4 + (y 1).val) * 1 + 0) * 128 + (y 2).val = ((y 0).val * 4 + (y 1).val) * 128 + (y 2).val
      simp only [Nat.mul_one, Nat.add_zero]), Rect.emb_apply]
  match a with
  | 0 => show ooff i t 0 + 1 * (y 0).val = ooff i t 0 + (y 0).val; omega
  | 1 => show ooff i t 1 + 1 * 0 = ooff i t 1 + 0; omega
  | 2 => show ooff i t 2 + 1 * (y 1).val = ooff i t 2 + (y 1).val; omega
  | 3 => show ooff i t 3 + 1 * 0 = ooff i t 3 + 0; omega
  | 4 => show ooff i t 4 + 1 * (y 2).val = ooff i t 4 + (y 2).val; omega
theorem tR_emb (i : grid0.Coords) (y : S512x128.Idx) (a : Fin 3) :
    ((show S512x2x128.Idx from (tR i).view.emb y) a).val = (![(y 0).val, (i 1).val % 2, (y 1).val] : Fin 3 → Nat) a := by
  show (((Rect.unit (s := S512x2x128) (k0_off2 i) S512x1x128.size (k0_off2_inb i)).emb
    (Shape.reshapeEquiv squeezes_S512x1x128_S512x128.numel_eq y)) a).val = _
  rw [show Shape.reshapeEquiv squeezes_S512x1x128_S512x128.numel_eq y
      = (fun | 0 => y 0 | 1 => ⟨0, Nat.one_pos⟩ | 2 => y 1 | ⟨_ + 3, h⟩ => absurd h (Nat.not_lt.2 (Nat.le_add_left _ _)) : S512x1x128.Idx) from
    Shape.reshapeEquiv_eq_of_rowMajor _ (by
      rw [Shape.rowMajor_val_two, Shape.rowMajor_val_three]
      show ((y 0).val * 1 + 0) * 128 + (y 1).val = (y 0).val * 128 + (y 1).val
      rw [Nat.mul_one, Nat.add_zero]), Rect.emb_apply]
  refine (congrArg (· + _) (congrFun (k0_off2_eq i) a)).trans ?_
  match a with
  | 0 => show 0 + 1 * (y 0).val = (y 0).val; omega
  | 1 => show (i 1).val % 2 + 1 * 0 = (i 1).val % 2; omega
  | 2 => show 0 + 1 * (y 1).val = (y 1).val; omega

/-! ## The whole output -/

/-- The code output position `x` is decoded from: word `(x₄, 2·x₀ + x₂/2)` of the codes, its low half at even `x₂`, its high half at odd. -/
def cpos (x : S448x28x4x2x128.Idx) : S512x7x8x128.Idx :=
  fun | 0 => ⟨64 + 16 * (x 1).val + (x 4).val / 8, by
          have h1 : (x 1).val < 28 := (x 1).isLt; have h4 : (x 4).val < 128 := (x 4).isLt; show _ < 512; omega⟩
      | 1 => ⟨(2 * (x 0).val + (x 2).val / 2) / 128, by
          have h0 : (x 0).val < 448 := (x 0).isLt; have h2 : (x 2).val < 4 := (x 2).isLt; show _ < 7; omega⟩
      | 2 => ⟨(x 4).val % 8, by show _ < 8; omega⟩
      | 3 => ⟨(2 * (x 0).val + (x 2).val / 2) % 128, by show _ < 128; omega⟩
      | ⟨_ + 4, h⟩ => absurd h (Nat.not_lt.2 (Nat.le_add_left _ _))
/-- Word `x₃` of code `c`. -/
def wpos (c : Nat) (hc : c < 65536) (x : S448x28x4x2x128.Idx) : S512x2x128.Idx :=
  fun | 0 => ⟨c / 128, by show _ < 512; omega⟩
      | 1 => ⟨(x 3).val, (x 3).isLt⟩
      | 2 => ⟨c % 128, by show _ < 128; omega⟩
      | ⟨_ + 3, h⟩ => absurd h (Nat.not_lt.2 (Nat.le_add_left _ _))
/-- What the call leaves in its output. -/
def Y (mw : Vec F S512x2x128 .i32) (mc : Vec F S512x7x8x128 .i32) : Vec F S448x28x4x2x128 .i32 :=
  fun x => mw (wpos (code ((x 2).val % 2 == 1) (mc (cpos x))) (code_lt _ _) x)

theorem read_Y (d : Dev nD) (i : grid0.Coords) (t : Nat) (mw : Vec F S512x2x128 .i32) (mc : Vec F S512x7x8x128 .i32) :
    (oR i t).view.read (Elt F) (Y mw mc) = Wt d i mw mc t := by
  funext y
  have h0 : (y 0).val < 16 := (y 0).isLt
  have h1 : (y 1).val < 4 := (y 1).isLt
  have h2 : (y 2).val < 128 := (y 2).isLt
  have hu := un_lt i t
  show Y mw mc ((oR i t).view.emb y) = wantS (Ct d i mc t) (Tt d i mw) y
  obtain ⟨x, hx⟩ : ∃ x : S448x28x4x2x128.Idx, x = (oR i t).view.emb y := ⟨_, rfl⟩
  refine (congrArg (Y mw mc) hx.symm).trans ?_
  have e0 : (x 0).val = 16 * (un i t % 28) + (y 0).val := by rw [hx]; exact oR_emb i t y 0
  have e1 : (x 1).val = un i t / 28 + 0 := by rw [hx]; exact oR_emb i t y 1
  have e2 : (x 2).val = 0 + (y 1).val := by rw [hx]; exact oR_emb i t y 2
  have e3 : (x 3).val = (i 1).val % 2 + 0 := by rw [hx]; exact oR_emb i t y 3
  have e4 : (x 4).val = 0 + (y 2).val := by rw [hx]; exact oR_emb i t y 4
  have hc : cpos x = (cR i t).view.emb (cixS y) := by
    funext a
    refine Fin.ext (Eq.trans ?_ (cR_emb i t (cixS y) a).symm)
    match a with
    | 0 => show 64 + 16 * (x 1).val + (x 4).val / 8 = (16 * (un i t / 28) + 64) + (y 2).val / 8; omega
    | 1 => show (2 * (x 0).val + (x 2).val / 2) / 128 = un i t % 28 / 4 + 0; omega
    | 2 => show (x 4).val % 8 = 0 + (y 2).val % 8; omega
    | 3 => show (2 * (x 0).val + (x 2).val / 2) % 128 = 32 * (un i t % 28 % 4) + (2 * (y 0).val + (y 1).val / 2); omega
  have hb : ((x 2).val % 2 == 1) = ((y 1).val % 2 == 1) := by rw [e2, Nat.zero_add]
  show mw (wpos (code ((x 2).val % 2 == 1) (mc (cpos x))) (code_lt _ _) x)
    = mw ((tR i).view.emb (tix (code ((y 1).val % 2 == 1) (mc ((cR i t).view.emb (cixS y)))) (code_lt _ _)))
  have hw : ∀ (c : Nat) (hc : c < 65536), wpos c hc x = (tR i).view.emb (tix c hc) := fun c hc => by
    funext a
    refine Fin.ext (Eq.trans ?_ (tR_emb i (tix c hc) a).symm)
    match a with
    | 0 => rfl
    | 1 => exact e3
    | 2 => rfl
  rw [hw]
  have ht : ∀ {b b' : Bool} {v v' : BitVec 32}, b = b' → v = v' → tix (code b v) (code_lt b v) = tix (code b' v') (code_lt b' v') := by
    rintro _ _ _ _ rfl rfl; rfl
  exact congrArg (fun p => mw ((tR i).view.emb p)) (ht hb (congrArg mc hc))

/-! ## The sets -/

theorem mem_cSl (k : Fin 2) (x : S2x16x8x32.Idx) : x ∈ (show Finset S2x16x8x32.Idx from (cSl k).view.set) ↔ (x 0).val = k.val := by
  constructor
  · intro h
    obtain ⟨y, -, hy⟩ := Finset.mem_map.1 h
    have e := cSl_emb k y 0
    rw [← hy]; exact e
  · intro h
    refine Finset.mem_map.2 ⟨(fun | 0 => x 1 | 1 => x 2 | 2 => x 3 | ⟨_ + 3, h⟩ => absurd h (Nat.not_lt.2 (Nat.le_add_left _ _)) : S16x8x32.Idx), Finset.mem_univ _, ?_⟩
    funext a
    refine Fin.ext ((cSl_emb k _ a).trans ?_)
    match a with
    | 0 => exact h.symm
    | 1 => rfl
    | 2 => rfl
    | 3 => rfl
theorem mem_oSl (k : Fin 2) (x : S2x16x4x128.Idx) : x ∈ (show Finset S2x16x4x128.Idx from (oSl k).view.set) ↔ (x 0).val = k.val := by
  constructor
  · intro h
    obtain ⟨y, -, hy⟩ := Finset.mem_map.1 h
    have e := oSl_emb k y 0
    rw [← hy]; exact e
  · intro h
    refine Finset.mem_map.2 ⟨(fun | 0 => x 1 | 1 => x 2 | 2 => x 3 | ⟨_ + 3, h⟩ => absurd h (Nat.not_lt.2 (Nat.le_add_left _ _)) : S16x4x128.Idx), Finset.mem_univ _, ?_⟩
    funext a
    refine Fin.ext ((oSl_emb k _ a).trans ?_)
    match a with
    | 0 => exact h.symm
    | 1 => rfl
    | 2 => rfl
    | 3 => rfl

theorem cSl_compl : (Finset.univ : Finset S2x16x8x32.Idx) \ (show Finset S2x16x8x32.Idx from (cSl 0).view.set) = (show Finset S2x16x8x32.Idx from (cSl 1).view.set) := by
  ext x
  have h : (x 0).val < 2 := (x 0).isLt
  rw [Finset.mem_sdiff, mem_cSl, mem_cSl]
  show (_ ∧ ¬ (x 0).val = 0) ↔ (x 0).val = 1
  simp only [Finset.mem_univ, true_and]; omega
theorem oSl_compl : (Finset.univ : Finset S2x16x4x128.Idx) \ (show Finset S2x16x4x128.Idx from (oSl 0).view.set) = (show Finset S2x16x4x128.Idx from (oSl 1).view.set) := by
  ext x
  have h : (x 0).val < 2 := (x 0).isLt
  rw [Finset.mem_sdiff, mem_oSl, mem_oSl]
  show (_ ∧ ¬ (x 0).val = 0) ↔ (x 0).val = 1
  simp only [Finset.mem_univ, true_and]; omega

theorem mem_oR (i : grid0.Coords) (t : Nat) (x : S448x28x4x2x128.Idx) :
    x ∈ (show Finset S448x28x4x2x128.Idx from (oR i t).view.set)
      ↔ 28 * (x 1).val + (x 0).val / 16 = un i t ∧ (x 3).val = (i 1).val % 2 := by
  have hu := un_lt i t
  have h0 : (x 0).val < 448 := (x 0).isLt
  constructor
  · intro h
    obtain ⟨y, -, hy⟩ := Finset.mem_map.1 h
    have hy0 : (y 0).val < 16 := (y 0).isLt
    have e0 : (x 0).val = 16 * (un i t % 28) + (y 0).val := by rw [← hy]; exact oR_emb i t y 0
    have e1 : (x 1).val = un i t / 28 + 0 := by rw [← hy]; exact oR_emb i t y 1
    have e3 : (x 3).val = (i 1).val % 2 + 0 := by rw [← hy]; exact oR_emb i t y 3
    omega
  · rintro ⟨h, h3⟩
    refine Finset.mem_map.2 ⟨(fun | 0 => ⟨(x 0).val % 16, Nat.mod_lt _ (by decide)⟩ | 1 => x 2 | 2 => x 4 | ⟨_ + 3, h⟩ => absurd h (Nat.not_lt.2 (Nat.le_add_left _ _)) : S16x4x128.Idx), Finset.mem_univ _, ?_⟩
    funext a
    refine Fin.ext ((oR_emb i t _ a).trans ?_)
    match a with
    | 0 => show 16 * (un i t % 28) + (x 0).val % 16 = (x 0).val; omega
    | 1 => show un i t / 28 + 0 = (x 1).val; omega
    | 2 => show 0 + (x 2).val = (x 2).val; omega
    | 3 => show (i 1).val % 2 + 0 = (x 3).val; omega
    | 4 => show 0 + (x 4).val = (x 4).val; omega

/-- What tile `i` writes of the output, and what core `c`'s tiles do. -/
def oSet (i : grid0.Coords) (t : Nat) : Finset S448x28x4x2x128.Idx := (oR i t).view.set
def tileSet (i : grid0.Coords) : Finset S448x28x4x2x128.Idx := (Finset.range 49).biUnion (oSet i)
/-- The coordinates of tile `s` of core `c`. -/
def cd (c : Fin 2) (s : Fin 16) : grid0.Coords :=
  fun | 0 => c | 1 => s | ⟨_ + 2, h⟩ => absurd h (Nat.not_lt.2 (Nat.le_add_left _ _))
def coreSet (c : Fin 2) : Finset S448x28x4x2x128.Idx := Finset.univ.biUnion fun s : Fin 16 => tileSet (cd c s)

theorem mem_tileSet (i : grid0.Coords) (x : S448x28x4x2x128.Idx) :
    x ∈ tileSet i ↔ (28 * (x 1).val + (x 0).val / 16) % 16 = 8 * (i 0).val + (i 1).val / 2 ∧ (x 3).val = (i 1).val % 2 := by
  have h0 : (x 0).val < 448 := (x 0).isLt
  have h1 : (x 1).val < 28 := (x 1).isLt
  have hi0 := i0_lt i; have hi1 := i1_lt i
  unfold tileSet
  rw [Finset.mem_biUnion]
  constructor
  · rintro ⟨t, ht, h⟩
    rw [Finset.mem_range] at ht
    have h := (mem_oR i t x).1 h
    rw [un_of_lt i ht] at h
    omega
  · rintro ⟨h, h3⟩
    refine ⟨(28 * (x 1).val + (x 0).val / 16) / 16, Finset.mem_range.2 (by omega), (mem_oR i _ x).2 ⟨?_, h3⟩⟩
    rw [un_of_lt i (by omega)]; omega

theorem oSet_disjoint (i : grid0.Coords) : ∀ t ∈ Finset.range 49, ∀ t' ∈ Finset.range 49, t ≠ t' → Disjoint (oSet i t) (oSet i t') := by
  intro t ht t' ht' hn
  rw [Finset.mem_range] at ht ht'
  refine Finset.disjoint_left.2 fun x h h' => hn ?_
  have h := (mem_oR i t x).1 h
  have h' := (mem_oR i t' x).1 h'
  rw [un_of_lt i ht] at h
  rw [un_of_lt i ht'] at h'
  omega
theorem tileSet_disjoint (c : Fin 2) : ∀ s ∈ (Finset.univ : Finset (Fin 16)), ∀ s' ∈ (Finset.univ : Finset (Fin 16)), s ≠ s' →
    Disjoint (tileSet (cd c s)) (tileSet (cd c s')) := by
  intro s _ s' _ hn
  refine Finset.disjoint_left.2 fun x h h' => hn (Fin.ext ?_)
  have h : _ = 8 * c.val + s.val / 2 ∧ _ = s.val % 2 := (mem_tileSet (cd c s) x).1 h
  have h' : _ = 8 * c.val + s'.val / 2 ∧ _ = s'.val % 2 := (mem_tileSet (cd c s') x).1 h'
  omega
theorem mem_coreSet (c : Fin 2) (x : S448x28x4x2x128.Idx) : x ∈ coreSet c ↔ (28 * (x 1).val + (x 0).val / 16) % 16 / 8 = c.val := by
  have h3 : (x 3).val < 2 := (x 3).isLt
  have hc := c.isLt
  unfold coreSet
  rw [Finset.mem_biUnion]
  constructor
  · rintro ⟨s, -, h⟩
    have h : _ = 8 * c.val + s.val / 2 ∧ _ = s.val % 2 := (mem_tileSet (cd c s) x).1 h
    have hs := s.isLt
    omega
  · intro h
    refine ⟨⟨2 * ((28 * (x 1).val + (x 0).val / 16) % 16 % 8) + (x 3).val, by omega⟩, Finset.mem_univ _, (mem_tileSet _ x).2 ⟨?_, ?_⟩⟩
    · show _ = 8 * c.val + (2 * ((28 * (x 1).val + (x 0).val / 16) % 16 % 8) + (x 3).val) / 2; omega
    · show (x 3).val = (2 * ((28 * (x 1).val + (x 0).val / 16) % 16 % 8) + (x 3).val) % 2; omega
theorem coreSet_disjoint : ∀ c ∈ (Finset.univ : Finset (Fin 2)), ∀ c' ∈ (Finset.univ : Finset (Fin 2)), c ≠ c' → Disjoint (coreSet c) (coreSet c') := by
  intro c _ c' _ hn
  refine Finset.disjoint_left.2 fun x h h' => hn (Fin.ext ?_)
  rw [← (mem_coreSet c x).1 h, ← (mem_coreSet c' x).1 h']
theorem coreSet_cover : (Finset.univ : Finset (Fin 2)).biUnion coreSet = Finset.univ := by
  refine Finset.eq_univ_iff_forall.2 fun x => Finset.mem_biUnion.2 ?_
  exact ⟨⟨(28 * (x 1).val + (x 0).val / 16) % 16 / 8, by omega⟩, Finset.mem_univ _, (mem_coreSet _ x).2 rfl⟩

end Cert.Proof.DecodeSets
end
-- ==== Proof.DecodeWhole.lean ====
/-
  A tile of the decode call, start to end: its table copied in, the first copy of codes started, the trips, and the last
  two copies of the output waited for (`wp_tile`).
-/
module

public import proofs.«01_k».proof.Proof.DecodeTile

@[expose] public section

noncomputable section

namespace Cert.Proof.DecodeWhole

open Cert.Decode Cert.Decode.Gen
open Cert.Proof.DecodeBlock Cert.Proof.DecodeBody Cert.Proof.DecodeCopy Cert.Proof.DecodeInner Cert.Proof.DecodeOffs Cert.Proof.DecodeTile
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem Idealize.SL.ProofMode
open Idealize.ShloMosaic.Tactic

variable {F : FTy → Type} [FloatOps F]

local notation "𝕄" => MT nD τ sig (HIx 1) (Elt F) ℕ UU ℕ
local notation "EC" => (Idealize.ShloMosaic.countersEmb : UEmb Counters (MT nD τ sig (HIx 1) (Elt F) ℕ UU ℕ))

local notation "wM" => (Memref.whole Cert.Decode.main_v1_scv : Memref Cert.Decode.sig Kind.scVector Space.hbm Cert.Decode.S512x2x128 EltTy.i32)
local notation "cM" => (Memref.whole Cert.Decode.main_v3_scv : Memref Cert.Decode.sig Kind.scVector Space.hbm Cert.Decode.S512x7x8x128 EltTy.i32)
local notation "yM" => (Memref.whole Cert.Decode.main_v4_scv : Memref Cert.Decode.sig Kind.scVector Space.hbm Cert.Decode.S448x28x4x2x128 EltTy.i32)
local notation "tabM" => (Memref.whole Cert.Decode.cc0_scratch0 : Memref Cert.Decode.sig Kind.scVector Space.vmem Cert.Decode.S512x128 EltTy.i32)
local notation "codM" => (Memref.whole Cert.Decode.cc0_scratch1 : Memref Cert.Decode.sig Kind.scVector Space.vmem Cert.Decode.S2x16x8x32 EltTy.i32)
local notation "obM" => (Memref.whole Cert.Decode.cc0_scratch2 : Memref Cert.Decode.sig Kind.scVector Space.vmem Cert.Decode.S2x16x4x128 EltTy.i32)

variable (d : Dev nD) (i : grid0.Coords) (mw : Buf (Elt F) (wLoc d)) (mc : Buf (Elt F) (cLoc d)) (qw : PosShare TreeShare) (qs : Fin 2 → PosShare TreeShare)
variable (O : CellTallies nD τ sig (HIx 1))

theorem pts_tR : ((tR i).view.loc (thr d i) ↦[Finset.univ]{qw} mw : sProp 𝕄) = (wLoc d ↦{qw} mw) := rfl

/-- The scratch and the semaphores of a tile at rest, the table apart. -/
def Rest : sProp 𝕄 := iprop(CI d i mc qs 0 ∗ CI d i mc qs 1 ∗ OI d i 0 ∗ OI d i 1 ∗ semVal (thr d i, .dma (SemArray.sem cc0_scratch3)) 0)
theorem Rest_eq : (Rest d i mc qs : sProp 𝕄)
    = iprop(CI d i mc qs 0 ∗ CI d i mc qs 1 ∗ OI d i 0 ∗ OI d i 1 ∗ semVal (thr d i, .dma (SemArray.sem cc0_scratch3)) 0) := rfl

theorem sl_of {m n : Nat} (h : m % 2 = n % 2) : sl m = sl n := Fin.ext h
theorem CI_of {m n : Nat} (h : m % 2 = n % 2) : (CI d i mc qs m : sProp 𝕄) = CI d i mc qs n := by unfold CI; rw [sl_of h]
theorem OI_of {m n : Nat} (h : m % 2 = n % 2) : (OI d i m : sProp 𝕄) = OI d i n := by unfold OI; rw [sl_of h]

/-- The evidence for the waits is kept by whatever runs. -/
theorem keep {p : Prog (TpuEff nD τ sig (Elt F) Λ₀ (thr d i).2) PUnit.{1}} {I J : sProp 𝕄}
    (h : iprop(Transfers.MayWaits (thr d i) none O ∗ I) ⊢ wp frame (wpE (defs₀ (F := F)) Variants.none (thr d i) none) Set.univ p fun _ => J) :
    iprop(Transfers.MayWaits (thr d i) none O ∗ I) ⊢ wp frame (wpE (defs₀ (F := F)) Variants.none (thr d i) none) Set.univ p
      fun _ => iprop(Transfers.MayWaits (thr d i) none O ∗ J) := by
  refine BIBase.Entails.trans ?_ (wp_frame_l frame (wpE (defs₀ (F := F)) Variants.none (thr d i) none) Set.univ)
  iintro ⟨#H, HI⟩
  isplitr; · iexact H
  iapply h
  isplitr; · iexact H
  iexact HI

/-- All trips. -/
def pLoop (v3 v7 : BitVec 32) : Prog (TpuEff nD τ sig (Elt F) Λ₀ (thr d i).2) PUnit.{1} :=
  Scf.Loop.for (k0_t1_loop i) (k0_t1_ok i) (PUnit.unit : PUnit.{1}) (pBody d i v3 v7)
theorem pLoop_eq (v3 v7 : BitVec 32) :
    (Scf.Loop.for (k0_t1_loop i) (k0_t1_ok i) (PUnit.unit : PUnit.{1}) (pBody (F := F) d i v3 v7)) = pLoop d i v3 v7 := rfl
attribute [irreducible] pLoop

theorem wp_loop (v3 v7 : BitVec 32) {Q : PUnit → sProp 𝕄} :
    iprop(Transfers.MayWaits (thr d i) none O ∗ Inv d i mw mc qs O 0 ∗ (Inv d i mw mc qs O 49 -∗ Q ⟨⟩))
      ⊢ wp frame (wpE (defs₀ (F := F)) Variants.none (thr d i) none) Set.univ (pLoop d i v3 v7) Q := by
  rw [← pLoop_eq]
  refine BIBase.Entails.trans ?_ (Scf.wp_for frame (wpE (defs₀ (F := F)) Variants.none (thr d i) none) Set.univ _ _ _ (k0_t1_ok i) (PUnit.unit : PUnit.{1}) _
    (fun b _ => iprop(Transfers.MayWaits (thr d i) none O ∗ Inv d i mw mc qs O b)) ?_)
  · rw [show Scf.trips _ _ _ = 49 from trips1 i]
    iintro ⟨#H, HI, HQ⟩
    isplitl [HI]
    · isplitr; · iexact H
      iexact HI
    iintro %_ ⟨-, HI⟩
    iapply HQ
    iexact HI
  · exact fun t1 _ => keep d i O (wp_trip d i mw mc qs O t1 v3 v7)

theorem wp_tile :
    iprop(Transfers.MayWaits (thr d i) none O ∗ (wLoc d ↦{qw} mw) ∗ (∃ V, Hd (thr d i) tabM fullShare V) ∗ Rest d i mc qs
      ∗ (bigSep (Finset.Ico 0 49) fun t => iprop(∃ V, Hd (thr d i) (oR i t) fullShare V)) ∗ (∃ W, owes (thr d i) O W))
      ⊢ wp frame (wpE (defs₀ (F := F)) Variants.none (thr d i) none) Set.univ
        (cc0_decode_512 (F := F) i wM (Memref.isWhole_whole _) cM (Memref.isWhole_whole _) yM (Memref.isWhole_whole _)
          tabM (Memref.isWhole_whole _) codM (Memref.isWhole_whole _) obM (Memref.isWhole_whole _) cc0_scratch3 cc0_scratch4 cc0_scratch5)
        fun _ => iprop((wLoc d ↦{qw} mw) ∗ (∃ V, Hd (thr d i) tabM fullShare V) ∗ Rest d i mc qs
          ∗ (bigSep (Finset.range 49) fun t => Hd (thr d i) (oR i t) fullShare (Wt d i mw mc t)) ∗ (∃ W, owes (thr d i) O W)) := by
  rw [cc0_decode_512_eq_skeleton]
  unfold cc0_decode_512_skel
  iintro ⟨#Hmw, Hw, ⟨%VT, HT⟩, HR, HY, HO⟩
  ihave HR := (Entails.of_eq (Rest_eq d i mc qs)) $$ HR
  icases HR with ⟨HC0, HC1, HO0, HO1, HvT⟩
  ihave HC0 := (Entails.of_eq (CI_eq d i mc qs 0)) $$ HC0
  icases HC0 with ⟨⟨%V, HS⟩, Hm, Hv⟩
  rw [wp_bind, k0_part37_eq_skeleton]
  unfold k0_part37_skel
  dsimp only
  rw [wp_bind]
  iapply (wp_start (thr d i) EC Variants.none none (defs := defs₀) (cR_eq i 0 (off1 i) (k0_off1_inb i))
      (cSl_eq (sl 0) rfl inb_S2x16x8x32_S1x16x8x32_0_0_0_0) (cA_eq (sl 0) rfl inb_S2_S1_0)
      (Ss := Finset.univ) (Finset.subset_univ _) none (by decide) (fs := mc) (q := qs (sl 0)) (V0 := V))
  rw [pts_cR d i mc]
  isplitl [Hm]; · iexact Hm
  isplitl [HS]; · iexact HS
  isplitl [Hv]; · iexact Hv
  iintro HF
  rw [wp_pure]
  imodintro
  dsimp only
  rw [wp_bind, k0_part38_eq_skeleton]
  unfold k0_part38_skel
  dsimp only
  rw [wp_bind]
  iapply (wp_start (thr d i) EC Variants.none none (defs := defs₀) (src' := tR i) (dst' := tabM) (sm' := SemArray.sem cc0_scratch3) rfl rfl rfl
      (Ss := Finset.univ) (Finset.subset_univ _) none (by decide) (fs := mw) (q := qw) (V0 := VT))
  rw [pts_tR d i mw]
  isplitl [Hw]; · iexact Hw
  isplitl [HT]; · iexact HT
  isplitl [HvT]; · iexact HvT
  iintro HFT
  rw [wp_bind]
  iapply (wp_wait (thr d i) EC Variants.none none (defs := defs₀) (dst' := tabM) (sm' := SemArray.sem cc0_scratch3) rfl rfl none (O := O))
  isplitl [HFT]; · iexact HFT
  isplitr; · iexact Hmw
  isplitl [HO]; · iexact HO
  iintro ⟨⟨HT, Hw⟩, HvT, HO⟩
  rw [wp_pure]
  imodintro
  dsimp only
  rw [iota_eq, v38_eq, v42_eq, v46_eq, v50_eq, v54_eq, v58_eq, v62_eq]
  rw [wp_bind, k0_part39_eq_skeleton]
  unfold k0_part39_skel
  dsimp only
  rw [wp_pure]
  imodintro
  dsimp only
  rw [v66_eq, v70_eq, v74_eq, v78_eq, v82_eq, v86_eq, v90_eq, v94_eq, v98_eq]
  rw [wp_bind]
  rw [pBody_eq d i, pLoop_eq d i]
  iapply (wp_loop d i mw mc qs O _ _)
  isplitr; · iexact Hmw
  isplitl [HT HF HC1 HO0 HO1 HY HO]
  · iapply (Entails.of_eq (Inv_eq d i mw mc qs O 0).symm)
    rw [CF_lt d i mc qs (by omega : 0 < 49), OF_lt d i mw mc (by omega : 0 < 2), OF_lt d i mw mc (by omega : 0 + 1 < 2)]
    isplitl [HT]; · iexact HT
    isplitl [HF]; · unfold CG; iexact HF
    isplitl [HC1]; · iexact HC1
    isplitl [HO0]; · iexact HO0
    isplitl [HO1]; · iexact HO1
    isplitl [HY]; · iexact HY
    isplitr
    · rw [show Finset.range (0 - 2) = ∅ from rfl, bigSep_empty]; iempintro
    iexact HO
  iintro HI
  ihave HI := (Entails.of_eq (Inv_eq d i mw mc qs O 49)) $$ HI
  rw [CF_ge d i mc qs (by omega : ¬ 49 < 49), OF_ge d i mw mc (by omega : ¬ 49 < 2), OF_ge d i mw mc (by omega : ¬ 49 + 1 < 2)]
  icases HI with ⟨HT, HC1, HC0, HG0, HG1, -, HR, HO⟩
  iapply (Scf.wp_for0_bind frame (wpE (defs₀ (F := F)) Variants.none (thr d i) none) Set.univ _ _ _ _ _ (trips3 i) _ _ _ .rfl)
  rw [dif_pos (cond5 i)]
  rw [wp_bind]
  unfold OG
  iapply (wp_wait (thr d i) EC Variants.none none (defs := defs₀) (oR_eq i 47 (off123 i) _) (oA_eq (sl 49) (off124 i) _) none (O := O))
  isplitl [HG0]; · iexact HG0
  isplitr; · iexact Hmw
  isplitl [HO]; · iexact HO
  iintro ⟨⟨HY0, HB0⟩, Hv0, HO⟩
  dsimp only
  rw [dif_pos (cond6 i)]
  rw [wp_bind]
  iapply (wp_wait (thr d i) EC Variants.none none (defs := defs₀) (oR_eq i 48 (off126 i) _) (oA_eq (sl 50) (off127 i) _) none (O := O))
  isplitl [HG1]; · iexact HG1
  isplitr; · iexact Hmw
  isplitl [HO]; · iexact HO
  iintro ⟨⟨HY1, HB1⟩, Hv1, HO⟩
  rw [wp_pure]
  imodintro
  isplitl [Hw]; · iexact Hw
  isplitl [HT]; · iexists _; iexact HT
  isplitl [HC0 HC1 HB0 HB1 Hv0 Hv1 HvT]
  · iapply (Entails.of_eq (Rest_eq d i mc qs).symm)
    rw [CI_of d i mc qs (show 0 % 2 = (49 + 1) % 2 from rfl), CI_of d i mc qs (show 1 % 2 = 49 % 2 from rfl),
      OI_of d i (show 0 % 2 = 50 % 2 from rfl), OI_of d i (show 1 % 2 = 49 % 2 from rfl)]
    isplitl [HC0]; · iexact HC0
    isplitl [HC1]; · iexact HC1
    isplitl [HB1 Hv1]
    · iapply (Entails.of_eq (OI_eq d i 50).symm)
      isplitl [HB1]; · iexists _; iexact HB1
      iexact Hv1
    isplitl [HB0 Hv0]
    · iapply (Entails.of_eq (OI_eq d i 49).symm)
      isplitl [HB0]; · iexists _; iexact HB0
      iexact Hv0
    iexact HvT
  isplitl [HR HY0 HY1]
  · rw [show Finset.range 49 = insert 48 (insert 47 (Finset.range 47)) by decide,
      SparseCore.bigSep_insert' (by decide), SparseCore.bigSep_insert' (by decide)]
    isplitl [HY1]; · iexact HY1
    isplitl [HY0]; · iexact HY0
    iexact HR
  iexact HO

end Cert.Proof.DecodeWhole
end
-- ==== Proof.DecodeTask.lean ====
/-
  A tile's task as the launch hands it over: shares of the two arguments whole, the tile's part of the output, the
  tile's scratch arrays and its semaphores (`tile_body`). The part of the output comes back at `Y`.
-/
module

public import proofs.«01_k».proof.Proof.DecodeSets
public import proofs.«01_k».proof.Proof.DecodeWhole
public import Idealize.ShloMosaic.Lib.SparseCore.Quiescent
public import Idealize.ShloMosaic.Lib.StableHlo.Run
public import Idealize.ShloMosaic.Lib.Pipeline.Kit

@[expose] public section

noncomputable section

namespace Cert.Proof.DecodeTask

open Cert.Decode Cert.Decode.Gen
open Cert.Proof.DecodeBlock Cert.Proof.DecodeBody Cert.Proof.DecodeCopy Cert.Proof.DecodeInner Cert.Proof.DecodeOffs Cert.Proof.DecodeTile
open Cert.Proof.DecodeSets Cert.Proof.DecodeWhole
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "wM" => (Memref.whole Cert.Decode.main_v1_scv : Memref Cert.Decode.sig Kind.scVector Space.hbm Cert.Decode.S512x2x128 EltTy.i32)
local notation "cM" => (Memref.whole Cert.Decode.main_v3_scv : Memref Cert.Decode.sig Kind.scVector Space.hbm Cert.Decode.S512x7x8x128 EltTy.i32)
local notation "yM" => (Memref.whole Cert.Decode.main_v4_scv : Memref Cert.Decode.sig Kind.scVector Space.hbm Cert.Decode.S448x28x4x2x128 EltTy.i32)
local notation "tabM" => (Memref.whole Cert.Decode.cc0_scratch0 : Memref Cert.Decode.sig Kind.scVector Space.vmem Cert.Decode.S512x128 EltTy.i32)
local notation "codM" => (Memref.whole Cert.Decode.cc0_scratch1 : Memref Cert.Decode.sig Kind.scVector Space.vmem Cert.Decode.S2x16x8x32 EltTy.i32)
local notation "obM" => (Memref.whole Cert.Decode.cc0_scratch2 : Memref Cert.Decode.sig Kind.scVector Space.vmem Cert.Decode.S2x16x4x128 EltTy.i32)

abbrev ΛP : Labels := Pipeline.Sig Λ₀ (Fin 0) fun p => (pcfgs (F := F) p).Adm
abbrev K : SparseCore.Cfg τ sig (ΛP (F := F)) 1 := sc (F := F)

variable (d : Dev nD) (i : grid0.Coords) (mw : Buf (Elt F) (wLoc d)) (mc : Buf (Elt F) (cLoc d)) (q : PosShare TreeShare)

/-! ## The scratch arrays -/

abbrev tabLoc : Loc nD τ sig := (thr d i).loc cc0_scratch0
abbrev codLoc : Loc nD τ sig := (thr d i).loc cc0_scratch1
abbrev obLoc : Loc nD τ sig := (thr d i).loc cc0_scratch2

theorem tab_in (f : Buf (Elt F) (tabLoc d i)) : (tabLoc d i ↦{fullShare} f : sProp 𝕄) ⊢ iprop(∃ V, Hd (thr d i) tabM fullShare V) := by
  iintro H
  iexists _
  iapply (Entails.of_eq (Hd_eq (thr d i) tabM fullShare _).symm)
  iexists f
  isplitr; · ipureintro; rfl
  rw [show (tabM).view.set = Finset.univ from View.set_whole _]
  iexact H
theorem tab_out : iprop(∃ V, Hd (thr d i) tabM fullShare V) ⊢ (iprop(∃ f, tabLoc d i ↦{fullShare} f) : sProp 𝕄) := by
  iintro ⟨%V, H⟩
  ihave H := (Entails.of_eq (Hd_eq (thr d i) tabM fullShare _)) $$ H
  icases H with ⟨%f, -, H⟩
  rw [show (tabM).view.set = Finset.univ from View.set_whole _]
  iexists f
  iexact H

/-- Slot `k` of the scratch array, as a set of its positions. -/
def codSet (k : Fin 2) : Finset (Idx (codLoc d i)) := (cSl k).view.set
theorem codSet_compl : Finset.univ \ codSet d i 0 = codSet d i 1 := cSl_compl
theorem cod_hd (k : Fin 2) (f : Buf (Elt F) (codLoc d i)) : (codLoc d i ↦[codSet d i k]{fullShare} f : sProp 𝕄) ⊢ iprop(∃ V, Hd (thr d i) (cSl k) fullShare V) := by
  iintro H
  iexists _
  iapply (Entails.of_eq (Hd_eq (thr d i) (cSl k) fullShare _).symm)
  iexists f
  isplitr; · ipureintro; rfl
  iexact H
theorem cod_dh (k : Fin 2) : iprop(∃ V, Hd (thr d i) (cSl k) fullShare V) ⊢ (iprop(∃ f : Buf (Elt F) (codLoc d i), codLoc d i ↦[codSet d i k]{fullShare} f) : sProp 𝕄) := by
  iintro ⟨%V, H⟩
  ihave H := (Entails.of_eq (Hd_eq (thr d i) (cSl k) fullShare _)) $$ H
  icases H with ⟨%f, -, H⟩
  iexists f
  iexact H
theorem cod_in (f : Buf (Elt F) (codLoc d i)) :
    (codLoc d i ↦{fullShare} f : sProp 𝕄) ⊢ iprop((∃ V, Hd (thr d i) (cSl 0) fullShare V) ∗ ∃ V, Hd (thr d i) (cSl 1) fullShare V) := by
  refine ((pointsTo_split_subset (ℓ := codLoc d i) (I := codSet d i 0) (Finset.subset_univ _)).1).trans ?_
  rw [codSet_compl d i]
  exact BI.sep_mono (cod_hd d i 0 f) (cod_hd d i 1 f)
theorem cod_out :
    iprop((∃ V, Hd (thr d i) (cSl 0) fullShare V) ∗ ∃ V, Hd (thr d i) (cSl 1) fullShare V) ⊢ (iprop(∃ f, codLoc d i ↦{fullShare} f) : sProp 𝕄) := by
  iintro ⟨H0, H1⟩
  ihave H0 := (cod_dh d i 0) $$ H0
  ihave H1 := (cod_dh d i 1) $$ H1
  icases H0 with ⟨%f0, H0⟩
  icases H1 with ⟨%f1, H1⟩
  rw [← codSet_compl d i]
  iexists _
  iapply (pointsTo_join_subset (ℓ := codLoc d i) (I := codSet d i 0) (S := Finset.univ) (f := f1) (g := f0) (Finset.subset_univ _))
  isplitl [H0]; · iexact H0
  iexact H1
/-- Slot `k` of the scratch array, as a set of its positions. -/
def obSet (k : Fin 2) : Finset (Idx (obLoc d i)) := (oSl k).view.set
theorem obSet_compl : Finset.univ \ obSet d i 0 = obSet d i 1 := oSl_compl
theorem ob_hd (k : Fin 2) (f : Buf (Elt F) (obLoc d i)) : (obLoc d i ↦[obSet d i k]{fullShare} f : sProp 𝕄) ⊢ iprop(∃ V, Hd (thr d i) (oSl k) fullShare V) := by
  iintro H
  iexists _
  iapply (Entails.of_eq (Hd_eq (thr d i) (oSl k) fullShare _).symm)
  iexists f
  isplitr; · ipureintro; rfl
  iexact H
theorem ob_dh (k : Fin 2) : iprop(∃ V, Hd (thr d i) (oSl k) fullShare V) ⊢ (iprop(∃ f : Buf (Elt F) (obLoc d i), obLoc d i ↦[obSet d i k]{fullShare} f) : sProp 𝕄) := by
  iintro ⟨%V, H⟩
  ihave H := (Entails.of_eq (Hd_eq (thr d i) (oSl k) fullShare _)) $$ H
  icases H with ⟨%f, -, H⟩
  iexists f
  iexact H
theorem ob_in (f : Buf (Elt F) (obLoc d i)) :
    (obLoc d i ↦{fullShare} f : sProp 𝕄) ⊢ iprop((∃ V, Hd (thr d i) (oSl 0) fullShare V) ∗ ∃ V, Hd (thr d i) (oSl 1) fullShare V) := by
  refine ((pointsTo_split_subset (ℓ := obLoc d i) (I := obSet d i 0) (Finset.subset_univ _)).1).trans ?_
  rw [obSet_compl d i]
  exact BI.sep_mono (ob_hd d i 0 f) (ob_hd d i 1 f)
theorem ob_out :
    iprop((∃ V, Hd (thr d i) (oSl 0) fullShare V) ∗ ∃ V, Hd (thr d i) (oSl 1) fullShare V) ⊢ (iprop(∃ f, obLoc d i ↦{fullShare} f) : sProp 𝕄) := by
  iintro ⟨H0, H1⟩
  ihave H0 := (ob_dh d i 0) $$ H0
  ihave H1 := (ob_dh d i 1) $$ H1
  icases H0 with ⟨%f0, H0⟩
  icases H1 with ⟨%f1, H1⟩
  rw [← obSet_compl d i]
  iexists _
  iapply (pointsTo_join_subset (ℓ := obLoc d i) (I := obSet d i 0) (S := Finset.univ) (f := f1) (g := f0) (Finset.subset_univ _))
  isplitl [H0]; · iexact H0
  iexact H1

/-! ## The tile's part of the output -/

theorem out_hd (t : Nat) (f : Buf (Elt F) (yLoc d)) : (yLoc d ↦[oSet i t]{fullShare} f : sProp 𝕄) ⊢ iprop(∃ V, Hd (thr d i) (oR i t) fullShare V) := by
  iintro H
  iexists _
  iapply (Entails.of_eq (Hd_eq (thr d i) (oR i t) fullShare _).symm)
  iexists f
  isplitr; · ipureintro; rfl
  iexact H
theorem out_dh (t : Nat) : (Hd (thr d i) (oR i t) fullShare (Wt d i mw mc t) : sProp 𝕄) ⊢ (yLoc d ↦[oSet i t]{fullShare} Y mw mc) := by
  iintro H
  ihave H := (Entails.of_eq (Hd_eq (thr d i) (oR i t) fullShare _)) $$ H
  icases H with ⟨%f, %hf, H⟩
  rw [← pointsTo_congr (ℓ := yLoc d) (I := oSet i t) (f := f) (g := Y mw mc) (fun x hx => by
    obtain ⟨y, -, rfl⟩ := Finset.mem_map.1 hx
    exact congrFun (hf.trans (read_Y d i t mw mc).symm) y)]
  iexact H
theorem out_in (f : Buf (Elt F) (yLoc d)) :
    (yLoc d ↦[tileSet i]{fullShare} f : sProp 𝕄) ⊢ bigSep (Finset.Ico 0 49) fun t => iprop(∃ V, Hd (thr d i) (oR i t) fullShare V) := by
  unfold tileSet
  rw [pointsTo_biUnion (ℓ := yLoc d) (Finset.range 49) (oSet i) (oSet_disjoint i), Finset.range_eq_Ico]
  exact bigSep_mono fun t _ => out_hd d i t f
theorem out_out :
    (bigSep (Finset.range 49) fun t => Hd (thr d i) (oR i t) fullShare (Wt d i mw mc t)) ⊢ (yLoc d ↦[tileSet i]{fullShare} Y mw mc : sProp 𝕄) := by
  unfold tileSet
  rw [pointsTo_biUnion (ℓ := yLoc d) (Finset.range 49) (oSet i) (oSet_disjoint i)]
  exact bigSep_mono fun t _ => out_dh d i mw mc t

omit [FloatOps F] in
theorem fin_two (Φ : Fin 2 → sProp 𝕄) : bigSep Finset.univ Φ = iprop(Φ 0 ∗ Φ 1) := BI.bigSep_fin_two Φ

/-! ## The semaphores -/

abbrev cell (s : DmaSem sig) : GSem nD τ sig := (thr d i, .dma s)
theorem cell_mem (s : DmaSem sig) (h : (SemLoc.dma s : SemLoc sig).isScoped .scVector = true) : cell d i s ∈ ownCells (thr d i) :=
  (mem_ownCells (g := cell d i s)).mpr ⟨rfl, h⟩
theorem cell_ne {s s' : DmaSem sig} (h : s ≠ s') : cell d i s ≠ cell d i s' := fun e => h (by
  have := congrArg Prod.snd e
  exact SemLoc.dma.inj this)

theorem ownSems0_V :
    (ownSems0 (thr d i) : sProp 𝕄)
      = iprop(semVal (cell d i (SemArray.sem cc0_scratch3)) 0 ∗ semVal (cell d i (cA 0)) 0 ∗ semVal (cell d i (cA 1)) 0 ∗ semVal (cell d i (oA 0)) 0
          ∗ semVal (cell d i (oA 1)) 0
          ∗ bigSep ((((((ownCells (thr d i)).erase (cell d i (SemArray.sem cc0_scratch3))).erase (cell d i (cA 0))).erase (cell d i (cA 1))).erase
              (cell d i (oA 0))).erase (cell d i (oA 1))) fun g => semVal g 0) := by
  unfold SparseCore.Cfg.ownSems0
  rw [SparseCore.bigSep_erase' (cell_mem d i (SemArray.sem cc0_scratch3) (by decide)),
    SparseCore.bigSep_erase' (Finset.mem_erase.mpr ⟨cell_ne d i (by decide), cell_mem d i (cA 0) (by decide)⟩),
    SparseCore.bigSep_erase' (Finset.mem_erase.mpr ⟨cell_ne d i (by decide), Finset.mem_erase.mpr ⟨cell_ne d i (by decide), cell_mem d i (cA 1) (by decide)⟩⟩),
    SparseCore.bigSep_erase' (Finset.mem_erase.mpr ⟨cell_ne d i (by decide), Finset.mem_erase.mpr ⟨cell_ne d i (by decide), Finset.mem_erase.mpr ⟨cell_ne d i (by decide),
      cell_mem d i (oA 0) (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), cell_mem d i (oA 1) (by decide)⟩⟩⟩⟩)]

theorem ownBufs_V :
    (ownBufs (thr d i) : sProp 𝕄)
      = iprop((∃ f, tabLoc d i ↦{fullShare} f) ∗ (∃ f, codLoc d i ↦{fullShare} f) ∗ (∃ f, obLoc d i ↦{fullShare} f)
          ∗ bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2)
    (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (thr d i).2) (b := (thr d i).2.devRef cc0_scratch2) rfl⟩⟩)]

/-! ## The task -/

/-- What a tile is handed, its part of the output at `f`. -/
def Go (f : Buf (Elt F) (yLoc d)) : sProp 𝕄 := iprop((wLoc d ↦{q} mw) ∗ (cLoc d ↦{q} mc) ∗ (yLoc d ↦[tileSet i]{fullShare} f))
theorem Go_eq (f : Buf (Elt F) (yLoc d)) :
    (Go d i mw mc q f : sProp 𝕄) = iprop((wLoc d ↦{q} mw) ∗ (cLoc d ↦{q} mc) ∗ (yLoc d ↦[tileSet i]{fullShare} f)) := rfl

theorem tile_body (hF : (K (F := F)).Facts) (f : Buf (Elt F) (yLoc d)) (O : CellTallies nD τ sig (HIx 1)) (W : Waits sig (HIx 1)) (hO : ∀ g, O g none = 0) :
    iprop(levAts (K (F := F)).L (K (F := F)).lev ∗ emp ∗ Go d i mw mc q f
        ∗ scopedBufs (thr d i) ∗ scopedSems0 (thr d i) ∗ owes (thr d i) O W)
      ⊢ wp frame (wpE (defs₀ (F := F)) Variants.none (thr d i) none) Set.univ
        (cc0_decode_512 (F := F) i wM (Memref.isWhole_whole _) cM (Memref.isWhole_whole _) yM (Memref.isWhole_whole _)
          tabM (Memref.isWhole_whole _) codM (Memref.isWhole_whole _) obM (Memref.isWhole_whole _) cc0_scratch3 cc0_scratch4 cc0_scratch5)
        fun _ => iprop(Go d i mw mc q (Y mw mc) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d _ _, SparseCore.Cfg.scopedSems0_V (Val := Elt F) d _ _, ownSems0_V d i, ownBufs_V d i]
  iintro ⟨#Hlv, -, HG, ⟨⟨%f0, Ht⟩, ⟨%f1, Hc⟩, ⟨%f2, Ho⟩, Hbufs⟩, ⟨Hs3, Hc0, Hc1, Ho0, Ho1, Hsems⟩, HO⟩
  ihave HG := (Entails.of_eq (Go_eq d i mw mc q f)) $$ HG
  icases HG with ⟨Hw, Hm, HY⟩
  ihave Hmw := ((K (F := F)).mayWaits_none (thr := thr d i) hO) $$ Hlv
  ihave Ht := (tab_in d i f0) $$ Ht
  ihave Hc := (cod_in d i f1) $$ Hc
  icases Hc with ⟨HC0, HC1⟩
  ihave Ho := (ob_in d i f2) $$ Ho
  icases Ho with ⟨HO0, HO1⟩
  ihave HY := (out_in d i f) $$ HY
  ihave Hm := (Transfers.pointsTo_toks_split q 2) $$ Hm
  icases Hm with ⟨Hmd, Hmt⟩
  ihave Hmt := (Entails.of_eq (fin_two (F := F) _)) $$ Hmt
  icases Hmt with ⟨Hm0, Hm1⟩
  iapply (wp_wand_r Idealize.ShloMosaic.frame (wpE (defs₀ (F := F)) Variants.none (thr d i) none) Set.univ)
  isplitl [Hw Ht HC0 HC1 HO0 HO1 Hs3 Hc0 Hc1 Ho0 Ho1 Hm0 Hm1 HY HO]
  · iapply (wp_tile d i mw mc q (Transfers.shareTok q 2) O)
    isplitr; · iexact Hmw
    isplitl [Hw]; · iexact Hw
    isplitl [Ht]; · iexact Ht
    isplitl [HC0 HC1 HO0 HO1 Hs3 Hc0 Hc1 Ho0 Ho1 Hm0 Hm1]
    · iapply (Entails.of_eq (Rest_eq d i mc (Transfers.shareTok q 2)).symm)
      isplitl [HC0 Hm0 Hc0]
      · iapply (Entails.of_eq (CI_eq d i mc (Transfers.shareTok q 2) 0).symm)
        isplitl [HC0]; · iexact HC0
        isplitl [Hm0]; · iexact Hm0
        iexact Hc0
      isplitl [HC1 Hm1 Hc1]
      · iapply (Entails.of_eq (CI_eq d i mc (Transfers.shareTok q 2) 1).symm)
        isplitl [HC1]; · iexact HC1
        isplitl [Hm1]; · iexact Hm1
        iexact Hc1
      isplitl [HO0 Ho0]
      · iapply (Entails.of_eq (OI_eq d i 0).symm)
        isplitl [HO0]; · iexact HO0
        iexact Ho0
      isplitl [HO1 Ho1]
      · iapply (Entails.of_eq (OI_eq d i 1).symm)
        isplitl [HO1]; · iexact HO1
        iexact Ho1
      iexact Hs3
    isplitl [HY]; · iexact HY
    iexists W; iexact HO
  iintro %_ ⟨Hw, Ht, HR, HY, ⟨%W', HO⟩⟩
  ihave HR := (Entails.of_eq (Rest_eq d i mc (Transfers.shareTok q 2))) $$ HR
  icases HR with ⟨HC0, HC1, HO0, HO1, Hs3⟩
  ihave HC0 := (Entails.of_eq (CI_eq d i mc (Transfers.shareTok q 2) 0)) $$ HC0
  icases HC0 with ⟨HC0, Hm0, Hc0⟩
  ihave HC1 := (Entails.of_eq (CI_eq d i mc (Transfers.shareTok q 2) 1)) $$ HC1
  icases HC1 with ⟨HC1, Hm1, Hc1⟩
  ihave HO0 := (Entails.of_eq (OI_eq d i 0)) $$ HO0
  icases HO0 with ⟨HO0, Ho0⟩
  ihave HO1 := (Entails.of_eq (OI_eq d i 1)) $$ HO1
  icases HO1 with ⟨HO1, Ho1⟩
  isplitl [Hw Hmd Hm0 Hm1 HY]
  · iapply (Entails.of_eq (Go_eq d i mw mc q (Y mw mc)).symm)
    isplitl [Hw]; · iexact Hw
    isplitl [Hmd Hm0 Hm1]
    · iapply (Transfers.pointsTo_toks_join q 2)
      isplitl [Hmd]; · iexact Hmd
      iapply (Entails.of_eq (fin_two (F := F) _).symm)
      isplitl [Hm0]; · iexact Hm0
      iexact Hm1
    iapply (out_out d i mw mc)
    iexact HY
  isplitl [Ht HC0 HC1 HO0 HO1 Hbufs]
  · isplitl [Ht]; · iapply (tab_out d i); iexact Ht
    isplitl [HC0 HC1]
    · iapply (cod_out d i)
      isplitl [HC0]; · iexact HC0
      iexact HC1
    isplitl [HO0 HO1]
    · iapply (ob_out d i)
      isplitl [HO0]; · iexact HO0
      iexact HO1
    iexact Hbufs
  isplitl [Hs3 Hc0 Hc1 Ho0 Ho1 Hsems]
  · isplitl [Hs3]; · iexact Hs3
    isplitl [Hc0]; · iexact Hc0
    isplitl [Hc1]; · iexact Hc1
    isplitl [Ho0]; · iexact Ho0
    isplitl [Ho1]; · iexact Ho1
    iexact Hsems
  iexists W'; isplitr
  swap; · iexact HO
  ipureintro; intro p _
  rcases p.2 with _ | n
  · exact .inr (.inl rfl)
  · exact .inr (.inr (congrArg some (Subsingleton.elim n 0)))

end Cert.Proof.DecodeTask
end
-- ==== Proof.DecodeRun.lean ====
/-
  The decode call launched: each of the thirty-two tiles takes a share of both arguments and its part of the output and
  brings them back, the part at what the tile decodes (`Y`); before it the host lays both arguments out, after it the host reshapes the output.
  `run_main` is the whole program's run: the result is `Y` of the laid-out arguments, reshaped, both arguments are as they
  were, and every semaphore is at zero.
-/
module

public import proofs.«01_k».proof.Defs
public import proofs.«01_k».proof.Proof.DecodeTask

@[expose] public section

noncomputable section

namespace Cert.Proof.DecodeRun

open Cert.Decode Cert.Decode.Gen
open Cert.Proof.DecodeInner Cert.Proof.DecodeTile Cert.Proof.DecodeSets Cert.Proof.DecodeTask
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- The share of the arguments tile `s` of core `c` holds. -/
def qT (c : Fin 2) (s : Fin 16) : PosShare TreeShare := Transfers.shareTok (Transfers.shareTok fullShare 2 c) 16 s

abbrev waLoc (d : Dev nD) : Loc nD τ sig := (SparseCore.T d).loc main_arg0
abbrev caLoc (d : Dev nD) : Loc nD τ sig := (SparseCore.T d).loc main_arg1

/-- The words as the host lays them out for the call: (row, word of the code, lane), 128 codes to a row. -/
def Wv (d : Dev nD) : Buf (Elt F) (wLoc d) :=
  transpose S512x2x128 [1, 0, 2] (shapeCast S2x512x128 (m (waLoc d)) shapeCasts_S2x65536_S2x512x128) transposes_S2x512x128_S512x2x128_1_0_2
/-- The codes as the host lays them out for the call. -/
def Cv (d : Dev nD) : Buf (Elt F) (cLoc d) :=
  transpose S512x7x8x128 [0, 2, 1, 3] (shapeCast S512x8x7x128 (m (caLoc d)) shapeCasts_S4096x896_S512x8x7x128) transposes_S512x8x7x128_S512x7x8x128_0_2_1_3
/-- The output as the call leaves it. -/
abbrev YV (d : Dev nD) : Buf (Elt F) (yLoc d) := Y (Wv m d) (Cv m d)
/-- What tile `s` of core `c` is handed, its part of the output at `f`. -/
abbrev GoT (d : Dev nD) (c : Fin 2) (s : Fin 16) (f : Buf (Elt F) (yLoc d)) : sProp 𝕄 := Go d (cd c s) (Wv m d) (Cv m d) (qT c s) f

/-! ## What the handshakes carry -/

def P : (K (F := F)).Pay (nD := nD) (Val := Elt F) (Name := ℕ) (U := UU) where
  st := fun q d c => match q with | 0 => bigSep Finset.univ fun s : Fin 16 => GoT m d (Fin.cast nCore_zero c) s (m (yLoc d))
  dn := fun q d c => match q with | 0 => bigSep Finset.univ fun s : Fin 16 => GoT m d (Fin.cast nCore_zero c) s (YV m d)
  go := fun q d c i => match q with | 0 => GoT m d (Fin.cast nCore_zero c) (Fin.cast nSub_zero i) (m (yLoc d))
  td := fun q d c i => match q with | 0 => GoT m d (Fin.cast nCore_zero c) (Fin.cast nSub_zero i) (YV m d)
  x := fun _ _ => iprop(emp)

instance Go_storable (d : Dev nD) (c : Fin 2) (s : Fin 16) (f : Buf (Elt F) (yLoc d)) : BI.Storable (upEmb : UEmb _ 𝕄) (GoT m d c s f) :=
  (inferInstance : BI.Storable (upEmb : UEmb _ 𝕄) iprop((wLoc d ↦{qT c s} Wv m d) ∗ (cLoc d ↦{qT c s} Cv m d) ∗ (yLoc d ↦[tileSet (cd c s)]{fullShare} f)))

instance P_storable : (P (F := F) m).IsStorable where
  st q d c := match q with
    | 0 => (inferInstance : BI.Storable (upEmb : UEmb _ 𝕄) (bigSep Finset.univ fun s : Fin 16 => GoT m d (Fin.cast nCore_zero c) s (m (yLoc d))))
  dn q d c := match q with
    | 0 => (inferInstance : BI.Storable (upEmb : UEmb _ 𝕄) (bigSep Finset.univ fun s : Fin 16 => GoT m d (Fin.cast nCore_zero c) s (YV m d)))
  go q d c i := match q with
    | 0 => (inferInstance : BI.Storable (upEmb : UEmb _ 𝕄) (GoT m d (Fin.cast nCore_zero c) (Fin.cast nSub_zero i) (m (yLoc d))))
  td q d c i := match q with
    | 0 => (inferInstance : BI.Storable (upEmb : UEmb _ 𝕄) (GoT m d (Fin.cast nCore_zero c) (Fin.cast nSub_zero i) (YV m d)))

/-! ## The obligation -/

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 () = SparseCore.onTile hcore0 hsub0 (fun c s => cc0_decode_512 (F := F) (cd c s)
      (Memref.whole main_v1_scv) (Memref.isWhole_whole _) (Memref.whole main_v3_scv) (Memref.isWhole_whole _) (Memref.whole main_v4_scv) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) ⟨⟩ ((K (F := F)).core 0 c) ((K (F := F)).sub 0 i) from rfl]
  simp only [SparseCore.onTile, hci, and_self, ↓reduceDIte]
  exact tile_body d (cd (Fin.cast nCore_zero c) (Fin.cast nSub_zero i)) (Wv m d) (Cv m d) (qT (Fin.cast nCore_zero c) (Fin.cast nSub_zero i)) hF (m (yLoc d)) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => GoT m d (Fin.cast nCore_zero c) s (m (yLoc d))) ⊢ |={Set.univ}=> iprop(
      (bigSep Finset.univ fun i : Fin ((K (F := F)).nSub 0) => GoT m d (Fin.cast nCore_zero c) (Fin.cast nSub_zero i) (m (yLoc d)))
      ∗ ((bigSep Finset.univ fun i : Fin ((K (F := F)).nSub 0) => GoT m d (Fin.cast nCore_zero c) (Fin.cast nSub_zero i) (YV m d))
          -∗ (bigSep Finset.univ fun s : Fin 16 => GoT m d (Fin.cast nCore_zero c) s (YV m d))))
  rw [bigSep_tasks (F := F) (fun i => GoT m d (Fin.cast nCore_zero c) i (m (yLoc d))),
    bigSep_tasks (F := F) (fun i => GoT m d (Fin.cast nCore_zero c) i (YV m d))]
  iintro H; imodintro
  isplitl [H]; · iexact H
  iintro H
  iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## Shares of an array, and the parts of the output -/

/-- An array whole is a share for every tile and what is left over. -/
def Drops (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)
theorem Drops_eq (ℓ : Loc nD τ sig) (f : Buf (Elt F) ℓ) : (Drops ℓ f : sProp 𝕄) =
  iprop((ℓ ↦{Transfers.shareDrop fullShare 2} f) ∗ bigSep Finset.univ fun c : Fin 2 => ℓ ↦{Transfers.shareDrop (Transfers.shareTok fullShare 2 c) 16} f) := rfl
abbrev Shares (ℓ : Loc nD τ sig) (f : Buf (Elt F) ℓ) : sProp 𝕄 :=
  bigSep Finset.univ fun c : Fin 2 => bigSep Finset.univ fun s : Fin 16 => ℓ ↦{qT c s} f
theorem sharesC (ℓ : Loc nD τ sig) (f : Buf (Elt F) ℓ) : (bigSep Finset.univ fun c : Fin 2 => ℓ ↦{Transfers.shareTok fullShare 2 c} f : sProp 𝕄)
    ⊢ iprop((bigSep Finset.univ fun c : Fin 2 => ℓ ↦{Transfers.shareDrop (Transfers.shareTok fullShare 2 c) 16} f) ∗ Shares ℓ f) := by
  unfold Shares
  rw [← bigSep_sep']
  exact bigSep_mono fun c _ => Transfers.pointsTo_toks_split _ 16
theorem joinC (ℓ : Loc nD τ sig) (f : Buf (Elt F) ℓ) :
    iprop((bigSep Finset.univ fun c : Fin 2 => ℓ ↦{Transfers.shareDrop (Transfers.shareTok fullShare 2 c) 16} f) ∗ Shares ℓ f)
      ⊢ (bigSep Finset.univ fun c : Fin 2 => ℓ ↦{Transfers.shareTok fullShare 2 c} f : sProp 𝕄) := by
  unfold Shares
  rw [← bigSep_sep']
  exact bigSep_mono fun c _ => Transfers.pointsTo_toks_join _ 16
theorem shares (ℓ : Loc nD τ sig) (f : Buf (Elt F) ℓ) : (ℓ ↦{fullShare} f : sProp 𝕄) ⊢ iprop(Drops ℓ f ∗ Shares ℓ f) := by
  iintro H
  ihave H := (Transfers.pointsTo_toks_split fullShare 2) $$ H
  icases H with ⟨Hd, Ht⟩
  ihave Ht := (sharesC ℓ f) $$ Ht
  icases Ht with ⟨Hc, Hs⟩
  isplitl [Hd Hc]
  · iapply (Entails.of_eq (Drops_eq ℓ f).symm)
    isplitl [Hd]; · iexact Hd
    iexact Hc
  iexact Hs
theorem joins (ℓ : Loc nD τ sig) (f : Buf (Elt F) ℓ) : iprop(Drops ℓ f ∗ Shares ℓ f) ⊢ (ℓ ↦{fullShare} f : sProp 𝕄) := by
  iintro ⟨HD, Hs⟩
  ihave HD := (Entails.of_eq (Drops_eq ℓ f)) $$ HD
  icases HD with ⟨Hd, Hc⟩
  iapply (Transfers.pointsTo_toks_join fullShare 2)
  isplitl [Hd]; · iexact Hd
  iapply (joinC ℓ f)
  isplitl [Hc]; · iexact Hc
  iexact Hs

theorem yParts (d : Dev nD) (f : Buf (Elt F) (yLoc d)) : (yLoc d ↦{fullShare} f : sProp 𝕄)
    = bigSep Finset.univ fun c : Fin 2 => bigSep Finset.univ fun s : Fin 16 => yLoc d ↦[tileSet (cd c s)]{fullShare} f := by
  rw [show (yLoc d ↦{fullShare} f : sProp 𝕄) = (yLoc d ↦[Finset.univ.biUnion coreSet]{fullShare} f) by rw [coreSet_cover],
    pointsTo_biUnion (ℓ := yLoc d) Finset.univ coreSet coreSet_disjoint]
  refine bigSep_congr fun c _ => ?_
  unfold coreSet
  rw [pointsTo_biUnion (ℓ := yLoc d) Finset.univ (fun s : Fin 16 => tileSet (cd c s)) (tileSet_disjoint c)]

theorem tiles_eq (d : Dev nD) (f : Buf (Elt F) (yLoc d)) :
    (bigSep Finset.univ fun c : Fin 2 => bigSep Finset.univ fun s : Fin 16 => GoT m d c s f)
      = iprop(Shares (wLoc d) (Wv m d) ∗ Shares (cLoc d) (Cv m d) ∗ (yLoc d ↦{fullShare} f)) := by
  rw [yParts, ← bigSep_sep', ← bigSep_sep']
  refine bigSep_congr fun c _ => ?_
  rw [← bigSep_sep', ← bigSep_sep']
  exact bigSep_congr fun s _ => Go_eq _ _ _ _ _ _

theorem st0_eq (d : Dev nD) : (bigSep Finset.univ fun c : Fin ((K (F := F)).nCore 0) => (P m).st 0 d c)
    = iprop(Shares (wLoc d) (Wv m d) ∗ Shares (cLoc d) (Cv m d) ∗ (yLoc d ↦{fullShare} m (yLoc d))) :=
  (bigSep_cores (F := F) fun c => bigSep Finset.univ fun s : Fin 16 => GoT m d c s (m (yLoc d))).trans (tiles_eq m d _)
theorem dn0_eq (d : Dev nD) : (bigSep Finset.univ fun c : Fin ((K (F := F)).nCore 0) => (P m).dn 0 d c)
    = iprop(Shares (wLoc d) (Wv m d) ∗ Shares (cLoc d) (Cv m d) ∗ (yLoc d ↦{fullShare} YV m d)) :=
  (bigSep_cores (F := F) fun c => bigSep Finset.univ fun s : Fin 16 => GoT m d c s (YV m d)).trans (tiles_eq m d _)

/-! ## @main on the TensorCore -/

abbrev rLoc (d : Dev nD) : Loc nD τ sig := (SparseCore.T d).loc main_v5
abbrev wa' : DevRef τ sig := Proc.devRef .tc (main_arg0 : Ref sig .tc)
abbrev ca' : DevRef τ sig := Proc.devRef .tc (main_arg1 : Ref sig .tc)
abbrev w0' : DevRef τ sig := Proc.devRef .tc (main_v0 : Ref sig .tc)
abbrev w' : DevRef τ sig := Proc.devRef .tc (main_v1 : Ref sig .tc)
abbrev c0' : DevRef τ sig := Proc.devRef .tc (main_v2 : Ref sig .tc)
abbrev c' : DevRef τ sig := Proc.devRef .tc (main_v3 : Ref sig .tc)
abbrev y' : DevRef τ sig := Proc.devRef .tc (main_v4 : Ref sig .tc)
abbrev r' : DevRef τ sig := Proc.devRef .tc (main_v5 : Ref sig .tc)
abbrev opA : HloOp τ sig (Elt F) := StableHlo.reshape main_arg0 main_v0 (rfl : (.i32 : EltTy) = .i32) shapeCasts_S2x65536_S2x512x128
abbrev opB : HloOp τ sig (Elt F) := StableHlo.unary main_v0 main_v1 (transpose S512x2x128 [1, 0, 2] · transposes_S2x512x128_S512x2x128_1_0_2)
abbrev opC : HloOp τ sig (Elt F) := StableHlo.reshape main_arg1 main_v2 (rfl : (.i32 : EltTy) = .i32) shapeCasts_S4096x896_S512x8x7x128
abbrev opE : HloOp τ sig (Elt F) := StableHlo.unary main_v2 main_v3 (transpose S512x7x8x128 [0, 2, 1, 3] · transposes_S512x8x7x128_S512x7x8x128_0_2_1_3)
abbrev opR : HloOp τ sig (Elt F) := StableHlo.reshape main_v4 main_v5 (rfl : (.i32 : EltTy) = .i32) shapeCasts_S448x28x4x2x128_S448x28x8x128
abbrev S8 : Finset (DevRef τ sig) := {wa', ca', w0', w', c0', c', y', r'}
theorem hA : (opA (F := F)).bufs ⊆ S8 := show ({wa', w0'} : Finset (DevRef τ sig)) ⊆ S8 by decide
theorem hB : (opB (F := F)).bufs ⊆ S8 := show ({w0', w'} : Finset (DevRef τ sig)) ⊆ S8 by decide
theorem hC : (opC (F := F)).bufs ⊆ S8 := show ({ca', c0'} : Finset (DevRef τ sig)) ⊆ S8 by decide
theorem hE : (opE (F := F)).bufs ⊆ S8 := show ({c0', c'} : Finset (DevRef τ sig)) ⊆ S8 by decide
theorem hR : (opR (F := F)).bufs ⊆ S8 := show ({y', r'} : Finset (DevRef τ sig)) ⊆ S8 by decide

/-- The program's result. -/
def Rv (d : Dev nD) : Buf (Elt F) (rLoc d) := shapeCast (main_v5 : Ref sig .tc).ty.shape (YV m d) shapeCasts_S448x28x4x2x128_S448x28x8x128

theorem held_S8 (d : Dev nD) (W : Valuation τ sig (Elt F)) :
    (held (T d) S8 W : sProp 𝕄)
      = iprop((waLoc d ↦{fullShare} W wa') ∗ (caLoc d ↦{fullShare} W ca') ∗ ((SparseCore.T d).loc main_v0 ↦{fullShare} W w0') ∗ (wLoc d ↦{fullShare} W w')
          ∗ ((SparseCore.T d).loc main_v2 ↦{fullShare} W c0') ∗ (cLoc d ↦{fullShare} W c') ∗ (yLoc d ↦{fullShare} W y') ∗ rLoc d ↦{fullShare} W r') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((waLoc d ↦{fullShare} W main_arg0) ∗ (caLoc d ↦{fullShare} W main_arg1) ∗ ((SparseCore.T d).loc main_v0 ↦{fullShare} W main_v0) ∗ (wLoc d ↦{fullShare} W main_v1)
          ∗ ((SparseCore.T d).loc main_v2 ↦{fullShare} W main_v2) ∗ (cLoc d ↦{fullShare} W main_v3) ∗ (yLoc d ↦{fullShare} W main_v4) ∗ rLoc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, and the arrays after each of the four layout operations. -/
def V0 (d : Dev nD) : Valuation τ sig (Elt F) := fun b => m (d, b)
def VA (d : Dev nD) : Valuation τ sig (Elt F) := (opA (F := F)).result (V0 m d)
def VB (d : Dev nD) : Valuation τ sig (Elt F) := (opB (F := F)).result (VA m d)
def VC (d : Dev nD) : Valuation τ sig (Elt F) := (opC (F := F)).result (VB m d)
def VE (d : Dev nD) : Valuation τ sig (Elt F) := (opE (F := F)).result (VC m d)
/-- The arrays after the call. -/
def V1 (d : Dev nD) : Valuation τ sig (Elt F) := Function.update (VE m d) y' (YV m d)

theorem unscoped_held (d : Dev nD) : (unscopedBufs d (fun b => m ((SparseCore.T d).loc b)) : sProp 𝕄) = held (T d) S8 (V0 m d) := by
  rw [unscopedBufs_eq, held_S8]; rfl

theorem VA_of (d : Dev nD) {b : DevRef τ sig} (h : b ∉ ({w0'} : Finset (DevRef τ sig))) : VA m d b = m (d, b) := (opA (F := F)).result_of_not_mem _ h
theorem VB_of (d : Dev nD) {b : DevRef τ sig} (h : b ∉ ({w'} : Finset (DevRef τ sig))) : VB m d b = VA m d b := (opB (F := F)).result_of_not_mem _ h
theorem VC_of (d : Dev nD) {b : DevRef τ sig} (h : b ∉ ({c0'} : Finset (DevRef τ sig))) : VC m d b = VB m d b := (opC (F := F)).result_of_not_mem _ h
theorem VE_of (d : Dev nD) {b : DevRef τ sig} (h : b ∉ ({c'} : Finset (DevRef τ sig))) : VE m d b = VC m d b := (opE (F := F)).result_of_not_mem _ h
theorem VE_wa (d : Dev nD) : VE m d wa' = m (waLoc d) :=
  (VE_of m d (by decide)).trans ((VC_of m d (by decide)).trans ((VB_of m d (by decide)).trans (VA_of m d (by decide))))
theorem VE_ca (d : Dev nD) : VE m d ca' = m (caLoc d) :=
  (VE_of m d (by decide)).trans ((VC_of m d (by decide)).trans ((VB_of m d (by decide)).trans (VA_of m d (by decide))))
theorem VE_y (d : Dev nD) : VE m d y' = m (yLoc d) :=
  (VE_of m d (by decide)).trans ((VC_of m d (by decide)).trans ((VB_of m d (by decide)).trans (VA_of m d (by decide))))
theorem VA_w0 (d : Dev nD) : VA m d w0' = shapeCast S2x512x128 (m (waLoc d)) shapeCasts_S2x65536_S2x512x128 := StableHlo.reshape_result' _ _ _ _ _
theorem VE_w (d : Dev nD) : VE m d w' = Wv m d :=
  (VE_of m d (by decide)).trans ((VC_of m d (by decide)).trans ((StableHlo.unary_result' _ _ _ _).trans (by rw [VA_w0]; rfl)))
theorem VB_ca (d : Dev nD) : VB m d ca' = m (caLoc d) := (VB_of m d (by decide)).trans (VA_of m d (by decide))
theorem VC_c0 (d : Dev nD) : VC m d c0' = shapeCast S512x8x7x128 (m (caLoc d)) shapeCasts_S4096x896_S512x8x7x128 :=
  (StableHlo.reshape_result' _ _ _ _ _).trans (by rw [VB_ca]; rfl)
theorem VE_c (d : Dev nD) : VE m d c' = Cv m d := (StableHlo.unary_result' _ _ _ _).trans (by rw [VC_c0]; rfl)
theorem V1_y (d : Dev nD) : V1 m d y' = YV m d := Function.update_self _ _ _
theorem V1_of (d : Dev nD) {b : DevRef τ sig} (h : b ≠ y') : V1 m d b = VE m d b := Function.update_of_ne h _ _

/-- The arrays before the call, by name. -/
theorem held_VE (d : Dev nD) :
    (held (T d) S8 (VE m d) : sProp 𝕄)
      = iprop((waLoc d ↦{fullShare} m (waLoc d)) ∗ (caLoc d ↦{fullShare} m (caLoc d)) ∗ ((SparseCore.T d).loc main_v0 ↦{fullShare} VE m d w0') ∗ (wLoc d ↦{fullShare} Wv m d)
          ∗ ((SparseCore.T d).loc main_v2 ↦{fullShare} VE m d c0') ∗ (cLoc d ↦{fullShare} Cv m d) ∗ (yLoc d ↦{fullShare} m (yLoc d)) ∗ rLoc d ↦{fullShare} VE m d r') := by
  rw [held_S8, VE_wa, VE_ca, VE_w, VE_c, VE_y]
/-- The arrays after the call, by name. -/
theorem held_V1 (d : Dev nD) :
    (held (T d) S8 (V1 m d) : sProp 𝕄)
      = iprop((waLoc d ↦{fullShare} m (waLoc d)) ∗ (caLoc d ↦{fullShare} m (caLoc d)) ∗ ((SparseCore.T d).loc main_v0 ↦{fullShare} VE m d w0') ∗ (wLoc d ↦{fullShare} Wv m d)
          ∗ ((SparseCore.T d).loc main_v2 ↦{fullShare} VE m d c0') ∗ (cLoc d ↦{fullShare} Cv m d) ∗ (yLoc d ↦{fullShare} YV m d) ∗ rLoc d ↦{fullShare} VE m d r') := by
  rw [held_S8, V1_y, V1_of m d (show wa' ≠ y' by decide), V1_of m d (show ca' ≠ y' by decide), V1_of m d (show w0' ≠ y' by decide), V1_of m d (show w' ≠ y' by decide),
    V1_of m d (show c0' ≠ y' by decide), V1_of m d (show c' ≠ y' by decide), V1_of m d (show r' ≠ y' by decide), VE_wa, VE_ca, VE_w, VE_c]
theorem held_V2 (d : Dev nD) :
    (held (T d) S8 ((opR (F := F)).result (V1 m d)) : sProp 𝕄)
      = iprop((waLoc d ↦{fullShare} m (waLoc d)) ∗ (caLoc d ↦{fullShare} m (caLoc d)) ∗ ((SparseCore.T d).loc main_v0 ↦{fullShare} (opR (F := F)).result (V1 m d) w0')
          ∗ (wLoc d ↦{fullShare} (opR (F := F)).result (V1 m d) w') ∗ ((SparseCore.T d).loc main_v2 ↦{fullShare} (opR (F := F)).result (V1 m d) c0')
          ∗ (cLoc d ↦{fullShare} (opR (F := F)).result (V1 m d) c') ∗ (yLoc d ↦{fullShare} (opR (F := F)).result (V1 m d) y') ∗ rLoc d ↦{fullShare} Rv m d) := by
  rw [held_S8, (opR (F := F)).result_of_not_mem (V1 m d) (b := wa') (show wa' ∉ ({r'} : Finset (DevRef τ sig)) by decide), V1_of m d (show wa' ≠ y' by decide), VE_wa,
    (opR (F := F)).result_of_not_mem (V1 m d) (b := ca') (show ca' ∉ ({r'} : Finset (DevRef τ sig)) by decide), V1_of m d (show ca' ≠ y' by decide), VE_ca,
    show (opR (F := F)).result (V1 m d) r' = Rv m d from (StableHlo.reshape_result' _ _ _ _ _).trans (by rw [V1_y]; rfl)]

/-- What @main leaves the claims. -/
abbrev FIN (d : Dev nD) : sProp 𝕄 := iprop((waLoc d ↦{fullShare} m (waLoc d)) ∗ (caLoc d ↦{fullShare} m (caLoc d)) ∗ rLoc d ↦{fullShare} Rv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S8) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := S8) hB (V := (opA (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := S8) hC (V := (opB (F := F)).result ((opA (F := F)).result (V0 m d)))) $$ [Hb Hheld]
  · isplitl [Hb] <;> iassumption
  iintro ⟨Hb, Hheld⟩
  rw [wp_ret]; imodintro
  iapply (wp_hlo_within 𝒱 (SparseCore.T d) none Set.univ (op := opE) (S := S8) hE (V := (opC (F := F)).result ((opB (F := F)).result ((opA (F := F)).result (V0 m d))))) $$ [Hb Hheld]
  · isplitl [Hb] <;> iassumption
  iintro ⟨Hb, Hheld⟩
  rw [wp_ret]; imodintro
  ihave Hh := (Entails.of_eq (show held (T d) S8 ((opE (F := F)).result ((opC (F := F)).result ((opB (F := F)).result ((opA (F := F)).result (V0 m d))))) = _ from held_VE (F := F) m d)) $$ Hheld
  icases Hh with ⟨Hwa, Hca, Hw0, Hw, Hc0, Hc, Hy, Hr⟩
  ihave Hw := (shares (wLoc d) (Wv m d)) $$ Hw
  icases Hw with ⟨HwD, Hw⟩
  ihave Hc := (shares (cLoc d) (Cv m d)) $$ Hc
  icases Hc with ⟨HcD, Hc⟩
  iapply ((K (F := F)).wp_run (D (F := F)) 𝒱 (EH := EH) (P := P m) κ d 0) $$ [Hst Hw Hc Hy Hb HwD HcD Hr Hts Hwa Hca Hw0 Hc0]
  isplitr; · iexact Hctx
  isplitl [Hst]; · iexact Hst
  isplitl [Hw Hc Hy]
  · rw [st0_eq]
    isplitl [Hw]; · iexact Hw
    isplitl [Hc]; · iexact Hc
    iexact Hy
  iintro ⟨Hst, Hdn⟩
  ihave Hdn' := (Entails.of_eq (dn0_eq m d)) $$ Hdn
  icases Hdn' with ⟨Hw, Hc, Hy⟩
  ihave Hw := (joins (wLoc d) (Wv m d)) $$ [HwD Hw]
  · isplitl [HwD] <;> iassumption
  ihave Hc := (joins (cLoc d) (Cv m d)) $$ [HcD Hc]
  · isplitl [HcD] <;> iassumption
  iapply (wp_hlo_within 𝒱 (SparseCore.T d) none Set.univ (op := opR) (S := S8) hR (V := V1 m d)) $$ [Hb Hw Hc Hy Hr Hwa Hca Hw0 Hc0]
  · isplitl [Hb]; · iexact Hb
    iapply (Entails.of_eq (held_V1 (F := F) m d).symm)
    isplitl [Hwa]; · iexact Hwa
    isplitl [Hca]; · iexact Hca
    isplitl [Hw0]; · iexact Hw0
    isplitl [Hw]; · iexact Hw
    isplitl [Hc0]; · iexact Hc0
    isplitl [Hc]; · iexact Hc
    isplitl [Hy]; · iexact Hy
    iexact Hr
  iintro ⟨Hb, Hheld⟩
  ihave Hh := (Entails.of_eq (held_V2 (F := F) m d)) $$ Hheld
  icases Hh with ⟨Hwa, Hca, -, -, -, -, -, Hr⟩
  rw [wp_ret]; imodintro; imodintro
  isplitl [Hst]; · iexact Hst
  isplitr [Hb Hts]
  · isplitl [Hwa]; · iexact Hwa
    isplitl [Hca]; · iexact Hca
    iexact Hr
  isplitl [Hb] <;> iassumption

def fq (d : Dev nD) (s' : Phys nD τ sig (Elt F)) : Prop :=
  s'.mem.mem (rLoc d) = Rv m d ∧ s'.mem.mem (waLoc d) = m (waLoc d) ∧ s'.mem.mem (caLoc d) = m (caLoc d)

theorem hfin (d : Dev nD) (s' : Phys nD τ sig (Elt F)) : iprop(FIN m d ∗ SI s') ⊢ (⌜fq m d s'⌝ : sProp 𝕄) := by
  iintro ⟨⟨Hw, Hc, Hr⟩, HSI⟩
  ihave H := (persistent_entails_right (SI_pointsTo_agree (st := s') (ℓ := waLoc d) (I := Finset.univ) (q := fullShare) (f := m (waLoc d)))) $$ [HSI Hw]
  · isplitl [HSI] <;> iassumption
  icases H with ⟨%hw, HSI, -⟩
  ihave H := (persistent_entails_right (SI_pointsTo_agree (st := s') (ℓ := caLoc d) (I := Finset.univ) (q := fullShare) (f := m (caLoc d)))) $$ [HSI Hc]
  · isplitl [HSI] <;> iassumption
  icases H with ⟨%hc, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => hw i (Finset.mem_univ i), funext fun i => hc i (Finset.mem_univ i)⟩

/-! ## The program's run and the frame -/

def QC : PUnit × MemSt nD τ sig (Elt F) → Prop := fun r =>
  (∀ c : Dev nD, r.2.mem (rLoc c) = Rv m c ∧ r.2.mem (waLoc c) = m (waLoc c) ∧ r.2.mem (caLoc c) = m (caLoc c)) ∧ r.2.sem = fun _ => 0

theorem run_main [∀ e, Nonempty (Elt F e)] : θ_run (Cert.Decode.defs (F := F)) (Cert.Decode.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- `Cert.quiescent_Decode` (Defs.lean). -/
theorem frame : Cert.quiescent_Decode := fun m ρ _ =>
  (θ_run Cert.Decode.defs _ _).mono (fun _ h => ⟨fun c => (h.1 c).2, h.2⟩) (run_main (F := Bits) m ρ)

end Cert.Proof.DecodeRun

end
-- ==== Proof.DecodeValue.lean ====
/-
  What the decode call leaves, element by element: result element (word block `b`, lane group `g`, sublane `r`, lane `l`)
  is word `r % 2` of the code in half `r / 2 % 2` of codes word `2 b + r / 4` of output column `512 + 128 g + l`.
-/
module

public import proofs.«01_k».proof.Proof.DecodeRun
public import Idealize.ShloMosaic.Lib.Pointwise

@[expose] public section

set_option maxRecDepth 16384

noncomputable section

namespace Cert.Proof.DecodeValue

open Cert.Decode Cert.Decode.Gen
open Cert.Proof.DecodeBlock (code code_lt)
open Cert.Proof.DecodeSets Cert.Proof.DecodeRun
open Idealize.ShloMosaic Idealize.SL.Sem

/-- The decoded words of the call's columns, from the codebook's words and the codes. -/
def decoded (mw : (⟨2, ![2, 65536]⟩ : Shape).Idx → BitVec 32) (mc : (⟨2, ![4096, 896]⟩ : Shape).Idx → BitVec 32)
    (b : Fin 448) (g : Fin 28) (r : Fin 8) (l : Fin 128) : BitVec 32 :=
  mw (ix2 ⟨r.val % 2, by omega⟩
    ⟨code (r.val / 2 % 2 == 1) (mc (ix2 ⟨512 + 128 * g.val + l.val, by omega⟩ ⟨2 * b.val + r.val / 4, by omega⟩)), code_lt _ _⟩)

variable (m : (ℓ : Loc nD τ sig) → Buf (Elt Bits) ℓ)

/-- The table the program hands over, element by element. -/
theorem Wv_apply (d : Dev nD) (a : Fin 512) (p : Fin 2) (l : Fin 128) :
    Wv m d (ix3 a p l) = m (waLoc d) (ix2 p ⟨a.val * 128 + l.val, by omega⟩) := by
  pointwise [Wv]

/-- The layout of the codes, element by element. -/
theorem codes_apply {α : Type} (f : (⟨2, ![4096, 896]⟩ : Shape).Idx → α) (h : (⟨2, ![4096, 896]⟩ : Shape).ShapeCasts S512x8x7x128)
    (h' : S512x8x7x128.Transposes [0, 2, 1, 3] S512x7x8x128) (a : Fin 512) (k : Fin 7) (s : Fin 8) (l : Fin 128) :
    transpose S512x7x8x128 [0, 2, 1, 3] (shapeCast S512x8x7x128 f h) h' (ix4 a k s l)
      = f (ix2 ⟨a.val * 8 + s.val, by omega⟩ ⟨k.val * 128 + l.val, by omega⟩) := by
  pointwise []

/-- The codes the program hands over, element by element. -/
theorem Cv_apply (d : Dev nD) (a : Fin 512) (k : Fin 7) (s : Fin 8) (l : Fin 128) :
    Cv m d (ix4 a k s l) = m (caLoc d) (ix2 ⟨a.val * 8 + s.val, by omega⟩ ⟨k.val * 128 + l.val, by omega⟩) :=
  codes_apply (m (caLoc d)) _ _ a k s l

/-- The codes a word of the result is decoded from. -/
theorem cpos_ix (b : Fin 448) (g : Fin 28) (q : Fin 4) (p : Fin 2) (l : Fin 128) :
    cpos (ix5 b g q p l) = ix4 ⟨64 + 16 * g.val + l.val / 8, by omega⟩ ⟨(2 * b.val + q.val / 2) / 128, by omega⟩
      ⟨l.val % 8, by omega⟩ ⟨(2 * b.val + q.val / 2) % 128, by omega⟩ := by
  funext a
  match a with
  | ⟨0, _⟩ => rfl
  | ⟨1, _⟩ => rfl
  | ⟨2, _⟩ => rfl
  | ⟨3, _⟩ => rfl

/-- The word of the table a word of the result is. -/
theorem wpos_ix (c : Nat) (hc : c < 65536) (b : Fin 448) (g : Fin 28) (q : Fin 4) (p : Fin 2) (l : Fin 128) :
    wpos c hc (ix5 b g q p l) = ix3 ⟨c / 128, by omega⟩ p ⟨c % 128, by omega⟩ := by
  funext a
  match a with
  | ⟨0, _⟩ => rfl
  | ⟨1, _⟩ => rfl
  | ⟨2, _⟩ => rfl

/-- The last reshape puts the two words of a code on neighbouring sublanes. -/
theorem last_apply {α : Type} (f : S448x28x4x2x128.Idx → α) (h : S448x28x4x2x128.ShapeCasts S448x28x8x128)
    (b : Fin 448) (g : Fin 28) (r : Fin 8) (l : Fin 128) :
    shapeCast S448x28x8x128 f h (ix4 b g r l) = f (ix5 b g ⟨r.val / 2, by omega⟩ ⟨r.val % 2, by omega⟩ l) := by
  pointwise []

/-- The word of the codes, by the codes' own row and column. -/
theorem Cv_cpos (d : Dev nD) (b : Fin 448) (g : Fin 28) (q : Fin 4) (p : Fin 2) (l : Fin 128) :
    Cv m d (cpos (ix5 b g q p l))
      = m (caLoc d) (ix2 ⟨512 + 128 * g.val + l.val, by omega⟩ ⟨2 * b.val + q.val / 2, by omega⟩) := by
  rw [cpos_ix, Cv_apply]
  refine congrArg (m (caLoc d)) (congrArg₂ ix2 (Fin.ext ?_) (Fin.ext ?_))
  · show (64 + 16 * g.val + l.val / 8) * 8 + l.val % 8 = 512 + 128 * g.val + l.val; omega
  · show (2 * b.val + q.val / 2) / 128 * 128 + (2 * b.val + q.val / 2) % 128 = 2 * b.val + q.val / 2; omega

/-- The table at a code. -/
theorem Wv_wpos (d : Dev nD) (c : Nat) (hc : c < 65536) (b : Fin 448) (g : Fin 28) (q : Fin 4) (p : Fin 2) (l : Fin 128) :
    Wv m d (wpos c hc (ix5 b g q p l)) = m (waLoc d) (ix2 p ⟨c, hc⟩) := by
  rw [wpos_ix, Wv_apply]
  refine congrArg (m (waLoc d)) (congrArg₂ ix2 rfl (Fin.ext ?_))
  show c / 128 * 128 + c % 128 = c; omega

/-- The program's result, element by element. -/
theorem Rv_apply (d : Dev nD) (b : Fin 448) (g : Fin 28) (r : Fin 8) (l : Fin 128) :
    Rv m d (ix4 b g r l) = decoded (m (waLoc d)) (m (caLoc d)) b g r l := by
  refine (last_apply (YV m d) _ b g r l).trans ?_
  have hY : ∀ x, YV m d x
      = Wv m d (wpos (code ((x 2).val % 2 == 1) (Cv m d (cpos x))) (code_lt _ _) x) := fun _ => rfl
  rw [hY, Wv_wpos]
  unfold decoded
  refine congrArg (m (waLoc d)) (congrArg₂ ix2 rfl (Fin.ext ?_))
  show code (r.val / 2 % 2 == 1) (Cv m d (cpos _)) = _
  rw [Cv_cpos]
  refine congrArg (code _) (congrArg (m (caLoc d)) (congrArg₂ ix2 rfl (Fin.ext ?_)))
  show 2 * b.val + r.val / 2 / 2 = 2 * b.val + r.val / 4
  omega

end Cert.Proof.DecodeValue

end
-- ==== Proof.DecodeRef.lean ====
/-
  The reference of the decode call, element by element: it looks the two codes of every word up in the codebook's
  rows and lays the words found out as the call does.
-/
module

public import proofs.«01_k».proof.Proof.Gen.DecodeReference
public import proofs.«01_k».proof.Proof.DecodeValue
public import Idealize.ShloMosaic.Lib.Claim
public import Idealize.ShloMosaic.Lib.Pointwise
public import Idealize.ShloMosaic.Lib.ValueIdxCore

@[expose] public section

set_option maxRecDepth 16384

noncomputable section

namespace Cert.Proof.DecodeRef

open Cert.DecodeReference Cert.DecodeReference.Facts₀
open Cert.Proof.DecodeBlock (code code_lt)
open Idealize.ShloMosaic Idealize.SL.Sem

variable [Cert.DecodeReference.Facts]

/-- The codes' words of the call's columns. -/
def cw (mc : S4096x896.Idx → BitVec 32) : IVec S3584x896 32 :=
  extractStridedSlice S3584x896 ![512, 0] mc slices_S4096x896_S3584x896_512_0
/-- The low code of every word, and the high one. -/
def lo (w : IVec S3584x896 32) : IVec S3584x896 32 :=
  andi w (broadcastInDim S3584x896 ![] bcast_S_S3584x896 (constantI S_ 32 65535#32))
def hi (w : IVec S3584x896 32) : IVec S3584x896 32 :=
  andi (Host.shrui w (broadcastInDim S3584x896 ![] bcast_S_S3584x896 (constantI S_ 32 16#32)))
    (broadcastInDim S3584x896 ![] bcast_S_S3584x896 (constantI S_ 32 65535#32))
/-- Both, along a third axis. -/
def both (w : IVec S3584x896 32) : IVec S3584x896x2 32 :=
  concatenate S3584x896x2 2
    [⟨S3584x896x1, broadcastInDim S3584x896x1 ![0, 1] bcast_S3584x896_S3584x896x1_0_1 (lo w)⟩,
     ⟨S3584x896x1, broadcastInDim S3584x896x1 ![0, 1] bcast_S3584x896_S3584x896x1_0_1 (hi w)⟩]
    concatenates_S3584x896x1_S3584x896x1_S3584x896x2_d2
/-- Indices as the lookup takes them: a negative one counts from the end. -/
def wrapped (x : IVec S3584x896x2 32) : IVec S3584x896x2x1 32 :=
  broadcastInDim S3584x896x2x1 ![0, 1, 2] bcast_S3584x896x2_S3584x896x2x1_0_1_2
    (select (cmpi .slt x (broadcastInDim S3584x896x2 ![] bcast_S_S3584x896x2 (constantI S_ 32 0#32)))
      (addi x (broadcastInDim S3584x896x2 ![] bcast_S_S3584x896x2 (constantI S_ 32 65536#32))) x)
/-- The codebook's rows at the indices. -/
def rows (mw : S2x65536.Idx → BitVec 32) (x : IVec S3584x896x2x1 32) : S3584x896x2x2.Idx → BitVec 32 :=
  Host.gather gather_S65536x2_S3584x896x2x1_S3584x896x2x2_3_0_n_n_0_3_12
    (transpose S65536x2 [1, 0] mw transposes_S2x65536_S65536x2_1_0) x
/-- The rows found, laid out as the call lays them out. -/
def laid (y : S3584x896x2x2.Idx → BitVec 32) : S448x28x8x128.Idx → BitVec 32 :=
  transpose S448x28x8x128 [0, 2, 1, 3]
    (shapeCast S448x8x28x128
      (transpose S3584x3584 [1, 0] (shapeCast S3584x3584 y shapeCasts_S3584x896x2x2_S3584x3584)
        transposes_S3584x3584_S3584x3584_1_0)
      shapeCasts_S3584x3584_S448x8x28x128)
    transposes_S448x8x28x128_S448x28x8x128_0_2_1_3
/-- The reference's result. -/
def ref (mw : S2x65536.Idx → BitVec 32) (mc : S4096x896.Idx → BitVec 32) : S448x28x8x128.Idx → BitVec 32 :=
  laid (rows mw (wrapped (both (cw mc))))

theorem cw_apply (mc : S4096x896.Idx → BitVec 32) (n : Fin 3584) (j : Fin 896) :
    cw mc (ix2 n j) = mc (ix2 ⟨512 + n.val, by omega⟩ j) := by
  pointwise [cw]

theorem ofNat_toNat (c : Nat) (hc : c < 65536) : (BitVec.ofNat 32 c).toNat = c := by
  rw [BitVec.toNat_ofNat, Nat.mod_eq_of_lt (by omega)]

theorem lo_apply (w : IVec S3584x896 32) (n : Fin 3584) (j : Fin 896) :
    lo w (ix2 n j) = BitVec.ofNat 32 (code false (w (ix2 n j))) := by
  have h : lo w (ix2 n j) = w (ix2 n j) &&& 65535#32 := by
    pointwise [lo]
    rfl
  rw [h]
  apply BitVec.eq_of_toNat_eq
  rw [ofNat_toNat _ (code_lt _ _), BitVec.toNat_and]
  exact Nat.and_two_pow_sub_one_eq_mod _ 16

theorem hi_apply (w : IVec S3584x896 32) (n : Fin 3584) (j : Fin 896) :
    hi w (ix2 n j) = BitVec.ofNat 32 (code true (w (ix2 n j))) := by
  have h : hi w (ix2 n j) = (w (ix2 n j) >>> 16) &&& 65535#32 := by
    pointwise [hi]
    rfl
  rw [h]
  apply BitVec.eq_of_toNat_eq
  rw [ofNat_toNat _ (code_lt _ _), BitVec.toNat_and]
  refine (Nat.and_two_pow_sub_one_eq_mod _ 16).trans ?_
  rw [BitVec.toNat_ushiftRight, Nat.shiftRight_eq_div_pow]
  have := (w (ix2 n j)).isLt
  show (w (ix2 n j)).toNat / 65536 % 65536 = (w (ix2 n j)).toNat / 65536
  omega

theorem both_apply (w : IVec S3584x896 32) (n : Fin 3584) (j : Fin 896) (h : Fin 2) :
    both w (ix3 n j h) = BitVec.ofNat 32 (code (h.val == 1) (w (ix2 n j))) := by
  have e : both w (ix3 n j h) = if h.val < 1 then lo w (ix2 n j) else hi w (ix2 n j) := by
    pointwise [both]
    rfl
  rw [e, lo_apply, hi_apply]
  match h with
  | ⟨0, _⟩ => rfl
  | ⟨1, _⟩ => rfl

theorem wrapped_apply (x : IVec S3584x896x2 32) (n : Fin 3584) (j : Fin 896) (h : Fin 2) (c : Nat) (hc : c < 65536)
    (hx : x (ix3 n j h) = BitVec.ofNat 32 c) : wrapped x (ix4 n j h (0 : Fin 1)) = BitVec.ofNat 32 c := by
  have h : wrapped x (ix4 n j h (0 : Fin 1))
      = Scalar.select (IntOp.cmpi .slt (x (ix3 n j h)) 0#32) (IntOp.addi (x (ix3 n j h)) 65536#32) (x (ix3 n j h)) := by
    pointwise [wrapped]
  have hn : IntOp.cmpi .slt (BitVec.ofNat 32 c) 0#32 = 0#1 := by
    have : (BitVec.ofNat 32 c).slt 0#32 = false := by
      rw [BitVec.slt_eq_decide, BitVec.toInt_eq_toNat_of_lt (by rw [ofNat_toNat c hc]; omega), ofNat_toNat c hc]
      exact decide_eq_false (by show ¬ ((c : Int) < 0); omega)
    show BitVec.ofBool ((BitVec.ofNat 32 c).slt 0#32) = 0#1
    rw [this]; rfl
  rw [h, hx, hn]
  rfl

theorem rows_apply (mw : S2x65536.Idx → BitVec 32) (x : IVec S3584x896x2x1 32) (n : Fin 3584) (j : Fin 896) (h p : Fin 2)
    (c : Nat) (hc : c < 65536) (hx : x (ix4 n j h (0 : Fin 1)) = BitVec.ofNat 32 c) :
    rows mw x (ix4 n j h p) = mw (ix2 p ⟨c, hc⟩) := by
  have ht : transpose S65536x2 [1, 0] mw transposes_S2x65536_S65536x2_1_0 (ix2 (⟨c, hc⟩ : Fin 65536) p) = mw (ix2 p ⟨c, hc⟩) := by
    pointwise []
  rw [← ht]
  unfold rows Host.gather
  refine congrArg _ (funext fun a => Fin.ext ?_)
  let D : GatherDims S65536x2 S3584x896x2x1 S3584x896x2x2 := gather_S65536x2_S3584x896x2x1_S3584x896x2x2_3_0_n_n_0_3_12
  show D.start (ix4 n j h p) x a + D.batchCoord (ix4 n j h p) a + D.offCoord (ix4 n j h p) a = _
  rw [GatherDims.batchCoord_eq_zero _ _ _ (show a ∉ D.operandBatchingDims from List.not_mem_nil)]
  match a with
  | ⟨0, _⟩ =>
    have hk : (0 : Fin 2) ∉ D.sKept := fun e => ((D.mem_sKept _).mp e).1 (List.mem_singleton.mpr rfl)
    show D.start (ix4 n j h p) x 0 + 0 + D.offCoord (ix4 n j h p) 0 = c
    rw [D.offCoord_eq_zero _ _ hk]
    unfold GatherDims.start
    have hm : (0 : Fin 2) ∈ D.startIndexMap := List.mem_singleton.mpr rfl
    rw [dif_pos hm]
    have hsi : D.siIdx (ix4 n j h p) ⟨List.idxOf (0 : Fin 2) D.startIndexMap, List.idxOf_lt_length_iff.2 hm⟩
        = ix4 n j h (0 : Fin 1) := by
      funext b; refine Fin.ext ?_
      match b with
      | ⟨0, _⟩ => rfl
      | ⟨1, _⟩ => rfl
      | ⟨2, _⟩ => rfl
      | ⟨3, _⟩ => rfl
    rw [hsi, hx]
    have hi : (BitVec.ofNat 32 c).toInt = c := by
      rw [BitVec.toInt_eq_toNat_of_lt (by rw [BitVec.toNat_ofNat]; omega), BitVec.toNat_ofNat,
        Nat.mod_eq_of_lt (by omega)]
    rw [hi]
    show min ((c : Int)).toNat (65536 - 1) + 0 + 0 = c
    omega
  | ⟨1, _⟩ =>
    have hm : (1 : Fin 2) ∉ D.startIndexMap := fun e => absurd (List.mem_singleton.mp e) (by decide)
    have hk : (1 : Fin 2) ∈ D.sKept :=
      (D.mem_sKept _).mpr ⟨fun e => absurd (List.mem_singleton.mp e) (by decide), List.not_mem_nil⟩
    show D.start (ix4 n j h p) x 1 + 0 + D.offCoord (ix4 n j h p) 1 = p.val
    unfold GatherDims.start GatherDims.offCoord
    rw [dif_neg hm, dif_pos hk, Nat.zero_add]
    rfl

theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  rw [Fin.ext ha, Fin.ext hb, Fin.ext hc, Fin.ext hd]

theorem laid_apply (y : S3584x896x2x2.Idx → BitVec 32) (b : Fin 448) (g : Fin 28) (r : Fin 8) (l : Fin 128) :
    laid y (ix4 b g r l) = y (ix4 ⟨128 * g.val + l.val, by omega⟩ ⟨2 * b.val + r.val / 4, by omega⟩
      ⟨r.val / 2 % 2, by omega⟩ ⟨r.val % 2, by omega⟩) := by
  pointwise [laid]
  refine congrArg y (ix4_congr ?_ ?_ ?_ ?_) <;> dsimp only <;> omega

/-- The reference's result, element by element. -/
theorem ref_apply (mw : S2x65536.Idx → BitVec 32) (mc : S4096x896.Idx → BitVec 32)
    (b : Fin 448) (g : Fin 28) (r : Fin 8) (l : Fin 128) :
    ref mw mc (ix4 b g r l) = DecodeValue.decoded mw mc b g r l := by
  unfold ref
  rw [laid_apply, rows_apply mw _ _ _ _ _ _ (code_lt _ _) (wrapped_apply _ _ _ _ _ (code_lt _ _) (both_apply _ _ _ _)), cw_apply]
  refine congrArg mw (congrArg₂ ix2 rfl (Fin.ext ?_))
  show code (r.val / 2 % 2 == 1) (mc (ix2 ⟨512 + (128 * g.val + l.val), _⟩ _)) = code _ (mc (ix2 ⟨512 + 128 * g.val + l.val, _⟩ _))
  refine congrArg (code _) (congrArg mc (congrArg₂ ix2 (Fin.ext ?_) rfl))
  exact (Nat.add_assoc _ _ _).symm

/-- Every index of the result is four coordinates. -/
theorem ref_eq (mw : S2x65536.Idx → BitVec 32) (mc : S4096x896.Idx → BitVec 32) (x : S448x28x8x128.Idx → BitVec 32)
    (hx : ∀ b g r l, x (ix4 b g r l) = DecodeValue.decoded mw mc b g r l) : ref mw mc = x := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (ref_apply mw mc _ _ _ _).trans (hx _ _ _ _).symm

end Cert.Proof.DecodeRef

end
-- ==== Proof.DecodeEqual.lean ====
/-
  The decode call and its reference leave the same words, bit for bit. The reference is a straight line of array
  operations (`ops`); its run ends with `DecodeRef.ref` of its two arguments, which is, element by element, what the
  call ends with.
-/
module

public import proofs.«01_k».proof.Defs
public import proofs.«01_k».proof.Proof.Gen.Decode
public import proofs.«01_k».proof.Proof.DecodeRef

@[expose] public section

set_option maxRecDepth 16384

noncomputable section

namespace Cert.Proof.DecodeEqual

open Cert.DecodeReference
open Idealize.ShloMosaic Idealize.SL.Sem

instance : Cert.Decode.Facts := Cert.Decode.Gen.facts
instance : Cert.DecodeReference.Facts := Cert.DecodeReference.Gen.facts
variable (m : (ℓ : Loc nD τ sig) → Buf (Elt Bits) ℓ) (ρ : Dev nD → PrngReg)
open Cert.DecodeReference.Facts₀

/-- The reference's operations, in order. -/
def ops : List (HloOp τ sig (Elt Bits)) :=
  [StableHlo.unary main_arg1 main_v0 ((extractStridedSlice S3584x896 ![512, 0] · slices_S4096x896_S3584x896_512_0) : (⟨S4096x896, .i32⟩ : BufTy).Contents (Elt Bits) → (⟨S3584x896, .i32⟩ : BufTy).Contents (Elt Bits)),
   StableHlo.nullary main_c (constantI S_ 32 65535#32),
   StableHlo.unary main_c main_v1 (broadcastInDim S3584x896 ![] bcast_S_S3584x896 : (⟨S_, .i32⟩ : BufTy).Contents (Elt Bits) → (⟨S3584x896, .i32⟩ : BufTy).Contents (Elt Bits)),
   StableHlo.binary main_v0 main_v1 main_v2 (andi : (⟨S3584x896, .i32⟩ : BufTy).Contents (Elt Bits) → (⟨S3584x896, .i32⟩ : BufTy).Contents (Elt Bits) → (⟨S3584x896, .i32⟩ : BufTy).Contents (Elt Bits)),
   StableHlo.nullary main_c_0 (constantI S_ 32 16#32),
   StableHlo.unary main_c_0 main_v3 (broadcastInDim S3584x896 ![] bcast_S_S3584x896 : (⟨S_, .i32⟩ : BufTy).Contents (Elt Bits) → (⟨S3584x896, .i32⟩ : BufTy).Contents (Elt Bits)),
   StableHlo.binary main_v0 main_v3 main_v4 (Host.shrui : (⟨S3584x896, .i32⟩ : BufTy).Contents (Elt Bits) → (⟨S3584x896, .i32⟩ : BufTy).Contents (Elt Bits) → (⟨S3584x896, .i32⟩ : BufTy).Contents (Elt Bits)),
   StableHlo.nullary main_c_1 (constantI S_ 32 65535#32),
   StableHlo.unary main_c_1 main_v5 (broadcastInDim S3584x896 ![] bcast_S_S3584x896 : (⟨S_, .i32⟩ : BufTy).Contents (Elt Bits) → (⟨S3584x896, .i32⟩ : BufTy).Contents (Elt Bits)),
   StableHlo.binary main_v4 main_v5 main_v6 (andi : (⟨S3584x896, .i32⟩ : BufTy).Contents (Elt Bits) → (⟨S3584x896, .i32⟩ : BufTy).Contents (Elt Bits) → (⟨S3584x896, .i32⟩ : BufTy).Contents (Elt Bits)),
   StableHlo.unary main_v2 main_v7 (broadcastInDim S3584x896x1 ![0, 1] bcast_S3584x896_S3584x896x1_0_1 : (⟨S3584x896, .i32⟩ : BufTy).Contents (Elt Bits) → (⟨S3584x896x1, .i32⟩ : BufTy).Contents (Elt Bits)),
   StableHlo.unary main_v6 main_v8 (broadcastInDim S3584x896x1 ![0, 1] bcast_S3584x896_S3584x896x1_0_1 : (⟨S3584x896, .i32⟩ : BufTy).Contents (Elt Bits) → (⟨S3584x896x1, .i32⟩ : BufTy).Contents (Elt Bits)),
   StableHlo.binary main_v7 main_v8 main_v9 ((fun a b => concatenate S3584x896x2 2 [⟨S3584x896x1, a⟩, ⟨S3584x896x1, b⟩] concatenates_S3584x896x1_S3584x896x1_S3584x896x2_d2) : (⟨S3584x896x1, .i32⟩ : BufTy).Contents (Elt Bits) → (⟨S3584x896x1, .i32⟩ : BufTy).Contents (Elt Bits) → (⟨S3584x896x2, .i32⟩ : BufTy).Contents (Elt Bits)),
   StableHlo.unary main_arg0 main_v10 ((transpose S65536x2 [1, 0] · transposes_S2x65536_S65536x2_1_0) : (⟨S2x65536, .i32⟩ : BufTy).Contents (Elt Bits) → (⟨S65536x2, .i32⟩ : BufTy).Contents (Elt Bits)),
   StableHlo.nullary main_c_2 (constantI S_ 32 0#32),
   StableHlo.unary main_c_2 main_v11 (broadcastInDim S3584x896x2 ![] bcast_S_S3584x896x2 : (⟨S_, .i32⟩ : BufTy).Contents (Elt Bits) → (⟨S3584x896x2, .i32⟩ : BufTy).Contents (Elt Bits)),
   StableHlo.binary main_v9 main_v11 main_v12 (cmpi .slt : (⟨S3584x896x2, .i32⟩ : BufTy).Contents (Elt Bits) → (⟨S3584x896x2, .i32⟩ : BufTy).Contents (Elt Bits) → (⟨S3584x896x2, .i1⟩ : BufTy).Contents (Elt Bits)),
   StableHlo.nullary main_c_3 (constantI S_ 32 65536#32),
   StableHlo.unary main_c_3 main_v13 (broadcastInDim S3584x896x2 ![] bcast_S_S3584x896x2 : (⟨S_, .i32⟩ : BufTy).Contents (Elt Bits) → (⟨S3584x896x2, .i32⟩ : BufTy).Contents (Elt Bits)),
   StableHlo.binary main_v9 main_v13 main_v14 (addi : (⟨S3584x896x2, .i32⟩ : BufTy).Contents (Elt Bits) → (⟨S3584x896x2, .i32⟩ : BufTy).Contents (Elt Bits) → (⟨S3584x896x2, .i32⟩ : BufTy).Contents (Elt Bits)),
   StableHlo.ternary main_v12 main_v14 main_v9 main_v15 (select : (⟨S3584x896x2, .i1⟩ : BufTy).Contents (Elt Bits) → (⟨S3584x896x2, .i32⟩ : BufTy).Contents (Elt Bits) → (⟨S3584x896x2, .i32⟩ : BufTy).Contents (Elt Bits) → (⟨S3584x896x2, .i32⟩ : BufTy).Contents (Elt Bits)),
   StableHlo.unary main_v15 main_v16 (broadcastInDim S3584x896x2x1 ![0, 1, 2] bcast_S3584x896x2_S3584x896x2x1_0_1_2 : (⟨S3584x896x2, .i32⟩ : BufTy).Contents (Elt Bits) → (⟨S3584x896x2x1, .i32⟩ : BufTy).Contents (Elt Bits)),
   StableHlo.binary main_v10 main_v16 main_v17 ((fun x i => Host.gather gather_S65536x2_S3584x896x2x1_S3584x896x2x2_3_0_n_n_0_3_12 x i) : (⟨S65536x2, .i32⟩ : BufTy).Contents (Elt Bits) → (⟨S3584x896x2x1, .i32⟩ : BufTy).Contents (Elt Bits) → (⟨S3584x896x2x2, .i32⟩ : BufTy).Contents (Elt Bits)),
   StableHlo.reshape main_v17 main_v18 (rfl : (.i32 : EltTy) = .i32) shapeCasts_S3584x896x2x2_S3584x3584,
   StableHlo.unary main_v18 main_v19 ((transpose S3584x3584 [1, 0] · transposes_S3584x3584_S3584x3584_1_0) : (⟨S3584x3584, .i32⟩ : BufTy).Contents (Elt Bits) → (⟨S3584x3584, .i32⟩ : BufTy).Contents (Elt Bits)),
   StableHlo.reshape main_v19 main_v20 (rfl : (.i32 : EltTy) = .i32) shapeCasts_S3584x3584_S448x8x28x128,
   StableHlo.unary main_v20 main_v21 ((transpose S448x28x8x128 [0, 2, 1, 3] · transposes_S448x8x28x128_S448x28x8x128_0_2_1_3) : (⟨S448x8x28x128, .i32⟩ : BufTy).Contents (Elt Bits) → (⟨S448x28x8x128, .i32⟩ : BufTy).Contents (Elt Bits))]

/-- The reference is these operations, scopes nothing and has no semaphore. -/
theorem main_seq (d : Dev nD) : StableHlo.IsSeq (main (F := Bits) d) ops := by
  unfold ops
  hlo_seq
theorem no_scoped : (Finset.univ.filter fun b : Ref sig .tc => b.isScoped) = ∅ := by decide
theorem no_sems : (Finset.univ.filter fun sm : SemLoc sig => sm.isScoped .tc) = ∅ := by decide
theorem no_sem : sig.nSem + sig.nDmaSem = 0 := rfl
theorem ops_bufs : ops.Forall fun op => op.bufs ⊆ StableHlo.tcRefs τ sig := by
  unfold ops
  simp
theorem ops_fresh : ∀ op ∈ ops, op.fresh = ∅ := by
  intro _ h
  unfold ops at h
  (repeat (cases h with | head => rfl | tail _ h => ?_)); exact nomatch h

/-- The operations keep the arguments. -/
theorem kept0 (V : Valuation τ sig (Elt Bits)) : StableHlo.after ops V (Proc.devRef .tc main_arg0) = V (Proc.devRef .tc main_arg0) := by
  unfold ops
  after_results
theorem kept1 (V : Valuation τ sig (Elt Bits)) : StableHlo.after ops V (Proc.devRef .tc main_arg1) = V (Proc.devRef .tc main_arg1) := by
  unfold ops
  after_results

/-- What the operations leave in the result. -/
theorem result (V : Valuation τ sig (Elt Bits)) : StableHlo.after ops V (Proc.devRef .tc main_v21)
    = DecodeRef.ref (V (Proc.devRef .tc main_arg0)) (V (Proc.devRef .tc main_arg1)) := by
  unfold ops
  after_results
  rfl

/-- The reference's run. -/
theorem run : θ_run (defs (F := Bits)) (onTc (τ := τ) (main (F := Bits))) ⟨m, fun _ => 0, ρ⟩ fun r =>
    ∀ (d : Dev nD) (b : Ref sig .tc), r.2.mem ((d.tc : Thread nD τ).loc b)
      = StableHlo.after ops (StableHlo.launchContents m d) (Proc.devRef .tc b) :=
  StableHlo.run_hlo _ _ main_seq no_scoped no_sems ops_bufs ops_fresh m ρ

/-- The reference ends with its arguments kept. -/
theorem frame_reference : Cert.quiescent_DecodeReference := fun m g _ =>
  θ_run_mono (run m g) fun r hr =>
    ⟨fun c => ⟨(hr c main_arg0).trans (kept0 _), (hr c main_arg1).trans (kept1 _)⟩, sem_eq_zero_of_no_sems no_sem r.2⟩

/-- From memories agreeing on the codebook and the codes, the call and the reference leave the same words. -/
theorem bitexact : Cert.bitexact_Decode_DecodeReference := by
  intro m g m' g' _ hargs
  refine ⟨fun c => DecodeRun.Rv m c, θ_run_mono (DecodeRun.run_main m g) fun r h => h.1, ?_⟩
  refine θ_run_mono (run m' g') fun r hr c =>
    ⟨((hr c main_v21).trans (result _)).trans ?_, (hr c main_arg0).trans (kept0 _), (hr c main_arg1).trans (kept1 _)⟩
  have e0 := (hargs c).1
  have e1 := (hargs c).2
  refine DecodeRef.ref_eq _ _ _ fun b g r l => (DecodeValue.Rv_apply m c b g r l).trans ?_
  exact congrArg₂ (fun w k => DecodeValue.decoded w k b g r l) e0.symm e1.symm

end Cert.Proof.DecodeEqual

end
-- ==== Proof.lean ====
/-
  The proof of `Cert.Claim` (proofs.«01_k».proof.Defs): the frames of the kernel, of the call that reads the codebook
  as words, of the two decode calls, of the kernel and the reference over the reals and of the three calls' references; the
  kernel over the reals is the kernel's own text; over the reals kernel and reference leave the same array; and the codebook's
  call and each decode call leave, bit for bit, their references' words.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Codebook
public import proofs.«01_k».proof.Proof.Gen.Codebook.Skeleton
public import proofs.«01_k».proof.Proof.Gen.Codebook.Launch
public import proofs.«01_k».proof.Proof.Gen.Codebook.Points
public import proofs.«01_k».proof.Proof.Gen.Codebook.Frame
public import proofs.«01_k».proof.Proof.Gen.CodebookReference
public import proofs.«01_k».proof.Proof.Gen.Decode
public import proofs.«01_k».proof.Proof.Gen.Decode.Skeleton
public import proofs.«01_k».proof.Proof.Gen.Decode0
public import proofs.«01_k».proof.Proof.Gen.Decode0.Skeleton
public import proofs.«01_k».proof.Proof.Gen.DecodeReference
public import proofs.«01_k».proof.Proof.Gen.Decode0Reference
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.ReferenceValue
public import proofs.«01_k».proof.Proof.CodebookEqual
public import proofs.«01_k».proof.Proof.Decode0Equal
public import proofs.«01_k».proof.Proof.DecodeEqual
public import Idealize.ShloMosaic.Adequacy
public import Idealize.ShloMosaic.Init

@[expose] public section

noncomputable section

namespace Cert.Proof

open Idealize.ShloMosaic Idealize.SL.Sem Cert.Kernel

/-- Over the reals, kernel and reference leave the same array: each one's is `Words.result` of its arguments, and the
    arguments agree. -/
theorem algebraic : algebraic_KernelIdeal_ReferenceIdeal := by
  intro m g m' g' _ hargs
  refine ⟨fun c => Words.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Value.run m g, ?_⟩
  refine (θ_run _ _ _).mono (fun r h c => ⟨(h c).1.trans ?_, (h c).2⟩) (Cert.ReferenceIdeal.Value.run_blocks m' g')
  obtain ⟨a0, a1, a2, a3⟩ := hargs c
  exact (Cert.ReferenceIdeal.Value.arr3 m' c).trans (Words.result_congr a0 a1 a2 a3)

/-- The fourteen claims. -/
theorem claim : Cert.Claim := ⟨Cert.Kernel.Gen.facts, Cert.Codebook.Gen.facts, Cert.Decode0.Gen.facts, Cert.Decode.Gen.facts,
  Cert.KernelIdeal.Gen.facts, Cert.ReferenceIdeal.Gen.facts, Cert.CodebookReference.Gen.facts, Cert.Decode0Reference.Gen.facts,
  Cert.DecodeReference.Gen.facts, fun m ρ _ => Cert.Kernel.Gen.frame m ρ, fun m ρ _ => Cert.Codebook.Gen.frame m ρ,
  Decode0Run.frame, DecodeRun.frame, fun m ρ _ => Cert.KernelIdeal.Gen.frame m ρ, fun m ρ _ => Cert.ReferenceIdeal.Gen.frame m ρ,
  CodebookEqual.frame_reference, Decode0Equal.frame_reference, DecodeEqual.frame_reference, trivial, algebraic,
  CodebookEqual.bitexact, Decode0Equal.bitexact, DecodeEqual.bitexact⟩

end Cert.Proof

end
